-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradReferenceIdeal (m : (ℓ : Loc Cert.ActGradReferenceIdeal.nD Cert.ActGradReferenceIdeal.τ Cert.ActGradReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradReferenceIdeal (m : (ℓ : Loc Cert.NormGradReferenceIdeal.nD Cert.NormGradReferenceIdeal.τ Cert.NormGradReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_OutWeightGrad (m : (ℓ : Loc Cert.OutWeightGrad.nD Cert.OutWeightGrad.τ Cert.OutWeightGrad.sig) → Buf (Elt Bits) ℓ) : Prop :=
  True

def Pre_OutWeightGradIdeal (m : (ℓ : Loc Cert.OutWeightGradIdeal.nD Cert.OutWeightGradIdeal.τ Cert.OutWeightGradIdeal.sig) → Buf (Elt Ideal) ℓ) : Prop :=
  True

def Pre_OutWeightGradReferenceIdeal (m : (ℓ : Loc Cert.OutWeightGradReferenceIdeal.nD Cert.OutWeightGradReferenceIdeal.τ Cert.OutWeightGradReferenceIdeal.sig) → Buf (Elt Ideal) ℓ) : Prop :=
  True

def Pre_InWeightGrad1 (m : (ℓ : Loc Cert.InWeightGrad1.nD Cert.InWeightGrad1.τ Cert.InWeightGrad1.sig) → Buf (Elt Bits) ℓ) : Prop :=
  True

def Pre_InWeightGrad1Ideal (m : (ℓ : Loc Cert.InWeightGrad1Ideal.nD Cert.InWeightGrad1Ideal.τ Cert.InWeightGrad1Ideal.sig) → Buf (Elt Ideal) ℓ) : Prop :=
  True

def Pre_InWeightGrad1ReferenceIdeal (m : (ℓ : Loc Cert.InWeightGrad1ReferenceIdeal.nD Cert.InWeightGrad1ReferenceIdeal.τ Cert.InWeightGrad1ReferenceIdeal.sig) → Buf (Elt Ideal) ℓ) : Prop :=
  True

def Pre_InWeightGrad0 (m : (ℓ : Loc Cert.InWeightGrad0.nD Cert.InWeightGrad0.τ Cert.InWeightGrad0.sig) → Buf (Elt Bits) ℓ) : Prop :=
  True

def Pre_InWeightGrad0Ideal (m : (ℓ : Loc Cert.InWeightGrad0Ideal.nD Cert.InWeightGrad0Ideal.τ Cert.InWeightGrad0Ideal.sig) → Buf (Elt Ideal) ℓ) : Prop :=
  True

def Pre_InWeightGrad0ReferenceIdeal (m : (ℓ : Loc Cert.InWeightGrad0ReferenceIdeal.nD Cert.InWeightGrad0ReferenceIdeal.τ Cert.InWeightGrad0ReferenceIdeal.sig) → Buf (Elt Ideal) ℓ) : Prop :=
  True

def Pre_InNormGrad1 (m : (ℓ : Loc Cert.InNormGrad1.nD Cert.InNormGrad1.τ Cert.InNormGrad1.sig) → Buf (Elt Bits) ℓ) : Prop :=
  True

def Pre_InNormGrad1Ideal (m : (ℓ : Loc Cert.InNormGrad1Ideal.nD Cert.InNormGrad1Ideal.τ Cert.InNormGrad1Ideal.sig) → Buf (Elt Ideal) ℓ) : Prop :=
  True

def Pre_InNormGrad1ReferenceIdeal (m : (ℓ : Loc Cert.InNormGrad1ReferenceIdeal.nD Cert.InNormGrad1ReferenceIdeal.τ Cert.InNormGrad1ReferenceIdeal.sig) → Buf (Elt Ideal) ℓ) : Prop :=
  True

def Pre_InNormGrad0 (m : (ℓ : Loc Cert.InNormGrad0.nD Cert.InNormGrad0.τ Cert.InNormGrad0.sig) → Buf (Elt Bits) ℓ) : Prop :=
  True

def Pre_InNormGrad0Ideal (m : (ℓ : Loc Cert.InNormGrad0Ideal.nD Cert.InNormGrad0Ideal.τ Cert.InNormGrad0Ideal.sig) → Buf (Elt Ideal) ℓ) : Prop :=
  True

def Pre_InNormGrad0ReferenceIdeal (m : (ℓ : Loc Cert.InNormGrad0ReferenceIdeal.nD Cert.InNormGrad0ReferenceIdeal.τ Cert.InNormGrad0ReferenceIdeal.sig) → Buf (Elt Ideal) ℓ) : Prop :=
  True

def Pre_InZero (m : (ℓ : Loc Cert.InZero.nD Cert.InZero.τ Cert.InZero.sig) → Buf (Elt Bits) ℓ) : Prop :=
  True

def Pre_InZeroIdeal (m : (ℓ : Loc Cert.InZeroIdeal.nD Cert.InZeroIdeal.τ Cert.InZeroIdeal.sig) → Buf (Elt Ideal) ℓ) : Prop :=
  True

def Pre_InZeroReferenceIdeal (m : (ℓ : Loc Cert.InZeroReferenceIdeal.nD Cert.InZeroReferenceIdeal.τ Cert.InZeroReferenceIdeal.sig) → Buf (Elt Ideal) ℓ) : Prop :=
  True

def Pre_InOne (m : (ℓ : Loc Cert.InOne.nD Cert.InOne.τ Cert.InOne.sig) → Buf (Elt Bits) ℓ) : Prop :=
  True

def Pre_InOneIdeal (m : (ℓ : Loc Cert.InOneIdeal.nD Cert.InOneIdeal.τ Cert.InOneIdeal.sig) → Buf (Elt Ideal) ℓ) : Prop :=
  True

def Pre_InOneReferenceIdeal (m : (ℓ : Loc Cert.InOneReferenceIdeal.nD Cert.InOneReferenceIdeal.τ Cert.InOneReferenceIdeal.sig) → Buf (Elt Ideal) ℓ) : Prop :=
  True

def Pre_DownOne (m : (ℓ : Loc Cert.DownOne.nD Cert.DownOne.τ Cert.DownOne.sig) → Buf (Elt Bits) ℓ) : Prop :=
  True

def Pre_DownOneIdeal (m : (ℓ : Loc Cert.DownOneIdeal.nD Cert.DownOneIdeal.τ Cert.DownOneIdeal.sig) → Buf (Elt Ideal) ℓ) : Prop :=
  True

def Pre_DownOneReferenceIdeal (m : (ℓ : Loc Cert.DownOneReferenceIdeal.nD Cert.DownOneReferenceIdeal.τ Cert.DownOneReferenceIdeal.sig) → Buf (Elt Ideal) ℓ) : Prop :=
  True

def Pre_DownZero (m : (ℓ : Loc Cert.DownZero.nD Cert.DownZero.τ Cert.DownZero.sig) → Buf (Elt Bits) ℓ) : Prop :=
  True

def Pre_DownZeroIdeal (m : (ℓ : Loc Cert.DownZeroIdeal.nD Cert.DownZeroIdeal.τ Cert.DownZeroIdeal.sig) → Buf (Elt Ideal) ℓ) : Prop :=
  True

def Pre_DownZeroReferenceIdeal (m : (ℓ : Loc Cert.DownZeroReferenceIdeal.nD Cert.DownZeroReferenceIdeal.τ Cert.DownZeroReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_attention [hPre_finite_attention : Cert.Pre_finite_attention.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_attention.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_attention [hPre_finite_attention : Cert.Pre_finite_attention.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_attention.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1))) = (fun _ => 1#1)

def Pre_NormZero (m : (ℓ : Loc Cert.NormZero.nD Cert.NormZero.τ Cert.NormZero.sig) → Buf (Elt Bits) ℓ) : Prop :=
  True

def Pre_NormZeroIdeal (m : (ℓ : Loc Cert.NormZeroIdeal.nD Cert.NormZeroIdeal.τ Cert.NormZeroIdeal.sig) → Buf (Elt Ideal) ℓ) : Prop :=
  True

def Pre_NormZeroReferenceIdeal (m : (ℓ : Loc Cert.NormZeroReferenceIdeal.nD Cert.NormZeroReferenceIdeal.τ Cert.NormZeroReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwInZero (m : (ℓ : Loc Cert.AdamwInZero.nD Cert.AdamwInZero.τ Cert.AdamwInZero.sig) → Buf (Elt Bits) ℓ) : Prop :=
  True

def Pre_AdamwInZeroIdeal (m : (ℓ : Loc Cert.AdamwInZeroIdeal.nD Cert.AdamwInZeroIdeal.τ Cert.AdamwInZeroIdeal.sig) → Buf (Elt Ideal) ℓ) : Prop :=
  True

def Pre_AdamwInZeroReferenceIdeal (m : (ℓ : Loc Cert.AdamwInZeroReferenceIdeal.nD Cert.AdamwInZeroReferenceIdeal.τ Cert.AdamwInZeroReferenceIdeal.sig) → Buf (Elt Ideal) ℓ) : Prop :=
  True

def Pre_AdamwInOne (m : (ℓ : Loc Cert.AdamwInOne.nD Cert.AdamwInOne.τ Cert.AdamwInOne.sig) → Buf (Elt Bits) ℓ) : Prop :=
  True

def Pre_AdamwInOneIdeal (m : (ℓ : Loc Cert.AdamwInOneIdeal.nD Cert.AdamwInOneIdeal.τ Cert.AdamwInOneIdeal.sig) → Buf (Elt Ideal) ℓ) : Prop :=
  True

def Pre_AdamwInOneReferenceIdeal (m : (ℓ : Loc Cert.AdamwInOneReferenceIdeal.nD Cert.AdamwInOneReferenceIdeal.τ Cert.AdamwInOneReferenceIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpReferenceIdeal (m : (ℓ : Loc Cert.AdamwUpReferenceIdeal.nD Cert.AdamwUpReferenceIdeal.τ Cert.AdamwUpReferenceIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownReferenceIdeal (m : (ℓ : Loc Cert.AdamwDownReferenceIdeal.nD Cert.AdamwDownReferenceIdeal.τ Cert.AdamwDownReferenceIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1))
      ∧ r.2.sem = fun _ => 0)

def quiescent_ActGradReferenceIdeal [hActGradReferenceIdeal : Cert.ActGradReferenceIdeal.Facts] : Prop :=
  ∀ (m : (ℓ : Loc Cert.ActGradReferenceIdeal.nD Cert.ActGradReferenceIdeal.τ Cert.ActGradReferenceIdeal.sig) → Buf (Elt Ideal) ℓ) (g : Dev Cert.ActGradReferenceIdeal.nD → PrngReg), Pre_ActGradReferenceIdeal m →
    θ_run (Cert.ActGradReferenceIdeal.defs (F := Ideal)) (onTc (τ := Cert.ActGradReferenceIdeal.τ) (Cert.ActGradReferenceIdeal.main (F := Ideal))) ⟨m, fun _ => 0, g⟩ (fun r => (∀ c : Dev Cert.ActGradReferenceIdeal.nD,
      r.2.mem ((c.tc : Thread Cert.ActGradReferenceIdeal.nD Cert.ActGradReferenceIdeal.τ).loc Cert.ActGradReferenceIdeal.main_arg0) = m ((c.tc : Thread Cert.ActGradReferenceIdeal.nD Cert.ActGradReferenceIdeal.τ).loc Cert.ActGradReferenceIdeal.main_arg0)
      ∧ r.2.mem ((c.tc : Thread Cert.ActGradReferenceIdeal.nD Cert.ActGradReferenceIdeal.τ).loc Cert.ActGradReferenceIdeal.main_arg1) = m ((c.tc : Thread Cert.ActGradReferenceIdeal.nD Cert.ActGradReferenceIdeal.τ).loc Cert.ActGradReferenceIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1)
      ∧ r.2.mem ((c.tc : Thread Cert.UpGradReferenceIdeal.nD Cert.UpGradReferenceIdeal.τ).loc Cert.UpGradReferenceIdeal.main_arg2) = m ((c.tc : Thread Cert.UpGradReferenceIdeal.nD Cert.UpGradReferenceIdeal.τ).loc Cert.UpGradReferenceIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4)
      ∧ r.2.mem ((c.tc : Thread Cert.NormGradReferenceIdeal.nD Cert.NormGradReferenceIdeal.τ).loc Cert.NormGradReferenceIdeal.main_arg5) = m ((c.tc : Thread Cert.NormGradReferenceIdeal.nD Cert.NormGradReferenceIdeal.τ).loc Cert.NormGradReferenceIdeal.main_arg5))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_OutWeightGrad [hOutWeightGrad : Cert.OutWeightGrad.Facts] : Prop :=
  ∀ (m : (ℓ : Loc Cert.OutWeightGrad.nD Cert.OutWeightGrad.τ Cert.OutWeightGrad.sig) → Buf (Elt Bits) ℓ) (g : Dev Cert.OutWeightGrad.nD → PrngReg), Pre_OutWeightGrad m →
    θ_run (Cert.OutWeightGrad.defs (F := Bits)) (onTc (τ := Cert.OutWeightGrad.τ) (Cert.OutWeightGrad.main (F := Bits))) ⟨m, fun _ => 0, g⟩ (fun r => (∀ c : Dev Cert.OutWeightGrad.nD,
      r.2.mem ((c.tc : Thread Cert.OutWeightGrad.nD Cert.OutWeightGrad.τ).loc Cert.OutWeightGrad.main_arg0) = m ((c.tc : Thread Cert.OutWeightGrad.nD Cert.OutWeightGrad.τ).loc Cert.OutWeightGrad.main_arg0)
      ∧ r.2.mem ((c.tc : Thread Cert.OutWeightGrad.nD Cert.OutWeightGrad.τ).loc Cert.OutWeightGrad.main_arg1) = m ((c.tc : Thread Cert.OutWeightGrad.nD Cert.OutWeightGrad.τ).loc Cert.OutWeightGrad.main_arg1)
      ∧ r.2.mem ((c.tc : Thread Cert.OutWeightGrad.nD Cert.OutWeightGrad.τ).loc Cert.OutWeightGrad.main_arg2) = m ((c.tc : Thread Cert.OutWeightGrad.nD Cert.OutWeightGrad.τ).loc Cert.OutWeightGrad.main_arg2))
      ∧ r.2.sem = fun _ => 0)

def quiescent_OutWeightGradIdeal [hOutWeightGradIdeal : Cert.OutWeightGradIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg), Pre_OutWeightGradIdeal m →
    θ_run (Cert.OutWeightGradIdeal.defs (F := Ideal)) (onTc (τ := Cert.OutWeightGradIdeal.τ) (Cert.OutWeightGradIdeal.main (F := Ideal))) ⟨m, fun _ => 0, g⟩ (fun r => (∀ c : Dev Cert.OutWeightGradIdeal.nD,
      r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
      ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1)
      ∧ r.2.mem ((c.tc : Thread Cert.OutWeightGradIdeal.nD Cert.OutWeightGradIdeal.τ).loc Cert.OutWeightGradIdeal.main_arg2) = m ((c.tc : Thread Cert.OutWeightGradIdeal.nD Cert.OutWeightGradIdeal.τ).loc Cert.OutWeightGradIdeal.main_arg2))
      ∧ r.2.sem = fun _ => 0)

def quiescent_OutWeightGradReferenceIdeal [hOutWeightGradReferenceIdeal : Cert.OutWeightGradReferenceIdeal.Facts] : Prop :=
  ∀ (m : (ℓ : Loc Cert.OutWeightGradReferenceIdeal.nD Cert.OutWeightGradReferenceIdeal.τ Cert.OutWeightGradReferenceIdeal.sig) → Buf (Elt Ideal) ℓ) (g : Dev Cert.OutWeightGradReferenceIdeal.nD → PrngReg), Pre_OutWeightGradReferenceIdeal m →
    θ_run (Cert.OutWeightGradReferenceIdeal.defs (F := Ideal)) (onTc (τ := Cert.OutWeightGradReferenceIdeal.τ) (Cert.OutWeightGradReferenceIdeal.main (F := Ideal))) ⟨m, fun _ => 0, g⟩ (fun r => (∀ c : Dev Cert.OutWeightGradReferenceIdeal.nD,
      r.2.mem ((c.tc : Thread Cert.OutWeightGradReferenceIdeal.nD Cert.OutWeightGradReferenceIdeal.τ).loc Cert.OutWeightGradReferenceIdeal.main_arg0) = m ((c.tc : Thread Cert.OutWeightGradReferenceIdeal.nD Cert.OutWeightGradReferenceIdeal.τ).loc Cert.OutWeightGradReferenceIdeal.main_arg0)
      ∧ r.2.mem ((c.tc : Thread Cert.OutWeightGradReferenceIdeal.nD Cert.OutWeightGradReferenceIdeal.τ).loc Cert.OutWeightGradReferenceIdeal.main_arg1) = m ((c.tc : Thread Cert.OutWeightGradReferenceIdeal.nD Cert.OutWeightGradReferenceIdeal.τ).loc Cert.OutWeightGradReferenceIdeal.main_arg1)
      ∧ r.2.mem ((c.tc : Thread Cert.OutWeightGradReferenceIdeal.nD Cert.OutWeightGradReferenceIdeal.τ).loc Cert.OutWeightGradReferenceIdeal.main_arg2) = m ((c.tc : Thread Cert.OutWeightGradReferenceIdeal.nD Cert.OutWeightGradReferenceIdeal.τ).loc Cert.OutWeightGradReferenceIdeal.main_arg2))
      ∧ r.2.sem = fun _ => 0)

def quiescent_InWeightGrad1 [hInWeightGrad1 : Cert.InWeightGrad1.Facts] : Prop :=
  ∀ (m : (ℓ : Loc Cert.InWeightGrad1.nD Cert.InWeightGrad1.τ Cert.InWeightGrad1.sig) → Buf (Elt Bits) ℓ) (g : Dev Cert.InWeightGrad1.nD → PrngReg), Pre_InWeightGrad1 m →
    θ_run (Cert.InWeightGrad1.defs (F := Bits)) (onTc (τ := Cert.InWeightGrad1.τ) (Cert.InWeightGrad1.main (F := Bits))) ⟨m, fun _ => 0, g⟩ (fun r => (∀ c : Dev Cert.InWeightGrad1.nD,
      r.2.mem ((c.tc : Thread Cert.InWeightGrad1.nD Cert.InWeightGrad1.τ).loc Cert.InWeightGrad1.main_arg0) = m ((c.tc : Thread Cert.InWeightGrad1.nD Cert.InWeightGrad1.τ).loc Cert.InWeightGrad1.main_arg0)
      ∧ r.2.mem ((c.tc : Thread Cert.InWeightGrad1.nD Cert.InWeightGrad1.τ).loc Cert.InWeightGrad1.main_arg1) = m ((c.tc : Thread Cert.InWeightGrad1.nD Cert.InWeightGrad1.τ).loc Cert.InWeightGrad1.main_arg1))
      ∧ r.2.sem = fun _ => 0)

def quiescent_InWeightGrad1Ideal [hInWeightGrad1Ideal : Cert.InWeightGrad1Ideal.Facts] : Prop :=
  ∀ (m : (ℓ : Loc Cert.InWeightGrad1Ideal.nD Cert.InWeightGrad1Ideal.τ Cert.InWeightGrad1Ideal.sig) → Buf (Elt Ideal) ℓ) (g : Dev Cert.InWeightGrad1Ideal.nD → PrngReg), Pre_InWeightGrad1Ideal m →
    θ_run (Cert.InWeightGrad1Ideal.defs (F := Ideal)) (onTc (τ := Cert.InWeightGrad1Ideal.τ) (Cert.InWeightGrad1Ideal.main (F := Ideal))) ⟨m, fun _ => 0, g⟩ (fun r => (∀ c : Dev Cert.InWeightGrad1Ideal.nD,
      r.2.mem ((c.tc : Thread Cert.InWeightGrad1Ideal.nD Cert.InWeightGrad1Ideal.τ).loc Cert.InWeightGrad1Ideal.main_arg0) = m ((c.tc : Thread Cert.InWeightGrad1Ideal.nD Cert.InWeightGrad1Ideal.τ).loc Cert.InWeightGrad1Ideal.main_arg0)
      ∧ r.2.mem ((c.tc : Thread Cert.InWeightGrad1Ideal.nD Cert.InWeightGrad1Ideal.τ).loc Cert.InWeightGrad1Ideal.main_arg1) = m ((c.tc : Thread Cert.InWeightGrad1Ideal.nD Cert.InWeightGrad1Ideal.τ).loc Cert.InWeightGrad1Ideal.main_arg1))
      ∧ r.2.sem = fun _ => 0)

def quiescent_InWeightGrad1ReferenceIdeal [hInWeightGrad1ReferenceIdeal : Cert.InWeightGrad1ReferenceIdeal.Facts] : Prop :=
  ∀ (m : (ℓ : Loc Cert.InWeightGrad1ReferenceIdeal.nD Cert.InWeightGrad1ReferenceIdeal.τ Cert.InWeightGrad1ReferenceIdeal.sig) → Buf (Elt Ideal) ℓ) (g : Dev Cert.InWeightGrad1ReferenceIdeal.nD → PrngReg), Pre_InWeightGrad1ReferenceIdeal m →
    θ_run (Cert.InWeightGrad1ReferenceIdeal.defs (F := Ideal)) (onTc (τ := Cert.InWeightGrad1ReferenceIdeal.τ) (Cert.InWeightGrad1ReferenceIdeal.main (F := Ideal))) ⟨m, fun _ => 0, g⟩ (fun r => (∀ c : Dev Cert.InWeightGrad1ReferenceIdeal.nD,
      r.2.mem ((c.tc : Thread Cert.InWeightGrad1ReferenceIdeal.nD Cert.InWeightGrad1ReferenceIdeal.τ).loc Cert.InWeightGrad1ReferenceIdeal.main_arg0) = m ((c.tc : Thread Cert.InWeightGrad1ReferenceIdeal.nD Cert.InWeightGrad1ReferenceIdeal.τ).loc Cert.InWeightGrad1ReferenceIdeal.main_arg0)
      ∧ r.2.mem ((c.tc : Thread Cert.InWeightGrad1ReferenceIdeal.nD Cert.InWeightGrad1ReferenceIdeal.τ).loc Cert.InWeightGrad1ReferenceIdeal.main_arg1) = m ((c.tc : Thread Cert.InWeightGrad1ReferenceIdeal.nD Cert.InWeightGrad1ReferenceIdeal.τ).loc Cert.InWeightGrad1ReferenceIdeal.main_arg1))
      ∧ r.2.sem = fun _ => 0)

def quiescent_InWeightGrad0 [hInWeightGrad0 : Cert.InWeightGrad0.Facts] : Prop :=
  ∀ (m : (ℓ : Loc Cert.InWeightGrad0.nD Cert.InWeightGrad0.τ Cert.InWeightGrad0.sig) → Buf (Elt Bits) ℓ) (g : Dev Cert.InWeightGrad0.nD → PrngReg), Pre_InWeightGrad0 m →
    θ_run (Cert.InWeightGrad0.defs (F := Bits)) (onTc (τ := Cert.InWeightGrad0.τ) (Cert.InWeightGrad0.main (F := Bits))) ⟨m, fun _ => 0, g⟩ (fun r => (∀ c : Dev Cert.InWeightGrad0.nD,
      r.2.mem ((c.tc : Thread Cert.InWeightGrad0.nD Cert.InWeightGrad0.τ).loc Cert.InWeightGrad0.main_arg0) = m ((c.tc : Thread Cert.InWeightGrad0.nD Cert.InWeightGrad0.τ).loc Cert.InWeightGrad0.main_arg0)
      ∧ r.2.mem ((c.tc : Thread Cert.InWeightGrad0.nD Cert.InWeightGrad0.τ).loc Cert.InWeightGrad0.main_arg1) = m ((c.tc : Thread Cert.InWeightGrad0.nD Cert.InWeightGrad0.τ).loc Cert.InWeightGrad0.main_arg1)
      ∧ r.2.mem ((c.tc : Thread Cert.InWeightGrad0.nD Cert.InWeightGrad0.τ).loc Cert.InWeightGrad0.main_arg2) = m ((c.tc : Thread Cert.InWeightGrad0.nD Cert.InWeightGrad0.τ).loc Cert.InWeightGrad0.main_arg2)
      ∧ r.2.mem ((c.tc : Thread Cert.InWeightGrad0.nD Cert.InWeightGrad0.τ).loc Cert.InWeightGrad0.main_arg3) = m ((c.tc : Thread Cert.InWeightGrad0.nD Cert.InWeightGrad0.τ).loc Cert.InWeightGrad0.main_arg3)
      ∧ r.2.mem ((c.tc : Thread Cert.InWeightGrad0.nD Cert.InWeightGrad0.τ).loc Cert.InWeightGrad0.main_arg4) = m ((c.tc : Thread Cert.InWeightGrad0.nD Cert.InWeightGrad0.τ).loc Cert.InWeightGrad0.main_arg4)
      ∧ r.2.mem ((c.tc : Thread Cert.InWeightGrad0.nD Cert.InWeightGrad0.τ).loc Cert.InWeightGrad0.main_arg5) = m ((c.tc : Thread Cert.InWeightGrad0.nD Cert.InWeightGrad0.τ).loc Cert.InWeightGrad0.main_arg5))
      ∧ r.2.sem = fun _ => 0)

def quiescent_InWeightGrad0Ideal [hInWeightGrad0Ideal : Cert.InWeightGrad0Ideal.Facts] : Prop :=
  ∀ (m : (ℓ : Loc Cert.InWeightGrad0Ideal.nD Cert.InWeightGrad0Ideal.τ Cert.InWeightGrad0Ideal.sig) → Buf (Elt Ideal) ℓ) (g : Dev Cert.InWeightGrad0Ideal.nD → PrngReg), Pre_InWeightGrad0Ideal m →
    θ_run (Cert.InWeightGrad0Ideal.defs (F := Ideal)) (onTc (τ := Cert.InWeightGrad0Ideal.τ) (Cert.InWeightGrad0Ideal.main (F := Ideal))) ⟨m, fun _ => 0, g⟩ (fun r => (∀ c : Dev Cert.InWeightGrad0Ideal.nD,
      r.2.mem ((c.tc : Thread Cert.InWeightGrad0Ideal.nD Cert.InWeightGrad0Ideal.τ).loc Cert.InWeightGrad0Ideal.main_arg0) = m ((c.tc : Thread Cert.InWeightGrad0Ideal.nD Cert.InWeightGrad0Ideal.τ).loc Cert.InWeightGrad0Ideal.main_arg0)
      ∧ r.2.mem ((c.tc : Thread Cert.InWeightGrad0Ideal.nD Cert.InWeightGrad0Ideal.τ).loc Cert.InWeightGrad0Ideal.main_arg1) = m ((c.tc : Thread Cert.InWeightGrad0Ideal.nD Cert.InWeightGrad0Ideal.τ).loc Cert.InWeightGrad0Ideal.main_arg1)
      ∧ r.2.mem ((c.tc : Thread Cert.InWeightGrad0Ideal.nD Cert.InWeightGrad0Ideal.τ).loc Cert.InWeightGrad0Ideal.main_arg2) = m ((c.tc : Thread Cert.InWeightGrad0Ideal.nD Cert.InWeightGrad0Ideal.τ).loc Cert.InWeightGrad0Ideal.main_arg2)
      ∧ r.2.mem ((c.tc : Thread Cert.InWeightGrad0Ideal.nD Cert.InWeightGrad0Ideal.τ).loc Cert.InWeightGrad0Ideal.main_arg3) = m ((c.tc : Thread Cert.InWeightGrad0Ideal.nD Cert.InWeightGrad0Ideal.τ).loc Cert.InWeightGrad0Ideal.main_arg3)
      ∧ r.2.mem ((c.tc : Thread Cert.InWeightGrad0Ideal.nD Cert.InWeightGrad0Ideal.τ).loc Cert.InWeightGrad0Ideal.main_arg4) = m ((c.tc : Thread Cert.InWeightGrad0Ideal.nD Cert.InWeightGrad0Ideal.τ).loc Cert.InWeightGrad0Ideal.main_arg4)
      ∧ r.2.mem ((c.tc : Thread Cert.InWeightGrad0Ideal.nD Cert.InWeightGrad0Ideal.τ).loc Cert.InWeightGrad0Ideal.main_arg5) = m ((c.tc : Thread Cert.InWeightGrad0Ideal.nD Cert.InWeightGrad0Ideal.τ).loc Cert.InWeightGrad0Ideal.main_arg5))
      ∧ r.2.sem = fun _ => 0)

def quiescent_InWeightGrad0ReferenceIdeal [hInWeightGrad0ReferenceIdeal : Cert.InWeightGrad0ReferenceIdeal.Facts] : Prop :=
  ∀ (m : (ℓ : Loc Cert.InWeightGrad0ReferenceIdeal.nD Cert.InWeightGrad0ReferenceIdeal.τ Cert.InWeightGrad0ReferenceIdeal.sig) → Buf (Elt Ideal) ℓ) (g : Dev Cert.InWeightGrad0ReferenceIdeal.nD → PrngReg), Pre_InWeightGrad0ReferenceIdeal m →
    θ_run (Cert.InWeightGrad0ReferenceIdeal.defs (F := Ideal)) (onTc (τ := Cert.InWeightGrad0ReferenceIdeal.τ) (Cert.InWeightGrad0ReferenceIdeal.main (F := Ideal))) ⟨m, fun _ => 0, g⟩ (fun r => (∀ c : Dev Cert.InWeightGrad0ReferenceIdeal.nD,
      r.2.mem ((c.tc : Thread Cert.InWeightGrad0ReferenceIdeal.nD Cert.InWeightGrad0ReferenceIdeal.τ).loc Cert.InWeightGrad0ReferenceIdeal.main_arg0) = m ((c.tc : Thread Cert.InWeightGrad0ReferenceIdeal.nD Cert.InWeightGrad0ReferenceIdeal.τ).loc Cert.InWeightGrad0ReferenceIdeal.main_arg0)
      ∧ r.2.mem ((c.tc : Thread Cert.InWeightGrad0ReferenceIdeal.nD Cert.InWeightGrad0ReferenceIdeal.τ).loc Cert.InWeightGrad0ReferenceIdeal.main_arg1) = m ((c.tc : Thread Cert.InWeightGrad0ReferenceIdeal.nD Cert.InWeightGrad0ReferenceIdeal.τ).loc Cert.InWeightGrad0ReferenceIdeal.main_arg1)
      ∧ r.2.mem ((c.tc : Thread Cert.InWeightGrad0ReferenceIdeal.nD Cert.InWeightGrad0ReferenceIdeal.τ).loc Cert.InWeightGrad0ReferenceIdeal.main_arg2) = m ((c.tc : Thread Cert.InWeightGrad0ReferenceIdeal.nD Cert.InWeightGrad0ReferenceIdeal.τ).loc Cert.InWeightGrad0ReferenceIdeal.main_arg2)
      ∧ r.2.mem ((c.tc : Thread Cert.InWeightGrad0ReferenceIdeal.nD Cert.InWeightGrad0ReferenceIdeal.τ).loc Cert.InWeightGrad0ReferenceIdeal.main_arg3) = m ((c.tc : Thread Cert.InWeightGrad0ReferenceIdeal.nD Cert.InWeightGrad0ReferenceIdeal.τ).loc Cert.InWeightGrad0ReferenceIdeal.main_arg3)
      ∧ r.2.mem ((c.tc : Thread Cert.InWeightGrad0ReferenceIdeal.nD Cert.InWeightGrad0ReferenceIdeal.τ).loc Cert.InWeightGrad0ReferenceIdeal.main_arg4) = m ((c.tc : Thread Cert.InWeightGrad0ReferenceIdeal.nD Cert.InWeightGrad0ReferenceIdeal.τ).loc Cert.InWeightGrad0ReferenceIdeal.main_arg4)
      ∧ r.2.mem ((c.tc : Thread Cert.InWeightGrad0ReferenceIdeal.nD Cert.InWeightGrad0ReferenceIdeal.τ).loc Cert.InWeightGrad0ReferenceIdeal.main_arg5) = m ((c.tc : Thread Cert.InWeightGrad0ReferenceIdeal.nD Cert.InWeightGrad0ReferenceIdeal.τ).loc Cert.InWeightGrad0ReferenceIdeal.main_arg5))
      ∧ r.2.sem = fun _ => 0)

def quiescent_InNormGrad1 [hInNormGrad1 : Cert.InNormGrad1.Facts] : Prop :=
  ∀ (m : (ℓ : Loc Cert.InNormGrad1.nD Cert.InNormGrad1.τ Cert.InNormGrad1.sig) → Buf (Elt Bits) ℓ) (g : Dev Cert.InNormGrad1.nD → PrngReg), Pre_InNormGrad1 m →
    θ_run (Cert.InNormGrad1.defs (F := Bits)) (onTc (τ := Cert.InNormGrad1.τ) (Cert.InNormGrad1.main (F := Bits))) ⟨m, fun _ => 0, g⟩ (fun r => (∀ c : Dev Cert.InNormGrad1.nD,
      r.2.mem ((c.tc : Thread Cert.InNormGrad1.nD Cert.InNormGrad1.τ).loc Cert.InNormGrad1.main_arg0) = m ((c.tc : Thread Cert.InNormGrad1.nD Cert.InNormGrad1.τ).loc Cert.InNormGrad1.main_arg0)
      ∧ r.2.mem ((c.tc : Thread Cert.InNormGrad1.nD Cert.InNormGrad1.τ).loc Cert.InNormGrad1.main_arg1) = m ((c.tc : Thread Cert.InNormGrad1.nD Cert.InNormGrad1.τ).loc Cert.InNormGrad1.main_arg1)
      ∧ r.2.mem ((c.tc : Thread Cert.InNormGrad1.nD Cert.InNormGrad1.τ).loc Cert.InNormGrad1.main_arg2) = m ((c.tc : Thread Cert.InNormGrad1.nD Cert.InNormGrad1.τ).loc Cert.InNormGrad1.main_arg2)
      ∧ r.2.mem ((c.tc : Thread Cert.InNormGrad1.nD Cert.InNormGrad1.τ).loc Cert.InNormGrad1.main_arg3) = m ((c.tc : Thread Cert.InNormGrad1.nD Cert.InNormGrad1.τ).loc Cert.InNormGrad1.main_arg3)
      ∧ r.2.mem ((c.tc : Thread Cert.InNormGrad1.nD Cert.InNormGrad1.τ).loc Cert.InNormGrad1.main_arg4) = m ((c.tc : Thread Cert.InNormGrad1.nD Cert.InNormGrad1.τ).loc Cert.InNormGrad1.main_arg4))
      ∧ r.2.sem = fun _ => 0)

def quiescent_InNormGrad1Ideal [hInNormGrad1Ideal : Cert.InNormGrad1Ideal.Facts] : Prop :=
  ∀ (m : (ℓ : Loc Cert.InNormGrad1Ideal.nD Cert.InNormGrad1Ideal.τ Cert.InNormGrad1Ideal.sig) → Buf (Elt Ideal) ℓ) (g : Dev Cert.InNormGrad1Ideal.nD → PrngReg), Pre_InNormGrad1Ideal m →
    θ_run (Cert.InNormGrad1Ideal.defs (F := Ideal)) (onTc (τ := Cert.InNormGrad1Ideal.τ) (Cert.InNormGrad1Ideal.main (F := Ideal))) ⟨m, fun _ => 0, g⟩ (fun r => (∀ c : Dev Cert.InNormGrad1Ideal.nD,
      r.2.mem ((c.tc : Thread Cert.InNormGrad1Ideal.nD Cert.InNormGrad1Ideal.τ).loc Cert.InNormGrad1Ideal.main_arg0) = m ((c.tc : Thread Cert.InNormGrad1Ideal.nD Cert.InNormGrad1Ideal.τ).loc Cert.InNormGrad1Ideal.main_arg0)
      ∧ r.2.mem ((c.tc : Thread Cert.InNormGrad1Ideal.nD Cert.InNormGrad1Ideal.τ).loc Cert.InNormGrad1Ideal.main_arg1) = m ((c.tc : Thread Cert.InNormGrad1Ideal.nD Cert.InNormGrad1Ideal.τ).loc Cert.InNormGrad1Ideal.main_arg1)
      ∧ r.2.mem ((c.tc : Thread Cert.InNormGrad1Ideal.nD Cert.InNormGrad1Ideal.τ).loc Cert.InNormGrad1Ideal.main_arg2) = m ((c.tc : Thread Cert.InNormGrad1Ideal.nD Cert.InNormGrad1Ideal.τ).loc Cert.InNormGrad1Ideal.main_arg2)
      ∧ r.2.mem ((c.tc : Thread Cert.InNormGrad1Ideal.nD Cert.InNormGrad1Ideal.τ).loc Cert.InNormGrad1Ideal.main_arg3) = m ((c.tc : Thread Cert.InNormGrad1Ideal.nD Cert.InNormGrad1Ideal.τ).loc Cert.InNormGrad1Ideal.main_arg3)
      ∧ r.2.mem ((c.tc : Thread Cert.InNormGrad1Ideal.nD Cert.InNormGrad1Ideal.τ).loc Cert.InNormGrad1Ideal.main_arg4) = m ((c.tc : Thread Cert.InNormGrad1Ideal.nD Cert.InNormGrad1Ideal.τ).loc Cert.InNormGrad1Ideal.main_arg4))
      ∧ r.2.sem = fun _ => 0)

def quiescent_InNormGrad1ReferenceIdeal [hInNormGrad1ReferenceIdeal : Cert.InNormGrad1ReferenceIdeal.Facts] : Prop :=
  ∀ (m : (ℓ : Loc Cert.InNormGrad1ReferenceIdeal.nD Cert.InNormGrad1ReferenceIdeal.τ Cert.InNormGrad1ReferenceIdeal.sig) → Buf (Elt Ideal) ℓ) (g : Dev Cert.InNormGrad1ReferenceIdeal.nD → PrngReg), Pre_InNormGrad1ReferenceIdeal m →
    θ_run (Cert.InNormGrad1ReferenceIdeal.defs (F := Ideal)) (onTc (τ := Cert.InNormGrad1ReferenceIdeal.τ) (Cert.InNormGrad1ReferenceIdeal.main (F := Ideal))) ⟨m, fun _ => 0, g⟩ (fun r => (∀ c : Dev Cert.InNormGrad1ReferenceIdeal.nD,
      r.2.mem ((c.tc : Thread Cert.InNormGrad1ReferenceIdeal.nD Cert.InNormGrad1ReferenceIdeal.τ).loc Cert.InNormGrad1ReferenceIdeal.main_arg0) = m ((c.tc : Thread Cert.InNormGrad1ReferenceIdeal.nD Cert.InNormGrad1ReferenceIdeal.τ).loc Cert.InNormGrad1ReferenceIdeal.main_arg0)
      ∧ r.2.mem ((c.tc : Thread Cert.InNormGrad1ReferenceIdeal.nD Cert.InNormGrad1ReferenceIdeal.τ).loc Cert.InNormGrad1ReferenceIdeal.main_arg1) = m ((c.tc : Thread Cert.InNormGrad1ReferenceIdeal.nD Cert.InNormGrad1ReferenceIdeal.τ).loc Cert.InNormGrad1ReferenceIdeal.main_arg1)
      ∧ r.2.mem ((c.tc : Thread Cert.InNormGrad1ReferenceIdeal.nD Cert.InNormGrad1ReferenceIdeal.τ).loc Cert.InNormGrad1ReferenceIdeal.main_arg2) = m ((c.tc : Thread Cert.InNormGrad1ReferenceIdeal.nD Cert.InNormGrad1ReferenceIdeal.τ).loc Cert.InNormGrad1ReferenceIdeal.main_arg2)
      ∧ r.2.mem ((c.tc : Thread Cert.InNormGrad1ReferenceIdeal.nD Cert.InNormGrad1ReferenceIdeal.τ).loc Cert.InNormGrad1ReferenceIdeal.main_arg3) = m ((c.tc : Thread Cert.InNormGrad1ReferenceIdeal.nD Cert.InNormGrad1ReferenceIdeal.τ).loc Cert.InNormGrad1ReferenceIdeal.main_arg3)
      ∧ r.2.mem ((c.tc : Thread Cert.InNormGrad1ReferenceIdeal.nD Cert.InNormGrad1ReferenceIdeal.τ).loc Cert.InNormGrad1ReferenceIdeal.main_arg4) = m ((c.tc : Thread Cert.InNormGrad1ReferenceIdeal.nD Cert.InNormGrad1ReferenceIdeal.τ).loc Cert.InNormGrad1ReferenceIdeal.main_arg4))
      ∧ r.2.sem = fun _ => 0)

def quiescent_InNormGrad0 [hInNormGrad0 : Cert.InNormGrad0.Facts] : Prop :=
  ∀ (m : (ℓ : Loc Cert.InNormGrad0.nD Cert.InNormGrad0.τ Cert.InNormGrad0.sig) → Buf (Elt Bits) ℓ) (g : Dev Cert.InNormGrad0.nD → PrngReg), Pre_InNormGrad0 m →
    θ_run (Cert.InNormGrad0.defs (F := Bits)) (onTc (τ := Cert.InNormGrad0.τ) (Cert.InNormGrad0.main (F := Bits))) ⟨m, fun _ => 0, g⟩ (fun r => (∀ c : Dev Cert.InNormGrad0.nD,
      r.2.mem ((c.tc : Thread Cert.InNormGrad0.nD Cert.InNormGrad0.τ).loc Cert.InNormGrad0.main_arg0) = m ((c.tc : Thread Cert.InNormGrad0.nD Cert.InNormGrad0.τ).loc Cert.InNormGrad0.main_arg0)
      ∧ r.2.mem ((c.tc : Thread Cert.InNormGrad0.nD Cert.InNormGrad0.τ).loc Cert.InNormGrad0.main_arg1) = m ((c.tc : Thread Cert.InNormGrad0.nD Cert.InNormGrad0.τ).loc Cert.InNormGrad0.main_arg1)
      ∧ r.2.mem ((c.tc : Thread Cert.InNormGrad0.nD Cert.InNormGrad0.τ).loc Cert.InNormGrad0.main_arg2) = m ((c.tc : Thread Cert.InNormGrad0.nD Cert.InNormGrad0.τ).loc Cert.InNormGrad0.main_arg2)
      ∧ r.2.mem ((c.tc : Thread Cert.InNormGrad0.nD Cert.InNormGrad0.τ).loc Cert.InNormGrad0.main_arg3) = m ((c.tc : Thread Cert.InNormGrad0.nD Cert.InNormGrad0.τ).loc Cert.InNormGrad0.main_arg3)
      ∧ r.2.mem ((c.tc : Thread Cert.InNormGrad0.nD Cert.InNormGrad0.τ).loc Cert.InNormGrad0.main_arg4) = m ((c.tc : Thread Cert.InNormGrad0.nD Cert.InNormGrad0.τ).loc Cert.InNormGrad0.main_arg4)
      ∧ r.2.mem ((c.tc : Thread Cert.InNormGrad0.nD Cert.InNormGrad0.τ).loc Cert.InNormGrad0.main_arg5) = m ((c.tc : Thread Cert.InNormGrad0.nD Cert.InNormGrad0.τ).loc Cert.InNormGrad0.main_arg5)
      ∧ r.2.mem ((c.tc : Thread Cert.InNormGrad0.nD Cert.InNormGrad0.τ).loc Cert.InNormGrad0.main_arg6) = m ((c.tc : Thread Cert.InNormGrad0.nD Cert.InNormGrad0.τ).loc Cert.InNormGrad0.main_arg6)
      ∧ r.2.mem ((c.tc : Thread Cert.InNormGrad0.nD Cert.InNormGrad0.τ).loc Cert.InNormGrad0.main_arg7) = m ((c.tc : Thread Cert.InNormGrad0.nD Cert.InNormGrad0.τ).loc Cert.InNormGrad0.main_arg7)
      ∧ r.2.mem ((c.tc : Thread Cert.InNormGrad0.nD Cert.InNormGrad0.τ).loc Cert.InNormGrad0.main_arg8) = m ((c.tc : Thread Cert.InNormGrad0.nD Cert.InNormGrad0.τ).loc Cert.InNormGrad0.main_arg8))
      ∧ r.2.sem = fun _ => 0)

def quiescent_InNormGrad0Ideal [hInNormGrad0Ideal : Cert.InNormGrad0Ideal.Facts] : Prop :=
  ∀ (m : (ℓ : Loc Cert.InNormGrad0Ideal.nD Cert.InNormGrad0Ideal.τ Cert.InNormGrad0Ideal.sig) → Buf (Elt Ideal) ℓ) (g : Dev Cert.InNormGrad0Ideal.nD → PrngReg), Pre_InNormGrad0Ideal m →
    θ_run (Cert.InNormGrad0Ideal.defs (F := Ideal)) (onTc (τ := Cert.InNormGrad0Ideal.τ) (Cert.InNormGrad0Ideal.main (F := Ideal))) ⟨m, fun _ => 0, g⟩ (fun r => (∀ c : Dev Cert.InNormGrad0Ideal.nD,
      r.2.mem ((c.tc : Thread Cert.InNormGrad0Ideal.nD Cert.InNormGrad0Ideal.τ).loc Cert.InNormGrad0Ideal.main_arg0) = m ((c.tc : Thread Cert.InNormGrad0Ideal.nD Cert.InNormGrad0Ideal.τ).loc Cert.InNormGrad0Ideal.main_arg0)
      ∧ r.2.mem ((c.tc : Thread Cert.InNormGrad0Ideal.nD Cert.InNormGrad0Ideal.τ).loc Cert.InNormGrad0Ideal.main_arg1) = m ((c.tc : Thread Cert.InNormGrad0Ideal.nD Cert.InNormGrad0Ideal.τ).loc Cert.InNormGrad0Ideal.main_arg1)
      ∧ r.2.mem ((c.tc : Thread Cert.InNormGrad0Ideal.nD Cert.InNormGrad0Ideal.τ).loc Cert.InNormGrad0Ideal.main_arg2) = m ((c.tc : Thread Cert.InNormGrad0Ideal.nD Cert.InNormGrad0Ideal.τ).loc Cert.InNormGrad0Ideal.main_arg2)
      ∧ r.2.mem ((c.tc : Thread Cert.InNormGrad0Ideal.nD Cert.InNormGrad0Ideal.τ).loc Cert.InNormGrad0Ideal.main_arg3) = m ((c.tc : Thread Cert.InNormGrad0Ideal.nD Cert.InNormGrad0Ideal.τ).loc Cert.InNormGrad0Ideal.main_arg3)
      ∧ r.2.mem ((c.tc : Thread Cert.InNormGrad0Ideal.nD Cert.InNormGrad0Ideal.τ).loc Cert.InNormGrad0Ideal.main_arg4) = m ((c.tc : Thread Cert.InNormGrad0Ideal.nD Cert.InNormGrad0Ideal.τ).loc Cert.InNormGrad0Ideal.main_arg4)
      ∧ r.2.mem ((c.tc : Thread Cert.InNormGrad0Ideal.nD Cert.InNormGrad0Ideal.τ).loc Cert.InNormGrad0Ideal.main_arg5) = m ((c.tc : Thread Cert.InNormGrad0Ideal.nD Cert.InNormGrad0Ideal.τ).loc Cert.InNormGrad0Ideal.main_arg5)
      ∧ r.2.mem ((c.tc : Thread Cert.InNormGrad0Ideal.nD Cert.InNormGrad0Ideal.τ).loc Cert.InNormGrad0Ideal.main_arg6) = m ((c.tc : Thread Cert.InNormGrad0Ideal.nD Cert.InNormGrad0Ideal.τ).loc Cert.InNormGrad0Ideal.main_arg6)
      ∧ r.2.mem ((c.tc : Thread Cert.InNormGrad0Ideal.nD Cert.InNormGrad0Ideal.τ).loc Cert.InNormGrad0Ideal.main_arg7) = m ((c.tc : Thread Cert.InNormGrad0Ideal.nD Cert.InNormGrad0Ideal.τ).loc Cert.InNormGrad0Ideal.main_arg7)
      ∧ r.2.mem ((c.tc : Thread Cert.InNormGrad0Ideal.nD Cert.InNormGrad0Ideal.τ).loc Cert.InNormGrad0Ideal.main_arg8) = m ((c.tc : Thread Cert.InNormGrad0Ideal.nD Cert.InNormGrad0Ideal.τ).loc Cert.InNormGrad0Ideal.main_arg8))
      ∧ r.2.sem = fun _ => 0)

def quiescent_InNormGrad0ReferenceIdeal [hInNormGrad0ReferenceIdeal : Cert.InNormGrad0ReferenceIdeal.Facts] : Prop :=
  ∀ (m : (ℓ : Loc Cert.InNormGrad0ReferenceIdeal.nD Cert.InNormGrad0ReferenceIdeal.τ Cert.InNormGrad0ReferenceIdeal.sig) → Buf (Elt Ideal) ℓ) (g : Dev Cert.InNormGrad0ReferenceIdeal.nD → PrngReg), Pre_InNormGrad0ReferenceIdeal m →
    θ_run (Cert.InNormGrad0ReferenceIdeal.defs (F := Ideal)) (onTc (τ := Cert.InNormGrad0ReferenceIdeal.τ) (Cert.InNormGrad0ReferenceIdeal.main (F := Ideal))) ⟨m, fun _ => 0, g⟩ (fun r => (∀ c : Dev Cert.InNormGrad0ReferenceIdeal.nD,
      r.2.mem ((c.tc : Thread Cert.InNormGrad0ReferenceIdeal.nD Cert.InNormGrad0ReferenceIdeal.τ).loc Cert.InNormGrad0ReferenceIdeal.main_arg0) = m ((c.tc : Thread Cert.InNormGrad0ReferenceIdeal.nD Cert.InNormGrad0ReferenceIdeal.τ).loc Cert.InNormGrad0ReferenceIdeal.main_arg0)
      ∧ r.2.mem ((c.tc : Thread Cert.InNormGrad0ReferenceIdeal.nD Cert.InNormGrad0ReferenceIdeal.τ).loc Cert.InNormGrad0ReferenceIdeal.main_arg1) = m ((c.tc : Thread Cert.InNormGrad0ReferenceIdeal.nD Cert.InNormGrad0ReferenceIdeal.τ).loc Cert.InNormGrad0ReferenceIdeal.main_arg1)
      ∧ r.2.mem ((c.tc : Thread Cert.InNormGrad0ReferenceIdeal.nD Cert.InNormGrad0ReferenceIdeal.τ).loc Cert.InNormGrad0ReferenceIdeal.main_arg2) = m ((c.tc : Thread Cert.InNormGrad0ReferenceIdeal.nD Cert.InNormGrad0ReferenceIdeal.τ).loc Cert.InNormGrad0ReferenceIdeal.main_arg2)
      ∧ r.2.mem ((c.tc : Thread Cert.InNormGrad0ReferenceIdeal.nD Cert.InNormGrad0ReferenceIdeal.τ).loc Cert.InNormGrad0ReferenceIdeal.main_arg3) = m ((c.tc : Thread Cert.InNormGrad0ReferenceIdeal.nD Cert.InNormGrad0ReferenceIdeal.τ).loc Cert.InNormGrad0ReferenceIdeal.main_arg3)
      ∧ r.2.mem ((c.tc : Thread Cert.InNormGrad0ReferenceIdeal.nD Cert.InNormGrad0ReferenceIdeal.τ).loc Cert.InNormGrad0ReferenceIdeal.main_arg4) = m ((c.tc : Thread Cert.InNormGrad0ReferenceIdeal.nD Cert.InNormGrad0ReferenceIdeal.τ).loc Cert.InNormGrad0ReferenceIdeal.main_arg4)
      ∧ r.2.mem ((c.tc : Thread Cert.InNormGrad0ReferenceIdeal.nD Cert.InNormGrad0ReferenceIdeal.τ).loc Cert.InNormGrad0ReferenceIdeal.main_arg5) = m ((c.tc : Thread Cert.InNormGrad0ReferenceIdeal.nD Cert.InNormGrad0ReferenceIdeal.τ).loc Cert.InNormGrad0ReferenceIdeal.main_arg5)
      ∧ r.2.mem ((c.tc : Thread Cert.InNormGrad0ReferenceIdeal.nD Cert.InNormGrad0ReferenceIdeal.τ).loc Cert.InNormGrad0ReferenceIdeal.main_arg6) = m ((c.tc : Thread Cert.InNormGrad0ReferenceIdeal.nD Cert.InNormGrad0ReferenceIdeal.τ).loc Cert.InNormGrad0ReferenceIdeal.main_arg6)
      ∧ r.2.mem ((c.tc : Thread Cert.InNormGrad0ReferenceIdeal.nD Cert.InNormGrad0ReferenceIdeal.τ).loc Cert.InNormGrad0ReferenceIdeal.main_arg7) = m ((c.tc : Thread Cert.InNormGrad0ReferenceIdeal.nD Cert.InNormGrad0ReferenceIdeal.τ).loc Cert.InNormGrad0ReferenceIdeal.main_arg7)
      ∧ r.2.mem ((c.tc : Thread Cert.InNormGrad0ReferenceIdeal.nD Cert.InNormGrad0ReferenceIdeal.τ).loc Cert.InNormGrad0ReferenceIdeal.main_arg8) = m ((c.tc : Thread Cert.InNormGrad0ReferenceIdeal.nD Cert.InNormGrad0ReferenceIdeal.τ).loc Cert.InNormGrad0ReferenceIdeal.main_arg8))
      ∧ r.2.sem = fun _ => 0)

def quiescent_InZero [hInZero : Cert.InZero.Facts] : Prop :=
  ∀ (m : (ℓ : Loc Cert.InZero.nD Cert.InZero.τ Cert.InZero.sig) → Buf (Elt Bits) ℓ) (g : Dev Cert.InZero.nD → PrngReg), Pre_InZero m →
    θ_run (Cert.InZero.defs (F := Bits)) (onTc (τ := Cert.InZero.τ) (Cert.InZero.main (F := Bits))) ⟨m, fun _ => 0, g⟩ (fun r => (∀ c : Dev Cert.InZero.nD,
      r.2.mem ((c.tc : Thread Cert.InZero.nD Cert.InZero.τ).loc Cert.InZero.main_arg0) = m ((c.tc : Thread Cert.InZero.nD Cert.InZero.τ).loc Cert.InZero.main_arg0)
      ∧ r.2.mem ((c.tc : Thread Cert.InZero.nD Cert.InZero.τ).loc Cert.InZero.main_arg1) = m ((c.tc : Thread Cert.InZero.nD Cert.InZero.τ).loc Cert.InZero.main_arg1))
      ∧ r.2.sem = fun _ => 0)

def quiescent_InZeroIdeal [hInZeroIdeal : Cert.InZeroIdeal.Facts] : Prop :=
  ∀ (m : (ℓ : Loc Cert.InZeroIdeal.nD Cert.InZeroIdeal.τ Cert.InZeroIdeal.sig) → Buf (Elt Ideal) ℓ) (g : Dev Cert.InZeroIdeal.nD → PrngReg), Pre_InZeroIdeal m →
    θ_run (Cert.InZeroIdeal.defs (F := Ideal)) (onTc (τ := Cert.InZeroIdeal.τ) (Cert.InZeroIdeal.main (F := Ideal))) ⟨m, fun _ => 0, g⟩ (fun r => (∀ c : Dev Cert.InZeroIdeal.nD,
      r.2.mem ((c.tc : Thread Cert.InZeroIdeal.nD Cert.InZeroIdeal.τ).loc Cert.InZeroIdeal.main_arg0) = m ((c.tc : Thread Cert.InZeroIdeal.nD Cert.InZeroIdeal.τ).loc Cert.InZeroIdeal.main_arg0)
      ∧ r.2.mem ((c.tc : Thread Cert.InZeroIdeal.nD Cert.InZeroIdeal.τ).loc Cert.InZeroIdeal.main_arg1) = m ((c.tc : Thread Cert.InZeroIdeal.nD Cert.InZeroIdeal.τ).loc Cert.InZeroIdeal.main_arg1))
      ∧ r.2.sem = fun _ => 0)

def quiescent_InZeroReferenceIdeal [hInZeroReferenceIdeal : Cert.InZeroReferenceIdeal.Facts] : Prop :=
  ∀ (m : (ℓ : Loc Cert.InZeroReferenceIdeal.nD Cert.InZeroReferenceIdeal.τ Cert.InZeroReferenceIdeal.sig) → Buf (Elt Ideal) ℓ) (g : Dev Cert.InZeroReferenceIdeal.nD → PrngReg), Pre_InZeroReferenceIdeal m →
    θ_run (Cert.InZeroReferenceIdeal.defs (F := Ideal)) (onTc (τ := Cert.InZeroReferenceIdeal.τ) (Cert.InZeroReferenceIdeal.main (F := Ideal))) ⟨m, fun _ => 0, g⟩ (fun r => (∀ c : Dev Cert.InZeroReferenceIdeal.nD,
      r.2.mem ((c.tc : Thread Cert.InZeroReferenceIdeal.nD Cert.InZeroReferenceIdeal.τ).loc Cert.InZeroReferenceIdeal.main_arg0) = m ((c.tc : Thread Cert.InZeroReferenceIdeal.nD Cert.InZeroReferenceIdeal.τ).loc Cert.InZeroReferenceIdeal.main_arg0)
      ∧ r.2.mem ((c.tc : Thread Cert.InZeroReferenceIdeal.nD Cert.InZeroReferenceIdeal.τ).loc Cert.InZeroReferenceIdeal.main_arg1) = m ((c.tc : Thread Cert.InZeroReferenceIdeal.nD Cert.InZeroReferenceIdeal.τ).loc Cert.InZeroReferenceIdeal.main_arg1))
      ∧ r.2.sem = fun _ => 0)

def quiescent_InOne [hInOne : Cert.InOne.Facts] : Prop :=
  ∀ (m : (ℓ : Loc Cert.InOne.nD Cert.InOne.τ Cert.InOne.sig) → Buf (Elt Bits) ℓ) (g : Dev Cert.InOne.nD → PrngReg), Pre_InOne m →
    θ_run (Cert.InOne.defs (F := Bits)) (onTc (τ := Cert.InOne.τ) (Cert.InOne.main (F := Bits))) ⟨m, fun _ => 0, g⟩ (fun r => (∀ c : Dev Cert.InOne.nD,
      r.2.mem ((c.tc : Thread Cert.InOne.nD Cert.InOne.τ).loc Cert.InOne.main_arg0) = m ((c.tc : Thread Cert.InOne.nD Cert.InOne.τ).loc Cert.InOne.main_arg0)
      ∧ r.2.mem ((c.tc : Thread Cert.InOne.nD Cert.InOne.τ).loc Cert.InOne.main_arg1) = m ((c.tc : Thread Cert.InOne.nD Cert.InOne.τ).loc Cert.InOne.main_arg1))
      ∧ r.2.sem = fun _ => 0)

def quiescent_InOneIdeal [hInOneIdeal : Cert.InOneIdeal.Facts] : Prop :=
  ∀ (m : (ℓ : Loc Cert.InOneIdeal.nD Cert.InOneIdeal.τ Cert.InOneIdeal.sig) → Buf (Elt Ideal) ℓ) (g : Dev Cert.InOneIdeal.nD → PrngReg), Pre_InOneIdeal m →
    θ_run (Cert.InOneIdeal.defs (F := Ideal)) (onTc (τ := Cert.InOneIdeal.τ) (Cert.InOneIdeal.main (F := Ideal))) ⟨m, fun _ => 0, g⟩ (fun r => (∀ c : Dev Cert.InOneIdeal.nD,
      r.2.mem ((c.tc : Thread Cert.InOneIdeal.nD Cert.InOneIdeal.τ).loc Cert.InOneIdeal.main_arg0) = m ((c.tc : Thread Cert.InOneIdeal.nD Cert.InOneIdeal.τ).loc Cert.InOneIdeal.main_arg0)
      ∧ r.2.mem ((c.tc : Thread Cert.InOneIdeal.nD Cert.InOneIdeal.τ).loc Cert.InOneIdeal.main_arg1) = m ((c.tc : Thread Cert.InOneIdeal.nD Cert.InOneIdeal.τ).loc Cert.InOneIdeal.main_arg1))
      ∧ r.2.sem = fun _ => 0)

def quiescent_InOneReferenceIdeal [hInOneReferenceIdeal : Cert.InOneReferenceIdeal.Facts] : Prop :=
  ∀ (m : (ℓ : Loc Cert.InOneReferenceIdeal.nD Cert.InOneReferenceIdeal.τ Cert.InOneReferenceIdeal.sig) → Buf (Elt Ideal) ℓ) (g : Dev Cert.InOneReferenceIdeal.nD → PrngReg), Pre_InOneReferenceIdeal m →
    θ_run (Cert.InOneReferenceIdeal.defs (F := Ideal)) (onTc (τ := Cert.InOneReferenceIdeal.τ) (Cert.InOneReferenceIdeal.main (F := Ideal))) ⟨m, fun _ => 0, g⟩ (fun r => (∀ c : Dev Cert.InOneReferenceIdeal.nD,
      r.2.mem ((c.tc : Thread Cert.InOneReferenceIdeal.nD Cert.InOneReferenceIdeal.τ).loc Cert.InOneReferenceIdeal.main_arg0) = m ((c.tc : Thread Cert.InOneReferenceIdeal.nD Cert.InOneReferenceIdeal.τ).loc Cert.InOneReferenceIdeal.main_arg0)
      ∧ r.2.mem ((c.tc : Thread Cert.InOneReferenceIdeal.nD Cert.InOneReferenceIdeal.τ).loc Cert.InOneReferenceIdeal.main_arg1) = m ((c.tc : Thread Cert.InOneReferenceIdeal.nD Cert.InOneReferenceIdeal.τ).loc Cert.InOneReferenceIdeal.main_arg1))
      ∧ r.2.sem = fun _ => 0)

def quiescent_DownOne [hDownOne : Cert.DownOne.Facts] : Prop :=
  ∀ (m : (ℓ : Loc Cert.DownOne.nD Cert.DownOne.τ Cert.DownOne.sig) → Buf (Elt Bits) ℓ) (g : Dev Cert.DownOne.nD → PrngReg), Pre_DownOne m →
    θ_run (Cert.DownOne.defs (F := Bits)) (onTc (τ := Cert.DownOne.τ) (Cert.DownOne.main (F := Bits))) ⟨m, fun _ => 0, g⟩ (fun r => (∀ c : Dev Cert.DownOne.nD,
      r.2.mem ((c.tc : Thread Cert.DownOne.nD Cert.DownOne.τ).loc Cert.DownOne.main_arg0) = m ((c.tc : Thread Cert.DownOne.nD Cert.DownOne.τ).loc Cert.DownOne.main_arg0)
      ∧ r.2.mem ((c.tc : Thread Cert.DownOne.nD Cert.DownOne.τ).loc Cert.DownOne.main_arg1) = m ((c.tc : Thread Cert.DownOne.nD Cert.DownOne.τ).loc Cert.DownOne.main_arg1)
      ∧ r.2.mem ((c.tc : Thread Cert.DownOne.nD Cert.DownOne.τ).loc Cert.DownOne.main_arg2) = m ((c.tc : Thread Cert.DownOne.nD Cert.DownOne.τ).loc Cert.DownOne.main_arg2))
      ∧ r.2.sem = fun _ => 0)

def quiescent_DownOneIdeal [hDownOneIdeal : Cert.DownOneIdeal.Facts] : Prop :=
  ∀ (m : (ℓ : Loc Cert.DownOneIdeal.nD Cert.DownOneIdeal.τ Cert.DownOneIdeal.sig) → Buf (Elt Ideal) ℓ) (g : Dev Cert.DownOneIdeal.nD → PrngReg), Pre_DownOneIdeal m →
    θ_run (Cert.DownOneIdeal.defs (F := Ideal)) (onTc (τ := Cert.DownOneIdeal.τ) (Cert.DownOneIdeal.main (F := Ideal))) ⟨m, fun _ => 0, g⟩ (fun r => (∀ c : Dev Cert.DownOneIdeal.nD,
      r.2.mem ((c.tc : Thread Cert.DownOneIdeal.nD Cert.DownOneIdeal.τ).loc Cert.DownOneIdeal.main_arg0) = m ((c.tc : Thread Cert.DownOneIdeal.nD Cert.DownOneIdeal.τ).loc Cert.DownOneIdeal.main_arg0)
      ∧ r.2.mem ((c.tc : Thread Cert.DownOneIdeal.nD Cert.DownOneIdeal.τ).loc Cert.DownOneIdeal.main_arg1) = m ((c.tc : Thread Cert.DownOneIdeal.nD Cert.DownOneIdeal.τ).loc Cert.DownOneIdeal.main_arg1)
      ∧ r.2.mem ((c.tc : Thread Cert.DownOneIdeal.nD Cert.DownOneIdeal.τ).loc Cert.DownOneIdeal.main_arg2) = m ((c.tc : Thread Cert.DownOneIdeal.nD Cert.DownOneIdeal.τ).loc Cert.DownOneIdeal.main_arg2))
      ∧ r.2.sem = fun _ => 0)

def quiescent_DownOneReferenceIdeal [hDownOneReferenceIdeal : Cert.DownOneReferenceIdeal.Facts] : Prop :=
  ∀ (m : (ℓ : Loc Cert.DownOneReferenceIdeal.nD Cert.DownOneReferenceIdeal.τ Cert.DownOneReferenceIdeal.sig) → Buf (Elt Ideal) ℓ) (g : Dev Cert.DownOneReferenceIdeal.nD → PrngReg), Pre_DownOneReferenceIdeal m →
    θ_run (Cert.DownOneReferenceIdeal.defs (F := Ideal)) (onTc (τ := Cert.DownOneReferenceIdeal.τ) (Cert.DownOneReferenceIdeal.main (F := Ideal))) ⟨m, fun _ => 0, g⟩ (fun r => (∀ c : Dev Cert.DownOneReferenceIdeal.nD,
      r.2.mem ((c.tc : Thread Cert.DownOneReferenceIdeal.nD Cert.DownOneReferenceIdeal.τ).loc Cert.DownOneReferenceIdeal.main_arg0) = m ((c.tc : Thread Cert.DownOneReferenceIdeal.nD Cert.DownOneReferenceIdeal.τ).loc Cert.DownOneReferenceIdeal.main_arg0)
      ∧ r.2.mem ((c.tc : Thread Cert.DownOneReferenceIdeal.nD Cert.DownOneReferenceIdeal.τ).loc Cert.DownOneReferenceIdeal.main_arg1) = m ((c.tc : Thread Cert.DownOneReferenceIdeal.nD Cert.DownOneReferenceIdeal.τ).loc Cert.DownOneReferenceIdeal.main_arg1)
      ∧ r.2.mem ((c.tc : Thread Cert.DownOneReferenceIdeal.nD Cert.DownOneReferenceIdeal.τ).loc Cert.DownOneReferenceIdeal.main_arg2) = m ((c.tc : Thread Cert.DownOneReferenceIdeal.nD Cert.DownOneReferenceIdeal.τ).loc Cert.DownOneReferenceIdeal.main_arg2))
      ∧ r.2.sem = fun _ => 0)

def quiescent_DownZero [hDownZero : Cert.DownZero.Facts] : Prop :=
  ∀ (m : (ℓ : Loc Cert.DownZero.nD Cert.DownZero.τ Cert.DownZero.sig) → Buf (Elt Bits) ℓ) (g : Dev Cert.DownZero.nD → PrngReg), Pre_DownZero m →
    θ_run (Cert.DownZero.defs (F := Bits)) (onTc (τ := Cert.DownZero.τ) (Cert.DownZero.main (F := Bits))) ⟨m, fun _ => 0, g⟩ (fun r => (∀ c : Dev Cert.DownZero.nD,
      r.2.mem ((c.tc : Thread Cert.DownZero.nD Cert.DownZero.τ).loc Cert.DownZero.main_arg0) = m ((c.tc : Thread Cert.DownZero.nD Cert.DownZero.τ).loc Cert.DownZero.main_arg0)
      ∧ r.2.mem ((c.tc : Thread Cert.DownZero.nD Cert.DownZero.τ).loc Cert.DownZero.main_arg1) = m ((c.tc : Thread Cert.DownZero.nD Cert.DownZero.τ).loc Cert.DownZero.main_arg1)
      ∧ r.2.mem ((c.tc : Thread Cert.DownZero.nD Cert.DownZero.τ).loc Cert.DownZero.main_arg2) = m ((c.tc : Thread Cert.DownZero.nD Cert.DownZero.τ).loc Cert.DownZero.main_arg2)
      ∧ r.2.mem ((c.tc : Thread Cert.DownZero.nD Cert.DownZero.τ).loc Cert.DownZero.main_arg3) = m ((c.tc : Thread Cert.DownZero.nD Cert.DownZero.τ).loc Cert.DownZero.main_arg3))
      ∧ r.2.sem = fun _ => 0)

def quiescent_DownZeroIdeal [hDownZeroIdeal : Cert.DownZeroIdeal.Facts] : Prop :=
  ∀ (m : (ℓ : Loc Cert.DownZeroIdeal.nD Cert.DownZeroIdeal.τ Cert.DownZeroIdeal.sig) → Buf (Elt Ideal) ℓ) (g : Dev Cert.DownZeroIdeal.nD → PrngReg), Pre_DownZeroIdeal m →
    θ_run (Cert.DownZeroIdeal.defs (F := Ideal)) (onTc (τ := Cert.DownZeroIdeal.τ) (Cert.DownZeroIdeal.main (F := Ideal))) ⟨m, fun _ => 0, g⟩ (fun r => (∀ c : Dev Cert.DownZeroIdeal.nD,
      r.2.mem ((c.tc : Thread Cert.DownZeroIdeal.nD Cert.DownZeroIdeal.τ).loc Cert.DownZeroIdeal.main_arg0) = m ((c.tc : Thread Cert.DownZeroIdeal.nD Cert.DownZeroIdeal.τ).loc Cert.DownZeroIdeal.main_arg0)
      ∧ r.2.mem ((c.tc : Thread Cert.DownZeroIdeal.nD Cert.DownZeroIdeal.τ).loc Cert.DownZeroIdeal.main_arg1) = m ((c.tc : Thread Cert.DownZeroIdeal.nD Cert.DownZeroIdeal.τ).loc Cert.DownZeroIdeal.main_arg1)
      ∧ r.2.mem ((c.tc : Thread Cert.DownZeroIdeal.nD Cert.DownZeroIdeal.τ).loc Cert.DownZeroIdeal.main_arg2) = m ((c.tc : Thread Cert.DownZeroIdeal.nD Cert.DownZeroIdeal.τ).loc Cert.DownZeroIdeal.main_arg2)
      ∧ r.2.mem ((c.tc : Thread Cert.DownZeroIdeal.nD Cert.DownZeroIdeal.τ).loc Cert.DownZeroIdeal.main_arg3) = m ((c.tc : Thread Cert.DownZeroIdeal.nD Cert.DownZeroIdeal.τ).loc Cert.DownZeroIdeal.main_arg3))
      ∧ r.2.sem = fun _ => 0)

def quiescent_DownZeroReferenceIdeal [hDownZeroReferenceIdeal : Cert.DownZeroReferenceIdeal.Facts] : Prop :=
  ∀ (m : (ℓ : Loc Cert.DownZeroReferenceIdeal.nD Cert.DownZeroReferenceIdeal.τ Cert.DownZeroReferenceIdeal.sig) → Buf (Elt Ideal) ℓ) (g : Dev Cert.DownZeroReferenceIdeal.nD → PrngReg), Pre_DownZeroReferenceIdeal m →
    θ_run (Cert.DownZeroReferenceIdeal.defs (F := Ideal)) (onTc (τ := Cert.DownZeroReferenceIdeal.τ) (Cert.DownZeroReferenceIdeal.main (F := Ideal))) ⟨m, fun _ => 0, g⟩ (fun r => (∀ c : Dev Cert.DownZeroReferenceIdeal.nD,
      r.2.mem ((c.tc : Thread Cert.DownZeroReferenceIdeal.nD Cert.DownZeroReferenceIdeal.τ).loc Cert.DownZeroReferenceIdeal.main_arg0) = m ((c.tc : Thread Cert.DownZeroReferenceIdeal.nD Cert.DownZeroReferenceIdeal.τ).loc Cert.DownZeroReferenceIdeal.main_arg0)
      ∧ r.2.mem ((c.tc : Thread Cert.DownZeroReferenceIdeal.nD Cert.DownZeroReferenceIdeal.τ).loc Cert.DownZeroReferenceIdeal.main_arg1) = m ((c.tc : Thread Cert.DownZeroReferenceIdeal.nD Cert.DownZeroReferenceIdeal.τ).loc Cert.DownZeroReferenceIdeal.main_arg1)
      ∧ r.2.mem ((c.tc : Thread Cert.DownZeroReferenceIdeal.nD Cert.DownZeroReferenceIdeal.τ).loc Cert.DownZeroReferenceIdeal.main_arg2) = m ((c.tc : Thread Cert.DownZeroReferenceIdeal.nD Cert.DownZeroReferenceIdeal.τ).loc Cert.DownZeroReferenceIdeal.main_arg2)
      ∧ r.2.mem ((c.tc : Thread Cert.DownZeroReferenceIdeal.nD Cert.DownZeroReferenceIdeal.τ).loc Cert.DownZeroReferenceIdeal.main_arg3) = m ((c.tc : Thread Cert.DownZeroReferenceIdeal.nD Cert.DownZeroReferenceIdeal.τ).loc Cert.DownZeroReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionIdeal_pre_finite_attention [hAttentionIdeal : Cert.AttentionIdeal.Facts] [hPre_finite_attention : Cert.Pre_finite_attention.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_attention m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def quiescent_AttentionReferenceIdeal_pre_finite_attention [hAttentionReferenceIdeal : Cert.AttentionReferenceIdeal.Facts] [hPre_finite_attention : Cert.Pre_finite_attention.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_attention m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1))
      ∧ r.2.sem = fun _ => 0)

def quiescent_NormZero [hNormZero : Cert.NormZero.Facts] : Prop :=
  ∀ (m : (ℓ : Loc Cert.NormZero.nD Cert.NormZero.τ Cert.NormZero.sig) → Buf (Elt Bits) ℓ) (g : Dev Cert.NormZero.nD → PrngReg), Pre_NormZero m →
    θ_run (Cert.NormZero.defs (F := Bits)) (onTc (τ := Cert.NormZero.τ) (Cert.NormZero.main (F := Bits))) ⟨m, fun _ => 0, g⟩ (fun r => (∀ c : Dev Cert.NormZero.nD,
      r.2.mem ((c.tc : Thread Cert.NormZero.nD Cert.NormZero.τ).loc Cert.NormZero.main_arg0) = m ((c.tc : Thread Cert.NormZero.nD Cert.NormZero.τ).loc Cert.NormZero.main_arg0)
      ∧ r.2.mem ((c.tc : Thread Cert.NormZero.nD Cert.NormZero.τ).loc Cert.NormZero.main_arg1) = m ((c.tc : Thread Cert.NormZero.nD Cert.NormZero.τ).loc Cert.NormZero.main_arg1))
      ∧ r.2.sem = fun _ => 0)

def quiescent_NormZeroIdeal [hNormZeroIdeal : Cert.NormZeroIdeal.Facts] : Prop :=
  ∀ (m : (ℓ : Loc Cert.NormZeroIdeal.nD Cert.NormZeroIdeal.τ Cert.NormZeroIdeal.sig) → Buf (Elt Ideal) ℓ) (g : Dev Cert.NormZeroIdeal.nD → PrngReg), Pre_NormZeroIdeal m →
    θ_run (Cert.NormZeroIdeal.defs (F := Ideal)) (onTc (τ := Cert.NormZeroIdeal.τ) (Cert.NormZeroIdeal.main (F := Ideal))) ⟨m, fun _ => 0, g⟩ (fun r => (∀ c : Dev Cert.NormZeroIdeal.nD,
      r.2.mem ((c.tc : Thread Cert.NormZeroIdeal.nD Cert.NormZeroIdeal.τ).loc Cert.NormZeroIdeal.main_arg0) = m ((c.tc : Thread Cert.NormZeroIdeal.nD Cert.NormZeroIdeal.τ).loc Cert.NormZeroIdeal.main_arg0)
      ∧ r.2.mem ((c.tc : Thread Cert.NormZeroIdeal.nD Cert.NormZeroIdeal.τ).loc Cert.NormZeroIdeal.main_arg1) = m ((c.tc : Thread Cert.NormZeroIdeal.nD Cert.NormZeroIdeal.τ).loc Cert.NormZeroIdeal.main_arg1))
      ∧ r.2.sem = fun _ => 0)

def quiescent_NormZeroReferenceIdeal [hNormZeroReferenceIdeal : Cert.NormZeroReferenceIdeal.Facts] : Prop :=
  ∀ (m : (ℓ : Loc Cert.NormZeroReferenceIdeal.nD Cert.NormZeroReferenceIdeal.τ Cert.NormZeroReferenceIdeal.sig) → Buf (Elt Ideal) ℓ) (g : Dev Cert.NormZeroReferenceIdeal.nD → PrngReg), Pre_NormZeroReferenceIdeal m →
    θ_run (Cert.NormZeroReferenceIdeal.defs (F := Ideal)) (onTc (τ := Cert.NormZeroReferenceIdeal.τ) (Cert.NormZeroReferenceIdeal.main (F := Ideal))) ⟨m, fun _ => 0, g⟩ (fun r => (∀ c : Dev Cert.NormZeroReferenceIdeal.nD,
      r.2.mem ((c.tc : Thread Cert.NormZeroReferenceIdeal.nD Cert.NormZeroReferenceIdeal.τ).loc Cert.NormZeroReferenceIdeal.main_arg0) = m ((c.tc : Thread Cert.NormZeroReferenceIdeal.nD Cert.NormZeroReferenceIdeal.τ).loc Cert.NormZeroReferenceIdeal.main_arg0)
      ∧ r.2.mem ((c.tc : Thread Cert.NormZeroReferenceIdeal.nD Cert.NormZeroReferenceIdeal.τ).loc Cert.NormZeroReferenceIdeal.main_arg1) = m ((c.tc : Thread Cert.NormZeroReferenceIdeal.nD Cert.NormZeroReferenceIdeal.τ).loc Cert.NormZeroReferenceIdeal.main_arg1))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4)
      ∧ r.2.mem ((c.tc : Thread Cert.AdamwOut.nD Cert.AdamwOut.τ).loc Cert.AdamwOut.main_arg5) = m ((c.tc : Thread Cert.AdamwOut.nD Cert.AdamwOut.τ).loc Cert.AdamwOut.main_arg5))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
      ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3)
      ∧ r.2.mem ((c.tc : Thread Cert.AdamwOutReferenceIdeal.nD Cert.AdamwOutReferenceIdeal.τ).loc Cert.AdamwOutReferenceIdeal.main_arg4) = m ((c.tc : Thread Cert.AdamwOutReferenceIdeal.nD Cert.AdamwOutReferenceIdeal.τ).loc Cert.AdamwOutReferenceIdeal.main_arg4)
      ∧ r.2.mem ((c.tc : Thread Cert.AdamwOutReferenceIdeal.nD Cert.AdamwOutReferenceIdeal.τ).loc Cert.AdamwOutReferenceIdeal.main_arg5) = m ((c.tc : Thread Cert.AdamwOutReferenceIdeal.nD Cert.AdamwOutReferenceIdeal.τ).loc Cert.AdamwOutReferenceIdeal.main_arg5))
      ∧ r.2.sem = fun _ => 0)

def quiescent_AdamwInZero [hAdamwInZero : Cert.AdamwInZero.Facts] : Prop :=
  ∀ (m : (ℓ : Loc Cert.AdamwInZero.nD Cert.AdamwInZero.τ Cert.AdamwInZero.sig) → Buf (Elt Bits) ℓ) (g : Dev Cert.AdamwInZero.nD → PrngReg), Pre_AdamwInZero m →
    θ_run (Cert.AdamwInZero.defs (F := Bits)) (onTc (τ := Cert.AdamwInZero.τ) (Cert.AdamwInZero.main (F := Bits))) ⟨m, fun _ => 0, g⟩ (fun r => (∀ c : Dev Cert.AdamwInZero.nD,
      r.2.mem ((c.tc : Thread Cert.AdamwInZero.nD Cert.AdamwInZero.τ).loc Cert.AdamwInZero.main_arg0) = m ((c.tc : Thread Cert.AdamwInZero.nD Cert.AdamwInZero.τ).loc Cert.AdamwInZero.main_arg0)
      ∧ r.2.mem ((c.tc : Thread Cert.AdamwInZero.nD Cert.AdamwInZero.τ).loc Cert.AdamwInZero.main_arg1) = m ((c.tc : Thread Cert.AdamwInZero.nD Cert.AdamwInZero.τ).loc Cert.AdamwInZero.main_arg1)
      ∧ r.2.mem ((c.tc : Thread Cert.AdamwInZero.nD Cert.AdamwInZero.τ).loc Cert.AdamwInZero.main_arg2) = m ((c.tc : Thread Cert.AdamwInZero.nD Cert.AdamwInZero.τ).loc Cert.AdamwInZero.main_arg2)
      ∧ r.2.mem ((c.tc : Thread Cert.AdamwInZero.nD Cert.AdamwInZero.τ).loc Cert.AdamwInZero.main_arg3) = m ((c.tc : Thread Cert.AdamwInZero.nD Cert.AdamwInZero.τ).loc Cert.AdamwInZero.main_arg3)
      ∧ r.2.mem ((c.tc : Thread Cert.AdamwInZero.nD Cert.AdamwInZero.τ).loc Cert.AdamwInZero.main_arg4) = m ((c.tc : Thread Cert.AdamwInZero.nD Cert.AdamwInZero.τ).loc Cert.AdamwInZero.main_arg4)
      ∧ r.2.mem ((c.tc : Thread Cert.AdamwInZero.nD Cert.AdamwInZero.τ).loc Cert.AdamwInZero.main_arg5) = m ((c.tc : Thread Cert.AdamwInZero.nD Cert.AdamwInZero.τ).loc Cert.AdamwInZero.main_arg5))
      ∧ r.2.sem = fun _ => 0)

def quiescent_AdamwInZeroIdeal [hAdamwInZeroIdeal : Cert.AdamwInZeroIdeal.Facts] : Prop :=
  ∀ (m : (ℓ : Loc Cert.AdamwInZeroIdeal.nD Cert.AdamwInZeroIdeal.τ Cert.AdamwInZeroIdeal.sig) → Buf (Elt Ideal) ℓ) (g : Dev Cert.AdamwInZeroIdeal.nD → PrngReg), Pre_AdamwInZeroIdeal m →
    θ_run (Cert.AdamwInZeroIdeal.defs (F := Ideal)) (onTc (τ := Cert.AdamwInZeroIdeal.τ) (Cert.AdamwInZeroIdeal.main (F := Ideal))) ⟨m, fun _ => 0, g⟩ (fun r => (∀ c : Dev Cert.AdamwInZeroIdeal.nD,
      r.2.mem ((c.tc : Thread Cert.AdamwInZeroIdeal.nD Cert.AdamwInZeroIdeal.τ).loc Cert.AdamwInZeroIdeal.main_arg0) = m ((c.tc : Thread Cert.AdamwInZeroIdeal.nD Cert.AdamwInZeroIdeal.τ).loc Cert.AdamwInZeroIdeal.main_arg0)
      ∧ r.2.mem ((c.tc : Thread Cert.AdamwInZeroIdeal.nD Cert.AdamwInZeroIdeal.τ).loc Cert.AdamwInZeroIdeal.main_arg1) = m ((c.tc : Thread Cert.AdamwInZeroIdeal.nD Cert.AdamwInZeroIdeal.τ).loc Cert.AdamwInZeroIdeal.main_arg1)
      ∧ r.2.mem ((c.tc : Thread Cert.AdamwInZeroIdeal.nD Cert.AdamwInZeroIdeal.τ).loc Cert.AdamwInZeroIdeal.main_arg2) = m ((c.tc : Thread Cert.AdamwInZeroIdeal.nD Cert.AdamwInZeroIdeal.τ).loc Cert.AdamwInZeroIdeal.main_arg2)
      ∧ r.2.mem ((c.tc : Thread Cert.AdamwInZeroIdeal.nD Cert.AdamwInZeroIdeal.τ).loc Cert.AdamwInZeroIdeal.main_arg3) = m ((c.tc : Thread Cert.AdamwInZeroIdeal.nD Cert.AdamwInZeroIdeal.τ).loc Cert.AdamwInZeroIdeal.main_arg3)
      ∧ r.2.mem ((c.tc : Thread Cert.AdamwInZeroIdeal.nD Cert.AdamwInZeroIdeal.τ).loc Cert.AdamwInZeroIdeal.main_arg4) = m ((c.tc : Thread Cert.AdamwInZeroIdeal.nD Cert.AdamwInZeroIdeal.τ).loc Cert.AdamwInZeroIdeal.main_arg4)
      ∧ r.2.mem ((c.tc : Thread Cert.AdamwInZeroIdeal.nD Cert.AdamwInZeroIdeal.τ).loc Cert.AdamwInZeroIdeal.main_arg5) = m ((c.tc : Thread Cert.AdamwInZeroIdeal.nD Cert.AdamwInZeroIdeal.τ).loc Cert.AdamwInZeroIdeal.main_arg5))
      ∧ r.2.sem = fun _ => 0)

def quiescent_AdamwInZeroReferenceIdeal [hAdamwInZeroReferenceIdeal : Cert.AdamwInZeroReferenceIdeal.Facts] : Prop :=
  ∀ (m : (ℓ : Loc Cert.AdamwInZeroReferenceIdeal.nD Cert.AdamwInZeroReferenceIdeal.τ Cert.AdamwInZeroReferenceIdeal.sig) → Buf (Elt Ideal) ℓ) (g : Dev Cert.AdamwInZeroReferenceIdeal.nD → PrngReg), Pre_AdamwInZeroReferenceIdeal m →
    θ_run (Cert.AdamwInZeroReferenceIdeal.defs (F := Ideal)) (onTc (τ := Cert.AdamwInZeroReferenceIdeal.τ) (Cert.AdamwInZeroReferenceIdeal.main (F := Ideal))) ⟨m, fun _ => 0, g⟩ (fun r => (∀ c : Dev Cert.AdamwInZeroReferenceIdeal.nD,
      r.2.mem ((c.tc : Thread Cert.AdamwInZeroReferenceIdeal.nD Cert.AdamwInZeroReferenceIdeal.τ).loc Cert.AdamwInZeroReferenceIdeal.main_arg0) = m ((c.tc : Thread Cert.AdamwInZeroReferenceIdeal.nD Cert.AdamwInZeroReferenceIdeal.τ).loc Cert.AdamwInZeroReferenceIdeal.main_arg0)
      ∧ r.2.mem ((c.tc : Thread Cert.AdamwInZeroReferenceIdeal.nD Cert.AdamwInZeroReferenceIdeal.τ).loc Cert.AdamwInZeroReferenceIdeal.main_arg1) = m ((c.tc : Thread Cert.AdamwInZeroReferenceIdeal.nD Cert.AdamwInZeroReferenceIdeal.τ).loc Cert.AdamwInZeroReferenceIdeal.main_arg1)
      ∧ r.2.mem ((c.tc : Thread Cert.AdamwInZeroReferenceIdeal.nD Cert.AdamwInZeroReferenceIdeal.τ).loc Cert.AdamwInZeroReferenceIdeal.main_arg2) = m ((c.tc : Thread Cert.AdamwInZeroReferenceIdeal.nD Cert.AdamwInZeroReferenceIdeal.τ).loc Cert.AdamwInZeroReferenceIdeal.main_arg2)
      ∧ r.2.mem ((c.tc : Thread Cert.AdamwInZeroReferenceIdeal.nD Cert.AdamwInZeroReferenceIdeal.τ).loc Cert.AdamwInZeroReferenceIdeal.main_arg3) = m ((c.tc : Thread Cert.AdamwInZeroReferenceIdeal.nD Cert.AdamwInZeroReferenceIdeal.τ).loc Cert.AdamwInZeroReferenceIdeal.main_arg3)
      ∧ r.2.mem ((c.tc : Thread Cert.AdamwInZeroReferenceIdeal.nD Cert.AdamwInZeroReferenceIdeal.τ).loc Cert.AdamwInZeroReferenceIdeal.main_arg4) = m ((c.tc : Thread Cert.AdamwInZeroReferenceIdeal.nD Cert.AdamwInZeroReferenceIdeal.τ).loc Cert.AdamwInZeroReferenceIdeal.main_arg4)
      ∧ r.2.mem ((c.tc : Thread Cert.AdamwInZeroReferenceIdeal.nD Cert.AdamwInZeroReferenceIdeal.τ).loc Cert.AdamwInZeroReferenceIdeal.main_arg5) = m ((c.tc : Thread Cert.AdamwInZeroReferenceIdeal.nD Cert.AdamwInZeroReferenceIdeal.τ).loc Cert.AdamwInZeroReferenceIdeal.main_arg5))
      ∧ r.2.sem = fun _ => 0)

def quiescent_AdamwInOne [hAdamwInOne : Cert.AdamwInOne.Facts] : Prop :=
  ∀ (m : (ℓ : Loc Cert.AdamwInOne.nD Cert.AdamwInOne.τ Cert.AdamwInOne.sig) → Buf (Elt Bits) ℓ) (g : Dev Cert.AdamwInOne.nD → PrngReg), Pre_AdamwInOne m →
    θ_run (Cert.AdamwInOne.defs (F := Bits)) (onTc (τ := Cert.AdamwInOne.τ) (Cert.AdamwInOne.main (F := Bits))) ⟨m, fun _ => 0, g⟩ (fun r => (∀ c : Dev Cert.AdamwInOne.nD,
      r.2.mem ((c.tc : Thread Cert.AdamwInOne.nD Cert.AdamwInOne.τ).loc Cert.AdamwInOne.main_arg0) = m ((c.tc : Thread Cert.AdamwInOne.nD Cert.AdamwInOne.τ).loc Cert.AdamwInOne.main_arg0)
      ∧ r.2.mem ((c.tc : Thread Cert.AdamwInOne.nD Cert.AdamwInOne.τ).loc Cert.AdamwInOne.main_arg1) = m ((c.tc : Thread Cert.AdamwInOne.nD Cert.AdamwInOne.τ).loc Cert.AdamwInOne.main_arg1)
      ∧ r.2.mem ((c.tc : Thread Cert.AdamwInOne.nD Cert.AdamwInOne.τ).loc Cert.AdamwInOne.main_arg2) = m ((c.tc : Thread Cert.AdamwInOne.nD Cert.AdamwInOne.τ).loc Cert.AdamwInOne.main_arg2)
      ∧ r.2.mem ((c.tc : Thread Cert.AdamwInOne.nD Cert.AdamwInOne.τ).loc Cert.AdamwInOne.main_arg3) = m ((c.tc : Thread Cert.AdamwInOne.nD Cert.AdamwInOne.τ).loc Cert.AdamwInOne.main_arg3)
      ∧ r.2.mem ((c.tc : Thread Cert.AdamwInOne.nD Cert.AdamwInOne.τ).loc Cert.AdamwInOne.main_arg4) = m ((c.tc : Thread Cert.AdamwInOne.nD Cert.AdamwInOne.τ).loc Cert.AdamwInOne.main_arg4)
      ∧ r.2.mem ((c.tc : Thread Cert.AdamwInOne.nD Cert.AdamwInOne.τ).loc Cert.AdamwInOne.main_arg5) = m ((c.tc : Thread Cert.AdamwInOne.nD Cert.AdamwInOne.τ).loc Cert.AdamwInOne.main_arg5))
      ∧ r.2.sem = fun _ => 0)

def quiescent_AdamwInOneIdeal [hAdamwInOneIdeal : Cert.AdamwInOneIdeal.Facts] : Prop :=
  ∀ (m : (ℓ : Loc Cert.AdamwInOneIdeal.nD Cert.AdamwInOneIdeal.τ Cert.AdamwInOneIdeal.sig) → Buf (Elt Ideal) ℓ) (g : Dev Cert.AdamwInOneIdeal.nD → PrngReg), Pre_AdamwInOneIdeal m →
    θ_run (Cert.AdamwInOneIdeal.defs (F := Ideal)) (onTc (τ := Cert.AdamwInOneIdeal.τ) (Cert.AdamwInOneIdeal.main (F := Ideal))) ⟨m, fun _ => 0, g⟩ (fun r => (∀ c : Dev Cert.AdamwInOneIdeal.nD,
      r.2.mem ((c.tc : Thread Cert.AdamwInOneIdeal.nD Cert.AdamwInOneIdeal.τ).loc Cert.AdamwInOneIdeal.main_arg0) = m ((c.tc : Thread Cert.AdamwInOneIdeal.nD Cert.AdamwInOneIdeal.τ).loc Cert.AdamwInOneIdeal.main_arg0)
      ∧ r.2.mem ((c.tc : Thread Cert.AdamwInOneIdeal.nD Cert.AdamwInOneIdeal.τ).loc Cert.AdamwInOneIdeal.main_arg1) = m ((c.tc : Thread Cert.AdamwInOneIdeal.nD Cert.AdamwInOneIdeal.τ).loc Cert.AdamwInOneIdeal.main_arg1)
      ∧ r.2.mem ((c.tc : Thread Cert.AdamwInOneIdeal.nD Cert.AdamwInOneIdeal.τ).loc Cert.AdamwInOneIdeal.main_arg2) = m ((c.tc : Thread Cert.AdamwInOneIdeal.nD Cert.AdamwInOneIdeal.τ).loc Cert.AdamwInOneIdeal.main_arg2)
      ∧ r.2.mem ((c.tc : Thread Cert.AdamwInOneIdeal.nD Cert.AdamwInOneIdeal.τ).loc Cert.AdamwInOneIdeal.main_arg3) = m ((c.tc : Thread Cert.AdamwInOneIdeal.nD Cert.AdamwInOneIdeal.τ).loc Cert.AdamwInOneIdeal.main_arg3)
      ∧ r.2.mem ((c.tc : Thread Cert.AdamwInOneIdeal.nD Cert.AdamwInOneIdeal.τ).loc Cert.AdamwInOneIdeal.main_arg4) = m ((c.tc : Thread Cert.AdamwInOneIdeal.nD Cert.AdamwInOneIdeal.τ).loc Cert.AdamwInOneIdeal.main_arg4)
      ∧ r.2.mem ((c.tc : Thread Cert.AdamwInOneIdeal.nD Cert.AdamwInOneIdeal.τ).loc Cert.AdamwInOneIdeal.main_arg5) = m ((c.tc : Thread Cert.AdamwInOneIdeal.nD Cert.AdamwInOneIdeal.τ).loc Cert.AdamwInOneIdeal.main_arg5))
      ∧ r.2.sem = fun _ => 0)

def quiescent_AdamwInOneReferenceIdeal [hAdamwInOneReferenceIdeal : Cert.AdamwInOneReferenceIdeal.Facts] : Prop :=
  ∀ (m : (ℓ : Loc Cert.AdamwInOneReferenceIdeal.nD Cert.AdamwInOneReferenceIdeal.τ Cert.AdamwInOneReferenceIdeal.sig) → Buf (Elt Ideal) ℓ) (g : Dev Cert.AdamwInOneReferenceIdeal.nD → PrngReg), Pre_AdamwInOneReferenceIdeal m →
    θ_run (Cert.AdamwInOneReferenceIdeal.defs (F := Ideal)) (onTc (τ := Cert.AdamwInOneReferenceIdeal.τ) (Cert.AdamwInOneReferenceIdeal.main (F := Ideal))) ⟨m, fun _ => 0, g⟩ (fun r => (∀ c : Dev Cert.AdamwInOneReferenceIdeal.nD,
      r.2.mem ((c.tc : Thread Cert.AdamwInOneReferenceIdeal.nD Cert.AdamwInOneReferenceIdeal.τ).loc Cert.AdamwInOneReferenceIdeal.main_arg0) = m ((c.tc : Thread Cert.AdamwInOneReferenceIdeal.nD Cert.AdamwInOneReferenceIdeal.τ).loc Cert.AdamwInOneReferenceIdeal.main_arg0)
      ∧ r.2.mem ((c.tc : Thread Cert.AdamwInOneReferenceIdeal.nD Cert.AdamwInOneReferenceIdeal.τ).loc Cert.AdamwInOneReferenceIdeal.main_arg1) = m ((c.tc : Thread Cert.AdamwInOneReferenceIdeal.nD Cert.AdamwInOneReferenceIdeal.τ).loc Cert.AdamwInOneReferenceIdeal.main_arg1)
      ∧ r.2.mem ((c.tc : Thread Cert.AdamwInOneReferenceIdeal.nD Cert.AdamwInOneReferenceIdeal.τ).loc Cert.AdamwInOneReferenceIdeal.main_arg2) = m ((c.tc : Thread Cert.AdamwInOneReferenceIdeal.nD Cert.AdamwInOneReferenceIdeal.τ).loc Cert.AdamwInOneReferenceIdeal.main_arg2)
      ∧ r.2.mem ((c.tc : Thread Cert.AdamwInOneReferenceIdeal.nD Cert.AdamwInOneReferenceIdeal.τ).loc Cert.AdamwInOneReferenceIdeal.main_arg3) = m ((c.tc : Thread Cert.AdamwInOneReferenceIdeal.nD Cert.AdamwInOneReferenceIdeal.τ).loc Cert.AdamwInOneReferenceIdeal.main_arg3)
      ∧ r.2.mem ((c.tc : Thread Cert.AdamwInOneReferenceIdeal.nD Cert.AdamwInOneReferenceIdeal.τ).loc Cert.AdamwInOneReferenceIdeal.main_arg4) = m ((c.tc : Thread Cert.AdamwInOneReferenceIdeal.nD Cert.AdamwInOneReferenceIdeal.τ).loc Cert.AdamwInOneReferenceIdeal.main_arg4)
      ∧ r.2.mem ((c.tc : Thread Cert.AdamwInOneReferenceIdeal.nD Cert.AdamwInOneReferenceIdeal.τ).loc Cert.AdamwInOneReferenceIdeal.main_arg5) = m ((c.tc : Thread Cert.AdamwInOneReferenceIdeal.nD Cert.AdamwInOneReferenceIdeal.τ).loc Cert.AdamwInOneReferenceIdeal.main_arg5))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3)
      ∧ r.2.mem ((c.tc : Thread Cert.AdamwUp.nD Cert.AdamwUp.τ).loc Cert.AdamwUp.main_arg4) = m ((c.tc : Thread Cert.AdamwUp.nD Cert.AdamwUp.τ).loc Cert.AdamwUp.main_arg4)
      ∧ r.2.mem ((c.tc : Thread Cert.AdamwUp.nD Cert.AdamwUp.τ).loc Cert.AdamwUp.main_arg5) = m ((c.tc : Thread Cert.AdamwUp.nD Cert.AdamwUp.τ).loc Cert.AdamwUp.main_arg5)
      ∧ r.2.mem ((c.tc : Thread Cert.AdamwUp.nD Cert.AdamwUp.τ).loc Cert.AdamwUp.main_arg6) = m ((c.tc : Thread Cert.AdamwUp.nD Cert.AdamwUp.τ).loc Cert.AdamwUp.main_arg6)
      ∧ r.2.mem ((c.tc : Thread Cert.AdamwUp.nD Cert.AdamwUp.τ).loc Cert.AdamwUp.main_arg7) = m ((c.tc : Thread Cert.AdamwUp.nD Cert.AdamwUp.τ).loc Cert.AdamwUp.main_arg7))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
      ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4)
      ∧ r.2.mem ((c.tc : Thread Cert.AdamwUpIdeal.nD Cert.AdamwUpIdeal.τ).loc Cert.AdamwUpIdeal.main_arg5) = m ((c.tc : Thread Cert.AdamwUpIdeal.nD Cert.AdamwUpIdeal.τ).loc Cert.AdamwUpIdeal.main_arg5)
      ∧ r.2.mem ((c.tc : Thread Cert.AdamwUpIdeal.nD Cert.AdamwUpIdeal.τ).loc Cert.AdamwUpIdeal.main_arg6) = m ((c.tc : Thread Cert.AdamwUpIdeal.nD Cert.AdamwUpIdeal.τ).loc Cert.AdamwUpIdeal.main_arg6)
      ∧ r.2.mem ((c.tc : Thread Cert.AdamwUpIdeal.nD Cert.AdamwUpIdeal.τ).loc Cert.AdamwUpIdeal.main_arg7) = m ((c.tc : Thread Cert.AdamwUpIdeal.nD Cert.AdamwUpIdeal.τ).loc Cert.AdamwUpIdeal.main_arg7))
      ∧ r.2.sem = fun _ => 0)

def quiescent_AdamwUpReferenceIdeal [hAdamwUpReferenceIdeal : Cert.AdamwUpReferenceIdeal.Facts] : Prop :=
  ∀ (m : (ℓ : Loc Cert.AdamwUpReferenceIdeal.nD Cert.AdamwUpReferenceIdeal.τ Cert.AdamwUpReferenceIdeal.sig) → Buf (Elt Ideal) ℓ) (g : Dev Cert.AdamwUpReferenceIdeal.nD → PrngReg), Pre_AdamwUpReferenceIdeal m →
    θ_run (Cert.AdamwUpReferenceIdeal.defs (F := Ideal)) (onTc (τ := Cert.AdamwUpReferenceIdeal.τ) (Cert.AdamwUpReferenceIdeal.main (F := Ideal))) ⟨m, fun _ => 0, g⟩ (fun r => (∀ c : Dev Cert.AdamwUpReferenceIdeal.nD,
      r.2.mem ((c.tc : Thread Cert.AdamwUpReferenceIdeal.nD Cert.AdamwUpReferenceIdeal.τ).loc Cert.AdamwUpReferenceIdeal.main_arg0) = m ((c.tc : Thread Cert.AdamwUpReferenceIdeal.nD Cert.AdamwUpReferenceIdeal.τ).loc Cert.AdamwUpReferenceIdeal.main_arg0)
      ∧ r.2.mem ((c.tc : Thread Cert.AdamwUpReferenceIdeal.nD Cert.AdamwUpReferenceIdeal.τ).loc Cert.AdamwUpReferenceIdeal.main_arg1) = m ((c.tc : Thread Cert.AdamwUpReferenceIdeal.nD Cert.AdamwUpReferenceIdeal.τ).loc Cert.AdamwUpReferenceIdeal.main_arg1)
      ∧ r.2.mem ((c.tc : Thread Cert.AdamwUpReferenceIdeal.nD Cert.AdamwUpReferenceIdeal.τ).loc Cert.AdamwUpReferenceIdeal.main_arg2) = m ((c.tc : Thread Cert.AdamwUpReferenceIdeal.nD Cert.AdamwUpReferenceIdeal.τ).loc Cert.AdamwUpReferenceIdeal.main_arg2)
      ∧ r.2.mem ((c.tc : Thread Cert.AdamwUpReferenceIdeal.nD Cert.AdamwUpReferenceIdeal.τ).loc Cert.AdamwUpReferenceIdeal.main_arg3) = m ((c.tc : Thread Cert.AdamwUpReferenceIdeal.nD Cert.AdamwUpReferenceIdeal.τ).loc Cert.AdamwUpReferenceIdeal.main_arg3)
      ∧ r.2.mem ((c.tc : Thread Cert.AdamwUpReferenceIdeal.nD Cert.AdamwUpReferenceIdeal.τ).loc Cert.AdamwUpReferenceIdeal.main_arg4) = m ((c.tc : Thread Cert.AdamwUpReferenceIdeal.nD Cert.AdamwUpReferenceIdeal.τ).loc Cert.AdamwUpReferenceIdeal.main_arg4)
      ∧ r.2.mem ((c.tc : Thread Cert.AdamwUpReferenceIdeal.nD Cert.AdamwUpReferenceIdeal.τ).loc Cert.AdamwUpReferenceIdeal.main_arg5) = m ((c.tc : Thread Cert.AdamwUpReferenceIdeal.nD Cert.AdamwUpReferenceIdeal.τ).loc Cert.AdamwUpReferenceIdeal.main_arg5)
      ∧ r.2.mem ((c.tc : Thread Cert.AdamwUpReferenceIdeal.nD Cert.AdamwUpReferenceIdeal.τ).loc Cert.AdamwUpReferenceIdeal.main_arg6) = m ((c.tc : Thread Cert.AdamwUpReferenceIdeal.nD Cert.AdamwUpReferenceIdeal.τ).loc Cert.AdamwUpReferenceIdeal.main_arg6)
      ∧ r.2.mem ((c.tc : Thread Cert.AdamwUpReferenceIdeal.nD Cert.AdamwUpReferenceIdeal.τ).loc Cert.AdamwUpReferenceIdeal.main_arg7) = m ((c.tc : Thread Cert.AdamwUpReferenceIdeal.nD Cert.AdamwUpReferenceIdeal.τ).loc Cert.AdamwUpReferenceIdeal.main_arg7))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3)
      ∧ r.2.mem ((c.tc : Thread Cert.AdamwDown.nD Cert.AdamwDown.τ).loc Cert.AdamwDown.main_arg4) = m ((c.tc : Thread Cert.AdamwDown.nD Cert.AdamwDown.τ).loc Cert.AdamwDown.main_arg4)
      ∧ r.2.mem ((c.tc : Thread Cert.AdamwDown.nD Cert.AdamwDown.τ).loc Cert.AdamwDown.main_arg5) = m ((c.tc : Thread Cert.AdamwDown.nD Cert.AdamwDown.τ).loc Cert.AdamwDown.main_arg5)
      ∧ r.2.mem ((c.tc : Thread Cert.AdamwDown.nD Cert.AdamwDown.τ).loc Cert.AdamwDown.main_arg6) = m ((c.tc : Thread Cert.AdamwDown.nD Cert.AdamwDown.τ).loc Cert.AdamwDown.main_arg6)
      ∧ r.2.mem ((c.tc : Thread Cert.AdamwDown.nD Cert.AdamwDown.τ).loc Cert.AdamwDown.main_arg7) = m ((c.tc : Thread Cert.AdamwDown.nD Cert.AdamwDown.τ).loc Cert.AdamwDown.main_arg7))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
      ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4)
      ∧ r.2.mem ((c.tc : Thread Cert.AdamwDownIdeal.nD Cert.AdamwDownIdeal.τ).loc Cert.AdamwDownIdeal.main_arg5) = m ((c.tc : Thread Cert.AdamwDownIdeal.nD Cert.AdamwDownIdeal.τ).loc Cert.AdamwDownIdeal.main_arg5)
      ∧ r.2.mem ((c.tc : Thread Cert.AdamwDownIdeal.nD Cert.AdamwDownIdeal.τ).loc Cert.AdamwDownIdeal.main_arg6) = m ((c.tc : Thread Cert.AdamwDownIdeal.nD Cert.AdamwDownIdeal.τ).loc Cert.AdamwDownIdeal.main_arg6)
      ∧ r.2.mem ((c.tc : Thread Cert.AdamwDownIdeal.nD Cert.AdamwDownIdeal.τ).loc Cert.AdamwDownIdeal.main_arg7) = m ((c.tc : Thread Cert.AdamwDownIdeal.nD Cert.AdamwDownIdeal.τ).loc Cert.AdamwDownIdeal.main_arg7))
      ∧ r.2.sem = fun _ => 0)

def quiescent_AdamwDownReferenceIdeal [hAdamwDownReferenceIdeal : Cert.AdamwDownReferenceIdeal.Facts] : Prop :=
  ∀ (m : (ℓ : Loc Cert.AdamwDownReferenceIdeal.nD Cert.AdamwDownReferenceIdeal.τ Cert.AdamwDownReferenceIdeal.sig) → Buf (Elt Ideal) ℓ) (g : Dev Cert.AdamwDownReferenceIdeal.nD → PrngReg), Pre_AdamwDownReferenceIdeal m →
    θ_run (Cert.AdamwDownReferenceIdeal.defs (F := Ideal)) (onTc (τ := Cert.AdamwDownReferenceIdeal.τ) (Cert.AdamwDownReferenceIdeal.main (F := Ideal))) ⟨m, fun _ => 0, g⟩ (fun r => (∀ c : Dev Cert.AdamwDownReferenceIdeal.nD,
      r.2.mem ((c.tc : Thread Cert.AdamwDownReferenceIdeal.nD Cert.AdamwDownReferenceIdeal.τ).loc Cert.AdamwDownReferenceIdeal.main_arg0) = m ((c.tc : Thread Cert.AdamwDownReferenceIdeal.nD Cert.AdamwDownReferenceIdeal.τ).loc Cert.AdamwDownReferenceIdeal.main_arg0)
      ∧ r.2.mem ((c.tc : Thread Cert.AdamwDownReferenceIdeal.nD Cert.AdamwDownReferenceIdeal.τ).loc Cert.AdamwDownReferenceIdeal.main_arg1) = m ((c.tc : Thread Cert.AdamwDownReferenceIdeal.nD Cert.AdamwDownReferenceIdeal.τ).loc Cert.AdamwDownReferenceIdeal.main_arg1)
      ∧ r.2.mem ((c.tc : Thread Cert.AdamwDownReferenceIdeal.nD Cert.AdamwDownReferenceIdeal.τ).loc Cert.AdamwDownReferenceIdeal.main_arg2) = m ((c.tc : Thread Cert.AdamwDownReferenceIdeal.nD Cert.AdamwDownReferenceIdeal.τ).loc Cert.AdamwDownReferenceIdeal.main_arg2)
      ∧ r.2.mem ((c.tc : Thread Cert.AdamwDownReferenceIdeal.nD Cert.AdamwDownReferenceIdeal.τ).loc Cert.AdamwDownReferenceIdeal.main_arg3) = m ((c.tc : Thread Cert.AdamwDownReferenceIdeal.nD Cert.AdamwDownReferenceIdeal.τ).loc Cert.AdamwDownReferenceIdeal.main_arg3)
      ∧ r.2.mem ((c.tc : Thread Cert.AdamwDownReferenceIdeal.nD Cert.AdamwDownReferenceIdeal.τ).loc Cert.AdamwDownReferenceIdeal.main_arg4) = m ((c.tc : Thread Cert.AdamwDownReferenceIdeal.nD Cert.AdamwDownReferenceIdeal.τ).loc Cert.AdamwDownReferenceIdeal.main_arg4)
      ∧ r.2.mem ((c.tc : Thread Cert.AdamwDownReferenceIdeal.nD Cert.AdamwDownReferenceIdeal.τ).loc Cert.AdamwDownReferenceIdeal.main_arg5) = m ((c.tc : Thread Cert.AdamwDownReferenceIdeal.nD Cert.AdamwDownReferenceIdeal.τ).loc Cert.AdamwDownReferenceIdeal.main_arg5)
      ∧ r.2.mem ((c.tc : Thread Cert.AdamwDownReferenceIdeal.nD Cert.AdamwDownReferenceIdeal.τ).loc Cert.AdamwDownReferenceIdeal.main_arg6) = m ((c.tc : Thread Cert.AdamwDownReferenceIdeal.nD Cert.AdamwDownReferenceIdeal.τ).loc Cert.AdamwDownReferenceIdeal.main_arg6)
      ∧ r.2.mem ((c.tc : Thread Cert.AdamwDownReferenceIdeal.nD Cert.AdamwDownReferenceIdeal.τ).loc Cert.AdamwDownReferenceIdeal.main_arg7) = m ((c.tc : Thread Cert.AdamwDownReferenceIdeal.nD Cert.AdamwDownReferenceIdeal.τ).loc Cert.AdamwDownReferenceIdeal.main_arg7))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_ActGrad_ActGradIdeal : Prop :=
  True

def algebraic_ActGradIdeal_ActGradReferenceIdeal [hActGradIdeal : Cert.ActGradIdeal.Facts] [hActGradReferenceIdeal : Cert.ActGradReferenceIdeal.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActGradReferenceIdeal.nD Cert.ActGradReferenceIdeal.τ Cert.ActGradReferenceIdeal.sig) → Buf (Elt Ideal) ℓ) (g' : Dev Cert.ActGradReferenceIdeal.nD → PrngReg), Pre_ActGradIdeal m →
    (∀ c : Dev Cert.ActGradIdeal.nD,
      m' ((c.tc : Thread Cert.ActGradReferenceIdeal.nD Cert.ActGradReferenceIdeal.τ).loc Cert.ActGradReferenceIdeal.main_arg0) = m ((c.tc : Thread Cert.ActGradIdeal.nD Cert.ActGradIdeal.τ).loc Cert.ActGradIdeal.main_arg0)
      ∧ m' ((c.tc : Thread Cert.ActGradReferenceIdeal.nD Cert.ActGradReferenceIdeal.τ).loc Cert.ActGradReferenceIdeal.main_arg1) = m ((c.tc : Thread Cert.ActGradIdeal.nD Cert.ActGradIdeal.τ).loc Cert.ActGradIdeal.main_arg1)) →
    ∃ (v0 : (c : Dev Cert.ActGradIdeal.nD) → Buf (Elt Ideal) ((c.tc : Thread Cert.ActGradIdeal.nD Cert.ActGradIdeal.τ).loc Cert.ActGradIdeal.main_v0)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v0) = v0 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1))
      ∧ θ_run (Cert.ActGradReferenceIdeal.defs (F := Ideal)) (onTc (τ := Cert.ActGradReferenceIdeal.τ) (Cert.ActGradReferenceIdeal.main (F := Ideal))) ⟨m', fun _ => 0, g'⟩ (fun r => ∀ c : Dev Cert.ActGradReferenceIdeal.nD,
          r.2.mem ((c.tc : Thread Cert.ActGradReferenceIdeal.nD Cert.ActGradReferenceIdeal.τ).loc Cert.ActGradReferenceIdeal.main_v4) = v0 c
          ∧ r.2.mem ((c.tc : Thread Cert.ActGradReferenceIdeal.nD Cert.ActGradReferenceIdeal.τ).loc Cert.ActGradReferenceIdeal.main_arg0) = m' ((c.tc : Thread Cert.ActGradReferenceIdeal.nD Cert.ActGradReferenceIdeal.τ).loc Cert.ActGradReferenceIdeal.main_arg0)
          ∧ r.2.mem ((c.tc : Thread Cert.ActGradReferenceIdeal.nD Cert.ActGradReferenceIdeal.τ).loc Cert.ActGradReferenceIdeal.main_arg1) = m' ((c.tc : Thread Cert.ActGradReferenceIdeal.nD Cert.ActGradReferenceIdeal.τ).loc Cert.ActGradReferenceIdeal.main_arg1))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v4) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)
      ∧ m' ((c.tc : Thread Cert.UpGradReferenceIdeal.nD Cert.UpGradReferenceIdeal.τ).loc Cert.UpGradReferenceIdeal.main_arg2) = m ((c.tc : Thread Cert.UpGradIdeal.nD Cert.UpGradIdeal.τ).loc Cert.UpGradIdeal.main_arg2)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v6) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1)
          ∧ r.2.mem ((c.tc : Thread Cert.UpGradReferenceIdeal.nD Cert.UpGradReferenceIdeal.τ).loc Cert.UpGradReferenceIdeal.main_arg2) = m' ((c.tc : Thread Cert.UpGradReferenceIdeal.nD Cert.UpGradReferenceIdeal.τ).loc Cert.UpGradReferenceIdeal.main_arg2))

def preserves_NormGrad_NormGradIdeal : Prop :=
  True

def algebraic_NormGradIdeal_NormGradReferenceIdeal [hNormGradIdeal : Cert.NormGradIdeal.Facts] [hNormGradReferenceIdeal : Cert.NormGradReferenceIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)
      ∧ m' ((c.tc : Thread Cert.NormGradReferenceIdeal.nD Cert.NormGradReferenceIdeal.τ).loc Cert.NormGradReferenceIdeal.main_arg4) = m ((c.tc : Thread Cert.NormGradIdeal.nD Cert.NormGradIdeal.τ).loc Cert.NormGradIdeal.main_arg4)
      ∧ m' ((c.tc : Thread Cert.NormGradReferenceIdeal.nD Cert.NormGradReferenceIdeal.τ).loc Cert.NormGradReferenceIdeal.main_arg5) = m ((c.tc : Thread Cert.NormGradIdeal.nD Cert.NormGradIdeal.τ).loc Cert.NormGradIdeal.main_arg5)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v39) = v0 c
          ∧ r.2.mem ((c.tc : Thread Cert.NormGradReferenceIdeal.nD Cert.NormGradReferenceIdeal.τ).loc Cert.NormGradReferenceIdeal.main_v22) = v1 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3)
          ∧ r.2.mem ((c.tc : Thread Cert.NormGradReferenceIdeal.nD Cert.NormGradReferenceIdeal.τ).loc Cert.NormGradReferenceIdeal.main_arg4) = m' ((c.tc : Thread Cert.NormGradReferenceIdeal.nD Cert.NormGradReferenceIdeal.τ).loc Cert.NormGradReferenceIdeal.main_arg4)
          ∧ r.2.mem ((c.tc : Thread Cert.NormGradReferenceIdeal.nD Cert.NormGradReferenceIdeal.τ).loc Cert.NormGradReferenceIdeal.main_arg5) = m' ((c.tc : Thread Cert.NormGradReferenceIdeal.nD Cert.NormGradReferenceIdeal.τ).loc Cert.NormGradReferenceIdeal.main_arg5))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v3) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_OutWeightGrad_OutWeightGradIdeal : Prop :=
  True

def algebraic_OutWeightGradIdeal_OutWeightGradReferenceIdeal [hOutWeightGradIdeal : Cert.OutWeightGradIdeal.Facts] [hOutWeightGradReferenceIdeal : Cert.OutWeightGradReferenceIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg)
    (m' : (ℓ : Loc Cert.OutWeightGradReferenceIdeal.nD Cert.OutWeightGradReferenceIdeal.τ Cert.OutWeightGradReferenceIdeal.sig) → Buf (Elt Ideal) ℓ) (g' : Dev Cert.OutWeightGradReferenceIdeal.nD → PrngReg), Pre_OutWeightGradIdeal m →
    (∀ c : Dev Cert.OutWeightGradIdeal.nD,
      m' ((c.tc : Thread Cert.OutWeightGradReferenceIdeal.nD Cert.OutWeightGradReferenceIdeal.τ).loc Cert.OutWeightGradReferenceIdeal.main_arg0) = m ((c.tc : Thread Cert.OutWeightGradIdeal.nD Cert.OutWeightGradIdeal.τ).loc Cert.OutWeightGradIdeal.main_arg0)
      ∧ m' ((c.tc : Thread Cert.OutWeightGradReferenceIdeal.nD Cert.OutWeightGradReferenceIdeal.τ).loc Cert.OutWeightGradReferenceIdeal.main_arg1) = m ((c.tc : Thread Cert.OutWeightGradIdeal.nD Cert.OutWeightGradIdeal.τ).loc Cert.OutWeightGradIdeal.main_arg1)
      ∧ m' ((c.tc : Thread Cert.OutWeightGradReferenceIdeal.nD Cert.OutWeightGradReferenceIdeal.τ).loc Cert.OutWeightGradReferenceIdeal.main_arg2) = m ((c.tc : Thread Cert.OutWeightGradIdeal.nD Cert.OutWeightGradIdeal.τ).loc Cert.OutWeightGradIdeal.main_arg2)) →
    ∃ (v0 : (c : Dev Cert.OutWeightGradIdeal.nD) → Buf (Elt Ideal) ((c.tc : Thread Cert.OutWeightGradIdeal.nD Cert.OutWeightGradIdeal.τ).loc Cert.OutWeightGradIdeal.main_v0)),
      θ_run (Cert.OutWeightGradIdeal.defs (F := Ideal)) (onTc (τ := Cert.OutWeightGradIdeal.τ) (Cert.OutWeightGradIdeal.main (F := Ideal))) ⟨m, fun _ => 0, g⟩ (fun r => ∀ c : Dev Cert.OutWeightGradIdeal.nD,
          r.2.mem ((c.tc : Thread Cert.OutWeightGradIdeal.nD Cert.OutWeightGradIdeal.τ).loc Cert.OutWeightGradIdeal.main_v0) = v0 c
          ∧ r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
          ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1)
          ∧ r.2.mem ((c.tc : Thread Cert.OutWeightGradIdeal.nD Cert.OutWeightGradIdeal.τ).loc Cert.OutWeightGradIdeal.main_arg2) = m ((c.tc : Thread Cert.OutWeightGradIdeal.nD Cert.OutWeightGradIdeal.τ).loc Cert.OutWeightGradIdeal.main_arg2))
      ∧ θ_run (Cert.OutWeightGradReferenceIdeal.defs (F := Ideal)) (onTc (τ := Cert.OutWeightGradReferenceIdeal.τ) (Cert.OutWeightGradReferenceIdeal.main (F := Ideal))) ⟨m', fun _ => 0, g'⟩ (fun r => ∀ c : Dev Cert.OutWeightGradReferenceIdeal.nD,
          r.2.mem ((c.tc : Thread Cert.OutWeightGradReferenceIdeal.nD Cert.OutWeightGradReferenceIdeal.τ).loc Cert.OutWeightGradReferenceIdeal.main_v5) = v0 c
          ∧ r.2.mem ((c.tc : Thread Cert.OutWeightGradReferenceIdeal.nD Cert.OutWeightGradReferenceIdeal.τ).loc Cert.OutWeightGradReferenceIdeal.main_arg0) = m' ((c.tc : Thread Cert.OutWeightGradReferenceIdeal.nD Cert.OutWeightGradReferenceIdeal.τ).loc Cert.OutWeightGradReferenceIdeal.main_arg0)
          ∧ r.2.mem ((c.tc : Thread Cert.OutWeightGradReferenceIdeal.nD Cert.OutWeightGradReferenceIdeal.τ).loc Cert.OutWeightGradReferenceIdeal.main_arg1) = m' ((c.tc : Thread Cert.OutWeightGradReferenceIdeal.nD Cert.OutWeightGradReferenceIdeal.τ).loc Cert.OutWeightGradReferenceIdeal.main_arg1)
          ∧ r.2.mem ((c.tc : Thread Cert.OutWeightGradReferenceIdeal.nD Cert.OutWeightGradReferenceIdeal.τ).loc Cert.OutWeightGradReferenceIdeal.main_arg2) = m' ((c.tc : Thread Cert.OutWeightGradReferenceIdeal.nD Cert.OutWeightGradReferenceIdeal.τ).loc Cert.OutWeightGradReferenceIdeal.main_arg2))

def preserves_InWeightGrad1_InWeightGrad1Ideal : Prop :=
  True

def algebraic_InWeightGrad1Ideal_InWeightGrad1ReferenceIdeal [hInWeightGrad1Ideal : Cert.InWeightGrad1Ideal.Facts] [hInWeightGrad1ReferenceIdeal : Cert.InWeightGrad1ReferenceIdeal.Facts] : Prop :=
  ∀ (m : (ℓ : Loc Cert.InWeightGrad1Ideal.nD Cert.InWeightGrad1Ideal.τ Cert.InWeightGrad1Ideal.sig) → Buf (Elt Ideal) ℓ) (g : Dev Cert.InWeightGrad1Ideal.nD → PrngReg)
    (m' : (ℓ : Loc Cert.InWeightGrad1ReferenceIdeal.nD Cert.InWeightGrad1ReferenceIdeal.τ Cert.InWeightGrad1ReferenceIdeal.sig) → Buf (Elt Ideal) ℓ) (g' : Dev Cert.InWeightGrad1ReferenceIdeal.nD → PrngReg), Pre_InWeightGrad1Ideal m →
    (∀ c : Dev Cert.InWeightGrad1Ideal.nD,
      m' ((c.tc : Thread Cert.InWeightGrad1ReferenceIdeal.nD Cert.InWeightGrad1ReferenceIdeal.τ).loc Cert.InWeightGrad1ReferenceIdeal.main_arg0) = m ((c.tc : Thread Cert.InWeightGrad1Ideal.nD Cert.InWeightGrad1Ideal.τ).loc Cert.InWeightGrad1Ideal.main_arg0)
      ∧ m' ((c.tc : Thread Cert.InWeightGrad1ReferenceIdeal.nD Cert.InWeightGrad1ReferenceIdeal.τ).loc Cert.InWeightGrad1ReferenceIdeal.main_arg1) = m ((c.tc : Thread Cert.InWeightGrad1Ideal.nD Cert.InWeightGrad1Ideal.τ).loc Cert.InWeightGrad1Ideal.main_arg1)) →
    ∃ (v0 : (c : Dev Cert.InWeightGrad1Ideal.nD) → Buf (Elt Ideal) ((c.tc : Thread Cert.InWeightGrad1Ideal.nD Cert.InWeightGrad1Ideal.τ).loc Cert.InWeightGrad1Ideal.main_v0)),
      θ_run (Cert.InWeightGrad1Ideal.defs (F := Ideal)) (onTc (τ := Cert.InWeightGrad1Ideal.τ) (Cert.InWeightGrad1Ideal.main (F := Ideal))) ⟨m, fun _ => 0, g⟩ (fun r => ∀ c : Dev Cert.InWeightGrad1Ideal.nD,
          r.2.mem ((c.tc : Thread Cert.InWeightGrad1Ideal.nD Cert.InWeightGrad1Ideal.τ).loc Cert.InWeightGrad1Ideal.main_v0) = v0 c
          ∧ r.2.mem ((c.tc : Thread Cert.InWeightGrad1Ideal.nD Cert.InWeightGrad1Ideal.τ).loc Cert.InWeightGrad1Ideal.main_arg0) = m ((c.tc : Thread Cert.InWeightGrad1Ideal.nD Cert.InWeightGrad1Ideal.τ).loc Cert.InWeightGrad1Ideal.main_arg0)
          ∧ r.2.mem ((c.tc : Thread Cert.InWeightGrad1Ideal.nD Cert.InWeightGrad1Ideal.τ).loc Cert.InWeightGrad1Ideal.main_arg1) = m ((c.tc : Thread Cert.InWeightGrad1Ideal.nD Cert.InWeightGrad1Ideal.τ).loc Cert.InWeightGrad1Ideal.main_arg1))
      ∧ θ_run (Cert.InWeightGrad1ReferenceIdeal.defs (F := Ideal)) (onTc (τ := Cert.InWeightGrad1ReferenceIdeal.τ) (Cert.InWeightGrad1ReferenceIdeal.main (F := Ideal))) ⟨m', fun _ => 0, g'⟩ (fun r => ∀ c : Dev Cert.InWeightGrad1ReferenceIdeal.nD,
          r.2.mem ((c.tc : Thread Cert.InWeightGrad1ReferenceIdeal.nD Cert.InWeightGrad1ReferenceIdeal.τ).loc Cert.InWeightGrad1ReferenceIdeal.main_v5) = v0 c
          ∧ r.2.mem ((c.tc : Thread Cert.InWeightGrad1ReferenceIdeal.nD Cert.InWeightGrad1ReferenceIdeal.τ).loc Cert.InWeightGrad1ReferenceIdeal.main_arg0) = m' ((c.tc : Thread Cert.InWeightGrad1ReferenceIdeal.nD Cert.InWeightGrad1ReferenceIdeal.τ).loc Cert.InWeightGrad1ReferenceIdeal.main_arg0)
          ∧ r.2.mem ((c.tc : Thread Cert.InWeightGrad1ReferenceIdeal.nD Cert.InWeightGrad1ReferenceIdeal.τ).loc Cert.InWeightGrad1ReferenceIdeal.main_arg1) = m' ((c.tc : Thread Cert.InWeightGrad1ReferenceIdeal.nD Cert.InWeightGrad1ReferenceIdeal.τ).loc Cert.InWeightGrad1ReferenceIdeal.main_arg1))

def preserves_InWeightGrad0_InWeightGrad0Ideal : Prop :=
  True

def algebraic_InWeightGrad0Ideal_InWeightGrad0ReferenceIdeal [hInWeightGrad0Ideal : Cert.InWeightGrad0Ideal.Facts] [hInWeightGrad0ReferenceIdeal : Cert.InWeightGrad0ReferenceIdeal.Facts] : Prop :=
  ∀ (m : (ℓ : Loc Cert.InWeightGrad0Ideal.nD Cert.InWeightGrad0Ideal.τ Cert.InWeightGrad0Ideal.sig) → Buf (Elt Ideal) ℓ) (g : Dev Cert.InWeightGrad0Ideal.nD → PrngReg)
    (m' : (ℓ : Loc Cert.InWeightGrad0ReferenceIdeal.nD Cert.InWeightGrad0ReferenceIdeal.τ Cert.InWeightGrad0ReferenceIdeal.sig) → Buf (Elt Ideal) ℓ) (g' : Dev Cert.InWeightGrad0ReferenceIdeal.nD → PrngReg), Pre_InWeightGrad0Ideal m →
    (∀ c : Dev Cert.InWeightGrad0Ideal.nD,
      m' ((c.tc : Thread Cert.InWeightGrad0ReferenceIdeal.nD Cert.InWeightGrad0ReferenceIdeal.τ).loc Cert.InWeightGrad0ReferenceIdeal.main_arg0) = m ((c.tc : Thread Cert.InWeightGrad0Ideal.nD Cert.InWeightGrad0Ideal.τ).loc Cert.InWeightGrad0Ideal.main_arg0)
      ∧ m' ((c.tc : Thread Cert.InWeightGrad0ReferenceIdeal.nD Cert.InWeightGrad0ReferenceIdeal.τ).loc Cert.InWeightGrad0ReferenceIdeal.main_arg1) = m ((c.tc : Thread Cert.InWeightGrad0Ideal.nD Cert.InWeightGrad0Ideal.τ).loc Cert.InWeightGrad0Ideal.main_arg1)
      ∧ m' ((c.tc : Thread Cert.InWeightGrad0ReferenceIdeal.nD Cert.InWeightGrad0ReferenceIdeal.τ).loc Cert.InWeightGrad0ReferenceIdeal.main_arg2) = m ((c.tc : Thread Cert.InWeightGrad0Ideal.nD Cert.InWeightGrad0Ideal.τ).loc Cert.InWeightGrad0Ideal.main_arg2)
      ∧ m' ((c.tc : Thread Cert.InWeightGrad0ReferenceIdeal.nD Cert.InWeightGrad0ReferenceIdeal.τ).loc Cert.InWeightGrad0ReferenceIdeal.main_arg3) = m ((c.tc : Thread Cert.InWeightGrad0Ideal.nD Cert.InWeightGrad0Ideal.τ).loc Cert.InWeightGrad0Ideal.main_arg3)
      ∧ m' ((c.tc : Thread Cert.InWeightGrad0ReferenceIdeal.nD Cert.InWeightGrad0ReferenceIdeal.τ).loc Cert.InWeightGrad0ReferenceIdeal.main_arg4) = m ((c.tc : Thread Cert.InWeightGrad0Ideal.nD Cert.InWeightGrad0Ideal.τ).loc Cert.InWeightGrad0Ideal.main_arg4)
      ∧ m' ((c.tc : Thread Cert.InWeightGrad0ReferenceIdeal.nD Cert.InWeightGrad0ReferenceIdeal.τ).loc Cert.InWeightGrad0ReferenceIdeal.main_arg5) = m ((c.tc : Thread Cert.InWeightGrad0Ideal.nD Cert.InWeightGrad0Ideal.τ).loc Cert.InWeightGrad0Ideal.main_arg5)) →
    ∃ (v0 : (c : Dev Cert.InWeightGrad0Ideal.nD) → Buf (Elt Ideal) ((c.tc : Thread Cert.InWeightGrad0Ideal.nD Cert.InWeightGrad0Ideal.τ).loc Cert.InWeightGrad0Ideal.main_v0)),
      θ_run (Cert.InWeightGrad0Ideal.defs (F := Ideal)) (onTc (τ := Cert.InWeightGrad0Ideal.τ) (Cert.InWeightGrad0Ideal.main (F := Ideal))) ⟨m, fun _ => 0, g⟩ (fun r => ∀ c : Dev Cert.InWeightGrad0Ideal.nD,
          r.2.mem ((c.tc : Thread Cert.InWeightGrad0Ideal.nD Cert.InWeightGrad0Ideal.τ).loc Cert.InWeightGrad0Ideal.main_v0) = v0 c
          ∧ r.2.mem ((c.tc : Thread Cert.InWeightGrad0Ideal.nD Cert.InWeightGrad0Ideal.τ).loc Cert.InWeightGrad0Ideal.main_arg0) = m ((c.tc : Thread Cert.InWeightGrad0Ideal.nD Cert.InWeightGrad0Ideal.τ).loc Cert.InWeightGrad0Ideal.main_arg0)
          ∧ r.2.mem ((c.tc : Thread Cert.InWeightGrad0Ideal.nD Cert.InWeightGrad0Ideal.τ).loc Cert.InWeightGrad0Ideal.main_arg1) = m ((c.tc : Thread Cert.InWeightGrad0Ideal.nD Cert.InWeightGrad0Ideal.τ).loc Cert.InWeightGrad0Ideal.main_arg1)
          ∧ r.2.mem ((c.tc : Thread Cert.InWeightGrad0Ideal.nD Cert.InWeightGrad0Ideal.τ).loc Cert.InWeightGrad0Ideal.main_arg2) = m ((c.tc : Thread Cert.InWeightGrad0Ideal.nD Cert.InWeightGrad0Ideal.τ).loc Cert.InWeightGrad0Ideal.main_arg2)
          ∧ r.2.mem ((c.tc : Thread Cert.InWeightGrad0Ideal.nD Cert.InWeightGrad0Ideal.τ).loc Cert.InWeightGrad0Ideal.main_arg3) = m ((c.tc : Thread Cert.InWeightGrad0Ideal.nD Cert.InWeightGrad0Ideal.τ).loc Cert.InWeightGrad0Ideal.main_arg3)
          ∧ r.2.mem ((c.tc : Thread Cert.InWeightGrad0Ideal.nD Cert.InWeightGrad0Ideal.τ).loc Cert.InWeightGrad0Ideal.main_arg4) = m ((c.tc : Thread Cert.InWeightGrad0Ideal.nD Cert.InWeightGrad0Ideal.τ).loc Cert.InWeightGrad0Ideal.main_arg4)
          ∧ r.2.mem ((c.tc : Thread Cert.InWeightGrad0Ideal.nD Cert.InWeightGrad0Ideal.τ).loc Cert.InWeightGrad0Ideal.main_arg5) = m ((c.tc : Thread Cert.InWeightGrad0Ideal.nD Cert.InWeightGrad0Ideal.τ).loc Cert.InWeightGrad0Ideal.main_arg5))
      ∧ θ_run (Cert.InWeightGrad0ReferenceIdeal.defs (F := Ideal)) (onTc (τ := Cert.InWeightGrad0ReferenceIdeal.τ) (Cert.InWeightGrad0ReferenceIdeal.main (F := Ideal))) ⟨m', fun _ => 0, g'⟩ (fun r => ∀ c : Dev Cert.InWeightGrad0ReferenceIdeal.nD,
          r.2.mem ((c.tc : Thread Cert.InWeightGrad0ReferenceIdeal.nD Cert.InWeightGrad0ReferenceIdeal.τ).loc Cert.InWeightGrad0ReferenceIdeal.main_v6) = v0 c
          ∧ r.2.mem ((c.tc : Thread Cert.InWeightGrad0ReferenceIdeal.nD Cert.InWeightGrad0ReferenceIdeal.τ).loc Cert.InWeightGrad0ReferenceIdeal.main_arg0) = m' ((c.tc : Thread Cert.InWeightGrad0ReferenceIdeal.nD Cert.InWeightGrad0ReferenceIdeal.τ).loc Cert.InWeightGrad0ReferenceIdeal.main_arg0)
          ∧ r.2.mem ((c.tc : Thread Cert.InWeightGrad0ReferenceIdeal.nD Cert.InWeightGrad0ReferenceIdeal.τ).loc Cert.InWeightGrad0ReferenceIdeal.main_arg1) = m' ((c.tc : Thread Cert.InWeightGrad0ReferenceIdeal.nD Cert.InWeightGrad0ReferenceIdeal.τ).loc Cert.InWeightGrad0ReferenceIdeal.main_arg1)
          ∧ r.2.mem ((c.tc : Thread Cert.InWeightGrad0ReferenceIdeal.nD Cert.InWeightGrad0ReferenceIdeal.τ).loc Cert.InWeightGrad0ReferenceIdeal.main_arg2) = m' ((c.tc : Thread Cert.InWeightGrad0ReferenceIdeal.nD Cert.InWeightGrad0ReferenceIdeal.τ).loc Cert.InWeightGrad0ReferenceIdeal.main_arg2)
          ∧ r.2.mem ((c.tc : Thread Cert.InWeightGrad0ReferenceIdeal.nD Cert.InWeightGrad0ReferenceIdeal.τ).loc Cert.InWeightGrad0ReferenceIdeal.main_arg3) = m' ((c.tc : Thread Cert.InWeightGrad0ReferenceIdeal.nD Cert.InWeightGrad0ReferenceIdeal.τ).loc Cert.InWeightGrad0ReferenceIdeal.main_arg3)
          ∧ r.2.mem ((c.tc : Thread Cert.InWeightGrad0ReferenceIdeal.nD Cert.InWeightGrad0ReferenceIdeal.τ).loc Cert.InWeightGrad0ReferenceIdeal.main_arg4) = m' ((c.tc : Thread Cert.InWeightGrad0ReferenceIdeal.nD Cert.InWeightGrad0ReferenceIdeal.τ).loc Cert.InWeightGrad0ReferenceIdeal.main_arg4)
          ∧ r.2.mem ((c.tc : Thread Cert.InWeightGrad0ReferenceIdeal.nD Cert.InWeightGrad0ReferenceIdeal.τ).loc Cert.InWeightGrad0ReferenceIdeal.main_arg5) = m' ((c.tc : Thread Cert.InWeightGrad0ReferenceIdeal.nD Cert.InWeightGrad0ReferenceIdeal.τ).loc Cert.InWeightGrad0ReferenceIdeal.main_arg5))

def preserves_InNormGrad1_InNormGrad1Ideal : Prop :=
  True

def algebraic_InNormGrad1Ideal_InNormGrad1ReferenceIdeal [hInNormGrad1Ideal : Cert.InNormGrad1Ideal.Facts] [hInNormGrad1ReferenceIdeal : Cert.InNormGrad1ReferenceIdeal.Facts] : Prop :=
  ∀ (m : (ℓ : Loc Cert.InNormGrad1Ideal.nD Cert.InNormGrad1Ideal.τ Cert.InNormGrad1Ideal.sig) → Buf (Elt Ideal) ℓ) (g : Dev Cert.InNormGrad1Ideal.nD → PrngReg)
    (m' : (ℓ : Loc Cert.InNormGrad1ReferenceIdeal.nD Cert.InNormGrad1ReferenceIdeal.τ Cert.InNormGrad1ReferenceIdeal.sig) → Buf (Elt Ideal) ℓ) (g' : Dev Cert.InNormGrad1ReferenceIdeal.nD → PrngReg), Pre_InNormGrad1Ideal m →
    (∀ c : Dev Cert.InNormGrad1Ideal.nD,
      m' ((c.tc : Thread Cert.InNormGrad1ReferenceIdeal.nD Cert.InNormGrad1ReferenceIdeal.τ).loc Cert.InNormGrad1ReferenceIdeal.main_arg0) = m ((c.tc : Thread Cert.InNormGrad1Ideal.nD Cert.InNormGrad1Ideal.τ).loc Cert.InNormGrad1Ideal.main_arg0)
      ∧ m' ((c.tc : Thread Cert.InNormGrad1ReferenceIdeal.nD Cert.InNormGrad1ReferenceIdeal.τ).loc Cert.InNormGrad1ReferenceIdeal.main_arg1) = m ((c.tc : Thread Cert.InNormGrad1Ideal.nD Cert.InNormGrad1Ideal.τ).loc Cert.InNormGrad1Ideal.main_arg1)
      ∧ m' ((c.tc : Thread Cert.InNormGrad1ReferenceIdeal.nD Cert.InNormGrad1ReferenceIdeal.τ).loc Cert.InNormGrad1ReferenceIdeal.main_arg2) = m ((c.tc : Thread Cert.InNormGrad1Ideal.nD Cert.InNormGrad1Ideal.τ).loc Cert.InNormGrad1Ideal.main_arg2)
      ∧ m' ((c.tc : Thread Cert.InNormGrad1ReferenceIdeal.nD Cert.InNormGrad1ReferenceIdeal.τ).loc Cert.InNormGrad1ReferenceIdeal.main_arg3) = m ((c.tc : Thread Cert.InNormGrad1Ideal.nD Cert.InNormGrad1Ideal.τ).loc Cert.InNormGrad1Ideal.main_arg3)
      ∧ m' ((c.tc : Thread Cert.InNormGrad1ReferenceIdeal.nD Cert.InNormGrad1ReferenceIdeal.τ).loc Cert.InNormGrad1ReferenceIdeal.main_arg4) = m ((c.tc : Thread Cert.InNormGrad1Ideal.nD Cert.InNormGrad1Ideal.τ).loc Cert.InNormGrad1Ideal.main_arg4)) →
    ∃ (v0 : (c : Dev Cert.InNormGrad1Ideal.nD) → Buf (Elt Ideal) ((c.tc : Thread Cert.InNormGrad1Ideal.nD Cert.InNormGrad1Ideal.τ).loc Cert.InNormGrad1Ideal.main_v0_0)) (v1 : (c : Dev Cert.InNormGrad1Ideal.nD) → Buf (Elt Ideal) ((c.tc : Thread Cert.InNormGrad1Ideal.nD Cert.InNormGrad1Ideal.τ).loc Cert.InNormGrad1Ideal.main_v0_1)),
      θ_run (Cert.InNormGrad1Ideal.defs (F := Ideal)) (onTc (τ := Cert.InNormGrad1Ideal.τ) (Cert.InNormGrad1Ideal.main (F := Ideal))) ⟨m, fun _ => 0, g⟩ (fun r => ∀ c : Dev Cert.InNormGrad1Ideal.nD,
          r.2.mem ((c.tc : Thread Cert.InNormGrad1Ideal.nD Cert.InNormGrad1Ideal.τ).loc Cert.InNormGrad1Ideal.main_v0_0) = v0 c
          ∧ r.2.mem ((c.tc : Thread Cert.InNormGrad1Ideal.nD Cert.InNormGrad1Ideal.τ).loc Cert.InNormGrad1Ideal.main_v0_1) = v1 c
          ∧ r.2.mem ((c.tc : Thread Cert.InNormGrad1Ideal.nD Cert.InNormGrad1Ideal.τ).loc Cert.InNormGrad1Ideal.main_arg0) = m ((c.tc : Thread Cert.InNormGrad1Ideal.nD Cert.InNormGrad1Ideal.τ).loc Cert.InNormGrad1Ideal.main_arg0)
          ∧ r.2.mem ((c.tc : Thread Cert.InNormGrad1Ideal.nD Cert.InNormGrad1Ideal.τ).loc Cert.InNormGrad1Ideal.main_arg1) = m ((c.tc : Thread Cert.InNormGrad1Ideal.nD Cert.InNormGrad1Ideal.τ).loc Cert.InNormGrad1Ideal.main_arg1)
          ∧ r.2.mem ((c.tc : Thread Cert.InNormGrad1Ideal.nD Cert.InNormGrad1Ideal.τ).loc Cert.InNormGrad1Ideal.main_arg2) = m ((c.tc : Thread Cert.InNormGrad1Ideal.nD Cert.InNormGrad1Ideal.τ).loc Cert.InNormGrad1Ideal.main_arg2)
          ∧ r.2.mem ((c.tc : Thread Cert.InNormGrad1Ideal.nD Cert.InNormGrad1Ideal.τ).loc Cert.InNormGrad1Ideal.main_arg3) = m ((c.tc : Thread Cert.InNormGrad1Ideal.nD Cert.InNormGrad1Ideal.τ).loc Cert.InNormGrad1Ideal.main_arg3)
          ∧ r.2.mem ((c.tc : Thread Cert.InNormGrad1Ideal.nD Cert.InNormGrad1Ideal.τ).loc Cert.InNormGrad1Ideal.main_arg4) = m ((c.tc : Thread Cert.InNormGrad1Ideal.nD Cert.InNormGrad1Ideal.τ).loc Cert.InNormGrad1Ideal.main_arg4))
      ∧ θ_run (Cert.InNormGrad1ReferenceIdeal.defs (F := Ideal)) (onTc (τ := Cert.InNormGrad1ReferenceIdeal.τ) (Cert.InNormGrad1ReferenceIdeal.main (F := Ideal))) ⟨m', fun _ => 0, g'⟩ (fun r => ∀ c : Dev Cert.InNormGrad1ReferenceIdeal.nD,
          r.2.mem ((c.tc : Thread Cert.InNormGrad1ReferenceIdeal.nD Cert.InNormGrad1ReferenceIdeal.τ).loc Cert.InNormGrad1ReferenceIdeal.main_v38) = v0 c
          ∧ r.2.mem ((c.tc : Thread Cert.InNormGrad1ReferenceIdeal.nD Cert.InNormGrad1ReferenceIdeal.τ).loc Cert.InNormGrad1ReferenceIdeal.main_v21) = v1 c
          ∧ r.2.mem ((c.tc : Thread Cert.InNormGrad1ReferenceIdeal.nD Cert.InNormGrad1ReferenceIdeal.τ).loc Cert.InNormGrad1ReferenceIdeal.main_arg0) = m' ((c.tc : Thread Cert.InNormGrad1ReferenceIdeal.nD Cert.InNormGrad1ReferenceIdeal.τ).loc Cert.InNormGrad1ReferenceIdeal.main_arg0)
          ∧ r.2.mem ((c.tc : Thread Cert.InNormGrad1ReferenceIdeal.nD Cert.InNormGrad1ReferenceIdeal.τ).loc Cert.InNormGrad1ReferenceIdeal.main_arg1) = m' ((c.tc : Thread Cert.InNormGrad1ReferenceIdeal.nD Cert.InNormGrad1ReferenceIdeal.τ).loc Cert.InNormGrad1ReferenceIdeal.main_arg1)
          ∧ r.2.mem ((c.tc : Thread Cert.InNormGrad1ReferenceIdeal.nD Cert.InNormGrad1ReferenceIdeal.τ).loc Cert.InNormGrad1ReferenceIdeal.main_arg2) = m' ((c.tc : Thread Cert.InNormGrad1ReferenceIdeal.nD Cert.InNormGrad1ReferenceIdeal.τ).loc Cert.InNormGrad1ReferenceIdeal.main_arg2)
          ∧ r.2.mem ((c.tc : Thread Cert.InNormGrad1ReferenceIdeal.nD Cert.InNormGrad1ReferenceIdeal.τ).loc Cert.InNormGrad1ReferenceIdeal.main_arg3) = m' ((c.tc : Thread Cert.InNormGrad1ReferenceIdeal.nD Cert.InNormGrad1ReferenceIdeal.τ).loc Cert.InNormGrad1ReferenceIdeal.main_arg3)
          ∧ r.2.mem ((c.tc : Thread Cert.InNormGrad1ReferenceIdeal.nD Cert.InNormGrad1ReferenceIdeal.τ).loc Cert.InNormGrad1ReferenceIdeal.main_arg4) = m' ((c.tc : Thread Cert.InNormGrad1ReferenceIdeal.nD Cert.InNormGrad1ReferenceIdeal.τ).loc Cert.InNormGrad1ReferenceIdeal.main_arg4))

def preserves_InNormGrad0_InNormGrad0Ideal : Prop :=
  True

def algebraic_InNormGrad0Ideal_InNormGrad0ReferenceIdeal [hInNormGrad0Ideal : Cert.InNormGrad0Ideal.Facts] [hInNormGrad0ReferenceIdeal : Cert.InNormGrad0ReferenceIdeal.Facts] : Prop :=
  ∀ (m : (ℓ : Loc Cert.InNormGrad0Ideal.nD Cert.InNormGrad0Ideal.τ Cert.InNormGrad0Ideal.sig) → Buf (Elt Ideal) ℓ) (g : Dev Cert.InNormGrad0Ideal.nD → PrngReg)
    (m' : (ℓ : Loc Cert.InNormGrad0ReferenceIdeal.nD Cert.InNormGrad0ReferenceIdeal.τ Cert.InNormGrad0ReferenceIdeal.sig) → Buf (Elt Ideal) ℓ) (g' : Dev Cert.InNormGrad0ReferenceIdeal.nD → PrngReg), Pre_InNormGrad0Ideal m →
    (∀ c : Dev Cert.InNormGrad0Ideal.nD,
      m' ((c.tc : Thread Cert.InNormGrad0ReferenceIdeal.nD Cert.InNormGrad0ReferenceIdeal.τ).loc Cert.InNormGrad0ReferenceIdeal.main_arg0) = m ((c.tc : Thread Cert.InNormGrad0Ideal.nD Cert.InNormGrad0Ideal.τ).loc Cert.InNormGrad0Ideal.main_arg0)
      ∧ m' ((c.tc : Thread Cert.InNormGrad0ReferenceIdeal.nD Cert.InNormGrad0ReferenceIdeal.τ).loc Cert.InNormGrad0ReferenceIdeal.main_arg1) = m ((c.tc : Thread Cert.InNormGrad0Ideal.nD Cert.InNormGrad0Ideal.τ).loc Cert.InNormGrad0Ideal.main_arg1)
      ∧ m' ((c.tc : Thread Cert.InNormGrad0ReferenceIdeal.nD Cert.InNormGrad0ReferenceIdeal.τ).loc Cert.InNormGrad0ReferenceIdeal.main_arg2) = m ((c.tc : Thread Cert.InNormGrad0Ideal.nD Cert.InNormGrad0Ideal.τ).loc Cert.InNormGrad0Ideal.main_arg2)
      ∧ m' ((c.tc : Thread Cert.InNormGrad0ReferenceIdeal.nD Cert.InNormGrad0ReferenceIdeal.τ).loc Cert.InNormGrad0ReferenceIdeal.main_arg3) = m ((c.tc : Thread Cert.InNormGrad0Ideal.nD Cert.InNormGrad0Ideal.τ).loc Cert.InNormGrad0Ideal.main_arg3)
      ∧ m' ((c.tc : Thread Cert.InNormGrad0ReferenceIdeal.nD Cert.InNormGrad0ReferenceIdeal.τ).loc Cert.InNormGrad0ReferenceIdeal.main_arg4) = m ((c.tc : Thread Cert.InNormGrad0Ideal.nD Cert.InNormGrad0Ideal.τ).loc Cert.InNormGrad0Ideal.main_arg4)
      ∧ m' ((c.tc : Thread Cert.InNormGrad0ReferenceIdeal.nD Cert.InNormGrad0ReferenceIdeal.τ).loc Cert.InNormGrad0ReferenceIdeal.main_arg5) = m ((c.tc : Thread Cert.InNormGrad0Ideal.nD Cert.InNormGrad0Ideal.τ).loc Cert.InNormGrad0Ideal.main_arg5)
      ∧ m' ((c.tc : Thread Cert.InNormGrad0ReferenceIdeal.nD Cert.InNormGrad0ReferenceIdeal.τ).loc Cert.InNormGrad0ReferenceIdeal.main_arg6) = m ((c.tc : Thread Cert.InNormGrad0Ideal.nD Cert.InNormGrad0Ideal.τ).loc Cert.InNormGrad0Ideal.main_arg6)
      ∧ m' ((c.tc : Thread Cert.InNormGrad0ReferenceIdeal.nD Cert.InNormGrad0ReferenceIdeal.τ).loc Cert.InNormGrad0ReferenceIdeal.main_arg7) = m ((c.tc : Thread Cert.InNormGrad0Ideal.nD Cert.InNormGrad0Ideal.τ).loc Cert.InNormGrad0Ideal.main_arg7)
      ∧ m' ((c.tc : Thread Cert.InNormGrad0ReferenceIdeal.nD Cert.InNormGrad0ReferenceIdeal.τ).loc Cert.InNormGrad0ReferenceIdeal.main_arg8) = m ((c.tc : Thread Cert.InNormGrad0Ideal.nD Cert.InNormGrad0Ideal.τ).loc Cert.InNormGrad0Ideal.main_arg8)) →
    ∃ (v0 : (c : Dev Cert.InNormGrad0Ideal.nD) → Buf (Elt Ideal) ((c.tc : Thread Cert.InNormGrad0Ideal.nD Cert.InNormGrad0Ideal.τ).loc Cert.InNormGrad0Ideal.main_v0_0)) (v1 : (c : Dev Cert.InNormGrad0Ideal.nD) → Buf (Elt Ideal) ((c.tc : Thread Cert.InNormGrad0Ideal.nD Cert.InNormGrad0Ideal.τ).loc Cert.InNormGrad0Ideal.main_v0_1)),
      θ_run (Cert.InNormGrad0Ideal.defs (F := Ideal)) (onTc (τ := Cert.InNormGrad0Ideal.τ) (Cert.InNormGrad0Ideal.main (F := Ideal))) ⟨m, fun _ => 0, g⟩ (fun r => ∀ c : Dev Cert.InNormGrad0Ideal.nD,
          r.2.mem ((c.tc : Thread Cert.InNormGrad0Ideal.nD Cert.InNormGrad0Ideal.τ).loc Cert.InNormGrad0Ideal.main_v0_0) = v0 c
          ∧ r.2.mem ((c.tc : Thread Cert.InNormGrad0Ideal.nD Cert.InNormGrad0Ideal.τ).loc Cert.InNormGrad0Ideal.main_v0_1) = v1 c
          ∧ r.2.mem ((c.tc : Thread Cert.InNormGrad0Ideal.nD Cert.InNormGrad0Ideal.τ).loc Cert.InNormGrad0Ideal.main_arg0) = m ((c.tc : Thread Cert.InNormGrad0Ideal.nD Cert.InNormGrad0Ideal.τ).loc Cert.InNormGrad0Ideal.main_arg0)
          ∧ r.2.mem ((c.tc : Thread Cert.InNormGrad0Ideal.nD Cert.InNormGrad0Ideal.τ).loc Cert.InNormGrad0Ideal.main_arg1) = m ((c.tc : Thread Cert.InNormGrad0Ideal.nD Cert.InNormGrad0Ideal.τ).loc Cert.InNormGrad0Ideal.main_arg1)
          ∧ r.2.mem ((c.tc : Thread Cert.InNormGrad0Ideal.nD Cert.InNormGrad0Ideal.τ).loc Cert.InNormGrad0Ideal.main_arg2) = m ((c.tc : Thread Cert.InNormGrad0Ideal.nD Cert.InNormGrad0Ideal.τ).loc Cert.InNormGrad0Ideal.main_arg2)
          ∧ r.2.mem ((c.tc : Thread Cert.InNormGrad0Ideal.nD Cert.InNormGrad0Ideal.τ).loc Cert.InNormGrad0Ideal.main_arg3) = m ((c.tc : Thread Cert.InNormGrad0Ideal.nD Cert.InNormGrad0Ideal.τ).loc Cert.InNormGrad0Ideal.main_arg3)
          ∧ r.2.mem ((c.tc : Thread Cert.InNormGrad0Ideal.nD Cert.InNormGrad0Ideal.τ).loc Cert.InNormGrad0Ideal.main_arg4) = m ((c.tc : Thread Cert.InNormGrad0Ideal.nD Cert.InNormGrad0Ideal.τ).loc Cert.InNormGrad0Ideal.main_arg4)
          ∧ r.2.mem ((c.tc : Thread Cert.InNormGrad0Ideal.nD Cert.InNormGrad0Ideal.τ).loc Cert.InNormGrad0Ideal.main_arg5) = m ((c.tc : Thread Cert.InNormGrad0Ideal.nD Cert.InNormGrad0Ideal.τ).loc Cert.InNormGrad0Ideal.main_arg5)
          ∧ r.2.mem ((c.tc : Thread Cert.InNormGrad0Ideal.nD Cert.InNormGrad0Ideal.τ).loc Cert.InNormGrad0Ideal.main_arg6) = m ((c.tc : Thread Cert.InNormGrad0Ideal.nD Cert.InNormGrad0Ideal.τ).loc Cert.InNormGrad0Ideal.main_arg6)
          ∧ r.2.mem ((c.tc : Thread Cert.InNormGrad0Ideal.nD Cert.InNormGrad0Ideal.τ).loc Cert.InNormGrad0Ideal.main_arg7) = m ((c.tc : Thread Cert.InNormGrad0Ideal.nD Cert.InNormGrad0Ideal.τ).loc Cert.InNormGrad0Ideal.main_arg7)
          ∧ r.2.mem ((c.tc : Thread Cert.InNormGrad0Ideal.nD Cert.InNormGrad0Ideal.τ).loc Cert.InNormGrad0Ideal.main_arg8) = m ((c.tc : Thread Cert.InNormGrad0Ideal.nD Cert.InNormGrad0Ideal.τ).loc Cert.InNormGrad0Ideal.main_arg8))
      ∧ θ_run (Cert.InNormGrad0ReferenceIdeal.defs (F := Ideal)) (onTc (τ := Cert.InNormGrad0ReferenceIdeal.τ) (Cert.InNormGrad0ReferenceIdeal.main (F := Ideal))) ⟨m', fun _ => 0, g'⟩ (fun r => ∀ c : Dev Cert.InNormGrad0ReferenceIdeal.nD,
          r.2.mem ((c.tc : Thread Cert.InNormGrad0ReferenceIdeal.nD Cert.InNormGrad0ReferenceIdeal.τ).loc Cert.InNormGrad0ReferenceIdeal.main_v39) = v0 c
          ∧ r.2.mem ((c.tc : Thread Cert.InNormGrad0ReferenceIdeal.nD Cert.InNormGrad0ReferenceIdeal.τ).loc Cert.InNormGrad0ReferenceIdeal.main_v22) = v1 c
          ∧ r.2.mem ((c.tc : Thread Cert.InNormGrad0ReferenceIdeal.nD Cert.InNormGrad0ReferenceIdeal.τ).loc Cert.InNormGrad0ReferenceIdeal.main_arg0) = m' ((c.tc : Thread Cert.InNormGrad0ReferenceIdeal.nD Cert.InNormGrad0ReferenceIdeal.τ).loc Cert.InNormGrad0ReferenceIdeal.main_arg0)
          ∧ r.2.mem ((c.tc : Thread Cert.InNormGrad0ReferenceIdeal.nD Cert.InNormGrad0ReferenceIdeal.τ).loc Cert.InNormGrad0ReferenceIdeal.main_arg1) = m' ((c.tc : Thread Cert.InNormGrad0ReferenceIdeal.nD Cert.InNormGrad0ReferenceIdeal.τ).loc Cert.InNormGrad0ReferenceIdeal.main_arg1)
          ∧ r.2.mem ((c.tc : Thread Cert.InNormGrad0ReferenceIdeal.nD Cert.InNormGrad0ReferenceIdeal.τ).loc Cert.InNormGrad0ReferenceIdeal.main_arg2) = m' ((c.tc : Thread Cert.InNormGrad0ReferenceIdeal.nD Cert.InNormGrad0ReferenceIdeal.τ).loc Cert.InNormGrad0ReferenceIdeal.main_arg2)
          ∧ r.2.mem ((c.tc : Thread Cert.InNormGrad0ReferenceIdeal.nD Cert.InNormGrad0ReferenceIdeal.τ).loc Cert.InNormGrad0ReferenceIdeal.main_arg3) = m' ((c.tc : Thread Cert.InNormGrad0ReferenceIdeal.nD Cert.InNormGrad0ReferenceIdeal.τ).loc Cert.InNormGrad0ReferenceIdeal.main_arg3)
          ∧ r.2.mem ((c.tc : Thread Cert.InNormGrad0ReferenceIdeal.nD Cert.InNormGrad0ReferenceIdeal.τ).loc Cert.InNormGrad0ReferenceIdeal.main_arg4) = m' ((c.tc : Thread Cert.InNormGrad0ReferenceIdeal.nD Cert.InNormGrad0ReferenceIdeal.τ).loc Cert.InNormGrad0ReferenceIdeal.main_arg4)
          ∧ r.2.mem ((c.tc : Thread Cert.InNormGrad0ReferenceIdeal.nD Cert.InNormGrad0ReferenceIdeal.τ).loc Cert.InNormGrad0ReferenceIdeal.main_arg5) = m' ((c.tc : Thread Cert.InNormGrad0ReferenceIdeal.nD Cert.InNormGrad0ReferenceIdeal.τ).loc Cert.InNormGrad0ReferenceIdeal.main_arg5)
          ∧ r.2.mem ((c.tc : Thread Cert.InNormGrad0ReferenceIdeal.nD Cert.InNormGrad0ReferenceIdeal.τ).loc Cert.InNormGrad0ReferenceIdeal.main_arg6) = m' ((c.tc : Thread Cert.InNormGrad0ReferenceIdeal.nD Cert.InNormGrad0ReferenceIdeal.τ).loc Cert.InNormGrad0ReferenceIdeal.main_arg6)
          ∧ r.2.mem ((c.tc : Thread Cert.InNormGrad0ReferenceIdeal.nD Cert.InNormGrad0ReferenceIdeal.τ).loc Cert.InNormGrad0ReferenceIdeal.main_arg7) = m' ((c.tc : Thread Cert.InNormGrad0ReferenceIdeal.nD Cert.InNormGrad0ReferenceIdeal.τ).loc Cert.InNormGrad0ReferenceIdeal.main_arg7)
          ∧ r.2.mem ((c.tc : Thread Cert.InNormGrad0ReferenceIdeal.nD Cert.InNormGrad0ReferenceIdeal.τ).loc Cert.InNormGrad0ReferenceIdeal.main_arg8) = m' ((c.tc : Thread Cert.InNormGrad0ReferenceIdeal.nD Cert.InNormGrad0ReferenceIdeal.τ).loc Cert.InNormGrad0ReferenceIdeal.main_arg8))

def preserves_InZero_InZeroIdeal : Prop :=
  True

def algebraic_InZeroIdeal_InZeroReferenceIdeal [hInZeroIdeal : Cert.InZeroIdeal.Facts] [hInZeroReferenceIdeal : Cert.InZeroReferenceIdeal.Facts] : Prop :=
  ∀ (m : (ℓ : Loc Cert.InZeroIdeal.nD Cert.InZeroIdeal.τ Cert.InZeroIdeal.sig) → Buf (Elt Ideal) ℓ) (g : Dev Cert.InZeroIdeal.nD → PrngReg)
    (m' : (ℓ : Loc Cert.InZeroReferenceIdeal.nD Cert.InZeroReferenceIdeal.τ Cert.InZeroReferenceIdeal.sig) → Buf (Elt Ideal) ℓ) (g' : Dev Cert.InZeroReferenceIdeal.nD → PrngReg), Pre_InZeroIdeal m →
    (∀ c : Dev Cert.InZeroIdeal.nD,
      m' ((c.tc : Thread Cert.InZeroReferenceIdeal.nD Cert.InZeroReferenceIdeal.τ).loc Cert.InZeroReferenceIdeal.main_arg0) = m ((c.tc : Thread Cert.InZeroIdeal.nD Cert.InZeroIdeal.τ).loc Cert.InZeroIdeal.main_arg0)
      ∧ m' ((c.tc : Thread Cert.InZeroReferenceIdeal.nD Cert.InZeroReferenceIdeal.τ).loc Cert.InZeroReferenceIdeal.main_arg1) = m ((c.tc : Thread Cert.InZeroIdeal.nD Cert.InZeroIdeal.τ).loc Cert.InZeroIdeal.main_arg1)) →
    ∃ (v0 : (c : Dev Cert.InZeroIdeal.nD) → Buf (Elt Ideal) ((c.tc : Thread Cert.InZeroIdeal.nD Cert.InZeroIdeal.τ).loc Cert.InZeroIdeal.main_v0)),
      θ_run (Cert.InZeroIdeal.defs (F := Ideal)) (onTc (τ := Cert.InZeroIdeal.τ) (Cert.InZeroIdeal.main (F := Ideal))) ⟨m, fun _ => 0, g⟩ (fun r => ∀ c : Dev Cert.InZeroIdeal.nD,
          r.2.mem ((c.tc : Thread Cert.InZeroIdeal.nD Cert.InZeroIdeal.τ).loc Cert.InZeroIdeal.main_v0) = v0 c
          ∧ r.2.mem ((c.tc : Thread Cert.InZeroIdeal.nD Cert.InZeroIdeal.τ).loc Cert.InZeroIdeal.main_arg0) = m ((c.tc : Thread Cert.InZeroIdeal.nD Cert.InZeroIdeal.τ).loc Cert.InZeroIdeal.main_arg0)
          ∧ r.2.mem ((c.tc : Thread Cert.InZeroIdeal.nD Cert.InZeroIdeal.τ).loc Cert.InZeroIdeal.main_arg1) = m ((c.tc : Thread Cert.InZeroIdeal.nD Cert.InZeroIdeal.τ).loc Cert.InZeroIdeal.main_arg1))
      ∧ θ_run (Cert.InZeroReferenceIdeal.defs (F := Ideal)) (onTc (τ := Cert.InZeroReferenceIdeal.τ) (Cert.InZeroReferenceIdeal.main (F := Ideal))) ⟨m', fun _ => 0, g'⟩ (fun r => ∀ c : Dev Cert.InZeroReferenceIdeal.nD,
          r.2.mem ((c.tc : Thread Cert.InZeroReferenceIdeal.nD Cert.InZeroReferenceIdeal.τ).loc Cert.InZeroReferenceIdeal.main_v2) = v0 c
          ∧ r.2.mem ((c.tc : Thread Cert.InZeroReferenceIdeal.nD Cert.InZeroReferenceIdeal.τ).loc Cert.InZeroReferenceIdeal.main_arg0) = m' ((c.tc : Thread Cert.InZeroReferenceIdeal.nD Cert.InZeroReferenceIdeal.τ).loc Cert.InZeroReferenceIdeal.main_arg0)
          ∧ r.2.mem ((c.tc : Thread Cert.InZeroReferenceIdeal.nD Cert.InZeroReferenceIdeal.τ).loc Cert.InZeroReferenceIdeal.main_arg1) = m' ((c.tc : Thread Cert.InZeroReferenceIdeal.nD Cert.InZeroReferenceIdeal.τ).loc Cert.InZeroReferenceIdeal.main_arg1))

def preserves_InOne_InOneIdeal : Prop :=
  True

def algebraic_InOneIdeal_InOneReferenceIdeal [hInOneIdeal : Cert.InOneIdeal.Facts] [hInOneReferenceIdeal : Cert.InOneReferenceIdeal.Facts] : Prop :=
  ∀ (m : (ℓ : Loc Cert.InOneIdeal.nD Cert.InOneIdeal.τ Cert.InOneIdeal.sig) → Buf (Elt Ideal) ℓ) (g : Dev Cert.InOneIdeal.nD → PrngReg)
    (m' : (ℓ : Loc Cert.InOneReferenceIdeal.nD Cert.InOneReferenceIdeal.τ Cert.InOneReferenceIdeal.sig) → Buf (Elt Ideal) ℓ) (g' : Dev Cert.InOneReferenceIdeal.nD → PrngReg), Pre_InOneIdeal m →
    (∀ c : Dev Cert.InOneIdeal.nD,
      m' ((c.tc : Thread Cert.InOneReferenceIdeal.nD Cert.InOneReferenceIdeal.τ).loc Cert.InOneReferenceIdeal.main_arg0) = m ((c.tc : Thread Cert.InOneIdeal.nD Cert.InOneIdeal.τ).loc Cert.InOneIdeal.main_arg0)
      ∧ m' ((c.tc : Thread Cert.InOneReferenceIdeal.nD Cert.InOneReferenceIdeal.τ).loc Cert.InOneReferenceIdeal.main_arg1) = m ((c.tc : Thread Cert.InOneIdeal.nD Cert.InOneIdeal.τ).loc Cert.InOneIdeal.main_arg1)) →
    ∃ (v0 : (c : Dev Cert.InOneIdeal.nD) → Buf (Elt Ideal) ((c.tc : Thread Cert.InOneIdeal.nD Cert.InOneIdeal.τ).loc Cert.InOneIdeal.main_v0)),
      θ_run (Cert.InOneIdeal.defs (F := Ideal)) (onTc (τ := Cert.InOneIdeal.τ) (Cert.InOneIdeal.main (F := Ideal))) ⟨m, fun _ => 0, g⟩ (fun r => ∀ c : Dev Cert.InOneIdeal.nD,
          r.2.mem ((c.tc : Thread Cert.InOneIdeal.nD Cert.InOneIdeal.τ).loc Cert.InOneIdeal.main_v0) = v0 c
          ∧ r.2.mem ((c.tc : Thread Cert.InOneIdeal.nD Cert.InOneIdeal.τ).loc Cert.InOneIdeal.main_arg0) = m ((c.tc : Thread Cert.InOneIdeal.nD Cert.InOneIdeal.τ).loc Cert.InOneIdeal.main_arg0)
          ∧ r.2.mem ((c.tc : Thread Cert.InOneIdeal.nD Cert.InOneIdeal.τ).loc Cert.InOneIdeal.main_arg1) = m ((c.tc : Thread Cert.InOneIdeal.nD Cert.InOneIdeal.τ).loc Cert.InOneIdeal.main_arg1))
      ∧ θ_run (Cert.InOneReferenceIdeal.defs (F := Ideal)) (onTc (τ := Cert.InOneReferenceIdeal.τ) (Cert.InOneReferenceIdeal.main (F := Ideal))) ⟨m', fun _ => 0, g'⟩ (fun r => ∀ c : Dev Cert.InOneReferenceIdeal.nD,
          r.2.mem ((c.tc : Thread Cert.InOneReferenceIdeal.nD Cert.InOneReferenceIdeal.τ).loc Cert.InOneReferenceIdeal.main_v2) = v0 c
          ∧ r.2.mem ((c.tc : Thread Cert.InOneReferenceIdeal.nD Cert.InOneReferenceIdeal.τ).loc Cert.InOneReferenceIdeal.main_arg0) = m' ((c.tc : Thread Cert.InOneReferenceIdeal.nD Cert.InOneReferenceIdeal.τ).loc Cert.InOneReferenceIdeal.main_arg0)
          ∧ r.2.mem ((c.tc : Thread Cert.InOneReferenceIdeal.nD Cert.InOneReferenceIdeal.τ).loc Cert.InOneReferenceIdeal.main_arg1) = m' ((c.tc : Thread Cert.InOneReferenceIdeal.nD Cert.InOneReferenceIdeal.τ).loc Cert.InOneReferenceIdeal.main_arg1))

def preserves_DownOne_DownOneIdeal : Prop :=
  True

def algebraic_DownOneIdeal_DownOneReferenceIdeal [hDownOneIdeal : Cert.DownOneIdeal.Facts] [hDownOneReferenceIdeal : Cert.DownOneReferenceIdeal.Facts] : Prop :=
  ∀ (m : (ℓ : Loc Cert.DownOneIdeal.nD Cert.DownOneIdeal.τ Cert.DownOneIdeal.sig) → Buf (Elt Ideal) ℓ) (g : Dev Cert.DownOneIdeal.nD → PrngReg)
    (m' : (ℓ : Loc Cert.DownOneReferenceIdeal.nD Cert.DownOneReferenceIdeal.τ Cert.DownOneReferenceIdeal.sig) → Buf (Elt Ideal) ℓ) (g' : Dev Cert.DownOneReferenceIdeal.nD → PrngReg), Pre_DownOneIdeal m →
    (∀ c : Dev Cert.DownOneIdeal.nD,
      m' ((c.tc : Thread Cert.DownOneReferenceIdeal.nD Cert.DownOneReferenceIdeal.τ).loc Cert.DownOneReferenceIdeal.main_arg0) = m ((c.tc : Thread Cert.DownOneIdeal.nD Cert.DownOneIdeal.τ).loc Cert.DownOneIdeal.main_arg0)
      ∧ m' ((c.tc : Thread Cert.DownOneReferenceIdeal.nD Cert.DownOneReferenceIdeal.τ).loc Cert.DownOneReferenceIdeal.main_arg1) = m ((c.tc : Thread Cert.DownOneIdeal.nD Cert.DownOneIdeal.τ).loc Cert.DownOneIdeal.main_arg1)
      ∧ m' ((c.tc : Thread Cert.DownOneReferenceIdeal.nD Cert.DownOneReferenceIdeal.τ).loc Cert.DownOneReferenceIdeal.main_arg2) = m ((c.tc : Thread Cert.DownOneIdeal.nD Cert.DownOneIdeal.τ).loc Cert.DownOneIdeal.main_arg2)) →
    ∃ (v0 : (c : Dev Cert.DownOneIdeal.nD) → Buf (Elt Ideal) ((c.tc : Thread Cert.DownOneIdeal.nD Cert.DownOneIdeal.τ).loc Cert.DownOneIdeal.main_v0)),
      θ_run (Cert.DownOneIdeal.defs (F := Ideal)) (onTc (τ := Cert.DownOneIdeal.τ) (Cert.DownOneIdeal.main (F := Ideal))) ⟨m, fun _ => 0, g⟩ (fun r => ∀ c : Dev Cert.DownOneIdeal.nD,
          r.2.mem ((c.tc : Thread Cert.DownOneIdeal.nD Cert.DownOneIdeal.τ).loc Cert.DownOneIdeal.main_v0) = v0 c
          ∧ r.2.mem ((c.tc : Thread Cert.DownOneIdeal.nD Cert.DownOneIdeal.τ).loc Cert.DownOneIdeal.main_arg0) = m ((c.tc : Thread Cert.DownOneIdeal.nD Cert.DownOneIdeal.τ).loc Cert.DownOneIdeal.main_arg0)
          ∧ r.2.mem ((c.tc : Thread Cert.DownOneIdeal.nD Cert.DownOneIdeal.τ).loc Cert.DownOneIdeal.main_arg1) = m ((c.tc : Thread Cert.DownOneIdeal.nD Cert.DownOneIdeal.τ).loc Cert.DownOneIdeal.main_arg1)
          ∧ r.2.mem ((c.tc : Thread Cert.DownOneIdeal.nD Cert.DownOneIdeal.τ).loc Cert.DownOneIdeal.main_arg2) = m ((c.tc : Thread Cert.DownOneIdeal.nD Cert.DownOneIdeal.τ).loc Cert.DownOneIdeal.main_arg2))
      ∧ θ_run (Cert.DownOneReferenceIdeal.defs (F := Ideal)) (onTc (τ := Cert.DownOneReferenceIdeal.τ) (Cert.DownOneReferenceIdeal.main (F := Ideal))) ⟨m', fun _ => 0, g'⟩ (fun r => ∀ c : Dev Cert.DownOneReferenceIdeal.nD,
          r.2.mem ((c.tc : Thread Cert.DownOneReferenceIdeal.nD Cert.DownOneReferenceIdeal.τ).loc Cert.DownOneReferenceIdeal.main_v3) = v0 c
          ∧ r.2.mem ((c.tc : Thread Cert.DownOneReferenceIdeal.nD Cert.DownOneReferenceIdeal.τ).loc Cert.DownOneReferenceIdeal.main_arg0) = m' ((c.tc : Thread Cert.DownOneReferenceIdeal.nD Cert.DownOneReferenceIdeal.τ).loc Cert.DownOneReferenceIdeal.main_arg0)
          ∧ r.2.mem ((c.tc : Thread Cert.DownOneReferenceIdeal.nD Cert.DownOneReferenceIdeal.τ).loc Cert.DownOneReferenceIdeal.main_arg1) = m' ((c.tc : Thread Cert.DownOneReferenceIdeal.nD Cert.DownOneReferenceIdeal.τ).loc Cert.DownOneReferenceIdeal.main_arg1)
          ∧ r.2.mem ((c.tc : Thread Cert.DownOneReferenceIdeal.nD Cert.DownOneReferenceIdeal.τ).loc Cert.DownOneReferenceIdeal.main_arg2) = m' ((c.tc : Thread Cert.DownOneReferenceIdeal.nD Cert.DownOneReferenceIdeal.τ).loc Cert.DownOneReferenceIdeal.main_arg2))

def preserves_DownZero_DownZeroIdeal : Prop :=
  True

def algebraic_DownZeroIdeal_DownZeroReferenceIdeal [hDownZeroIdeal : Cert.DownZeroIdeal.Facts] [hDownZeroReferenceIdeal : Cert.DownZeroReferenceIdeal.Facts] : Prop :=
  ∀ (m : (ℓ : Loc Cert.DownZeroIdeal.nD Cert.DownZeroIdeal.τ Cert.DownZeroIdeal.sig) → Buf (Elt Ideal) ℓ) (g : Dev Cert.DownZeroIdeal.nD → PrngReg)
    (m' : (ℓ : Loc Cert.DownZeroReferenceIdeal.nD Cert.DownZeroReferenceIdeal.τ Cert.DownZeroReferenceIdeal.sig) → Buf (Elt Ideal) ℓ) (g' : Dev Cert.DownZeroReferenceIdeal.nD → PrngReg), Pre_DownZeroIdeal m →
    (∀ c : Dev Cert.DownZeroIdeal.nD,
      m' ((c.tc : Thread Cert.DownZeroReferenceIdeal.nD Cert.DownZeroReferenceIdeal.τ).loc Cert.DownZeroReferenceIdeal.main_arg0) = m ((c.tc : Thread Cert.DownZeroIdeal.nD Cert.DownZeroIdeal.τ).loc Cert.DownZeroIdeal.main_arg0)
      ∧ m' ((c.tc : Thread Cert.DownZeroReferenceIdeal.nD Cert.DownZeroReferenceIdeal.τ).loc Cert.DownZeroReferenceIdeal.main_arg1) = m ((c.tc : Thread Cert.DownZeroIdeal.nD Cert.DownZeroIdeal.τ).loc Cert.DownZeroIdeal.main_arg1)
      ∧ m' ((c.tc : Thread Cert.DownZeroReferenceIdeal.nD Cert.DownZeroReferenceIdeal.τ).loc Cert.DownZeroReferenceIdeal.main_arg2) = m ((c.tc : Thread Cert.DownZeroIdeal.nD Cert.DownZeroIdeal.τ).loc Cert.DownZeroIdeal.main_arg2)
      ∧ m' ((c.tc : Thread Cert.DownZeroReferenceIdeal.nD Cert.DownZeroReferenceIdeal.τ).loc Cert.DownZeroReferenceIdeal.main_arg3) = m ((c.tc : Thread Cert.DownZeroIdeal.nD Cert.DownZeroIdeal.τ).loc Cert.DownZeroIdeal.main_arg3)) →
    ∃ (v0 : (c : Dev Cert.DownZeroIdeal.nD) → Buf (Elt Ideal) ((c.tc : Thread Cert.DownZeroIdeal.nD Cert.DownZeroIdeal.τ).loc Cert.DownZeroIdeal.main_v0_0)) (v1 : (c : Dev Cert.DownZeroIdeal.nD) → Buf (Elt Ideal) ((c.tc : Thread Cert.DownZeroIdeal.nD Cert.DownZeroIdeal.τ).loc Cert.DownZeroIdeal.main_v0_1)),
      θ_run (Cert.DownZeroIdeal.defs (F := Ideal)) (onTc (τ := Cert.DownZeroIdeal.τ) (Cert.DownZeroIdeal.main (F := Ideal))) ⟨m, fun _ => 0, g⟩ (fun r => ∀ c : Dev Cert.DownZeroIdeal.nD,
          r.2.mem ((c.tc : Thread Cert.DownZeroIdeal.nD Cert.DownZeroIdeal.τ).loc Cert.DownZeroIdeal.main_v0_0) = v0 c
          ∧ r.2.mem ((c.tc : Thread Cert.DownZeroIdeal.nD Cert.DownZeroIdeal.τ).loc Cert.DownZeroIdeal.main_v0_1) = v1 c
          ∧ r.2.mem ((c.tc : Thread Cert.DownZeroIdeal.nD Cert.DownZeroIdeal.τ).loc Cert.DownZeroIdeal.main_arg0) = m ((c.tc : Thread Cert.DownZeroIdeal.nD Cert.DownZeroIdeal.τ).loc Cert.DownZeroIdeal.main_arg0)
          ∧ r.2.mem ((c.tc : Thread Cert.DownZeroIdeal.nD Cert.DownZeroIdeal.τ).loc Cert.DownZeroIdeal.main_arg1) = m ((c.tc : Thread Cert.DownZeroIdeal.nD Cert.DownZeroIdeal.τ).loc Cert.DownZeroIdeal.main_arg1)
          ∧ r.2.mem ((c.tc : Thread Cert.DownZeroIdeal.nD Cert.DownZeroIdeal.τ).loc Cert.DownZeroIdeal.main_arg2) = m ((c.tc : Thread Cert.DownZeroIdeal.nD Cert.DownZeroIdeal.τ).loc Cert.DownZeroIdeal.main_arg2)
          ∧ r.2.mem ((c.tc : Thread Cert.DownZeroIdeal.nD Cert.DownZeroIdeal.τ).loc Cert.DownZeroIdeal.main_arg3) = m ((c.tc : Thread Cert.DownZeroIdeal.nD Cert.DownZeroIdeal.τ).loc Cert.DownZeroIdeal.main_arg3))
      ∧ θ_run (Cert.DownZeroReferenceIdeal.defs (F := Ideal)) (onTc (τ := Cert.DownZeroReferenceIdeal.τ) (Cert.DownZeroReferenceIdeal.main (F := Ideal))) ⟨m', fun _ => 0, g'⟩ (fun r => ∀ c : Dev Cert.DownZeroReferenceIdeal.nD,
          r.2.mem ((c.tc : Thread Cert.DownZeroReferenceIdeal.nD Cert.DownZeroReferenceIdeal.τ).loc Cert.DownZeroReferenceIdeal.main_v3) = v0 c
          ∧ r.2.mem ((c.tc : Thread Cert.DownZeroReferenceIdeal.nD Cert.DownZeroReferenceIdeal.τ).loc Cert.DownZeroReferenceIdeal.main_v16) = v1 c
          ∧ r.2.mem ((c.tc : Thread Cert.DownZeroReferenceIdeal.nD Cert.DownZeroReferenceIdeal.τ).loc Cert.DownZeroReferenceIdeal.main_arg0) = m' ((c.tc : Thread Cert.DownZeroReferenceIdeal.nD Cert.DownZeroReferenceIdeal.τ).loc Cert.DownZeroReferenceIdeal.main_arg0)
          ∧ r.2.mem ((c.tc : Thread Cert.DownZeroReferenceIdeal.nD Cert.DownZeroReferenceIdeal.τ).loc Cert.DownZeroReferenceIdeal.main_arg1) = m' ((c.tc : Thread Cert.DownZeroReferenceIdeal.nD Cert.DownZeroReferenceIdeal.τ).loc Cert.DownZeroReferenceIdeal.main_arg1)
          ∧ r.2.mem ((c.tc : Thread Cert.DownZeroReferenceIdeal.nD Cert.DownZeroReferenceIdeal.τ).loc Cert.DownZeroReferenceIdeal.main_arg2) = m' ((c.tc : Thread Cert.DownZeroReferenceIdeal.nD Cert.DownZeroReferenceIdeal.τ).loc Cert.DownZeroReferenceIdeal.main_arg2)
          ∧ r.2.mem ((c.tc : Thread Cert.DownZeroReferenceIdeal.nD Cert.DownZeroReferenceIdeal.τ).loc Cert.DownZeroReferenceIdeal.main_arg3) = m' ((c.tc : Thread Cert.DownZeroReferenceIdeal.nD Cert.DownZeroReferenceIdeal.τ).loc Cert.DownZeroReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_v17) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Attention_AttentionIdeal : Prop :=
  IdealRules.named_const.Statement Cert.AttentionIdeal.κ "mask" .f32 0xF149F2CA#32 ⊥

def algebraic_AttentionIdeal_AttentionReferenceIdeal_pre_finite_attention [hAttentionIdeal : Cert.AttentionIdeal.Facts] [hAttentionReferenceIdeal : Cert.AttentionReferenceIdeal.Facts] [hPre_finite_attention : Cert.Pre_finite_attention.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_attention m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v5_0)) (v1 : (c : Dev Cert.AttentionIdeal.nD) → Buf (Elt Ideal) ((c.tc : Thread Cert.AttentionIdeal.nD Cert.AttentionIdeal.τ).loc Cert.AttentionIdeal.main_v5_1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v5_0) = v0 c
          ∧ r.2.mem ((c.tc : Thread Cert.AttentionIdeal.nD Cert.AttentionIdeal.τ).loc Cert.AttentionIdeal.main_v5_1) = v1 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v39) = v0 c
          ∧ r.2.mem ((c.tc : Thread Cert.AttentionReferenceIdeal.nD Cert.AttentionReferenceIdeal.τ).loc Cert.AttentionReferenceIdeal.main_v44) = v1 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1))

def preserves_NormZero_NormZeroIdeal : Prop :=
  True

def algebraic_NormZeroIdeal_NormZeroReferenceIdeal [hNormZeroIdeal : Cert.NormZeroIdeal.Facts] [hNormZeroReferenceIdeal : Cert.NormZeroReferenceIdeal.Facts] : Prop :=
  ∀ (m : (ℓ : Loc Cert.NormZeroIdeal.nD Cert.NormZeroIdeal.τ Cert.NormZeroIdeal.sig) → Buf (Elt Ideal) ℓ) (g : Dev Cert.NormZeroIdeal.nD → PrngReg)
    (m' : (ℓ : Loc Cert.NormZeroReferenceIdeal.nD Cert.NormZeroReferenceIdeal.τ Cert.NormZeroReferenceIdeal.sig) → Buf (Elt Ideal) ℓ) (g' : Dev Cert.NormZeroReferenceIdeal.nD → PrngReg), Pre_NormZeroIdeal m →
    (∀ c : Dev Cert.NormZeroIdeal.nD,
      m' ((c.tc : Thread Cert.NormZeroReferenceIdeal.nD Cert.NormZeroReferenceIdeal.τ).loc Cert.NormZeroReferenceIdeal.main_arg0) = m ((c.tc : Thread Cert.NormZeroIdeal.nD Cert.NormZeroIdeal.τ).loc Cert.NormZeroIdeal.main_arg0)
      ∧ m' ((c.tc : Thread Cert.NormZeroReferenceIdeal.nD Cert.NormZeroReferenceIdeal.τ).loc Cert.NormZeroReferenceIdeal.main_arg1) = m ((c.tc : Thread Cert.NormZeroIdeal.nD Cert.NormZeroIdeal.τ).loc Cert.NormZeroIdeal.main_arg1)) →
    ∃ (v0 : (c : Dev Cert.NormZeroIdeal.nD) → Buf (Elt Ideal) ((c.tc : Thread Cert.NormZeroIdeal.nD Cert.NormZeroIdeal.τ).loc Cert.NormZeroIdeal.main_v0)),
      θ_run (Cert.NormZeroIdeal.defs (F := Ideal)) (onTc (τ := Cert.NormZeroIdeal.τ) (Cert.NormZeroIdeal.main (F := Ideal))) ⟨m, fun _ => 0, g⟩ (fun r => ∀ c : Dev Cert.NormZeroIdeal.nD,
          r.2.mem ((c.tc : Thread Cert.NormZeroIdeal.nD Cert.NormZeroIdeal.τ).loc Cert.NormZeroIdeal.main_v0) = v0 c
          ∧ r.2.mem ((c.tc : Thread Cert.NormZeroIdeal.nD Cert.NormZeroIdeal.τ).loc Cert.NormZeroIdeal.main_arg0) = m ((c.tc : Thread Cert.NormZeroIdeal.nD Cert.NormZeroIdeal.τ).loc Cert.NormZeroIdeal.main_arg0)
          ∧ r.2.mem ((c.tc : Thread Cert.NormZeroIdeal.nD Cert.NormZeroIdeal.τ).loc Cert.NormZeroIdeal.main_arg1) = m ((c.tc : Thread Cert.NormZeroIdeal.nD Cert.NormZeroIdeal.τ).loc Cert.NormZeroIdeal.main_arg1))
      ∧ θ_run (Cert.NormZeroReferenceIdeal.defs (F := Ideal)) (onTc (τ := Cert.NormZeroReferenceIdeal.τ) (Cert.NormZeroReferenceIdeal.main (F := Ideal))) ⟨m', fun _ => 0, g'⟩ (fun r => ∀ c : Dev Cert.NormZeroReferenceIdeal.nD,
          r.2.mem ((c.tc : Thread Cert.NormZeroReferenceIdeal.nD Cert.NormZeroReferenceIdeal.τ).loc Cert.NormZeroReferenceIdeal.main_v12) = v0 c
          ∧ r.2.mem ((c.tc : Thread Cert.NormZeroReferenceIdeal.nD Cert.NormZeroReferenceIdeal.τ).loc Cert.NormZeroReferenceIdeal.main_arg0) = m' ((c.tc : Thread Cert.NormZeroReferenceIdeal.nD Cert.NormZeroReferenceIdeal.τ).loc Cert.NormZeroReferenceIdeal.main_arg0)
          ∧ r.2.mem ((c.tc : Thread Cert.NormZeroReferenceIdeal.nD Cert.NormZeroReferenceIdeal.τ).loc Cert.NormZeroReferenceIdeal.main_arg1) = m' ((c.tc : Thread Cert.NormZeroReferenceIdeal.nD Cert.NormZeroReferenceIdeal.τ).loc Cert.NormZeroReferenceIdeal.main_arg1))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)
      ∧ m' ((c.tc : Thread Cert.AdamwOutReferenceIdeal.nD Cert.AdamwOutReferenceIdeal.τ).loc Cert.AdamwOutReferenceIdeal.main_arg4) = m ((c.tc : Thread Cert.AdamwOutIdeal.nD Cert.AdamwOutIdeal.τ).loc Cert.AdamwOutIdeal.main_arg4)
      ∧ m' ((c.tc : Thread Cert.AdamwOutReferenceIdeal.nD Cert.AdamwOutReferenceIdeal.τ).loc Cert.AdamwOutReferenceIdeal.main_arg5) = m ((c.tc : Thread Cert.AdamwOutIdeal.nD Cert.AdamwOutIdeal.τ).loc Cert.AdamwOutIdeal.main_arg5)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
          ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v7) = v0 c
          ∧ r.2.mem ((c.tc : Thread Cert.AdamwOutReferenceIdeal.nD Cert.AdamwOutReferenceIdeal.τ).loc Cert.AdamwOutReferenceIdeal.main_v31) = v1 c
          ∧ r.2.mem ((c.tc : Thread Cert.AdamwOutReferenceIdeal.nD Cert.AdamwOutReferenceIdeal.τ).loc Cert.AdamwOutReferenceIdeal.main_v12) = v2 c
          ∧ r.2.mem ((c.tc : Thread Cert.AdamwOutReferenceIdeal.nD Cert.AdamwOutReferenceIdeal.τ).loc Cert.AdamwOutReferenceIdeal.main_v18) = v3 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3)
          ∧ r.2.mem ((c.tc : Thread Cert.AdamwOutReferenceIdeal.nD Cert.AdamwOutReferenceIdeal.τ).loc Cert.AdamwOutReferenceIdeal.main_arg4) = m' ((c.tc : Thread Cert.AdamwOutReferenceIdeal.nD Cert.AdamwOutReferenceIdeal.τ).loc Cert.AdamwOutReferenceIdeal.main_arg4)
          ∧ r.2.mem ((c.tc : Thread Cert.AdamwOutReferenceIdeal.nD Cert.AdamwOutReferenceIdeal.τ).loc Cert.AdamwOutReferenceIdeal.main_arg5) = m' ((c.tc : Thread Cert.AdamwOutReferenceIdeal.nD Cert.AdamwOutReferenceIdeal.τ).loc Cert.AdamwOutReferenceIdeal.main_arg5))

def preserves_AdamwInZero_AdamwInZeroIdeal : Prop :=
  True

def algebraic_AdamwInZeroIdeal_AdamwInZeroReferenceIdeal [hAdamwInZeroIdeal : Cert.AdamwInZeroIdeal.Facts] [hAdamwInZeroReferenceIdeal : Cert.AdamwInZeroReferenceIdeal.Facts] : Prop :=
  ∀ (m : (ℓ : Loc Cert.AdamwInZeroIdeal.nD Cert.AdamwInZeroIdeal.τ Cert.AdamwInZeroIdeal.sig) → Buf (Elt Ideal) ℓ) (g : Dev Cert.AdamwInZeroIdeal.nD → PrngReg)
    (m' : (ℓ : Loc Cert.AdamwInZeroReferenceIdeal.nD Cert.AdamwInZeroReferenceIdeal.τ Cert.AdamwInZeroReferenceIdeal.sig) → Buf (Elt Ideal) ℓ) (g' : Dev Cert.AdamwInZeroReferenceIdeal.nD → PrngReg), Pre_AdamwInZeroIdeal m →
    (∀ c : Dev Cert.AdamwInZeroIdeal.nD,
      m' ((c.tc : Thread Cert.AdamwInZeroReferenceIdeal.nD Cert.AdamwInZeroReferenceIdeal.τ).loc Cert.AdamwInZeroReferenceIdeal.main_arg0) = m ((c.tc : Thread Cert.AdamwInZeroIdeal.nD Cert.AdamwInZeroIdeal.τ).loc Cert.AdamwInZeroIdeal.main_arg0)
      ∧ m' ((c.tc : Thread Cert.AdamwInZeroReferenceIdeal.nD Cert.AdamwInZeroReferenceIdeal.τ).loc Cert.AdamwInZeroReferenceIdeal.main_arg1) = m ((c.tc : Thread Cert.AdamwInZeroIdeal.nD Cert.AdamwInZeroIdeal.τ).loc Cert.AdamwInZeroIdeal.main_arg1)
      ∧ m' ((c.tc : Thread Cert.AdamwInZeroReferenceIdeal.nD Cert.AdamwInZeroReferenceIdeal.τ).loc Cert.AdamwInZeroReferenceIdeal.main_arg2) = m ((c.tc : Thread Cert.AdamwInZeroIdeal.nD Cert.AdamwInZeroIdeal.τ).loc Cert.AdamwInZeroIdeal.main_arg2)
      ∧ m' ((c.tc : Thread Cert.AdamwInZeroReferenceIdeal.nD Cert.AdamwInZeroReferenceIdeal.τ).loc Cert.AdamwInZeroReferenceIdeal.main_arg3) = m ((c.tc : Thread Cert.AdamwInZeroIdeal.nD Cert.AdamwInZeroIdeal.τ).loc Cert.AdamwInZeroIdeal.main_arg3)
      ∧ m' ((c.tc : Thread Cert.AdamwInZeroReferenceIdeal.nD Cert.AdamwInZeroReferenceIdeal.τ).loc Cert.AdamwInZeroReferenceIdeal.main_arg4) = m ((c.tc : Thread Cert.AdamwInZeroIdeal.nD Cert.AdamwInZeroIdeal.τ).loc Cert.AdamwInZeroIdeal.main_arg4)
      ∧ m' ((c.tc : Thread Cert.AdamwInZeroReferenceIdeal.nD Cert.AdamwInZeroReferenceIdeal.τ).loc Cert.AdamwInZeroReferenceIdeal.main_arg5) = m ((c.tc : Thread Cert.AdamwInZeroIdeal.nD Cert.AdamwInZeroIdeal.τ).loc Cert.AdamwInZeroIdeal.main_arg5)) →
    ∃ (v0 : (c : Dev Cert.AdamwInZeroIdeal.nD) → Buf (Elt Ideal) ((c.tc : Thread Cert.AdamwInZeroIdeal.nD Cert.AdamwInZeroIdeal.τ).loc Cert.AdamwInZeroIdeal.main_v0_0)) (v1 : (c : Dev Cert.AdamwInZeroIdeal.nD) → Buf (Elt Ideal) ((c.tc : Thread Cert.AdamwInZeroIdeal.nD Cert.AdamwInZeroIdeal.τ).loc Cert.AdamwInZeroIdeal.main_v0_1)) (v2 : (c : Dev Cert.AdamwInZeroIdeal.nD) → Buf (Elt Ideal) ((c.tc : Thread Cert.AdamwInZeroIdeal.nD Cert.AdamwInZeroIdeal.τ).loc Cert.AdamwInZeroIdeal.main_v0_2)) (v3 : (c : Dev Cert.AdamwInZeroIdeal.nD) → Buf (Elt Ideal) ((c.tc : Thread Cert.AdamwInZeroIdeal.nD Cert.AdamwInZeroIdeal.τ).loc Cert.AdamwInZeroIdeal.main_v0_3)),
      θ_run (Cert.AdamwInZeroIdeal.defs (F := Ideal)) (onTc (τ := Cert.AdamwInZeroIdeal.τ) (Cert.AdamwInZeroIdeal.main (F := Ideal))) ⟨m, fun _ => 0, g⟩ (fun r => ∀ c : Dev Cert.AdamwInZeroIdeal.nD,
          r.2.mem ((c.tc : Thread Cert.AdamwInZeroIdeal.nD Cert.AdamwInZeroIdeal.τ).loc Cert.AdamwInZeroIdeal.main_v0_0) = v0 c
          ∧ r.2.mem ((c.tc : Thread Cert.AdamwInZeroIdeal.nD Cert.AdamwInZeroIdeal.τ).loc Cert.AdamwInZeroIdeal.main_v0_1) = v1 c
          ∧ r.2.mem ((c.tc : Thread Cert.AdamwInZeroIdeal.nD Cert.AdamwInZeroIdeal.τ).loc Cert.AdamwInZeroIdeal.main_v0_2) = v2 c
          ∧ r.2.mem ((c.tc : Thread Cert.AdamwInZeroIdeal.nD Cert.AdamwInZeroIdeal.τ).loc Cert.AdamwInZeroIdeal.main_v0_3) = v3 c
          ∧ r.2.mem ((c.tc : Thread Cert.AdamwInZeroIdeal.nD Cert.AdamwInZeroIdeal.τ).loc Cert.AdamwInZeroIdeal.main_arg0) = m ((c.tc : Thread Cert.AdamwInZeroIdeal.nD Cert.AdamwInZeroIdeal.τ).loc Cert.AdamwInZeroIdeal.main_arg0)
          ∧ r.2.mem ((c.tc : Thread Cert.AdamwInZeroIdeal.nD Cert.AdamwInZeroIdeal.τ).loc Cert.AdamwInZeroIdeal.main_arg1) = m ((c.tc : Thread Cert.AdamwInZeroIdeal.nD Cert.AdamwInZeroIdeal.τ).loc Cert.AdamwInZeroIdeal.main_arg1)
          ∧ r.2.mem ((c.tc : Thread Cert.AdamwInZeroIdeal.nD Cert.AdamwInZeroIdeal.τ).loc Cert.AdamwInZeroIdeal.main_arg2) = m ((c.tc : Thread Cert.AdamwInZeroIdeal.nD Cert.AdamwInZeroIdeal.τ).loc Cert.AdamwInZeroIdeal.main_arg2)
          ∧ r.2.mem ((c.tc : Thread Cert.AdamwInZeroIdeal.nD Cert.AdamwInZeroIdeal.τ).loc Cert.AdamwInZeroIdeal.main_arg3) = m ((c.tc : Thread Cert.AdamwInZeroIdeal.nD Cert.AdamwInZeroIdeal.τ).loc Cert.AdamwInZeroIdeal.main_arg3)
          ∧ r.2.mem ((c.tc : Thread Cert.AdamwInZeroIdeal.nD Cert.AdamwInZeroIdeal.τ).loc Cert.AdamwInZeroIdeal.main_arg4) = m ((c.tc : Thread Cert.AdamwInZeroIdeal.nD Cert.AdamwInZeroIdeal.τ).loc Cert.AdamwInZeroIdeal.main_arg4)
          ∧ r.2.mem ((c.tc : Thread Cert.AdamwInZeroIdeal.nD Cert.AdamwInZeroIdeal.τ).loc Cert.AdamwInZeroIdeal.main_arg5) = m ((c.tc : Thread Cert.AdamwInZeroIdeal.nD Cert.AdamwInZeroIdeal.τ).loc Cert.AdamwInZeroIdeal.main_arg5))
      ∧ θ_run (Cert.AdamwInZeroReferenceIdeal.defs (F := Ideal)) (onTc (τ := Cert.AdamwInZeroReferenceIdeal.τ) (Cert.AdamwInZeroReferenceIdeal.main (F := Ideal))) ⟨m', fun _ => 0, g'⟩ (fun r => ∀ c : Dev Cert.AdamwInZeroReferenceIdeal.nD,
          r.2.mem ((c.tc : Thread Cert.AdamwInZeroReferenceIdeal.nD Cert.AdamwInZeroReferenceIdeal.τ).loc Cert.AdamwInZeroReferenceIdeal.main_v7) = v0 c
          ∧ r.2.mem ((c.tc : Thread Cert.AdamwInZeroReferenceIdeal.nD Cert.AdamwInZeroReferenceIdeal.τ).loc Cert.AdamwInZeroReferenceIdeal.main_v31) = v1 c
          ∧ r.2.mem ((c.tc : Thread Cert.AdamwInZeroReferenceIdeal.nD Cert.AdamwInZeroReferenceIdeal.τ).loc Cert.AdamwInZeroReferenceIdeal.main_v12) = v2 c
          ∧ r.2.mem ((c.tc : Thread Cert.AdamwInZeroReferenceIdeal.nD Cert.AdamwInZeroReferenceIdeal.τ).loc Cert.AdamwInZeroReferenceIdeal.main_v18) = v3 c
          ∧ r.2.mem ((c.tc : Thread Cert.AdamwInZeroReferenceIdeal.nD Cert.AdamwInZeroReferenceIdeal.τ).loc Cert.AdamwInZeroReferenceIdeal.main_arg0) = m' ((c.tc : Thread Cert.AdamwInZeroReferenceIdeal.nD Cert.AdamwInZeroReferenceIdeal.τ).loc Cert.AdamwInZeroReferenceIdeal.main_arg0)
          ∧ r.2.mem ((c.tc : Thread Cert.AdamwInZeroReferenceIdeal.nD Cert.AdamwInZeroReferenceIdeal.τ).loc Cert.AdamwInZeroReferenceIdeal.main_arg1) = m' ((c.tc : Thread Cert.AdamwInZeroReferenceIdeal.nD Cert.AdamwInZeroReferenceIdeal.τ).loc Cert.AdamwInZeroReferenceIdeal.main_arg1)
          ∧ r.2.mem ((c.tc : Thread Cert.AdamwInZeroReferenceIdeal.nD Cert.AdamwInZeroReferenceIdeal.τ).loc Cert.AdamwInZeroReferenceIdeal.main_arg2) = m' ((c.tc : Thread Cert.AdamwInZeroReferenceIdeal.nD Cert.AdamwInZeroReferenceIdeal.τ).loc Cert.AdamwInZeroReferenceIdeal.main_arg2)
          ∧ r.2.mem ((c.tc : Thread Cert.AdamwInZeroReferenceIdeal.nD Cert.AdamwInZeroReferenceIdeal.τ).loc Cert.AdamwInZeroReferenceIdeal.main_arg3) = m' ((c.tc : Thread Cert.AdamwInZeroReferenceIdeal.nD Cert.AdamwInZeroReferenceIdeal.τ).loc Cert.AdamwInZeroReferenceIdeal.main_arg3)
          ∧ r.2.mem ((c.tc : Thread Cert.AdamwInZeroReferenceIdeal.nD Cert.AdamwInZeroReferenceIdeal.τ).loc Cert.AdamwInZeroReferenceIdeal.main_arg4) = m' ((c.tc : Thread Cert.AdamwInZeroReferenceIdeal.nD Cert.AdamwInZeroReferenceIdeal.τ).loc Cert.AdamwInZeroReferenceIdeal.main_arg4)
          ∧ r.2.mem ((c.tc : Thread Cert.AdamwInZeroReferenceIdeal.nD Cert.AdamwInZeroReferenceIdeal.τ).loc Cert.AdamwInZeroReferenceIdeal.main_arg5) = m' ((c.tc : Thread Cert.AdamwInZeroReferenceIdeal.nD Cert.AdamwInZeroReferenceIdeal.τ).loc Cert.AdamwInZeroReferenceIdeal.main_arg5))

def preserves_AdamwInOne_AdamwInOneIdeal : Prop :=
  True

def algebraic_AdamwInOneIdeal_AdamwInOneReferenceIdeal [hAdamwInOneIdeal : Cert.AdamwInOneIdeal.Facts] [hAdamwInOneReferenceIdeal : Cert.AdamwInOneReferenceIdeal.Facts] : Prop :=
  ∀ (m : (ℓ : Loc Cert.AdamwInOneIdeal.nD Cert.AdamwInOneIdeal.τ Cert.AdamwInOneIdeal.sig) → Buf (Elt Ideal) ℓ) (g : Dev Cert.AdamwInOneIdeal.nD → PrngReg)
    (m' : (ℓ : Loc Cert.AdamwInOneReferenceIdeal.nD Cert.AdamwInOneReferenceIdeal.τ Cert.AdamwInOneReferenceIdeal.sig) → Buf (Elt Ideal) ℓ) (g' : Dev Cert.AdamwInOneReferenceIdeal.nD → PrngReg), Pre_AdamwInOneIdeal m →
    (∀ c : Dev Cert.AdamwInOneIdeal.nD,
      m' ((c.tc : Thread Cert.AdamwInOneReferenceIdeal.nD Cert.AdamwInOneReferenceIdeal.τ).loc Cert.AdamwInOneReferenceIdeal.main_arg0) = m ((c.tc : Thread Cert.AdamwInOneIdeal.nD Cert.AdamwInOneIdeal.τ).loc Cert.AdamwInOneIdeal.main_arg0)
      ∧ m' ((c.tc : Thread Cert.AdamwInOneReferenceIdeal.nD Cert.AdamwInOneReferenceIdeal.τ).loc Cert.AdamwInOneReferenceIdeal.main_arg1) = m ((c.tc : Thread Cert.AdamwInOneIdeal.nD Cert.AdamwInOneIdeal.τ).loc Cert.AdamwInOneIdeal.main_arg1)
      ∧ m' ((c.tc : Thread Cert.AdamwInOneReferenceIdeal.nD Cert.AdamwInOneReferenceIdeal.τ).loc Cert.AdamwInOneReferenceIdeal.main_arg2) = m ((c.tc : Thread Cert.AdamwInOneIdeal.nD Cert.AdamwInOneIdeal.τ).loc Cert.AdamwInOneIdeal.main_arg2)
      ∧ m' ((c.tc : Thread Cert.AdamwInOneReferenceIdeal.nD Cert.AdamwInOneReferenceIdeal.τ).loc Cert.AdamwInOneReferenceIdeal.main_arg3) = m ((c.tc : Thread Cert.AdamwInOneIdeal.nD Cert.AdamwInOneIdeal.τ).loc Cert.AdamwInOneIdeal.main_arg3)
      ∧ m' ((c.tc : Thread Cert.AdamwInOneReferenceIdeal.nD Cert.AdamwInOneReferenceIdeal.τ).loc Cert.AdamwInOneReferenceIdeal.main_arg4) = m ((c.tc : Thread Cert.AdamwInOneIdeal.nD Cert.AdamwInOneIdeal.τ).loc Cert.AdamwInOneIdeal.main_arg4)
      ∧ m' ((c.tc : Thread Cert.AdamwInOneReferenceIdeal.nD Cert.AdamwInOneReferenceIdeal.τ).loc Cert.AdamwInOneReferenceIdeal.main_arg5) = m ((c.tc : Thread Cert.AdamwInOneIdeal.nD Cert.AdamwInOneIdeal.τ).loc Cert.AdamwInOneIdeal.main_arg5)) →
    ∃ (v0 : (c : Dev Cert.AdamwInOneIdeal.nD) → Buf (Elt Ideal) ((c.tc : Thread Cert.AdamwInOneIdeal.nD Cert.AdamwInOneIdeal.τ).loc Cert.AdamwInOneIdeal.main_v0_0)) (v1 : (c : Dev Cert.AdamwInOneIdeal.nD) → Buf (Elt Ideal) ((c.tc : Thread Cert.AdamwInOneIdeal.nD Cert.AdamwInOneIdeal.τ).loc Cert.AdamwInOneIdeal.main_v0_1)) (v2 : (c : Dev Cert.AdamwInOneIdeal.nD) → Buf (Elt Ideal) ((c.tc : Thread Cert.AdamwInOneIdeal.nD Cert.AdamwInOneIdeal.τ).loc Cert.AdamwInOneIdeal.main_v0_2)) (v3 : (c : Dev Cert.AdamwInOneIdeal.nD) → Buf (Elt Ideal) ((c.tc : Thread Cert.AdamwInOneIdeal.nD Cert.AdamwInOneIdeal.τ).loc Cert.AdamwInOneIdeal.main_v0_3)),
      θ_run (Cert.AdamwInOneIdeal.defs (F := Ideal)) (onTc (τ := Cert.AdamwInOneIdeal.τ) (Cert.AdamwInOneIdeal.main (F := Ideal))) ⟨m, fun _ => 0, g⟩ (fun r => ∀ c : Dev Cert.AdamwInOneIdeal.nD,
          r.2.mem ((c.tc : Thread Cert.AdamwInOneIdeal.nD Cert.AdamwInOneIdeal.τ).loc Cert.AdamwInOneIdeal.main_v0_0) = v0 c
          ∧ r.2.mem ((c.tc : Thread Cert.AdamwInOneIdeal.nD Cert.AdamwInOneIdeal.τ).loc Cert.AdamwInOneIdeal.main_v0_1) = v1 c
          ∧ r.2.mem ((c.tc : Thread Cert.AdamwInOneIdeal.nD Cert.AdamwInOneIdeal.τ).loc Cert.AdamwInOneIdeal.main_v0_2) = v2 c
          ∧ r.2.mem ((c.tc : Thread Cert.AdamwInOneIdeal.nD Cert.AdamwInOneIdeal.τ).loc Cert.AdamwInOneIdeal.main_v0_3) = v3 c
          ∧ r.2.mem ((c.tc : Thread Cert.AdamwInOneIdeal.nD Cert.AdamwInOneIdeal.τ).loc Cert.AdamwInOneIdeal.main_arg0) = m ((c.tc : Thread Cert.AdamwInOneIdeal.nD Cert.AdamwInOneIdeal.τ).loc Cert.AdamwInOneIdeal.main_arg0)
          ∧ r.2.mem ((c.tc : Thread Cert.AdamwInOneIdeal.nD Cert.AdamwInOneIdeal.τ).loc Cert.AdamwInOneIdeal.main_arg1) = m ((c.tc : Thread Cert.AdamwInOneIdeal.nD Cert.AdamwInOneIdeal.τ).loc Cert.AdamwInOneIdeal.main_arg1)
          ∧ r.2.mem ((c.tc : Thread Cert.AdamwInOneIdeal.nD Cert.AdamwInOneIdeal.τ).loc Cert.AdamwInOneIdeal.main_arg2) = m ((c.tc : Thread Cert.AdamwInOneIdeal.nD Cert.AdamwInOneIdeal.τ).loc Cert.AdamwInOneIdeal.main_arg2)
          ∧ r.2.mem ((c.tc : Thread Cert.AdamwInOneIdeal.nD Cert.AdamwInOneIdeal.τ).loc Cert.AdamwInOneIdeal.main_arg3) = m ((c.tc : Thread Cert.AdamwInOneIdeal.nD Cert.AdamwInOneIdeal.τ).loc Cert.AdamwInOneIdeal.main_arg3)
          ∧ r.2.mem ((c.tc : Thread Cert.AdamwInOneIdeal.nD Cert.AdamwInOneIdeal.τ).loc Cert.AdamwInOneIdeal.main_arg4) = m ((c.tc : Thread Cert.AdamwInOneIdeal.nD Cert.AdamwInOneIdeal.τ).loc Cert.AdamwInOneIdeal.main_arg4)
          ∧ r.2.mem ((c.tc : Thread Cert.AdamwInOneIdeal.nD Cert.AdamwInOneIdeal.τ).loc Cert.AdamwInOneIdeal.main_arg5) = m ((c.tc : Thread Cert.AdamwInOneIdeal.nD Cert.AdamwInOneIdeal.τ).loc Cert.AdamwInOneIdeal.main_arg5))
      ∧ θ_run (Cert.AdamwInOneReferenceIdeal.defs (F := Ideal)) (onTc (τ := Cert.AdamwInOneReferenceIdeal.τ) (Cert.AdamwInOneReferenceIdeal.main (F := Ideal))) ⟨m', fun _ => 0, g'⟩ (fun r => ∀ c : Dev Cert.AdamwInOneReferenceIdeal.nD,
          r.2.mem ((c.tc : Thread Cert.AdamwInOneReferenceIdeal.nD Cert.AdamwInOneReferenceIdeal.τ).loc Cert.AdamwInOneReferenceIdeal.main_v7) = v0 c
          ∧ r.2.mem ((c.tc : Thread Cert.AdamwInOneReferenceIdeal.nD Cert.AdamwInOneReferenceIdeal.τ).loc Cert.AdamwInOneReferenceIdeal.main_v31) = v1 c
          ∧ r.2.mem ((c.tc : Thread Cert.AdamwInOneReferenceIdeal.nD Cert.AdamwInOneReferenceIdeal.τ).loc Cert.AdamwInOneReferenceIdeal.main_v12) = v2 c
          ∧ r.2.mem ((c.tc : Thread Cert.AdamwInOneReferenceIdeal.nD Cert.AdamwInOneReferenceIdeal.τ).loc Cert.AdamwInOneReferenceIdeal.main_v18) = v3 c
          ∧ r.2.mem ((c.tc : Thread Cert.AdamwInOneReferenceIdeal.nD Cert.AdamwInOneReferenceIdeal.τ).loc Cert.AdamwInOneReferenceIdeal.main_arg0) = m' ((c.tc : Thread Cert.AdamwInOneReferenceIdeal.nD Cert.AdamwInOneReferenceIdeal.τ).loc Cert.AdamwInOneReferenceIdeal.main_arg0)
          ∧ r.2.mem ((c.tc : Thread Cert.AdamwInOneReferenceIdeal.nD Cert.AdamwInOneReferenceIdeal.τ).loc Cert.AdamwInOneReferenceIdeal.main_arg1) = m' ((c.tc : Thread Cert.AdamwInOneReferenceIdeal.nD Cert.AdamwInOneReferenceIdeal.τ).loc Cert.AdamwInOneReferenceIdeal.main_arg1)
          ∧ r.2.mem ((c.tc : Thread Cert.AdamwInOneReferenceIdeal.nD Cert.AdamwInOneReferenceIdeal.τ).loc Cert.AdamwInOneReferenceIdeal.main_arg2) = m' ((c.tc : Thread Cert.AdamwInOneReferenceIdeal.nD Cert.AdamwInOneReferenceIdeal.τ).loc Cert.AdamwInOneReferenceIdeal.main_arg2)
          ∧ r.2.mem ((c.tc : Thread Cert.AdamwInOneReferenceIdeal.nD Cert.AdamwInOneReferenceIdeal.τ).loc Cert.AdamwInOneReferenceIdeal.main_arg3) = m' ((c.tc : Thread Cert.AdamwInOneReferenceIdeal.nD Cert.AdamwInOneReferenceIdeal.τ).loc Cert.AdamwInOneReferenceIdeal.main_arg3)
          ∧ r.2.mem ((c.tc : Thread Cert.AdamwInOneReferenceIdeal.nD Cert.AdamwInOneReferenceIdeal.τ).loc Cert.AdamwInOneReferenceIdeal.main_arg4) = m' ((c.tc : Thread Cert.AdamwInOneReferenceIdeal.nD Cert.AdamwInOneReferenceIdeal.τ).loc Cert.AdamwInOneReferenceIdeal.main_arg4)
          ∧ r.2.mem ((c.tc : Thread Cert.AdamwInOneReferenceIdeal.nD Cert.AdamwInOneReferenceIdeal.τ).loc Cert.AdamwInOneReferenceIdeal.main_arg5) = m' ((c.tc : Thread Cert.AdamwInOneReferenceIdeal.nD Cert.AdamwInOneReferenceIdeal.τ).loc Cert.AdamwInOneReferenceIdeal.main_arg5))

def preserves_AdamwUp_AdamwUpIdeal : Prop :=
  True

def algebraic_AdamwUpIdeal_AdamwUpReferenceIdeal [hAdamwUpIdeal : Cert.AdamwUpIdeal.Facts] [hAdamwUpReferenceIdeal : Cert.AdamwUpReferenceIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpReferenceIdeal.nD Cert.AdamwUpReferenceIdeal.τ Cert.AdamwUpReferenceIdeal.sig) → Buf (Elt Ideal) ℓ) (g' : Dev Cert.AdamwUpReferenceIdeal.nD → PrngReg), Pre_AdamwUpIdeal m →
    (∀ c : Dev Cert.AdamwUpIdeal.nD,
      m' ((c.tc : Thread Cert.AdamwUpReferenceIdeal.nD Cert.AdamwUpReferenceIdeal.τ).loc Cert.AdamwUpReferenceIdeal.main_arg0) = m ((c.tc : Thread Cert.AdamwUpIdeal.nD Cert.AdamwUpIdeal.τ).loc Cert.AdamwUpIdeal.main_arg0)
      ∧ m' ((c.tc : Thread Cert.AdamwUpReferenceIdeal.nD Cert.AdamwUpReferenceIdeal.τ).loc Cert.AdamwUpReferenceIdeal.main_arg1) = m ((c.tc : Thread Cert.AdamwUpIdeal.nD Cert.AdamwUpIdeal.τ).loc Cert.AdamwUpIdeal.main_arg1)
      ∧ m' ((c.tc : Thread Cert.AdamwUpReferenceIdeal.nD Cert.AdamwUpReferenceIdeal.τ).loc Cert.AdamwUpReferenceIdeal.main_arg2) = m ((c.tc : Thread Cert.AdamwUpIdeal.nD Cert.AdamwUpIdeal.τ).loc Cert.AdamwUpIdeal.main_arg2)
      ∧ m' ((c.tc : Thread Cert.AdamwUpReferenceIdeal.nD Cert.AdamwUpReferenceIdeal.τ).loc Cert.AdamwUpReferenceIdeal.main_arg3) = m ((c.tc : Thread Cert.AdamwUpIdeal.nD Cert.AdamwUpIdeal.τ).loc Cert.AdamwUpIdeal.main_arg3)
      ∧ m' ((c.tc : Thread Cert.AdamwUpReferenceIdeal.nD Cert.AdamwUpReferenceIdeal.τ).loc Cert.AdamwUpReferenceIdeal.main_arg4) = m ((c.tc : Thread Cert.AdamwUpIdeal.nD Cert.AdamwUpIdeal.τ).loc Cert.AdamwUpIdeal.main_arg4)
      ∧ m' ((c.tc : Thread Cert.AdamwUpReferenceIdeal.nD Cert.AdamwUpReferenceIdeal.τ).loc Cert.AdamwUpReferenceIdeal.main_arg5) = m ((c.tc : Thread Cert.AdamwUpIdeal.nD Cert.AdamwUpIdeal.τ).loc Cert.AdamwUpIdeal.main_arg5)
      ∧ m' ((c.tc : Thread Cert.AdamwUpReferenceIdeal.nD Cert.AdamwUpReferenceIdeal.τ).loc Cert.AdamwUpReferenceIdeal.main_arg6) = m ((c.tc : Thread Cert.AdamwUpIdeal.nD Cert.AdamwUpIdeal.τ).loc Cert.AdamwUpIdeal.main_arg6)
      ∧ m' ((c.tc : Thread Cert.AdamwUpReferenceIdeal.nD Cert.AdamwUpReferenceIdeal.τ).loc Cert.AdamwUpReferenceIdeal.main_arg7) = m ((c.tc : Thread Cert.AdamwUpIdeal.nD Cert.AdamwUpIdeal.τ).loc Cert.AdamwUpIdeal.main_arg7)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)) (v3 : (c : Dev Cert.AdamwUpIdeal.nD) → Buf (Elt Ideal) ((c.tc : Thread Cert.AdamwUpIdeal.nD Cert.AdamwUpIdeal.τ).loc Cert.AdamwUpIdeal.main_v0_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_v0_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
          ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4)
          ∧ r.2.mem ((c.tc : Thread Cert.AdamwUpIdeal.nD Cert.AdamwUpIdeal.τ).loc Cert.AdamwUpIdeal.main_arg5) = m ((c.tc : Thread Cert.AdamwUpIdeal.nD Cert.AdamwUpIdeal.τ).loc Cert.AdamwUpIdeal.main_arg5)
          ∧ r.2.mem ((c.tc : Thread Cert.AdamwUpIdeal.nD Cert.AdamwUpIdeal.τ).loc Cert.AdamwUpIdeal.main_arg6) = m ((c.tc : Thread Cert.AdamwUpIdeal.nD Cert.AdamwUpIdeal.τ).loc Cert.AdamwUpIdeal.main_arg6)
          ∧ r.2.mem ((c.tc : Thread Cert.AdamwUpIdeal.nD Cert.AdamwUpIdeal.τ).loc Cert.AdamwUpIdeal.main_arg7) = m ((c.tc : Thread Cert.AdamwUpIdeal.nD Cert.AdamwUpIdeal.τ).loc Cert.AdamwUpIdeal.main_arg7))
      ∧ θ_run (Cert.AdamwUpReferenceIdeal.defs (F := Ideal)) (onTc (τ := Cert.AdamwUpReferenceIdeal.τ) (Cert.AdamwUpReferenceIdeal.main (F := Ideal))) ⟨m', fun _ => 0, g'⟩ (fun r => ∀ c : Dev Cert.AdamwUpReferenceIdeal.nD,
          r.2.mem ((c.tc : Thread Cert.AdamwUpReferenceIdeal.nD Cert.AdamwUpReferenceIdeal.τ).loc Cert.AdamwUpReferenceIdeal.main_v16) = v0 c
          ∧ r.2.mem ((c.tc : Thread Cert.AdamwUpReferenceIdeal.nD Cert.AdamwUpReferenceIdeal.τ).loc Cert.AdamwUpReferenceIdeal.main_v40) = v1 c
          ∧ r.2.mem ((c.tc : Thread Cert.AdamwUpReferenceIdeal.nD Cert.AdamwUpReferenceIdeal.τ).loc Cert.AdamwUpReferenceIdeal.main_v21) = v2 c
          ∧ r.2.mem ((c.tc : Thread Cert.AdamwUpReferenceIdeal.nD Cert.AdamwUpReferenceIdeal.τ).loc Cert.AdamwUpReferenceIdeal.main_v27) = v3 c
          ∧ r.2.mem ((c.tc : Thread Cert.AdamwUpReferenceIdeal.nD Cert.AdamwUpReferenceIdeal.τ).loc Cert.AdamwUpReferenceIdeal.main_arg0) = m' ((c.tc : Thread Cert.AdamwUpReferenceIdeal.nD Cert.AdamwUpReferenceIdeal.τ).loc Cert.AdamwUpReferenceIdeal.main_arg0)
          ∧ r.2.mem ((c.tc : Thread Cert.AdamwUpReferenceIdeal.nD Cert.AdamwUpReferenceIdeal.τ).loc Cert.AdamwUpReferenceIdeal.main_arg1) = m' ((c.tc : Thread Cert.AdamwUpReferenceIdeal.nD Cert.AdamwUpReferenceIdeal.τ).loc Cert.AdamwUpReferenceIdeal.main_arg1)
          ∧ r.2.mem ((c.tc : Thread Cert.AdamwUpReferenceIdeal.nD Cert.AdamwUpReferenceIdeal.τ).loc Cert.AdamwUpReferenceIdeal.main_arg2) = m' ((c.tc : Thread Cert.AdamwUpReferenceIdeal.nD Cert.AdamwUpReferenceIdeal.τ).loc Cert.AdamwUpReferenceIdeal.main_arg2)
          ∧ r.2.mem ((c.tc : Thread Cert.AdamwUpReferenceIdeal.nD Cert.AdamwUpReferenceIdeal.τ).loc Cert.AdamwUpReferenceIdeal.main_arg3) = m' ((c.tc : Thread Cert.AdamwUpReferenceIdeal.nD Cert.AdamwUpReferenceIdeal.τ).loc Cert.AdamwUpReferenceIdeal.main_arg3)
          ∧ r.2.mem ((c.tc : Thread Cert.AdamwUpReferenceIdeal.nD Cert.AdamwUpReferenceIdeal.τ).loc Cert.AdamwUpReferenceIdeal.main_arg4) = m' ((c.tc : Thread Cert.AdamwUpReferenceIdeal.nD Cert.AdamwUpReferenceIdeal.τ).loc Cert.AdamwUpReferenceIdeal.main_arg4)
          ∧ r.2.mem ((c.tc : Thread Cert.AdamwUpReferenceIdeal.nD Cert.AdamwUpReferenceIdeal.τ).loc Cert.AdamwUpReferenceIdeal.main_arg5) = m' ((c.tc : Thread Cert.AdamwUpReferenceIdeal.nD Cert.AdamwUpReferenceIdeal.τ).loc Cert.AdamwUpReferenceIdeal.main_arg5)
          ∧ r.2.mem ((c.tc : Thread Cert.AdamwUpReferenceIdeal.nD Cert.AdamwUpReferenceIdeal.τ).loc Cert.AdamwUpReferenceIdeal.main_arg6) = m' ((c.tc : Thread Cert.AdamwUpReferenceIdeal.nD Cert.AdamwUpReferenceIdeal.τ).loc Cert.AdamwUpReferenceIdeal.main_arg6)
          ∧ r.2.mem ((c.tc : Thread Cert.AdamwUpReferenceIdeal.nD Cert.AdamwUpReferenceIdeal.τ).loc Cert.AdamwUpReferenceIdeal.main_arg7) = m' ((c.tc : Thread Cert.AdamwUpReferenceIdeal.nD Cert.AdamwUpReferenceIdeal.τ).loc Cert.AdamwUpReferenceIdeal.main_arg7))

def preserves_AdamwDown_AdamwDownIdeal : Prop :=
  True

def algebraic_AdamwDownIdeal_AdamwDownReferenceIdeal [hAdamwDownIdeal : Cert.AdamwDownIdeal.Facts] [hAdamwDownReferenceIdeal : Cert.AdamwDownReferenceIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownReferenceIdeal.nD Cert.AdamwDownReferenceIdeal.τ Cert.AdamwDownReferenceIdeal.sig) → Buf (Elt Ideal) ℓ) (g' : Dev Cert.AdamwDownReferenceIdeal.nD → PrngReg), Pre_AdamwDownIdeal m →
    (∀ c : Dev Cert.AdamwDownIdeal.nD,
      m' ((c.tc : Thread Cert.AdamwDownReferenceIdeal.nD Cert.AdamwDownReferenceIdeal.τ).loc Cert.AdamwDownReferenceIdeal.main_arg0) = m ((c.tc : Thread Cert.AdamwDownIdeal.nD Cert.AdamwDownIdeal.τ).loc Cert.AdamwDownIdeal.main_arg0)
      ∧ m' ((c.tc : Thread Cert.AdamwDownReferenceIdeal.nD Cert.AdamwDownReferenceIdeal.τ).loc Cert.AdamwDownReferenceIdeal.main_arg1) = m ((c.tc : Thread Cert.AdamwDownIdeal.nD Cert.AdamwDownIdeal.τ).loc Cert.AdamwDownIdeal.main_arg1)
      ∧ m' ((c.tc : Thread Cert.AdamwDownReferenceIdeal.nD Cert.AdamwDownReferenceIdeal.τ).loc Cert.AdamwDownReferenceIdeal.main_arg2) = m ((c.tc : Thread Cert.AdamwDownIdeal.nD Cert.AdamwDownIdeal.τ).loc Cert.AdamwDownIdeal.main_arg2)
      ∧ m' ((c.tc : Thread Cert.AdamwDownReferenceIdeal.nD Cert.AdamwDownReferenceIdeal.τ).loc Cert.AdamwDownReferenceIdeal.main_arg3) = m ((c.tc : Thread Cert.AdamwDownIdeal.nD Cert.AdamwDownIdeal.τ).loc Cert.AdamwDownIdeal.main_arg3)
      ∧ m' ((c.tc : Thread Cert.AdamwDownReferenceIdeal.nD Cert.AdamwDownReferenceIdeal.τ).loc Cert.AdamwDownReferenceIdeal.main_arg4) = m ((c.tc : Thread Cert.AdamwDownIdeal.nD Cert.AdamwDownIdeal.τ).loc Cert.AdamwDownIdeal.main_arg4)
      ∧ m' ((c.tc : Thread Cert.AdamwDownReferenceIdeal.nD Cert.AdamwDownReferenceIdeal.τ).loc Cert.AdamwDownReferenceIdeal.main_arg5) = m ((c.tc : Thread Cert.AdamwDownIdeal.nD Cert.AdamwDownIdeal.τ).loc Cert.AdamwDownIdeal.main_arg5)
      ∧ m' ((c.tc : Thread Cert.AdamwDownReferenceIdeal.nD Cert.AdamwDownReferenceIdeal.τ).loc Cert.AdamwDownReferenceIdeal.main_arg6) = m ((c.tc : Thread Cert.AdamwDownIdeal.nD Cert.AdamwDownIdeal.τ).loc Cert.AdamwDownIdeal.main_arg6)
      ∧ m' ((c.tc : Thread Cert.AdamwDownReferenceIdeal.nD Cert.AdamwDownReferenceIdeal.τ).loc Cert.AdamwDownReferenceIdeal.main_arg7) = m ((c.tc : Thread Cert.AdamwDownIdeal.nD Cert.AdamwDownIdeal.τ).loc Cert.AdamwDownIdeal.main_arg7)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
          ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4)
          ∧ r.2.mem ((c.tc : Thread Cert.AdamwDownIdeal.nD Cert.AdamwDownIdeal.τ).loc Cert.AdamwDownIdeal.main_arg5) = m ((c.tc : Thread Cert.AdamwDownIdeal.nD Cert.AdamwDownIdeal.τ).loc Cert.AdamwDownIdeal.main_arg5)
          ∧ r.2.mem ((c.tc : Thread Cert.AdamwDownIdeal.nD Cert.AdamwDownIdeal.τ).loc Cert.AdamwDownIdeal.main_arg6) = m ((c.tc : Thread Cert.AdamwDownIdeal.nD Cert.AdamwDownIdeal.τ).loc Cert.AdamwDownIdeal.main_arg6)
          ∧ r.2.mem ((c.tc : Thread Cert.AdamwDownIdeal.nD Cert.AdamwDownIdeal.τ).loc Cert.AdamwDownIdeal.main_arg7) = m ((c.tc : Thread Cert.AdamwDownIdeal.nD Cert.AdamwDownIdeal.τ).loc Cert.AdamwDownIdeal.main_arg7))
      ∧ θ_run (Cert.AdamwDownReferenceIdeal.defs (F := Ideal)) (onTc (τ := Cert.AdamwDownReferenceIdeal.τ) (Cert.AdamwDownReferenceIdeal.main (F := Ideal))) ⟨m', fun _ => 0, g'⟩ (fun r => ∀ c : Dev Cert.AdamwDownReferenceIdeal.nD,
          r.2.mem ((c.tc : Thread Cert.AdamwDownReferenceIdeal.nD Cert.AdamwDownReferenceIdeal.τ).loc Cert.AdamwDownReferenceIdeal.main_v16) = v0 c
          ∧ r.2.mem ((c.tc : Thread Cert.AdamwDownReferenceIdeal.nD Cert.AdamwDownReferenceIdeal.τ).loc Cert.AdamwDownReferenceIdeal.main_v40) = v1 c
          ∧ r.2.mem ((c.tc : Thread Cert.AdamwDownReferenceIdeal.nD Cert.AdamwDownReferenceIdeal.τ).loc Cert.AdamwDownReferenceIdeal.main_v21) = v2 c
          ∧ r.2.mem ((c.tc : Thread Cert.AdamwDownReferenceIdeal.nD Cert.AdamwDownReferenceIdeal.τ).loc Cert.AdamwDownReferenceIdeal.main_v27) = v3 c
          ∧ r.2.mem ((c.tc : Thread Cert.AdamwDownReferenceIdeal.nD Cert.AdamwDownReferenceIdeal.τ).loc Cert.AdamwDownReferenceIdeal.main_arg0) = m' ((c.tc : Thread Cert.AdamwDownReferenceIdeal.nD Cert.AdamwDownReferenceIdeal.τ).loc Cert.AdamwDownReferenceIdeal.main_arg0)
          ∧ r.2.mem ((c.tc : Thread Cert.AdamwDownReferenceIdeal.nD Cert.AdamwDownReferenceIdeal.τ).loc Cert.AdamwDownReferenceIdeal.main_arg1) = m' ((c.tc : Thread Cert.AdamwDownReferenceIdeal.nD Cert.AdamwDownReferenceIdeal.τ).loc Cert.AdamwDownReferenceIdeal.main_arg1)
          ∧ r.2.mem ((c.tc : Thread Cert.AdamwDownReferenceIdeal.nD Cert.AdamwDownReferenceIdeal.τ).loc Cert.AdamwDownReferenceIdeal.main_arg2) = m' ((c.tc : Thread Cert.AdamwDownReferenceIdeal.nD Cert.AdamwDownReferenceIdeal.τ).loc Cert.AdamwDownReferenceIdeal.main_arg2)
          ∧ r.2.mem ((c.tc : Thread Cert.AdamwDownReferenceIdeal.nD Cert.AdamwDownReferenceIdeal.τ).loc Cert.AdamwDownReferenceIdeal.main_arg3) = m' ((c.tc : Thread Cert.AdamwDownReferenceIdeal.nD Cert.AdamwDownReferenceIdeal.τ).loc Cert.AdamwDownReferenceIdeal.main_arg3)
          ∧ r.2.mem ((c.tc : Thread Cert.AdamwDownReferenceIdeal.nD Cert.AdamwDownReferenceIdeal.τ).loc Cert.AdamwDownReferenceIdeal.main_arg4) = m' ((c.tc : Thread Cert.AdamwDownReferenceIdeal.nD Cert.AdamwDownReferenceIdeal.τ).loc Cert.AdamwDownReferenceIdeal.main_arg4)
          ∧ r.2.mem ((c.tc : Thread Cert.AdamwDownReferenceIdeal.nD Cert.AdamwDownReferenceIdeal.τ).loc Cert.AdamwDownReferenceIdeal.main_arg5) = m' ((c.tc : Thread Cert.AdamwDownReferenceIdeal.nD Cert.AdamwDownReferenceIdeal.τ).loc Cert.AdamwDownReferenceIdeal.main_arg5)
          ∧ r.2.mem ((c.tc : Thread Cert.AdamwDownReferenceIdeal.nD Cert.AdamwDownReferenceIdeal.τ).loc Cert.AdamwDownReferenceIdeal.main_arg6) = m' ((c.tc : Thread Cert.AdamwDownReferenceIdeal.nD Cert.AdamwDownReferenceIdeal.τ).loc Cert.AdamwDownReferenceIdeal.main_arg6)
          ∧ r.2.mem ((c.tc : Thread Cert.AdamwDownReferenceIdeal.nD Cert.AdamwDownReferenceIdeal.τ).loc Cert.AdamwDownReferenceIdeal.main_arg7) = m' ((c.tc : Thread Cert.AdamwDownReferenceIdeal.nD Cert.AdamwDownReferenceIdeal.τ).loc Cert.AdamwDownReferenceIdeal.main_arg7))

def preserves_Act_ActIdeal : Prop :=
  True

def algebraic_ActIdeal_ActReferenceIdeal [hActIdeal : Cert.ActIdeal.Facts] [hActReferenceIdeal : Cert.ActReferenceIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v22) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hActGrad : Cert.ActGrad.Facts) (hActGradIdeal : Cert.ActGradIdeal.Facts) (hActGradReferenceIdeal : Cert.ActGradReferenceIdeal.Facts) (hDownGrad : Cert.DownGrad.Facts) (hDownGradIdeal : Cert.DownGradIdeal.Facts) (hDownGradReferenceIdeal : Cert.DownGradReferenceIdeal.Facts) (hUpGrad : Cert.UpGrad.Facts) (hUpGradIdeal : Cert.UpGradIdeal.Facts) (hUpGradReferenceIdeal : Cert.UpGradReferenceIdeal.Facts) (hNormGrad : Cert.NormGrad.Facts) (hNormGradIdeal : Cert.NormGradIdeal.Facts) (hNormGradReferenceIdeal : Cert.NormGradReferenceIdeal.Facts) (hOutGrad : Cert.OutGrad.Facts) (hOutGradIdeal : Cert.OutGradIdeal.Facts) (hOutGradReferenceIdeal : Cert.OutGradReferenceIdeal.Facts) (hOutWeightGrad : Cert.OutWeightGrad.Facts) (hOutWeightGradIdeal : Cert.OutWeightGradIdeal.Facts) (hOutWeightGradReferenceIdeal : Cert.OutWeightGradReferenceIdeal.Facts) (hInWeightGrad1 : Cert.InWeightGrad1.Facts) (hInWeightGrad1Ideal : Cert.InWeightGrad1Ideal.Facts) (hInWeightGrad1ReferenceIdeal : Cert.InWeightGrad1ReferenceIdeal.Facts) (hInWeightGrad0 : Cert.InWeightGrad0.Facts) (hInWeightGrad0Ideal : Cert.InWeightGrad0Ideal.Facts) (hInWeightGrad0ReferenceIdeal : Cert.InWeightGrad0ReferenceIdeal.Facts) (hInNormGrad1 : Cert.InNormGrad1.Facts) (hInNormGrad1Ideal : Cert.InNormGrad1Ideal.Facts) (hInNormGrad1ReferenceIdeal : Cert.InNormGrad1ReferenceIdeal.Facts) (hInNormGrad0 : Cert.InNormGrad0.Facts) (hInNormGrad0Ideal : Cert.InNormGrad0Ideal.Facts) (hInNormGrad0ReferenceIdeal : Cert.InNormGrad0ReferenceIdeal.Facts) (hInZero : Cert.InZero.Facts) (hInZeroIdeal : Cert.InZeroIdeal.Facts) (hInZeroReferenceIdeal : Cert.InZeroReferenceIdeal.Facts) (hInOne : Cert.InOne.Facts) (hInOneIdeal : Cert.InOneIdeal.Facts) (hInOneReferenceIdeal : Cert.InOneReferenceIdeal.Facts) (hDownOne : Cert.DownOne.Facts) (hDownOneIdeal : Cert.DownOneIdeal.Facts) (hDownOneReferenceIdeal : Cert.DownOneReferenceIdeal.Facts) (hDownZero : Cert.DownZero.Facts) (hDownZeroIdeal : Cert.DownZeroIdeal.Facts) (hDownZeroReferenceIdeal : Cert.DownZeroReferenceIdeal.Facts) (hOut : Cert.Out.Facts) (hOutIdeal : Cert.OutIdeal.Facts) (hOutReferenceIdeal : Cert.OutReferenceIdeal.Facts) (hAttention : Cert.Attention.Facts) (hAttentionIdeal : Cert.AttentionIdeal.Facts) (hAttentionReferenceIdeal : Cert.AttentionReferenceIdeal.Facts) (hNormZero : Cert.NormZero.Facts) (hNormZeroIdeal : Cert.NormZeroIdeal.Facts) (hNormZeroReferenceIdeal : Cert.NormZeroReferenceIdeal.Facts) (hAdamwOut : Cert.AdamwOut.Facts) (hAdamwOutIdeal : Cert.AdamwOutIdeal.Facts) (hAdamwOutReferenceIdeal : Cert.AdamwOutReferenceIdeal.Facts) (hAdamwInZero : Cert.AdamwInZero.Facts) (hAdamwInZeroIdeal : Cert.AdamwInZeroIdeal.Facts) (hAdamwInZeroReferenceIdeal : Cert.AdamwInZeroReferenceIdeal.Facts) (hAdamwInOne : Cert.AdamwInOne.Facts) (hAdamwInOneIdeal : Cert.AdamwInOneIdeal.Facts) (hAdamwInOneReferenceIdeal : Cert.AdamwInOneReferenceIdeal.Facts) (hAdamwUp : Cert.AdamwUp.Facts) (hAdamwUpIdeal : Cert.AdamwUpIdeal.Facts) (hAdamwUpReferenceIdeal : Cert.AdamwUpReferenceIdeal.Facts) (hAdamwDown : Cert.AdamwDown.Facts) (hAdamwDownIdeal : Cert.AdamwDownIdeal.Facts) (hAdamwDownReferenceIdeal : Cert.AdamwDownReferenceIdeal.Facts) (hAct : Cert.Act.Facts) (hActIdeal : Cert.ActIdeal.Facts) (hActReferenceIdeal : Cert.ActReferenceIdeal.Facts) (hPre_finite : Cert.Pre_finite.Facts) (hPre_finite_attention : Cert.Pre_finite_attention.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_ActGrad (hActGrad := hActGrad)
    ∧ quiescent_ActGradIdeal (hActGradIdeal := hActGradIdeal)
    ∧ quiescent_ActGradReferenceIdeal (hActGradReferenceIdeal := hActGradReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_NormGrad (hNormGrad := hNormGrad)
    ∧ quiescent_NormGradIdeal (hNormGradIdeal := hNormGradIdeal)
    ∧ quiescent_NormGradReferenceIdeal (hNormGradReferenceIdeal := hNormGradReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_OutWeightGrad (hOutWeightGrad := hOutWeightGrad)
    ∧ quiescent_OutWeightGradIdeal (hOutWeightGradIdeal := hOutWeightGradIdeal)
    ∧ quiescent_OutWeightGradReferenceIdeal (hOutWeightGradReferenceIdeal := hOutWeightGradReferenceIdeal)
    ∧ quiescent_InWeightGrad1 (hInWeightGrad1 := hInWeightGrad1)
    ∧ quiescent_InWeightGrad1Ideal (hInWeightGrad1Ideal := hInWeightGrad1Ideal)
    ∧ quiescent_InWeightGrad1ReferenceIdeal (hInWeightGrad1ReferenceIdeal := hInWeightGrad1ReferenceIdeal)
    ∧ quiescent_InWeightGrad0 (hInWeightGrad0 := hInWeightGrad0)
    ∧ quiescent_InWeightGrad0Ideal (hInWeightGrad0Ideal := hInWeightGrad0Ideal)
    ∧ quiescent_InWeightGrad0ReferenceIdeal (hInWeightGrad0ReferenceIdeal := hInWeightGrad0ReferenceIdeal)
    ∧ quiescent_InNormGrad1 (hInNormGrad1 := hInNormGrad1)
    ∧ quiescent_InNormGrad1Ideal (hInNormGrad1Ideal := hInNormGrad1Ideal)
    ∧ quiescent_InNormGrad1ReferenceIdeal (hInNormGrad1ReferenceIdeal := hInNormGrad1ReferenceIdeal)
    ∧ quiescent_InNormGrad0 (hInNormGrad0 := hInNormGrad0)
    ∧ quiescent_InNormGrad0Ideal (hInNormGrad0Ideal := hInNormGrad0Ideal)
    ∧ quiescent_InNormGrad0ReferenceIdeal (hInNormGrad0ReferenceIdeal := hInNormGrad0ReferenceIdeal)
    ∧ quiescent_InZero (hInZero := hInZero)
    ∧ quiescent_InZeroIdeal (hInZeroIdeal := hInZeroIdeal)
    ∧ quiescent_InZeroReferenceIdeal (hInZeroReferenceIdeal := hInZeroReferenceIdeal)
    ∧ quiescent_InOne (hInOne := hInOne)
    ∧ quiescent_InOneIdeal (hInOneIdeal := hInOneIdeal)
    ∧ quiescent_InOneReferenceIdeal (hInOneReferenceIdeal := hInOneReferenceIdeal)
    ∧ quiescent_DownOne (hDownOne := hDownOne)
    ∧ quiescent_DownOneIdeal (hDownOneIdeal := hDownOneIdeal)
    ∧ quiescent_DownOneReferenceIdeal (hDownOneReferenceIdeal := hDownOneReferenceIdeal)
    ∧ quiescent_DownZero (hDownZero := hDownZero)
    ∧ quiescent_DownZeroIdeal (hDownZeroIdeal := hDownZeroIdeal)
    ∧ quiescent_DownZeroReferenceIdeal (hDownZeroReferenceIdeal := hDownZeroReferenceIdeal)
    ∧ quiescent_Out (hOut := hOut)
    ∧ quiescent_OutIdeal (hOutIdeal := hOutIdeal)
    ∧ quiescent_OutReferenceIdeal (hOutReferenceIdeal := hOutReferenceIdeal)
    ∧ quiescent_Attention (hAttention := hAttention)
    ∧ quiescent_AttentionIdeal (hAttentionIdeal := hAttentionIdeal)
    ∧ quiescent_AttentionIdeal_pre_finite_attention (hAttentionIdeal := hAttentionIdeal) (hPre_finite_attention := hPre_finite_attention)
    ∧ quiescent_AttentionReferenceIdeal (hAttentionReferenceIdeal := hAttentionReferenceIdeal)
    ∧ quiescent_AttentionReferenceIdeal_pre_finite_attention (hAttentionReferenceIdeal := hAttentionReferenceIdeal) (hPre_finite_attention := hPre_finite_attention)
    ∧ quiescent_NormZero (hNormZero := hNormZero)
    ∧ quiescent_NormZeroIdeal (hNormZeroIdeal := hNormZeroIdeal)
    ∧ quiescent_NormZeroReferenceIdeal (hNormZeroReferenceIdeal := hNormZeroReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwInZero (hAdamwInZero := hAdamwInZero)
    ∧ quiescent_AdamwInZeroIdeal (hAdamwInZeroIdeal := hAdamwInZeroIdeal)
    ∧ quiescent_AdamwInZeroReferenceIdeal (hAdamwInZeroReferenceIdeal := hAdamwInZeroReferenceIdeal)
    ∧ quiescent_AdamwInOne (hAdamwInOne := hAdamwInOne)
    ∧ quiescent_AdamwInOneIdeal (hAdamwInOneIdeal := hAdamwInOneIdeal)
    ∧ quiescent_AdamwInOneReferenceIdeal (hAdamwInOneReferenceIdeal := hAdamwInOneReferenceIdeal)
    ∧ quiescent_AdamwUp (hAdamwUp := hAdamwUp)
    ∧ quiescent_AdamwUpIdeal (hAdamwUpIdeal := hAdamwUpIdeal)
    ∧ quiescent_AdamwUpReferenceIdeal (hAdamwUpReferenceIdeal := hAdamwUpReferenceIdeal)
    ∧ quiescent_AdamwDown (hAdamwDown := hAdamwDown)
    ∧ quiescent_AdamwDownIdeal (hAdamwDownIdeal := hAdamwDownIdeal)
    ∧ quiescent_AdamwDownReferenceIdeal (hAdamwDownReferenceIdeal := hAdamwDownReferenceIdeal)
    ∧ quiescent_Act (hAct := hAct)
    ∧ quiescent_ActIdeal (hActIdeal := hActIdeal)
    ∧ quiescent_ActReferenceIdeal (hActReferenceIdeal := hActReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_ActGrad_ActGradIdeal
    ∧ algebraic_ActGradIdeal_ActGradReferenceIdeal (hActGradIdeal := hActGradIdeal) (hActGradReferenceIdeal := hActGradReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_UpGrad_UpGradIdeal
    ∧ algebraic_UpGradIdeal_UpGradReferenceIdeal (hUpGradIdeal := hUpGradIdeal) (hUpGradReferenceIdeal := hUpGradReferenceIdeal)
    ∧ preserves_NormGrad_NormGradIdeal
    ∧ algebraic_NormGradIdeal_NormGradReferenceIdeal (hNormGradIdeal := hNormGradIdeal) (hNormGradReferenceIdeal := hNormGradReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_OutWeightGrad_OutWeightGradIdeal
    ∧ algebraic_OutWeightGradIdeal_OutWeightGradReferenceIdeal (hOutWeightGradIdeal := hOutWeightGradIdeal) (hOutWeightGradReferenceIdeal := hOutWeightGradReferenceIdeal)
    ∧ preserves_InWeightGrad1_InWeightGrad1Ideal
    ∧ algebraic_InWeightGrad1Ideal_InWeightGrad1ReferenceIdeal (hInWeightGrad1Ideal := hInWeightGrad1Ideal) (hInWeightGrad1ReferenceIdeal := hInWeightGrad1ReferenceIdeal)
    ∧ preserves_InWeightGrad0_InWeightGrad0Ideal
    ∧ algebraic_InWeightGrad0Ideal_InWeightGrad0ReferenceIdeal (hInWeightGrad0Ideal := hInWeightGrad0Ideal) (hInWeightGrad0ReferenceIdeal := hInWeightGrad0ReferenceIdeal)
    ∧ preserves_InNormGrad1_InNormGrad1Ideal
    ∧ algebraic_InNormGrad1Ideal_InNormGrad1ReferenceIdeal (hInNormGrad1Ideal := hInNormGrad1Ideal) (hInNormGrad1ReferenceIdeal := hInNormGrad1ReferenceIdeal)
    ∧ preserves_InNormGrad0_InNormGrad0Ideal
    ∧ algebraic_InNormGrad0Ideal_InNormGrad0ReferenceIdeal (hInNormGrad0Ideal := hInNormGrad0Ideal) (hInNormGrad0ReferenceIdeal := hInNormGrad0ReferenceIdeal)
    ∧ preserves_InZero_InZeroIdeal
    ∧ algebraic_InZeroIdeal_InZeroReferenceIdeal (hInZeroIdeal := hInZeroIdeal) (hInZeroReferenceIdeal := hInZeroReferenceIdeal)
    ∧ preserves_InOne_InOneIdeal
    ∧ algebraic_InOneIdeal_InOneReferenceIdeal (hInOneIdeal := hInOneIdeal) (hInOneReferenceIdeal := hInOneReferenceIdeal)
    ∧ preserves_DownOne_DownOneIdeal
    ∧ algebraic_DownOneIdeal_DownOneReferenceIdeal (hDownOneIdeal := hDownOneIdeal) (hDownOneReferenceIdeal := hDownOneReferenceIdeal)
    ∧ preserves_DownZero_DownZeroIdeal
    ∧ algebraic_DownZeroIdeal_DownZeroReferenceIdeal (hDownZeroIdeal := hDownZeroIdeal) (hDownZeroReferenceIdeal := hDownZeroReferenceIdeal)
    ∧ preserves_Out_OutIdeal
    ∧ algebraic_OutIdeal_OutReferenceIdeal (hOutIdeal := hOutIdeal) (hOutReferenceIdeal := hOutReferenceIdeal)
    ∧ preserves_Attention_AttentionIdeal
    ∧ algebraic_AttentionIdeal_AttentionReferenceIdeal_pre_finite_attention (hAttentionIdeal := hAttentionIdeal) (hAttentionReferenceIdeal := hAttentionReferenceIdeal) (hPre_finite_attention := hPre_finite_attention)
    ∧ preserves_NormZero_NormZeroIdeal
    ∧ algebraic_NormZeroIdeal_NormZeroReferenceIdeal (hNormZeroIdeal := hNormZeroIdeal) (hNormZeroReferenceIdeal := hNormZeroReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwInZero_AdamwInZeroIdeal
    ∧ algebraic_AdamwInZeroIdeal_AdamwInZeroReferenceIdeal (hAdamwInZeroIdeal := hAdamwInZeroIdeal) (hAdamwInZeroReferenceIdeal := hAdamwInZeroReferenceIdeal)
    ∧ preserves_AdamwInOne_AdamwInOneIdeal
    ∧ algebraic_AdamwInOneIdeal_AdamwInOneReferenceIdeal (hAdamwInOneIdeal := hAdamwInOneIdeal) (hAdamwInOneReferenceIdeal := hAdamwInOneReferenceIdeal)
    ∧ preserves_AdamwUp_AdamwUpIdeal
    ∧ algebraic_AdamwUpIdeal_AdamwUpReferenceIdeal (hAdamwUpIdeal := hAdamwUpIdeal) (hAdamwUpReferenceIdeal := hAdamwUpReferenceIdeal)
    ∧ preserves_AdamwDown_AdamwDownIdeal
    ∧ algebraic_AdamwDownIdeal_AdamwDownReferenceIdeal (hAdamwDownIdeal := hAdamwDownIdeal) (hAdamwDownReferenceIdeal := hAdamwDownReferenceIdeal)
    ∧ preserves_Act_ActIdeal
    ∧ algebraic_ActIdeal_ActReferenceIdeal (hActIdeal := hActIdeal) (hActReferenceIdeal := hActReferenceIdeal)
-- ==== Pre_finite.lean ====
abbrev S4096x2688 : Shape := ⟨2, ![4096, 2688]⟩
abbrev S4096x1024 : Shape := ⟨2, ![4096, 1024]⟩
abbrev S4096x8 : Shape := ⟨2, ![4096, 8]⟩
abbrev S4096x1536 : Shape := ⟨2, ![4096, 1536]⟩
abbrev S4096x512 : Shape := ⟨2, ![4096, 512]⟩
abbrev S4096x2056 : Shape := ⟨2, ![4096, 2056]⟩
abbrev S_ : Shape := ⟨0, ![]⟩

class Facts : Prop where
  slices_S4096x2688_S4096x1536_0_1024 : S4096x2688.Slices ![0, 1024] S4096x1536
  slices_S4096x1024_S4096x512_0_512 : S4096x1024.Slices ![0, 512] S4096x512
  concatenates_S4096x1536_S4096x512_S4096x8_S4096x2056_d1 : Shape.Concatenates [S4096x1536, S4096x512, S4096x8] S4096x2056 1
  bcast_S_S4096x2056 : S_.BroadcastsInDim S4096x2056 (![] : Fin 0 → Fin S4096x2056.rank)

variable [Facts]

def fn {F : FTy → Type} [FloatOps F] (main_arg0 : FVec F S4096x2688 .f32) (main_arg1 : FVec F S4096x1024 .f32) (main_arg2 : FVec F S4096x8 .f32) : IVec S4096x2056 1 :=
  let main_v0 : FVec F S4096x1536 .f32 := (extractStridedSlice S4096x1536 ![0, 1024] · slices_S4096x2688_S4096x1536_0_1024) main_arg0
  let main_v1 : FVec F S4096x512 .f32 := (extractStridedSlice S4096x512 ![0, 512] · slices_S4096x1024_S4096x512_0_512) main_arg1
  let main_v2 : FVec F S4096x2056 .f32 := concatenate S4096x2056 1 [⟨S4096x1536, main_v0⟩, ⟨S4096x512, main_v1⟩, ⟨S4096x8, main_arg2⟩] concatenates_S4096x1536_S4096x512_S4096x8_S4096x2056_d1
  let main_v3 : FVec F S4096x2056 .f32 := Host.absf main_v2
  let main_cst : FVec F S_ .f32 := constant S_ .f32 0x7F800000#32
  let main_v4 : FVec F S4096x2056 .f32 := broadcastInDim S4096x2056 ![] bcast_S_S4096x2056 main_cst
  let main_v5 : IVec S4096x2056 1 := cmpf .olt main_v3 main_v4
  main_v5
-- ==== Pre_finite_attention.lean ====
abbrev S4096x2688 : Shape := ⟨2, ![4096, 2688]⟩
abbrev S4096x8 : Shape := ⟨2, ![4096, 8]⟩
abbrev S4096x1536 : Shape := ⟨2, ![4096, 1536]⟩
abbrev S4096x1544 : Shape := ⟨2, ![4096, 1544]⟩
abbrev S_ : Shape := ⟨0, ![]⟩

class Facts : Prop where
  slices_S4096x2688_S4096x1536_0_1024 : S4096x2688.Slices ![0, 1024] S4096x1536
  concatenates_S4096x1536_S4096x8_S4096x1544_d1 : Shape.Concatenates [S4096x1536, S4096x8] S4096x1544 1
  bcast_S_S4096x1544 : S_.BroadcastsInDim S4096x1544 (![] : Fin 0 → Fin S4096x1544.rank)

variable [Facts]

def fn {F : FTy → Type} [FloatOps F] (main_arg0 : FVec F S4096x2688 .f32) (main_arg1 : FVec F S4096x8 .f32) : IVec S4096x1544 1 :=
  let main_v0 : FVec F S4096x1536 .f32 := (extractStridedSlice S4096x1536 ![0, 1024] · slices_S4096x2688_S4096x1536_0_1024) main_arg0
  let main_v1 : FVec F S4096x1544 .f32 := (fun a b => concatenate S4096x1544 1 [⟨S4096x1536, a⟩, ⟨S4096x8, b⟩] concatenates_S4096x1536_S4096x8_S4096x1544_d1) main_v0 main_arg1
  let main_v2 : FVec F S4096x1544 .f32 := Host.absf main_v1
  let main_cst : FVec F S_ .f32 := constant S_ .f32 0x7F800000#32
  let main_v3 : FVec F S4096x1544 .f32 := broadcastInDim S4096x1544 ![] bcast_S_S4096x1544 main_cst
  let main_v4 : IVec S4096x1544 1 := cmpf .olt main_v2 main_v3
  main_v4
-- ==== Kernel.lean ====
abbrev S4096x2688 : Shape := ⟨2, ![4096, 2688]⟩
abbrev S4096x1024 : Shape := ⟨2, ![4096, 1024]⟩
abbrev S4096x8 : Shape := ⟨2, ![4096, 8]⟩
abbrev S4096x512 : Shape := ⟨2, ![4096, 512]⟩
abbrev S4096x8x64 : Shape := ⟨3, ![4096, 8, 64]⟩
abbrev S4096 : Shape := ⟨1, ![4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4096x8x1 : Shape := ⟨3, ![4096, 8, 1]⟩
abbrev S4096x8x128 : Shape := ⟨3, ![4096, 8, 128]⟩
abbrev S4096x128 : Shape := ⟨2, ![4096, 128]⟩
abbrev S512x128 : Shape := ⟨2, ![512, 128]⟩
abbrev S4096x256 : Shape := ⟨2, ![4096, 256]⟩
abbrev S2x1x512 : Shape := ⟨3, ![2, 1, 512]⟩
abbrev S2x4096x128 : Shape := ⟨3, ![2, 4096, 128]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩
abbrev S1x512x128 : Shape := ⟨3, ![1, 512, 128]⟩
abbrev S512x1 : Shape := ⟨2, ![512, 1]⟩
abbrev S1x4096x128 : Shape := ⟨3, ![1, 4096, 128]⟩

abbrev nBuf : Space → Nat
  | .hbm => 68
  | .vmem => 26
  | .smem => 0
  | _ => 0

abbrev bufTy : (tb : Table) → Fin (tcTables nBuf tb) → BufTy
  | .hbm, ⟨0, _⟩ => ⟨S4096x2688, .f32⟩
  | .hbm, ⟨1, _⟩ => ⟨S4096x1024, .f32⟩
  | .hbm, ⟨2, _⟩ => ⟨S4096x8, .f32⟩
  | .hbm, ⟨3, _⟩ => ⟨S4096x512, .f32⟩
  | .hbm, ⟨4, _⟩ => ⟨S4096x8x64, .f32⟩
  | .hbm, ⟨5, _⟩ => ⟨S4096x512, .f32⟩
  | .hbm, ⟨6, _⟩ => ⟨S4096x8x64, .f32⟩
  | .hbm, ⟨7, _⟩ => ⟨S4096x512, .f32⟩
  | .hbm, ⟨8, _⟩ => ⟨S4096x8x64, .f32⟩
  | .hbm, ⟨9, _⟩ => ⟨S4096x512, .f32⟩
  | .hbm, ⟨10, _⟩ => ⟨S4096x8x64, .f32⟩
  | .hbm, ⟨11, _⟩ => ⟨S4096, .i32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096, .f32⟩
  | .hbm, ⟨21, _⟩ => ⟨S8x1x4096, .f32⟩
  | .hbm, ⟨22, _⟩ => ⟨S8x4096x4096, .f32⟩
  | .hbm, ⟨23, _⟩ => ⟨S8x4096x4096, .f32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S8x4096x4096, .i1⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096, .f32⟩
  | .hbm, ⟨46, _⟩ => ⟨S8x4096x4096, .f32⟩
  | .hbm, ⟨47, _⟩ => ⟨S8x4096x4096, .f32⟩
  | .hbm, ⟨48, _⟩ => ⟨S8x64x4096, .f32⟩
  | .hbm, ⟨49, _⟩ => ⟨S4096x8x64, .f32⟩
  | .hbm, ⟨50, _⟩ => ⟨S4096x8, .f32⟩
  | .hbm, ⟨51, _⟩ => ⟨S4096x8, .f32⟩
  | .hbm, ⟨52, _⟩ => ⟨S4096x8x1, .f32⟩
  | .hbm, ⟨53, _⟩ => ⟨S4096x8x128, .f32⟩
  | .hbm, ⟨54, _⟩ => ⟨S4096x1024, .f32⟩
  | .hbm, ⟨55, _⟩ => ⟨S4096x8x64, .f32⟩
  | .hbm, ⟨56, _⟩ => ⟨S_, .f32⟩
  | .hbm, ⟨57, _⟩ => ⟨S4096x8, .f32⟩
  | .hbm, ⟨58, _⟩ => ⟨S4096x8x1, .f32⟩
  | .hbm, ⟨59, _⟩ => ⟨S4096x8x128, .f32⟩
  | .hbm, ⟨60, _⟩ => ⟨S4096x1024, .f32⟩
  | .hbm, ⟨61, _⟩ => ⟨S8x4096, .f32⟩
  | .hbm, ⟨62, _⟩ => ⟨S8x1x4096, .f32⟩
  | .hbm, ⟨63, _⟩ => ⟨S4096x512, .bf16⟩
  | .hbm, ⟨64, _⟩ => ⟨S4096x512, .bf16⟩
  | .hbm, ⟨65, _⟩ => ⟨S4096x512, .bf16⟩
  | .hbm, ⟨66, _⟩ => ⟨S8x1x4096, .f32⟩
  | .hbm, ⟨67, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S4096x128, .f32⟩
  | .local _ .vmem, ⟨7, _⟩ => ⟨S4096x128, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S2x1x512, .f32⟩
  | .local _ .vmem, ⟨13, _⟩ => ⟨S2x1x512, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S2x1x512, .f32⟩
  | .local _ .vmem, ⟨21, _⟩ => ⟨S2x1x512, .f32⟩
  | .local _ .vmem, ⟨22, _⟩ => ⟨S4096x256, .f32⟩
  | .local _ .vmem, ⟨23, _⟩ => ⟨S4096x256, .f32⟩
  | .local _ .vmem, ⟨24, _⟩ => ⟨S4096x128, .f32⟩
  | .local _ .vmem, ⟨25, _⟩ => ⟨S2x4096x128, .f32⟩
  | _, _ => ⟨S4096x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52_0 : Ref sig .tc := ⟨.hbm, 63, rfl⟩
abbrev main_v52_1 : Ref sig .tc := ⟨.hbm, 64, rfl⟩
abbrev main_v52_2 : Ref sig .tc := ⟨.hbm, 65, rfl⟩
abbrev main_v52_3 : Ref sig .tc := ⟨.hbm, 66, rfl⟩
abbrev main_v52_4 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v24 : BitVec 32 := Scalar.muli arg1 c512_i32
  v24
def k0_off1 (i : grid0.Coords) : Fin 2 → Nat :=
  let arg1 : BitVec 32 := BitVec.ofNat 32 (i 1).val
  let c512_i32 : BitVec 32 := 512#32
  let v24 : BitVec 32 := Scalar.muli arg1 c512_i32
  let v25 : BitVec 32 := v24
  let v26 : Index := Scalar.indexCast v25
  let c0_13 : Index := 0#32
  ![v26.toNat, 0]
def k0_off2 (i : grid0.Coords) : Fin 2 → Nat :=
  let arg1 : BitVec 32 := BitVec.ofNat 32 (i 1).val
  let c512_i32 : BitVec 32 := 512#32
  let v24 : BitVec 32 := Scalar.muli arg1 c512_i32
  let v25 : BitVec 32 := v24
  let v38 : Index := Scalar.indexCast v25
  let c0_18 : Index := 0#32
  ![v38.toNat, 0]
def k0_off3 (i : grid0.Coords) : Fin 3 → Nat :=
  let c0_29 : Index := 0#32
  let arg1 : BitVec 32 := BitVec.ofNat 32 (i 1).val
  let c512_i32 : BitVec 32 := 512#32
  let v24 : BitVec 32 := Scalar.muli arg1 c512_i32
  let v25 : BitVec 32 := v24
  let v76 : Index := Scalar.indexCast v25
  let c0_30 : Index := 0#32
  ![0, v76.toNat, 0]
def k0_off4 (i : grid0.Coords) : Fin 2 → Nat :=
  let arg1 : BitVec 32 := BitVec.ofNat 32 (i 1).val
  let c512_i32 : BitVec 32 := 512#32
  let v24 : BitVec 32 := Scalar.muli arg1 c512_i32
  let v25 : BitVec 32 := v24
  let v93 : Index := Scalar.indexCast v25
  let c128 : Index := 128#32
  ![v93.toNat, 128]
def k0_off5 (i : grid0.Coords) : Fin 3 → Nat :=
  let c1_46 : Index := 1#32
  let arg1 : BitVec 32 := BitVec.ofNat 32 (i 1).val
  let c512_i32 : BitVec 32 := 512#32
  let v24 : BitVec 32 := Scalar.muli arg1 c512_i32
  let v25 : BitVec 32 := v24
  let v131 : Index := Scalar.indexCast v25
  let c0_47 : Index := 0#32
  ![1, v131.toNat, 0]
@[reducible] def k0_t1_loop (i : grid0.Coords) : Scf.Loop 32 :=
  let arg1 : BitVec 32 := BitVec.ofNat 32 (i 1).val
  let c1_i32 : BitVec 32 := 1#32
  let v142 : BitVec 32 := Scalar.addi arg1 c1_i32
  let c8_i32 : BitVec 32 := 8#32
  let v143 : BitVec 32 := Scalar.subi c8_i32 v142
  let c1_i32_51 : BitVec 32 := 1#32
  let v145 : BitVec 32 := Scalar.divsi v143 c1_i32_51
  let v146 : BitVec 32 := Scalar.muli v145 c1_i32_51
  let v147 : BitVec 32 := Scalar.addi v142 v146
  let c1_i32_52 : BitVec 32 := 1#32
  ⟨v142, v147, c1_i32_52⟩
def k0_mult2 (i : grid0.Coords) (k0_t1 : Fin (k0_t1_loop i).trips) : BitVec 32 :=
  let arg1 : BitVec 32 := BitVec.ofNat 32 (i 1).val
  let c1_i32 : BitVec 32 := 1#32
  let v142 : BitVec 32 := Scalar.addi arg1 c1_i32
  let c1_i32_52 : BitVec 32 := 1#32
  let arg16 : BitVec 32 := Scf.iv v142 c1_i32_52 k0_t1
  let c512_i32_65 : BitVec 32 := 512#32
  let v163 : BitVec 32 := Scalar.muli arg16 c512_i32_65
  v163
def k0_off6 (i : grid0.Coords) (k0_t1 : Fin (k0_t1_loop i).trips) : Fin 2 → Nat :=
  let arg1 : BitVec 32 := BitVec.ofNat 32 (i 1).val
  let c1_i32 : BitVec 32 := 1#32
  let v142 : BitVec 32 := Scalar.addi arg1 c1_i32
  let c1_i32_52 : BitVec 32 := 1#32
  let arg16 : BitVec 32 := Scf.iv v142 c1_i32_52 k0_t1
  let c512_i32_65 : BitVec 32 := 512#32
  let v163 : BitVec 32 := Scalar.muli arg16 c512_i32_65
  let v164 : BitVec 32 := v163
  let v165 : Index := Scalar.indexCast v164
  let c0_66 : Index := 0#32
  ![v165.toNat, 0]
def k0_off7 (i : grid0.Coords) (k0_t1 : Fin (k0_t1_loop i).trips) : Fin 2 → Nat :=
  let arg1 : BitVec 32 := BitVec.ofNat 32 (i 1).val
  let c1_i32 : BitVec 32 := 1#32
  let v142 : BitVec 32 := Scalar.addi arg1 c1_i32
  let c1_i32_52 : BitVec 32 := 1#32
  let arg16 : BitVec 32 := Scf.iv v142 c1_i32_52 k0_t1
  let c512_i32_65 : BitVec 32 := 512#32
  let v163 : BitVec 32 := Scalar.muli arg16 c512_i32_65
  let v164 : BitVec 32 := v163
  let v177 : Index := Scalar.indexCast v164
  let c0_71 : Index := 0#32
  ![v177.toNat, 0]
def k0_off8 (i : grid0.Coords) (k0_t1 : Fin (k0_t1_loop i).trips) : Fin 3 → Nat :=
  let c0_81 : Index := 0#32
  let arg1 : BitVec 32 := BitVec.ofNat 32 (i 1).val
  let c1_i32 : BitVec 32 := 1#32
  let v142 : BitVec 32 := Scalar.addi arg1 c1_i32
  let c1_i32_52 : BitVec 32 := 1#32
  let arg16 : BitVec 32 := Scf.iv v142 c1_i32_52 k0_t1
  let c512_i32_65 : BitVec 32 := 512#32
  let v163 : BitVec 32 := Scalar.muli arg16 c512_i32_65
  let v164 : BitVec 32 := v163
  let v210 : Index := Scalar.indexCast v164
  let c0_82 : Index := 0#32
  ![0, v210.toNat, 0]
def k0_off9 (i : grid0.Coords) (k0_t1 : Fin (k0_t1_loop i).trips) : Fin 2 → Nat :=
  let arg1 : BitVec 32 := BitVec.ofNat 32 (i 1).val
  let c1_i32 : BitVec 32 := 1#32
  let v142 : BitVec 32 := Scalar.addi arg1 c1_i32
  let c1_i32_52 : BitVec 32 := 1#32
  let arg16 : BitVec 32 := Scf.iv v142 c1_i32_52 k0_t1
  let c512_i32_65 : BitVec 32 := 512#32
  let v163 : BitVec 32 := Scalar.muli arg16 c512_i32_65
  let v164 : BitVec 32 := v163
  let v227 : Index := Scalar.indexCast v164
  let c128_88 : Index := 128#32
  ![v227.toNat, 128]
def k0_off10 (i : grid0.Coords) (k0_t1 : Fin (k0_t1_loop i).trips) : Fin 3 → Nat :=
  let c1_98 : Index := 1#32
  let arg1 : BitVec 32 := BitVec.ofNat 32 (i 1).val
  let c1_i32 : BitVec 32 := 1#32
  let v142 : BitVec 32 := Scalar.addi arg1 c1_i32
  let c1_i32_52 : BitVec 32 := 1#32
  let arg16 : BitVec 32 := Scf.iv v142 c1_i32_52 k0_t1
  let c512_i32_65 : BitVec 32 := 512#32
  let v163 : BitVec 32 := Scalar.muli arg16 c512_i32_65
  let v164 : BitVec 32 := v163
  let v260 : Index := Scalar.indexCast v164
  let c0_99 : Index := 0#32
  ![1, v260.toNat, 0]
@[reducible] def k0_t2_loop (i : grid0.Coords) : Scf.Loop 32 :=
  let arg1 : BitVec 32 := BitVec.ofNat 32 (i 1).val
  let c1_i32 : BitVec 32 := 1#32
  let v142 : BitVec 32 := Scalar.addi arg1 c1_i32
  let c8_i32 : BitVec 32 := 8#32
  let v143 : BitVec 32 := Scalar.subi c8_i32 v142
  let c1_i32_51 : BitVec 32 := 1#32
  let v145 : BitVec 32 := Scalar.divsi v143 c1_i32_51
  let v146 : BitVec 32 := Scalar.muli v145 c1_i32_51
  let v147 : BitVec 32 := Scalar.addi v142 v146
  let v144 : BitVec 32 := Scalar.addi v142 v143
  let c1_i32_53 : BitVec 32 := 1#32
  ⟨v147, v144, c1_i32_53⟩
def k0_mult3 (i : grid0.Coords) (k0_t2 : Fin (k0_t2_loop i).trips) : BitVec 32 :=
  let arg1 : BitVec 32 := BitVec.ofNat 32 (i 1).val
  let c1_i32 : BitVec 32 := 1#32
  let v142 : BitVec 32 := Scalar.addi arg1 c1_i32
  let c8_i32 : BitVec 32 := 8#32
  let v143 : BitVec 32 := Scalar.subi c8_i32 v142
  let c1_i32_51 : BitVec 32 := 1#32
  let v145 : BitVec 32 := Scalar.divsi v143 c1_i32_51
  let v146 : BitVec 32 := Scalar.muli v145 c1_i32_51
  let v147 : BitVec 32 := Scalar.addi v142 v146
  let c1_i32_53 : BitVec 32 := 1#32
  let arg16 : BitVec 32 := Scf.iv v147 c1_i32_53 k0_t2
  let c512_i32_65 : BitVec 32 := 512#32
  let v163 : BitVec 32 := Scalar.muli arg16 c512_i32_65
  v163
def k0_off11 (i : grid0.Coords) (k0_t2 : Fin (k0_t2_loop i).trips) : Fin 2 → Nat :=
  let arg1 : BitVec 32 := BitVec.ofNat 32 (i 1).val
  let c1_i32 : BitVec 32 := 1#32
  let v142 : BitVec 32 := Scalar.addi arg1 c1_i32
  let c8_i32 : BitVec 32 := 8#32
  let v143 : BitVec 32 := Scalar.subi c8_i32 v142
  let c1_i32_51 : BitVec 32 := 1#32
  let v145 : BitVec 32 := Scalar.divsi v143 c1_i32_51
  let v146 : BitVec 32 := Scalar.muli v145 c1_i32_51
  let v147 : BitVec 32 := Scalar.addi v142 v146
  let c1_i32_53 : BitVec 32 := 1#32
  let arg16 : BitVec 32 := Scf.iv v147 c1_i32_53 k0_t2
  let c512_i32_65 : BitVec 32 := 512#32
  let v163 : BitVec 32 := Scalar.muli arg16 c512_i32_65
  let v164 : BitVec 32 := v163
  let v165 : Index := Scalar.indexCast v164
  let c0_66 : Index := 0#32
  ![v165.toNat, 0]
def k0_off12 (i : grid0.Coords) (k0_t2 : Fin (k0_t2_loop i).trips) : Fin 2 → Nat :=
  let arg1 : BitVec 32 := BitVec.ofNat 32 (i 1).val
  let c1_i32 : BitVec 32 := 1#32
  let v142 : BitVec 32 := Scalar.addi arg1 c1_i32
  let c8_i32 : BitVec 32 := 8#32
  let v143 : BitVec 32 := Scalar.subi c8_i32 v142
  let c1_i32_51 : BitVec 32 := 1#32
  let v145 : BitVec 32 := Scalar.divsi v143 c1_i32_51
  let v146 : BitVec 32 := Scalar.muli v145 c1_i32_51
  let v147 : BitVec 32 := Scalar.addi v142 v146
  let c1_i32_53 : BitVec 32 := 1#32
  let arg16 : BitVec 32 := Scf.iv v147 c1_i32_53 k0_t2
  let c512_i32_65 : BitVec 32 := 512#32
  let v163 : BitVec 32 := Scalar.muli arg16 c512_i32_65
  let v164 : BitVec 32 := v163
  let v177 : Index := Scalar.indexCast v164
  let c0_71 : Index := 0#32
  ![v177.toNat, 0]
def k0_off13 (i : grid0.Coords) (k0_t2 : Fin (k0_t2_loop i).trips) : Fin 3 → Nat :=
  let c0_81 : Index := 0#32
  let arg1 : BitVec 32 := BitVec.ofNat 32 (i 1).val
  let c1_i32 : BitVec 32 := 1#32
  let v142 : BitVec 32 := Scalar.addi arg1 c1_i32
  let c8_i32 : BitVec 32 := 8#32
  let v143 : BitVec 32 := Scalar.subi c8_i32 v142
  let c1_i32_51 : BitVec 32 := 1#32
  let v145 : BitVec 32 := Scalar.divsi v143 c1_i32_51
  let v146 : BitVec 32 := Scalar.muli v145 c1_i32_51
  let v147 : BitVec 32 := Scalar.addi v142 v146
  let c1_i32_53 : BitVec 32 := 1#32
  let arg16 : BitVec 32 := Scf.iv v147 c1_i32_53 k0_t2
  let c512_i32_65 : BitVec 32 := 512#32
  let v163 : BitVec 32 := Scalar.muli arg16 c512_i32_65
  let v164 : BitVec 32 := v163
  let v210 : Index := Scalar.indexCast v164
  let c0_82 : Index := 0#32
  ![0, v210.toNat, 0]
def k0_off14 (i : grid0.Coords) (k0_t2 : Fin (k0_t2_loop i).trips) : Fin 2 → Nat :=
  let arg1 : BitVec 32 := BitVec.ofNat 32 (i 1).val
  let c1_i32 : BitVec 32 := 1#32
  let v142 : BitVec 32 := Scalar.addi arg1 c1_i32
  let c8_i32 : BitVec 32 := 8#32
  let v143 : BitVec 32 := Scalar.subi c8_i32 v142
  let c1_i32_51 : BitVec 32 := 1#32
  let v145 : BitVec 32 := Scalar.divsi v143 c1_i32_51
  let v146 : BitVec 32 := Scalar.muli v145 c1_i32_51
  let v147 : BitVec 32 := Scalar.addi v142 v146
  let c1_i32_53 : BitVec 32 := 1#32
  let arg16 : BitVec 32 := Scf.iv v147 c1_i32_53 k0_t2
  let c512_i32_65 : BitVec 32 := 512#32
  let v163 : BitVec 32 := Scalar.muli arg16 c512_i32_65
  let v164 : BitVec 32 := v163
  let v227 : Index := Scalar.indexCast v164
  let c128_88 : Index := 128#32
  ![v227.toNat, 128]
def k0_off15 (i : grid0.Coords) (k0_t2 : Fin (k0_t2_loop i).trips) : Fin 3 → Nat :=
  let c1_98 : Index := 1#32
  let arg1 : BitVec 32 := BitVec.ofNat 32 (i 1).val
  let c1_i32 : BitVec 32 := 1#32
  let v142 : BitVec 32 := Scalar.addi arg1 c1_i32
  let c8_i32 : BitVec 32 := 8#32
  let v143 : BitVec 32 := Scalar.subi c8_i32 v142
  let c1_i32_51 : BitVec 32 := 1#32
  let v145 : BitVec 32 := Scalar.divsi v143 c1_i32_51
  let v146 : BitVec 32 := Scalar.muli v145 c1_i32_51
  let v147 : BitVec 32 := Scalar.addi v142 v146
  let c1_i32_53 : BitVec 32 := 1#32
  let arg16 : BitVec 32 := Scf.iv v147 c1_i32_53 k0_t2
  let c512_i32_65 : BitVec 32 := 512#32
  let v163 : BitVec 32 := Scalar.muli arg16 c512_i32_65
  let v164 : BitVec 32 := v163
  let v260 : Index := Scalar.indexCast v164
  let c0_99 : Index := 0#32
  ![1, v260.toNat, 0]
def k0_cond2 (i : grid0.Coords) : BitVec 1 :=
  let arg1 : BitVec 32 := BitVec.ofNat 32 (i 1).val
  let c7_i32 : BitVec 32 := 7#32
  let v160 : BitVec 1 := Scalar.cmpi .eq arg1 c7_i32
  let v161 : BitVec 32 := Scalar.extui v160
  let c0_i32_64 : BitVec 32 := 0#32
  let v162 : BitVec 1 := Scalar.cmpi .ne v161 c0_i32_64
  v162

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x2688 : Shape := ⟨2, ![4096, 2688]⟩
abbrev S4096x1024 : Shape := ⟨2, ![4096, 1024]⟩
abbrev S4096x8 : Shape := ⟨2, ![4096, 8]⟩
abbrev S4096x512 : Shape := ⟨2, ![4096, 512]⟩
abbrev S4096x8x64 : Shape := ⟨3, ![4096, 8, 64]⟩
abbrev S8x4096x64 : Shape := ⟨3, ![8, 4096, 64]⟩
abbrev S4096 : Shape := ⟨1, ![4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4096x8x1 : Shape := ⟨3, ![4096, 8, 1]⟩
abbrev S4096x8x128 : Shape := ⟨3, ![4096, 8, 128]⟩

abbrev nBuf : Space → Nat
  | .hbm => 133
  | .vmem => 0
  | .smem => 0
  | _ => 0

abbrev hbmTy0_0 (i : Nat) : BufTy := match i % 128 with
  | 0 => ⟨S4096x2688, .f32⟩
  | 1 => ⟨S4096x1024, .f32⟩
  | 2 => ⟨S4096x8, .f32⟩
  | 3 => ⟨S4096x512, .f32⟩
  | 4 => ⟨S4096x512, .f32⟩
  | 5 => ⟨S4096x512, .f32⟩
  | 6 => ⟨S4096x8x64, .f32⟩
  | 7 => ⟨S8x4096x64, .f32⟩
  | 8 => ⟨S4096x8x64, .f32⟩
  | 9 => ⟨S8x4096x64, .f32⟩
  | 10 => ⟨S4096x8x64, .f32⟩
  | 11 => ⟨S8x4096x64, .f32⟩
  | 12 => ⟨S4096, .i32⟩
  | 13 => ⟨S8x4096x4096, .f32⟩
  | 14 => ⟨S_, .f32⟩
  | 15 => ⟨S8x4096x4096, .f32⟩
  | 16 => ⟨S8x4096x4096, .f32⟩
  | 17 => ⟨S8x4096, .f32⟩
  | 18 => ⟨S8x4096x1, .f32⟩
  | 19 => ⟨S8x4096x4096, .f32⟩
  | 20 => ⟨S8x4096x4096, .f32⟩
  | 21 => ⟨S8x4096, .f32⟩
  | 22 => ⟨S8x1x4096, .f32⟩
  | 23 => ⟨S8x4096x4096, .f32⟩
  | 24 => ⟨S8x4096x4096, .f32⟩
  | 25 => ⟨S1x4096, .i32⟩
  | 26 => ⟨S4096x1, .i32⟩
  | 27 => ⟨S4096x4096, .i32⟩
  | 28 => ⟨S4096x4096, .i32⟩
  | 29 => ⟨S4096x4096, .i1⟩
  | 30 => ⟨S_, .f32⟩
  | 31 => ⟨S_, .f32⟩
  | 32 => ⟨S8x4096x4096, .i1⟩
  | 33 => ⟨S8x4096x4096, .f32⟩
  | 34 => ⟨S8x4096x4096, .f32⟩
  | 35 => ⟨S_, .f32⟩
  | 36 => ⟨S8x4096x4096, .f32⟩
  | 37 => ⟨S_, .f32⟩
  | 38 => ⟨S8x4096, .f32⟩
  | 39 => ⟨S8x4096x1, .f32⟩
  | 40 => ⟨S8x4096x4096, .f32⟩
  | 41 => ⟨S8x4096x4096, .i1⟩
  | 42 => ⟨S8x4096x4096, .f32⟩
  | 43 => ⟨S_, .f32⟩
  | 44 => ⟨S8x4096, .f32⟩
  | 45 => ⟨S_, .f32⟩
  | 46 => ⟨S8x4096, .f32⟩
  | 47 => ⟨S8x4096, .f32⟩
  | 48 => ⟨S_, .f32⟩
  | 49 => ⟨S8x4096, .f32⟩
  | 50 => ⟨S8x4096, .i1⟩
  | 51 => ⟨S_, .f32⟩
  | 52 => ⟨S8x4096, .f32⟩
  | 53 => ⟨S8x4096, .i1⟩
  | 54 => ⟨S_, .f32⟩
  | 55 => ⟨S8x4096, .f32⟩
  | 56 => ⟨S_, .f32⟩
  | 57 => ⟨S8x4096, .f32⟩
  | 58 => ⟨S_, .f32⟩
  | 59 => ⟨S8x4096, .f32⟩
  | 60 => ⟨S8x4096, .f32⟩
  | 61 => ⟨S8x4096, .f32⟩
  | 62 => ⟨S8x4096x1, .f32⟩
  | 63 => ⟨S8x4096x4096, .f32⟩
  | 64 => ⟨S8x4096x4096, .f32⟩
  | 65 => ⟨S8x4096x4096, .f32⟩
  | 66 => ⟨S_, .f32⟩
  | 67 => ⟨S8x4096, .f32⟩
  | 68 => ⟨S8x4096x1, .f32⟩
  | 69 => ⟨S8x4096x4096, .f32⟩
  | 70 => ⟨S8x4096x4096, .f32⟩
  | 71 => ⟨S8x4096x1, .f32⟩
  | 72 => ⟨S_, .f32⟩
  | 73 => ⟨S8x4096x1, .f32⟩
  | 74 => ⟨S8x4096x1, .f32⟩
  | 75 => ⟨S8x4096x64, .f32⟩
  | 76 => ⟨S4096x8x64, .f32⟩
  | 77 => ⟨S4096x512, .f32⟩
  | 78 => ⟨S4096x512, .f32⟩
  | 79 => ⟨S4096x8x64, .f32⟩
  | 80 => ⟨S8x4096x64, .f32⟩
  | 81 => ⟨S8x64x4096, .f32⟩
  | 82 => ⟨S8x4096x64, .f32⟩
  | 83 => ⟨S8x4096x4096, .f32⟩
  | 84 => ⟨S8x4096x4096, .f32⟩
  | 85 => ⟨S8x4096x4096, .f32⟩
  | 86 => ⟨S8x4096x4096, .f32⟩
  | 87 => ⟨S_, .f32⟩
  | 88 => ⟨S8x4096, .f32⟩
  | 89 => ⟨S8x4096x1, .f32⟩
  | 90 => ⟨S8x4096x1, .f32⟩
  | 91 => ⟨S8x4096x4096, .f32⟩
  | 92 => ⟨S8x4096x4096, .f32⟩
  | 93 => ⟨S_, .f32⟩
  | 94 => ⟨S8x4096, .f32⟩
  | 95 => ⟨S8x4096x4096, .f32⟩
  | 96 => ⟨S8x4096x4096, .f32⟩
  | 97 => ⟨S8x4096x4096, .f32⟩
  | 98 => ⟨S_, .f32⟩
  | 99 => ⟨S8x4096x4096, .f32⟩
  | 100 => ⟨S8x4096x4096, .f32⟩
  | 101 => ⟨S8x4096x4096, .f32⟩
  | 102 => ⟨S_, .f32⟩
  | 103 => ⟨S8x4096, .f32⟩
  | 104 => ⟨S8x1x4096, .f32⟩
  | 105 => ⟨S_, .f32⟩
  | 106 => ⟨S8x4096, .f32⟩
  | 107 => ⟨S4096x8, .f32⟩
  | 108 => ⟨S_, .f32⟩
  | 109 => ⟨S8x4096, .f32⟩
  | 110 => ⟨S8x4096x1, .f32⟩
  | 111 => ⟨S_, .f32⟩
  | 112 => ⟨S8x4096, .f32⟩
  | 113 => ⟨S4096x8, .f32⟩
  | 114 => ⟨S_, .f32⟩
  | 115 => ⟨S8x4096x4096, .f32⟩
  | 116 => ⟨S8x4096x4096, .f32⟩
  | 117 => ⟨S8x4096x64, .f32⟩
  | 118 => ⟨S8x4096x64, .f32⟩
  | 119 => ⟨S4096x8x64, .f32⟩
  | 120 => ⟨S4096x512, .f32⟩
  | 121 => ⟨S4096x8x64, .f32⟩
  | 122 => ⟨S4096x512, .f32⟩
  | 123 => ⟨S4096x8x64, .f32⟩
  | 124 => ⟨S4096x512, .f32⟩
  | 125 => ⟨S4096x512, .bf16⟩
  | 126 => ⟨S4096x512, .bf16⟩
  | 127 => ⟨S4096x512, .bf16⟩
  | _ => ⟨S4096x2688, .f32⟩

abbrev hbmTy0_1 (i : Nat) : BufTy := match i % 128 with
  | 0 => ⟨S8x4096, .f32⟩
  | 1 => ⟨S8x1x4096, .f32⟩
  | 2 => ⟨S4096x8x1, .f32⟩
  | 3 => ⟨S4096x8x128, .f32⟩
  | 4 => ⟨S4096x1024, .f32⟩
  | _ => ⟨S4096x2688, .f32⟩

abbrev hbmTy (i : Nat) : BufTy := match i / 128 with
  | 0 => hbmTy0_0 i
  | 1 => hbmTy0_1 i
  | _ => ⟨S4096x2688, .f32⟩

abbrev bufTy : (tb : Table) → Fin (tcTables nBuf tb) → BufTy
  | .hbm, ⟨i, _⟩ => hbmTy i
  | _, _ => ⟨S4096x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ActGrad.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ActGradReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownGrad.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .f32⟩
  | .local _ .vmem, ⟨3, _⟩ => ⟨S1024x512, .f32⟩
  | .local _ .vmem, ⟨4, _⟩ => ⟨S2816x512, .f32⟩
  | .local _ .vmem, ⟨5, _⟩ => ⟨S2816x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownGradReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpGrad.lean ====
abbrev S4096x1024 : Shape := ⟨2, ![4096, 1024]⟩
abbrev S4096x2816 : Shape := ⟨2, ![4096, 2816]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | .local _ .vmem, ⟨7, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_1 : BitVec 32 := 0#32
  let v4 : BitVec 1 := Scalar.cmpi .slt arg0 c0_i32_1
  let v5 : BitVec 32 := Scalar.extui v4
  let v6 : BitVec 32 := Scalar.subi v3 v5
  let c2_i32 : BitVec 32 := 2#32
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi arg0 c2_i32
  let c0_i32_4 : BitVec 32 := 0#32
  let v14 : BitVec 1 := Scalar.cmpi .ne v13 c0_i32_4
  let v15 : BitVec 1 := Scalar.andi v12 v14
  let v1 : BitVec 32 := Scalar.divsi arg0 c2_i32
  let c1_i32 : BitVec 32 := 1#32
  let v16 : BitVec 32 := Scalar.subi v1 c1_i32
  let v17 : BitVec 32 := Scalar.select v15 v16 v1
  let c0_i32_5 : BitVec 32 := 0#32
  let v18 : BitVec 1 := Scalar.cmpi .eq v17 c0_i32_5
  let v19 : BitVec 32 := Scalar.extui v18
  let c0_i32_6 : BitVec 32 := 0#32
  let v20 : BitVec 1 := Scalar.cmpi .ne v19 c0_i32_6
  v20

def k0_cond2 (i : grid0.Coords) : BitVec 1 :=
  let arg1 : BitVec 32 := BitVec.ofNat 32 (i 1).val
  let c0_i32_18 : BitVec 32 := 0#32
  let v43 : BitVec 1 := Scalar.cmpi .eq arg1 c0_i32_18
  let v44 : BitVec 32 := Scalar.extui v43
  let c0_i32_19 : BitVec 32 := 0#32
  let v45 : BitVec 1 := Scalar.cmpi .ne v44 c0_i32_19
  v45

def k0_cond3 (i : grid0.Coords) : BitVec 1 :=
  let arg1 : BitVec 32 := BitVec.ofNat 32 (i 1).val
  let c0_i32_20 : BitVec 32 := 0#32
  let v46 : BitVec 1 := Scalar.cmpi .sgt arg1 c0_i32_20
  let v47 : BitVec 32 := Scalar.extui v46
  let c0_i32_21 : BitVec 32 := 0#32
  let v48 : BitVec 1 := Scalar.cmpi .ne v47 c0_i32_21
  v48

def k0_cond4 (i : grid0.Coords) : BitVec 1 :=
  let arg0 : BitVec 32 := BitVec.ofNat 32 (i 0).val
  let c0_i32_8 : BitVec 32 := 0#32
  let v22 : BitVec 1 := Scalar.cmpi .sgt arg0 c0_i32_8
  let v23 : BitVec 32 := Scalar.extui v22
  let c0_i32_9 : BitVec 32 := 0#32
  let v24 : BitVec 1 := Scalar.cmpi .slt arg0 c0_i32_9
  let v25 : BitVec 32 := Scalar.extui v24
  let v26 : BitVec 32 := Scalar.subi v23 v25
  let c2_i32_7 : BitVec 32 := 2#32
  let c0_i32_10 : BitVec 32 := 0#32
  let v27 : BitVec 1 := Scalar.cmpi .sgt c2_i32_7 c0_i32_10
  let v28 : BitVec 32 := Scalar.extui v27
  let c0_i32_11 : BitVec 32 := 0#32
  let v29 : BitVec 1 := Scalar.cmpi .slt c2_i32_7 c0_i32_11
  let v30 : BitVec 32 := Scalar.extui v29
  let v31 : BitVec 32 := Scalar.subi v28 v30
  let v32 : BitVec 1 := Scalar.cmpi .ne v26 v31
  let v33 : BitVec 32 := Scalar.remsi arg0 c2_i32_7
  let c0_i32_12 : BitVec 32 := 0#32
  let v34 : BitVec 1 := Scalar.cmpi .ne v33 c0_i32_12
  let v35 : BitVec 1 := Scalar.andi v32 v34
  let v21 : BitVec 32 := Scalar.divsi arg0 c2_i32_7
  let c1_i32_13 : BitVec 32 := 1#32
  let v36 : BitVec 32 := Scalar.subi v21 c1_i32_13
  let v37 : BitVec 32 := Scalar.select v35 v36 v21
  let c1_i32_14 : BitVec 32 := 1#32
  let v38 : BitVec 1 := Scalar.cmpi .eq v37 c1_i32_14
  let v39 : BitVec 32 := Scalar.extui v38
  let c0_i32_15 : BitVec 32 := 0#32
  let v40 : BitVec 1 := Scalar.cmpi .ne v39 c0_i32_15
  v40

def k0_cond5 (i : grid0.Coords) : BitVec 1 :=
  let arg1 : BitVec 32 := BitVec.ofNat 32 (i 1).val
  let c0_i32_18 : BitVec 32 := 0#32
  let v43 : BitVec 1 := Scalar.cmpi .eq arg1 c0_i32_18
  let v44 : BitVec 32 := Scalar.extui v43
  let c0_i32_19 : BitVec 32 := 0#32
  let v45 : BitVec 1 := Scalar.cmpi .ne v44 c0_i32_19
  v45

def k0_cond6 (i : grid0.Coords) : BitVec 1 :=
  let arg1 : BitVec 32 := BitVec.ofNat 32 (i 1).val
  let c0_i32_20 : BitVec 32 := 0#32
  let v46 : BitVec 1 := Scalar.cmpi .sgt arg1 c0_i32_20
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpGradReferenceIdeal.lean ====
abbrev S4096x1024 : Shape := ⟨2, ![4096, 1024]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S_, .f32⟩
  | .hbm, ⟨4, _⟩ => ⟨S1024x5632, .f32⟩
  | .hbm, ⟨5, _⟩ => ⟨S4096x5632, .bf16⟩
  | .hbm, ⟨6, _⟩ => ⟨S4096x5632, .f32⟩
  | .hbm, ⟨7, _⟩ => ⟨S4096x1024, .f32⟩
  | .hbm, ⟨8, _⟩ => ⟨S4096x5632, .f32⟩
  | .hbm, ⟨9, _⟩ => ⟨S5632x1024, .f32⟩
  | .hbm, ⟨10, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== NormGrad.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_13 : BitVec 32 := 0#32
  let v23 : BitVec 1 := Scalar.cmpi .ne v22 c0_i32_13
  v23

def k0_cond2 (i : grid0.Coords) : BitVec 1 :=
  let arg1 : BitVec 32 := BitVec.ofNat 32 (i 1).val
  let c0_i32_14 : BitVec 32 := 0#32
  let v24 : BitVec 1 := Scalar.cmpi .sgt arg1 c0_i32_14
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormGradReferenceIdeal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x5632, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x5632, .f32⟩
  | .hbm, ⟨27, _⟩ => ⟨S4096x5632, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== OutGrad.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutGradReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutWeightGrad.lean ====
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg1 : BitVec 32 := BitVec.ofNat 32 (i 1).val
  let c0_i32_6 : BitVec 32 := 0#32
  let v9 : BitVec 1 := Scalar.cmpi .sgt arg1 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== OutWeightGradReferenceIdeal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InWeightGrad1.lean ====
abbrev S4096x1024 : Shape := ⟨2, ![4096, 1024]⟩
abbrev S4096x2688 : Shape := ⟨2, ![4096, 2688]⟩
abbrev S1024x2688 : Shape := ⟨2, ![1024, 2688]⟩
abbrev S1024x1024 : Shape := ⟨2, ![1024, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S1024x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InWeightGrad1ReferenceIdeal.lean ====
abbrev S4096x1024 : Shape := ⟨2, ![4096, 1024]⟩
abbrev S4096x2688 : Shape := ⟨2, ![4096, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S_, .f32⟩
  | .hbm, ⟨3, _⟩ => ⟨S1024x2688, .f32⟩
  | .hbm, ⟨4, _⟩ => ⟨S4096x1024, .f32⟩
  | .hbm, ⟨5, _⟩ => ⟨S4096x2688, .f32⟩
  | .hbm, ⟨6, _⟩ => ⟨S4096x2688, .f32⟩
  | .hbm, ⟨7, _⟩ => ⟨S2688x1024, .f32⟩
  | .hbm, ⟨8, _⟩ => ⟨S1024x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InWeightGrad0.lean ====
abbrev S4096x1024 : Shape := ⟨2, ![4096, 1024]⟩
abbrev S4096x512 : Shape := ⟨2, ![4096, 512]⟩
abbrev S1024x2560 : Shape := ⟨2, ![1024, 2560]⟩
abbrev S1024x1024 : Shape := ⟨2, ![1024, 1024]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_1 : BitVec 32 := 0#32
  let v4 : BitVec 1 := Scalar.cmpi .slt arg0 c0_i32_1
  let v5 : BitVec 32 := Scalar.extui v4
  let v6 : BitVec 32 := Scalar.subi v3 v5
  let c1_i32 : BitVec 32 := 1#32
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg0 c1_i32
  let c0_i32_4 : BitVec 32 := 0#32
  let v14 : BitVec 1 := Scalar.cmpi .ne v13 c0_i32_4
  let v15 : BitVec 1 := Scalar.andi v12 v14
  let v1 : BitVec 32 := Scalar.divsi arg0 c1_i32
  let c1_i32_5 : BitVec 32 := 1#32
  let v16 : BitVec 32 := Scalar.subi v1 c1_i32_5
  let v17 : BitVec 32 := Scalar.select v15 v16 v1
  let c0_i32_6 : BitVec 32 := 0#32
  let v18 : BitVec 1 := Scalar.cmpi .eq v17 c0_i32_6
  let v19 : BitVec 32 := Scalar.extui v18
  let c0_i32_7 : BitVec 32 := 0#32
  let v20 : BitVec 1 := Scalar.cmpi .ne v19 c0_i32_7
  v20

def k0_cond2 (i : grid0.Coords) : BitVec 1 :=
  let arg1 : BitVec 32 := BitVec.ofNat 32 (i 1).val
  let c0_i32_43 : BitVec 32 := 0#32
  let v103 : BitVec 1 := Scalar.cmpi .eq arg1 c0_i32_43
  let v104 : BitVec 32 := Scalar.extui v103
  let c0_i32_44 : BitVec 32 := 0#32
  let v105 : BitVec 1 := Scalar.cmpi .ne v104 c0_i32_44
  v105

def k0_cond3 (i : grid0.Coords) : BitVec 1 :=
  let arg1 : BitVec 32 := BitVec.ofNat 32 (i 1).val
  let c0_i32_45 : BitVec 32 := 0#32
  let v106 : BitVec 1 := Scalar.cmpi .sgt arg1 c0_i32_45
  let v107 : BitVec 32 := Scalar.extui v106
  let c0_i32_46 : BitVec 32 := 0#32
  let v108 : BitVec 1 := Scalar.cmpi .ne v107 c0_i32_46
  v108

def k0_cond4 (i : grid0.Coords) : BitVec 1 :=
  let arg0 : BitVec 32 := BitVec.ofNat 32 (i 0).val
  let c0_i32_9 : BitVec 32 := 0#32
  let v22 : BitVec 1 := Scalar.cmpi .sgt arg0 c0_i32_9
  let v23 : BitVec 32 := Scalar.extui v22
  let c0_i32_10 : BitVec 32 := 0#32
  let v24 : BitVec 1 := Scalar.cmpi .slt arg0 c0_i32_10
  let v25 : BitVec 32 := Scalar.extui v24
  let v26 : BitVec 32 := Scalar.subi v23 v25
  let c1_i32_8 : BitVec 32 := 1#32
  let c0_i32_11 : BitVec 32 := 0#32
  let v27 : BitVec 1 := Scalar.cmpi .sgt c1_i32_8 c0_i32_11
  let v28 : BitVec 32 := Scalar.extui v27
  let c0_i32_12 : BitVec 32 := 0#32
  let v29 : BitVec 1 := Scalar.cmpi .slt c1_i32_8 c0_i32_12
  let v30 : BitVec 32 := Scalar.extui v29
  let v31 : BitVec 32 := Scalar.subi v28 v30
  let v32 : BitVec 1 := Scalar.cmpi .ne v26 v31
  let v33 : BitVec 32 := Scalar.remsi arg0 c1_i32_8
  let c0_i32_13 : BitVec 32 := 0#32
  let v34 : BitVec 1 := Scalar.cmpi .ne v33 c0_i32_13
  let v35 : BitVec 1 := Scalar.andi v32 v34
  let v21 : BitVec 32 := Scalar.divsi arg0 c1_i32_8
  let c1_i32_14 : BitVec 32 := 1#32
  let v36 : BitVec 32 := Scalar.subi v21 c1_i32_14
  let v37 : BitVec 32 := Scalar.select v35 v36 v21
  let c1_i32_15 : BitVec 32 := 1#32
  let v38 : BitVec 1 := Scalar.cmpi .eq v37 c1_i32_15
  let v39 : BitVec 32 := Scalar.extui v38
  let c0_i32_16 : BitVec 32 := 0#32
  let v40 : BitVec 1 := Scalar.cmpi .ne v39 c0_i32_16
  v40

def k0_cond5 (i : grid0.Coords) : BitVec 1 :=
  let arg1 : BitVec 32 := BitVec.ofNat 32 (i 1).val
  let c0_i32_43 : BitVec 32 := 0#32
  let v103 : BitVec 1 := Scalar.cmpi .eq arg1 c0_i32_43
  let v104 : BitVec 32 := Scalar.extui v103
  let c0_i32_44 : BitVec 32 := 0#32
  let v105 : BitVec 1 := Scalar.cmpi .ne v104 c0_i32_44
  v105

def k0_cond6 (i : grid0.Coords) : BitVec 1 :=
  let arg1 : BitVec 32 := BitVec.ofNat 32 (i 1).val
  let c0_i32_45 : BitVec 32 := 0#32
  let v106 : BitVec 1 := Scalar.cmpi .sgt arg1 c0_i32_45
  let v107 : BitVec 32 := Scalar.extui v106
  let c0_i32_46 : BitVec 32 := 0#32
  let v108 : BitVec 1 := Scalar.cmpi .ne v107 c0_i32_46
  v108

def k0_cond7 (i : grid0.Coords) : BitVec 1 :=
  let arg0 : BitVec 32 := BitVec.ofNat 32 (i 0).val
  let c0_i32_18 : BitVec 32 := 0#32
  let v42 : BitVec 1 := Scalar.cmpi .sgt arg0 c0_i32_18
  let v43 : BitVec 32 := Scalar.extui v42
  let c0_i32_19 : BitVec 32 := 0#32
  let v44 : BitVec 1 := Scalar.cmpi .slt arg0 c0_i32_19
  let v45 : BitVec 32 := Scalar.extui v44
  let v46 : BitVec 32 := Scalar.subi v43 v45
  let c1_i32_17 : BitVec 32 := 1#32
  let c0_i32_20 : BitVec 32 := 0#32
  let v47 : BitVec 1 := Scalar.cmpi .sgt c1_i32_17 c0_i32_20
  let v48 : BitVec 32 := Scalar.extui v47
  let c0_i32_21 : BitVec 32 := 0#32
  let v49 : BitVec 1 := Scalar.cmpi .slt c1_i32_17 c0_i32_21
  let v50 : BitVec 32 := Scalar.extui v49
  let v51 : BitVec 32 := Scalar.subi v48 v50
  let v52 : BitVec 1 := Scalar.cmpi .ne v46 v51
  let v53 : BitVec 32 := Scalar.remsi arg0 c1_i32_17
  let c0_i32_22 : BitVec 32 := 0#32
  let v54 : BitVec 1 := Scalar.cmpi .ne v53 c0_i32_22
  let v55 : BitVec 1 := Scalar.andi v52 v54
  let v41 : BitVec 32 := Scalar.divsi arg0 c1_i32_17
  let c1_i32_23 : BitVec 32 := 1#32
  let v56 : BitVec 32 := Scalar.subi v41 c1_i32_23
  let v57 : BitVec 32 := Scalar.select v55 v56 v41
  let c2_i32 : BitVec 32 := 2#32
  let v58 : BitVec 1 := Scalar.cmpi .eq v57 c2_i32
  let v59 : BitVec 32 := Scalar.extui v58
  let c0_i32_24 : BitVec 32 := 0#32
  let v60 : BitVec 1 := Scalar.cmpi .ne v59 c0_i32_24
  v60

def k0_cond8 (i : grid0.Coords) : BitVec 1 :=
  let arg1 : BitVec 32 := BitVec.ofNat 32 (i 1).val
  let c0_i32_43 : BitVec 32 := 0#32
  let v103 : BitVec 1 := Scalar.cmpi .eq arg1 c0_i32_43
  let v104 : BitVec 32 := Scalar.extui v103
  let c0_i32_44 : BitVec 32 := 0#32
  let v105 : BitVec 1 := Scalar.cmpi .ne v104 c0_i32_44
  v105

def k0_cond9 (i : grid0.Coords) : BitVec 1 :=
  let arg1 : BitVec 32 := BitVec.ofNat 32 (i 1).val
  let c0_i32_45 : BitVec 32 := 0#32
  let v106 : BitVec 1 := Scalar.cmpi .sgt arg1 c0_i32_45
  let v107 : BitVec 32 := Scalar.extui v106
  let c0_i32_46 : BitVec 32 := 0#32
  let v108 : BitVec 1 := Scalar.cmpi .ne v107 c0_i32_46
  v108

def k0_cond10 (i : grid0.Coords) : BitVec 1 :=
  let arg0 : BitVec 32 := BitVec.ofNat 32 (i 0).val
  let c0_i32_26 : BitVec 32 := 0#32
  let v62 : BitVec 1 := Scalar.cmpi .sgt arg0 c0_i32_26
  let v63 : BitVec 32 := Scalar.extui v62
  let c0_i32_27 : BitVec 32 := 0#32
  let v64 : BitVec 1 := Scalar.cmpi .slt arg0 c0_i32_27
  let v65 : BitVec 32 := Scalar.extui v64
  let v66 : BitVec 32 := Scalar.subi v63 v65
  let c1_i32_25 : BitVec 32 := 1#32
  let c0_i32_28 : BitVec 32 := 0#32
  let v67 : BitVec 1 := Scalar.cmpi .sgt c1_i32_25 c0_i32_28
  let v68 : BitVec 32 := Scalar.extui v67
  let c0_i32_29 : BitVec 32 := 0#32
  let v69 : BitVec 1 := Scalar.cmpi .slt c1_i32_25 c0_i32_29
  let v70 : BitVec 32 := Scalar.extui v69
  let v71 : BitVec 32 := Scalar.subi v68 v70
  let v72 : BitVec 1 := Scalar.cmpi .ne v66 v71
  let v73 : BitVec 32 := Scalar.remsi arg0 c1_i32_25
  let c0_i32_30 : BitVec 32 := 0#32
  let v74 : BitVec 1 := Scalar.cmpi .ne v73 c0_i32_30
  let v75 : BitVec 1 := Scalar.andi v72 v74
  let v61 : BitVec 32 := Scalar.divsi arg0 c1_i32_25
  let c1_i32_31 : BitVec 32 := 1#32
  let v76 : BitVec 32 := Scalar.subi v61 c1_i32_31
  let v77 : BitVec 32 := Scalar.select v75 v76 v61
  let c3_i32 : BitVec 32 := 3#32
  let v78 : BitVec 1 := Scalar.cmpi .eq v77 c3_i32
  let v79 : BitVec 32 := Scalar.extui v78
  let c0_i32_32 : BitVec 32 := 0#32
  let v80 : BitVec 1 := Scalar.cmpi .ne v79 c0_i32_32
  v80

def k0_cond11 (i : grid0.Coords) : BitVec 1 :=
  let arg1 : BitVec 32 := BitVec.ofNat 32 (i 1).val
  let c0_i32_43 : BitVec 32 := 0#32
  let v103 : BitVec 1 := Scalar.cmpi .eq arg1 c0_i32_43
  let v104 : BitVec 32 := Scalar.extui v103
  let c0_i32_44 : BitVec 32 := 0#32
  let v105 : BitVec 1 := Scalar.cmpi .ne v104 c0_i32_44
  v105

def k0_cond12 (i : grid0.Coords) : BitVec 1 :=
  let arg1 : BitVec 32 := BitVec.ofNat 32 (i 1).val
  let c0_i32_45 : BitVec 32 := 0#32
  let v106 : BitVec 1 := Scalar.cmpi .sgt arg1 c0_i32_45
  let v107 : BitVec 32 := Scalar.extui v106
  let c0_i32_46 : BitVec 32 := 0#32
  let v108 : BitVec 1 := Scalar.cmpi .ne v107 c0_i32_46
  v108

def k0_cond13 (i : grid0.Coords) : BitVec 1 :=
  let arg0 : BitVec 32 := BitVec.ofNat 32 (i 0).val
  let c0_i32_34 : BitVec 32 := 0#32
  let v82 : BitVec 1 := Scalar.cmpi .sgt arg0 c0_i32_34
  let v83 : BitVec 32 := Scalar.extui v82
  let c0_i32_35 : BitVec 32 := 0#32
  let v84 : BitVec 1 := Scalar.cmpi .slt arg0 c0_i32_35
  let v85 : BitVec 32 := Scalar.extui v84
  let v86 : BitVec 32 := Scalar.subi v83 v85
  let c1_i32_33 : BitVec 32 := 1#32
  let c0_i32_36 : BitVec 32 := 0#32
  let v87 : BitVec 1 := Scalar.cmpi .sgt c1_i32_33 c0_i32_36
  let v88 : BitVec 32 := Scalar.extui v87
  let c0_i32_37 : BitVec 32 := 0#32
  let v89 : BitVec 1 := Scalar.cmpi .slt c1_i32_33 c0_i32_37
  let v90 : BitVec 32 := Scalar.extui v89
  let v91 : BitVec 32 := Scalar.subi v88 v90
  let v92 : BitVec 1 := Scalar.cmpi .ne v86 v91
  let v93 : BitVec 32 := Scalar.remsi arg0 c1_i32_33
  let c0_i32_38 : BitVec 32 := 0#32
  let v94 : BitVec 1 := Scalar.cmpi .ne v93 c0_i32_38
  let v95 : BitVec 1 := Scalar.andi v92 v94
  let v81 : BitVec 32 := Scalar.divsi arg0 c1_i32_33
  let c1_i32_39 : BitVec 32 := 1#32
  let v96 : BitVec 32 := Scalar.subi v81 c1_i32_39
  let v97 : BitVec 32 := Scalar.select v95 v96 v81
  let c4_i32 : BitVec 32 := 4#32
  let v98 : BitVec 1 := Scalar.cmpi .eq v97 c4_i32
  let v99 : BitVec 32 := Scalar.extui v98
  let c0_i32_40 : BitVec 32 := 0#32
  let v100 : BitVec 1 := Scalar.cmpi .ne v99 c0_i32_40
  v100

def k0_cond14 (i : grid0.Coords) : BitVec 1 :=
  let arg1 : BitVec 32 := BitVec.ofNat 32 (i 1).val
  let c0_i32_43 : BitVec 32 := 0#32
  let v103 : BitVec 1 := Scalar.cmpi .eq arg1 c0_i32_43
  let v104 : BitVec 32 := Scalar.extui v103
  let c0_i32_44 : BitVec 32 := 0#32
  let v105 : BitVec 1 := Scalar.cmpi .ne v104 c0_i32_44
  v105

def k0_cond15 (i : grid0.Coords) : BitVec 1 :=
  let arg1 : BitVec 32 := BitVec.ofNat 32 (i 1).val
  let c0_i32_45 : BitVec 32 := 0#32
  let v106 : BitVec 1 := Scalar.cmpi .sgt arg1 c0_i32_45
  let v107 : BitVec 32 := Scalar.extui v106
  let c0_i32_46 : BitVec 32 := 0#32
  let v108 : BitVec 1 := Scalar.cmpi .ne v107 c0_i32_46
  v108

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InWeightGrad0ReferenceIdeal.lean ====
abbrev S4096x1024 : Shape := ⟨2, ![4096, 1024]⟩
abbrev S4096x512 : Shape := ⟨2, ![4096, 512]⟩
abbrev S_ : Shape := ⟨0, ![]⟩
abbrev S1024x2560 : Shape := ⟨2, ![1024, 2560]⟩
abbrev S4096x2560 : Shape := ⟨2, ![4096, 2560]⟩
abbrev S2560x1024 : Shape := ⟨2, ![2560, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S_, .f32⟩
  | .hbm, ⟨7, _⟩ => ⟨S1024x2560, .f32⟩
  | .hbm, ⟨8, _⟩ => ⟨S4096x2560, .bf16⟩
  | .hbm, ⟨9, _⟩ => ⟨S4096x2560, .f32⟩
  | .hbm, ⟨10, _⟩ => ⟨S4096x1024, .f32⟩
  | .hbm, ⟨11, _⟩ => ⟨S4096x2560, .f32⟩
  | .hbm, ⟨12, _⟩ => ⟨S2560x1024, .f32⟩
  | .hbm, ⟨13, _⟩ => ⟨S1024x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== InNormGrad1.lean ====
abbrev S4096x2688 : Shape := ⟨2, ![4096, 2688]⟩
abbrev S1024x2688 : Shape := ⟨2, ![1024, 2688]⟩
abbrev S4096x1024 : Shape := ⟨2, ![4096, 1024]⟩
abbrev S1x1024 : Shape := ⟨2, ![1, 1024]⟩
abbrev S512x2688 : Shape := ⟨2, ![512, 2688]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x2688, .bf16⟩
  | .local _ .vmem, ⟨1, _⟩ => ⟨S512x2688, .bf16⟩
  | .local _ .vmem, ⟨2, _⟩ => ⟨S1024x2688, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg1 : BitVec 32 := BitVec.ofNat 32 (i 1).val
  let c0_i32_10 : BitVec 32 := 0#32
  let v20 : BitVec 1 := Scalar.cmpi .sgt arg1 c0_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InNormGrad1ReferenceIdeal.lean ====
abbrev S4096x2688 : Shape := ⟨2, ![4096, 2688]⟩
abbrev S1024x2688 : Shape := ⟨2, ![1024, 2688]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x2688, .f32⟩
  | .hbm, ⟨25, _⟩ => ⟨S4096x2688, .f32⟩
  | .hbm, ⟨26, _⟩ => ⟨S4096x2688, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== InNormGrad0.lean ====
abbrev S4096x512 : Shape := ⟨2, ![4096, 512]⟩
abbrev S1024x2560 : Shape := ⟨2, ![1024, 2560]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S1024x2560, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x2560, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_25 : BitVec 32 := 0#32
  let v35 : BitVec 1 := Scalar.cmpi .ne v34 c0_i32_25
  v35

def k0_cond2 (i : grid0.Coords) : BitVec 1 :=
  let arg1 : BitVec 32 := BitVec.ofNat 32 (i 1).val
  let c0_i32_26 : BitVec 32 := 0#32
  let v36 : BitVec 1 := Scalar.cmpi .sgt arg1 c0_i32_26
  let v37 : BitVec 32 := Scalar.extui v36
  let c0_i32_27 : BitVec 32 := 0#32
  let v38 : BitVec 1 := Scalar.cmpi .ne v37 c0_i32_27
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== InNormGrad0ReferenceIdeal.lean ====
abbrev S4096x512 : Shape := ⟨2, ![4096, 512]⟩
abbrev S1024x2560 : Shape := ⟨2, ![1024, 2560]⟩
abbrev S4096x1024 : Shape := ⟨2, ![4096, 1024]⟩
abbrev S1x1024 : Shape := ⟨2, ![1, 1024]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S1024x2560, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x2560, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x2560, .f32⟩
  | .hbm, ⟨30, _⟩ => ⟨S4096x2560, .f32⟩
  | .hbm, ⟨31, _⟩ => ⟨S4096x2560, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== InZero.lean ====
abbrev S4096x1024 : Shape := ⟨2, ![4096, 1024]⟩
abbrev S1024x2560 : Shape := ⟨2, ![1024, 2560]⟩
abbrev S4096x2560 : Shape := ⟨2, ![4096, 2560]⟩
abbrev S512x1024 : Shape := ⟨2, ![512, 1024]⟩
abbrev S1024x1280 : Shape := ⟨2, ![1024, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .f32⟩
  | .local _ .vmem, ⟨0, _⟩ => ⟨S512x1024, .bf16⟩
  | .local _ .vmem, ⟨1, _⟩ => ⟨S512x1024, .bf16⟩
  | .local _ .vmem, ⟨2, _⟩ => ⟨S1024x1280, .bf16⟩
  | .local _ .vmem, ⟨3, _⟩ => ⟨S1024x1280, .bf16⟩
  | .local _ .vmem, ⟨4, _⟩ => ⟨S512x1280, .f32⟩
  | .local _ .vmem, ⟨5, _⟩ => ⟨S512x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InZeroReferenceIdeal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x1024, .f32⟩
  | .hbm, ⟨3, _⟩ => ⟨S1024x2560, .f32⟩
  | .hbm, ⟨4, _⟩ => ⟨S4096x2560, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InOne.lean ====
abbrev S4096x1024 : Shape := ⟨2, ![4096, 1024]⟩
abbrev S1024x2688 : Shape := ⟨2, ![1024, 2688]⟩
abbrev S4096x2688 : Shape := ⟨2, ![4096, 2688]⟩
abbrev S512x1024 : Shape := ⟨2, ![512, 1024]⟩
abbrev S512x2688 : Shape := ⟨2, ![512, 2688]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2688, .bf16⟩
  | .hbm, ⟨2, _⟩ => ⟨S4096x2688, .f32⟩
  | .local _ .vmem, ⟨0, _⟩ => ⟨S512x1024, .bf16⟩
  | .local _ .vmem, ⟨1, _⟩ => ⟨S512x1024, .bf16⟩
  | .local _ .vmem, ⟨2, _⟩ => ⟨S1024x2688, .bf16⟩
  | .local _ .vmem, ⟨3, _⟩ => ⟨S512x2688, .f32⟩
  | .local _ .vmem, ⟨4, _⟩ => ⟨S512x2688, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOneReferenceIdeal.lean ====
abbrev S4096x1024 : Shape := ⟨2, ![4096, 1024]⟩
abbrev S1024x2688 : Shape := ⟨2, ![1024, 2688]⟩
abbrev S4096x2688 : Shape := ⟨2, ![4096, 2688]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2688, .bf16⟩
  | .hbm, ⟨2, _⟩ => ⟨S4096x1024, .f32⟩
  | .hbm, ⟨3, _⟩ => ⟨S1024x2688, .f32⟩
  | .hbm, ⟨4, _⟩ => ⟨S4096x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownOne.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownOneReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownZero.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownZeroReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Out.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutReferenceIdeal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Attention.lean ====
abbrev S4096x2688 : Shape := ⟨2, ![4096, 2688]⟩
abbrev S4096x8 : Shape := ⟨2, ![4096, 8]⟩
abbrev S4096x8x1 : Shape := ⟨3, ![4096, 8, 1]⟩
abbrev S4096x8x128 : Shape := ⟨3, ![4096, 8, 128]⟩
abbrev S4096x1024 : Shape := ⟨2, ![4096, 1024]⟩
abbrev S8x4096 : Shape := ⟨2, ![8, 4096]⟩
abbrev S8x1x4096 : Shape := ⟨3, ![8, 1, 4096]⟩
abbrev S4096x512 : Shape := ⟨2, ![4096, 512]⟩
abbrev S512x128 : Shape := ⟨2, ![512, 128]⟩
abbrev S4096x128 : Shape := ⟨2, ![4096, 128]⟩
abbrev S512x256 : Shape := ⟨2, ![512, 256]⟩
abbrev S2x1x4096 : Shape := ⟨3, ![2, 1, 4096]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2688, .f32⟩
  | .hbm, ⟨1, _⟩ => ⟨S4096x8, .f32⟩
  | .hbm, ⟨2, _⟩ => ⟨S4096x8x1, .f32⟩
  | .hbm, ⟨3, _⟩ => ⟨S4096x8x128, .f32⟩
  | .hbm, ⟨4, _⟩ => ⟨S4096x1024, .f32⟩
  | .hbm, ⟨5, _⟩ => ⟨S8x4096, .f32⟩
  | .hbm, ⟨6, _⟩ => ⟨S8x1x4096, .f32⟩
  | .hbm, ⟨7, _⟩ => ⟨S4096x512, .bf16⟩
  | .hbm, ⟨8, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x256, .f32⟩
  | .local _ .vmem, ⟨7, _⟩ => ⟨S512x256, .f32⟩
  | .local _ .vmem, ⟨8, _⟩ => ⟨S2x1x4096, .f32⟩
  | .local _ .vmem, ⟨9, _⟩ => ⟨S2x1x4096, .f32⟩
  | .local _ .vmem, ⟨10, _⟩ => ⟨S512x128, .bf16⟩
  | .local _ .vmem, ⟨11, _⟩ => ⟨S512x128, .bf16⟩
  | .local _ .vmem, ⟨12, _⟩ => ⟨S512x256, .f32⟩
  | .local _ .vmem, ⟨13, _⟩ => ⟨S512x256, .f32⟩
  | _, _ => ⟨S4096x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_9 : BitVec 32 := 1#32
  ⟨c0_i32, v26, c1_i32_9⟩
def k0_mult1 (i : grid0.Coords) (k0_t1 : Fin (k0_t1_loop i).trips) : BitVec 32 :=
  let c0_i32 : BitVec 32 := 0#32
  let c1_i32_9 : BitVec 32 := 1#32
  let arg9 : BitVec 32 := Scf.iv c0_i32 c1_i32_9 k0_t1
  let c512_i32_32 : BitVec 32 := 512#32
  let v110 : BitVec 32 := Scalar.muli arg9 c512_i32_32
  v110
def k0_off1 (i : grid0.Coords) (k0_t1 : Fin (k0_t1_loop i).trips) : Fin 2 → Nat :=
  let c0_i32 : BitVec 32 := 0#32
  let c1_i32_9 : BitVec 32 := 1#32
  let arg9 : BitVec 32 := Scf.iv c0_i32 c1_i32_9 k0_t1
  let c512_i32_32 : BitVec 32 := 512#32
  let v110 : BitVec 32 := Scalar.muli arg9 c512_i32_32
  let v111 : BitVec 32 := v110
  let v112 : Index := Scalar.indexCast v111
  let c0_33 : Index := 0#32
  ![v112.toNat, 0]
def k0_off2 (i : grid0.Coords) (k0_t1 : Fin (k0_t1_loop i).trips) : Fin 3 → Nat :=
  let c0_35 : Index := 0#32
  let c0_36 : Index := 0#32
  let c0_i32 : BitVec 32 := 0#32
  let c1_i32_9 : BitVec 32 := 1#32
  let arg9 : BitVec 32 := Scf.iv c0_i32 c1_i32_9 k0_t1
  let c512_i32_32 : BitVec 32 := 512#32
  let v110 : BitVec 32 := Scalar.muli arg9 c512_i32_32
  let v111 : BitVec 32 := v110
  let v118 : Index := Scalar.indexCast v111
  ![0, 0, v118.toNat]
def k0_off3 (i : grid0.Coords) (k0_t1 : Fin (k0_t1_loop i).trips) : Fin 3 → Nat :=
  let c1_41 : Index := 1#32
  let c0_42 : Index := 0#32
  let c0_i32 : BitVec 32 := 0#32
  let c1_i32_9 : BitVec 32 := 1#32
  let arg9 : BitVec 32 := Scf.iv c0_i32 c1_i32_9 k0_t1
  let c512_i32_32 : BitVec 32 := 512#32
  let v110 : BitVec 32 := Scalar.muli arg9 c512_i32_32
  let v111 : BitVec 32 := v110
  let v143 : Index := Scalar.indexCast v111
  ![1, 0, v143.toNat]
@[reducible] def k0_t2_loop (i : grid0.Coords) : Scf.Loop 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let v23 : BitVec 32 := Scalar.addi c0_i32 v22
  let c1_i32_10 : BitVec 32 := 1#32
  ⟨v26, v23, c1_i32_10⟩
def k0_mult2 (i : grid0.Coords) (k0_t2 : Fin (k0_t2_loop i).trips) : BitVec 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_10 : BitVec 32 := 1#32
  let arg9 : BitVec 32 := Scf.iv v26 c1_i32_10 k0_t2
  let c512_i32_32 : BitVec 32 := 512#32
  let v110 : BitVec 32 := Scalar.muli arg9 c512_i32_32
  v110
def k0_off4 (i : grid0.Coords) (k0_t2 : Fin (k0_t2_loop i).trips) : Fin 2 → Nat :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_10 : BitVec 32 := 1#32
  let arg9 : BitVec 32 := Scf.iv v26 c1_i32_10 k0_t2
  let c512_i32_32 : BitVec 32 := 512#32
  let v110 : BitVec 32 := Scalar.muli arg9 c512_i32_32
  let v111 : BitVec 32 := v110
  let v112 : Index := Scalar.indexCast v111
  let c0_33 : Index := 0#32
  ![v112.toNat, 0]
def k0_off5 (i : grid0.Coords) (k0_t2 : Fin (k0_t2_loop i).trips) : Fin 3 → Nat :=
  let c0_35 : Index := 0#32
  let c0_36 : Index := 0#32
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_10 : BitVec 32 := 1#32
  let arg9 : BitVec 32 := Scf.iv v26 c1_i32_10 k0_t2
  let c512_i32_32 : BitVec 32 := 512#32
  let v110 : BitVec 32 := Scalar.muli arg9 c512_i32_32
  let v111 : BitVec 32 := v110
  let v118 : Index := Scalar.indexCast v111
  ![0, 0, v118.toNat]
def k0_off6 (i : grid0.Coords) (k0_t2 : Fin (k0_t2_loop i).trips) : Fin 3 → Nat :=
  let c1_41 : Index := 1#32
  let c0_42 : Index := 0#32
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_10 : BitVec 32 := 1#32
  let arg9 : BitVec 32 := Scf.iv v26 c1_i32_10 k0_t2
  let c512_i32_32 : BitVec 32 := 512#32
  let v110 : BitVec 32 := Scalar.muli arg9 c512_i32_32
  let v111 : BitVec 32 := v110
  let v143 : Index := Scalar.indexCast v111
  ![1, 0, v143.toNat]
def k0_mult3 (i : grid0.Coords) : BitVec 32 :=
  let arg1 : BitVec 32 := BitVec.ofNat 32 (i 1).val
  let c512_i32 : BitVec 32 := 512#32
  let v29 : BitVec 32 := Scalar.muli arg1 c512_i32
  v29
def k0_off7 (i : grid0.Coords) : Fin 2 → Nat :=
  let arg1 : BitVec 32 := BitVec.ofNat 32 (i 1).val
  let c512_i32 : BitVec 32 := 512#32
  let v29 : BitVec 32 := Scalar.muli arg1 c512_i32
  let v30 : BitVec 32 := v29
  let v31 : Index := Scalar.indexCast v30
  let c0_11 : Index := 0#32
  ![v31.toNat, 0]
def k0_off8 (i : grid0.Coords) : Fin 3 → Nat :=
  let c0_13 : Index := 0#32
  let c0_14 : Index := 0#32
  let arg1 : BitVec 32 := BitVec.ofNat 32 (i 1).val
  let c512_i32 : BitVec 32 := 512#32
  let v29 : BitVec 32 := Scalar.muli arg1 c512_i32
  let v30 : BitVec 32 := v29
  let v37 : Index := Scalar.indexCast v30
  ![0, 0, v37.toNat]
def k0_off9 (i : grid0.Coords) : Fin 3 → Nat :=
  let c1 : Index := 1#32
  let c0_20 : Index := 0#32
  let arg1 : BitVec 32 := BitVec.ofNat 32 (i 1).val
  let c512_i32 : BitVec 32 := 512#32
  let v29 : BitVec 32 := Scalar.muli arg1 c512_i32
  let v30 : BitVec 32 := v29
  let v67 : Index := Scalar.indexCast v30
  ![1, 0, v67.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttentionIdeal.lean ====
variable {F : FTy → Type} [FloatOps F] [Named F]
def κ : String → Option EReal := fun
  | "mask" => some ⊥
  | _ => none
-- ==== AttentionReferenceIdeal.lean ====
abbrev S4096x2688 : Shape := ⟨2, ![4096, 2688]⟩
abbrev S4096x8 : Shape := ⟨2, ![4096, 8]⟩
abbrev S4096x512 : Shape := ⟨2, ![4096, 512]⟩
abbrev S4096x8x64 : Shape := ⟨3, ![4096, 8, 64]⟩
abbrev S4096 : Shape := ⟨1, ![4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4096x8x1 : Shape := ⟨3, ![4096, 8, 1]⟩
abbrev S4096x8x128 : Shape := ⟨3, ![4096, 8, 128]⟩
abbrev S4096x1024 : Shape := ⟨2, ![4096, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2688, .f32⟩
  | .hbm, ⟨1, _⟩ => ⟨S4096x8, .f32⟩
  | .hbm, ⟨2, _⟩ => ⟨S4096x512, .f32⟩
  | .hbm, ⟨3, _⟩ => ⟨S4096x8x64, .f32⟩
  | .hbm, ⟨4, _⟩ => ⟨S4096x512, .f32⟩
  | .hbm, ⟨5, _⟩ => ⟨S4096x8x64, .f32⟩
  | .hbm, ⟨6, _⟩ => ⟨S4096x512, .f32⟩
  | .hbm, ⟨7, _⟩ => ⟨S4096x8x64, .f32⟩
  | .hbm, ⟨8, _⟩ => ⟨S4096, .i32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096, .f32⟩
  | .hbm, ⟨43, _⟩ => ⟨S8x4096x4096, .f32⟩
  | .hbm, ⟨44, _⟩ => ⟨S8x4096x4096, .f32⟩
  | .hbm, ⟨45, _⟩ => ⟨S8x64x4096, .f32⟩
  | .hbm, ⟨46, _⟩ => ⟨S4096x8x64, .f32⟩
  | .hbm, ⟨47, _⟩ => ⟨S4096x512, .f32⟩
  | .hbm, ⟨48, _⟩ => ⟨S4096x512, .bf16⟩
  | .hbm, ⟨49, _⟩ => ⟨S4096x8, .f32⟩
  | .hbm, ⟨50, _⟩ => ⟨S4096x8, .f32⟩
  | .hbm, ⟨51, _⟩ => ⟨S4096x8x1, .f32⟩
  | .hbm, ⟨52, _⟩ => ⟨S4096x8x128, .f32⟩
  | .hbm, ⟨53, _⟩ => ⟨S4096x1024, .f32⟩
  | _, _ => ⟨S4096x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== NormZero.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormZeroReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AdamwOut.lean ====
abbrev S1x256x1024 : Shape := ⟨3, ![1, 256, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 1], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamwOutIdeal.lean ====
abbrev S1x256x1024 : Shape := ⟨3, ![1, 256, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 1], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamwOutReferenceIdeal.lean ====
abbrev S1x256x1024 : Shape := ⟨3, ![1, 256, 1024]⟩
abbrev S128x1024 : Shape := ⟨2, ![128, 1024]⟩
abbrev S1 : Shape := ⟨1, ![1]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamwInZero.lean ====
abbrev S1x1024x640 : Shape := ⟨3, ![1, 1024, 640]⟩
abbrev S512x640 : Shape := ⟨2, ![512, 640]⟩
abbrev S1 : Shape := ⟨1, ![1]⟩
abbrev S1x256x640 : Shape := ⟨3, ![1, 256, 640]⟩
abbrev S256x640 : Shape := ⟨2, ![256, 640]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x640, .f32⟩
  | .hbm, ⟨1, _⟩ => ⟨S512x640, .f32⟩
  | .hbm, ⟨2, _⟩ => ⟨S512x640, .f32⟩
  | .hbm, ⟨3, _⟩ => ⟨S1x1024x640, .f32⟩
  | .hbm, ⟨4, _⟩ => ⟨S1x1024x640, .f32⟩
  | .hbm, ⟨5, _⟩ => ⟨S1x1024x640, .f32⟩
  | .hbm, ⟨6, _⟩ => ⟨S1x1024x640, .f32⟩
  | .hbm, ⟨7, _⟩ => ⟨S1x1024x640, .f32⟩
  | .hbm, ⟨8, _⟩ => ⟨S1x1024x640, .f32⟩
  | .local _ .vmem, ⟨0, _⟩ => ⟨S1x256x640, .f32⟩
  | .local _ .vmem, ⟨1, _⟩ => ⟨S1x256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | .local _ .smem, ⟨0, _⟩ => ⟨S1, .i32⟩
  | _, _ => ⟨S1x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![1, 2, 2], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamwInZeroIdeal.lean ====
abbrev S1x1024x640 : Shape := ⟨3, ![1, 1024, 640]⟩
abbrev S512x640 : Shape := ⟨2, ![512, 640]⟩
abbrev S1 : Shape := ⟨1, ![1]⟩
abbrev S1x256x640 : Shape := ⟨3, ![1, 256, 640]⟩
abbrev S256x640 : Shape := ⟨2, ![256, 640]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x640, .f32⟩
  | .hbm, ⟨1, _⟩ => ⟨S512x640, .f32⟩
  | .hbm, ⟨2, _⟩ => ⟨S512x640, .f32⟩
  | .hbm, ⟨3, _⟩ => ⟨S1x1024x640, .f32⟩
  | .hbm, ⟨4, _⟩ => ⟨S1x1024x640, .f32⟩
  | .hbm, ⟨5, _⟩ => ⟨S1x1024x640, .f32⟩
  | .hbm, ⟨6, _⟩ => ⟨S1x1024x640, .f32⟩
  | .hbm, ⟨7, _⟩ => ⟨S1x1024x640, .f32⟩
  | .hbm, ⟨8, _⟩ => ⟨S1x1024x640, .f32⟩
  | .local _ .vmem, ⟨0, _⟩ => ⟨S1x256x640, .f32⟩
  | .local _ .vmem, ⟨1, _⟩ => ⟨S1x256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | .local _ .smem, ⟨0, _⟩ => ⟨S1, .i32⟩
  | _, _ => ⟨S1x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![1, 2, 2], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamwInZeroReferenceIdeal.lean ====
abbrev S1x1024x640 : Shape := ⟨3, ![1, 1024, 640]⟩
abbrev S512x640 : Shape := ⟨2, ![512, 640]⟩
abbrev S1 : Shape := ⟨1, ![1]⟩
abbrev S_ : Shape := ⟨0, ![]⟩
abbrev S1024x640 : Shape := ⟨2, ![1024, 640]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x640, .f32⟩
  | .hbm, ⟨1, _⟩ => ⟨S512x640, .f32⟩
  | .hbm, ⟨2, _⟩ => ⟨S512x640, .f32⟩
  | .hbm, ⟨3, _⟩ => ⟨S1x1024x640, .f32⟩
  | .hbm, ⟨4, _⟩ => ⟨S1x1024x640, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x640, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x640, .f32⟩
  | .hbm, ⟨14, _⟩ => ⟨S1024x640, .f32⟩
  | .hbm, ⟨15, _⟩ => ⟨S1x1024x640, .f32⟩
  | .hbm, ⟨16, _⟩ => ⟨S_, .f32⟩
  | .hbm, ⟨17, _⟩ => ⟨S1x1024x640, .f32⟩
  | .hbm, ⟨18, _⟩ => ⟨S1x1024x640, .f32⟩
  | .hbm, ⟨19, _⟩ => ⟨S_, .f32⟩
  | .hbm, ⟨20, _⟩ => ⟨S1x1024x640, .f32⟩
  | .hbm, ⟨21, _⟩ => ⟨S1x1024x640, .f32⟩
  | .hbm, ⟨22, _⟩ => ⟨S1x1024x640, .f32⟩
  | .hbm, ⟨23, _⟩ => ⟨S_, .f32⟩
  | .hbm, ⟨24, _⟩ => ⟨S1x1024x640, .f32⟩
  | .hbm, ⟨25, _⟩ => ⟨S1x1024x640, .f32⟩
  | .hbm, ⟨26, _⟩ => ⟨S1x1024x640, .f32⟩
  | .hbm, ⟨27, _⟩ => ⟨S_, .f32⟩
  | .hbm, ⟨28, _⟩ => ⟨S1x1024x640, .f32⟩
  | .hbm, ⟨29, _⟩ => ⟨S1x1024x640, .f32⟩
  | .hbm, ⟨30, _⟩ => ⟨S1x1024x640, .f32⟩
  | .hbm, ⟨31, _⟩ => ⟨S_, .f32⟩
  | .hbm, ⟨32, _⟩ => ⟨S1x1024x640, .f32⟩
  | .hbm, ⟨33, _⟩ => ⟨S1x1024x640, .f32⟩
  | .hbm, ⟨34, _⟩ => ⟨S_, .f32⟩
  | .hbm, ⟨35, _⟩ => ⟨S1x1024x640, .f32⟩
  | .hbm, ⟨36, _⟩ => ⟨S1x1024x640, .f32⟩
  | .hbm, ⟨37, _⟩ => ⟨S1x1024x640, .f32⟩
  | .hbm, ⟨38, _⟩ => ⟨S_, .f32⟩
  | .hbm, ⟨39, _⟩ => ⟨S1x1024x640, .f32⟩
  | .hbm, ⟨40, _⟩ => ⟨S1x1024x640, .f32⟩
  | .hbm, ⟨41, _⟩ => ⟨S1x1024x640, .f32⟩
  | .hbm, ⟨42, _⟩ => ⟨S_, .f32⟩
  | .hbm, ⟨43, _⟩ => ⟨S1x1024x640, .f32⟩
  | .hbm, ⟨44, _⟩ => ⟨S1x1024x640, .f32⟩
  | .hbm, ⟨45, _⟩ => ⟨S1x1024x640, .f32⟩
  | .hbm, ⟨46, _⟩ => ⟨S_, .f32⟩
  | .hbm, ⟨47, _⟩ => ⟨S1x1024x640, .f32⟩
  | .hbm, ⟨48, _⟩ => ⟨S1x1024x640, .f32⟩
  | _, _ => ⟨S1x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamwInOne.lean ====
abbrev S1x1024x642 : Shape := ⟨3, ![1, 1024, 642]⟩
abbrev S512x642 : Shape := ⟨2, ![512, 642]⟩
abbrev S1 : Shape := ⟨1, ![1]⟩
abbrev S1x256x642 : Shape := ⟨3, ![1, 256, 642]⟩
abbrev S256x642 : Shape := ⟨2, ![256, 642]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x642, .f32⟩
  | .hbm, ⟨1, _⟩ => ⟨S512x642, .f32⟩
  | .hbm, ⟨2, _⟩ => ⟨S512x642, .f32⟩
  | .hbm, ⟨3, _⟩ => ⟨S1x1024x642, .f32⟩
  | .hbm, ⟨4, _⟩ => ⟨S1x1024x642, .f32⟩
  | .hbm, ⟨5, _⟩ => ⟨S1x1024x642, .f32⟩
  | .hbm, ⟨6, _⟩ => ⟨S1x1024x642, .f32⟩
  | .hbm, ⟨7, _⟩ => ⟨S1x1024x642, .f32⟩
  | .hbm, ⟨8, _⟩ => ⟨S1x1024x642, .f32⟩
  | .local _ .vmem, ⟨0, _⟩ => ⟨S1x256x642, .f32⟩
  | .local _ .vmem, ⟨1, _⟩ => ⟨S1x256x642, .f32⟩
  | .local _ .vmem, ⟨2, _⟩ => ⟨S256x642, .f32⟩
  | .local _ .vmem, ⟨3, _⟩ => ⟨S256x642, .f32⟩
  | .local _ .vmem, ⟨4, _⟩ => ⟨S256x642, .f32⟩
  | .local _ .vmem, ⟨5, _⟩ => ⟨S256x642, .f32⟩
  | .local _ .vmem, ⟨6, _⟩ => ⟨S1x256x642, .f32⟩
  | .local _ .vmem, ⟨7, _⟩ => ⟨S1x256x642, .f32⟩
  | .local _ .vmem, ⟨8, _⟩ => ⟨S1x256x642, .f32⟩
  | .local _ .vmem, ⟨9, _⟩ => ⟨S1x256x642, .f32⟩
  | .local _ .vmem, ⟨10, _⟩ => ⟨S1x256x642, .f32⟩
  | .local _ .vmem, ⟨11, _⟩ => ⟨S1x256x642, .f32⟩
  | .local _ .vmem, ⟨12, _⟩ => ⟨S1x256x642, .f32⟩
  | .local _ .vmem, ⟨13, _⟩ => ⟨S1x256x642, .f32⟩
  | .local _ .vmem, ⟨14, _⟩ => ⟨S1x256x642, .f32⟩
  | .local _ .vmem, ⟨15, _⟩ => ⟨S1x256x642, .f32⟩
  | .local _ .vmem, ⟨16, _⟩ => ⟨S1x256x642, .f32⟩
  | .local _ .vmem, ⟨17, _⟩ => ⟨S1x256x642, .f32⟩
  | .local _ .smem, ⟨0, _⟩ => ⟨S1, .i32⟩
  | _, _ => ⟨S1x1024x642, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![1, 2, 2], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x642 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x642 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x642 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x256x642 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x642 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x642 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x642 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x642 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x642 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamwInOneReferenceIdeal.lean ====
abbrev S1x1024x642 : Shape := ⟨3, ![1, 1024, 642]⟩
abbrev S512x642 : Shape := ⟨2, ![512, 642]⟩
abbrev S1 : Shape := ⟨1, ![1]⟩
abbrev S_ : Shape := ⟨0, ![]⟩
abbrev S1024x642 : Shape := ⟨2, ![1024, 642]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x642, .f32⟩
  | .hbm, ⟨1, _⟩ => ⟨S512x642, .f32⟩
  | .hbm, ⟨2, _⟩ => ⟨S512x642, .f32⟩
  | .hbm, ⟨3, _⟩ => ⟨S1x1024x642, .f32⟩
  | .hbm, ⟨4, _⟩ => ⟨S1x1024x642, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x642, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x642, .f32⟩
  | .hbm, ⟨14, _⟩ => ⟨S1024x642, .f32⟩
  | .hbm, ⟨15, _⟩ => ⟨S1x1024x642, .f32⟩
  | .hbm, ⟨16, _⟩ => ⟨S_, .f32⟩
  | .hbm, ⟨17, _⟩ => ⟨S1x1024x642, .f32⟩
  | .hbm, ⟨18, _⟩ => ⟨S1x1024x642, .f32⟩
  | .hbm, ⟨19, _⟩ => ⟨S_, .f32⟩
  | .hbm, ⟨20, _⟩ => ⟨S1x1024x642, .f32⟩
  | .hbm, ⟨21, _⟩ => ⟨S1x1024x642, .f32⟩
  | .hbm, ⟨22, _⟩ => ⟨S1x1024x642, .f32⟩
  | .hbm, ⟨23, _⟩ => ⟨S_, .f32⟩
  | .hbm, ⟨24, _⟩ => ⟨S1x1024x642, .f32⟩
  | .hbm, ⟨25, _⟩ => ⟨S1x1024x642, .f32⟩
  | .hbm, ⟨26, _⟩ => ⟨S1x1024x642, .f32⟩
  | .hbm, ⟨27, _⟩ => ⟨S_, .f32⟩
  | .hbm, ⟨28, _⟩ => ⟨S1x1024x642, .f32⟩
  | .hbm, ⟨29, _⟩ => ⟨S1x1024x642, .f32⟩
  | .hbm, ⟨30, _⟩ => ⟨S1x1024x642, .f32⟩
  | .hbm, ⟨31, _⟩ => ⟨S_, .f32⟩
  | .hbm, ⟨32, _⟩ => ⟨S1x1024x642, .f32⟩
  | .hbm, ⟨33, _⟩ => ⟨S1x1024x642, .f32⟩
  | .hbm, ⟨34, _⟩ => ⟨S_, .f32⟩
  | .hbm, ⟨35, _⟩ => ⟨S1x1024x642, .f32⟩
  | .hbm, ⟨36, _⟩ => ⟨S1x1024x642, .f32⟩
  | .hbm, ⟨37, _⟩ => ⟨S1x1024x642, .f32⟩
  | .hbm, ⟨38, _⟩ => ⟨S_, .f32⟩
  | .hbm, ⟨39, _⟩ => ⟨S1x1024x642, .f32⟩
  | .hbm, ⟨40, _⟩ => ⟨S1x1024x642, .f32⟩
  | .hbm, ⟨41, _⟩ => ⟨S1x1024x642, .f32⟩
  | .hbm, ⟨42, _⟩ => ⟨S_, .f32⟩
  | .hbm, ⟨43, _⟩ => ⟨S1x1024x642, .f32⟩
  | .hbm, ⟨44, _⟩ => ⟨S1x1024x642, .f32⟩
  | .hbm, ⟨45, _⟩ => ⟨S1x1024x642, .f32⟩
  | .hbm, ⟨46, _⟩ => ⟨S_, .f32⟩
  | .hbm, ⟨47, _⟩ => ⟨S1x1024x642, .f32⟩
  | .hbm, ⟨48, _⟩ => ⟨S1x1024x642, .f32⟩
  | _, _ => ⟨S1x1024x642, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamwUp.lean ====
abbrev S2x1024x1408 : Shape := ⟨3, ![2, 1024, 1408]⟩
abbrev S512x1408 : Shape := ⟨2, ![512, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 11
  | .vmem => 22
  | .smem => 1
  | _ => 0

abbrev bufTy : (tb : Table) → Fin (tcTables nBuf tb) → BufTy
  | .hbm, ⟨0, _⟩ => ⟨S2x1024x1408, .f32⟩
  | .hbm, ⟨1, _⟩ => ⟨S512x1408, .f32⟩
  | .hbm, ⟨2, _⟩ => ⟨S512x1408, .f32⟩
  | .hbm, ⟨3, _⟩ => ⟨S512x1408, .f32⟩
  | .hbm, ⟨4, _⟩ => ⟨S512x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamwUpIdeal.lean ====
abbrev S2x1024x1408 : Shape := ⟨3, ![2, 1024, 1408]⟩
abbrev S512x1408 : Shape := ⟨2, ![512, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 11
  | .vmem => 22
  | .smem => 1
  | _ => 0

abbrev bufTy : (tb : Table) → Fin (tcTables nBuf tb) → BufTy
  | .hbm, ⟨0, _⟩ => ⟨S2x1024x1408, .f32⟩
  | .hbm, ⟨1, _⟩ => ⟨S512x1408, .f32⟩
  | .hbm, ⟨2, _⟩ => ⟨S512x1408, .f32⟩
  | .hbm, ⟨3, _⟩ => ⟨S512x1408, .f32⟩
  | .hbm, ⟨4, _⟩ => ⟨S512x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | .local _ .smem, ⟨0, _⟩ => ⟨S1, .i32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamwUpReferenceIdeal.lean ====
abbrev S2x1024x1408 : Shape := ⟨3, ![2, 1024, 1408]⟩
abbrev S512x1408 : Shape := ⟨2, ![512, 1408]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩

abbrev nBuf : Space → Nat
  | .hbm => 62
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S512x1408, .f32⟩
  | .hbm, ⟨2, _⟩ => ⟨S512x1408, .f32⟩
  | .hbm, ⟨3, _⟩ => ⟨S512x1408, .f32⟩
  | .hbm, ⟨4, _⟩ => ⟨S512x1408, .f32⟩
  | .hbm, ⟨5, _⟩ => ⟨S2x1024x1408, .f32⟩
  | .hbm, ⟨6, _⟩ => ⟨S2x1024x1408, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S512x1408, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S512x1408, .f32⟩
  | .hbm, ⟨16, _⟩ => ⟨S1024x1408, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S512x1408, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S512x1408, .f32⟩
  | .hbm, ⟨25, _⟩ => ⟨S1024x1408, .f32⟩
  | .hbm, ⟨26, _⟩ => ⟨S1x1024x1408, .f32⟩
  | .hbm, ⟨27, _⟩ => ⟨S1x1024x1408, .f32⟩
  | .hbm, ⟨28, _⟩ => ⟨S2x1024x1408, .f32⟩
  | .hbm, ⟨29, _⟩ => ⟨S_, .f32⟩
  | .hbm, ⟨30, _⟩ => ⟨S2x1024x1408, .f32⟩
  | .hbm, ⟨31, _⟩ => ⟨S2x1024x1408, .f32⟩
  | .hbm, ⟨32, _⟩ => ⟨S_, .f32⟩
  | .hbm, ⟨33, _⟩ => ⟨S2x1024x1408, .f32⟩
  | .hbm, ⟨34, _⟩ => ⟨S2x1024x1408, .f32⟩
  | .hbm, ⟨35, _⟩ => ⟨S2x1024x1408, .f32⟩
  | .hbm, ⟨36, _⟩ => ⟨S_, .f32⟩
  | .hbm, ⟨37, _⟩ => ⟨S2x1024x1408, .f32⟩
  | .hbm, ⟨38, _⟩ => ⟨S2x1024x1408, .f32⟩
  | .hbm, ⟨39, _⟩ => ⟨S2x1024x1408, .f32⟩
  | .hbm, ⟨40, _⟩ => ⟨S_, .f32⟩
  | .hbm, ⟨41, _⟩ => ⟨S2x1024x1408, .f32⟩
  | .hbm, ⟨42, _⟩ => ⟨S2x1024x1408, .f32⟩
  | .hbm, ⟨43, _⟩ => ⟨S2x1024x1408, .f32⟩
  | .hbm, ⟨44, _⟩ => ⟨S_, .f32⟩
  | .hbm, ⟨45, _⟩ => ⟨S2x1024x1408, .f32⟩
  | .hbm, ⟨46, _⟩ => ⟨S2x1024x1408, .f32⟩
  | .hbm, ⟨47, _⟩ => ⟨S_, .f32⟩
  | .hbm, ⟨48, _⟩ => ⟨S2x1024x1408, .f32⟩
  | .hbm, ⟨49, _⟩ => ⟨S2x1024x1408, .f32⟩
  | .hbm, ⟨50, _⟩ => ⟨S2x1024x1408, .f32⟩
  | .hbm, ⟨51, _⟩ => ⟨S_, .f32⟩
  | .hbm, ⟨52, _⟩ => ⟨S2x1024x1408, .f32⟩
  | .hbm, ⟨53, _⟩ => ⟨S2x1024x1408, .f32⟩
  | .hbm, ⟨54, _⟩ => ⟨S2x1024x1408, .f32⟩
  | .hbm, ⟨55, _⟩ => ⟨S_, .f32⟩
  | .hbm, ⟨56, _⟩ => ⟨S2x1024x1408, .f32⟩
  | .hbm, ⟨57, _⟩ => ⟨S2x1024x1408, .f32⟩
  | .hbm, ⟨58, _⟩ => ⟨S2x1024x1408, .f32⟩
  | .hbm, ⟨59, _⟩ => ⟨S_, .f32⟩
  | .hbm, ⟨60, _⟩ => ⟨S2x1024x1408, .f32⟩
  | .hbm, ⟨61, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== AdamwDown.lean ====
abbrev S2x704x1024 : Shape := ⟨3, ![2, 704, 1024]⟩
abbrev S352x1024 : Shape := ⟨2, ![352, 1024]⟩
abbrev S1 : Shape := ⟨1, ![1]⟩
abbrev S1x176x1024 : Shape := ⟨3, ![1, 176, 1024]⟩
abbrev S176x1024 : Shape := ⟨2, ![176, 1024]⟩

abbrev nBuf : Space → Nat
  | .hbm => 11
  | .vmem => 22
  | .smem => 1
  | _ => 0

abbrev bufTy : (tb : Table) → Fin (tcTables nBuf tb) → BufTy
  | .hbm, ⟨0, _⟩ => ⟨S2x704x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .smem, ⟨0, _⟩ => ⟨S1, .i32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamwDownReferenceIdeal.lean ====
abbrev S2x704x1024 : Shape := ⟨3, ![2, 704, 1024]⟩
abbrev S352x1024 : Shape := ⟨2, ![352, 1024]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S2x704x1024, .f32⟩
  | .hbm, ⟨6, _⟩ => ⟨S2x704x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S352x1024, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S352x1024, .f32⟩
  | .hbm, ⟨16, _⟩ => ⟨S704x1024, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S352x1024, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S352x1024, .f32⟩
  | .hbm, ⟨25, _⟩ => ⟨S704x1024, .f32⟩
  | .hbm, ⟨26, _⟩ => ⟨S1x704x1024, .f32⟩
  | .hbm, ⟨27, _⟩ => ⟨S1x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | .hbm, ⟨47, _⟩ => ⟨S_, .f32⟩
  | .hbm, ⟨48, _⟩ => ⟨S2x704x1024, .f32⟩
  | .hbm, ⟨49, _⟩ => ⟨S2x704x1024, .f32⟩
  | .hbm, ⟨50, _⟩ => ⟨S2x704x1024, .f32⟩
  | .hbm, ⟨51, _⟩ => ⟨S_, .f32⟩
  | .hbm, ⟨52, _⟩ => ⟨S2x704x1024, .f32⟩
  | .hbm, ⟨53, _⟩ => ⟨S2x704x1024, .f32⟩
  | .hbm, ⟨54, _⟩ => ⟨S2x704x1024, .f32⟩
  | .hbm, ⟨55, _⟩ => ⟨S_, .f32⟩
  | .hbm, ⟨56, _⟩ => ⟨S2x704x1024, .f32⟩
  | .hbm, ⟨57, _⟩ => ⟨S2x704x1024, .f32⟩
  | .hbm, ⟨58, _⟩ => ⟨S2x704x1024, .f32⟩
  | .hbm, ⟨59, _⟩ => ⟨S_, .f32⟩
  | .hbm, ⟨60, _⟩ => ⟨S2x704x1024, .f32⟩
  | .hbm, ⟨61, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Act.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S512x256 : Shape := ⟨2, ![512, 256]⟩
abbrev S16x256 : Shape := ⟨2, ![16, 256]⟩
abbrev S3x256 : Shape := ⟨2, ![3, 256]⟩
abbrev S1x256 : Shape := ⟨2, ![1, 256]⟩
abbrev S8x256 : Shape := ⟨2, ![8, 256]⟩
abbrev S504x256 : Shape := ⟨2, ![504, 256]⟩

abbrev nBuf : Space → Nat
  | .hbm => 4
  | .vmem => 18
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S512x256, .bf16⟩
  | .local _ .vmem, ⟨1, _⟩ => ⟨S512x256, .bf16⟩
  | .local _ .vmem, ⟨2, _⟩ => ⟨S16x256, .bf16⟩
  | .local _ .vmem, ⟨3, _⟩ => ⟨S16x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | .local _ .vmem, ⟨10, _⟩ => ⟨S16x256, .bf16⟩
  | .local _ .vmem, ⟨11, _⟩ => ⟨S16x256, .bf16⟩
  | .local _ .vmem, ⟨12, _⟩ => ⟨S3x256, .f32⟩
  | .local _ .vmem, ⟨13, _⟩ => ⟨S3x256, .f32⟩
  | .local _ .vmem, ⟨14, _⟩ => ⟨S1x256, .f32⟩
  | .local _ .vmem, ⟨15, _⟩ => ⟨S1x256, .f32⟩
  | .local _ .vmem, ⟨16, _⟩ => ⟨S512x256, .bf16⟩
  | .local _ .vmem, ⟨17, _⟩ => ⟨S512x256, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ActReferenceIdeal.lean ====
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩
abbrev S4098x5632 : Shape := ⟨2, ![4098, 5632]⟩
abbrev S4097x5632 : Shape := ⟨2, ![4097, 5632]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x5632, .f32⟩
  | .hbm, ⟨4, _⟩ => ⟨S1x5632, .f32⟩
  | .hbm, ⟨5, _⟩ => ⟨S_, .i32⟩
  | .hbm, ⟨6, _⟩ => ⟨S_, .f32⟩
  | .hbm, ⟨7, _⟩ => ⟨S4098x5632, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S1x5632, .f32⟩
  | .hbm, ⟨12, _⟩ => ⟨S_, .i32⟩
  | .hbm, ⟨13, _⟩ => ⟨S_, .f32⟩
  | .hbm, ⟨14, _⟩ => ⟨S4097x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call2_v0 : Ref sig .tc := ⟨.hbm, 27, rfl⟩
abbrev main_call2_v1 : Ref sig .tc := ⟨.hbm, 28, rfl⟩
abbrev main_call2_cst : Ref sig .tc := ⟨.hbm, 29, rfl⟩
abbrev main_call2_v2 : Ref sig .tc := ⟨.hbm, 30, rfl⟩
abbrev main_call2_v3 : Ref sig .tc := ⟨.hbm, 31, rfl⟩
abbrev main_call2_cst_0 : Ref sig .tc := ⟨.hbm, 32, rfl⟩
abbrev main_call2_v4 : Ref sig .tc := ⟨.hbm, 33, rfl⟩
abbrev main_call2_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Proof.Up.lean ====
/- The feed-forward block's up projection: the blocked product is the product. -/
module

public import proofs.«01_k».proof.Defs
public import proofs.«01_k».proof.Proof.Gen.UpIdeal
public import proofs.«01_k».proof.Proof.Gen.UpReferenceIdeal
public import proofs.«01_k».proof.Proof.Gen.UpIdeal.Frame
public import proofs.«01_k».proof.Proof.Gen.UpReferenceIdeal.Run
public import proofs.«01_k».proof.Proof.Gen.UpReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.UpIdeal.Product

open Cert.UpIdeal Cert.UpIdeal.Gen
open Idealize.ShloMosaic Idealize.ShloMosaic.TcCoe
open Idealize.SL.Sem

/-! ## The blocks' places: the columns outside, the rows inside -/

theorem N_lt (t : Fin cfg0.N) : t.val < 16 := lt_of_lt_of_eq t.isLt (show cfg0.N = 16 from N_0)
theorem place0 : ∀ t : Fin cfg0.N, win0_0.index t = ![t.val % 4, 0] := (by decide +kernel : ∀ t : Fin grid0.N, _)
theorem place1 : ∀ t : Fin cfg0.N, win0_1.index t = ![0, t.val / 4] := (by decide +kernel : ∀ t : Fin grid0.N, _)
theorem place2 : ∀ t : Fin cfg0.N, win0_2.index t = ![t.val % 4, t.val / 4] := (by decide +kernel : ∀ t : Fin grid0.N, _)

theorem emb0 (t : Fin cfg0.N) (r : Fin 1024) (k : Fin 1024) : (win0_0.blk t).view.emb (ix2 r k) = ix2 (⟨1024 * (t.val % 4) + r.val, by have := N_lt t; omega⟩ : Fin 4096) k := by
  have ht := N_lt t
  blk_ext [place0]
theorem emb1 (t : Fin cfg0.N) (k : Fin 1024) (l : Fin 1408) : (win0_1.blk t).view.emb (ix2 k l) = ix2 k (⟨1408 * (t.val / 4) + l.val, by have := N_lt t; omega⟩ : Fin 5632) := by
  have ht := N_lt t
  blk_ext [place1]
theorem emb2 (t : Fin cfg0.N) (r : Fin 1024) (l : Fin 1408) : (win0_2.blk t).view.emb (ix2 r l) = ix2 (⟨1024 * (t.val % 4) + r.val, by have := N_lt t; omega⟩ : Fin 4096) (⟨1408 * (t.val / 4) + l.val, by have := N_lt t; omega⟩ : Fin 5632) := by
  have ht := N_lt t
  blk_ext [place2]

variable (m : (ℓ : Loc nD τ sig) → Buf (Elt Ideal) ℓ) (c : Dev nD)

/-- The product, element by element. -/
def prod (x0 : FVec Ideal S4096x1024 .bf16) (x1 : FVec Ideal S1024x5632 .bf16) : FVec Ideal S4096x5632 .bf16 :=
  fun i => ∑ k : Fin 1024, (x0 (ix2 (i 0) k) : EReal) * x1 (ix2 k (i 1))

theorem iblk0_apply (t : Fin cfg0.N) (r : Fin 1024) (k : Fin 1024) : iblk m c 0 t (ix2 r k) = m ((c : Thread nD τ).loc main_arg0) (ix2 (⟨1024 * (t.val % 4) + r.val, by have := N_lt t; omega⟩ : Fin 4096) k) :=
  (congrArg (V m c main_arg0) (emb0 t r k)).trans (congrFun (V_main_arg0 m c) _)
theorem iblk1_apply (t : Fin cfg0.N) (k : Fin 1024) (l : Fin 1408) : iblk m c 1 t (ix2 k l) = m ((c : Thread nD τ).loc main_arg1) (ix2 k (⟨1408 * (t.val / 4) + l.val, by have := N_lt t; omega⟩ : Fin 5632)) :=
  (congrArg (V m c main_arg1) (emb1 t k l)).trans (congrFun (V_main_arg1 m c) _)

/-- One block's product. -/
theorem pay_apply (x : Vec Ideal S1024x1024 .bf16) (w : Vec Ideal S1024x1408 .bf16) (r : Fin 1024) (l : Fin 1408) :
    k0_pay1 x w (ix2 r l) = ∑ k : Fin 1024, (x (ix2 r k) : EReal) * w (ix2 k l) := by
  pointwise [k0_pay1]

/-- The kernel's result is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 1408), y = ix2 r l := ⟨y 0, y 1, eq_ix2 y⟩
  have e : (dats m 0 c).after 2 t (ix2 r l) = k0_pay1 (F := Ideal) (iblk m c 0 t) (iblk m c 1 t) (ix2 r l) := by
    rw [after0_2]; frame_out
  refine Eq.trans (show _ = (dats m 0 c).after 2 t (ix2 r l) from rfl) (e.trans ((pay_apply _ _ r l).trans ?_))
  refine Eq.trans ?_ (congrArg (prod (m ((c : Thread nD τ).loc main_arg0)) (m ((c : Thread nD τ).loc main_arg1))) (emb2 t r l)).symm
  refine Finset.sum_congr rfl fun k _ => ?_
  rw [iblk0_apply, iblk1_apply]
  rfl

end Cert.UpIdeal.Product

namespace Cert.UpReferenceIdeal.Product

open Cert.UpReferenceIdeal Cert.UpReferenceIdeal.Read
open Idealize.ShloMosaic Idealize.ShloMosaic.TcCoe

/-- The reference's result is the product. -/
theorem final (x0 : FVec Ideal S4096x1024 .bf16) (x1 : FVec Ideal S1024x5632 .bf16) : val_main_v3 (F := Ideal) x0 x1 = Cert.UpIdeal.Product.prod x0 x1 := by
  funext i
  obtain ⟨r, l, rfl⟩ : ∃ (r : Fin 4096) (l : Fin 5632), i = ix2 r l := ⟨i 0, i 1, eq_ix2 i⟩
  pointwise [val_main_v3, val_main_v2, val_main_v1, val_main_v0]
  rfl

end Cert.UpReferenceIdeal.Product

namespace Cert.UpReferenceIdeal.Product

open Idealize.ShloMosaic Idealize.ShloMosaic.TcCoe
open Idealize.SL.Sem

/-- The reference runs, leaves its arguments unchanged and its counters at zero. -/
theorem frame (m : (ℓ : Loc nD τ Cert.UpReferenceIdeal.sig) → Buf (Elt Ideal) ℓ) (g : Dev nD → PrngReg) :
    θ_run (defs (F := Ideal)) (onTc (τ := τ) (Cert.UpReferenceIdeal.main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := Ideal)) _ _).mono
    (fun r h => ⟨fun c => (h c).2, sem_eq_zero_of_no_sems rfl r.2⟩) (Cert.UpReferenceIdeal.Value.run (F := Ideal) m g)

end Cert.UpReferenceIdeal.Product

namespace Cert.UpIdeal.Product

open Idealize.ShloMosaic Idealize.ShloMosaic.TcCoe
open Idealize.SL.Sem

/-- The blocked up projection is the up projection. -/
theorem algebraic : Cert.algebraic_UpIdeal_UpReferenceIdeal := by
  intro m g m' g' _ hm
  refine ⟨fun c => prod (m ((c.tc : Thread nD τ).loc main_arg0)) (m ((c.tc : Thread nD τ).loc main_arg1)),
    (θ_run (defs (F := Ideal)) _ _).mono (fun r h c => ⟨(h.1.out_eq c 2).trans (final m c), h.2.1 c⟩) (θ_run_and (Gen.run_main m g) (Gen.frame m g)),
    (θ_run (Cert.UpReferenceIdeal.defs (F := Ideal)) _ _).mono (fun r h c => ?_) (Cert.UpReferenceIdeal.Value.run (F := Ideal) m' g')⟩
  obtain ⟨e, ea⟩ := h c
  obtain ⟨m0, m1⟩ := hm c
  rw [Cert.UpReferenceIdeal.Read.val_main_v3_eq, m0, m1, Cert.UpReferenceIdeal.Product.final] at e
  exact ⟨e, ea⟩

end Cert.UpIdeal.Product

end
-- ==== Proof.ActGrad.lean ====
/- The down projection's gradient with respect to its input: the blocked product is the product. -/
module

public import proofs.«01_k».proof.Defs
public import proofs.«01_k».proof.Proof.Gen.ActGradIdeal
public import proofs.«01_k».proof.Proof.Gen.ActGradReferenceIdeal
public import proofs.«01_k».proof.Proof.Gen.ActGradIdeal.Frame
public import proofs.«01_k».proof.Proof.Gen.ActGradReferenceIdeal.Run
public import proofs.«01_k».proof.Proof.Gen.ActGradReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.ActGradIdeal.Product

open Cert.ActGradIdeal Cert.ActGradIdeal.Gen
open Idealize.ShloMosaic Idealize.ShloMosaic.TcCoe
open Idealize.SL.Sem

/-! ## The blocks' places: the columns outside, the rows inside -/

theorem N_lt (t : Fin cfg0.N) : t.val < 8 := lt_of_lt_of_eq t.isLt (show cfg0.N = 8 from N_0)
theorem place0 : ∀ t : Fin cfg0.N, win0_0.index t = ![t.val % 4, 0] := (by decide +kernel : ∀ t : Fin grid0.N, _)
theorem place1 : ∀ t : Fin cfg0.N, win0_1.index t = ![t.val / 4, 0] := (by decide +kernel : ∀ t : Fin grid0.N, _)
theorem place2 : ∀ t : Fin cfg0.N, win0_2.index t = ![t.val % 4, t.val / 4] := (by decide +kernel : ∀ t : Fin grid0.N, _)

theorem emb0 (t : Fin cfg0.N) (r : Fin 1024) (k : Fin 1024) : (win0_0.blk t).view.emb (ix2 r k) = ix2 (⟨1024 * (t.val % 4) + r.val, by have := N_lt t; omega⟩ : Fin 4096) k := by
  have ht := N_lt t
  blk_ext [place0]
theorem emb1 (t : Fin cfg0.N) (l : Fin 1408) (k : Fin 1024) : (win0_1.blk t).view.emb (ix2 l k) = ix2 (⟨1408 * (t.val / 4) + l.val, by have := N_lt t; omega⟩ : Fin 2816) k := by
  have ht := N_lt t
  blk_ext [place1]
theorem emb2 (t : Fin cfg0.N) (r : Fin 1024) (l : Fin 1408) : (win0_2.blk t).view.emb (ix2 r l) = ix2 (⟨1024 * (t.val % 4) + r.val, by have := N_lt t; omega⟩ : Fin 4096) (⟨1408 * (t.val / 4) + l.val, by have := N_lt t; omega⟩ : Fin 2816) := by
  have ht := N_lt t
  blk_ext [place2]

variable (m : (ℓ : Loc nD τ sig) → Buf (Elt Ideal) ℓ) (c : Dev nD)

/-- The product, element by element. -/
def prod (x0 : FVec Ideal S4096x1024 .f32) (x1 : FVec Ideal S2816x1024 .bf16) : FVec Ideal S4096x2816 .bf16 :=
  fun i => ∑ k : Fin 1024, (x0 (ix2 (i 0) k) : EReal) * x1 (ix2 (i 1) k)

theorem iblk0_apply (t : Fin cfg0.N) (r : Fin 1024) (k : Fin 1024) : iblk m c 0 t (ix2 r k) = m ((c : Thread nD τ).loc main_arg0) (ix2 (⟨1024 * (t.val % 4) + r.val, by have := N_lt t; omega⟩ : Fin 4096) k) :=
  (congrArg (V m c main_arg0) (emb0 t r k)).trans (congrFun (V_main_arg0 m c) _)
theorem iblk1_apply (t : Fin cfg0.N) (l : Fin 1408) (k : Fin 1024) : iblk m c 1 t (ix2 l k) = m ((c : Thread nD τ).loc main_arg1) (ix2 (⟨1408 * (t.val / 4) + l.val, by have := N_lt t; omega⟩ : Fin 2816) k) :=
  (congrArg (V m c main_arg1) (emb1 t l k)).trans (congrFun (V_main_arg1 m c) _)

/-- One block's product. -/
theorem pay_apply (x : Vec Ideal S1024x1024 .f32) (w : Vec Ideal S1408x1024 .bf16) (r : Fin 1024) (l : Fin 1408) :
    k0_pay1 x w (ix2 r l) = ∑ k : Fin 1024, (x (ix2 r k) : EReal) * w (ix2 l k) := by
  pointwise [k0_pay1]

/-- The kernel's result is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 1408), y = ix2 r l := ⟨y 0, y 1, eq_ix2 y⟩
  have e : (dats m 0 c).after 2 t (ix2 r l) = k0_pay1 (F := Ideal) (iblk m c 0 t) (iblk m c 1 t) (ix2 r l) := by
    rw [after0_2]; frame_out
  refine Eq.trans (show _ = (dats m 0 c).after 2 t (ix2 r l) from rfl) (e.trans ((pay_apply _ _ r l).trans ?_))
  refine Eq.trans ?_ (congrArg (prod (m ((c : Thread nD τ).loc main_arg0)) (m ((c : Thread nD τ).loc main_arg1))) (emb2 t r l)).symm
  refine Finset.sum_congr rfl fun k _ => ?_
  rw [iblk0_apply, iblk1_apply]
  rfl

end Cert.ActGradIdeal.Product

namespace Cert.ActGradReferenceIdeal.Product

open Cert.ActGradReferenceIdeal Cert.ActGradReferenceIdeal.Read
open Idealize.ShloMosaic Idealize.ShloMosaic.TcCoe

/-- The reference's result is the product. -/
theorem final (x0 : FVec Ideal S4096x1024 .f32) (x1 : FVec Ideal S2816x1024 .bf16) : val_main_v4 (F := Ideal) x0 x1 = Cert.ActGradIdeal.Product.prod x0 x1 := by
  funext i
  obtain ⟨r, l, rfl⟩ : ∃ (r : Fin 4096) (l : Fin 2816), i = ix2 r l := ⟨i 0, i 1, eq_ix2 i⟩
  pointwise [val_main_v4, val_main_v3, val_main_v1]
  rfl

end Cert.ActGradReferenceIdeal.Product

namespace Cert.ActGradReferenceIdeal.Product

open Idealize.ShloMosaic Idealize.ShloMosaic.TcCoe
open Idealize.SL.Sem

/-- The reference runs, leaves its arguments unchanged and its counters at zero. -/
theorem frame (m : (ℓ : Loc nD τ Cert.ActGradReferenceIdeal.sig) → Buf (Elt Ideal) ℓ) (g : Dev nD → PrngReg) :
    θ_run (defs (F := Ideal)) (onTc (τ := τ) (Cert.ActGradReferenceIdeal.main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := Ideal)) _ _).mono
    (fun r h => ⟨fun c => (h c).2, sem_eq_zero_of_no_sems rfl r.2⟩) (Cert.ActGradReferenceIdeal.Value.run (F := Ideal) m g)

end Cert.ActGradReferenceIdeal.Product

namespace Cert.ActGradIdeal.Product

open Idealize.ShloMosaic Idealize.ShloMosaic.TcCoe
open Idealize.SL.Sem

/-- The blocked gradient with respect to the down projection's input is that gradient. -/
theorem algebraic : Cert.algebraic_ActGradIdeal_ActGradReferenceIdeal := by
  intro m g m' g' _ hm
  refine ⟨fun c => prod (m ((c.tc : Thread nD τ).loc main_arg0)) (m ((c.tc : Thread nD τ).loc main_arg1)),
    (θ_run (defs (F := Ideal)) _ _).mono (fun r h c => ⟨(h.1.out_eq c 2).trans (final m c), h.2.1 c⟩) (θ_run_and (Gen.run_main m g) (Gen.frame m g)),
    (θ_run (Cert.ActGradReferenceIdeal.defs (F := Ideal)) _ _).mono (fun r h c => ?_) (Cert.ActGradReferenceIdeal.Value.run (F := Ideal) m' g')⟩
  obtain ⟨e, ea⟩ := h c
  obtain ⟨m0, m1⟩ := hm c
  rw [Cert.ActGradReferenceIdeal.Read.val_main_v4_eq, m0, m1, Cert.ActGradReferenceIdeal.Product.final] at e
  exact ⟨e, ea⟩

end Cert.ActGradIdeal.Product

end
-- ==== Proof.DownGrad.lean ====
/- The down projection's gradient with respect to its weights: the products summed over the blocks of tokens are the product over the tokens. -/
module

public import proofs.«01_k».proof.Defs
public import proofs.«01_k».proof.Proof.Gen.DownGradIdeal
public import proofs.«01_k».proof.Proof.Gen.DownGradReferenceIdeal
public import proofs.«01_k».proof.Proof.Gen.DownGradIdeal.Frame
public import proofs.«01_k».proof.Proof.Gen.DownGradReferenceIdeal.Run
public import proofs.«01_k».proof.Proof.Gen.DownGradReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.DownGradIdeal.Product

open Cert.DownGradIdeal Cert.DownGradIdeal.Gen
open Idealize.ShloMosaic Idealize.ShloMosaic.TcCoe
open Idealize.SL.Sem

/-! ## The blocks' places: the columns outside, the tokens inside -/

theorem N_lt (t : Fin cfg0.N) : t.val < 8 := lt_of_lt_of_eq t.isLt (show cfg0.N = 8 from N_0)
theorem place0 : ∀ t : Fin cfg0.N, win0_0.index t = ![t.val % 4, 0] := (by decide +kernel : ∀ t : Fin grid0.N, _)
theorem place1 : ∀ t : Fin cfg0.N, win0_1.index t = ![t.val % 4, t.val / 4] := (by decide +kernel : ∀ t : Fin grid0.N, _)
theorem place2 : ∀ t : Fin cfg0.N, win0_2.index t = ![0, t.val / 4] := (by decide +kernel : ∀ t : Fin grid0.N, _)

theorem emb0 (t : Fin cfg0.N) (k : Fin 1024) (r : Fin 2816) : (win0_0.blk t).view.emb (ix2 k r) = ix2 (⟨1024 * (t.val % 4) + k.val, by have := N_lt t; omega⟩ : Fin 4096) r := by
  have ht := N_lt t
  blk_ext [place0]
theorem emb1 (t : Fin cfg0.N) (k : Fin 1024) (l : Fin 512) : (win0_1.blk t).view.emb (ix2 k l) = ix2 (⟨1024 * (t.val % 4) + k.val, by have := N_lt t; omega⟩ : Fin 4096) (⟨512 * (t.val / 4) + l.val, by have := N_lt t; omega⟩ : Fin 1024) := by
  have ht := N_lt t
  blk_ext [place1]
theorem emb2 (t : Fin cfg0.N) (r : Fin 2816) (l : Fin 512) : (win0_2.blk t).view.emb (ix2 r l) = ix2 r (⟨512 * (t.val / 4) + l.val, by have := N_lt t; omega⟩ : Fin 1024) := by
  have ht := N_lt t
  blk_ext [place2]

variable (m : (ℓ : Loc nD τ sig) → Buf (Elt Ideal) ℓ) (c : Dev nD)

/-- The product over the tokens, element by element. -/
def prod (x0 : FVec Ideal S4096x2816 .bf16) (x1 : FVec Ideal S4096x1024 .f32) : FVec Ideal S2816x1024 .f32 :=
  fun i => ∑ k : Fin 4096, (x0 (ix2 k (i 0)) : EReal) * x1 (ix2 k (i 1))

theorem iblk0_apply (t : Fin cfg0.N) (k : Fin 1024) (r : Fin 2816) : iblk m c 0 t (ix2 k r) = m ((c : Thread nD τ).loc main_arg0) (ix2 (⟨1024 * (t.val % 4) + k.val, by have := N_lt t; omega⟩ : Fin 4096) r) :=
  congrArg (m ((c : Thread nD τ).loc main_arg0)) (emb0 t k r)
theorem iblk1_apply (t : Fin cfg0.N) (k : Fin 1024) (l : Fin 512) : iblk m c 1 t (ix2 k l) = m ((c : Thread nD τ).loc main_arg1) (ix2 (⟨1024 * (t.val % 4) + k.val, by have := N_lt t; omega⟩ : Fin 4096) (⟨512 * (t.val / 4) + l.val, by have := N_lt t; omega⟩ : Fin 1024)) :=
  congrArg (m ((c : Thread nD τ).loc main_arg1)) (emb1 t k l)

/-- One block of tokens' product. -/
def part (x : Vec Ideal S1024x2816 .bf16) (y : Vec Ideal S1024x512 .f32) : Vec Ideal S2816x512 .f32 :=
  fun j => ∑ k : Fin 1024, (x (ix2 k (j 0)) : EReal) * y (ix2 k (j 1))

theorem pay1_apply (x : Vec Ideal S1024x2816 .bf16) (y : Vec Ideal S1024x512 .f32) (r : Fin 2816) (l : Fin 512) :
    k0_pay1 x y (ix2 r l) = part x y (ix2 r l) := by
  pointwise [k0_pay1]
  rfl
theorem pay2_apply (x : Vec Ideal S1024x2816 .bf16) (y : Vec Ideal S1024x512 .f32) (z : Vec Ideal S2816x512 .f32) (r : Fin 2816) (l : Fin 512) :
    (k0_pay2 x y z (ix2 r l) : EReal) = (z (ix2 r l) : EReal) + part x y (ix2 r l) := by
  rw [← pay1_apply]
  pointwise [k0_pay2]

/-- A block of columns written back holds the sum of its blocks of tokens' products. -/
theorem outs_apply (t : Fin cfg0.N) (hf : t.val % 4 = 3) (j : S2816x512.Idx) :
    (outsAt0 m c t.val t.isLt j : EReal) = 0 + ∑ s : Fin 4, (part (iblk m c 0 ⟨4 * (t.val / 4) + s.val, Pipeline.run_point_lt_of_flush t hf s⟩) (iblk m c 1 ⟨4 * (t.val / 4) + s.val, Pipeline.run_point_lt_of_flush t hf s⟩) j : EReal) := by
  refine Pipeline.eq_sum_fin_of_reset_step_apply_of_flush (M := EReal) (fun n h => outsAt0 m c n h) 4 (fun _ => 0) (fun t => part (iblk m c 0 t) (iblk m c 1 t)) (fun t h i => ?_) (fun t h i => ?_) t hf j
  · obtain ⟨r, l, rfl⟩ : ∃ (r : Fin 2816) (l : Fin 512), i = ix2 r l := ⟨i 0, i 1, eq_ix2 i⟩
    rw [outsAt0_A m c t h (by omega)]
    frame_out
    rw [zero_add]
    exact pay1_apply _ _ r l
  · obtain ⟨r, l, rfl⟩ : ∃ (r : Fin 2816) (l : Fin 512), i = ix2 r l := ⟨i 0, i 1, eq_ix2 i⟩
    rw [outsAt0_B m c t h (by omega)]
    frame_out
    exact pay2_apply _ _ _ r l

/-- The kernel's result is the product over the tokens. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 2816) (l : Fin 512), y = ix2 r l := ⟨y 0, y 1, eq_ix2 y⟩
  refine Eq.trans (show _ = (dats m 0 c).after 2 t (ix2 r l) from rfl) ?_
  rw [after0_2]
  refine (outs_apply m c t ((flush0_2 t).mp hf) (ix2 r l)).trans ?_
  rw [zero_add]
  refine Eq.trans ?_ (congrArg (prod (m ((c : Thread nD τ).loc main_arg0)) (m ((c : Thread nD τ).loc main_arg1))) (emb2 t r l)).symm
  refine Fin.sum_mul_add_congr (S := 4) (n := 1024) fun s k hl => ?_
  dsimp only [ix2_0, ix2_1]
  rw [iblk0_apply, iblk1_apply]
  have es : (4 * (t.val / 4) + s.val) % 4 = s.val := by omega
  have ed : (4 * (t.val / 4) + s.val) / 4 = t.val / 4 := by omega
  simp only [es, ed, Nat.mul_comm 1024 s.val]

end Cert.DownGradIdeal.Product

namespace Cert.DownGradReferenceIdeal.Product

open Cert.DownGradReferenceIdeal Cert.DownGradReferenceIdeal.Read
open Idealize.ShloMosaic Idealize.ShloMosaic.TcCoe

/-- The reference's result is the product over the tokens. -/
theorem final (x0 : FVec Ideal S4096x2816 .bf16) (x1 : FVec Ideal S4096x1024 .f32) : val_main_v4 (F := Ideal) x0 x1 = Cert.DownGradIdeal.Product.prod x0 x1 := by
  funext i
  obtain ⟨r, l, rfl⟩ : ∃ (r : Fin 2816) (l : Fin 1024), i = ix2 r l := ⟨i 0, i 1, eq_ix2 i⟩
  pointwise [val_main_v4, val_main_v3, val_main_v1]
  exact Finset.sum_congr rfl fun k _ => mul_comm (G := EReal) _ _

end Cert.DownGradReferenceIdeal.Product

namespace Cert.DownGradReferenceIdeal.Product

open Idealize.ShloMosaic Idealize.ShloMosaic.TcCoe
open Idealize.SL.Sem

/-- The reference runs, leaves its arguments unchanged and its counters at zero. -/
theorem frame (m : (ℓ : Loc nD τ Cert.DownGradReferenceIdeal.sig) → Buf (Elt Ideal) ℓ) (g : Dev nD → PrngReg) :
    θ_run (defs (F := Ideal)) (onTc (τ := τ) (Cert.DownGradReferenceIdeal.main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := Ideal)) _ _).mono
    (fun r h => ⟨fun c => (h c).2, sem_eq_zero_of_no_sems rfl r.2⟩) (Cert.DownGradReferenceIdeal.Value.run (F := Ideal) m g)

end Cert.DownGradReferenceIdeal.Product

namespace Cert.DownGradIdeal.Product

open Idealize.ShloMosaic Idealize.ShloMosaic.TcCoe
open Idealize.SL.Sem

/-- The gradient with respect to the down projection's weights, summed over blocks of tokens, is that gradient. -/
theorem algebraic : Cert.algebraic_DownGradIdeal_DownGradReferenceIdeal := by
  intro m g m' g' _ hm
  refine ⟨fun c => prod (m ((c.tc : Thread nD τ).loc main_arg0)) (m ((c.tc : Thread nD τ).loc main_arg1)),
    (θ_run (defs (F := Ideal)) _ _).mono (fun r h c => ⟨(h.1.out_eq c 2).trans (final m c), h.2.1 c⟩) (θ_run_and (Gen.run_main m g) (Gen.frame m g)),
    (θ_run (Cert.DownGradReferenceIdeal.defs (F := Ideal)) _ _).mono (fun r h c => ?_) (Cert.DownGradReferenceIdeal.Value.run (F := Ideal) m' g')⟩
  obtain ⟨e, ea⟩ := h c
  obtain ⟨m0, m1⟩ := hm c
  rw [Cert.DownGradReferenceIdeal.Read.val_main_v4_eq, m0, m1, Cert.DownGradReferenceIdeal.Product.final] at e
  exact ⟨e, ea⟩

end Cert.DownGradIdeal.Product

end
-- ==== Proof.UpGrad.lean ====
/- The up projection's gradient with respect to its weights: the products summed over the blocks of tokens, one block of columns at a time, are the product over the tokens. -/
module

public import proofs.«01_k».proof.Defs
public import proofs.«01_k».proof.Proof.Gen.UpGradIdeal
public import proofs.«01_k».proof.Proof.Gen.UpGradReferenceIdeal
public import proofs.«01_k».proof.Proof.Gen.UpGradIdeal.Frame
public import proofs.«01_k».proof.Proof.Gen.UpGradReferenceIdeal.Run
public import proofs.«01_k».proof.Proof.Gen.UpGradReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.UpGradIdeal.Product

open Cert.UpGradIdeal Cert.UpGradIdeal.Gen
open Idealize.ShloMosaic Idealize.ShloMosaic.TcCoe
open Idealize.SL.Sem

/-! ## The blocks' places: the columns outside, the tokens inside -/

theorem N_lt (t : Fin cfg0.N) : t.val < 16 := lt_of_lt_of_eq t.isLt (show cfg0.N = 16 from N_0)
theorem place0 : ∀ t : Fin cfg0.N, win0_0.index t = ![t.val % 4, 0] := (by decide +kernel : ∀ t : Fin grid0.N, _)
theorem place1 : ∀ t : Fin cfg0.N, win0_1.index t = ![t.val % 4, min (t.val / 4) 1] := (by decide +kernel : ∀ t : Fin grid0.N, _)
theorem place2 : ∀ t : Fin cfg0.N, win0_2.index t = ![t.val % 4, t.val / 4 - 2] := (by decide +kernel : ∀ t : Fin grid0.N, _)
theorem place3 : ∀ t : Fin cfg0.N, win0_3.index t = ![0, t.val / 4] := (by decide +kernel : ∀ t : Fin grid0.N, _)

theorem emb0 (t : Fin cfg0.N) (k : Fin 1024) (r : Fin 1024) : (win0_0.blk t).view.emb (ix2 k r) = ix2 (⟨1024 * (t.val % 4) + k.val, by have := N_lt t; omega⟩ : Fin 4096) r := by
  have ht := N_lt t
  blk_ext [place0]
theorem emb1 (t : Fin cfg0.N) (k : Fin 1024) (l : Fin 1408) : (win0_1.blk t).view.emb (ix2 k l) = ix2 (⟨1024 * (t.val % 4) + k.val, by have := N_lt t; omega⟩ : Fin 4096) (⟨1408 * min (t.val / 4) 1 + l.val, by have := N_lt t; omega⟩ : Fin 2816) := by
  have ht := N_lt t
  blk_ext [place1]
theorem emb2 (t : Fin cfg0.N) (k : Fin 1024) (l : Fin 1408) : (win0_2.blk t).view.emb (ix2 k l) = ix2 (⟨1024 * (t.val % 4) + k.val, by have := N_lt t; omega⟩ : Fin 4096) (⟨1408 * (t.val / 4 - 2) + l.val, by have := N_lt t; omega⟩ : Fin 2816) := by
  have ht := N_lt t
  blk_ext [place2]
theorem emb3 (t : Fin cfg0.N) (r : Fin 1024) (l : Fin 1408) : (win0_3.blk t).view.emb (ix2 r l) = ix2 r (⟨1408 * (t.val / 4) + l.val, by have := N_lt t; omega⟩ : Fin 5632) := by
  have ht := N_lt t
  blk_ext [place3]

variable (m : (ℓ : Loc nD τ sig) → Buf (Elt Ideal) ℓ) (c : Dev nD)

/-- The two gradients side by side, at a token and a column. -/
def beside (x1 x2 : FVec Ideal S4096x2816 .bf16) (k : Fin 4096) (l : Fin 5632) : EReal :=
  if h : l.val < 2816 then x1 (ix2 k ⟨l.val, h⟩) else x2 (ix2 k ⟨l.val - 2816, by omega⟩)

/-- One token's share of an element of the product. -/
def share (x0 : FVec Ideal S4096x1024 .bf16) (x1 x2 : FVec Ideal S4096x2816 .bf16) (k : Fin 4096) (r : Fin 1024) (l : Fin 5632) : EReal :=
  (x0 (ix2 k r) : EReal) * beside x1 x2 k l

/-- The product over the tokens, element by element. -/
def prod (x0 : FVec Ideal S4096x1024 .bf16) (x1 x2 : FVec Ideal S4096x2816 .bf16) : FVec Ideal S1024x5632 .f32 :=
  fun i => ∑ k : Fin 4096, share x0 x1 x2 k (i 0) (i 1)

theorem iblk0_apply (t : Fin cfg0.N) (k : Fin 1024) (r : Fin 1024) : iblk m c 0 t (ix2 k r) = m ((c : Thread nD τ).loc main_arg0) (ix2 (⟨1024 * (t.val % 4) + k.val, by have := N_lt t; omega⟩ : Fin 4096) r) :=
  congrArg (m ((c : Thread nD τ).loc main_arg0)) (emb0 t k r)
theorem iblk1_apply (t : Fin cfg0.N) (k : Fin 1024) (l : Fin 1408) : iblk m c 1 t (ix2 k l) = m ((c : Thread nD τ).loc main_arg1) (ix2 (⟨1024 * (t.val % 4) + k.val, by have := N_lt t; omega⟩ : Fin 4096) (⟨1408 * min (t.val / 4) 1 + l.val, by have := N_lt t; omega⟩ : Fin 2816)) :=
  congrArg (m ((c : Thread nD τ).loc main_arg1)) (emb1 t k l)
theorem iblk2_apply (t : Fin cfg0.N) (k : Fin 1024) (l : Fin 1408) : iblk m c 2 t (ix2 k l) = m ((c : Thread nD τ).loc main_arg2) (ix2 (⟨1024 * (t.val % 4) + k.val, by have := N_lt t; omega⟩ : Fin 4096) (⟨1408 * (t.val / 4 - 2) + l.val, by have := N_lt t; omega⟩ : Fin 2816)) :=
  congrArg (m ((c : Thread nD τ).loc main_arg2)) (emb2 t k l)

/-- One block of tokens' product. -/
def part (x : Vec Ideal S1024x1024 .bf16) (y : Vec Ideal S1024x1408 .bf16) : Vec Ideal S1024x1408 .f32 :=
  fun j => ∑ k : Fin 1024, (x (ix2 k (j 0)) : EReal) * y (ix2 k (j 1))

theorem pay1_apply (x : Vec Ideal S1024x1024 .bf16) (y : Vec Ideal S1024x1408 .bf16) (r : Fin 1024) (l : Fin 1408) :
    k0_pay1 x y (ix2 r l) = part x y (ix2 r l) := by
  pointwise [k0_pay1]
  rfl
theorem pay2_apply (x : Vec Ideal S1024x1024 .bf16) (y : Vec Ideal S1024x1408 .bf16) (z : Vec Ideal S1024x1408 .f32) (r : Fin 1024) (l : Fin 1408) :
    (k0_pay2 x y z (ix2 r l) : EReal) = (z (ix2 r l) : EReal) + part x y (ix2 r l) := by
  rw [← pay1_apply]
  pointwise [k0_pay2]
theorem pay3_apply (x : Vec Ideal S1024x1024 .bf16) (y : Vec Ideal S1024x1408 .bf16) (r : Fin 1024) (l : Fin 1408) :
    k0_pay3 x y (ix2 r l) = part x y (ix2 r l) := by
  pointwise [k0_pay3]
  rfl
theorem pay4_apply (x : Vec Ideal S1024x1024 .bf16) (y : Vec Ideal S1024x1408 .bf16) (z : Vec Ideal S1024x1408 .f32) (r : Fin 1024) (l : Fin 1408) :
    (k0_pay4 x y z (ix2 r l) : EReal) = (z (ix2 r l) : EReal) + part x y (ix2 r l) := by
  rw [← pay3_apply]
  pointwise [k0_pay4]

/-- What a point adds: its block of tokens' product with the gradient its columns are taken from. -/
def term (t : Fin cfg0.N) : Vec Ideal S1024x1408 .f32 :=
  if t.val < 8 then part (iblk m c 0 t) (iblk m c 1 t) else part (iblk m c 0 t) (iblk m c 2 t)

/-- A point's addend, read from the arrays. -/
theorem term_apply (t : Fin cfg0.N) (r : Fin 1024) (l : Fin 1408) :
    (term m c t (ix2 r l) : EReal) = ∑ k : Fin 1024, share (m ((c : Thread nD τ).loc main_arg0)) (m ((c : Thread nD τ).loc main_arg1)) (m ((c : Thread nD τ).loc main_arg2)) ⟨1024 * (t.val % 4) + k.val, by have := N_lt t; omega⟩ r ⟨1408 * (t.val / 4) + l.val, by have := N_lt t; omega⟩ := by
  have ht := N_lt t
  unfold term
  split
  · rename_i h
    refine Finset.sum_congr rfl fun k _ => ?_
    dsimp only [ix2_0, ix2_1]
    rw [iblk0_apply, iblk1_apply]
    have hl : 1408 * (t.val / 4) + l.val < 2816 := by omega
    have e : min (t.val / 4) 1 = t.val / 4 := by omega
    unfold share beside
    rw [dif_pos hl]
    simp only [e]
  · rename_i h
    refine Finset.sum_congr rfl fun k _ => ?_
    dsimp only [ix2_0, ix2_1]
    rw [iblk0_apply, iblk2_apply]
    have hl : ¬1408 * (t.val / 4) + l.val < 2816 := by omega
    have e : 1408 * (t.val / 4 - 2) + l.val = 1408 * (t.val / 4) + l.val - 2816 := by omega
    unfold share beside
    rw [dif_neg hl]
    simp only [e]

/-- A block of columns written back holds the sum of its blocks of tokens' products. -/
theorem outs_apply (t : Fin cfg0.N) (hf : t.val % 4 = 3) (j : S1024x1408.Idx) :
    (outsAt0 m c t.val t.isLt j : EReal) = 0 + ∑ s : Fin 4, (term m c ⟨4 * (t.val / 4) + s.val, Pipeline.run_point_lt_of_flush t hf s⟩ j : EReal) := by
  refine Pipeline.eq_sum_fin_of_reset_step_apply_of_flush (M := EReal) (fun n h => outsAt0 m c n h) 4 (fun _ => 0) (fun t => term m c t) (fun t h i => ?_) (fun t h i => ?_) t hf j
  · obtain ⟨r, l, rfl⟩ : ∃ (r : Fin 1024) (l : Fin 1408), i = ix2 r l := ⟨i 0, i 1, eq_ix2 i⟩
    by_cases h8 : t.val < 8
    · rw [outsAt0_A m c t h8 h (by omega) (by omega), zero_add, term, if_pos h8]
      frame_out
      exact pay1_apply _ _ r l
    · rw [outsAt0_C m c t h8 (by omega) h (by omega), zero_add, term, if_neg h8]
      frame_out
      exact pay3_apply _ _ r l
  · obtain ⟨r, l, rfl⟩ : ∃ (r : Fin 1024) (l : Fin 1408), i = ix2 r l := ⟨i 0, i 1, eq_ix2 i⟩
    by_cases h8 : t.val < 8
    · rw [outsAt0_B m c t h8 h (by omega) (by omega), term, if_pos h8]
      frame_out
      exact pay2_apply _ _ _ r l
    · rw [outsAt0_D m c t h8 (by omega) h (by omega), term, if_neg h8]
      frame_out
      exact pay4_apply _ _ _ r l

/-- The kernel's result is the product over the tokens. -/
theorem final : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 1024) (l : Fin 1408), y = ix2 r l := ⟨y 0, y 1, eq_ix2 y⟩
  refine Eq.trans (show _ = (dats m 0 c).after 3 t (ix2 r l) from rfl) ?_
  rw [after0_3]
  refine (outs_apply m c t ((flush0_3 t).mp hf) (ix2 r l)).trans ?_
  rw [zero_add]
  refine Eq.trans ?_ (congrArg (prod (m ((c : Thread nD τ).loc main_arg0)) (m ((c : Thread nD τ).loc main_arg1)) (m ((c : Thread nD τ).loc main_arg2))) (emb3 t r l)).symm
  simp only [term_apply]
  refine Fin.sum_mul_add_congr (S := 4) (n := 1024) fun s k hl => ?_
  have es : (4 * (t.val / 4) + s.val) % 4 = s.val := by omega
  have ed : (4 * (t.val / 4) + s.val) / 4 = t.val / 4 := by omega
  simp only [es, ed, Nat.mul_comm 1024 s.val, ix2_0, ix2_1]

end Cert.UpGradIdeal.Product

namespace Cert.UpGradReferenceIdeal.Product

open Cert.UpGradReferenceIdeal Cert.UpGradReferenceIdeal.Read
open Idealize.ShloMosaic Idealize.ShloMosaic.TcCoe

/-- The reference's two gradients side by side. -/
theorem beside_apply (x1 x2 : FVec Ideal S4096x2816 .bf16) (k : Fin 4096) (l : Fin 5632) : val_main_v1 (F := Ideal) x1 x2 (ix2 k l) = Cert.UpGradIdeal.Product.beside x1 x2 k l := by
  pointwise [val_main_v1]
  rfl

/-- The reference's result is the product over the tokens. -/
theorem final (x0 : FVec Ideal S4096x1024 .bf16) (x1 x2 : FVec Ideal S4096x2816 .bf16) : val_main_v6 (F := Ideal) x0 x1 x2 = Cert.UpGradIdeal.Product.prod x0 x1 x2 := by
  funext i
  obtain ⟨r, l, rfl⟩ : ∃ (r : Fin 1024) (l : Fin 5632), i = ix2 r l := ⟨i 0, i 1, eq_ix2 i⟩
  pointwise [val_main_v6, val_main_v5, val_main_v3, val_main_v2]
  refine Finset.sum_congr rfl fun k _ => ?_
  rw [beside_apply]
  exact mul_comm (G := EReal) _ _

end Cert.UpGradReferenceIdeal.Product

namespace Cert.UpGradReferenceIdeal.Product

open Idealize.ShloMosaic Idealize.ShloMosaic.TcCoe
open Idealize.SL.Sem

/-- The reference runs, leaves its arguments unchanged and its counters at zero. -/
theorem frame (m : (ℓ : Loc nD τ Cert.UpGradReferenceIdeal.sig) → Buf (Elt Ideal) ℓ) (g : Dev nD → PrngReg) :
    θ_run (defs (F := Ideal)) (onTc (τ := τ) (Cert.UpGradReferenceIdeal.main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := Ideal)) _ _).mono
    (fun r h => ⟨fun c => (h c).2, sem_eq_zero_of_no_sems rfl r.2⟩) (Cert.UpGradReferenceIdeal.Value.run (F := Ideal) m g)

end Cert.UpGradReferenceIdeal.Product

namespace Cert.UpGradIdeal.Product

open Idealize.ShloMosaic Idealize.ShloMosaic.TcCoe
open Idealize.SL.Sem

/-- The gradient with respect to the up projection's weights, summed over blocks of tokens, is that gradient. -/
theorem algebraic : Cert.algebraic_UpGradIdeal_UpGradReferenceIdeal := by
  intro m g m' g' _ hm
  refine ⟨fun c => prod (m ((c.tc : Thread nD τ).loc main_arg0)) (m ((c.tc : Thread nD τ).loc main_arg1)) (m ((c.tc : Thread nD τ).loc main_arg2)),
    (θ_run (defs (F := Ideal)) _ _).mono (fun r h c => ⟨(h.1.out_eq c 3).trans (final m c), h.2.1 c⟩) (θ_run_and (Gen.run_main m g) (Gen.frame m g)),
    (θ_run (Cert.UpGradReferenceIdeal.defs (F := Ideal)) _ _).mono (fun r h c => ?_) (Cert.UpGradReferenceIdeal.Value.run (F := Ideal) m' g')⟩
  obtain ⟨e, ea⟩ := h c
  obtain ⟨m0, m1, m2⟩ := hm c
  rw [Cert.UpGradReferenceIdeal.Read.val_main_v6_eq, m0, m1, m2, Cert.UpGradReferenceIdeal.Product.final] at e
  exact ⟨e, ea⟩

end Cert.UpGradIdeal.Product

end
-- ==== Proof.Norm.lean ====
/- The gradient through the row normalisation, as it is computed and as differentiating gives it: the two are equal at every extended real. -/
module

public import Idealize.ShloMosaic.Lib.IdealHost

@[expose] public section

noncomputable section

namespace Cert.Norm

open Idealize.ShloMosaic

theorem width : Ideal.ofBits .f32 0x44800000#32 = ((1024 : ℝ) : EReal) := by
  simp [Ideal.ofBits, Ideal.ieee, -EReal.coe_mul]; norm_num
theorem minus_half : Ideal.ofBits .f32 0xBF000000#32 = ((-(1 / 2) : ℝ) : EReal) := by
  simp [Ideal.ofBits, Ideal.ieee, -EReal.coe_mul, -EReal.coe_neg]; norm_num
theorem small : ∃ e : ℝ, 0 < e ∧ Ideal.ofBits .f32 0x358637BD#32 = (e : EReal) :=
  ⟨8796093 * (2 : ℝ) ^ (-43 : ℤ), by positivity, by simp [Ideal.ofBits, Ideal.ieee, -EReal.coe_mul]⟩

/-- A row's mean square, plus the small constant. -/
def rate (h : Fin 1024 → EReal) : EReal :=
  Ideal.div (∑ j, h j * h j) (Ideal.ofBits .f32 0x44800000#32) + Ideal.ofBits .f32 0x358637BD#32

/-- The reciprocal root the row is scaled by. -/
def root (h : Fin 1024 → EReal) : EReal := Ideal.rsqrt (rate h)

/-- The normalised row's entry. -/
def scaled (h : Fin 1024 → EReal) (g : EReal) (l : Fin 1024) : EReal := h l * root h * g

/-- The gradient's entry as it is computed: the gradient `a` of the scaled row less its component along the row, scaled, added to `x`. -/
def entry (h a : Fin 1024 → EReal) (x : EReal) (l : Fin 1024) : EReal :=
  x + root h * (a l - h l * root h * Ideal.div (∑ j, a j * (h j * root h)) (Ideal.ofBits .f32 0x44800000#32))

/-- The gradient's entry, from the gradient `d` of the row scaled by `g`. -/
def back (h d g : Fin 1024 → EReal) (x : EReal) (l : Fin 1024) : EReal := entry h (fun j => d j * g j) x l

/-- A row's share of the gradient with respect to the scale. -/
def share (h d : Fin 1024 → EReal) (l : Fin 1024) : EReal := d l * (h l * root h)

/-- What differentiating the mean square contributes, by one factor of the square. -/
def along (h a : Fin 1024 → EReal) : EReal :=
  Ideal.div ((∑ j, h j * a j) * (Ideal.ofBits .f32 0xBF000000#32 * Ideal.div (root h) (rate h))) (Ideal.ofBits .f32 0x44800000#32)

theorem sum_mul_coe {ι : Type*} (s : Finset ι) (f : ι → EReal) (r : ℝ) (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem square_nonneg (x : EReal) : 0 ≤ x * x := by
  induction x with
  | bot => simp
  | top => simp
  | coe x => rw [← EReal.coe_mul]; exact EReal.coe_nonneg.mpr (mul_self_nonneg x)

/-- The rate is infinite, or a positive real and every entry of the row is real. -/
theorem rate_cases (h : Fin 1024 → EReal) : rate h = ⊤ ∨ (∃ v : ℝ, 0 < v ∧ rate h = (v : EReal)) ∧ ∀ j, ∃ y : ℝ, h j = (y : EReal) := by
  obtain ⟨e, he, hs⟩ := small
  have h0 : 0 ≤ ∑ j, h j * h j := Finset.sum_nonneg fun j _ => square_nonneg _
  have hr : rate h = (∑ j, h j * h j) * ((1 / 1024 : ℝ) : EReal) + (e : EReal) := by
    rw [rate, width, hs, Ideal.div_coe (by norm_num)]
  by_cases ht : ∑ j, h j * h j = ⊤
  · left
    rw [hr, ht, EReal.top_mul_coe_of_pos (by norm_num), EReal.top_add_coe]
  · right
    have hb : ∑ j, h j * h j ≠ ⊥ := fun h => by rw [h] at h0; exact absurd h0 (by simp)
    constructor
    · refine ⟨(∑ j, h j * h j).toReal * (1 / 1024) + e, ?_, ?_⟩
      · have := EReal.toReal_nonneg h0
        positivity
      · rw [hr, EReal.coe_add, EReal.coe_mul, EReal.coe_toReal ht hb]
    · intro j
      have hj : h j * h j ≤ ∑ j, h j * h j := Finset.single_le_sum (f := fun j => h j * h j) (fun j _ => square_nonneg _) (Finset.mem_univ j)
      have hn : h j ≠ ⊤ := fun e => ht (top_le_iff.mp (by rw [e] at hj; simpa using hj))
      have hm : h j ≠ ⊥ := fun e => ht (top_le_iff.mp (by rw [e] at hj; simpa using hj))
      exact ⟨(h j).toReal, (EReal.coe_toReal hn hm).symm⟩

theorem twice (S : EReal) (q : ℝ) : S * (q : EReal) + S * (q : EReal) = S * ((q + q : ℝ) : EReal) := by
  induction S with
  | coe S => rw [← EReal.coe_mul, ← EReal.coe_mul, ← EReal.coe_add, mul_add]
  | top =>
    rcases lt_trichotomy q 0 with h | h | h
    · rw [EReal.top_mul_coe_of_neg h, EReal.top_mul_coe_of_neg (by linarith)]; rfl
    · simp [h]
    · rw [EReal.top_mul_coe_of_pos h, EReal.top_mul_coe_of_pos (by linarith)]; rfl
  | bot =>
    rcases lt_trichotomy q 0 with h | h | h
    · rw [EReal.bot_mul_coe_of_neg h, EReal.bot_mul_coe_of_neg (by linarith)]; rfl
    · simp [h]
    · rw [EReal.bot_mul_coe_of_pos h, EReal.bot_mul_coe_of_pos (by linarith)]; rfl

/-- The entry as it is computed is the entry differentiating gives. -/
theorem entry_eq (h a : Fin 1024 → EReal) (x : EReal) (l : Fin 1024) :
    entry h a x l = x + (a l * root h + h l * along h a + along h a * h l) := by
  rw [entry]
  congr 1
  rcases rate_cases h with ht | ⟨⟨v, hv, hr⟩, hh⟩
  · have h0 : root h = 0 := by rw [root, ht]; rfl
    rw [along, h0, ht, width, Ideal.div_coe (by norm_num), Ideal.div_coe (by norm_num)]
    simp [Ideal.div]
  · have hs : 0 < Real.sqrt v := Real.sqrt_pos.mpr hv
    obtain ⟨s, es⟩ : ∃ s : ℝ, s = (Real.sqrt v)⁻¹ := ⟨_, rfl⟩
    have hs0 : 0 ≤ s := by rw [es]; positivity
    have h1 : root h = (s : EReal) := by
      rw [root, hr, Ideal.rsqrt_coe, if_neg (not_lt.mpr hv.le), if_neg hv.ne', es]
    have hss : s * s = 1 / v := by
      rw [es, ← mul_inv, Real.mul_self_sqrt hv.le, one_div]
    have hS : ∑ j, a j * (h j * root h) = (∑ j, h j * a j) * (s : EReal) := by
      rw [h1, sum_mul_coe _ _ s hs0]
      exact Finset.sum_congr rfl fun j _ => by rw [← mul_assoc, mul_comm (a j)]
    obtain ⟨y, hy⟩ := hh l
    generalize hT : ∑ j, h j * a j = S at hS
    have ha : along h a = S * ((-(1 / 2) * (s * (1 / v)) * (1 / 1024) : ℝ) : EReal) := by
      rw [along, hT, width, minus_half, h1, hr, Ideal.div_coe (by norm_num), Ideal.div_coe hv.ne', mul_assoc, ← EReal.coe_mul, ← EReal.coe_mul, ← EReal.coe_mul]
    rw [hS, ha, h1, hy, width, Ideal.div_coe (by norm_num)]
    have e1 : (y : EReal) * (s : EReal) * (S * (s : EReal) * ((1 / 1024 : ℝ) : EReal)) = S * ((y * s * s * (1 / 1024) : ℝ) : EReal) := by
      rw [EReal.coe_mul, EReal.coe_mul, EReal.coe_mul]
      ac_rfl
    have e2 : (y : EReal) * (S * ((-(1 / 2) * (s * (1 / v)) * (1 / 1024) : ℝ) : EReal)) = S * ((y * (-(1 / 2) * (s * (1 / v)) * (1 / 1024)) : ℝ) : EReal) := by
      rw [EReal.coe_mul y, mul_left_comm]
    rw [e1, mul_comm (S * _) (y : EReal), e2, add_assoc, twice, sub_eq_add_neg, mul_comm (s : EReal), EReal.right_distrib_of_nonneg_of_ne_top (EReal.coe_nonneg.mpr hs0) (EReal.coe_ne_top s)]
    congr 1
    rw [← mul_neg, ← EReal.coe_neg, mul_assoc, ← EReal.coe_mul]
    congr 2
    rw [← hss]
    ring

end Cert.Norm

end
-- ==== Proof.NormGrad.lean ====
/- The gradient carried back through the product with the up projection's weights and through the row normalisation, and the gradient with respect to its scale: the blocked results are those gradients. -/
module

public import proofs.«01_k».proof.Defs
public import proofs.«01_k».proof.Proof.Gen.NormGradIdeal
public import proofs.«01_k».proof.Proof.Gen.NormGradReferenceIdeal
public import proofs.«01_k».proof.Proof.Gen.NormGradIdeal.Frame
public import proofs.«01_k».proof.Proof.Gen.NormGradReferenceIdeal.Run
public import proofs.«01_k».proof.Proof.Gen.NormGradReferenceIdeal.Read
public import proofs.«01_k».proof.Proof.Norm
public import Idealize.ShloMosaic.Lib.Pipeline.ValueKit
public import Idealize.ShloMosaic.Lib.Pointwise
public import Idealize.ShloMosaic.Lib.IdealHost

@[expose] public section

set_option maxRecDepth 16384

noncomputable section

namespace Cert.NormGradIdeal.Product

open Cert.NormGradIdeal Cert.NormGradIdeal.Gen
open Idealize.ShloMosaic Idealize.ShloMosaic.TcCoe
open Idealize.SL.Sem

theorem N_lt (t : Fin cfg0.N) : t.val < 8 := lt_of_lt_of_eq t.isLt (show cfg0.N = 8 from N_0)
theorem place0 : ∀ t : Fin cfg0.N, win0_0.index t = ![t.val, 0] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![t.val, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![t.val, 0] := (by decide +kernel : ∀ t : Fin grid0.N, _)
theorem place6 : ∀ t : Fin cfg0.N, win0_6.index t = ![t.val, 0] := (by decide +kernel : ∀ t : Fin grid0.N, _)
theorem place7 : ∀ t : Fin cfg0.N, win0_7.index t = ![0, 0] := (by decide +kernel : ∀ t : Fin grid0.N, _)
theorem emb0 (t : Fin cfg0.N) (r : Fin 512) (k : Fin 2816) : (win0_0.blk t).view.emb (ix2 r k) = ix2 (⟨512 * t.val + r.val, by have := N_lt t; omega⟩ : Fin 4096) k := by
  have ht := N_lt t
  blk_ext [place0]
theorem emb1 (t : Fin cfg0.N) (r : Fin 512) (k : Fin 2816) : (win0_1.blk t).view.emb (ix2 r k) = ix2 (⟨512 * t.val + r.val, by have := N_lt t; omega⟩ : Fin 4096) k := by
  have ht := N_lt t
  blk_ext [place1]
theorem emb2 (t : Fin cfg0.N) (l : Fin 1024) (k : Fin 5632) : (win0_2.blk t).view.emb (ix2 l k) = ix2 l k := by
  have ht := N_lt t
  blk_ext [place2]
theorem emb3 (t : Fin cfg0.N) (r : Fin 512) (l : Fin 1024) : (win0_3.blk t).view.emb (ix2 r l) = ix2 (⟨512 * t.val + r.val, by have := N_lt t; omega⟩ : Fin 4096) l := by
  have ht := N_lt t
  blk_ext [place3]
theorem emb4 (t : Fin cfg0.N) (z : Fin 1) (l : Fin 1024) : (win0_4.blk t).view.emb (ix2 z l) = ix2 z l := by
  have ht := N_lt t
  blk_ext [place4]
theorem emb5 (t : Fin cfg0.N) (r : Fin 512) (l : Fin 1024) : (win0_5.blk t).view.emb (ix2 r l) = ix2 (⟨512 * t.val + r.val, by have := N_lt t; omega⟩ : Fin 4096) l := by
  have ht := N_lt t
  blk_ext [place5]
theorem emb6 (t : Fin cfg0.N) (r : Fin 512) (l : Fin 1024) : (win0_6.blk t).view.emb (ix2 r l) = ix2 (⟨512 * t.val + r.val, by have := N_lt t; omega⟩ : Fin 4096) l := by
  have ht := N_lt t
  blk_ext [place6]
theorem emb7 (t : Fin cfg0.N) (z : Fin 1) (l : Fin 1024) : (win0_7.blk t).view.emb (ix2 z l) = ix2 z l := by
  have ht := N_lt t
  blk_ext [place7]

variable (m : (ℓ : Loc nD τ sig) → Buf (Elt Ideal) ℓ) (c : Dev nD)

/-- An element of a product, from the rows of its factors. -/
def entry (a0 u0 a1 u1 : Fin 2816 → EReal) : EReal := ∑ k : Fin 2816, a0 k * u0 k + ∑ k : Fin 2816, a1 k * u1 k

/-- The gradient of the scaled rows, element by element. -/
def dn (x0 x1 : FVec Ideal S4096x2816 .bf16) (x2 : FVec Ideal S1024x5632 .bf16) (r : Fin 4096) (l : Fin 1024) : EReal :=
  entry (fun k => x0 (ix2 r k)) (fun k => x2 (ix2 l (⟨k.val, by omega⟩ : Fin 5632))) (fun k => x1 (ix2 r k)) (fun k => x2 (ix2 l (⟨2816 + k.val, by omega⟩ : Fin 5632)))

/-- The gradient carried back through the normalisation and added to what it is added to, element by element. -/
def prod (x0 x1 : FVec Ideal S4096x2816 .bf16) (x2 : FVec Ideal S1024x5632 .bf16) (x3 : FVec Ideal S4096x1024 .f32) (x4 : FVec Ideal S1x1024 .f32) (x5 : FVec Ideal S4096x1024 .f32) : FVec Ideal S4096x1024 .f32 :=
  fun i => Cert.Norm.back (fun j => x3 (ix2 (i 0) j)) (dn x0 x1 x2 (i 0)) (fun j => x4 (ix2 0 j)) (x5 i) (i 1)

/-- The gradient with respect to the scale, element by element. -/
def grad (x0 x1 : FVec Ideal S4096x2816 .bf16) (x2 : FVec Ideal S1024x5632 .bf16) (x3 : FVec Ideal S4096x1024 .f32) (x4 : FVec Ideal S1x1024 .f32) (x5 : FVec Ideal S4096x1024 .f32) : FVec Ideal S1x1024 .f32 :=
  fun i => ∑ r : Fin 4096, Cert.Norm.share (fun j => x3 (ix2 r j)) (dn x0 x1 x2 r) (i 1)

theorem iblk0_apply (t : Fin cfg0.N) (r : Fin 512) (k : Fin 2816) : iblk m c 0 t (ix2 r k) = m ((c : Thread nD τ).loc main_arg0) (ix2 (⟨512 * t.val + r.val, by have := N_lt t; omega⟩ : Fin 4096) k) :=
  congrArg (m ((c : Thread nD τ).loc main_arg0)) (emb0 t r k)
theorem iblk1_apply (t : Fin cfg0.N) (r : Fin 512) (k : Fin 2816) : iblk m c 1 t (ix2 r k) = m ((c : Thread nD τ).loc main_arg1) (ix2 (⟨512 * t.val + r.val, by have := N_lt t; omega⟩ : Fin 4096) k) :=
  congrArg (m ((c : Thread nD τ).loc main_arg1)) (emb1 t r k)
theorem iblk2_apply (t : Fin cfg0.N) (l : Fin 1024) (k : Fin 5632) : iblk m c 2 t (ix2 l k) = m ((c : Thread nD τ).loc main_arg2) (ix2 l k) :=
  congrArg (m ((c : Thread nD τ).loc main_arg2)) (emb2 t l k)
theorem iblk3_apply (t : Fin cfg0.N) (r : Fin 512) (l : Fin 1024) : iblk m c 3 t (ix2 r l) = m ((c : Thread nD τ).loc main_arg3) (ix2 (⟨512 * t.val + r.val, by have := N_lt t; omega⟩ : Fin 4096) l) :=
  congrArg (m ((c : Thread nD τ).loc main_arg3)) (emb3 t r l)
theorem iblk4_apply (t : Fin cfg0.N) (z : Fin 1) (l : Fin 1024) : iblk m c 4 t (ix2 z l) = m ((c : Thread nD τ).loc main_arg4) (ix2 z l) :=
  congrArg (m ((c : Thread nD τ).loc main_arg4)) (emb4 t z l)
theorem iblk5_apply (t : Fin cfg0.N) (r : Fin 512) (l : Fin 1024) : iblk m c 5 t (ix2 r l) = m ((c : Thread nD τ).loc main_arg5) (ix2 (⟨512 * t.val + r.val, by have := N_lt t; omega⟩ : Fin 4096) l) :=
  congrArg (m ((c : Thread nD τ).loc main_arg5)) (emb5 t r l)

/-- One block's product. -/
theorem k0_pay2_apply (a0 : Vec Ideal S512x2816 .bf16) (u0 : Vec Ideal S1024x2816 .bf16) (a1 : Vec Ideal S512x2816 .bf16) (u1 : Vec Ideal S1024x2816 .bf16) (r : Fin 512) (l : Fin 1024) :
    k0_pay2 a0 u0 a1 u1 (ix2 r l) = entry (fun k => a0 (ix2 r k)) (fun k => u0 (ix2 l k)) (fun k => a1 (ix2 r k)) (fun k => u1 (ix2 l k)) := by
  pointwise [k0_pay2]
  rfl
/-- One block's gradient carried back. -/
theorem back_apply (a0 : Vec Ideal S512x2816 .bf16) (u0 : Vec Ideal S1024x2816 .bf16) (a1 : Vec Ideal S512x2816 .bf16) (u1 : Vec Ideal S1024x2816 .bf16) (h : Vec Ideal S512x1024 .f32) (g : Vec Ideal S1x1024 .f32) (x : Vec Ideal S512x1024 .f32) (r : Fin 512) (l : Fin 1024) :
    k0_pay1 (k0_pay3 h) (k0_pay4 h) (k0_pay7 a0 u0 a1 u1 g) x (k0_pay8 a0 u0 a1 u1 h g) (ix2 r l) = Cert.Norm.back (fun j => h (ix2 r j)) (fun j => k0_pay2 a0 u0 a1 u1 (ix2 r j)) (fun j => g (ix2 0 j)) (x (ix2 r l)) l := by
  pointwise [k0_pay1, k0_pay3, k0_pay4, k0_pay7, k0_pay8]
  rfl
/-- One block's sum over its rows for the scale. -/
theorem first_apply (a0 : Vec Ideal S512x2816 .bf16) (u0 : Vec Ideal S1024x2816 .bf16) (a1 : Vec Ideal S512x2816 .bf16) (u1 : Vec Ideal S1024x2816 .bf16) (h : Vec Ideal S512x1024 .f32) (z : Fin 1) (l : Fin 1024) :
    k0_pay5 a0 u0 a1 u1 h (ix2 z l) = ∑ r : Fin 512, Cert.Norm.share (fun j => h (ix2 r j)) (fun j => k0_pay2 a0 u0 a1 u1 (ix2 r j)) l := by
  pointwise [k0_pay5, k0_pay4, k0_pay3]
  rfl
theorem next_apply (a0 : Vec Ideal S512x2816 .bf16) (u0 : Vec Ideal S1024x2816 .bf16) (a1 : Vec Ideal S512x2816 .bf16) (u1 : Vec Ideal S1024x2816 .bf16) (h : Vec Ideal S512x1024 .f32) (y : Vec Ideal S1x1024 .f32) (z : Fin 1) (l : Fin 1024) :
    (k0_pay6 a0 u0 a1 u1 h y (ix2 z l) : EReal) = (y (ix2 z l) : EReal) + ∑ r : Fin 512, Cert.Norm.share (fun j => h (ix2 r j)) (fun j => k0_pay2 a0 u0 a1 u1 (ix2 r j)) l := by
  rw [← first_apply _ _ _ _ _ z l]
  pointwise [k0_pay6]

def slice0 (t : Fin cfg0.N) : Vec Ideal S1024x2816 .bf16 := View.ld (iblk m c 2 t) (Rect.unit (s := S1024x5632) ![0, 0] S1024x2816.size inb_S1024x5632_S1024x2816_0_0)
theorem slice0_apply (t : Fin cfg0.N) (l : Fin 1024) (k : Fin 2816) : slice0 m c t (ix2 l k) = (m ((c : Thread nD τ).loc main_arg2)) (ix2 l (⟨k.val, by omega⟩ : Fin 5632)) :=
  (View.ld_unit_apply_of (iblk m c 2 t) _ _ _ _ (ix2 l (⟨k.val, by omega⟩ : Fin 5632)) (by intro a; fin_cases a <;> simp)).trans (iblk2_apply m c t l _)
def slice1 (t : Fin cfg0.N) : Vec Ideal S1024x2816 .bf16 := View.ld (iblk m c 2 t) (Rect.unit (s := S1024x5632) ![0, 2816] S1024x2816.size inb_S1024x5632_S1024x2816_0_2816)
theorem slice1_apply (t : Fin cfg0.N) (l : Fin 1024) (k : Fin 2816) : slice1 m c t (ix2 l k) = (m ((c : Thread nD τ).loc main_arg2)) (ix2 l (⟨2816 + k.val, by omega⟩ : Fin 5632)) :=
  (View.ld_unit_apply_of (iblk m c 2 t) _ _ _ _ (ix2 l (⟨2816 + k.val, by omega⟩ : Fin 5632)) (by intro a; fin_cases a <;> simp)).trans (iblk2_apply m c t l _)
/-- A block's product. -/
def blk (t : Fin cfg0.N) : Vec Ideal S512x1024 .f32 := k0_pay2 (iblk m c 0 t) (slice0 m c t) (iblk m c 1 t) (slice1 m c t)
theorem blk_apply (t : Fin cfg0.N) (r : Fin 512) (l : Fin 1024) : blk m c t (ix2 r l) = dn (m ((c : Thread nD τ).loc main_arg0)) (m ((c : Thread nD τ).loc main_arg1)) (m ((c : Thread nD τ).loc main_arg2)) ⟨512 * t.val + r.val, by have := N_lt t; omega⟩ l := by
  rw [blk, k0_pay2_apply, dn]
  simp only [slice0_apply, slice1_apply, iblk0_apply, iblk1_apply, iblk2_apply]

/-- The kernel's first result is the gradient carried back. -/
theorem final : (dats m 0 c).arrAt 6 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨r, l, rfl⟩ : ∃ (r : Fin 512) (l : Fin 1024), y = ix2 r l := ⟨y 0, y 1, eq_ix2 y⟩
  have e : (dats m 0 c).after 6 t (ix2 r l) = Cert.Norm.back (fun j => iblk m c 3 t (ix2 r j)) (fun j => blk m c t (ix2 r j)) (fun j => iblk m c 4 t (ix2 0 j)) (iblk m c 5 t (ix2 r l)) l := by
    have ht := N_lt t
    rw [after0_6]
    by_cases h : t.val % 8 = 0
    · rw [outsAt0_A m c t h (by omega)]
      dsimp only
      frame_out
      exact back_apply _ _ _ _ _ _ _ r l
    · rw [outsAt0_B m c t h (by omega)]
      dsimp only
      frame_out
      exact back_apply _ _ _ _ _ _ _ r l
  refine Eq.trans (show _ = (dats m 0 c).after 6 t (ix2 r l) from rfl) (e.trans ?_)
  refine Eq.trans ?_ (congrArg (prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb6 t r l)).symm
  dsimp only [prod]
  simp only [blk_apply, iblk3_apply, iblk4_apply, iblk5_apply]
  rfl

/-- A block's share of the gradient with respect to the scale. -/
def part (t : Fin cfg0.N) : Vec Ideal S1x1024 .f32 :=
  fun i => ∑ r : Fin 512, Cert.Norm.share (fun j => iblk m c 3 t (ix2 r j)) (fun j => blk m c t (ix2 r j)) (i 1)

/-- The scale's gradient written back holds the sum of the blocks' shares. -/
theorem outs_apply (t : Fin cfg0.N) (hf : t.val % 8 = 7) (j : S1x1024.Idx) :
    ((outsAt0 m c t.val t.isLt).2 j : EReal) = 0 + ∑ s : Fin 8, (part m c ⟨8 * (t.val / 8) + s.val, Pipeline.run_point_lt_of_flush t hf s⟩ j : EReal) := by
  refine Pipeline.eq_sum_fin_of_reset_step_apply_of_flush (M := EReal) (fun n h => (outsAt0 m c n h).2) 8 (fun _ => 0) (fun t => part m c t) (fun t h i => ?_) (fun t h i => ?_) t hf j
  · obtain ⟨z, l, rfl⟩ : ∃ (z : Fin 1) (l : Fin 1024), i = ix2 z l := ⟨i 0, i 1, eq_ix2 i⟩
    have ht := N_lt t
    rw [outsAt0_A m c t h (by omega)]
    dsimp only
    frame_out
    rw [zero_add]
    exact first_apply _ _ _ _ _ z l
  · obtain ⟨z, l, rfl⟩ : ∃ (z : Fin 1) (l : Fin 1024), i = ix2 z l := ⟨i 0, i 1, eq_ix2 i⟩
    rw [outsAt0_B m c t h (by omega)]
    dsimp only
    frame_out
    exact next_apply _ _ _ _ _ _ z l

/-- The kernel's second result is the gradient with respect to the scale. -/
theorem final_grad : (dats m 0 c).arrAt 7 cfg0.N = grad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨z, l, rfl⟩ : ∃ (z : Fin 1) (l : Fin 1024), y = ix2 z l := ⟨y 0, y 1, eq_ix2 y⟩
  refine Eq.trans (show _ = (dats m 0 c).after 7 t (ix2 z l) from rfl) ?_
  rw [after0_7]
  refine (outs_apply m c t ((flush0_7 t).mp hf) (ix2 z l)).trans ?_
  rw [zero_add]
  refine Eq.trans ?_ (congrArg (grad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb7 t z l)).symm
  refine Fin.sum_mul_add_congr (S := 8) (n := 512) fun s r hl => ?_
  have ht := N_lt t
  have es : 8 * (t.val / 8) + s.val = s.val := by omega
  dsimp only [ix2_0, ix2_1]
  simp only [blk_apply, iblk3_apply, es, Nat.mul_comm 512 s.val]

end Cert.NormGradIdeal.Product

namespace Cert.NormGradReferenceIdeal.Product

open Cert.NormGradReferenceIdeal Cert.NormGradReferenceIdeal.Read
open Idealize.ShloMosaic Idealize.ShloMosaic.TcCoe

/-- The gradient of the scaled rows, element by element. -/
theorem dn_apply (x0 x1 : FVec Ideal S4096x2816 .bf16) (x2 : FVec Ideal S1024x5632 .bf16) (r : Fin 4096) (l : Fin 1024) : val_main_v19 (F := Ideal) x0 x1 x2 (ix2 r l) = Cert.NormGradIdeal.Product.dn x0 x1 x2 r l := by
  pointwise [val_main_v19, val_main_v18, val_main_v17, val_main_v16, val_main_v15, val_main_v14, val_main_v0]
  rfl

/-- The reference's first result is the gradient carried back. -/
theorem final (x0 x1 : FVec Ideal S4096x2816 .bf16) (x2 : FVec Ideal S1024x5632 .bf16) (x3 : FVec Ideal S4096x1024 .f32) (x4 : FVec Ideal S1x1024 .f32) (x5 : FVec Ideal S4096x1024 .f32) : val_main_v39 (F := Ideal) x0 x1 x2 x3 x4 x5 = Cert.NormGradIdeal.Product.prod x0 x1 x2 x3 x4 x5 := by
  funext i
  obtain ⟨r, l, rfl⟩ : ∃ (r : Fin 4096) (l : Fin 1024), i = ix2 r l := ⟨i 0, i 1, eq_ix2 i⟩
  have e : Cert.NormGradIdeal.Product.prod x0 x1 x2 x3 x4 x5 (ix2 r l) = Cert.Norm.back (fun j => x3 (ix2 r j)) (Cert.NormGradIdeal.Product.dn x0 x1 x2 r) (fun j => x4 (ix2 0 j)) (x5 (ix2 r l)) l := rfl
  rw [e, Cert.Norm.back, Cert.Norm.entry_eq]
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6]
  simp only [dn_apply, zero_add, Finset.univ_unique, Finset.sum_singleton]
  rfl

/-- The reference's second result is the gradient with respect to the scale. -/
theorem final_grad (x0 x1 : FVec Ideal S4096x2816 .bf16) (x2 : FVec Ideal S1024x5632 .bf16) (x3 : FVec Ideal S4096x1024 .f32) (x4 : FVec Ideal S1x1024 .f32) (x5 : FVec Ideal S4096x1024 .f32) : val_main_v22 (F := Ideal) x0 x1 x2 x3 = Cert.NormGradIdeal.Product.grad x0 x1 x2 x3 x4 x5 := by
  funext i
  obtain ⟨z, l, rfl⟩ : ∃ (z : Fin 1) (l : Fin 1024), i = ix2 z l := ⟨i 0, i 1, eq_ix2 i⟩
  pointwise [val_main_v22, val_main_v21, val_main_v20, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6]
  simp only [dn_apply, zero_add]
  exact Finset.sum_congr rfl fun r _ => mul_comm (G := EReal) _ _

end Cert.NormGradReferenceIdeal.Product

namespace Cert.NormGradIdeal.Product

open Idealize.ShloMosaic Idealize.ShloMosaic.TcCoe
open Idealize.SL.Sem

/-- The gradient carried back through the product with the up projection's weights and through the row normalisation, and the gradient with respect to its scale: the blocked results are those gradients. -/
theorem algebraic : Cert.algebraic_NormGradIdeal_NormGradReferenceIdeal := by
  intro m g m' g' _ hm
  refine ⟨fun c => prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), fun c => grad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    (θ_run (defs (F := Ideal)) _ _).mono (fun r h c => ⟨(h.1.out_eq c 6).trans (final m c), (h.1.out_eq c 7).trans (final_grad m c), h.2.1 c⟩) (θ_run_and (Gen.run_main m g) (Gen.frame m g)),
    (θ_run (Cert.NormGradReferenceIdeal.defs (F := Ideal)) _ _).mono (fun r h c => ?_) (Cert.NormGradReferenceIdeal.Value.run (F := Ideal) m' g')⟩
  obtain ⟨e0, e1, ea⟩ := h c
  obtain ⟨m0, m1, m2, m3, m4, m5⟩ := hm c
  rw [Cert.NormGradReferenceIdeal.Read.val_main_v39_eq] at e0
  simp only [m0, m1, m2, m3, m4, m5] at e0
  rw [Cert.NormGradReferenceIdeal.Product.final] at e0
  rw [Cert.NormGradReferenceIdeal.Read.val_main_v22_eq] at e1
  simp only [m0, m1, m2, m3, m4, m5] at e1
  rw [Cert.NormGradReferenceIdeal.Product.final_grad _ _ _ _ (m ((c.tc : Thread nD τ).loc main_arg4)) (m ((c.tc : Thread nD τ).loc main_arg5))] at e1
  exact ⟨e0, e1, ea⟩

end Cert.NormGradIdeal.Product

end
-- ==== Proof.OutGrad.lean ====
/- The gradient with respect to the input of the mixer's output projection: the blocked product is the product. -/
module

public import proofs.«01_k».proof.Defs
public import proofs.«01_k».proof.Proof.Gen.OutGradIdeal
public import proofs.«01_k».proof.Proof.Gen.OutGradReferenceIdeal
public import proofs.«01_k».proof.Proof.Gen.OutGradIdeal.Frame
public import proofs.«01_k».proof.Proof.Gen.OutGradReferenceIdeal.Run
public import proofs.«01_k».proof.Proof.Gen.OutGradReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.OutGradIdeal.Product

open Cert.OutGradIdeal Cert.OutGradIdeal.Gen
open Idealize.ShloMosaic Idealize.ShloMosaic.TcCoe
open Idealize.SL.Sem

theorem N_lt (t : Fin cfg0.N) : t.val < 4 := lt_of_lt_of_eq t.isLt (show cfg0.N = 4 from N_0)
theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![t.val, 0] := (by decide +kernel : ∀ t : Fin grid0.N, _)
theorem emb0 (t : Fin cfg0.N) (r : Fin 1024) (k : Fin 1024) : (win0_0.blk t).view.emb (ix2 r k) = ix2 (⟨1024 * t.val + r.val, by have := N_lt t; omega⟩ : Fin 4096) k := by
  have ht := N_lt t
  blk_ext [place0]
theorem emb1 (t : Fin cfg0.N) (l : Fin 1024) (k : Fin 1024) : (win0_1.blk t).view.emb (ix2 l k) = ix2 l k := by
  have ht := N_lt t
  blk_ext [place1]
theorem emb2 (t : Fin cfg0.N) (r : Fin 1024) (l : Fin 1024) : (win0_2.blk t).view.emb (ix2 r l) = ix2 (⟨1024 * t.val + r.val, by have := N_lt t; omega⟩ : Fin 4096) l := by
  have ht := N_lt t
  blk_ext [place2]

variable (m : (ℓ : Loc nD τ sig) → Buf (Elt Ideal) ℓ) (c : Dev nD)

/-- The product, element by element. -/
def prod (x0 : FVec Ideal S4096x1024 .f32) (x1 : FVec Ideal S1024x1024 .bf16) : FVec Ideal S4096x1024 .f32 :=
  fun i => ∑ k : Fin 1024, (x0 (ix2 (i 0) k) : EReal) * x1 (ix2 (i 1) k)

theorem iblk0_apply (t : Fin cfg0.N) (r : Fin 1024) (k : Fin 1024) : iblk m c 0 t (ix2 r k) = m ((c : Thread nD τ).loc main_arg0) (ix2 (⟨1024 * t.val + r.val, by have := N_lt t; omega⟩ : Fin 4096) k) :=
  (congrArg (V m c main_arg0) (emb0 t r k)).trans (congrFun (V_main_arg0 m c) _)
theorem iblk1_apply (t : Fin cfg0.N) (l : Fin 1024) (k : Fin 1024) : iblk m c 1 t (ix2 l k) = m ((c : Thread nD τ).loc main_arg1) (ix2 l k) :=
  (congrArg (V m c main_arg1) (emb1 t l k)).trans (congrFun (V_main_arg1 m c) _)

/-- One block's product. -/
theorem pay_apply (x : Vec Ideal S1024x1024 .f32) (w : Vec Ideal S1024x1024 .bf16) (r : Fin 1024) (l : Fin 1024) :
    k0_pay1 x w (ix2 r l) = ∑ k : Fin 1024, (x (ix2 r k) : EReal) * w (ix2 l k) := by
  pointwise [k0_pay1]

/-- The kernel's result is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 1024), y = ix2 r l := ⟨y 0, y 1, eq_ix2 y⟩
  have e : (dats m 0 c).after 2 t (ix2 r l) = k0_pay1 (F := Ideal) (iblk m c 0 t) (iblk m c 1 t) (ix2 r l) := by
    rw [after0_2]; frame_out
  refine Eq.trans (show _ = (dats m 0 c).after 2 t (ix2 r l) from rfl) (e.trans ((pay_apply _ _ r l).trans ?_))
  refine Eq.trans ?_ (congrArg (prod (m ((c : Thread nD τ).loc main_arg0)) (m ((c : Thread nD τ).loc main_arg1))) (emb2 t r l)).symm
  refine Finset.sum_congr rfl fun k _ => ?_
  rw [iblk0_apply, iblk1_apply]
  rfl

end Cert.OutGradIdeal.Product

namespace Cert.OutGradReferenceIdeal.Product

open Cert.OutGradReferenceIdeal Cert.OutGradReferenceIdeal.Read
open Idealize.ShloMosaic Idealize.ShloMosaic.TcCoe

/-- The reference's result is the product. -/
theorem final (x0 : FVec Ideal S4096x1024 .f32) (x1 : FVec Ideal S1024x1024 .bf16) : val_main_v3 (F := Ideal) x0 x1 = Cert.OutGradIdeal.Product.prod x0 x1 := by
  funext i
  obtain ⟨r, l, rfl⟩ : ∃ (r : Fin 4096) (l : Fin 1024), i = ix2 r l := ⟨i 0, i 1, eq_ix2 i⟩
  pointwise [val_main_v3, val_main_v1]
  rfl

end Cert.OutGradReferenceIdeal.Product

namespace Cert.OutGradIdeal.Product

open Idealize.ShloMosaic Idealize.ShloMosaic.TcCoe
open Idealize.SL.Sem

/-- The blocked gradient with respect to the output projection's input is that gradient. -/
theorem algebraic : Cert.algebraic_OutGradIdeal_OutGradReferenceIdeal := by
  intro m g m' g' _ hm
  refine ⟨fun c => prod (m ((c.tc : Thread nD τ).loc main_arg0)) (m ((c.tc : Thread nD τ).loc main_arg1)),
    (θ_run (defs (F := Ideal)) _ _).mono (fun r h c => ⟨(h.1.out_eq c 2).trans (final m c), h.2.1 c⟩) (θ_run_and (Gen.run_main m g) (Gen.frame m g)),
    (θ_run (Cert.OutGradReferenceIdeal.defs (F := Ideal)) _ _).mono (fun r h c => ?_) (Cert.OutGradReferenceIdeal.Value.run (F := Ideal) m' g')⟩
  obtain ⟨e0, ea⟩ := h c
  obtain ⟨m0, m1⟩ := hm c
  rw [Cert.OutGradReferenceIdeal.Read.val_main_v3_eq, m0, m1, Cert.OutGradReferenceIdeal.Product.final] at e0
  exact ⟨e0, ea⟩

end Cert.OutGradIdeal.Product

end
-- ==== Proof.OutWeightGrad.lean ====
/- The gradient with respect to the output projection's weights: the products summed over the blocks of tokens are the product over the tokens. -/
module

public import proofs.«01_k».proof.Defs
public import proofs.«01_k».proof.Proof.Gen.OutWeightGradIdeal
public import proofs.«01_k».proof.Proof.Gen.OutWeightGradReferenceIdeal
public import proofs.«01_k».proof.Proof.Gen.OutWeightGradIdeal.Frame
public import proofs.«01_k».proof.Proof.Gen.OutWeightGradReferenceIdeal.Run
public import proofs.«01_k».proof.Proof.Gen.OutWeightGradReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.OutWeightGradIdeal.Product

open Cert.OutWeightGradIdeal Cert.OutWeightGradIdeal.Gen
open Idealize.ShloMosaic Idealize.ShloMosaic.TcCoe
open Idealize.SL.Sem

theorem N_lt (t : Fin cfg0.N) : t.val < 8 := lt_of_lt_of_eq t.isLt (show cfg0.N = 8 from N_0)
theorem place0 : ∀ t : Fin cfg0.N, win0_0.index t = ![t.val % 4, 0] := (by decide +kernel : ∀ t : Fin grid0.N, _)
theorem place1 : ∀ t : Fin cfg0.N, win0_1.index t = ![t.val % 4, 0] := (by decide +kernel : ∀ t : Fin grid0.N, _)
theorem place2 : ∀ t : Fin cfg0.N, win0_2.index t = ![t.val % 4, t.val / 4] := (by decide +kernel : ∀ t : Fin grid0.N, _)
theorem place3 : ∀ t : Fin cfg0.N, win0_3.index t = ![0, t.val / 4] := (by decide +kernel : ∀ t : Fin grid0.N, _)
theorem emb0 (t : Fin cfg0.N) (k : Fin 1024) (r : Fin 512) : (win0_0.blk t).view.emb (ix2 k r) = ix2 (⟨1024 * (t.val % 4) + k.val, by have := N_lt t; omega⟩ : Fin 4096) r := by
  have ht := N_lt t
  blk_ext [place0]
theorem emb1 (t : Fin cfg0.N) (k : Fin 1024) (r : Fin 512) : (win0_1.blk t).view.emb (ix2 k r) = ix2 (⟨1024 * (t.val % 4) + k.val, by have := N_lt t; omega⟩ : Fin 4096) r := by
  have ht := N_lt t
  blk_ext [place1]
theorem emb2 (t : Fin cfg0.N) (k : Fin 1024) (l : Fin 512) : (win0_2.blk t).view.emb (ix2 k l) = ix2 (⟨1024 * (t.val % 4) + k.val, by have := N_lt t; omega⟩ : Fin 4096) (⟨512 * (t.val / 4) + l.val, by have := N_lt t; omega⟩ : Fin 1024) := by
  have ht := N_lt t
  blk_ext [place2]
theorem emb3 (t : Fin cfg0.N) (r : Fin 1024) (l : Fin 512) : (win0_3.blk t).view.emb (ix2 r l) = ix2 r (⟨512 * (t.val / 4) + l.val, by have := N_lt t; omega⟩ : Fin 1024) := by
  have ht := N_lt t
  blk_ext [place3]

variable (m : (ℓ : Loc nD τ sig) → Buf (Elt Ideal) ℓ) (c : Dev nD)

/-- The entry of the two halves side by side. -/
def beside (a b : Fin 512 → EReal) (r : Fin 1024) : EReal := if h : r.val < 512 then a ⟨r.val, h⟩ else b ⟨r.val - 512, by omega⟩

/-- The product over the tokens, element by element. -/
def prod (x0 x1 : FVec Ideal S4096x512 .bf16) (x2 : FVec Ideal S4096x1024 .f32) : FVec Ideal S1024x1024 .f32 :=
  fun i => ∑ k : Fin 4096, beside (fun r => x0 (ix2 k r)) (fun r => x1 (ix2 k r)) (i 0) * (x2 (ix2 k (i 1)) : EReal)

theorem iblk0_apply (t : Fin cfg0.N) (k : Fin 1024) (r : Fin 512) : iblk m c 0 t (ix2 k r) = m ((c : Thread nD τ).loc main_arg0) (ix2 (⟨1024 * (t.val % 4) + k.val, by have := N_lt t; omega⟩ : Fin 4096) r) :=
  congrArg (m ((c : Thread nD τ).loc main_arg0)) (emb0 t k r)
theorem iblk1_apply (t : Fin cfg0.N) (k : Fin 1024) (r : Fin 512) : iblk m c 1 t (ix2 k r) = m ((c : Thread nD τ).loc main_arg1) (ix2 (⟨1024 * (t.val % 4) + k.val, by have := N_lt t; omega⟩ : Fin 4096) r) :=
  congrArg (m ((c : Thread nD τ).loc main_arg1)) (emb1 t k r)
theorem iblk2_apply (t : Fin cfg0.N) (k : Fin 1024) (l : Fin 512) : iblk m c 2 t (ix2 k l) = m ((c : Thread nD τ).loc main_arg2) (ix2 (⟨1024 * (t.val % 4) + k.val, by have := N_lt t; omega⟩ : Fin 4096) (⟨512 * (t.val / 4) + l.val, by have := N_lt t; omega⟩ : Fin 1024)) :=
  congrArg (m ((c : Thread nD τ).loc main_arg2)) (emb2 t k l)

/-- One block of tokens' product. -/
def part (x0 x1 : Vec Ideal S1024x512 .bf16) (y : Vec Ideal S1024x512 .f32) : Vec Ideal S1024x512 .f32 :=
  fun j => ∑ k : Fin 1024, beside (fun r => x0 (ix2 k r)) (fun r => x1 (ix2 k r)) (j 0) * (y (ix2 k (j 1)) : EReal)

theorem pay1_apply (x0 x1 : Vec Ideal S1024x512 .bf16) (y : Vec Ideal S1024x512 .f32) (r : Fin 1024) (l : Fin 512) :
    k0_pay1 x0 x1 y (ix2 r l) = part x0 x1 y (ix2 r l) := by
  pointwise [k0_pay1]
  rfl
theorem pay2_apply (x0 x1 : Vec Ideal S1024x512 .bf16) (y : Vec Ideal S1024x512 .f32) (z : Vec Ideal S1024x512 .f32) (r : Fin 1024) (l : Fin 512) :
    (k0_pay2 x0 x1 y z (ix2 r l) : EReal) = (z (ix2 r l) : EReal) + part x0 x1 y (ix2 r l) := by
  rw [← pay1_apply]
  pointwise [k0_pay2]

/-- A block of columns written back holds the sum of its blocks of tokens' products. -/
theorem outs_apply (t : Fin cfg0.N) (hf : t.val % 4 = 3) (j : S1024x512.Idx) :
    (outsAt0 m c t.val t.isLt j : EReal) = 0 + ∑ s : Fin 4, (part (iblk m c 0 ⟨4 * (t.val / 4) + s.val, Pipeline.run_point_lt_of_flush t hf s⟩) (iblk m c 1 ⟨4 * (t.val / 4) + s.val, Pipeline.run_point_lt_of_flush t hf s⟩) (iblk m c 2 ⟨4 * (t.val / 4) + s.val, Pipeline.run_point_lt_of_flush t hf s⟩) j : EReal) := by
  refine Pipeline.eq_sum_fin_of_reset_step_apply_of_flush (M := EReal) (fun n h => outsAt0 m c n h) 4 (fun _ => 0) (fun t => part (iblk m c 0 t) (iblk m c 1 t) (iblk m c 2 t)) (fun t h i => ?_) (fun t h i => ?_) t hf j
  · obtain ⟨r, l, rfl⟩ : ∃ (r : Fin 1024) (l : Fin 512), i = ix2 r l := ⟨i 0, i 1, eq_ix2 i⟩
    rw [outsAt0_A m c t h (by omega)]
    frame_out
    rw [zero_add]
    exact pay1_apply _ _ _ r l
  · obtain ⟨r, l, rfl⟩ : ∃ (r : Fin 1024) (l : Fin 512), i = ix2 r l := ⟨i 0, i 1, eq_ix2 i⟩
    rw [outsAt0_B m c t h (by omega)]
    frame_out
    exact pay2_apply _ _ _ _ r l

/-- The kernel's result is the product over the tokens. -/
theorem final : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 1024) (l : Fin 512), y = ix2 r l := ⟨y 0, y 1, eq_ix2 y⟩
  refine Eq.trans (show _ = (dats m 0 c).after 3 t (ix2 r l) from rfl) ?_
  rw [after0_3]
  refine (outs_apply m c t ((flush0_3 t).mp hf) (ix2 r l)).trans ?_
  rw [zero_add]
  refine Eq.trans ?_ (congrArg (prod (m ((c : Thread nD τ).loc main_arg0)) (m ((c : Thread nD τ).loc main_arg1)) (m ((c : Thread nD τ).loc main_arg2))) (emb3 t r l)).symm
  refine Fin.sum_mul_add_congr (S := 4) (n := 1024) fun s k hl => ?_
  dsimp only [ix2_0, ix2_1]
  simp only [iblk0_apply, iblk1_apply, iblk2_apply]
  have es : (4 * (t.val / 4) + s.val) % 4 = s.val := by omega
  have ed : (4 * (t.val / 4) + s.val) / 4 = t.val / 4 := by omega
  simp only [es, ed, Nat.mul_comm 1024 s.val]

end Cert.OutWeightGradIdeal.Product

namespace Cert.OutWeightGradReferenceIdeal.Product

open Cert.OutWeightGradReferenceIdeal Cert.OutWeightGradReferenceIdeal.Read
open Idealize.ShloMosaic Idealize.ShloMosaic.TcCoe

/-- The reference's result is the product over the tokens. -/
theorem final (x0 x1 : FVec Ideal S4096x512 .bf16) (x2 : FVec Ideal S4096x1024 .f32) : val_main_v5 (F := Ideal) x0 x1 x2 = Cert.OutWeightGradIdeal.Product.prod x0 x1 x2 := by
  funext i
  obtain ⟨r, l, rfl⟩ : ∃ (r : Fin 1024) (l : Fin 1024), i = ix2 r l := ⟨i 0, i 1, eq_ix2 i⟩
  pointwise [val_main_v5, val_main_v4, val_main_v2, val_main_v1]
  exact Finset.sum_congr rfl fun k _ => mul_comm (G := EReal) _ _

end Cert.OutWeightGradReferenceIdeal.Product

namespace Cert.OutWeightGradIdeal.Product

open Idealize.ShloMosaic Idealize.ShloMosaic.TcCoe
open Idealize.SL.Sem

/-- The gradient with respect to the output projection's weights, summed over blocks of tokens, is that gradient. -/
theorem algebraic : Cert.algebraic_OutWeightGradIdeal_OutWeightGradReferenceIdeal := by
  intro m g m' g' _ hm
  refine ⟨fun c => prod (m ((c.tc : Thread nD τ).loc main_arg0)) (m ((c.tc : Thread nD τ).loc main_arg1)) (m ((c.tc : Thread nD τ).loc main_arg2)),
    (θ_run (defs (F := Ideal)) _ _).mono (fun r h c => ⟨(h.1.out_eq c 3).trans (final m c), h.2.1 c⟩) (θ_run_and (Gen.run_main m g) (Gen.frame m g)),
    (θ_run (Cert.OutWeightGradReferenceIdeal.defs (F := Ideal)) _ _).mono (fun r h c => ?_) (Cert.OutWeightGradReferenceIdeal.Value.run (F := Ideal) m' g')⟩
  obtain ⟨e0, ea⟩ := h c
  obtain ⟨m0, m1, m2⟩ := hm c
  rw [Cert.OutWeightGradReferenceIdeal.Read.val_main_v5_eq, m0, m1, m2, Cert.OutWeightGradReferenceIdeal.Product.final] at e0
  exact ⟨e0, ea⟩

end Cert.OutWeightGradIdeal.Product

end
-- ==== Proof.InWeightGrad1.lean ====
/- The gradient with respect to the input projection's weights of the second mixer: the products summed over the blocks of tokens are the product over the tokens. -/
module

public import proofs.«01_k».proof.Defs
public import proofs.«01_k».proof.Proof.Gen.InWeightGrad1Ideal
public import proofs.«01_k».proof.Proof.Gen.InWeightGrad1ReferenceIdeal
public import proofs.«01_k».proof.Proof.Gen.InWeightGrad1Ideal.Frame
public import proofs.«01_k».proof.Proof.Gen.InWeightGrad1ReferenceIdeal.Run
public import proofs.«01_k».proof.Proof.Gen.InWeightGrad1ReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.InWeightGrad1Ideal.Product

open Cert.InWeightGrad1Ideal Cert.InWeightGrad1Ideal.Gen
open Idealize.ShloMosaic Idealize.ShloMosaic.TcCoe
open Idealize.SL.Sem

theorem N_lt (t : Fin cfg0.N) : t.val < 12 := lt_of_lt_of_eq t.isLt (show cfg0.N = 12 from N_0)
theorem place0 : ∀ t : Fin cfg0.N, win0_0.index t = ![t.val % 4, 0] := (by decide +kernel : ∀ t : Fin grid0.N, _)
theorem place1 : ∀ t : Fin cfg0.N, win0_1.index t = ![t.val % 4, t.val / 4] := (by decide +kernel : ∀ t : Fin grid0.N, _)
theorem place2 : ∀ t : Fin cfg0.N, win0_2.index t = ![0, t.val / 4] := (by decide +kernel : ∀ t : Fin grid0.N, _)
theorem emb0 (t : Fin cfg0.N) (k : Fin 1024) (r : Fin 1024) : (win0_0.blk t).view.emb (ix2 k r) = ix2 (⟨1024 * (t.val % 4) + k.val, by have := N_lt t; omega⟩ : Fin 4096) r := by
  have ht := N_lt t
  blk_ext [place0]
theorem emb1 (t : Fin cfg0.N) (k : Fin 1024) (l : Fin 896) : (win0_1.blk t).view.emb (ix2 k l) = ix2 (⟨1024 * (t.val % 4) + k.val, by have := N_lt t; omega⟩ : Fin 4096) (⟨896 * (t.val / 4) + l.val, by have := N_lt t; omega⟩ : Fin 2688) := by
  have ht := N_lt t
  blk_ext [place1]
theorem emb2 (t : Fin cfg0.N) (r : Fin 1024) (l : Fin 896) : (win0_2.blk t).view.emb (ix2 r l) = ix2 r (⟨896 * (t.val / 4) + l.val, by have := N_lt t; omega⟩ : Fin 2688) := by
  have ht := N_lt t
  blk_ext [place2]

variable (m : (ℓ : Loc nD τ sig) → Buf (Elt Ideal) ℓ) (c : Dev nD)

/-- The product over the tokens, element by element. -/
def prod (x0 : FVec Ideal S4096x1024 .bf16) (x1 : FVec Ideal S4096x2688 .bf16) : FVec Ideal S1024x2688 .f32 :=
  fun i => ∑ k : Fin 4096, (x0 (ix2 k (i 0)) : EReal) * x1 (ix2 k (i 1))

theorem iblk0_apply (t : Fin cfg0.N) (k : Fin 1024) (r : Fin 1024) : iblk m c 0 t (ix2 k r) = m ((c : Thread nD τ).loc main_arg0) (ix2 (⟨1024 * (t.val % 4) + k.val, by have := N_lt t; omega⟩ : Fin 4096) r) :=
  congrArg (m ((c : Thread nD τ).loc main_arg0)) (emb0 t k r)
theorem iblk1_apply (t : Fin cfg0.N) (k : Fin 1024) (l : Fin 896) : iblk m c 1 t (ix2 k l) = m ((c : Thread nD τ).loc main_arg1) (ix2 (⟨1024 * (t.val % 4) + k.val, by have := N_lt t; omega⟩ : Fin 4096) (⟨896 * (t.val / 4) + l.val, by have := N_lt t; omega⟩ : Fin 2688)) :=
  congrArg (m ((c : Thread nD τ).loc main_arg1)) (emb1 t k l)

/-- One block of tokens' product. -/
def part (x : Vec Ideal S1024x1024 .bf16) (y : Vec Ideal S1024x896 .bf16) : Vec Ideal S1024x896 .f32 :=
  fun j => ∑ k : Fin 1024, (x (ix2 k (j 0)) : EReal) * y (ix2 k (j 1))

theorem pay1_apply (x : Vec Ideal S1024x1024 .bf16) (y : Vec Ideal S1024x896 .bf16) (r : Fin 1024) (l : Fin 896) :
    k0_pay1 x y (ix2 r l) = part x y (ix2 r l) := by
  pointwise [k0_pay1]
  rfl
theorem pay2_apply (x : Vec Ideal S1024x1024 .bf16) (y : Vec Ideal S1024x896 .bf16) (z : Vec Ideal S1024x896 .f32) (r : Fin 1024) (l : Fin 896) :
    (k0_pay2 x y z (ix2 r l) : EReal) = (z (ix2 r l) : EReal) + part x y (ix2 r l) := by
  rw [← pay1_apply]
  pointwise [k0_pay2]

/-- A block of columns written back holds the sum of its blocks of tokens' products. -/
theorem outs_apply (t : Fin cfg0.N) (hf : t.val % 4 = 3) (j : S1024x896.Idx) :
    (outsAt0 m c t.val t.isLt j : EReal) = 0 + ∑ s : Fin 4, (part (iblk m c 0 ⟨4 * (t.val / 4) + s.val, Pipeline.run_point_lt_of_flush t hf s⟩) (iblk m c 1 ⟨4 * (t.val / 4) + s.val, Pipeline.run_point_lt_of_flush t hf s⟩) j : EReal) := by
  refine Pipeline.eq_sum_fin_of_reset_step_apply_of_flush (M := EReal) (fun n h => outsAt0 m c n h) 4 (fun _ => 0) (fun t => part (iblk m c 0 t) (iblk m c 1 t)) (fun t h i => ?_) (fun t h i => ?_) t hf j
  · obtain ⟨r, l, rfl⟩ : ∃ (r : Fin 1024) (l : Fin 896), i = ix2 r l := ⟨i 0, i 1, eq_ix2 i⟩
    rw [outsAt0_A m c t h (by omega)]
    frame_out
    rw [zero_add]
    exact pay1_apply _ _ r l
  · obtain ⟨r, l, rfl⟩ : ∃ (r : Fin 1024) (l : Fin 896), i = ix2 r l := ⟨i 0, i 1, eq_ix2 i⟩
    rw [outsAt0_B m c t h (by omega)]
    frame_out
    exact pay2_apply _ _ _ r l

/-- The kernel's result is the product over the tokens. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 1024) (l : Fin 896), y = ix2 r l := ⟨y 0, y 1, eq_ix2 y⟩
  refine Eq.trans (show _ = (dats m 0 c).after 2 t (ix2 r l) from rfl) ?_
  rw [after0_2]
  refine (outs_apply m c t ((flush0_2 t).mp hf) (ix2 r l)).trans ?_
  rw [zero_add]
  refine Eq.trans ?_ (congrArg (prod (m ((c : Thread nD τ).loc main_arg0)) (m ((c : Thread nD τ).loc main_arg1))) (emb2 t r l)).symm
  refine Fin.sum_mul_add_congr (S := 4) (n := 1024) fun s k hl => ?_
  dsimp only [ix2_0, ix2_1]
  rw [iblk0_apply, iblk1_apply]
  have es : (4 * (t.val / 4) + s.val) % 4 = s.val := by omega
  have ed : (4 * (t.val / 4) + s.val) / 4 = t.val / 4 := by omega
  simp only [es, ed, Nat.mul_comm 1024 s.val]

end Cert.InWeightGrad1Ideal.Product

namespace Cert.InWeightGrad1ReferenceIdeal.Product

open Cert.InWeightGrad1ReferenceIdeal Cert.InWeightGrad1ReferenceIdeal.Read
open Idealize.ShloMosaic Idealize.ShloMosaic.TcCoe

/-- The reference's result is the product over the tokens. -/
theorem final (x0 : FVec Ideal S4096x1024 .bf16) (x1 : FVec Ideal S4096x2688 .bf16) : val_main_v5 (F := Ideal) x0 x1 = Cert.InWeightGrad1Ideal.Product.prod x0 x1 := by
  funext i
  obtain ⟨r, l, rfl⟩ : ∃ (r : Fin 1024) (l : Fin 2688), i = ix2 r l := ⟨i 0, i 1, eq_ix2 i⟩
  pointwise [val_main_v5, val_main_v4, val_main_v3, val_main_v1]
  exact Finset.sum_congr rfl fun k _ => mul_comm (G := EReal) _ _

end Cert.InWeightGrad1ReferenceIdeal.Product

namespace Cert.InWeightGrad1Ideal.Product

open Idealize.ShloMosaic Idealize.ShloMosaic.TcCoe
open Idealize.SL.Sem

/-- The gradient with respect to the second mixer's input projection's weights, summed over blocks of tokens, is that gradient. -/
theorem algebraic : Cert.algebraic_InWeightGrad1Ideal_InWeightGrad1ReferenceIdeal := by
  intro m g m' g' _ hm
  refine ⟨fun c => prod (m ((c.tc : Thread nD τ).loc main_arg0)) (m ((c.tc : Thread nD τ).loc main_arg1)),
    (θ_run (defs (F := Ideal)) _ _).mono (fun r h c => ⟨(h.1.out_eq c 2).trans (final m c), h.2.1 c⟩) (θ_run_and (Gen.run_main m g) (Gen.frame m g)),
    (θ_run (Cert.InWeightGrad1ReferenceIdeal.defs (F := Ideal)) _ _).mono (fun r h c => ?_) (Cert.InWeightGrad1ReferenceIdeal.Value.run (F := Ideal) m' g')⟩
  obtain ⟨e0, ea⟩ := h c
  obtain ⟨m0, m1⟩ := hm c
  rw [Cert.InWeightGrad1ReferenceIdeal.Read.val_main_v5_eq, m0, m1, Cert.InWeightGrad1ReferenceIdeal.Product.final] at e0
  exact ⟨e0, ea⟩

end Cert.InWeightGrad1Ideal.Product

end
-- ==== Proof.Beside.lean ====
/- Rows laid side by side, and the sum of a product over them as the sum of the products over each. -/
module

public import Idealize.ShloMosaic.Lib.IdealHost

@[expose] public section

noncomputable section

namespace Cert.Beside

/-- Five rows side by side. -/
def five (a0 a1 a2 a3 a4 : Fin 512 → EReal) (k : Fin 2560) : EReal :=
  if h : k.val < 512 then a0 ⟨k.val, h⟩
  else if h : k.val - 512 < 512 then a1 ⟨k.val - 512, h⟩
  else if h : k.val - 512 - 512 < 512 then a2 ⟨k.val - 512 - 512, h⟩
  else if h : k.val - 512 - 512 - 512 < 512 then a3 ⟨k.val - 512 - 512 - 512, h⟩
  else a4 ⟨k.val - 512 - 512 - 512 - 512, by omega⟩

theorem five_0 (a0 a1 a2 a3 a4 : Fin 512 → EReal) (k : Fin 512) : five a0 a1 a2 a3 a4 ⟨k.val, by omega⟩ = a0 k := by
  rw [five, dif_pos (by exact k.isLt)]
theorem five_1 (a0 a1 a2 a3 a4 : Fin 512 → EReal) (k : Fin 512) : five a0 a1 a2 a3 a4 ⟨512 + k.val, by omega⟩ = a1 k := by
  rw [five, dif_neg (by dsimp only; omega), dif_pos (by dsimp only; omega)]
  exact congrArg _ (Fin.ext (by dsimp only; omega))
theorem five_2 (a0 a1 a2 a3 a4 : Fin 512 → EReal) (k : Fin 512) : five a0 a1 a2 a3 a4 ⟨1024 + k.val, by omega⟩ = a2 k := by
  rw [five, dif_neg (by dsimp only; omega), dif_neg (by dsimp only; omega), dif_pos (by dsimp only; omega)]
  exact congrArg _ (Fin.ext (by dsimp only; omega))
theorem five_3 (a0 a1 a2 a3 a4 : Fin 512 → EReal) (k : Fin 512) : five a0 a1 a2 a3 a4 ⟨1536 + k.val, by omega⟩ = a3 k := by
  rw [five, dif_neg (by dsimp only; omega), dif_neg (by dsimp only; omega), dif_neg (by dsimp only; omega), dif_pos (by dsimp only; omega)]
  exact congrArg _ (Fin.ext (by dsimp only; omega))
theorem five_4 (a0 a1 a2 a3 a4 : Fin 512 → EReal) (k : Fin 512) : five a0 a1 a2 a3 a4 ⟨2048 + k.val, by omega⟩ = a4 k := by
  rw [five, dif_neg (by dsimp only; omega), dif_neg (by dsimp only; omega), dif_neg (by dsimp only; omega), dif_neg (by dsimp only; omega)]
  exact congrArg _ (Fin.ext (by dsimp only; omega))

/-- A sum over five rows' width is the sum of the sums over each. -/
theorem split_five (f : Fin 2560 → EReal) :
    ∑ k, f k = ∑ k : Fin 512, f ⟨k.val, by omega⟩ + ∑ k : Fin 512, f ⟨512 + k.val, by omega⟩ + ∑ k : Fin 512, f ⟨1024 + k.val, by omega⟩
      + ∑ k : Fin 512, f ⟨1536 + k.val, by omega⟩ + ∑ k : Fin 512, f ⟨2048 + k.val, by omega⟩ :=
  (Fin.sum_univ_add (a := 2048) (b := 512) f).trans (congrArg₂ (· + ·) ((Fin.sum_univ_add (a := 1536) (b := 512) _).trans
    (congrArg₂ (· + ·) ((Fin.sum_univ_add (a := 1024) (b := 512) _).trans (congrArg₂ (· + ·) (Fin.sum_univ_add (a := 512) (b := 512) _) rfl)) rfl)) rfl)

/-- A product with five rows side by side is the sum of the products with each. -/
theorem sum_five (a0 a1 a2 a3 a4 : Fin 512 → EReal) (w : Fin 2560 → EReal) :
    ∑ k, five a0 a1 a2 a3 a4 k * w k = ∑ k : Fin 512, a0 k * w ⟨k.val, by omega⟩ + ∑ k : Fin 512, a1 k * w ⟨512 + k.val, by omega⟩
      + ∑ k : Fin 512, a2 k * w ⟨1024 + k.val, by omega⟩ + ∑ k : Fin 512, a3 k * w ⟨1536 + k.val, by omega⟩ + ∑ k : Fin 512, a4 k * w ⟨2048 + k.val, by omega⟩ := by
  rw [split_five]
  simp only [five_0, five_1, five_2, five_3, five_4]

end Cert.Beside

end
-- ==== Proof.InWeightGrad0.lean ====
/- The gradient with respect to the input projection's weights of the first mixer: the products summed over the blocks of tokens, one block of columns at a time, are the product over the tokens. -/
module

public import proofs.«01_k».proof.Defs
public import proofs.«01_k».proof.Proof.Gen.InWeightGrad0Ideal
public import proofs.«01_k».proof.Proof.Gen.InWeightGrad0ReferenceIdeal
public import proofs.«01_k».proof.Proof.Gen.InWeightGrad0Ideal.Frame
public import proofs.«01_k».proof.Proof.Gen.InWeightGrad0ReferenceIdeal.Run
public import proofs.«01_k».proof.Proof.Gen.InWeightGrad0ReferenceIdeal.Read
public import proofs.«01_k».proof.Proof.Beside
public import Idealize.ShloMosaic.Lib.Pipeline.ValueKit
public import Idealize.ShloMosaic.Lib.Pointwise
public import Idealize.ShloMosaic.Lib.IdealHost

@[expose] public section

set_option maxRecDepth 16384

noncomputable section

namespace Cert.InWeightGrad0Ideal.Product

open Cert.InWeightGrad0Ideal Cert.InWeightGrad0Ideal.Gen
open Idealize.ShloMosaic Idealize.ShloMosaic.TcCoe
open Idealize.SL.Sem

theorem N_lt (t : Fin cfg0.N) : t.val < 20 := lt_of_lt_of_eq t.isLt (show cfg0.N = 20 from N_0)
theorem place0 : ∀ t : Fin cfg0.N, win0_0.index t = ![t.val % 4, 0] := (by decide +kernel : ∀ t : Fin grid0.N, _)
theorem place1 : ∀ t : Fin cfg0.N, win0_1.index t = ![t.val % 4, 0] := (by decide +kernel : ∀ t : Fin grid0.N, _)
theorem place2 : ∀ t : Fin cfg0.N, win0_2.index t = ![t.val % 4, 0] := (by decide +kernel : ∀ t : Fin grid0.N, _)
theorem place3 : ∀ t : Fin cfg0.N, win0_3.index t = ![t.val % 4, 0] := (by decide +kernel : ∀ t : Fin grid0.N, _)
theorem place4 : ∀ t : Fin cfg0.N, win0_4.index t = ![t.val % 4, 0] := (by decide +kernel : ∀ t : Fin grid0.N, _)
theorem place5 : ∀ t : Fin cfg0.N, win0_5.index t = ![t.val % 4, 0] := (by decide +kernel : ∀ t : Fin grid0.N, _)
theorem place6 : ∀ t : Fin cfg0.N, win0_6.index t = ![0, t.val / 4] := (by decide +kernel : ∀ t : Fin grid0.N, _)
theorem emb0 (t : Fin cfg0.N) (k : Fin 1024) (r : Fin 1024) : (win0_0.blk t).view.emb (ix2 k r) = ix2 (⟨1024 * (t.val % 4) + k.val, by have := N_lt t; omega⟩ : Fin 4096) r := by
  have ht := N_lt t
  blk_ext [place0]
theorem emb1 (t : Fin cfg0.N) (k : Fin 1024) (l : Fin 512) : (win0_1.blk t).view.emb (ix2 k l) = ix2 (⟨1024 * (t.val % 4) + k.val, by have := N_lt t; omega⟩ : Fin 4096) l := by
  have ht := N_lt t
  blk_ext [place1]
theorem emb2 (t : Fin cfg0.N) (k : Fin 1024) (l : Fin 512) : (win0_2.blk t).view.emb (ix2 k l) = ix2 (⟨1024 * (t.val % 4) + k.val, by have := N_lt t; omega⟩ : Fin 4096) l := by
  have ht := N_lt t
  blk_ext [place2]
theorem emb3 (t : Fin cfg0.N) (k : Fin 1024) (l : Fin 512) : (win0_3.blk t).view.emb (ix2 k l) = ix2 (⟨1024 * (t.val % 4) + k.val, by have := N_lt t; omega⟩ : Fin 4096) l := by
  have ht := N_lt t
  blk_ext [place3]
theorem emb4 (t : Fin cfg0.N) (k : Fin 1024) (l : Fin 512) : (win0_4.blk t).view.emb (ix2 k l) = ix2 (⟨1024 * (t.val % 4) + k.val, by have := N_lt t; omega⟩ : Fin 4096) l := by
  have ht := N_lt t
  blk_ext [place4]
theorem emb5 (t : Fin cfg0.N) (k : Fin 1024) (l : Fin 512) : (win0_5.blk t).view.emb (ix2 k l) = ix2 (⟨1024 * (t.val % 4) + k.val, by have := N_lt t; omega⟩ : Fin 4096) l := by
  have ht := N_lt t
  blk_ext [place5]
theorem emb6 (t : Fin cfg0.N) (r : Fin 1024) (l : Fin 512) : (win0_6.blk t).view.emb (ix2 r l) = ix2 r (⟨512 * (t.val / 4) + l.val, by have := N_lt t; omega⟩ : Fin 2560) := by
  have ht := N_lt t
  blk_ext [place6]

variable (m : (ℓ : Loc nD τ sig) → Buf (Elt Ideal) ℓ) (c : Dev nD)

/-- One token's share of an element of the product. -/
def share (x0 : FVec Ideal S4096x1024 .bf16) (x1 x2 x3 x4 x5 : FVec Ideal S4096x512 .bf16) (k : Fin 4096) (r : Fin 1024) (l : Fin 2560) : EReal :=
  (x0 (ix2 k r) : EReal) * Cert.Beside.five (fun l => x1 (ix2 k l)) (fun l => x2 (ix2 k l)) (fun l => x3 (ix2 k l)) (fun l => x4 (ix2 k l)) (fun l => x5 (ix2 k l)) l

/-- The product over the tokens, element by element. -/
def prod (x0 : FVec Ideal S4096x1024 .bf16) (x1 x2 x3 x4 x5 : FVec Ideal S4096x512 .bf16) : FVec Ideal S1024x2560 .f32 :=
  fun i => ∑ k : Fin 4096, share x0 x1 x2 x3 x4 x5 k (i 0) (i 1)

theorem iblk0_apply (t : Fin cfg0.N) (k : Fin 1024) (r : Fin 1024) : iblk m c 0 t (ix2 k r) = m ((c : Thread nD τ).loc main_arg0) (ix2 (⟨1024 * (t.val % 4) + k.val, by have := N_lt t; omega⟩ : Fin 4096) r) :=
  congrArg (m ((c : Thread nD τ).loc main_arg0)) (emb0 t k r)
theorem iblk1_apply (t : Fin cfg0.N) (k : Fin 1024) (l : Fin 512) : iblk m c 1 t (ix2 k l) = m ((c : Thread nD τ).loc main_arg1) (ix2 (⟨1024 * (t.val % 4) + k.val, by have := N_lt t; omega⟩ : Fin 4096) l) :=
  congrArg (m ((c : Thread nD τ).loc main_arg1)) (emb1 t k l)
theorem iblk2_apply (t : Fin cfg0.N) (k : Fin 1024) (l : Fin 512) : iblk m c 2 t (ix2 k l) = m ((c : Thread nD τ).loc main_arg2) (ix2 (⟨1024 * (t.val % 4) + k.val, by have := N_lt t; omega⟩ : Fin 4096) l) :=
  congrArg (m ((c : Thread nD τ).loc main_arg2)) (emb2 t k l)
theorem iblk3_apply (t : Fin cfg0.N) (k : Fin 1024) (l : Fin 512) : iblk m c 3 t (ix2 k l) = m ((c : Thread nD τ).loc main_arg3) (ix2 (⟨1024 * (t.val % 4) + k.val, by have := N_lt t; omega⟩ : Fin 4096) l) :=
  congrArg (m ((c : Thread nD τ).loc main_arg3)) (emb3 t k l)
theorem iblk4_apply (t : Fin cfg0.N) (k : Fin 1024) (l : Fin 512) : iblk m c 4 t (ix2 k l) = m ((c : Thread nD τ).loc main_arg4) (ix2 (⟨1024 * (t.val % 4) + k.val, by have := N_lt t; omega⟩ : Fin 4096) l) :=
  congrArg (m ((c : Thread nD τ).loc main_arg4)) (emb4 t k l)
theorem iblk5_apply (t : Fin cfg0.N) (k : Fin 1024) (l : Fin 512) : iblk m c 5 t (ix2 k l) = m ((c : Thread nD τ).loc main_arg5) (ix2 (⟨1024 * (t.val % 4) + k.val, by have := N_lt t; omega⟩ : Fin 4096) l) :=
  congrArg (m ((c : Thread nD τ).loc main_arg5)) (emb5 t k l)

/-- One block of tokens' product. -/
def part (x : Vec Ideal S1024x1024 .bf16) (y : Vec Ideal S1024x512 .bf16) : Vec Ideal S1024x512 .f32 :=
  fun j => ∑ k : Fin 1024, (x (ix2 k (j 0)) : EReal) * y (ix2 k (j 1))

theorem pay1_apply (x : Vec Ideal S1024x1024 .bf16) (y : Vec Ideal S1024x512 .bf16) (r : Fin 1024) (l : Fin 512) :
    k0_pay1 x y (ix2 r l) = part x y (ix2 r l) := by
  pointwise [k0_pay1]
  rfl
theorem pay2_apply (x : Vec Ideal S1024x1024 .bf16) (y : Vec Ideal S1024x512 .bf16) (z : Vec Ideal S1024x512 .f32) (r : Fin 1024) (l : Fin 512) :
    (k0_pay2 x y z (ix2 r l) : EReal) = (z (ix2 r l) : EReal) + part x y (ix2 r l) := by
  rw [← pay1_apply]
  pointwise [k0_pay2]

/-- The gradient a point's columns are taken from. -/
def pick (t : Fin cfg0.N) : Vec Ideal S1024x512 .bf16 :=
  if t.val < 4 then iblk m c 1 t else if t.val < 8 then iblk m c 2 t else if t.val < 12 then iblk m c 3 t else if t.val < 16 then iblk m c 4 t else iblk m c 5 t

/-- The gradient a point takes is its columns of the gradients side by side. -/
theorem pick_apply (t : Fin cfg0.N) (k : Fin 1024) (l : Fin 512) :
    (pick m c t (ix2 k l) : EReal) = Cert.Beside.five (fun l => m ((c : Thread nD τ).loc main_arg1) (ix2 (⟨1024 * (t.val % 4) + k.val, by have := N_lt t; omega⟩ : Fin 4096) l)) (fun l => m ((c : Thread nD τ).loc main_arg2) (ix2 (⟨1024 * (t.val % 4) + k.val, by have := N_lt t; omega⟩ : Fin 4096) l)) (fun l => m ((c : Thread nD τ).loc main_arg3) (ix2 (⟨1024 * (t.val % 4) + k.val, by have := N_lt t; omega⟩ : Fin 4096) l)) (fun l => m ((c : Thread nD τ).loc main_arg4) (ix2 (⟨1024 * (t.val % 4) + k.val, by have := N_lt t; omega⟩ : Fin 4096) l)) (fun l => m ((c : Thread nD τ).loc main_arg5) (ix2 (⟨1024 * (t.val % 4) + k.val, by have := N_lt t; omega⟩ : Fin 4096) l)) ⟨512 * (t.val / 4) + l.val, by have := N_lt t; omega⟩ := by
  have ht := N_lt t
  by_cases q0 : t.val < 4
  · have hl : (⟨512 * (t.val / 4) + l.val, by omega⟩ : Fin 2560) = ⟨l.val, by omega⟩ := Fin.ext (by dsimp only; omega)
    rw [hl, Cert.Beside.five_0, pick, if_pos q0]
    exact iblk1_apply m c t k l
  by_cases q1 : t.val < 8
  · have hl : (⟨512 * (t.val / 4) + l.val, by omega⟩ : Fin 2560) = ⟨512 + l.val, by omega⟩ := Fin.ext (by dsimp only; omega)
    rw [hl, Cert.Beside.five_1, pick, if_neg q0, if_pos q1]
    exact iblk2_apply m c t k l
  by_cases q2 : t.val < 12
  · have hl : (⟨512 * (t.val / 4) + l.val, by omega⟩ : Fin 2560) = ⟨1024 + l.val, by omega⟩ := Fin.ext (by dsimp only; omega)
    rw [hl, Cert.Beside.five_2, pick, if_neg q0, if_neg q1, if_pos q2]
    exact iblk3_apply m c t k l
  by_cases q3 : t.val < 16
  · have hl : (⟨512 * (t.val / 4) + l.val, by omega⟩ : Fin 2560) = ⟨1536 + l.val, by omega⟩ := Fin.ext (by dsimp only; omega)
    rw [hl, Cert.Beside.five_3, pick, if_neg q0, if_neg q1, if_neg q2, if_pos q3]
    exact iblk4_apply m c t k l
  have hl : (⟨512 * (t.val / 4) + l.val, by omega⟩ : Fin 2560) = ⟨2048 + l.val, by omega⟩ := Fin.ext (by dsimp only; omega)
  rw [hl, Cert.Beside.five_4, pick, if_neg q0, if_neg q1, if_neg q2, if_neg q3]
  exact iblk5_apply m c t k l

/-- A block of columns written back holds the sum of its blocks of tokens' products. -/
theorem outs_apply (t : Fin cfg0.N) (hf : t.val % 4 = 3) (j : S1024x512.Idx) :
    (outsAt0 m c t.val t.isLt j : EReal) = 0 + ∑ s : Fin 4, (part (iblk m c 0 ⟨4 * (t.val / 4) + s.val, Pipeline.run_point_lt_of_flush t hf s⟩) (pick m c ⟨4 * (t.val / 4) + s.val, Pipeline.run_point_lt_of_flush t hf s⟩) j : EReal) := by
  refine Pipeline.eq_sum_fin_of_reset_step_apply_of_flush (M := EReal) (fun n h => outsAt0 m c n h) 4 (fun _ => 0) (fun t => part (iblk m c 0 t) (pick m c t)) (fun t h i => ?_) (fun t h i => ?_) t hf j
  · obtain ⟨r, l, rfl⟩ : ∃ (r : Fin 1024) (l : Fin 512), i = ix2 r l := ⟨i 0, i 1, eq_ix2 i⟩
    have ht := N_lt t
    by_cases q0 : t.val < 4
    · rw [outsAt0_A m c t (by omega) h (by omega) (by omega) (by omega) (by omega) (by omega), pick, if_pos q0]
      frame_out
      rw [zero_add]
      exact pay1_apply _ _ r l
    by_cases q1 : t.val < 8
    · rw [outsAt0_C m c t (by omega) (by omega) (by omega) (by omega) (by omega) h (by omega), pick, if_neg q0, if_pos q1]
      frame_out
      rw [zero_add]
      exact pay1_apply _ _ r l
    by_cases q2 : t.val < 12
    · rw [outsAt0_E m c t (by omega) (by omega) (by omega) (by omega) (by omega) h (by omega), pick, if_neg q0, if_neg q1, if_pos q2]
      frame_out
      rw [zero_add]
      exact pay1_apply _ _ r l
    by_cases q3 : t.val < 16
    · rw [outsAt0_G m c t (by omega) (by omega) (by omega) (by omega) (by omega) h (by omega), pick, if_neg q0, if_neg q1, if_neg q2, if_pos q3]
      frame_out
      rw [zero_add]
      exact pay1_apply _ _ r l
    rw [outsAt0_I m c t (by omega) (by omega) (by omega) (by omega) (by omega) h (by omega), pick, if_neg q0, if_neg q1, if_neg q2, if_neg q3]
    frame_out
    rw [zero_add]
    exact pay1_apply _ _ r l
  · obtain ⟨r, l, rfl⟩ : ∃ (r : Fin 1024) (l : Fin 512), i = ix2 r l := ⟨i 0, i 1, eq_ix2 i⟩
    have ht := N_lt t
    by_cases q0 : t.val < 4
    · rw [outsAt0_B m c t (by omega) h (by omega) (by omega) (by omega) (by omega) (by omega), pick, if_pos q0]
      frame_out
      exact pay2_apply _ _ _ r l
    by_cases q1 : t.val < 8
    · rw [outsAt0_D m c t (by omega) (by omega) (by omega) (by omega) (by omega) h (by omega), pick, if_neg q0, if_pos q1]
      frame_out
      exact pay2_apply _ _ _ r l
    by_cases q2 : t.val < 12
    · rw [outsAt0_F m c t (by omega) (by omega) (by omega) (by omega) (by omega) h (by omega), pick, if_neg q0, if_neg q1, if_pos q2]
      frame_out
      exact pay2_apply _ _ _ r l
    by_cases q3 : t.val < 16
    · rw [outsAt0_H m c t (by omega) (by omega) (by omega) (by omega) (by omega) h (by omega), pick, if_neg q0, if_neg q1, if_neg q2, if_pos q3]
      frame_out
      exact pay2_apply _ _ _ r l
    rw [outsAt0_J m c t (by omega) (by omega) (by omega) (by omega) (by omega) h (by omega), pick, if_neg q0, if_neg q1, if_neg q2, if_neg q3]
    frame_out
    exact pay2_apply _ _ _ r l

/-- The kernel's result is the product over the tokens. -/
theorem final : (dats m 0 c).arrAt 6 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨r, l, rfl⟩ : ∃ (r : Fin 1024) (l : Fin 512), y = ix2 r l := ⟨y 0, y 1, eq_ix2 y⟩
  refine Eq.trans (show _ = (dats m 0 c).after 6 t (ix2 r l) from rfl) ?_
  rw [after0_6]
  refine (outs_apply m c t ((flush0_6 t).mp hf) (ix2 r l)).trans ?_
  rw [zero_add]
  refine Eq.trans ?_ (congrArg (prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb6 t r l)).symm
  refine Fin.sum_mul_add_congr (S := 4) (n := 1024) fun s k hl => ?_
  dsimp only [ix2_0, ix2_1]
  rw [iblk0_apply, pick_apply, share]
  have es : (4 * (t.val / 4) + s.val) % 4 = s.val := by omega
  have ed : (4 * (t.val / 4) + s.val) / 4 = t.val / 4 := by omega
  simp only [es, ed, Nat.mul_comm 1024 s.val]

end Cert.InWeightGrad0Ideal.Product

namespace Cert.InWeightGrad0ReferenceIdeal.Product

open Cert.InWeightGrad0ReferenceIdeal Cert.InWeightGrad0ReferenceIdeal.Read
open Idealize.ShloMosaic Idealize.ShloMosaic.TcCoe

/-- The reference's result is the product over the tokens. -/
theorem final (x0 : FVec Ideal S4096x1024 .bf16) (x1 x2 x3 x4 x5 : FVec Ideal S4096x512 .bf16) : val_main_v6 (F := Ideal) x0 x1 x2 x3 x4 x5 = Cert.InWeightGrad0Ideal.Product.prod x0 x1 x2 x3 x4 x5 := by
  funext i
  obtain ⟨r, l, rfl⟩ : ∃ (r : Fin 1024) (l : Fin 2560), i = ix2 r l := ⟨i 0, i 1, eq_ix2 i⟩
  pointwise [val_main_v6, val_main_v5, val_main_v3, val_main_v2, val_main_v1]
  exact Finset.sum_congr rfl fun k _ => mul_comm (G := EReal) _ _

end Cert.InWeightGrad0ReferenceIdeal.Product

namespace Cert.InWeightGrad0Ideal.Product

open Idealize.ShloMosaic Idealize.ShloMosaic.TcCoe
open Idealize.SL.Sem

/-- The gradient with respect to the first mixer's input projection's weights, summed over blocks of tokens, is that gradient. -/
theorem algebraic : Cert.algebraic_InWeightGrad0Ideal_InWeightGrad0ReferenceIdeal := by
  intro m g m' g' _ hm
  refine ⟨fun c => prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    (θ_run (defs (F := Ideal)) _ _).mono (fun r h c => ⟨(h.1.out_eq c 6).trans (final m c), h.2.1 c⟩) (θ_run_and (Gen.run_main m g) (Gen.frame m g)),
    (θ_run (Cert.InWeightGrad0ReferenceIdeal.defs (F := Ideal)) _ _).mono (fun r h c => ?_) (Cert.InWeightGrad0ReferenceIdeal.Value.run (F := Ideal) m' g')⟩
  obtain ⟨e0, ea⟩ := h c
  obtain ⟨m0, m1, m2, m3, m4, m5⟩ := hm c
  rw [Cert.InWeightGrad0ReferenceIdeal.Read.val_main_v6_eq, m0, m1, m2, m3, m4, m5, Cert.InWeightGrad0ReferenceIdeal.Product.final] at e0
  exact ⟨e0, ea⟩

end Cert.InWeightGrad0Ideal.Product

end
-- ==== Proof.InNormGrad1.lean ====
/- The gradient carried back through the product with the second mixer's input projection's weights and through the row normalisation, and the gradient with respect to its scale: the blocked results are those gradients. -/
module

public import proofs.«01_k».proof.Defs
public import proofs.«01_k».proof.Proof.Gen.InNormGrad1Ideal
public import proofs.«01_k».proof.Proof.Gen.InNormGrad1ReferenceIdeal
public import proofs.«01_k».proof.Proof.Gen.InNormGrad1Ideal.Frame
public import proofs.«01_k».proof.Proof.Gen.InNormGrad1ReferenceIdeal.Run
public import proofs.«01_k».proof.Proof.Gen.InNormGrad1ReferenceIdeal.Read
public import proofs.«01_k».proof.Proof.Norm
public import Idealize.ShloMosaic.Lib.Pipeline.ValueKit
public import Idealize.ShloMosaic.Lib.Pointwise
public import Idealize.ShloMosaic.Lib.IdealHost

@[expose] public section

set_option maxRecDepth 16384

noncomputable section

namespace Cert.InNormGrad1Ideal.Product

open Cert.InNormGrad1Ideal Cert.InNormGrad1Ideal.Gen
open Idealize.ShloMosaic Idealize.ShloMosaic.TcCoe
open Idealize.SL.Sem

theorem N_lt (t : Fin cfg0.N) : t.val < 8 := lt_of_lt_of_eq t.isLt (show cfg0.N = 8 from N_0)
theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![t.val, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![t.val, 0] := (by decide +kernel : ∀ t : Fin grid0.N, _)
theorem place5 : ∀ t : Fin cfg0.N, win0_5.index t = ![t.val, 0] := (by decide +kernel : ∀ t : Fin grid0.N, _)
theorem place6 : ∀ t : Fin cfg0.N, win0_6.index t = ![0, 0] := (by decide +kernel : ∀ t : Fin grid0.N, _)
theorem emb0 (t : Fin cfg0.N) (r : Fin 512) (k : Fin 2688) : (win0_0.blk t).view.emb (ix2 r k) = ix2 (⟨512 * t.val + r.val, by have := N_lt t; omega⟩ : Fin 4096) k := by
  have ht := N_lt t
  blk_ext [place0]
theorem emb1 (t : Fin cfg0.N) (l : Fin 1024) (k : Fin 2688) : (win0_1.blk t).view.emb (ix2 l k) = ix2 l k := by
  have ht := N_lt t
  blk_ext [place1]
theorem emb2 (t : Fin cfg0.N) (r : Fin 512) (l : Fin 1024) : (win0_2.blk t).view.emb (ix2 r l) = ix2 (⟨512 * t.val + r.val, by have := N_lt t; omega⟩ : Fin 4096) l := by
  have ht := N_lt t
  blk_ext [place2]
theorem emb3 (t : Fin cfg0.N) (z : Fin 1) (l : Fin 1024) : (win0_3.blk t).view.emb (ix2 z l) = ix2 z l := by
  have ht := N_lt t
  blk_ext [place3]
theorem emb4 (t : Fin cfg0.N) (r : Fin 512) (l : Fin 1024) : (win0_4.blk t).view.emb (ix2 r l) = ix2 (⟨512 * t.val + r.val, by have := N_lt t; omega⟩ : Fin 4096) l := by
  have ht := N_lt t
  blk_ext [place4]
theorem emb5 (t : Fin cfg0.N) (r : Fin 512) (l : Fin 1024) : (win0_5.blk t).view.emb (ix2 r l) = ix2 (⟨512 * t.val + r.val, by have := N_lt t; omega⟩ : Fin 4096) l := by
  have ht := N_lt t
  blk_ext [place5]
theorem emb6 (t : Fin cfg0.N) (z : Fin 1) (l : Fin 1024) : (win0_6.blk t).view.emb (ix2 z l) = ix2 z l := by
  have ht := N_lt t
  blk_ext [place6]

variable (m : (ℓ : Loc nD τ sig) → Buf (Elt Ideal) ℓ) (c : Dev nD)

/-- An element of a product, from the rows of its factors. -/
def entry (a0 u0 : Fin 2688 → EReal) : EReal := ∑ k : Fin 2688, a0 k * u0 k

/-- The gradient of the scaled rows, element by element. -/
def dn (x0 : FVec Ideal S4096x2688 .bf16) (x1 : FVec Ideal S1024x2688 .bf16) (r : Fin 4096) (l : Fin 1024) : EReal :=
  entry (fun k => x0 (ix2 r k)) (fun k => x1 (ix2 l k))

/-- The gradient carried back through the normalisation and added to what it is added to, element by element. -/
def prod (x0 : FVec Ideal S4096x2688 .bf16) (x1 : FVec Ideal S1024x2688 .bf16) (x2 : FVec Ideal S4096x1024 .f32) (x3 : FVec Ideal S1x1024 .f32) (x4 : FVec Ideal S4096x1024 .f32) : FVec Ideal S4096x1024 .f32 :=
  fun i => Cert.Norm.back (fun j => x2 (ix2 (i 0) j)) (dn x0 x1 (i 0)) (fun j => x3 (ix2 0 j)) (x4 i) (i 1)

/-- The gradient with respect to the scale, element by element. -/
def grad (x0 : FVec Ideal S4096x2688 .bf16) (x1 : FVec Ideal S1024x2688 .bf16) (x2 : FVec Ideal S4096x1024 .f32) (x3 : FVec Ideal S1x1024 .f32) (x4 : FVec Ideal S4096x1024 .f32) : FVec Ideal S1x1024 .f32 :=
  fun i => ∑ r : Fin 4096, Cert.Norm.share (fun j => x2 (ix2 r j)) (dn x0 x1 r) (i 1)

theorem iblk0_apply (t : Fin cfg0.N) (r : Fin 512) (k : Fin 2688) : iblk m c 0 t (ix2 r k) = m ((c : Thread nD τ).loc main_arg0) (ix2 (⟨512 * t.val + r.val, by have := N_lt t; omega⟩ : Fin 4096) k) :=
  congrArg (m ((c : Thread nD τ).loc main_arg0)) (emb0 t r k)
theorem iblk1_apply (t : Fin cfg0.N) (l : Fin 1024) (k : Fin 2688) : iblk m c 1 t (ix2 l k) = m ((c : Thread nD τ).loc main_arg1) (ix2 l k) :=
  congrArg (m ((c : Thread nD τ).loc main_arg1)) (emb1 t l k)
theorem iblk2_apply (t : Fin cfg0.N) (r : Fin 512) (l : Fin 1024) : iblk m c 2 t (ix2 r l) = m ((c : Thread nD τ).loc main_arg2) (ix2 (⟨512 * t.val + r.val, by have := N_lt t; omega⟩ : Fin 4096) l) :=
  congrArg (m ((c : Thread nD τ).loc main_arg2)) (emb2 t r l)
theorem iblk3_apply (t : Fin cfg0.N) (z : Fin 1) (l : Fin 1024) : iblk m c 3 t (ix2 z l) = m ((c : Thread nD τ).loc main_arg3) (ix2 z l) :=
  congrArg (m ((c : Thread nD τ).loc main_arg3)) (emb3 t z l)
theorem iblk4_apply (t : Fin cfg0.N) (r : Fin 512) (l : Fin 1024) : iblk m c 4 t (ix2 r l) = m ((c : Thread nD τ).loc main_arg4) (ix2 (⟨512 * t.val + r.val, by have := N_lt t; omega⟩ : Fin 4096) l) :=
  congrArg (m ((c : Thread nD τ).loc main_arg4)) (emb4 t r l)

/-- One block's product. -/
theorem k0_pay2_apply (a0 : Vec Ideal S512x2688 .bf16) (u0 : Vec Ideal S1024x2688 .bf16) (r : Fin 512) (l : Fin 1024) :
    k0_pay2 a0 u0 (ix2 r l) = entry (fun k => a0 (ix2 r k)) (fun k => u0 (ix2 l k)) := by
  pointwise [k0_pay2]
  rfl
/-- One block's gradient carried back. -/
theorem back_apply (a0 : Vec Ideal S512x2688 .bf16) (u0 : Vec Ideal S1024x2688 .bf16) (h : Vec Ideal S512x1024 .f32) (g : Vec Ideal S1x1024 .f32) (x : Vec Ideal S512x1024 .f32) (r : Fin 512) (l : Fin 1024) :
    k0_pay1 (k0_pay3 h) x (k0_pay7 a0 u0 h g) (ix2 r l) = Cert.Norm.back (fun j => h (ix2 r j)) (fun j => k0_pay2 a0 u0 (ix2 r j)) (fun j => g (ix2 0 j)) (x (ix2 r l)) l := by
  pointwise [k0_pay1, k0_pay3, k0_pay4, k0_pay7]
  rfl
/-- One block's sum over its rows for the scale. -/
theorem first_apply (a0 : Vec Ideal S512x2688 .bf16) (u0 : Vec Ideal S1024x2688 .bf16) (h : Vec Ideal S512x1024 .f32) (z : Fin 1) (l : Fin 1024) :
    k0_pay5 a0 u0 h (ix2 z l) = ∑ r : Fin 512, Cert.Norm.share (fun j => h (ix2 r j)) (fun j => k0_pay2 a0 u0 (ix2 r j)) l := by
  pointwise [k0_pay5, k0_pay4, k0_pay3]
  rfl
theorem next_apply (a0 : Vec Ideal S512x2688 .bf16) (u0 : Vec Ideal S1024x2688 .bf16) (h : Vec Ideal S512x1024 .f32) (y : Vec Ideal S1x1024 .f32) (z : Fin 1) (l : Fin 1024) :
    (k0_pay6 a0 u0 h y (ix2 z l) : EReal) = (y (ix2 z l) : EReal) + ∑ r : Fin 512, Cert.Norm.share (fun j => h (ix2 r j)) (fun j => k0_pay2 a0 u0 (ix2 r j)) l := by
  rw [← first_apply _ _ _ z l]
  pointwise [k0_pay6]

/-- A block's product. -/
def blk (t : Fin cfg0.N) : Vec Ideal S512x1024 .f32 := k0_pay2 (iblk m c 0 t) (iblk m c 1 t)
theorem blk_apply (t : Fin cfg0.N) (r : Fin 512) (l : Fin 1024) : blk m c t (ix2 r l) = dn (m ((c : Thread nD τ).loc main_arg0)) (m ((c : Thread nD τ).loc main_arg1)) ⟨512 * t.val + r.val, by have := N_lt t; omega⟩ l := by
  rw [blk, k0_pay2_apply, dn]
  simp only [iblk0_apply, iblk1_apply]

/-- The kernel's first result is the gradient carried back. -/
theorem final : (dats m 0 c).arrAt 5 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, l, rfl⟩ : ∃ (r : Fin 512) (l : Fin 1024), y = ix2 r l := ⟨y 0, y 1, eq_ix2 y⟩
  have e : (dats m 0 c).after 5 t (ix2 r l) = Cert.Norm.back (fun j => iblk m c 2 t (ix2 r j)) (fun j => blk m c t (ix2 r j)) (fun j => iblk m c 3 t (ix2 0 j)) (iblk m c 4 t (ix2 r l)) l := by
    have ht := N_lt t
    rw [after0_5]
    by_cases h : t.val % 8 = 0
    · rw [outsAt0_A m c t h (by omega)]
      dsimp only
      frame_out
      exact back_apply _ _ _ _ _ r l
    · rw [outsAt0_B m c t h (by omega)]
      dsimp only
      frame_out
      exact back_apply _ _ _ _ _ r l
  refine Eq.trans (show _ = (dats m 0 c).after 5 t (ix2 r l) from rfl) (e.trans ?_)
  refine Eq.trans ?_ (congrArg (prod (m ((c : Thread nD τ).loc main_arg0)) (m ((c : Thread nD τ).loc main_arg1)) (m ((c : Thread nD τ).loc main_arg2)) (m ((c : Thread nD τ).loc main_arg3)) (m ((c : Thread nD τ).loc main_arg4))) (emb5 t r l)).symm
  dsimp only [prod]
  simp only [blk_apply, iblk2_apply, iblk3_apply, iblk4_apply]
  rfl

/-- A block's share of the gradient with respect to the scale. -/
def part (t : Fin cfg0.N) : Vec Ideal S1x1024 .f32 :=
  fun i => ∑ r : Fin 512, Cert.Norm.share (fun j => iblk m c 2 t (ix2 r j)) (fun j => blk m c t (ix2 r j)) (i 1)

/-- The scale's gradient written back holds the sum of the blocks' shares. -/
theorem outs_apply (t : Fin cfg0.N) (hf : t.val % 8 = 7) (j : S1x1024.Idx) :
    ((outsAt0 m c t.val t.isLt).2 j : EReal) = 0 + ∑ s : Fin 8, (part m c ⟨8 * (t.val / 8) + s.val, Pipeline.run_point_lt_of_flush t hf s⟩ j : EReal) := by
  refine Pipeline.eq_sum_fin_of_reset_step_apply_of_flush (M := EReal) (fun n h => (outsAt0 m c n h).2) 8 (fun _ => 0) (fun t => part m c t) (fun t h i => ?_) (fun t h i => ?_) t hf j
  · obtain ⟨z, l, rfl⟩ : ∃ (z : Fin 1) (l : Fin 1024), i = ix2 z l := ⟨i 0, i 1, eq_ix2 i⟩
    have ht := N_lt t
    rw [outsAt0_A m c t h (by omega)]
    dsimp only
    frame_out
    rw [zero_add]
    exact first_apply _ _ _ z l
  · obtain ⟨z, l, rfl⟩ : ∃ (z : Fin 1) (l : Fin 1024), i = ix2 z l := ⟨i 0, i 1, eq_ix2 i⟩
    rw [outsAt0_B m c t h (by omega)]
    dsimp only
    frame_out
    exact next_apply _ _ _ _ z l

/-- The kernel's second result is the gradient with respect to the scale. -/
theorem final_grad : (dats m 0 c).arrAt 6 cfg0.N = grad (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨z, l, rfl⟩ : ∃ (z : Fin 1) (l : Fin 1024), y = ix2 z l := ⟨y 0, y 1, eq_ix2 y⟩
  refine Eq.trans (show _ = (dats m 0 c).after 6 t (ix2 z l) from rfl) ?_
  rw [after0_6]
  refine (outs_apply m c t ((flush0_6 t).mp hf) (ix2 z l)).trans ?_
  rw [zero_add]
  refine Eq.trans ?_ (congrArg (grad (m ((c : Thread nD τ).loc main_arg0)) (m ((c : Thread nD τ).loc main_arg1)) (m ((c : Thread nD τ).loc main_arg2)) (m ((c : Thread nD τ).loc main_arg3)) (m ((c : Thread nD τ).loc main_arg4))) (emb6 t z l)).symm
  refine Fin.sum_mul_add_congr (S := 8) (n := 512) fun s r hl => ?_
  have ht := N_lt t
  have es : 8 * (t.val / 8) + s.val = s.val := by omega
  dsimp only [ix2_0, ix2_1]
  simp only [blk_apply, iblk2_apply, es, Nat.mul_comm 512 s.val]

end Cert.InNormGrad1Ideal.Product

namespace Cert.InNormGrad1ReferenceIdeal.Product

open Cert.InNormGrad1ReferenceIdeal Cert.InNormGrad1ReferenceIdeal.Read
open Idealize.ShloMosaic Idealize.ShloMosaic.TcCoe

/-- The gradient of the scaled rows, element by element. -/
theorem dn_apply (x0 : FVec Ideal S4096x2688 .bf16) (x1 : FVec Ideal S1024x2688 .bf16) (r : Fin 4096) (l : Fin 1024) : val_main_v18 (F := Ideal) x0 x1 (ix2 r l) = Cert.InNormGrad1Ideal.Product.dn x0 x1 r l := by
  pointwise [val_main_v18, val_main_v17, val_main_v16, val_main_v15, val_main_v14]
  rfl

/-- The reference's first result is the gradient carried back. -/
theorem final (x0 : FVec Ideal S4096x2688 .bf16) (x1 : FVec Ideal S1024x2688 .bf16) (x2 : FVec Ideal S4096x1024 .f32) (x3 : FVec Ideal S1x1024 .f32) (x4 : FVec Ideal S4096x1024 .f32) : val_main_v38 (F := Ideal) x0 x1 x2 x3 x4 = Cert.InNormGrad1Ideal.Product.prod x0 x1 x2 x3 x4 := by
  funext i
  obtain ⟨r, l, rfl⟩ : ∃ (r : Fin 4096) (l : Fin 1024), i = ix2 r l := ⟨i 0, i 1, eq_ix2 i⟩
  have e : Cert.InNormGrad1Ideal.Product.prod x0 x1 x2 x3 x4 (ix2 r l) = Cert.Norm.back (fun j => x2 (ix2 r j)) (Cert.InNormGrad1Ideal.Product.dn x0 x1 r) (fun j => x3 (ix2 0 j)) (x4 (ix2 r l)) l := rfl
  rw [e, Cert.Norm.back, Cert.Norm.entry_eq]
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6]
  simp only [dn_apply, zero_add, Finset.univ_unique, Finset.sum_singleton]
  rfl

/-- The reference's second result is the gradient with respect to the scale. -/
theorem final_grad (x0 : FVec Ideal S4096x2688 .bf16) (x1 : FVec Ideal S1024x2688 .bf16) (x2 : FVec Ideal S4096x1024 .f32) (x3 : FVec Ideal S1x1024 .f32) (x4 : FVec Ideal S4096x1024 .f32) : val_main_v21 (F := Ideal) x0 x1 x2 = Cert.InNormGrad1Ideal.Product.grad x0 x1 x2 x3 x4 := by
  funext i
  obtain ⟨z, l, rfl⟩ : ∃ (z : Fin 1) (l : Fin 1024), i = ix2 z l := ⟨i 0, i 1, eq_ix2 i⟩
  pointwise [val_main_v21, val_main_v20, val_main_v19, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6]
  simp only [dn_apply, zero_add]
  exact Finset.sum_congr rfl fun r _ => mul_comm (G := EReal) _ _

end Cert.InNormGrad1ReferenceIdeal.Product

namespace Cert.InNormGrad1Ideal.Product

open Idealize.ShloMosaic Idealize.ShloMosaic.TcCoe
open Idealize.SL.Sem

/-- The gradient carried back through the product with the second mixer's input projection's weights and through the row normalisation, and the gradient with respect to its scale: the blocked results are those gradients. -/
theorem algebraic : Cert.algebraic_InNormGrad1Ideal_InNormGrad1ReferenceIdeal := by
  intro m g m' g' _ hm
  refine ⟨fun c => prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => grad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run (defs (F := Ideal)) _ _).mono (fun r h c => ⟨(h.1.out_eq c 5).trans (final m c), (h.1.out_eq c 6).trans (final_grad m c), h.2.1 c⟩) (θ_run_and (Gen.run_main m g) (Gen.frame m g)),
    (θ_run (Cert.InNormGrad1ReferenceIdeal.defs (F := Ideal)) _ _).mono (fun r h c => ?_) (Cert.InNormGrad1ReferenceIdeal.Value.run (F := Ideal) m' g')⟩
  obtain ⟨e0, e1, ea⟩ := h c
  obtain ⟨m0, m1, m2, m3, m4⟩ := hm c
  rw [Cert.InNormGrad1ReferenceIdeal.Read.val_main_v38_eq] at e0
  simp only [m0, m1, m2, m3, m4] at e0
  rw [Cert.InNormGrad1ReferenceIdeal.Product.final] at e0
  rw [Cert.InNormGrad1ReferenceIdeal.Read.val_main_v21_eq] at e1
  simp only [m0, m1, m2, m3, m4] at e1
  rw [Cert.InNormGrad1ReferenceIdeal.Product.final_grad _ _ _ (m ((c.tc : Thread nD τ).loc main_arg3)) (m ((c.tc : Thread nD τ).loc main_arg4))] at e1
  exact ⟨e0, e1, ea⟩

end Cert.InNormGrad1Ideal.Product

end
-- ==== Proof.InNormGrad0.lean ====
/- The gradient carried back through the product with the first mixer's input projection's weights and through the row normalisation, and the gradient with respect to its scale: the blocked results are those gradients. -/
module

public import proofs.«01_k».proof.Defs
public import proofs.«01_k».proof.Proof.Gen.InNormGrad0Ideal
public import proofs.«01_k».proof.Proof.Gen.InNormGrad0ReferenceIdeal
public import proofs.«01_k».proof.Proof.Gen.InNormGrad0Ideal.Frame
public import proofs.«01_k».proof.Proof.Gen.InNormGrad0ReferenceIdeal.Run
public import proofs.«01_k».proof.Proof.Gen.InNormGrad0ReferenceIdeal.Read
public import proofs.«01_k».proof.Proof.Norm
public import proofs.«01_k».proof.Proof.Beside
public import Idealize.ShloMosaic.Lib.Pipeline.ValueKit
public import Idealize.ShloMosaic.Lib.Pointwise
public import Idealize.ShloMosaic.Lib.IdealHost

@[expose] public section

set_option maxRecDepth 16384

noncomputable section

namespace Cert.InNormGrad0Ideal.Product

open Cert.InNormGrad0Ideal Cert.InNormGrad0Ideal.Gen
open Idealize.ShloMosaic Idealize.ShloMosaic.TcCoe
open Idealize.SL.Sem

theorem N_lt (t : Fin cfg0.N) : t.val < 8 := lt_of_lt_of_eq t.isLt (show cfg0.N = 8 from N_0)
theorem place0 : ∀ t : Fin cfg0.N, win0_0.index t = ![t.val, 0] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![t.val, 0] := (by decide +kernel : ∀ t : Fin grid0.N, _)
theorem place3 : ∀ t : Fin cfg0.N, win0_3.index t = ![t.val, 0] := (by decide +kernel : ∀ t : Fin grid0.N, _)
theorem place4 : ∀ t : Fin cfg0.N, win0_4.index t = ![t.val, 0] := (by decide +kernel : ∀ t : Fin grid0.N, _)
theorem place5 : ∀ t : Fin cfg0.N, win0_5.index t = ![0, 0] := (by decide +kernel : ∀ t : Fin grid0.N, _)
theorem place6 : ∀ t : Fin cfg0.N, win0_6.index t = ![t.val, 0] := (by decide +kernel : ∀ t : Fin grid0.N, _)
theorem place7 : ∀ t : Fin cfg0.N, win0_7.index t = ![0, 0] := (by decide +kernel : ∀ t : Fin grid0.N, _)
theorem place8 : ∀ t : Fin cfg0.N, win0_8.index t = ![t.val, 0] := (by decide +kernel : ∀ t : Fin grid0.N, _)
theorem place9 : ∀ t : Fin cfg0.N, win0_9.index t = ![t.val, 0] := (by decide +kernel : ∀ t : Fin grid0.N, _)
theorem place10 : ∀ t : Fin cfg0.N, win0_10.index t = ![0, 0] := (by decide +kernel : ∀ t : Fin grid0.N, _)
theorem emb0 (t : Fin cfg0.N) (r : Fin 512) (k : Fin 512) : (win0_0.blk t).view.emb (ix2 r k) = ix2 (⟨512 * t.val + r.val, by have := N_lt t; omega⟩ : Fin 4096) k := by
  have ht := N_lt t
  blk_ext [place0]
theorem emb1 (t : Fin cfg0.N) (r : Fin 512) (k : Fin 512) : (win0_1.blk t).view.emb (ix2 r k) = ix2 (⟨512 * t.val + r.val, by have := N_lt t; omega⟩ : Fin 4096) k := by
  have ht := N_lt t
  blk_ext [place1]
theorem emb2 (t : Fin cfg0.N) (r : Fin 512) (k : Fin 512) : (win0_2.blk t).view.emb (ix2 r k) = ix2 (⟨512 * t.val + r.val, by have := N_lt t; omega⟩ : Fin 4096) k := by
  have ht := N_lt t
  blk_ext [place2]
theorem emb3 (t : Fin cfg0.N) (r : Fin 512) (k : Fin 512) : (win0_3.blk t).view.emb (ix2 r k) = ix2 (⟨512 * t.val + r.val, by have := N_lt t; omega⟩ : Fin 4096) k := by
  have ht := N_lt t
  blk_ext [place3]
theorem emb4 (t : Fin cfg0.N) (r : Fin 512) (k : Fin 512) : (win0_4.blk t).view.emb (ix2 r k) = ix2 (⟨512 * t.val + r.val, by have := N_lt t; omega⟩ : Fin 4096) k := by
  have ht := N_lt t
  blk_ext [place4]
theorem emb5 (t : Fin cfg0.N) (l : Fin 1024) (k : Fin 2560) : (win0_5.blk t).view.emb (ix2 l k) = ix2 l k := by
  have ht := N_lt t
  blk_ext [place5]
theorem emb6 (t : Fin cfg0.N) (r : Fin 512) (l : Fin 1024) : (win0_6.blk t).view.emb (ix2 r l) = ix2 (⟨512 * t.val + r.val, by have := N_lt t; omega⟩ : Fin 4096) l := by
  have ht := N_lt t
  blk_ext [place6]
theorem emb7 (t : Fin cfg0.N) (z : Fin 1) (l : Fin 1024) : (win0_7.blk t).view.emb (ix2 z l) = ix2 z l := by
  have ht := N_lt t
  blk_ext [place7]
theorem emb8 (t : Fin cfg0.N) (r : Fin 512) (l : Fin 1024) : (win0_8.blk t).view.emb (ix2 r l) = ix2 (⟨512 * t.val + r.val, by have := N_lt t; omega⟩ : Fin 4096) l := by
  have ht := N_lt t
  blk_ext [place8]
theorem emb9 (t : Fin cfg0.N) (r : Fin 512) (l : Fin 1024) : (win0_9.blk t).view.emb (ix2 r l) = ix2 (⟨512 * t.val + r.val, by have := N_lt t; omega⟩ : Fin 4096) l := by
  have ht := N_lt t
  blk_ext [place9]
theorem emb10 (t : Fin cfg0.N) (z : Fin 1) (l : Fin 1024) : (win0_10.blk t).view.emb (ix2 z l) = ix2 z l := by
  have ht := N_lt t
  blk_ext [place10]

variable (m : (ℓ : Loc nD τ sig) → Buf (Elt Ideal) ℓ) (c : Dev nD)

/-- An element of a product, from the rows of its factors. -/
def entry (a0 u0 a1 u1 a2 u2 a3 u3 a4 u4 : Fin 512 → EReal) : EReal := ∑ k : Fin 512, a0 k * u0 k + ∑ k : Fin 512, a1 k * u1 k + ∑ k : Fin 512, a2 k * u2 k + ∑ k : Fin 512, a3 k * u3 k + ∑ k : Fin 512, a4 k * u4 k

/-- The gradient of the scaled rows, element by element. -/
def dn (x0 x1 x2 x3 x4 : FVec Ideal S4096x512 .bf16) (x5 : FVec Ideal S1024x2560 .bf16) (r : Fin 4096) (l : Fin 1024) : EReal :=
  entry (fun k => x0 (ix2 r k)) (fun k => x5 (ix2 l (⟨k.val, by omega⟩ : Fin 2560))) (fun k => x1 (ix2 r k)) (fun k => x5 (ix2 l (⟨512 + k.val, by omega⟩ : Fin 2560))) (fun k => x2 (ix2 r k)) (fun k => x5 (ix2 l (⟨1024 + k.val, by omega⟩ : Fin 2560))) (fun k => x3 (ix2 r k)) (fun k => x5 (ix2 l (⟨1536 + k.val, by omega⟩ : Fin 2560))) (fun k => x4 (ix2 r k)) (fun k => x5 (ix2 l (⟨2048 + k.val, by omega⟩ : Fin 2560)))

/-- The gradient carried back through the normalisation and added to what it is added to, element by element. -/
def prod (x0 x1 x2 x3 x4 : FVec Ideal S4096x512 .bf16) (x5 : FVec Ideal S1024x2560 .bf16) (x6 : FVec Ideal S4096x1024 .f32) (x7 : FVec Ideal S1x1024 .f32) (x8 : FVec Ideal S4096x1024 .f32) : FVec Ideal S4096x1024 .f32 :=
  fun i => Cert.Norm.back (fun j => x6 (ix2 (i 0) j)) (dn x0 x1 x2 x3 x4 x5 (i 0)) (fun j => x7 (ix2 0 j)) (x8 i) (i 1)

/-- The gradient with respect to the scale, element by element. -/
def grad (x0 x1 x2 x3 x4 : FVec Ideal S4096x512 .bf16) (x5 : FVec Ideal S1024x2560 .bf16) (x6 : FVec Ideal S4096x1024 .f32) (x7 : FVec Ideal S1x1024 .f32) (x8 : FVec Ideal S4096x1024 .f32) : FVec Ideal S1x1024 .f32 :=
  fun i => ∑ r : Fin 4096, Cert.Norm.share (fun j => x6 (ix2 r j)) (dn x0 x1 x2 x3 x4 x5 r) (i 1)

theorem iblk0_apply (t : Fin cfg0.N) (r : Fin 512) (k : Fin 512) : iblk m c 0 t (ix2 r k) = m ((c : Thread nD τ).loc main_arg0) (ix2 (⟨512 * t.val + r.val, by have := N_lt t; omega⟩ : Fin 4096) k) :=
  congrArg (m ((c : Thread nD τ).loc main_arg0)) (emb0 t r k)
theorem iblk1_apply (t : Fin cfg0.N) (r : Fin 512) (k : Fin 512) : iblk m c 1 t (ix2 r k) = m ((c : Thread nD τ).loc main_arg1) (ix2 (⟨512 * t.val + r.val, by have := N_lt t; omega⟩ : Fin 4096) k) :=
  congrArg (m ((c : Thread nD τ).loc main_arg1)) (emb1 t r k)
theorem iblk2_apply (t : Fin cfg0.N) (r : Fin 512) (k : Fin 512) : iblk m c 2 t (ix2 r k) = m ((c : Thread nD τ).loc main_arg2) (ix2 (⟨512 * t.val + r.val, by have := N_lt t; omega⟩ : Fin 4096) k) :=
  congrArg (m ((c : Thread nD τ).loc main_arg2)) (emb2 t r k)
theorem iblk3_apply (t : Fin cfg0.N) (r : Fin 512) (k : Fin 512) : iblk m c 3 t (ix2 r k) = m ((c : Thread nD τ).loc main_arg3) (ix2 (⟨512 * t.val + r.val, by have := N_lt t; omega⟩ : Fin 4096) k) :=
  congrArg (m ((c : Thread nD τ).loc main_arg3)) (emb3 t r k)
theorem iblk4_apply (t : Fin cfg0.N) (r : Fin 512) (k : Fin 512) : iblk m c 4 t (ix2 r k) = m ((c : Thread nD τ).loc main_arg4) (ix2 (⟨512 * t.val + r.val, by have := N_lt t; omega⟩ : Fin 4096) k) :=
  congrArg (m ((c : Thread nD τ).loc main_arg4)) (emb4 t r k)
theorem iblk5_apply (t : Fin cfg0.N) (l : Fin 1024) (k : Fin 2560) : iblk m c 5 t (ix2 l k) = m ((c : Thread nD τ).loc main_arg5) (ix2 l k) :=
  congrArg (m ((c : Thread nD τ).loc main_arg5)) (emb5 t l k)
theorem iblk6_apply (t : Fin cfg0.N) (r : Fin 512) (l : Fin 1024) : iblk m c 6 t (ix2 r l) = m ((c : Thread nD τ).loc main_arg6) (ix2 (⟨512 * t.val + r.val, by have := N_lt t; omega⟩ : Fin 4096) l) :=
  congrArg (m ((c : Thread nD τ).loc main_arg6)) (emb6 t r l)
theorem iblk7_apply (t : Fin cfg0.N) (z : Fin 1) (l : Fin 1024) : iblk m c 7 t (ix2 z l) = m ((c : Thread nD τ).loc main_arg7) (ix2 z l) :=
  congrArg (m ((c : Thread nD τ).loc main_arg7)) (emb7 t z l)
theorem iblk8_apply (t : Fin cfg0.N) (r : Fin 512) (l : Fin 1024) : iblk m c 8 t (ix2 r l) = m ((c : Thread nD τ).loc main_arg8) (ix2 (⟨512 * t.val + r.val, by have := N_lt t; omega⟩ : Fin 4096) l) :=
  congrArg (m ((c : Thread nD τ).loc main_arg8)) (emb8 t r l)

/-- One block's product. -/
theorem k0_pay5_apply (a0 : Vec Ideal S512x512 .bf16) (u0 : Vec Ideal S1024x512 .bf16) (a1 : Vec Ideal S512x512 .bf16) (u1 : Vec Ideal S1024x512 .bf16) (a2 : Vec Ideal S512x512 .bf16) (u2 : Vec Ideal S1024x512 .bf16) (a3 : Vec Ideal S512x512 .bf16) (u3 : Vec Ideal S1024x512 .bf16) (a4 : Vec Ideal S512x512 .bf16) (u4 : Vec Ideal S1024x512 .bf16) (r : Fin 512) (l : Fin 1024) :
    k0_pay5 a0 u0 a1 u1 a2 u2 a3 u3 a4 u4 (ix2 r l) = entry (fun k => a0 (ix2 r k)) (fun k => u0 (ix2 l k)) (fun k => a1 (ix2 r k)) (fun k => u1 (ix2 l k)) (fun k => a2 (ix2 r k)) (fun k => u2 (ix2 l k)) (fun k => a3 (ix2 r k)) (fun k => u3 (ix2 l k)) (fun k => a4 (ix2 r k)) (fun k => u4 (ix2 l k)) := by
  pointwise [k0_pay5]
  rfl
/-- One block's gradient carried back. -/
theorem back_apply (a0 : Vec Ideal S512x512 .bf16) (u0 : Vec Ideal S1024x512 .bf16) (a1 : Vec Ideal S512x512 .bf16) (u1 : Vec Ideal S1024x512 .bf16) (a2 : Vec Ideal S512x512 .bf16) (u2 : Vec Ideal S1024x512 .bf16) (a3 : Vec Ideal S512x512 .bf16) (u3 : Vec Ideal S1024x512 .bf16) (a4 : Vec Ideal S512x512 .bf16) (u4 : Vec Ideal S1024x512 .bf16) (h : Vec Ideal S512x1024 .f32) (g : Vec Ideal S1x1024 .f32) (x : Vec Ideal S512x1024 .f32) (r : Fin 512) (l : Fin 1024) :
    k0_pay4 (k0_pay5 a0 u0 a1 u1 a2 u2 a3 u3 a4 u4) h (k0_pay6 h) g x (ix2 r l) = Cert.Norm.back (fun j => h (ix2 r j)) (fun j => k0_pay5 a0 u0 a1 u1 a2 u2 a3 u3 a4 u4 (ix2 r j)) (fun j => g (ix2 0 j)) (x (ix2 r l)) l := by
  pointwise [k0_pay4, k0_pay6, k0_pay1]
  rfl
/-- One block's sum over its rows for the scale. -/
theorem first_apply (a0 : Vec Ideal S512x512 .bf16) (u0 : Vec Ideal S1024x512 .bf16) (a1 : Vec Ideal S512x512 .bf16) (u1 : Vec Ideal S1024x512 .bf16) (a2 : Vec Ideal S512x512 .bf16) (u2 : Vec Ideal S1024x512 .bf16) (a3 : Vec Ideal S512x512 .bf16) (u3 : Vec Ideal S1024x512 .bf16) (a4 : Vec Ideal S512x512 .bf16) (u4 : Vec Ideal S1024x512 .bf16) (h : Vec Ideal S512x1024 .f32) (z : Fin 1) (l : Fin 1024) :
    k0_pay2 (k0_pay5 a0 u0 a1 u1 a2 u2 a3 u3 a4 u4) h (k0_pay6 h) (ix2 z l) = ∑ r : Fin 512, Cert.Norm.share (fun j => h (ix2 r j)) (fun j => k0_pay5 a0 u0 a1 u1 a2 u2 a3 u3 a4 u4 (ix2 r j)) l := by
  pointwise [k0_pay2, k0_pay1, k0_pay6]
  rfl
theorem next_apply (a0 : Vec Ideal S512x512 .bf16) (u0 : Vec Ideal S1024x512 .bf16) (a1 : Vec Ideal S512x512 .bf16) (u1 : Vec Ideal S1024x512 .bf16) (a2 : Vec Ideal S512x512 .bf16) (u2 : Vec Ideal S1024x512 .bf16) (a3 : Vec Ideal S512x512 .bf16) (u3 : Vec Ideal S1024x512 .bf16) (a4 : Vec Ideal S512x512 .bf16) (u4 : Vec Ideal S1024x512 .bf16) (h : Vec Ideal S512x1024 .f32) (y : Vec Ideal S1x1024 .f32) (z : Fin 1) (l : Fin 1024) :
    (k0_pay3 (k0_pay5 a0 u0 a1 u1 a2 u2 a3 u3 a4 u4) h (k0_pay6 h) y (ix2 z l) : EReal) = (y (ix2 z l) : EReal) + ∑ r : Fin 512, Cert.Norm.share (fun j => h (ix2 r j)) (fun j => k0_pay5 a0 u0 a1 u1 a2 u2 a3 u3 a4 u4 (ix2 r j)) l := by
  rw [← first_apply _ _ _ _ _ _ _ _ _ _ _ z l]
  pointwise [k0_pay3]

def slice0 (t : Fin cfg0.N) : Vec Ideal S1024x512 .bf16 := View.ld (iblk m c 5 t) (Rect.unit (s := S1024x2560) ![0, 0] S1024x512.size inb_S1024x2560_S1024x512_0_0)
theorem slice0_apply (t : Fin cfg0.N) (l : Fin 1024) (k : Fin 512) : slice0 m c t (ix2 l k) = (m ((c : Thread nD τ).loc main_arg5)) (ix2 l (⟨k.val, by omega⟩ : Fin 2560)) :=
  (View.ld_unit_apply_of (iblk m c 5 t) _ _ _ _ (ix2 l (⟨k.val, by omega⟩ : Fin 2560)) (by intro a; fin_cases a <;> simp)).trans (iblk5_apply m c t l _)
def slice1 (t : Fin cfg0.N) : Vec Ideal S1024x512 .bf16 := View.ld (iblk m c 5 t) (Rect.unit (s := S1024x2560) ![0, 512] S1024x512.size inb_S1024x2560_S1024x512_0_512)
theorem slice1_apply (t : Fin cfg0.N) (l : Fin 1024) (k : Fin 512) : slice1 m c t (ix2 l k) = (m ((c : Thread nD τ).loc main_arg5)) (ix2 l (⟨512 + k.val, by omega⟩ : Fin 2560)) :=
  (View.ld_unit_apply_of (iblk m c 5 t) _ _ _ _ (ix2 l (⟨512 + k.val, by omega⟩ : Fin 2560)) (by intro a; fin_cases a <;> simp)).trans (iblk5_apply m c t l _)
def slice2 (t : Fin cfg0.N) : Vec Ideal S1024x512 .bf16 := View.ld (iblk m c 5 t) (Rect.unit (s := S1024x2560) ![0, 1024] S1024x512.size inb_S1024x2560_S1024x512_0_1024)
theorem slice2_apply (t : Fin cfg0.N) (l : Fin 1024) (k : Fin 512) : slice2 m c t (ix2 l k) = (m ((c : Thread nD τ).loc main_arg5)) (ix2 l (⟨1024 + k.val, by omega⟩ : Fin 2560)) :=
  (View.ld_unit_apply_of (iblk m c 5 t) _ _ _ _ (ix2 l (⟨1024 + k.val, by omega⟩ : Fin 2560)) (by intro a; fin_cases a <;> simp)).trans (iblk5_apply m c t l _)
def slice3 (t : Fin cfg0.N) : Vec Ideal S1024x512 .bf16 := View.ld (iblk m c 5 t) (Rect.unit (s := S1024x2560) ![0, 1536] S1024x512.size inb_S1024x2560_S1024x512_0_1536)
theorem slice3_apply (t : Fin cfg0.N) (l : Fin 1024) (k : Fin 512) : slice3 m c t (ix2 l k) = (m ((c : Thread nD τ).loc main_arg5)) (ix2 l (⟨1536 + k.val, by omega⟩ : Fin 2560)) :=
  (View.ld_unit_apply_of (iblk m c 5 t) _ _ _ _ (ix2 l (⟨1536 + k.val, by omega⟩ : Fin 2560)) (by intro a; fin_cases a <;> simp)).trans (iblk5_apply m c t l _)
def slice4 (t : Fin cfg0.N) : Vec Ideal S1024x512 .bf16 := View.ld (iblk m c 5 t) (Rect.unit (s := S1024x2560) ![0, 2048] S1024x512.size inb_S1024x2560_S1024x512_0_2048)
theorem slice4_apply (t : Fin cfg0.N) (l : Fin 1024) (k : Fin 512) : slice4 m c t (ix2 l k) = (m ((c : Thread nD τ).loc main_arg5)) (ix2 l (⟨2048 + k.val, by omega⟩ : Fin 2560)) :=
  (View.ld_unit_apply_of (iblk m c 5 t) _ _ _ _ (ix2 l (⟨2048 + k.val, by omega⟩ : Fin 2560)) (by intro a; fin_cases a <;> simp)).trans (iblk5_apply m c t l _)
/-- A block's product. -/
def blk (t : Fin cfg0.N) : Vec Ideal S512x1024 .f32 := k0_pay5 (iblk m c 0 t) (slice0 m c t) (iblk m c 1 t) (slice1 m c t) (iblk m c 2 t) (slice2 m c t) (iblk m c 3 t) (slice3 m c t) (iblk m c 4 t) (slice4 m c t)
theorem blk_apply (t : Fin cfg0.N) (r : Fin 512) (l : Fin 1024) : blk m c t (ix2 r l) = dn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨512 * t.val + r.val, by have := N_lt t; omega⟩ l := by
  rw [blk, k0_pay5_apply, dn]
  simp only [slice0_apply, slice1_apply, slice2_apply, slice3_apply, slice4_apply, iblk0_apply, iblk1_apply, iblk2_apply, iblk3_apply, iblk4_apply, iblk5_apply]

/-- The kernel's first result is the gradient carried back. -/
theorem final : (dats m 0 c).arrAt 9 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  obtain ⟨r, l, rfl⟩ : ∃ (r : Fin 512) (l : Fin 1024), y = ix2 r l := ⟨y 0, y 1, eq_ix2 y⟩
  have e : (dats m 0 c).after 9 t (ix2 r l) = Cert.Norm.back (fun j => iblk m c 6 t (ix2 r j)) (fun j => blk m c t (ix2 r j)) (fun j => iblk m c 7 t (ix2 0 j)) (iblk m c 8 t (ix2 r l)) l := by
    have ht := N_lt t
    rw [after0_9]
    by_cases h : t.val % 8 = 0
    · rw [outsAt0_A m c t h (by omega)]
      dsimp only
      frame_out
      exact back_apply _ _ _ _ _ _ _ _ _ _ _ _ _ r l
    · rw [outsAt0_B m c t h (by omega)]
      dsimp only
      frame_out
      exact back_apply _ _ _ _ _ _ _ _ _ _ _ _ _ r l
  refine Eq.trans (show _ = (dats m 0 c).after 9 t (ix2 r l) from rfl) (e.trans ?_)
  refine Eq.trans ?_ (congrArg (prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (emb9 t r l)).symm
  dsimp only [prod]
  simp only [blk_apply, iblk6_apply, iblk7_apply, iblk8_apply]
  rfl

/-- A block's share of the gradient with respect to the scale. -/
def part (t : Fin cfg0.N) : Vec Ideal S1x1024 .f32 :=
  fun i => ∑ r : Fin 512, Cert.Norm.share (fun j => iblk m c 6 t (ix2 r j)) (fun j => blk m c t (ix2 r j)) (i 1)

/-- The scale's gradient written back holds the sum of the blocks' shares. -/
theorem outs_apply (t : Fin cfg0.N) (hf : t.val % 8 = 7) (j : S1x1024.Idx) :
    ((outsAt0 m c t.val t.isLt).2 j : EReal) = 0 + ∑ s : Fin 8, (part m c ⟨8 * (t.val / 8) + s.val, Pipeline.run_point_lt_of_flush t hf s⟩ j : EReal) := by
  refine Pipeline.eq_sum_fin_of_reset_step_apply_of_flush (M := EReal) (fun n h => (outsAt0 m c n h).2) 8 (fun _ => 0) (fun t => part m c t) (fun t h i => ?_) (fun t h i => ?_) t hf j
  · obtain ⟨z, l, rfl⟩ : ∃ (z : Fin 1) (l : Fin 1024), i = ix2 z l := ⟨i 0, i 1, eq_ix2 i⟩
    have ht := N_lt t
    rw [outsAt0_A m c t h (by omega)]
    dsimp only
    frame_out
    rw [zero_add]
    exact first_apply _ _ _ _ _ _ _ _ _ _ _ z l
  · obtain ⟨z, l, rfl⟩ : ∃ (z : Fin 1) (l : Fin 1024), i = ix2 z l := ⟨i 0, i 1, eq_ix2 i⟩
    rw [outsAt0_B m c t h (by omega)]
    dsimp only
    frame_out
    exact next_apply _ _ _ _ _ _ _ _ _ _ _ _ z l

/-- The kernel's second result is the gradient with respect to the scale. -/
theorem final_grad : (dats m 0 c).arrAt 10 cfg0.N = grad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  obtain ⟨z, l, rfl⟩ : ∃ (z : Fin 1) (l : Fin 1024), y = ix2 z l := ⟨y 0, y 1, eq_ix2 y⟩
  refine Eq.trans (show _ = (dats m 0 c).after 10 t (ix2 z l) from rfl) ?_
  rw [after0_10]
  refine (outs_apply m c t ((flush0_10 t).mp hf) (ix2 z l)).trans ?_
  rw [zero_add]
  refine Eq.trans ?_ (congrArg (grad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (emb10 t z l)).symm
  refine Fin.sum_mul_add_congr (S := 8) (n := 512) fun s r hl => ?_
  have ht := N_lt t
  have es : 8 * (t.val / 8) + s.val = s.val := by omega
  dsimp only [ix2_0, ix2_1]
  simp only [blk_apply, iblk6_apply, es, Nat.mul_comm 512 s.val]

end Cert.InNormGrad0Ideal.Product

namespace Cert.InNormGrad0ReferenceIdeal.Product

open Cert.InNormGrad0ReferenceIdeal Cert.InNormGrad0ReferenceIdeal.Read
open Idealize.ShloMosaic Idealize.ShloMosaic.TcCoe

/-- The gradient of the scaled rows, element by element. -/
theorem dn_apply (x0 x1 x2 x3 x4 : FVec Ideal S4096x512 .bf16) (x5 : FVec Ideal S1024x2560 .bf16) (r : Fin 4096) (l : Fin 1024) : val_main_v19 (F := Ideal) x0 x1 x2 x3 x4 x5 (ix2 r l) = Cert.InNormGrad0Ideal.Product.dn x0 x1 x2 x3 x4 x5 r l := by
  pointwise [val_main_v19, val_main_v18, val_main_v17, val_main_v16, val_main_v15, val_main_v14, val_main_v0]
  exact Cert.Beside.sum_five (fun k => x0 (ix2 r k)) (fun k => x1 (ix2 r k)) (fun k => x2 (ix2 r k)) (fun k => x3 (ix2 r k)) (fun k => x4 (ix2 r k)) (fun k => x5 (ix2 l k))

/-- The reference's first result is the gradient carried back. -/
theorem final (x0 x1 x2 x3 x4 : FVec Ideal S4096x512 .bf16) (x5 : FVec Ideal S1024x2560 .bf16) (x6 : FVec Ideal S4096x1024 .f32) (x7 : FVec Ideal S1x1024 .f32) (x8 : FVec Ideal S4096x1024 .f32) : val_main_v39 (F := Ideal) x0 x1 x2 x3 x4 x5 x6 x7 x8 = Cert.InNormGrad0Ideal.Product.prod x0 x1 x2 x3 x4 x5 x6 x7 x8 := by
  funext i
  obtain ⟨r, l, rfl⟩ : ∃ (r : Fin 4096) (l : Fin 1024), i = ix2 r l := ⟨i 0, i 1, eq_ix2 i⟩
  have e : Cert.InNormGrad0Ideal.Product.prod x0 x1 x2 x3 x4 x5 x6 x7 x8 (ix2 r l) = Cert.Norm.back (fun j => x6 (ix2 r j)) (Cert.InNormGrad0Ideal.Product.dn x0 x1 x2 x3 x4 x5 r) (fun j => x7 (ix2 0 j)) (x8 (ix2 r l)) l := rfl
  rw [e, Cert.Norm.back, Cert.Norm.entry_eq]
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6]
  simp only [dn_apply, zero_add, Finset.univ_unique, Finset.sum_singleton]
  rfl

/-- The reference's second result is the gradient with respect to the scale. -/
theorem final_grad (x0 x1 x2 x3 x4 : FVec Ideal S4096x512 .bf16) (x5 : FVec Ideal S1024x2560 .bf16) (x6 : FVec Ideal S4096x1024 .f32) (x7 : FVec Ideal S1x1024 .f32) (x8 : FVec Ideal S4096x1024 .f32) : val_main_v22 (F := Ideal) x0 x1 x2 x3 x4 x5 x6 = Cert.InNormGrad0Ideal.Product.grad x0 x1 x2 x3 x4 x5 x6 x7 x8 := by
  funext i
  obtain ⟨z, l, rfl⟩ : ∃ (z : Fin 1) (l : Fin 1024), i = ix2 z l := ⟨i 0, i 1, eq_ix2 i⟩
  pointwise [val_main_v22, val_main_v21, val_main_v20, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6]
  simp only [dn_apply, zero_add]
  exact Finset.sum_congr rfl fun r _ => mul_comm (G := EReal) _ _

end Cert.InNormGrad0ReferenceIdeal.Product

namespace Cert.InNormGrad0Ideal.Product

open Idealize.ShloMosaic Idealize.ShloMosaic.TcCoe
open Idealize.SL.Sem

/-- The gradient carried back through the product with the first mixer's input projection's weights and through the row normalisation, and the gradient with respect to its scale: the blocked results are those gradients. -/
theorem algebraic : Cert.algebraic_InNormGrad0Ideal_InNormGrad0ReferenceIdeal := by
  intro m g m' g' _ hm
  refine ⟨fun c => prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)), fun c => grad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)),
    (θ_run (defs (F := Ideal)) _ _).mono (fun r h c => ⟨(h.1.out_eq c 9).trans (final m c), (h.1.out_eq c 10).trans (final_grad m c), h.2.1 c⟩) (θ_run_and (Gen.run_main m g) (Gen.frame m g)),
    (θ_run (Cert.InNormGrad0ReferenceIdeal.defs (F := Ideal)) _ _).mono (fun r h c => ?_) (Cert.InNormGrad0ReferenceIdeal.Value.run (F := Ideal) m' g')⟩
  obtain ⟨e0, e1, ea⟩ := h c
  obtain ⟨m0, m1, m2, m3, m4, m5, m6, m7, m8⟩ := hm c
  rw [Cert.InNormGrad0ReferenceIdeal.Read.val_main_v39_eq] at e0
  simp only [m0, m1, m2, m3, m4, m5, m6, m7, m8] at e0
  rw [Cert.InNormGrad0ReferenceIdeal.Product.final] at e0
  rw [Cert.InNormGrad0ReferenceIdeal.Read.val_main_v22_eq] at e1
  simp only [m0, m1, m2, m3, m4, m5, m6, m7, m8] at e1
  rw [Cert.InNormGrad0ReferenceIdeal.Product.final_grad _ _ _ _ _ _ _ (m ((c.tc : Thread nD τ).loc main_arg7)) (m ((c.tc : Thread nD τ).loc main_arg8))] at e1
  exact ⟨e0, e1, ea⟩

end Cert.InNormGrad0Ideal.Product

end
-- ==== Proof.InZero.lean ====
/- The input projection of the first mixer: the blocked product is the product. -/
module

public import proofs.«01_k».proof.Defs
public import proofs.«01_k».proof.Proof.Gen.InZeroIdeal
public import proofs.«01_k».proof.Proof.Gen.InZeroReferenceIdeal
public import proofs.«01_k».proof.Proof.Gen.InZeroIdeal.Frame
public import proofs.«01_k».proof.Proof.Gen.InZeroReferenceIdeal.Run
public import proofs.«01_k».proof.Proof.Gen.InZeroReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.InZeroIdeal.Product

open Cert.InZeroIdeal Cert.InZeroIdeal.Gen
open Idealize.ShloMosaic Idealize.ShloMosaic.TcCoe
open Idealize.SL.Sem

theorem N_lt (t : Fin cfg0.N) : t.val < 16 := lt_of_lt_of_eq t.isLt (show cfg0.N = 16 from N_0)
theorem place0 : ∀ t : Fin cfg0.N, win0_0.index t = ![t.val % 8, 0] := (by decide +kernel : ∀ t : Fin grid0.N, _)
theorem place1 : ∀ t : Fin cfg0.N, win0_1.index t = ![0, t.val / 8] := (by decide +kernel : ∀ t : Fin grid0.N, _)
theorem place2 : ∀ t : Fin cfg0.N, win0_2.index t = ![t.val % 8, t.val / 8] := (by decide +kernel : ∀ t : Fin grid0.N, _)
theorem emb0 (t : Fin cfg0.N) (r : Fin 512) (k : Fin 1024) : (win0_0.blk t).view.emb (ix2 r k) = ix2 (⟨512 * (t.val % 8) + r.val, by have := N_lt t; omega⟩ : Fin 4096) k := by
  have ht := N_lt t
  blk_ext [place0]
theorem emb1 (t : Fin cfg0.N) (k : Fin 1024) (l : Fin 1280) : (win0_1.blk t).view.emb (ix2 k l) = ix2 k (⟨1280 * (t.val / 8) + l.val, by have := N_lt t; omega⟩ : Fin 2560) := by
  have ht := N_lt t
  blk_ext [place1]
theorem emb2 (t : Fin cfg0.N) (r : Fin 512) (l : Fin 1280) : (win0_2.blk t).view.emb (ix2 r l) = ix2 (⟨512 * (t.val % 8) + r.val, by have := N_lt t; omega⟩ : Fin 4096) (⟨1280 * (t.val / 8) + l.val, by have := N_lt t; omega⟩ : Fin 2560) := by
  have ht := N_lt t
  blk_ext [place2]

variable (m : (ℓ : Loc nD τ sig) → Buf (Elt Ideal) ℓ) (c : Dev nD)

/-- The product, element by element. -/
def prod (x0 : FVec Ideal S4096x1024 .bf16) (x1 : FVec Ideal S1024x2560 .bf16) : FVec Ideal S4096x2560 .f32 :=
  fun i => ∑ k : Fin 1024, (x0 (ix2 (i 0) k) : EReal) * x1 (ix2 k (i 1))

theorem iblk0_apply (t : Fin cfg0.N) (r : Fin 512) (k : Fin 1024) : iblk m c 0 t (ix2 r k) = m ((c : Thread nD τ).loc main_arg0) (ix2 (⟨512 * (t.val % 8) + r.val, by have := N_lt t; omega⟩ : Fin 4096) k) :=
  (congrArg (V m c main_arg0) (emb0 t r k)).trans (congrFun (V_main_arg0 m c) _)
theorem iblk1_apply (t : Fin cfg0.N) (k : Fin 1024) (l : Fin 1280) : iblk m c 1 t (ix2 k l) = m ((c : Thread nD τ).loc main_arg1) (ix2 k (⟨1280 * (t.val / 8) + l.val, by have := N_lt t; omega⟩ : Fin 2560)) :=
  (congrArg (V m c main_arg1) (emb1 t k l)).trans (congrFun (V_main_arg1 m c) _)

/-- One block's product. -/
theorem pay_apply (x : Vec Ideal S512x1024 .bf16) (w : Vec Ideal S1024x1280 .bf16) (r : Fin 512) (l : Fin 1280) :
    k0_pay1 x w (ix2 r l) = ∑ k : Fin 1024, (x (ix2 r k) : EReal) * w (ix2 k l) := by
  pointwise [k0_pay1]

/-- The kernel's result is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 512) (l : Fin 1280), y = ix2 r l := ⟨y 0, y 1, eq_ix2 y⟩
  have e : (dats m 0 c).after 2 t (ix2 r l) = k0_pay1 (F := Ideal) (iblk m c 0 t) (iblk m c 1 t) (ix2 r l) := by
    rw [after0_2]; frame_out
  refine Eq.trans (show _ = (dats m 0 c).after 2 t (ix2 r l) from rfl) (e.trans ((pay_apply _ _ r l).trans ?_))
  refine Eq.trans ?_ (congrArg (prod (m ((c : Thread nD τ).loc main_arg0)) (m ((c : Thread nD τ).loc main_arg1))) (emb2 t r l)).symm
  refine Finset.sum_congr rfl fun k _ => ?_
  rw [iblk0_apply, iblk1_apply]
  rfl

end Cert.InZeroIdeal.Product

namespace Cert.InZeroReferenceIdeal.Product

open Cert.InZeroReferenceIdeal Cert.InZeroReferenceIdeal.Read
open Idealize.ShloMosaic Idealize.ShloMosaic.TcCoe

/-- The reference's result is the product. -/
theorem final (x0 : FVec Ideal S4096x1024 .bf16) (x1 : FVec Ideal S1024x2560 .bf16) : val_main_v2 (F := Ideal) x0 x1 = Cert.InZeroIdeal.Product.prod x0 x1 := by
  funext i
  obtain ⟨r, l, rfl⟩ : ∃ (r : Fin 4096) (l : Fin 2560), i = ix2 r l := ⟨i 0, i 1, eq_ix2 i⟩
  pointwise [val_main_v2, val_main_v1, val_main_v0]
  rfl

end Cert.InZeroReferenceIdeal.Product

namespace Cert.InZeroIdeal.Product

open Idealize.ShloMosaic Idealize.ShloMosaic.TcCoe
open Idealize.SL.Sem

/-- The blocked input projection of the first mixer is that projection. -/
theorem algebraic : Cert.algebraic_InZeroIdeal_InZeroReferenceIdeal := by
  intro m g m' g' _ hm
  refine ⟨fun c => prod (m ((c.tc : Thread nD τ).loc main_arg0)) (m ((c.tc : Thread nD τ).loc main_arg1)),
    (θ_run (defs (F := Ideal)) _ _).mono (fun r h c => ⟨(h.1.out_eq c 2).trans (final m c), h.2.1 c⟩) (θ_run_and (Gen.run_main m g) (Gen.frame m g)),
    (θ_run (Cert.InZeroReferenceIdeal.defs (F := Ideal)) _ _).mono (fun r h c => ?_) (Cert.InZeroReferenceIdeal.Value.run (F := Ideal) m' g')⟩
  obtain ⟨e0, ea⟩ := h c
  obtain ⟨m0, m1⟩ := hm c
  rw [Cert.InZeroReferenceIdeal.Read.val_main_v2_eq, m0, m1, Cert.InZeroReferenceIdeal.Product.final] at e0
  exact ⟨e0, ea⟩

end Cert.InZeroIdeal.Product

end
-- ==== Proof.InOne.lean ====
/- The input projection of the second mixer: the blocked product is the product. -/
module

public import proofs.«01_k».proof.Defs
public import proofs.«01_k».proof.Proof.Gen.InOneIdeal
public import proofs.«01_k».proof.Proof.Gen.InOneReferenceIdeal
public import proofs.«01_k».proof.Proof.Gen.InOneIdeal.Frame
public import proofs.«01_k».proof.Proof.Gen.InOneReferenceIdeal.Run
public import proofs.«01_k».proof.Proof.Gen.InOneReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.InOneIdeal.Product

open Cert.InOneIdeal Cert.InOneIdeal.Gen
open Idealize.ShloMosaic Idealize.ShloMosaic.TcCoe
open Idealize.SL.Sem

theorem N_lt (t : Fin cfg0.N) : t.val < 8 := lt_of_lt_of_eq t.isLt (show cfg0.N = 8 from N_0)
theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![t.val, 0] := (by decide +kernel : ∀ t : Fin grid0.N, _)
theorem emb0 (t : Fin cfg0.N) (r : Fin 512) (k : Fin 1024) : (win0_0.blk t).view.emb (ix2 r k) = ix2 (⟨512 * t.val + r.val, by have := N_lt t; omega⟩ : Fin 4096) k := by
  have ht := N_lt t
  blk_ext [place0]
theorem emb1 (t : Fin cfg0.N) (k : Fin 1024) (l : Fin 2688) : (win0_1.blk t).view.emb (ix2 k l) = ix2 k l := by
  have ht := N_lt t
  blk_ext [place1]
theorem emb2 (t : Fin cfg0.N) (r : Fin 512) (l : Fin 2688) : (win0_2.blk t).view.emb (ix2 r l) = ix2 (⟨512 * t.val + r.val, by have := N_lt t; omega⟩ : Fin 4096) l := by
  have ht := N_lt t
  blk_ext [place2]

variable (m : (ℓ : Loc nD τ sig) → Buf (Elt Ideal) ℓ) (c : Dev nD)

/-- The product, element by element. -/
def prod (x0 : FVec Ideal S4096x1024 .bf16) (x1 : FVec Ideal S1024x2688 .bf16) : FVec Ideal S4096x2688 .f32 :=
  fun i => ∑ k : Fin 1024, (x0 (ix2 (i 0) k) : EReal) * x1 (ix2 k (i 1))

theorem iblk0_apply (t : Fin cfg0.N) (r : Fin 512) (k : Fin 1024) : iblk m c 0 t (ix2 r k) = m ((c : Thread nD τ).loc main_arg0) (ix2 (⟨512 * t.val + r.val, by have := N_lt t; omega⟩ : Fin 4096) k) :=
  (congrArg (V m c main_arg0) (emb0 t r k)).trans (congrFun (V_main_arg0 m c) _)
theorem iblk1_apply (t : Fin cfg0.N) (k : Fin 1024) (l : Fin 2688) : iblk m c 1 t (ix2 k l) = m ((c : Thread nD τ).loc main_arg1) (ix2 k l) :=
  (congrArg (V m c main_arg1) (emb1 t k l)).trans (congrFun (V_main_arg1 m c) _)

/-- One block's product. -/
theorem pay_apply (x : Vec Ideal S512x1024 .bf16) (w : Vec Ideal S1024x2688 .bf16) (r : Fin 512) (l : Fin 2688) :
    k0_pay1 x w (ix2 r l) = ∑ k : Fin 1024, (x (ix2 r k) : EReal) * w (ix2 k l) := by
  pointwise [k0_pay1]

/-- The kernel's result is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 512) (l : Fin 2688), y = ix2 r l := ⟨y 0, y 1, eq_ix2 y⟩
  have e : (dats m 0 c).after 2 t (ix2 r l) = k0_pay1 (F := Ideal) (iblk m c 0 t) (iblk m c 1 t) (ix2 r l) := by
    rw [after0_2]; frame_out
  refine Eq.trans (show _ = (dats m 0 c).after 2 t (ix2 r l) from rfl) (e.trans ((pay_apply _ _ r l).trans ?_))
  refine Eq.trans ?_ (congrArg (prod (m ((c : Thread nD τ).loc main_arg0)) (m ((c : Thread nD τ).loc main_arg1))) (emb2 t r l)).symm
  refine Finset.sum_congr rfl fun k _ => ?_
  rw [iblk0_apply, iblk1_apply]
  rfl

end Cert.InOneIdeal.Product

namespace Cert.InOneReferenceIdeal.Product

open Cert.InOneReferenceIdeal Cert.InOneReferenceIdeal.Read
open Idealize.ShloMosaic Idealize.ShloMosaic.TcCoe

/-- The reference's result is the product. -/
theorem final (x0 : FVec Ideal S4096x1024 .bf16) (x1 : FVec Ideal S1024x2688 .bf16) : val_main_v2 (F := Ideal) x0 x1 = Cert.InOneIdeal.Product.prod x0 x1 := by
  funext i
  obtain ⟨r, l, rfl⟩ : ∃ (r : Fin 4096) (l : Fin 2688), i = ix2 r l := ⟨i 0, i 1, eq_ix2 i⟩
  pointwise [val_main_v2, val_main_v1, val_main_v0]
  rfl

end Cert.InOneReferenceIdeal.Product

namespace Cert.InOneIdeal.Product

open Idealize.ShloMosaic Idealize.ShloMosaic.TcCoe
open Idealize.SL.Sem

/-- The blocked input projection of the second mixer is that projection. -/
theorem algebraic : Cert.algebraic_InOneIdeal_InOneReferenceIdeal := by
  intro m g m' g' _ hm
  refine ⟨fun c => prod (m ((c.tc : Thread nD τ).loc main_arg0)) (m ((c.tc : Thread nD τ).loc main_arg1)),
    (θ_run (defs (F := Ideal)) _ _).mono (fun r h c => ⟨(h.1.out_eq c 2).trans (final m c), h.2.1 c⟩) (θ_run_and (Gen.run_main m g) (Gen.frame m g)),
    (θ_run (Cert.InOneReferenceIdeal.defs (F := Ideal)) _ _).mono (fun r h c => ?_) (Cert.InOneReferenceIdeal.Value.run (F := Ideal) m' g')⟩
  obtain ⟨e0, ea⟩ := h c
  obtain ⟨m0, m1⟩ := hm c
  rw [Cert.InOneReferenceIdeal.Read.val_main_v2_eq, m0, m1, Cert.InOneReferenceIdeal.Product.final] at e0
  exact ⟨e0, ea⟩

end Cert.InOneIdeal.Product

end
-- ==== Proof.DownOne.lean ====
/- The down projection added to what it is added to: the blocked product plus the block is the sum. -/
module

public import proofs.«01_k».proof.Defs
public import proofs.«01_k».proof.Proof.Gen.DownOneIdeal
public import proofs.«01_k».proof.Proof.Gen.DownOneReferenceIdeal
public import proofs.«01_k».proof.Proof.Gen.DownOneIdeal.Frame
public import proofs.«01_k».proof.Proof.Gen.DownOneReferenceIdeal.Run
public import proofs.«01_k».proof.Proof.Gen.DownOneReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.DownOneIdeal.Product

open Cert.DownOneIdeal Cert.DownOneIdeal.Gen
open Idealize.ShloMosaic Idealize.ShloMosaic.TcCoe
open Idealize.SL.Sem

theorem N_lt (t : Fin cfg0.N) : t.val < 8 := lt_of_lt_of_eq t.isLt (show cfg0.N = 8 from N_0)
theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![t.val, 0] := (by decide +kernel : ∀ t : Fin grid0.N, _)
theorem place3 : ∀ t : Fin cfg0.N, win0_3.index t = ![t.val, 0] := (by decide +kernel : ∀ t : Fin grid0.N, _)
theorem emb0 (t : Fin cfg0.N) (r : Fin 512) (k : Fin 2816) : (win0_0.blk t).view.emb (ix2 r k) = ix2 (⟨512 * t.val + r.val, by have := N_lt t; omega⟩ : Fin 4096) k := by
  have ht := N_lt t
  blk_ext [place0]
theorem emb1 (t : Fin cfg0.N) (k : Fin 2816) (l : Fin 1024) : (win0_1.blk t).view.emb (ix2 k l) = ix2 k l := by
  have ht := N_lt t
  blk_ext [place1]
theorem emb2 (t : Fin cfg0.N) (r : Fin 512) (l : Fin 1024) : (win0_2.blk t).view.emb (ix2 r l) = ix2 (⟨512 * t.val + r.val, by have := N_lt t; omega⟩ : Fin 4096) l := by
  have ht := N_lt t
  blk_ext [place2]
theorem emb3 (t : Fin cfg0.N) (r : Fin 512) (l : Fin 1024) : (win0_3.blk t).view.emb (ix2 r l) = ix2 (⟨512 * t.val + r.val, by have := N_lt t; omega⟩ : Fin 4096) l := by
  have ht := N_lt t
  blk_ext [place3]

variable (m : (ℓ : Loc nD τ sig) → Buf (Elt Ideal) ℓ) (c : Dev nD)

/-- An element of the sum, from the row of one factor, the column of the other and the element added. -/
def entry (x w : Fin 2816 → EReal) (h : EReal) : EReal := h + ∑ k : Fin 2816, x k * w k

/-- The sum, element by element. -/
def prod (x0 : FVec Ideal S4096x2816 .bf16) (x1 : FVec Ideal S2816x1024 .bf16) (x2 : FVec Ideal S4096x1024 .f32) : FVec Ideal S4096x1024 .f32 :=
  fun i => entry (fun k => x0 (ix2 (i 0) k)) (fun k => x1 (ix2 k (i 1))) (x2 i)

theorem iblk0_apply (t : Fin cfg0.N) (r : Fin 512) (k : Fin 2816) : iblk m c 0 t (ix2 r k) = m ((c : Thread nD τ).loc main_arg0) (ix2 (⟨512 * t.val + r.val, by have := N_lt t; omega⟩ : Fin 4096) k) :=
  (congrArg (V m c main_arg0) (emb0 t r k)).trans (congrFun (V_main_arg0 m c) _)
theorem iblk1_apply (t : Fin cfg0.N) (k : Fin 2816) (l : Fin 1024) : iblk m c 1 t (ix2 k l) = m ((c : Thread nD τ).loc main_arg1) (ix2 k l) :=
  (congrArg (V m c main_arg1) (emb1 t k l)).trans (congrFun (V_main_arg1 m c) _)
theorem iblk2_apply (t : Fin cfg0.N) (r : Fin 512) (l : Fin 1024) : iblk m c 2 t (ix2 r l) = m ((c : Thread nD τ).loc main_arg2) (ix2 (⟨512 * t.val + r.val, by have := N_lt t; omega⟩ : Fin 4096) l) :=
  (congrArg (V m c main_arg2) (emb2 t r l)).trans (congrFun (V_main_arg2 m c) _)

/-- One block's sum. -/
theorem pay_apply (x : Vec Ideal S512x2816 .bf16) (w : Vec Ideal S2816x1024 .bf16) (h : Vec Ideal S512x1024 .f32) (r : Fin 512) (l : Fin 1024) :
    k0_pay1 x w h (ix2 r l) = entry (fun k => x (ix2 r k)) (fun k => w (ix2 k l)) (h (ix2 r l)) := by
  pointwise [k0_pay1]
  exact add_comm (G := EReal) _ _

/-- The kernel's result is the product. -/
theorem final : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, l, rfl⟩ : ∃ (r : Fin 512) (l : Fin 1024), y = ix2 r l := ⟨y 0, y 1, eq_ix2 y⟩
  have e : (dats m 0 c).after 3 t (ix2 r l) = k0_pay1 (F := Ideal) (iblk m c 0 t) (iblk m c 1 t) (iblk m c 2 t) (ix2 r l) := by
    rw [after0_3]; frame_out
  refine Eq.trans (show _ = (dats m 0 c).after 3 t (ix2 r l) from rfl) (e.trans ((pay_apply _ _ _ r l).trans ?_))
  refine Eq.trans ?_ (congrArg (prod (m ((c : Thread nD τ).loc main_arg0)) (m ((c : Thread nD τ).loc main_arg1)) (m ((c : Thread nD τ).loc main_arg2))) (emb3 t r l)).symm
  dsimp only [prod]
  simp only [iblk0_apply, iblk1_apply, iblk2_apply]
  rfl

end Cert.DownOneIdeal.Product

namespace Cert.DownOneReferenceIdeal.Product

open Cert.DownOneReferenceIdeal Cert.DownOneReferenceIdeal.Read
open Idealize.ShloMosaic Idealize.ShloMosaic.TcCoe

/-- The reference's result is the product. -/
theorem final (x0 : FVec Ideal S4096x2816 .bf16) (x1 : FVec Ideal S2816x1024 .bf16) (x2 : FVec Ideal S4096x1024 .f32) : val_main_v3 (F := Ideal) x0 x1 x2 = Cert.DownOneIdeal.Product.prod x0 x1 x2 := by
  funext i
  obtain ⟨r, l, rfl⟩ : ∃ (r : Fin 4096) (l : Fin 1024), i = ix2 r l := ⟨i 0, i 1, eq_ix2 i⟩
  pointwise [val_main_v3, val_main_v2, val_main_v1, val_main_v0]
  rfl

end Cert.DownOneReferenceIdeal.Product

namespace Cert.DownOneIdeal.Product

open Idealize.ShloMosaic Idealize.ShloMosaic.TcCoe
open Idealize.SL.Sem

/-- The blocked down projection and its addition are that projection and that addition. -/
theorem algebraic : Cert.algebraic_DownOneIdeal_DownOneReferenceIdeal := by
  intro m g m' g' _ hm
  refine ⟨fun c => prod (m ((c.tc : Thread nD τ).loc main_arg0)) (m ((c.tc : Thread nD τ).loc main_arg1)) (m ((c.tc : Thread nD τ).loc main_arg2)),
    (θ_run (defs (F := Ideal)) _ _).mono (fun r h c => ⟨(h.1.out_eq c 3).trans (final m c), h.2.1 c⟩) (θ_run_and (Gen.run_main m g) (Gen.frame m g)),
    (θ_run (Cert.DownOneReferenceIdeal.defs (F := Ideal)) _ _).mono (fun r h c => ?_) (Cert.DownOneReferenceIdeal.Value.run (F := Ideal) m' g')⟩
  obtain ⟨e0, ea⟩ := h c
  obtain ⟨m0, m1, m2⟩ := hm c
  rw [Cert.DownOneReferenceIdeal.Read.val_main_v3_eq, m0, m1, m2, Cert.DownOneReferenceIdeal.Product.final] at e0
  exact ⟨e0, ea⟩

end Cert.DownOneIdeal.Product

end
-- ==== Proof.DownZero.lean ====
/- The down projection added to what it is added to, and the normalised sum: the blocked results are those results. -/
module

public import proofs.«01_k».proof.Defs
public import proofs.«01_k».proof.Proof.Gen.DownZeroIdeal
public import proofs.«01_k».proof.Proof.Gen.DownZeroReferenceIdeal
public import proofs.«01_k».proof.Proof.Gen.DownZeroIdeal.Frame
public import proofs.«01_k».proof.Proof.Gen.DownZeroReferenceIdeal.Run
public import proofs.«01_k».proof.Proof.Gen.DownZeroReferenceIdeal.Read
public import proofs.«01_k».proof.Proof.Norm
public import Idealize.ShloMosaic.Lib.Pipeline.ValueKit
public import Idealize.ShloMosaic.Lib.Pointwise
public import Idealize.ShloMosaic.Lib.IdealHost

@[expose] public section

set_option maxRecDepth 16384

noncomputable section

namespace Cert.DownZeroIdeal.Product

open Cert.DownZeroIdeal Cert.DownZeroIdeal.Gen
open Idealize.ShloMosaic Idealize.ShloMosaic.TcCoe
open Idealize.SL.Sem

theorem N_lt (t : Fin cfg0.N) : t.val < 8 := lt_of_lt_of_eq t.isLt (show cfg0.N = 8 from N_0)
theorem place0 : ∀ t : Fin cfg0.N, win0_0.index t = ![t.val, 0] := (by decide +kernel : ∀ t : Fin grid0.N, _)
theorem place1 : ∀ t : Fin cfg0.N, win0_1.index t = ![0, 0] := (by decide +kernel : ∀ t : Fin grid0.N, _)
theorem place2 : ∀ t : Fin cfg0.N, win0_2.index t = ![t.val, 0] := (by decide +kernel : ∀ t : Fin grid0.N, _)
theorem place3 : ∀ t : Fin cfg0.N, win0_3.index t = ![0, 0] := (by decide +kernel : ∀ t : Fin grid0.N, _)
theorem place4 : ∀ t : Fin cfg0.N, win0_4.index t = ![t.val, 0] := (by decide +kernel : ∀ t : Fin grid0.N, _)
theorem place5 : ∀ t : Fin cfg0.N, win0_5.index t = ![t.val, 0] := (by decide +kernel : ∀ t : Fin grid0.N, _)
theorem emb0 (t : Fin cfg0.N) (r : Fin 512) (k : Fin 2816) : (win0_0.blk t).view.emb (ix2 r k) = ix2 (⟨512 * t.val + r.val, by have := N_lt t; omega⟩ : Fin 4096) k := by
  have ht := N_lt t
  blk_ext [place0]
theorem emb1 (t : Fin cfg0.N) (k : Fin 2816) (l : Fin 1024) : (win0_1.blk t).view.emb (ix2 k l) = ix2 k l := by
  have ht := N_lt t
  blk_ext [place1]
theorem emb2 (t : Fin cfg0.N) (r : Fin 512) (l : Fin 1024) : (win0_2.blk t).view.emb (ix2 r l) = ix2 (⟨512 * t.val + r.val, by have := N_lt t; omega⟩ : Fin 4096) l := by
  have ht := N_lt t
  blk_ext [place2]
theorem emb3 (t : Fin cfg0.N) (z : Fin 1) (l : Fin 1024) : (win0_3.blk t).view.emb (ix2 z l) = ix2 z l := by
  have ht := N_lt t
  blk_ext [place3]
theorem emb4 (t : Fin cfg0.N) (r : Fin 512) (l : Fin 1024) : (win0_4.blk t).view.emb (ix2 r l) = ix2 (⟨512 * t.val + r.val, by have := N_lt t; omega⟩ : Fin 4096) l := by
  have ht := N_lt t
  blk_ext [place4]
theorem emb5 (t : Fin cfg0.N) (r : Fin 512) (l : Fin 1024) : (win0_5.blk t).view.emb (ix2 r l) = ix2 (⟨512 * t.val + r.val, by have := N_lt t; omega⟩ : Fin 4096) l := by
  have ht := N_lt t
  blk_ext [place5]

variable (m : (ℓ : Loc nD τ sig) → Buf (Elt Ideal) ℓ) (c : Dev nD)

/-- An element of the sum, from the row of one factor, the column of the other and the element added. -/
def entry (x w : Fin 2816 → EReal) (h : EReal) : EReal := h + ∑ k : Fin 2816, x k * w k

/-- The sum, element by element. -/
def prod (x0 : FVec Ideal S4096x2816 .bf16) (x1 : FVec Ideal S2816x1024 .bf16) (x2 : FVec Ideal S4096x1024 .f32) (x3 : FVec Ideal S1x1024 .f32) : FVec Ideal S4096x1024 .f32 :=
  fun i => entry (fun k => x0 (ix2 (i 0) k)) (fun k => x1 (ix2 k (i 1))) (x2 i)

/-- The normalised sum, element by element. -/
def normed (x0 : FVec Ideal S4096x2816 .bf16) (x1 : FVec Ideal S2816x1024 .bf16) (x2 : FVec Ideal S4096x1024 .f32) (x3 : FVec Ideal S1x1024 .f32) : FVec Ideal S4096x1024 .bf16 :=
  fun i => Cert.Norm.scaled (fun j => prod x0 x1 x2 x3 (ix2 (i 0) j)) (x3 (ix2 0 (i 1))) (i 1)

theorem iblk0_apply (t : Fin cfg0.N) (r : Fin 512) (k : Fin 2816) : iblk m c 0 t (ix2 r k) = m ((c : Thread nD τ).loc main_arg0) (ix2 (⟨512 * t.val + r.val, by have := N_lt t; omega⟩ : Fin 4096) k) :=
  (congrArg (V m c main_arg0) (emb0 t r k)).trans (congrFun (V_main_arg0 m c) _)
theorem iblk1_apply (t : Fin cfg0.N) (k : Fin 2816) (l : Fin 1024) : iblk m c 1 t (ix2 k l) = m ((c : Thread nD τ).loc main_arg1) (ix2 k l) :=
  (congrArg (V m c main_arg1) (emb1 t k l)).trans (congrFun (V_main_arg1 m c) _)
theorem iblk2_apply (t : Fin cfg0.N) (r : Fin 512) (l : Fin 1024) : iblk m c 2 t (ix2 r l) = m ((c : Thread nD τ).loc main_arg2) (ix2 (⟨512 * t.val + r.val, by have := N_lt t; omega⟩ : Fin 4096) l) :=
  (congrArg (V m c main_arg2) (emb2 t r l)).trans (congrFun (V_main_arg2 m c) _)
theorem iblk3_apply (t : Fin cfg0.N) (z : Fin 1) (l : Fin 1024) : iblk m c 3 t (ix2 z l) = m ((c : Thread nD τ).loc main_arg3) (ix2 z l) :=
  (congrArg (V m c main_arg3) (emb3 t z l)).trans (congrFun (V_main_arg3 m c) _)

/-- One block's sum. -/
theorem pay1_apply (x : Vec Ideal S512x2816 .bf16) (w : Vec Ideal S2816x1024 .bf16) (h : Vec Ideal S512x1024 .f32) (r : Fin 512) (l : Fin 1024) :
    k0_pay1 x w h (ix2 r l) = entry (fun k => x (ix2 r k)) (fun k => w (ix2 k l)) (h (ix2 r l)) := by
  pointwise [k0_pay1]
  exact add_comm (G := EReal) _ _
/-- One block's normalised sum. -/
theorem pay2_apply (x : Vec Ideal S512x2816 .bf16) (w : Vec Ideal S2816x1024 .bf16) (h : Vec Ideal S512x1024 .f32) (g : Vec Ideal S1x1024 .f32) (r : Fin 512) (l : Fin 1024) :
    k0_pay2 x w h g (ix2 r l) = Cert.Norm.scaled (fun j => entry (fun k => x (ix2 r k)) (fun k => w (ix2 k j)) (h (ix2 r j))) (g (ix2 0 l)) l := by
  pointwise [k0_pay2]
  simp only [pay1_apply]
  rfl

/-- The first result is the sum. -/
theorem final : (dats m 0 c).arrAt 4 cfg0.N = prod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨r, l, rfl⟩ : ∃ (r : Fin 512) (l : Fin 1024), y = ix2 r l := ⟨y 0, y 1, eq_ix2 y⟩
  have e : (dats m 0 c).after 4 t (ix2 r l) = k0_pay1 (F := Ideal) (iblk m c 0 t) (iblk m c 1 t) (iblk m c 2 t) (ix2 r l) := by
    rw [after0_4]; frame_out
  refine Eq.trans (show _ = (dats m 0 c).after 4 t (ix2 r l) from rfl) (e.trans ((pay1_apply _ _ _ r l).trans ?_))
  refine Eq.trans ?_ (congrArg (prod (m ((c : Thread nD τ).loc main_arg0)) (m ((c : Thread nD τ).loc main_arg1)) (m ((c : Thread nD τ).loc main_arg2)) (m ((c : Thread nD τ).loc main_arg3))) (emb4 t r l)).symm
  dsimp only [prod]
  simp only [iblk0_apply, iblk1_apply, iblk2_apply]
  rfl

/-- The second result is the normalised sum. -/
theorem final_normed : (dats m 0 c).arrAt 5 cfg0.N = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨r, l, rfl⟩ : ∃ (r : Fin 512) (l : Fin 1024), y = ix2 r l := ⟨y 0, y 1, eq_ix2 y⟩
  have e : (dats m 0 c).after 5 t (ix2 r l) = k0_pay2 (F := Ideal) (iblk m c 0 t) (iblk m c 1 t) (iblk m c 2 t) (iblk m c 3 t) (ix2 r l) := by
    rw [after0_5]; frame_out
  refine Eq.trans (show _ = (dats m 0 c).after 5 t (ix2 r l) from rfl) (e.trans ((pay2_apply _ _ _ _ r l).trans ?_))
  refine Eq.trans ?_ (congrArg (normed (m ((c : Thread nD τ).loc main_arg0)) (m ((c : Thread nD τ).loc main_arg1)) (m ((c : Thread nD τ).loc main_arg2)) (m ((c : Thread nD τ).loc main_arg3))) (emb5 t r l)).symm
  dsimp only [normed, prod]
  simp only [iblk0_apply, iblk1_apply, iblk2_apply, iblk3_apply]
  rfl

end Cert.DownZeroIdeal.Product

namespace Cert.DownZeroReferenceIdeal.Product

open Cert.DownZeroReferenceIdeal Cert.DownZeroReferenceIdeal.Read
open Idealize.ShloMosaic Idealize.ShloMosaic.TcCoe

/-- The reference's first result is the sum. -/
theorem final (x0 : FVec Ideal S4096x2816 .bf16) (x1 : FVec Ideal S2816x1024 .bf16) (x2 : FVec Ideal S4096x1024 .f32) (x3 : FVec Ideal S1x1024 .f32) : val_main_v3 (F := Ideal) x0 x1 x2 = Cert.DownZeroIdeal.Product.prod x0 x1 x2 x3 := by
  funext i
  obtain ⟨r, l, rfl⟩ : ∃ (r : Fin 4096) (l : Fin 1024), i = ix2 r l := ⟨i 0, i 1, eq_ix2 i⟩
  pointwise [val_main_v3, val_main_v2, val_main_v1, val_main_v0]
  rfl

end Cert.DownZeroReferenceIdeal.Product

namespace Cert.DownZeroReferenceIdeal.Product

open Cert.DownZeroReferenceIdeal Cert.DownZeroReferenceIdeal.Read
open Idealize.ShloMosaic Idealize.ShloMosaic.TcCoe

/-- The reference's second result is the normalised sum. -/
theorem final_normed (x0 : FVec Ideal S4096x2816 .bf16) (x1 : FVec Ideal S2816x1024 .bf16) (x2 : FVec Ideal S4096x1024 .f32) (x3 : FVec Ideal S1x1024 .f32) : val_main_v16 (F := Ideal) x0 x1 x2 x3 = Cert.DownZeroIdeal.Product.normed x0 x1 x2 x3 := by
  funext i
  obtain ⟨r, l, rfl⟩ : ∃ (r : Fin 4096) (l : Fin 1024), i = ix2 r l := ⟨i 0, i 1, eq_ix2 i⟩
  pointwise [val_main_v16, val_main_v15, val_main_v14, val_main_v13, val_main_v12, val_main_v11, val_main_v10, val_main_v9, val_main_v8, val_main_v7, val_main_v6, val_main_v5, val_main_v4, val_main_cst, val_main_cst_0, val_main_cst_1]
  simp only [zero_add, final x0 x1 x2 x3]
  rfl

end Cert.DownZeroReferenceIdeal.Product

namespace Cert.DownZeroIdeal.Product

open Idealize.ShloMosaic Idealize.ShloMosaic.TcCoe
open Idealize.SL.Sem

/-- The blocked sum and normalised sum are the reference's. -/
theorem algebraic : Cert.algebraic_DownZeroIdeal_DownZeroReferenceIdeal := by
  intro m g m' g' _ hm
  refine ⟨fun c => prod (m ((c.tc : Thread nD τ).loc main_arg0)) (m ((c.tc : Thread nD τ).loc main_arg1)) (m ((c.tc : Thread nD τ).loc main_arg2)) (m ((c.tc : Thread nD τ).loc main_arg3)), fun c => normed (m ((c.tc : Thread nD τ).loc main_arg0)) (m ((c.tc : Thread nD τ).loc main_arg1)) (m ((c.tc : Thread nD τ).loc main_arg2)) (m ((c.tc : Thread nD τ).loc main_arg3)),
    (θ_run (defs (F := Ideal)) _ _).mono (fun r h c => ⟨(h.1.out_eq c 4).trans (final m c), (h.1.out_eq c 5).trans (final_normed m c), h.2.1 c⟩) (θ_run_and (Gen.run_main m g) (Gen.frame m g)),
    (θ_run (Cert.DownZeroReferenceIdeal.defs (F := Ideal)) _ _).mono (fun r h c => ?_) (Cert.DownZeroReferenceIdeal.Value.run (F := Ideal) m' g')⟩
  obtain ⟨e0, e1, ea⟩ := h c
  obtain ⟨m0, m1, m2, m3⟩ := hm c
  rw [Cert.DownZeroReferenceIdeal.Read.val_main_v3_eq] at e0
  simp only [m0, m1, m2, m3] at e0
  rw [Cert.DownZeroReferenceIdeal.Product.final _ _ _ (m ((c.tc : Thread nD τ).loc main_arg3))] at e0
  rw [Cert.DownZeroReferenceIdeal.Read.val_main_v16_eq] at e1
  simp only [m0, m1, m2, m3] at e1
  rw [Cert.DownZeroReferenceIdeal.Product.final_normed] at e1
  exact ⟨e0, e1, ea⟩

end Cert.DownZeroIdeal.Product

end
-- ==== Proof.Out.lean ====
/- The mixer's output projection added to what it is added to, and the normalised sum: the blocked results are those results. -/
module

public import proofs.«01_k».proof.Defs
public import proofs.«01_k».proof.Proof.Gen.OutIdeal
public import proofs.«01_k».proof.Proof.Gen.OutReferenceIdeal
public import proofs.«01_k».proof.Proof.Gen.OutIdeal.Frame
public import proofs.«01_k».proof.Proof.Gen.OutReferenceIdeal.Run
public import proofs.«01_k».proof.Proof.Gen.OutReferenceIdeal.Read
public import proofs.«01_k».proof.Proof.Norm
public import Idealize.ShloMosaic.Lib.Pipeline.ValueKit
public import Idealize.ShloMosaic.Lib.Pointwise
public import Idealize.ShloMosaic.Lib.IdealHost

@[expose] public section

set_option maxRecDepth 16384

noncomputable section

namespace Cert.OutIdeal.Product

open Cert.OutIdeal Cert.OutIdeal.Gen
open Idealize.ShloMosaic Idealize.ShloMosaic.TcCoe
open Idealize.SL.Sem

theorem N_lt (t : Fin cfg0.N) : t.val < 8 := lt_of_lt_of_eq t.isLt (show cfg0.N = 8 from N_0)
theorem place0 : ∀ t : Fin cfg0.N, win0_0.index t = ![t.val, 0] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![t.val, 0] := (by decide +kernel : ∀ t : Fin grid0.N, _)
theorem place4 : ∀ t : Fin cfg0.N, win0_4.index t = ![0, 0] := (by decide +kernel : ∀ t : Fin grid0.N, _)
theorem place5 : ∀ t : Fin cfg0.N, win0_5.index t = ![t.val, 0] := (by decide +kernel : ∀ t : Fin grid0.N, _)
theorem place6 : ∀ t : Fin cfg0.N, win0_6.index t = ![t.val, 0] := (by decide +kernel : ∀ t : Fin grid0.N, _)
theorem emb0 (t : Fin cfg0.N) (r : Fin 512) (k : Fin 512) : (win0_0.blk t).view.emb (ix2 r k) = ix2 (⟨512 * t.val + r.val, by have := N_lt t; omega⟩ : Fin 4096) k := by
  have ht := N_lt t
  blk_ext [place0]
theorem emb1 (t : Fin cfg0.N) (r : Fin 512) (k : Fin 512) : (win0_1.blk t).view.emb (ix2 r k) = ix2 (⟨512 * t.val + r.val, by have := N_lt t; omega⟩ : Fin 4096) k := by
  have ht := N_lt t
  blk_ext [place1]
theorem emb2 (t : Fin cfg0.N) (k : Fin 1024) (l : Fin 1024) : (win0_2.blk t).view.emb (ix2 k l) = ix2 k l := by
  have ht := N_lt t
  blk_ext [place2]
theorem emb3 (t : Fin cfg0.N) (r : Fin 512) (l : Fin 1024) : (win0_3.blk t).view.emb (ix2 r l) = ix2 (⟨512 * t.val + r.val, by have := N_lt t; omega⟩ : Fin 4096) l := by
  have ht := N_lt t
  blk_ext [place3]
theorem emb4 (t : Fin cfg0.N) (z : Fin 1) (l : Fin 1024) : (win0_4.blk t).view.emb (ix2 z l) = ix2 z l := by
  have ht := N_lt t
  blk_ext [place4]
theorem emb5 (t : Fin cfg0.N) (r : Fin 512) (l : Fin 1024) : (win0_5.blk t).view.emb (ix2 r l) = ix2 (⟨512 * t.val + r.val, by have := N_lt t; omega⟩ : Fin 4096) l := by
  have ht := N_lt t
  blk_ext [place5]
theorem emb6 (t : Fin cfg0.N) (r : Fin 512) (l : Fin 1024) : (win0_6.blk t).view.emb (ix2 r l) = ix2 (⟨512 * t.val + r.val, by have := N_lt t; omega⟩ : Fin 4096) l := by
  have ht := N_lt t
  blk_ext [place6]

variable (m : (ℓ : Loc nD τ sig) → Buf (Elt Ideal) ℓ) (c : Dev nD)

/-- An element of the sum, from the rows of the two halves, the halves of the column of the other factor and the element added. -/
def entry (x y u v : Fin 512 → EReal) (h : EReal) : EReal := h + (∑ k : Fin 512, x k * u k + ∑ k : Fin 512, y k * v k)

/-- The sum, element by element. -/
def prod (x0 x1 : FVec Ideal S4096x512 .bf16) (x2 : FVec Ideal S1024x1024 .bf16) (x3 : FVec Ideal S4096x1024 .f32) (x4 : FVec Ideal S1x1024 .f32) : FVec Ideal S4096x1024 .f32 :=
  fun i => entry (fun k => x0 (ix2 (i 0) k)) (fun k => x1 (ix2 (i 0) k)) (fun k => x2 (ix2 (⟨k.val, by omega⟩ : Fin 1024) (i 1))) (fun k => x2 (ix2 (⟨512 + k.val, by omega⟩ : Fin 1024) (i 1))) (x3 i)

/-- The normalised sum, element by element. -/
def normed (x0 x1 : FVec Ideal S4096x512 .bf16) (x2 : FVec Ideal S1024x1024 .bf16) (x3 : FVec Ideal S4096x1024 .f32) (x4 : FVec Ideal S1x1024 .f32) : FVec Ideal S4096x1024 .bf16 :=
  fun i => Cert.Norm.scaled (fun j => prod x0 x1 x2 x3 x4 (ix2 (i 0) j)) (x4 (ix2 0 (i 1))) (i 1)

theorem iblk0_apply (t : Fin cfg0.N) (r : Fin 512) (k : Fin 512) : iblk m c 0 t (ix2 r k) = m ((c : Thread nD τ).loc main_arg0) (ix2 (⟨512 * t.val + r.val, by have := N_lt t; omega⟩ : Fin 4096) k) :=
  (congrArg (V m c main_arg0) (emb0 t r k)).trans (congrFun (V_main_arg0 m c) _)
theorem iblk1_apply (t : Fin cfg0.N) (r : Fin 512) (k : Fin 512) : iblk m c 1 t (ix2 r k) = m ((c : Thread nD τ).loc main_arg1) (ix2 (⟨512 * t.val + r.val, by have := N_lt t; omega⟩ : Fin 4096) k) :=
  (congrArg (V m c main_arg1) (emb1 t r k)).trans (congrFun (V_main_arg1 m c) _)
theorem iblk2_apply (t : Fin cfg0.N) (k : Fin 1024) (l : Fin 1024) : iblk m c 2 t (ix2 k l) = m ((c : Thread nD τ).loc main_arg2) (ix2 k l) :=
  (congrArg (V m c main_arg2) (emb2 t k l)).trans (congrFun (V_main_arg2 m c) _)
theorem iblk3_apply (t : Fin cfg0.N) (r : Fin 512) (l : Fin 1024) : iblk m c 3 t (ix2 r l) = m ((c : Thread nD τ).loc main_arg3) (ix2 (⟨512 * t.val + r.val, by have := N_lt t; omega⟩ : Fin 4096) l) :=
  (congrArg (V m c main_arg3) (emb3 t r l)).trans (congrFun (V_main_arg3 m c) _)
theorem iblk4_apply (t : Fin cfg0.N) (z : Fin 1) (l : Fin 1024) : iblk m c 4 t (ix2 z l) = m ((c : Thread nD τ).loc main_arg4) (ix2 z l) :=
  (congrArg (V m c main_arg4) (emb4 t z l)).trans (congrFun (V_main_arg4 m c) _)

theorem upper_apply (t : Fin cfg0.N) (k : Fin 512) (l : Fin 1024) : (View.ld (iblk m c 2 t) r0_1 (ix2 k l) : EReal) = (m ((c : Thread nD τ).loc main_arg2)) (ix2 (⟨k.val, by omega⟩ : Fin 1024) l) :=
  (View.ld_unit_apply_of (iblk m c 2 t) _ _ _ _ (ix2 (⟨k.val, by omega⟩ : Fin 1024) l) (by intro a; fin_cases a <;> simp)).trans (iblk2_apply m c t _ l)
theorem lower_apply (t : Fin cfg0.N) (k : Fin 512) (l : Fin 1024) : (View.ld (iblk m c 2 t) r0_2 (ix2 k l) : EReal) = (m ((c : Thread nD τ).loc main_arg2)) (ix2 (⟨512 + k.val, by omega⟩ : Fin 1024) l) :=
  (View.ld_unit_apply_of (iblk m c 2 t) _ _ _ _ (ix2 (⟨512 + k.val, by omega⟩ : Fin 1024) l) (by intro a; fin_cases a <;> simp)).trans (iblk2_apply m c t _ l)

/-- One block's sum. -/
theorem pay1_apply (x y : Vec Ideal S512x512 .bf16) (u v : Vec Ideal S512x1024 .bf16) (h : Vec Ideal S512x1024 .f32) (r : Fin 512) (l : Fin 1024) :
    k0_pay1 x u y v h (ix2 r l) = entry (fun k => x (ix2 r k)) (fun k => y (ix2 r k)) (fun k => u (ix2 k l)) (fun k => v (ix2 k l)) (h (ix2 r l)) := by
  pointwise [k0_pay1]
  exact add_comm (G := EReal) _ _
/-- One block's normalised sum. -/
theorem pay2_apply (x y : Vec Ideal S512x512 .bf16) (u v : Vec Ideal S512x1024 .bf16) (h : Vec Ideal S512x1024 .f32) (g : Vec Ideal S1x1024 .f32) (r : Fin 512) (l : Fin 1024) :
    k0_pay2 x u y v h g (ix2 r l) = Cert.Norm.scaled (fun j => entry (fun k => x (ix2 r k)) (fun k => y (ix2 r k)) (fun k => u (ix2 k j)) (fun k => v (ix2 k j)) (h (ix2 r j))) (g (ix2 0 l)) l := by
  pointwise [k0_pay2]
  simp only [pay1_apply]
  rfl

/-- The first result is the sum. -/
theorem final : (dats m 0 c).arrAt 5 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, l, rfl⟩ : ∃ (r : Fin 512) (l : Fin 1024), y = ix2 r l := ⟨y 0, y 1, eq_ix2 y⟩
  have e : (dats m 0 c).after 5 t (ix2 r l) = k0_pay1 (F := Ideal) (iblk m c 0 t) (View.ld (iblk m c 2 t) r0_1) (iblk m c 1 t) (View.ld (iblk m c 2 t) r0_2) (iblk m c 3 t) (ix2 r l) := by
    rw [after0_5]; frame_out; rfl
  refine Eq.trans (show _ = (dats m 0 c).after 5 t (ix2 r l) from rfl) (e.trans ((pay1_apply _ _ _ _ _ r l).trans ?_))
  refine Eq.trans ?_ (congrArg (prod (m ((c : Thread nD τ).loc main_arg0)) (m ((c : Thread nD τ).loc main_arg1)) (m ((c : Thread nD τ).loc main_arg2)) (m ((c : Thread nD τ).loc main_arg3)) (m ((c : Thread nD τ).loc main_arg4))) (emb5 t r l)).symm
  dsimp only [prod]
  simp only [upper_apply, lower_apply, iblk0_apply, iblk1_apply, iblk2_apply, iblk3_apply]
  rfl

/-- The second result is the normalised sum. -/
theorem final_normed : (dats m 0 c).arrAt 6 cfg0.N = normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨r, l, rfl⟩ : ∃ (r : Fin 512) (l : Fin 1024), y = ix2 r l := ⟨y 0, y 1, eq_ix2 y⟩
  have e : (dats m 0 c).after 6 t (ix2 r l) = k0_pay2 (F := Ideal) (iblk m c 0 t) (View.ld (iblk m c 2 t) r0_1) (iblk m c 1 t) (View.ld (iblk m c 2 t) r0_2) (iblk m c 3 t) (iblk m c 4 t) (ix2 r l) := by
    rw [after0_6]; frame_out; rfl
  refine Eq.trans (show _ = (dats m 0 c).after 6 t (ix2 r l) from rfl) (e.trans ((pay2_apply _ _ _ _ _ _ r l).trans ?_))
  refine Eq.trans ?_ (congrArg (normed (m ((c : Thread nD τ).loc main_arg0)) (m ((c : Thread nD τ).loc main_arg1)) (m ((c : Thread nD τ).loc main_arg2)) (m ((c : Thread nD τ).loc main_arg3)) (m ((c : Thread nD τ).loc main_arg4))) (emb6 t r l)).symm
  dsimp only [normed, prod]
  simp only [upper_apply, lower_apply, iblk0_apply, iblk1_apply, iblk2_apply, iblk3_apply, iblk4_apply]
  rfl

end Cert.OutIdeal.Product

namespace Cert.OutReferenceIdeal.Product

open Cert.OutReferenceIdeal Cert.OutReferenceIdeal.Read
open Idealize.ShloMosaic Idealize.ShloMosaic.TcCoe

/-- The reference's first result is the sum. -/
theorem final (x0 x1 : FVec Ideal S4096x512 .bf16) (x2 : FVec Ideal S1024x1024 .bf16) (x3 : FVec Ideal S4096x1024 .f32) (x4 : FVec Ideal S1x1024 .f32) : val_main_v4 (F := Ideal) x0 x1 x2 x3 = Cert.OutIdeal.Product.prod x0 x1 x2 x3 x4 := by
  funext i
  obtain ⟨r, l, rfl⟩ : ∃ (r : Fin 4096) (l : Fin 1024), i = ix2 r l := ⟨i 0, i 1, eq_ix2 i⟩
  pointwise [val_main_v4, val_main_v3, val_main_v2, val_main_v1, val_main_v0]
  rfl

end Cert.OutReferenceIdeal.Product

namespace Cert.OutReferenceIdeal.Product

open Cert.OutReferenceIdeal Cert.OutReferenceIdeal.Read
open Idealize.ShloMosaic Idealize.ShloMosaic.TcCoe

/-- The reference's second result is the normalised sum. -/
theorem final_normed (x0 x1 : FVec Ideal S4096x512 .bf16) (x2 : FVec Ideal S1024x1024 .bf16) (x3 : FVec Ideal S4096x1024 .f32) (x4 : FVec Ideal S1x1024 .f32) : val_main_v17 (F := Ideal) x0 x1 x2 x3 x4 = Cert.OutIdeal.Product.normed x0 x1 x2 x3 x4 := by
  funext i
  obtain ⟨r, l, rfl⟩ : ∃ (r : Fin 4096) (l : Fin 1024), i = ix2 r l := ⟨i 0, i 1, eq_ix2 i⟩
  pointwise [val_main_v17, val_main_v16, val_main_v15, val_main_v14, val_main_v13, val_main_v12, val_main_v11, val_main_v10, val_main_v9, val_main_v8, val_main_v7, val_main_v6, val_main_v5, val_main_cst, val_main_cst_0, val_main_cst_1]
  simp only [zero_add, final x0 x1 x2 x3 x4]
  rfl

end Cert.OutReferenceIdeal.Product

namespace Cert.OutIdeal.Product

open Idealize.ShloMosaic Idealize.ShloMosaic.TcCoe
open Idealize.SL.Sem

/-- The blocked sum and normalised sum are the reference's. -/
theorem algebraic : Cert.algebraic_OutIdeal_OutReferenceIdeal := by
  intro m g m' g' _ hm
  refine ⟨fun c => prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run (defs (F := Ideal)) _ _).mono (fun r h c => ⟨(h.1.out_eq c 5).trans (final m c), (h.1.out_eq c 6).trans (final_normed m c), h.2.1 c⟩) (θ_run_and (Gen.run_main m g) (Gen.frame m g)),
    (θ_run (Cert.OutReferenceIdeal.defs (F := Ideal)) _ _).mono (fun r h c => ?_) (Cert.OutReferenceIdeal.Value.run (F := Ideal) m' g')⟩
  obtain ⟨e0, e1, ea⟩ := h c
  obtain ⟨m0, m1, m2, m3, m4⟩ := hm c
  rw [Cert.OutReferenceIdeal.Read.val_main_v4_eq] at e0
  simp only [m0, m1, m2, m3, m4] at e0
  rw [Cert.OutReferenceIdeal.Product.final _ _ _ _ (m ((c.tc : Thread nD τ).loc main_arg4))] at e0
  rw [Cert.OutReferenceIdeal.Read.val_main_v17_eq] at e1
  simp only [m0, m1, m2, m3, m4] at e1
  rw [Cert.OutReferenceIdeal.Product.final_normed] at e1
  exact ⟨e0, e1, ea⟩

end Cert.OutIdeal.Product

end
-- ==== Proof.Attention.Run.lean ====
module

public import proofs.«01_k».proof.Proof.Gen.AttentionIdeal
public import proofs.«01_k».proof.Proof.Gen.AttentionIdeal.Frame
public import Idealize.ShloMosaic.Lib.VecWindow

@[expose] public section

set_option maxRecDepth 16384

noncomputable section

namespace Cert.AttentionIdeal.Fox

open Cert.AttentionIdeal.Gen
open Idealize.ShloMosaic Idealize.ShloMosaic.TcCoe Idealize.ShloMosaic.Tactic
open Idealize.SL Idealize.SL.Sem

variable {F : FTy → Type} [FloatOps F] [Named F]

/-! ## One block of keys -/

/-- The 512 rows of block `n`. -/
def rows (x : Vec F S4096x128 .f32) (n : Fin 8) : Vec F S512x128 .f32 :=
  VecWindow.window (s := S4096x128) x ![512 * n.val, 0] S512x128.size (fun a => match a with | 0 => (by show 512 * n.val + 512 ≤ 4096; omega) | 1 => (by show 0 + 128 ≤ 128; omega))
/-- Head `p`'s gates at block `n`. -/
def gate (x : Vec F S2x1x4096 .f32) (p : Fin 2) (n : Fin 8) : Vec F S1x1x512 .f32 :=
  VecWindow.window (s := S2x1x4096) x ![p.val, 0, 512 * n.val] S1x1x512.size (fun a => match a with | 0 => (by show p.val + 1 ≤ 2; omega) | 1 => (by show 0 + 1 ≤ 1; omega) | 2 => (by show 512 * n.val + 512 ≤ 4096; omega))
/-- Lane group `p`. -/
def group (x : Vec F S512x256 .f32) (p : Fin 2) : Vec F S512x128 .f32 :=
  VecWindow.window (s := S512x256) x ![0, 128 * p.val] S512x128.size (fun a => match a with | 0 => (by show 0 + 512 ≤ 512; omega) | 1 => (by show 128 * p.val + 128 ≤ 256; omega))

/-- A lane-constant block four times side by side. -/
def wide (x : FVec F S512x128 .f32) : FVec F S512x512 .f32 :=
  concatenate S512x512 1 [⟨S512x128, x⟩, ⟨S512x128, x⟩, ⟨S512x128, x⟩, ⟨S512x128, x⟩] concatenates_S512x128_S512x128_S512x128_S512x128_S512x512_d1
/-- The running maximum with one more block's scores, -/
def newM (m : FVec F S512x128 .f32) (sc : FVec F S512x512 .f32) : FVec F S512x128 .f32 :=
  maximumf m (broadcastTo S512x128 (shapeCast S512x1 (multiReduction .maximumf [1] S512 sc 0xFF800000#32 reduces_S512x512_S512 (.inl rfl) rfl) shapeCasts_S512_S512x1) broadcasts_S512x1_S512x128)
/-- the block's weights against it, -/
def wts (m : FVec F S512x128 .f32) (sc : FVec F S512x512 .f32) : FVec F S512x512 .f32 := exp (subf sc (wide (newM m sc)))
/-- what the weights so far are scaled by, -/
def alpha (m : FVec F S512x128 .f32) (sc : FVec F S512x512 .f32) : FVec F S512x128 .f32 := exp (subf m (newM m sc))
/-- the running sum of weights -/
def newL (m l : FVec F S512x128 .f32) (sc : FVec F S512x512 .f32) : FVec F S512x128 .f32 :=
  addf (mulf (alpha m sc) l) (broadcastTo S512x128 (shapeCast S512x1 (multiReduction .add [1] S512 (wts m sc) 0x00000000#32 reduces_S512x512_S512 (.inl rfl) rfl) shapeCasts_S512_S512x1) broadcasts_S512x1_S512x128)
/-- and of weighted values. -/
def newA (m acc : FVec F S512x128 .f32) (sc : FVec F S512x512 .f32) (v : Vec F S512x128 .f32) : FVec F S512x128 .f32 :=
  addf (mulf acc (alpha m sc)) (matmul dot_S512x512_S512x128_S512x128_1_0_0_1_n_n none (truncf .bf16 (wts m sc) bitsLt_bf16_f32) (truncf .bf16 v bitsLt_bf16_f32) (constant S512x128 .f32 0x00000000#32))

/-- What is carried along the key blocks: two heads' maxima and sums of weights, and the weighted values. -/
abbrev St (F : FTy → Type) [FloatOps F] [Named F] : Type := FVec F S512x128 .f32 × FVec F S512x128 .f32 × FVec F S512x128 .f32 × FVec F S512x128 .f32 × FVec F S512x128 .f32

/-- One block added, its scores and values given. -/
def stepV (sc0 sc1 : FVec F S512x512 .f32) (v : Vec F S512x128 .f32) (s : St F) : St F :=
  (newM s.1 sc0, newL s.1 s.2.1 sc0, newM s.2.2.1 sc1, newL s.2.2.1 s.2.2.2.1 sc1, select k0_pay29 (newA s.1 s.2.2.2.2 sc0 v) (newA s.2.2.1 s.2.2.2.2 sc1 v))

section Body
variable (x0 : Vec F S512x128 .f32) (x1 x2 : Vec F S4096x128 .f32) (x3 : Vec F S512x256 .f32) (x4 : Vec F S2x1x4096 .f32)
/-- A block before the diagonal. -/
def tripV (n : Fin 8) (s : St F) : St F :=
  stepV (k0_pay8 (k0_pay30 x0) (k0_pay34 (group x3 0)) (rows x1 n) (gate x4 0 n)) (k0_pay14 (k0_pay31 x0) (k0_pay35 (group x3 1)) (rows x1 n) (gate x4 1 n)) (rows x2 n) s
/-- The block on it. -/
def diagV (n : Fin 8) (s : St F) : St F :=
  stepV (k0_pay48 (k0_pay30 x0) (k0_pay34 (group x3 0)) (k0_pay46 (rows x1 n)) (gate x4 0 n)) (k0_pay54 (k0_pay31 x0) (k0_pay35 (group x3 1)) (k0_pay46 (rows x1 n)) (gate x4 1 n)) (rows x2 n) s
/-- The first `k` blocks. -/
def loopV : ℕ → St F
  | 0 => (k0_pay37, k0_pay36, k0_pay37, k0_pay36, k0_pay36)
  | k + 1 => if h : k < 8 then tripV x0 x1 x2 x3 x4 ⟨k, h⟩ (loopV k) else loopV k
/-- All of a query block's key blocks. -/
def bodyV (n : Fin 8) : St F := diagV x0 x1 x2 x3 x4 n (loopV x0 x1 x2 x3 x4 n.val)
/-- The output. -/
def outO (s : St F) : FVec F S512x128 .bf16 := truncf .bf16 (divf s.2.2.2.2 (select k0_pay29 s.2.1 s.2.2.2.1)) bitsLt_bf16_f32
/-- A gate less the logarithm of its row's weight. -/
def outB (g m l : FVec F S512x128 .f32) : FVec F S512x128 .f32 := subf (shapeCast S512x128 g shapeCasts_S512x128_S512x128) (addf m (log l))
end Body

/-! ## The program's offsets and loads -/

theorem trips1 : ∀ i : grid0.Coords, (k0_t1_loop i).trips = (i 1).val := by decide +kernel
theorem trips2 : ∀ i : grid0.Coords, (k0_t2_loop i).trips = 0 := by decide +kernel
theorem off1_eq : ∀ (i : grid0.Coords) (k : Fin (k0_t1_loop i).trips), k0_off1 i k = ![512 * k.val, 0] := by decide +kernel
theorem off2_eq : ∀ (i : grid0.Coords) (k : Fin (k0_t1_loop i).trips), k0_off2 i k = ![(0 : Fin 2).val, 0, 512 * k.val] := by decide +kernel
theorem off3_eq : ∀ (i : grid0.Coords) (k : Fin (k0_t1_loop i).trips), k0_off3 i k = ![(1 : Fin 2).val, 0, 512 * k.val] := by decide +kernel
theorem off7_eq : ∀ i : grid0.Coords, k0_off7 i = ![512 * (i 1).val, 0] := by decide +kernel
theorem off8_eq : ∀ i : grid0.Coords, k0_off8 i = ![(0 : Fin 2).val, 0, 512 * (i 1).val] := by decide +kernel
theorem off9_eq : ∀ i : grid0.Coords, k0_off9 i = ![(1 : Fin 2).val, 0, 512 * (i 1).val] := by decide +kernel
theorem rows_load {a : Memref sig .tc .vmem S4096x128 .f32} (ha : a.IsWhole) (x : Vec F S4096x128 .f32) (n : Fin 8) {off : Fin 2 → ℕ} (inb) (h : off = ![512 * n.val, 0]) :
    a.view.readAt (Elt F) (Rect.unit (s := S4096x128) off S512x128.size inb).toLoadRect (ha.unread x) = rows x n := by
  rw [show rows x n = rows (a.view.read (Elt F) (ha.unread x)) n from by rw [ha.read_unread]]
  exact View.readAt_unit a.view _ inb h _
theorem gate_load {a : Memref sig .tc .vmem S2x1x4096 .f32} (ha : a.IsWhole) (x : Vec F S2x1x4096 .f32) (p : Fin 2) (n : Fin 8) {off : Fin 3 → ℕ} (inb) (h : off = ![p.val, 0, 512 * n.val]) :
    a.view.readAt (Elt F) (Rect.unit (s := S2x1x4096) off S1x1x512.size inb).toLoadRect (ha.unread x) = gate x p n := by
  rw [show gate x p n = gate (a.view.read (Elt F) (ha.unread x)) p n from by rw [ha.read_unread]]
  exact View.readAt_unit a.view _ inb h _
theorem group_load {a : Memref sig .tc .vmem S512x256 .f32} (ha : a.IsWhole) (x : Vec F S512x256 .f32) (p : Fin 2) {off : Fin 2 → ℕ} (inb) (h : off = ![0, 128 * p.val]) :
    a.view.readAt (Elt F) (Rect.unit (s := S512x256) off S512x128.size inb).toLoadRect (ha.unread x) = group x p := by
  rw [show group x p = group (a.view.read (Elt F) (ha.unread x)) p from by rw [ha.read_unread]]
  exact View.readAt_unit a.view _ inb h _
theorem all_load {a : Memref sig .tc .vmem S512x128 .f32} (ha : a.IsWhole) (x : Vec F S512x128 .f32) (inb) :
    a.view.readAt (Elt F) (Rect.unit (s := S512x128) ![0, 0] S512x128.size inb).toLoadRect (ha.unread x) = x := by
  rw [View.readAt_full, ha.read_unread]

/-! ## The loop -/

section Loop
variable (c : Dev nD) (i : grid0.Coords) (arg2 : Memref sig .tc .vmem S512x128 .f32) (h2 : arg2.IsWhole) (arg3 : Memref sig .tc .vmem S4096x128 .f32) (h3 : arg3.IsWhole) (arg4 : Memref sig .tc .vmem S4096x128 .f32) (h4 : arg4.IsWhole) (arg5 : Memref sig .tc .vmem S512x256 .f32) (h5 : arg5.IsWhole) (arg6 : Memref sig .tc .vmem S2x1x4096 .f32) (h6 : arg6.IsWhole) (arg7 : Memref sig .tc .vmem S512x128 .bf16) (h7 : arg7.IsWhole) (arg8 : Memref sig .tc .vmem S512x256 .f32) (h8 : arg8.IsWhole)
  (x0 : Vec F S512x128 .f32) (x1 x2 : Vec F S4096x128 .f32) (x3 : Vec F S512x256 .f32) (x4 : Vec F S2x1x4096 .f32)

set_option maxHeartbeats 4000000 in
/-- One trip of the printed loop is one block added. -/
theorem trip_eq (k : Fin (k0_t1_loop i).trips) (n : Fin 8) (hn : k.val = n.val) (s : St F) :
    tripR_k0_t1 (F := F) Variants.none c none i arg2 h2 arg3 h3 arg4 h4 arg5 h5 arg6 h6 arg7 h7 arg8 h8 x0 (group x3 0) (group x3 1) (h3.unread x1) (h4.unread x2) (h6.unread x4) k s = tripV x0 x1 x2 x3 x4 n s := by
  unfold tripR_k0_t1 trip_k0_t1
  dsimp only
  sl_unfold_run_names
  have l3 := fun inb => rows_load h3 x1 n inb ((off1_eq i k).trans (by rw [hn]))
  have l4 := fun inb => rows_load h4 x2 n inb ((off1_eq i k).trans (by rw [hn]))
  have l6 := fun inb => gate_load h6 x4 0 n inb ((off2_eq i k).trans (by rw [hn]))
  have l6' := fun inb => gate_load h6 x4 1 n inb ((off3_eq i k).trans (by rw [hn]))
  rw [l3, l4, l6, l6']
  rfl

/-- The printed loop before trip `k`. -/
theorem loop_eq (k : ℕ) (hk : k ≤ (k0_t1_loop i).trips) :
    st_k0_t1 (F := F) Variants.none c none i arg2 h2 arg3 h3 arg4 h4 arg5 h5 arg6 h6 arg7 h7 arg8 h8 x0 (group x3 0) (group x3 1) (h3.unread x1) (h4.unread x2) (h6.unread x4) (k0_pay37, k0_pay36, k0_pay37, k0_pay36, k0_pay36) k = loopV x0 x1 x2 x3 x4 k := by
  induction k with
  | zero => rfl
  | succ k ih =>
    have ht := trips1 i
    have hi : (i 1).val < 8 := (i 1).isLt
    have hn : k < 8 := by omega
    have hs := st_k0_t1_succ (F := F) Variants.none c none i arg2 h2 arg3 h3 arg4 h4 arg5 h5 arg6 h6 arg7 h7 arg8 h8 x0 (group x3 0) (group x3 1) (h3.unread x1) (h4.unread x2) (h6.unread x4) (k0_pay37, k0_pay36, k0_pay37, k0_pay36, k0_pay36) ⟨k, hk⟩
    dsimp only at hs
    rw [hs, ih (by omega), trip_eq c i arg2 h2 arg3 h3 arg4 h4 arg5 h5 arg6 h6 arg7 h7 arg8 h8 x0 x1 x2 x3 x4 ⟨k, hk⟩ ⟨k, hn⟩ rfl]
    rw [loopV, dif_pos hn]

/-- The second output's two lane groups side by side. -/
def putB (s : St F) : Vec F S512x256 .f32 :=
  VecWindow.put (s := S512x256) (VecWindow.put (s := S512x256) (View.read (Elt F) VO0_6 (VO0_6.junk)) ![0, 0] S512x128.size (outB (group x3 0) s.1 s.2.1)) ![0, 128] S512x128.size (outB (group x3 1) s.2.2.1 s.2.2.2.1)

set_option maxHeartbeats 4000000 in
/-- The first output at a point. -/
theorem out5_eq : out0_A_5 c i arg2 h2 arg3 h3 arg4 h4 arg5 h5 arg6 h6 arg7 h7 arg8 h8 x0 x1 x2 x3 x4 = outO (bodyV x0 x1 x2 x3 x4 (i 1)) := by
  unfold out0_A_5 kernelRun0_A
  dsimp only
  sl_unfold_run_names
  have a0 := all_load h2 x0
  have g0 := fun inb => group_load h5 x3 0 (off := ![0, 0]) inb rfl
  have g1 := fun inb => group_load h5 x3 1 (off := ![0, 128]) inb rfl
  have e3 := fun inb => rows_load h3 x1 (i 1) inb (off7_eq i)
  have e4 := fun inb => rows_load h4 x2 (i 1) inb (off7_eq i)
  have e6 := fun inb => gate_load h6 x4 0 (i 1) inb (off8_eq i)
  have e6' := fun inb => gate_load h6 x4 1 (i 1) inb (off9_eq i)
  have t2 : Scf.trips (k0_t2_loop i).lb (k0_t2_loop i).ub (k0_t2_loop i).st = 0 := trips2 i
  have t1 := loop_eq c i arg2 h2 arg3 h3 arg4 h4 arg5 h5 arg6 h6 arg7 h7 arg8 h8 x0 x1 x2 x3 x4 _ (Nat.le_refl _)
  rw [trips1 i] at t1
  have t1' : Scf.trips (k0_t1_loop i).lb (k0_t1_loop i).ub (k0_t1_loop i).st = (i 1).val := trips1 i
  simp only [a0, g0, g1, e3, e4, e6, e6', t2, st_k0_t2_zero, t1', t1]
  rw [View.read_writes_cons_put _ _ _ _ _ rfl]
  funext y
  unfold VecWindow.put
  rw [dif_pos (fun a => ⟨by match a with | 0 => exact Nat.zero_le _ | 1 => exact Nat.zero_le _, by match a with | 0 => exact (y 0).isLt | 1 => exact (y 1).isLt⟩)]
  refine Eq.trans (congrArg _ (show _ = y from funext fun a => Fin.ext (by match a with | 0 => rfl | 1 => rfl))) ?_
  rfl

set_option maxHeartbeats 4000000 in
/-- The second output at a point. -/
theorem out6_eq : out0_A_6 c i arg2 h2 arg3 h3 arg4 h4 arg5 h5 arg6 h6 arg7 h7 arg8 h8 x0 x1 x2 x3 x4 = putB x3 (bodyV x0 x1 x2 x3 x4 (i 1)) := by
  unfold out0_A_6 kernelRun0_A
  dsimp only
  sl_unfold_run_names
  have a0 := all_load h2 x0
  have g0 := fun inb => group_load h5 x3 0 (off := ![0, 0]) inb rfl
  have g1 := fun inb => group_load h5 x3 1 (off := ![0, 128]) inb rfl
  have e3 := fun inb => rows_load h3 x1 (i 1) inb (off7_eq i)
  have e4 := fun inb => rows_load h4 x2 (i 1) inb (off7_eq i)
  have e6 := fun inb => gate_load h6 x4 0 (i 1) inb (off8_eq i)
  have e6' := fun inb => gate_load h6 x4 1 (i 1) inb (off9_eq i)
  have t2 : Scf.trips (k0_t2_loop i).lb (k0_t2_loop i).ub (k0_t2_loop i).st = 0 := trips2 i
  have t1 := loop_eq c i arg2 h2 arg3 h3 arg4 h4 arg5 h5 arg6 h6 arg7 h7 arg8 h8 x0 x1 x2 x3 x4 _ (Nat.le_refl _)
  rw [trips1 i] at t1
  have t1' : Scf.trips (k0_t1_loop i).lb (k0_t1_loop i).ub (k0_t1_loop i).st = (i 1).val := trips1 i
  simp only [a0, g0, g1, e3, e4, e6, e6', t2, st_k0_t2_zero, t1', t1]
  rw [View.read_writes_cons_put _ _ _ _ _ rfl, View.read_writes_cons_put _ _ _ _ _ rfl]
  rfl
end Loop

end Cert.AttentionIdeal.Fox

end
-- ==== Proof.Math.lean ====
module

public import Idealize.ShloMosaic.Lib.IdealHost
public import Mathlib.Analysis.SpecialFunctions.Log.Basic
public import Mathlib.Tactic.IntervalCases
public import Mathlib.Tactic.FieldSimp
public import Mathlib.Tactic.Positivity

@[expose] public section

noncomputable section

namespace Cert.Fox

open Finset

/-! ## Finite sums of reals among the extended reals -/

/-- A finite sum of reals is the real sum. -/
theorem coe_sum {n : ℕ} (f : ℕ → ℝ) : (∑ i : Fin n, ((f i.val : ℝ) : EReal)) = ((∑ i ∈ range n, f i : ℝ) : EReal) := by
  rw [Finset.sum_range]
  induction (univ : Finset (Fin n)) using Finset.induction_on with
  | empty => simp
  | insert a s ha ih => rw [sum_insert ha, sum_insert ha, ih, EReal.coe_add]
/-- A sum whose terms are known reals. -/
theorem sum_eq_coe {n : ℕ} (x : Fin n → EReal) (f : ℕ → ℝ) (h : ∀ i, x i = ((f i.val : ℝ) : EReal)) :
    (∑ i, x i) = ((∑ i ∈ range n, f i : ℝ) : EReal) := by
  rw [← coe_sum]; exact sum_congr rfl (fun i _ => h i)
/-- A sum over the first blocks and one more. -/
theorem sum_block (f : ℕ → ℝ) (m : ℕ) : (∑ t ∈ range (512 * (m + 1)), f t) = (∑ t ∈ range (512 * m), f t) + ∑ r ∈ range 512, f (512 * m + r) := by
  rw [Nat.mul_add, Nat.mul_one, sum_range_add]
/-- A sum over one head's lanes of the two heads' lanes. -/
theorem sum_half (p : ℕ) (hp : p < 2) (f : ℕ → ℝ) : (∑ l ∈ range 128, if l / 64 = p then f l else 0) = ∑ d ∈ range 64, f (64 * p + d) := by
  rw [show (128 : ℕ) = 64 + 64 from rfl, sum_range_add]
  have h0 : ∀ d ∈ range 64, d / 64 = 0 := fun d hd => by have := mem_range.1 hd; omega
  have h1 : ∀ d ∈ range 64, (64 + d) / 64 = 1 := fun d hd => by have := mem_range.1 hd; omega
  interval_cases p
  · rw [sum_congr rfl (fun d hd => by rw [if_pos (h0 d hd)]), sum_congr (s₁ := range 64) (f := fun d => if (64 + d) / 64 = 0 then f (64 + d) else 0) (g := fun _ => (0 : ℝ)) rfl (fun d hd => by rw [if_neg (by rw [h1 d hd]; decide)])]
    simp
  · rw [sum_congr (s₁ := range 64) (f := fun d => if d / 64 = 1 then f d else 0) (g := fun _ => (0 : ℝ)) rfl (fun d hd => by rw [if_neg (by rw [h0 d hd]; decide)]), sum_congr (s₁ := range 64) (f := fun d => if (64 + d) / 64 = 1 then f (64 + d) else 0) rfl (fun d hd => by rw [if_pos (h1 d hd)])]
    simp

/-! ## Two heads side by side in 128 lanes -/

section Pair
variable (q k v g : ℕ → ℕ → ℝ) (lb dl ck : ℕ → ℕ → ℝ)

/-- The logarithm of head `p`'s weight of key `s` for query `t`, -/
def pz (p t s : ℕ) : ℝ := (∑ l ∈ range 128, (if l / 64 = p then q t l * (1 / 8) else 0) * k s l) + lb p t - ck p s
/-- the weight, -/
def pw (p t s : ℕ) : ℝ := if s ≤ t then Real.exp (pz q k lb ck p t s) else 0
/-- the gradient of the logit. -/
def pd (p t s : ℕ) : ℝ := pw q k lb ck p t s * ((∑ l ∈ range 128, (if l / 64 = p then g t l else 0) * v s l) - dl p t)

theorem pw_zero {p t s : ℕ} (h : t < s) : pw q k lb ck p t s = 0 := if_neg (by omega)
theorem pd_zero {p t s : ℕ} (h : t < s) : pd q k v g lb dl ck p t s = 0 := by rw [pd, pw_zero _ _ _ _ h, zero_mul]
end Pair

/-! ## The attention and its gradient over the reals -/

section Att
variable (P G C : ℕ → ℕ → ℝ) (M : ℕ → ℕ → ℝ)

/-- Head `h`'s logit of key `s` for query `t`. -/
def Z (h t s : ℕ) : ℝ := (∑ d ∈ range 64, P t (1024 + 64 * h + d) * P s (1536 + 64 * h + d)) * (1 / 8) + C t h - C s h
/-- Its exponential less the row's maximum, zero at the keys after the query; -/
def E (h t s : ℕ) : ℝ := if s ≤ t then Real.exp (Z P C h t s - M h t) else 0
/-- the row's sum, -/
def L (h t : ℕ) : ℝ := ∑ s ∈ range 4096, E P C M h t s
/-- the weight, -/
def Y (h t s : ℕ) : ℝ := E P C M h t s / L P C M h t
/-- the output's gradient against a value, -/
def DP (h t s : ℕ) : ℝ := ∑ d ∈ range 64, G t (512 + 64 * h + d) * P s (2048 + 64 * h + d)
/-- the output, -/
def O (h t d : ℕ) : ℝ := ∑ s ∈ range 4096, Y P C M h t s * P s (2048 + 64 * h + d)
/-- the output against its gradient, -/
def Dl (h t : ℕ) : ℝ := ∑ d ∈ range 64, G t (512 + 64 * h + d) * O P C M h t d
/-- the gradient of the logit. -/
def D (h t s : ℕ) : ℝ := Y P C M h t s * (DP P G h t s - Dl P G C M h t)

theorem E_nonneg (h t s : ℕ) : 0 ≤ E P C M h t s := by
  unfold E; split_ifs <;> positivity
theorem L_pos (h t : ℕ) (ht : t < 4096) : 0 < L P C M h t := by
  refine sum_pos' (fun s _ => E_nonneg P C M h t s) ⟨t, mem_range.2 ht, ?_⟩
  unfold E; rw [if_pos le_rfl]; positivity
theorem Y_zero {h t s : ℕ} (hs : t < s) : Y P C M h t s = 0 := by
  rw [Y, E, if_neg (by omega), zero_div]
theorem D_zero {h t s : ℕ} (hs : t < s) : D P G C M h t s = 0 := by
  rw [D, Y_zero P C M hs, zero_mul]
/-- The output against its gradient is the weighted sum of the values against it. -/
theorem Dl_eq (h t : ℕ) : Dl P G C M h t = ∑ s ∈ range 4096, Y P C M h t s * DP P G h t s := by
  unfold Dl O DP
  rw [sum_congr rfl (fun d _ => mul_sum _ _ _), sum_comm]
  refine sum_congr rfl (fun s _ => ?_)
  rw [mul_sum]
  exact sum_congr rfl (fun d _ => by ring)
/-- The gradient as the quotient rule gives it. -/
theorem D_quot (h t s : ℕ) :
    (DP P G h t s / L P C M h t + -(∑ s' ∈ range 4096, DP P G h t s' * (1 / (L P C M h t * L P C M h t)) * E P C M h t s')) * E P C M h t s
      = D P G C M h t s := by
  rw [D, Dl_eq]
  have e : (∑ s' ∈ range 4096, DP P G h t s' * (1 / (L P C M h t * L P C M h t)) * E P C M h t s')
      = (∑ s' ∈ range 4096, Y P C M h t s' * DP P G h t s') / L P C M h t := by
    rw [sum_div]
    refine sum_congr rfl (fun s' _ => ?_)
    unfold Y
    by_cases h0 : L P C M h t = 0
    · rw [h0]; simp
    · field_simp
  rw [e]
  unfold Y
  by_cases h0 : L P C M h t = 0
  · rw [h0]; simp
  · ring

variable (j : ℕ)
/-- The pair `j`'s logits are those of its two heads, -/
theorem pz_eq (lb ck : ℕ → ℕ → ℝ) (p t s : ℕ) (hp : p < 2) :
    pz (fun t l => P t (1024 + 128 * j + l)) (fun s l => P s (1536 + 128 * j + l)) lb ck p t s
      = (∑ d ∈ range 64, P t (1024 + 64 * (2 * j + p) + d) * P s (1536 + 64 * (2 * j + p) + d)) * (1 / 8) + lb p t - ck p s := by
  unfold pz
  rw [sum_congr rfl (fun l _ => ite_mul _ _ _ _), sum_congr rfl (fun l _ => by rw [zero_mul]), sum_half p hp, sum_mul]
  congr 2
  refine sum_congr rfl (fun d _ => ?_)
  dsimp only
  rw [show 1024 + 128 * j + (64 * p + d) = 1024 + 64 * (2 * j + p) + d by ring, show 1536 + 128 * j + (64 * p + d) = 1536 + 64 * (2 * j + p) + d by ring]
  ring
/-- its weights too, -/
theorem pw_eq (p t s : ℕ) (hp : p < 2) (ht : t < 4096) :
    pw (fun t l => P t (1024 + 128 * j + l)) (fun s l => P s (1536 + 128 * j + l)) (fun p t => C t (2 * j + p) - (M (2 * j + p) t + Real.log (L P C M (2 * j + p) t))) (fun p s => C s (2 * j + p)) p t s
      = Y P C M (2 * j + p) t s := by
  have hL := L_pos P C M (2 * j + p) t ht
  unfold pw Y
  by_cases hs : s ≤ t
  · rw [if_pos hs, E, if_pos hs, show L P C M (2 * j + p) t = Real.exp (Real.log (L P C M (2 * j + p) t)) from (Real.exp_log hL).symm, ← Real.exp_sub]
    congr 1
    rw [pz_eq P j _ _ p t s hp, Z]
    ring
  · rw [if_neg hs, E, if_neg hs, zero_div]
/-- and so are the gradients. -/
theorem pd_eq (p t s : ℕ) (hp : p < 2) (ht : t < 4096) :
    pd (fun t l => P t (1024 + 128 * j + l)) (fun s l => P s (1536 + 128 * j + l)) (fun s l => P s (2048 + 128 * j + l)) (fun t l => G t (512 + 128 * j + l)) (fun p t => C t (2 * j + p) - (M (2 * j + p) t + Real.log (L P C M (2 * j + p) t))) (fun p t => Dl P G C M (2 * j + p) t) (fun p s => C s (2 * j + p)) p t s
      = D P G C M (2 * j + p) t s := by
  unfold pd D
  rw [pw_eq P C M j p t s hp ht]
  congr 2
  unfold DP
  rw [sum_congr rfl (fun l _ => ite_mul _ _ _ _), sum_congr rfl (fun l _ => by rw [zero_mul]), sum_half p hp]
  refine sum_congr rfl (fun d _ => ?_)
  dsimp only
  rw [show 512 + 128 * j + (64 * p + d) = 512 + 64 * (2 * j + p) + d by ring, show 2048 + 128 * j + (64 * p + d) = 2048 + 64 * (2 * j + p) + d by ring]
/-- Before the logarithm is taken off them the weights are the exponentials, all times one number of the row: -/
theorem pw_exp (p t s : ℕ) (hp : p < 2) :
    pw (fun t l => P t (1024 + 128 * j + l)) (fun s l => P s (1536 + 128 * j + l)) (fun p t => C t (2 * j + p)) (fun p s => C s (2 * j + p)) p t s
      = Real.exp (M (2 * j + p) t) * E P C M (2 * j + p) t s := by
  unfold pw E
  split_ifs
  · rw [pz_eq P j _ _ p t s hp, ← Real.exp_add, Z, add_sub_cancel]
  · rw [mul_zero]
/-- the output is a quotient of theirs -/
theorem O_quot (p t d : ℕ) (hp : p < 2) :
    (∑ s ∈ range 4096, pw (fun t l => P t (1024 + 128 * j + l)) (fun s l => P s (1536 + 128 * j + l)) (fun p t => C t (2 * j + p)) (fun p s => C s (2 * j + p)) p t s * P s (2048 + 128 * j + (64 * p + d)))
      / (∑ s ∈ range 4096, pw (fun t l => P t (1024 + 128 * j + l)) (fun s l => P s (1536 + 128 * j + l)) (fun p t => C t (2 * j + p)) (fun p s => C s (2 * j + p)) p t s)
      = O P C M (2 * j + p) t d := by
  rw [sum_congr rfl (fun s _ => by rw [pw_exp P C M j p t s hp, mul_assoc]), sum_congr (g := fun s => Real.exp (M (2 * j + p) t) * E P C M (2 * j + p) t s) rfl (fun s _ => pw_exp P C M j p t s hp),
    ← mul_sum, ← mul_sum, mul_div_mul_left _ _ (Real.exp_pos _).ne', sum_div]
  refine sum_congr rfl (fun s _ => ?_)
  rw [Y, L, show 2048 + 128 * j + (64 * p + d) = 2048 + 64 * (2 * j + p) + d by ring]
  ring
/-- and the row's logarithm that of their sum. -/
theorem log_sum (p t : ℕ) (hp : p < 2) (ht : t < 4096) :
    Real.log (∑ s ∈ range 4096, pw (fun t l => P t (1024 + 128 * j + l)) (fun s l => P s (1536 + 128 * j + l)) (fun p t => C t (2 * j + p)) (fun p s => C s (2 * j + p)) p t s)
      = M (2 * j + p) t + Real.log (L P C M (2 * j + p) t) := by
  rw [sum_congr rfl (fun s _ => pw_exp P C M j p t s hp), ← mul_sum, ← L, Real.log_mul (Real.exp_pos _).ne' (L_pos P C M _ t ht).ne', Real.log_exp]
end Att

end Cert.Fox

end
-- ==== Proof.Rows.lean ====
module

public import proofs.«01_k».proof.Proof.Math
public import Idealize.ShloMosaic.Lib.WordCmp
public import Idealize.ShloMosaic.Lib.Pointwise

@[expose] public section

noncomputable section

namespace Cert.Fox

open Finset Idealize.ShloMosaic

/-! ## A causal row of logits -/

/-- The largest of the first `t + 1` numbers. -/
def top (f : ℕ → ℝ) (t : ℕ) : ℝ := (range (t + 1)).sup' ⟨0, mem_range.2 (Nat.succ_pos t)⟩ f
/-- A row's running maximum is the largest of its numbers, the masked ones being negative infinity. -/
theorem fold_top (z : Fin 4096 → EReal) (f : ℕ → ℝ) (t : ℕ) (ht : t < 4096) (hz : ∀ s, z s = if s.val ≤ t then ((f s.val : ℝ) : EReal) else ⊥) :
    Finset.univ.fold max ⊥ z = ((top f t : ℝ) : EReal) := by
  refine le_antisymm ((Finset.fold_max_le _).2 ⟨bot_le, fun s _ => ?_⟩) ((Finset.le_fold_max _).2 (Or.inr ?_))
  · rw [hz]
    split_ifs with h
    · exact EReal.coe_le_coe_iff.2 (Finset.le_sup' f (mem_range.2 (Nat.lt_succ_of_le h)))
    · exact bot_le
  · obtain ⟨s, hs, e⟩ := Finset.exists_mem_eq_sup' (⟨0, mem_range.2 (Nat.succ_pos t)⟩ : (range (t + 1)).Nonempty) f
    have hs' : s ≤ t := Nat.lt_succ_iff.1 (mem_range.1 hs)
    refine ⟨⟨s, Nat.lt_of_le_of_lt hs' ht⟩, mem_univ _, ?_⟩
    rw [hz, if_pos hs', top, e]

/-- A choice by a bit. -/
theorem select_ite {α : Type} (p : Prop) [Decidable p] (x y : α) : Scalar.select (BitVec.ofBool (decide p)) x y = if p then x else y := by
  by_cases h : p <;> simp [Scalar.select, h]

/-- The exponential of a masked logit less the row's maximum. -/
theorem exp_row (a : EReal) (t s : ℕ) (x M : ℝ) (ha : a = if s ≤ t then (x : EReal) else ⊥) :
    Ideal.exp (a - (M : EReal)) = ((if s ≤ t then Real.exp (x - M) else 0 : ℝ) : EReal) := by
  rw [ha]
  split_ifs with h
  · rw [← EReal.coe_sub]; rfl
  · rw [EReal.bot_sub]; rfl

/-- The quotient of two reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The logarithm of a positive real. -/
theorem log_coe (x : ℝ) (hx : 0 < x) : Ideal.log (x : EReal) = ((Real.log x : ℝ) : EReal) := by
  show (if x ≤ 0 then (⊥ : EReal) else ((Real.log x : ℝ) : EReal)) = _
  rw [if_neg (not_le.2 hx)]

theorem neg_inf : Ideal.ofBits .f32 0xFF800000#32 = ⊥ := by
  simp [Ideal.ofBits, Ideal.ieee]

/-- The scale's pattern is an eighth. -/
theorem eighth : Ideal.ofBits .f32 0x3E000000#32 = ((1 / 8 : ℝ) : EReal) := by
  simp [Ideal.ofBits, Ideal.ieee, -EReal.coe_mul]; norm_num

/-- The row maximum of head `h`'s logits for query `t`. -/
def mx (P C : ℕ → ℕ → ℝ) (h t : ℕ) : ℝ := top (Z P C h t) t

/-- The reals of an array of extended reals, read at any pair of numbers. -/
def reals {n k : ℕ} (x : FVec Ideal ⟨2, ![n, k]⟩ .f32) (t a : ℕ) : ℝ :=
  if h : t < n ∧ a < k then EReal.toReal (x (ix2 ⟨t, h.1⟩ ⟨a, h.2⟩)) else 0
theorem reals_at {n k : ℕ} (x : FVec Ideal ⟨2, ![n, k]⟩ .f32) (t : Fin n) (a : Fin k) : reals x t.val a.val = EReal.toReal (x (ix2 t a)) :=
  dif_pos ⟨t.isLt, a.isLt⟩

end Cert.Fox

end
-- ==== Proof.Attention.Row.lean ====
module

public import proofs.«01_k».proof.Proof.Attention.Run
public import proofs.«01_k».proof.Proof.Rows
public import Idealize.ShloMosaic.Lib.Pointwise
public import Idealize.ShloMosaic.Lib.WordCmp

@[expose] public section

set_option maxRecDepth 16384

noncomputable section

namespace Cert.AttentionIdeal.Fox

open Cert.AttentionIdeal.Gen Cert.Fox
open Idealize.ShloMosaic
open Finset (range mem_range univ mem_univ sum_congr mul_sum)

/-! ## The block operations at an index -/

theorem wide_apply (x : FVec Ideal S512x128 .f32) (r s : Fin 512) : wide x (ix2 r s) = x (ix2 r ⟨s.val % 128, Nat.mod_lt _ (by decide)⟩) := by
  pointwise [wide]
  split_ifs <;> refine congrArg x (congrArg (ix2 r) (Fin.ext ?_)) <;> dsimp only <;> omega
theorem newM_apply (m : FVec Ideal S512x128 .f32) (sc : FVec Ideal S512x512 .f32) (r : Fin 512) (a : Fin 128) :
    newM m sc (ix2 r a) = max (m (ix2 r a)) (univ.fold max ⊥ fun s : Fin 512 => sc (ix2 r s)) := by
  pointwise [newM]
  rw [neg_inf]
theorem wts_apply (m : FVec Ideal S512x128 .f32) (sc : FVec Ideal S512x512 .f32) (r s : Fin 512) :
    wts m sc (ix2 r s) = Ideal.exp (sc (ix2 r s) - newM m sc (ix2 r ⟨s.val % 128, Nat.mod_lt _ (by decide)⟩)) := by
  rw [← wide_apply (newM m sc) r s]
  pointwise [wts]
theorem alpha_apply (m : FVec Ideal S512x128 .f32) (sc : FVec Ideal S512x512 .f32) (r : Fin 512) (a : Fin 128) :
    alpha m sc (ix2 r a) = Ideal.exp (m (ix2 r a) - newM m sc (ix2 r a)) := by pointwise [alpha]
theorem newL_apply (m l : FVec Ideal S512x128 .f32) (sc : FVec Ideal S512x512 .f32) (r : Fin 512) (a : Fin 128) :
    newL m l sc (ix2 r a) = alpha m sc (ix2 r a) * l (ix2 r a) + ∑ s : Fin 512, wts m sc (ix2 r s) := by pointwise [newL]
theorem newA_apply (m acc : FVec Ideal S512x128 .f32) (sc : FVec Ideal S512x512 .f32) (v : Vec Ideal S512x128 .f32) (r : Fin 512) (a : Fin 128) :
    newA m acc sc v (ix2 r a) = acc (ix2 r a) * alpha m sc (ix2 r a) + ∑ s : Fin 512, wts m sc (ix2 r s) * v (ix2 s a) := by pointwise [newA]
/-- A lane's choice between the heads. -/
theorem lane_apply (x y : FVec Ideal S512x128 .f32) (r : Fin 512) (a : Fin 128) :
    select (k0_pay29) x y (ix2 r a) = if a.val / 64 = 0 then x (ix2 r a) else y (ix2 r a) := by
  pointwise [k0_pay29]
  rw [WordCmp.cmpi_slt_ofNat (w := 32) (b := 64) (by show a.val < 2 ^ 31; omega) (by decide), select_ite]
  exact if_congr (by omega) rfl rfl

/-! ## A row's running softmax -/

/-- The maximum of reals and −∞, one of them real, is real. -/
theorem fold_real (z : Fin 512 → EReal) (h : ∀ s, z s ≠ ⊤) (s : Fin 512) (hs : z s ≠ ⊥) : ∃ ν : ℝ, univ.fold max ⊥ z = (ν : EReal) := by
  have h1 : univ.fold max ⊥ z < ⊤ := (Finset.fold_max_lt _).2 ⟨bot_lt_top, fun s _ => lt_top_iff_ne_top.2 (h s)⟩
  have h2 : ⊥ < univ.fold max ⊥ z := (Finset.lt_fold_max _).2 (Or.inr ⟨s, mem_univ _, bot_lt_iff_ne_bot.2 hs⟩)
  exact ⟨_, (EReal.coe_toReal h1.ne h2.ne').symm⟩

/-- Head `p`'s row `r` of what is carried: nothing yet, or at some real level `μ` (a maximum so far) the sums `L` of the exponentials and `A` of the weighted values, each times `exp (-μ)`. -/
def Row (p : ℕ) (m l acc : FVec Ideal S512x128 .f32) (r : Fin 512) (L : ℝ) (A : ℕ → ℝ) : Prop :=
  (L = 0 ∧ ∀ a : Fin 128, m (ix2 r a) = ⊥ ∧ l (ix2 r a) = 0 ∧ A a.val = 0 ∧ (a.val / 64 = p → acc (ix2 r a) = 0)) ∨
    ∃ μ : ℝ, ∀ a : Fin 128, m (ix2 r a) = (μ : EReal) ∧ l (ix2 r a) = ((Real.exp (-μ) * L : ℝ) : EReal) ∧ (a.val / 64 = p → acc (ix2 r a) = ((Real.exp (-μ) * A a.val : ℝ) : EReal))

/-- One more block: the sums grow by the block's, whatever the levels. -/
theorem Row.step {p : ℕ} {m l acc : FVec Ideal S512x128 .f32} {r : Fin 512} {L : ℝ} {A : ℕ → ℝ} (h : Row p m l acc r L A)
    (sc : FVec Ideal S512x512 .f32) (v : Vec Ideal S512x128 .f32) (acc' : FVec Ideal S512x128 .f32) (on : ℕ → Prop) [DecidablePred on] (z : ℕ → ℝ) (V : ℕ → ℕ → ℝ)
    (s0 : Fin 512) (h0 : on s0.val) (hsc : ∀ s : Fin 512, sc (ix2 r s) = if on s.val then ((z s.val : ℝ) : EReal) else ⊥)
    (hv : ∀ (s : Fin 512) (a : Fin 128), v (ix2 s a) = ((V s.val a.val : ℝ) : EReal))
    (hacc : ∀ a : Fin 128, a.val / 64 = p → acc' (ix2 r a) = newA m acc sc v (ix2 r a)) :
    Row p (newM m sc) (newL m l sc) acc' r (L + ∑ s ∈ range 512, if on s then Real.exp (z s) else 0)
      (fun a => A a + ∑ s ∈ range 512, (if on s then Real.exp (z s) else 0) * V s a) := by
  obtain ⟨ν0, hν0⟩ := fold_real (fun s => sc (ix2 r s)) (fun s => by rw [hsc]; split_ifs; exact EReal.coe_ne_top _; exact bot_ne_top) s0 (by rw [hsc, if_pos h0]; exact EReal.coe_ne_bot _)
  obtain ⟨ν, hν⟩ : ∃ ν : ℝ, ∀ a : Fin 128, newM m sc (ix2 r a) = (ν : EReal) := by
    rcases h with ⟨-, h⟩ | ⟨μ, h⟩
    · exact ⟨ν0, fun a => by rw [newM_apply, hν0, (h a).1]; exact max_eq_right bot_le⟩
    · exact ⟨max μ ν0, fun a => by rw [newM_apply, hν0, (h a).1]; exact (EReal.coe_strictMono.monotone.map_max).symm⟩
  have hw : ∀ s : Fin 512, wts m sc (ix2 r s) = ((Real.exp (-ν) * (if on s.val then Real.exp (z s.val) else 0) : ℝ) : EReal) := fun s => by
    rw [wts_apply, hν, hsc]
    split_ifs
    · rw [← EReal.coe_sub, ← Real.exp_add, neg_add_eq_sub]; rfl
    · rw [EReal.bot_sub, mul_zero]; rfl
  have hl : ∑ s : Fin 512, wts m sc (ix2 r s) = ((Real.exp (-ν) * ∑ s ∈ range 512, (if on s then Real.exp (z s) else 0) : ℝ) : EReal) := by
    rw [sum_eq_coe _ (fun s => Real.exp (-ν) * (if on s then Real.exp (z s) else 0)) hw, mul_sum]
  have ha : ∀ a : Fin 128, ∑ s : Fin 512, wts m sc (ix2 r s) * v (ix2 s a) = ((Real.exp (-ν) * ∑ s ∈ range 512, (if on s then Real.exp (z s) else 0) * V s a.val : ℝ) : EReal) := fun a => by
    rw [sum_eq_coe _ (fun s => Real.exp (-ν) * ((if on s then Real.exp (z s) else 0) * V s a.val)) (fun s => by rw [hw, hv, ← EReal.coe_mul, mul_assoc]), mul_sum]
  refine Or.inr ⟨ν, fun a => ⟨hν a, ?_, fun hp => ?_⟩⟩
  · rw [newL_apply, hl, alpha_apply, hν]
    rcases h with ⟨h, hb⟩ | ⟨μ, h⟩
    · rw [(hb a).2.1, mul_zero, zero_add, h, zero_add]
    · rw [(h a).1, (h a).2.1, ← EReal.coe_sub]
      show ((Real.exp (μ - ν) : ℝ) : EReal) * _ + _ = _
      rw [← EReal.coe_mul, ← EReal.coe_add, ← mul_assoc, ← Real.exp_add, mul_add, show μ - ν + -μ = -ν by ring]
  · rw [hacc a hp, newA_apply, ha, alpha_apply, hν]
    rcases h with ⟨h, hb⟩ | ⟨μ, h⟩
    · dsimp only
      rw [(hb a).2.2.2 hp, zero_mul, zero_add, (hb a).2.2.1, zero_add]
    · rw [(h a).1, (h a).2.2 hp, ← EReal.coe_sub]
      show _ * ((Real.exp (μ - ν) : ℝ) : EReal) + _ = _
      rw [← EReal.coe_mul, ← EReal.coe_add, mul_right_comm, ← Real.exp_add, mul_add, show -μ + (μ - ν) = -ν by ring]

/-- At the end the level cancels from the quotient -/
theorem Row.quot {p : ℕ} {m l acc : FVec Ideal S512x128 .f32} {r : Fin 512} {L : ℝ} {A : ℕ → ℝ} (h : Row p m l acc r L A) (hL : 0 < L) (a : Fin 128) (hp : a.val / 64 = p) :
    Ideal.div (acc (ix2 r a)) (l (ix2 r a)) = ((A a.val / L : ℝ) : EReal) := by
  rcases h with ⟨h, -⟩ | ⟨μ, h⟩
  · exact absurd h hL.ne'
  · rw [(h a).2.2 hp, (h a).2.1, div_coe _ _ (by positivity), mul_div_mul_left _ _ (Real.exp_pos _).ne']
/-- and from the logarithm. -/
theorem Row.log {p : ℕ} {m l acc : FVec Ideal S512x128 .f32} {r : Fin 512} {L : ℝ} {A : ℕ → ℝ} (h : Row p m l acc r L A) (hL : 0 < L) (a : Fin 128) :
    m (ix2 r a) + Ideal.log (l (ix2 r a)) = ((Real.log L : ℝ) : EReal) := by
  rcases h with ⟨h, -⟩ | ⟨μ, h⟩
  · exact absurd h hL.ne'
  · rw [(h a).1, (h a).2.1, log_coe _ (by positivity), ← EReal.coe_add, Real.log_mul (Real.exp_pos _).ne' hL.ne', Real.log_exp, add_neg_cancel_left]

end Cert.AttentionIdeal.Fox

end
-- ==== Proof.Attention.Heads.lean ====
module

public import proofs.«01_k».proof.Proof.Attention.Row

@[expose] public section

set_option maxRecDepth 16384

noncomputable section

namespace Cert.AttentionIdeal.Fox

open Cert.AttentionIdeal.Gen Cert.Fox
open Idealize.ShloMosaic
open Finset (range mem_range sum_congr)

/-! ## The loads and scores at an index -/

theorem rows_apply (x : Vec Ideal S4096x128 .f32) (n : Fin 8) (r : Fin 512) (l : Fin 128) : rows (F := Ideal) x n (ix2 r l) = x (ix2 ⟨512 * n.val + r.val, by omega⟩ l) := by
  unfold rows VecWindow.window
  congr 1; funext a; apply Fin.ext
  match a with
  | ⟨0, _⟩ => show 512 * n.val + 1 * r.val = 512 * n.val + r.val; rw [Nat.one_mul]
  | ⟨1, _⟩ => show 0 + 1 * l.val = l.val; rw [Nat.one_mul, Nat.zero_add]
theorem gate_apply (x : Vec Ideal S2x1x4096 .f32) (p : Fin 2) (n : Fin 8) (s : Fin 512) : gate (F := Ideal) x p n (ix3 0 0 s) = x (ix3 p 0 ⟨512 * n.val + s.val, by omega⟩) := by
  unfold gate VecWindow.window
  congr 1; funext a; apply Fin.ext
  match a with
  | ⟨0, _⟩ => show p.val + 1 * 0 = _; rfl
  | ⟨1, _⟩ => rfl
  | ⟨2, _⟩ => show 512 * n.val + 1 * s.val = 512 * n.val + s.val; rw [Nat.one_mul]
theorem group_apply (x : Vec Ideal S512x256 .f32) (p : Fin 2) (r : Fin 512) (l : Fin 128) : group (F := Ideal) x p (ix2 r l) = x (ix2 r ⟨128 * p.val + l.val, by omega⟩) := by
  unfold group VecWindow.window
  congr 1; funext a; apply Fin.ext
  match a with
  | ⟨0, _⟩ => show 0 + 1 * r.val = r.val; rw [Nat.one_mul, Nat.zero_add]
  | ⟨1, _⟩ => show 128 * p.val + 1 * l.val = 128 * p.val + l.val; rw [Nat.one_mul]
/-- The scaled queries of the first head -/
theorem pay30_apply (x : Vec Ideal S512x128 .f32) (r : Fin 512) (l : Fin 128) : k0_pay30 x (ix2 r l) = if l.val / 64 = 0 then x (ix2 r l) * ((1 / 8 : ℝ) : EReal) else 0 := by
  pointwise [k0_pay30, k0_pay29, k0_pay28]
  rw [WordCmp.cmpi_slt_ofNat (w := 32) (b := 64) (by show l.val < 2 ^ 31; omega) (by decide), select_ite, eighth]
  exact if_congr (by omega) rfl rfl
/-- and the second's. -/
theorem pay31_apply (x : Vec Ideal S512x128 .f32) (r : Fin 512) (l : Fin 128) : k0_pay31 x (ix2 r l) = if l.val / 64 = 1 then x (ix2 r l) * ((1 / 8 : ℝ) : EReal) else 0 := by
  pointwise [k0_pay31, k0_pay28]
  rw [WordCmp.cmpi_sge_ofNat (w := 32) (b := 64) (by show l.val < 2 ^ 31; omega) (by decide), select_ite, eighth]
  exact if_congr (by omega) rfl rfl
theorem pay34_eq (x : Vec Ideal S512x128 .f32) : k0_pay34 x = wide (k0_pay32 x) := rfl
theorem pay35_eq (x : Vec Ideal S512x128 .f32) : k0_pay35 x = wide (k0_pay33 x) := rfl
theorem pay32_apply (x : Vec Ideal S512x128 .f32) (r : Fin 512) (l : Fin 128) : k0_pay32 x (ix2 r l) = x (ix2 r l) := by pointwise [k0_pay32]
theorem pay33_apply (x : Vec Ideal S512x128 .f32) (r : Fin 512) (l : Fin 128) : k0_pay33 x (ix2 r l) = x (ix2 r l) := by pointwise [k0_pay33]
theorem pay8_apply (q : FVec Ideal S512x128 .bf16) (b : FVec Ideal S512x512 .f32) (k : Vec Ideal S512x128 .f32) (g : Vec Ideal S1x1x512 .f32) (r s : Fin 512) :
    k0_pay8 q b k g (ix2 r s) = (∑ l : Fin 128, q (ix2 r l) * k (ix2 s l)) + b (ix2 r s) - g (ix3 0 0 s) := by
  pointwise [k0_pay8, k0_pay6]
theorem pay14_eq (q : FVec Ideal S512x128 .bf16) (b : FVec Ideal S512x512 .f32) (k : Vec Ideal S512x128 .f32) (g : Vec Ideal S1x1x512 .f32) : k0_pay14 q b k g = k0_pay8 q b k g := rfl
theorem pay48_apply (q : FVec Ideal S512x128 .bf16) (b : FVec Ideal S512x512 .f32) (k : Vec Ideal S512x128 .f32) (g : Vec Ideal S1x1x512 .f32) (r s : Fin 512) :
    k0_pay48 q b (k0_pay46 k) g (ix2 r s) = if s.val ≤ r.val then k0_pay8 q b k g (ix2 r s) else ⊥ := by
  rw [pay8_apply]
  pointwise [k0_pay48, k0_pay46, k0_pay45]
  rw [WordCmp.cmpi_sle_ofNat (w := 32) (by show s.val < 2 ^ 31; omega) (by show r.val < 2 ^ 31; omega), select_ite]
  rfl
theorem pay54_eq (q : FVec Ideal S512x128 .bf16) (b : FVec Ideal S512x512 .f32) (k : Vec Ideal S512x128 .f32) (g : Vec Ideal S1x1x512 .f32) : k0_pay54 q b (k0_pay46 k) g = k0_pay48 q b (k0_pay46 k) g := rfl

/-! ## A query block's heads -/

section Block
variable (x0 : Vec Ideal S512x128 .f32) (x1 x2 : Vec Ideal S4096x128 .f32) (x3 : Vec Ideal S512x256 .f32) (x4 : Vec Ideal S2x1x4096 .f32)
variable (q k v : ℕ → ℕ → ℝ) (lb ck : ℕ → ℕ → ℝ) (n : Fin 8)

/-- The blocks loaded hold these reals: queries, keys, values and the gates of query and key. -/
structure Holds : Prop where
  q : ∀ (r : Fin 512) (l : Fin 128), x0 (ix2 r l) = ((q (512 * n.val + r.val) l.val : ℝ) : EReal)
  k : ∀ (s : Fin 4096) (l : Fin 128), x1 (ix2 s l) = ((k s.val l.val : ℝ) : EReal)
  v : ∀ (s : Fin 4096) (l : Fin 128), x2 (ix2 s l) = ((v s.val l.val : ℝ) : EReal)
  lb : ∀ (p : Fin 2) (r : Fin 512) (l : Fin 128), x3 (ix2 r ⟨128 * p.val + l.val, by omega⟩) = ((lb p.val (512 * n.val + r.val) : ℝ) : EReal)
  ck : ∀ (p : Fin 2) (s : Fin 4096), x4 (ix3 p 0 s) = ((ck p.val s.val : ℝ) : EReal)

/-- The sum of head `p`'s weights of the first `K` blocks' keys, -/
def wsum (p t K : ℕ) : ℝ := ∑ s ∈ range (512 * K), pw q k lb ck p t s
/-- and of the weighted values. -/
def vsum (p t K a : ℕ) : ℝ := ∑ s ∈ range (512 * K), pw q k lb ck p t s * v s a
/-- What is carried after `K` blocks holds those sums. -/
def Sums (K : ℕ) (s : St Ideal) : Prop := ∀ r : Fin 512,
  Row 0 s.1 s.2.1 s.2.2.2.2 r (wsum q k lb ck 0 (512 * n.val + r.val) K) (vsum q k v lb ck 0 (512 * n.val + r.val) K) ∧
  Row 1 s.2.2.1 s.2.2.2.1 s.2.2.2.2 r (wsum q k lb ck 1 (512 * n.val + r.val) K) (vsum q k v lb ck 1 (512 * n.val + r.val) K)

variable {x0 x1 x2 x3 x4 q k v lb ck n} (H : Holds x0 x1 x2 x3 x4 q k v lb ck n)
include H
theorem score (qp : FVec Ideal S512x128 .bf16) (p : Fin 2) (hq : ∀ (r : Fin 512) (l : Fin 128), qp (ix2 r l) = if l.val / 64 = p.val then x0 (ix2 r l) * ((1 / 8 : ℝ) : EReal) else 0)
    (b : FVec Ideal S512x512 .f32) (hb : ∀ r s : Fin 512, b (ix2 r s) = group x3 p (ix2 r ⟨s.val % 128, Nat.mod_lt _ (by decide)⟩)) (K : Fin 8) (r s : Fin 512) :
    k0_pay8 qp b (rows x1 K) (gate x4 p K) (ix2 r s) = ((pz q k lb ck p.val (512 * n.val + r.val) (512 * K.val + s.val) : ℝ) : EReal) := by
  rw [pay8_apply, hb, group_apply, H.lb p r ⟨s.val % 128, Nat.mod_lt _ (by decide)⟩, gate_apply, H.ck,
    sum_eq_coe _ (fun l => (if l / 64 = p.val then q (512 * n.val + r.val) l * (1 / 8) else 0) * k (512 * K.val + s.val) l) (fun l => by
      rw [hq, rows_apply, H.k]
      split_ifs
      · rw [H.q, ← EReal.coe_mul, ← EReal.coe_mul]
      · rw [zero_mul, zero_mul]; rfl), ← EReal.coe_add, ← EReal.coe_sub]
  rfl
theorem score0 (K : Fin 8) (r s : Fin 512) : k0_pay8 (k0_pay30 x0) (k0_pay34 (group x3 0)) (rows x1 K) (gate x4 0 K) (ix2 r s) = ((pz q k lb ck 0 (512 * n.val + r.val) (512 * K.val + s.val) : ℝ) : EReal) :=
  score H _ 0 (pay30_apply x0) _ (fun r s => by rw [pay34_eq, wide_apply, pay32_apply]) K r s
theorem score1 (K : Fin 8) (r s : Fin 512) : k0_pay8 (k0_pay31 x0) (k0_pay35 (group x3 1)) (rows x1 K) (gate x4 1 K) (ix2 r s) = ((pz q k lb ck 1 (512 * n.val + r.val) (512 * K.val + s.val) : ℝ) : EReal) :=
  score H _ 1 (pay31_apply x0) _ (fun r s => by rw [pay35_eq, wide_apply, pay33_apply]) K r s

/-- A block added, its scores masked or all before the query. -/
theorem Sums.step {K : Fin 8} (hK : K.val ≤ n.val) {st : St Ideal} (h : Sums q k v lb ck n K.val st) (sc0 sc1 : FVec Ideal S512x512 .f32)
    (h0 : ∀ r s : Fin 512, sc0 (ix2 r s) = if 512 * K.val + s.val ≤ 512 * n.val + r.val then ((pz q k lb ck 0 (512 * n.val + r.val) (512 * K.val + s.val) : ℝ) : EReal) else ⊥)
    (h1 : ∀ r s : Fin 512, sc1 (ix2 r s) = if 512 * K.val + s.val ≤ 512 * n.val + r.val then ((pz q k lb ck 1 (512 * n.val + r.val) (512 * K.val + s.val) : ℝ) : EReal) else ⊥) :
    Sums q k v lb ck n (K.val + 1) (stepV sc0 sc1 (rows x2 K) st) := by
  intro r
  have hv : ∀ (s : Fin 512) (a : Fin 128), rows (F := Ideal) x2 K (ix2 s a) = ((v (512 * K.val + s.val) a.val : ℝ) : EReal) := fun s a => by rw [rows_apply, H.v]
  have w : ∀ p, wsum q k lb ck p (512 * n.val + r.val) (K.val + 1) = wsum q k lb ck p (512 * n.val + r.val) K.val + ∑ s ∈ range 512, (if 512 * K.val + s ≤ 512 * n.val + r.val then Real.exp (pz q k lb ck p (512 * n.val + r.val) (512 * K.val + s)) else 0) := fun p => sum_block _ _
  have y : ∀ p, vsum q k v lb ck p (512 * n.val + r.val) (K.val + 1) = fun a => vsum q k v lb ck p (512 * n.val + r.val) K.val a + ∑ s ∈ range 512, (if 512 * K.val + s ≤ 512 * n.val + r.val then Real.exp (pz q k lb ck p (512 * n.val + r.val) (512 * K.val + s)) else 0) * v (512 * K.val + s) a := fun p => funext fun a => sum_block _ _
  rw [w, w, y, y]
  refine ⟨(h r).1.step sc0 (rows x2 K) _ (fun s => 512 * K.val + s ≤ 512 * n.val + r.val) _ (fun s a => v (512 * K.val + s) a) 0 ?_ (h0 r) hv (fun a ha => ?_),
    (h r).2.step sc1 (rows x2 K) _ (fun s => 512 * K.val + s ≤ 512 * n.val + r.val) _ (fun s a => v (512 * K.val + s) a) 0 ?_ (h1 r) hv (fun a ha => ?_)⟩
  · show 512 * K.val + 0 ≤ 512 * n.val + r.val; omega
  · exact (lane_apply _ _ r a).trans (if_pos ha)
  · show 512 * K.val + 0 ≤ 512 * n.val + r.val; omega
  · exact (lane_apply _ _ r a).trans (if_neg (by omega))

/-- The blocks before the diagonal. -/
theorem loop_sums (K : ℕ) (hK : K ≤ n.val) : Sums q k v lb ck n K (loopV x0 x1 x2 x3 x4 K) := by
  induction K with
  | zero =>
    have b : ∀ (r : Fin 512) (a : Fin 128), k0_pay37 (F := Ideal) (ix2 r a) = ⊥ := fun r a => rfl
    have z : ∀ (r : Fin 512) (a : Fin 128), k0_pay36 (F := Ideal) (ix2 r a) = 0 := fun r a => by pointwise [k0_pay36]
    exact fun r => ⟨Or.inl ⟨rfl, fun a => ⟨b r a, z r a, rfl, fun _ => z r a⟩⟩, Or.inl ⟨rfl, fun a => ⟨b r a, z r a, rfl, fun _ => z r a⟩⟩⟩
  | succ K ih =>
    have hn : K < 8 := by omega
    rw [loopV, dif_pos hn]
    exact Sums.step H (K := ⟨K, hn⟩) (by dsimp only; omega) (ih (by omega)) _ _ (fun r s => (score0 H _ r s).trans (if_pos (by dsimp only; omega)).symm) (fun r s => (score1 H _ r s).trans (if_pos (by dsimp only; omega)).symm)
/-- All the blocks. -/
theorem body_sums : Sums q k v lb ck n (n.val + 1) (bodyV x0 x1 x2 x3 x4 n) :=
  Sums.step H le_rfl (loop_sums H n.val le_rfl) _ _
    (fun r s => by rw [pay48_apply, score0 H]; exact if_congr (by omega) rfl rfl)
    (fun r s => by rw [pay54_eq, pay48_apply, score1 H]; exact if_congr (by omega) rfl rfl)

omit H in
/-- The keys after the diagonal block weigh nothing. -/
theorem sum_all (f : ℕ → ℝ) (n : ℕ) (hn : n < 8) (h : ∀ s, 512 * (n + 1) ≤ s → f s = 0) : ∑ s ∈ range (512 * (n + 1)), f s = ∑ s ∈ range 4096, f s :=
  Finset.sum_subset (fun s hs => mem_range.2 (by have := mem_range.1 hs; omega)) (fun s _ hs => h s (by have := mt mem_range.2 hs; omega))

/-- The output's rows -/
theorem outO_apply (r : Fin 512) (a : Fin 128) :
    outO (bodyV x0 x1 x2 x3 x4 n) (ix2 r a) = (((∑ s ∈ range 4096, pw q k lb ck (a.val / 64) (512 * n.val + r.val) s * v s a.val) / ∑ s ∈ range 4096, pw q k lb ck (a.val / 64) (512 * n.val + r.val) s : ℝ) : EReal) := by
  have hz : ∀ p s, 512 * (n.val + 1) ≤ s → pw q k lb ck p (512 * n.val + r.val) s = 0 := fun p s hs => pw_zero q k lb ck (by omega)
  have hw : ∀ p, 0 < wsum q k lb ck p (512 * n.val + r.val) (n.val + 1) := fun p =>
    Finset.sum_pos' (fun s _ => by unfold pw; split_ifs <;> positivity) ⟨512 * n.val + r.val, mem_range.2 (by omega), by unfold pw; rw [if_pos le_rfl]; positivity⟩
  have e : outO (F := Ideal) (bodyV x0 x1 x2 x3 x4 n) (ix2 r a) = Ideal.div ((bodyV x0 x1 x2 x3 x4 n).2.2.2.2 (ix2 r a)) (select (k0_pay29) (bodyV x0 x1 x2 x3 x4 n).2.1 (bodyV x0 x1 x2 x3 x4 n).2.2.2.1 (ix2 r a)) := by
    unfold outO; rfl
  have hs := body_sums H r
  rw [e, lane_apply, ← sum_all _ n.val n.isLt (hz _), ← sum_all _ n.val n.isLt (fun s h => by rw [hz _ s h, zero_mul])]
  by_cases ha : a.val / 64 = 0
  · rw [if_pos ha, ha]
    exact hs.1.quot (hw 0) a ha
  · have ha' : a.val / 64 = 1 := by omega
    rw [if_neg ha, ha']
    exact hs.2.quot (hw 1) a ha'
/-- and the gates less the rows' logarithms. -/
theorem putB_apply (r : Fin 512) (a : Fin 256) :
    putB x3 (bodyV x0 x1 x2 x3 x4 n) (ix2 r a) = ((lb (a.val / 128) (512 * n.val + r.val) - Real.log (∑ s ∈ range 4096, pw q k lb ck (a.val / 128) (512 * n.val + r.val) s) : ℝ) : EReal) := by
  have hz : ∀ p s, 512 * (n.val + 1) ≤ s → pw q k lb ck p (512 * n.val + r.val) s = 0 := fun p s hs => pw_zero q k lb ck (by omega)
  have hw : ∀ p, 0 < wsum q k lb ck p (512 * n.val + r.val) (n.val + 1) := fun p =>
    Finset.sum_pos' (fun s _ => by unfold pw; split_ifs <;> positivity) ⟨512 * n.val + r.val, mem_range.2 (by omega), by unfold pw; rw [if_pos le_rfl]; positivity⟩
  have ob : ∀ (g m l : FVec Ideal S512x128 .f32) (b : Fin 128), outB g m l (ix2 r b) = g (ix2 r b) - (m (ix2 r b) + Ideal.log (l (ix2 r b))) := fun g m l b => by pointwise [outB]
  have hs := body_sums H r
  rw [← sum_all _ n.val n.isLt (hz _)]
  unfold putB VecWindow.put
  by_cases ha : 128 ≤ a.val
  · have hh : ∀ d : Fin 2, (![0, 128] : Fin 2 → ℕ) d ≤ ((ix2 r a : S512x256.Idx) d).val ∧ ((ix2 r a : S512x256.Idx) d).val < (![0, 128] : Fin 2 → ℕ) d + S512x128.size d := fun d => by
      match d with
      | ⟨0, _⟩ => exact ⟨Nat.zero_le _, by show r.val < 0 + 512; omega⟩
      | ⟨1, _⟩ => exact ⟨ha, by show a.val < 128 + 128; omega⟩
    rw [dif_pos hh]
    refine Eq.trans (congrArg _ (show _ = ix2 r (⟨a.val - 128, by omega⟩ : Fin 128) from funext fun d => Fin.ext (by match d with | 0 => rfl | 1 => rfl))) ?_
    rw [ob, hs.2.log (hw 1), group_apply, H.lb 1 r ⟨a.val - 128, by omega⟩, ← EReal.coe_sub, show a.val / 128 = 1 by omega]
    rfl
  · have hn : ¬ ∀ d : Fin 2, (![0, 128] : Fin 2 → ℕ) d ≤ ((ix2 r a : S512x256.Idx) d).val ∧ ((ix2 r a : S512x256.Idx) d).val < (![0, 128] : Fin 2 → ℕ) d + S512x128.size d := fun h => ha (h 1).1
    have hh : ∀ d : Fin 2, (![0, 0] : Fin 2 → ℕ) d ≤ ((ix2 r a : S512x256.Idx) d).val ∧ ((ix2 r a : S512x256.Idx) d).val < (![0, 0] : Fin 2 → ℕ) d + S512x128.size d := fun d => by
      match d with
      | ⟨0, _⟩ => exact ⟨Nat.zero_le _, by show r.val < 0 + 512; omega⟩
      | ⟨1, _⟩ => exact ⟨Nat.zero_le _, by show a.val < 0 + 128; omega⟩
    rw [dif_neg hn, dif_pos hh]
    refine Eq.trans (congrArg _ (show _ = ix2 r (⟨a.val, by omega⟩ : Fin 128) from funext fun d => Fin.ext (by match d with | 0 => rfl | 1 => rfl))) ?_
    rw [ob, hs.1.log (hw 0), group_apply, H.lb 0 r ⟨a.val, by omega⟩, ← EReal.coe_sub, show a.val / 128 = 0 by omega]
    rfl
end Block

end Cert.AttentionIdeal.Fox

end
-- ==== Proof.KernelIdeal.RunB.lean ====
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Loops
public import Idealize.ShloMosaic.Lib.LoopRemainder
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body zeroes the accumulators: the grid's second coordinate is 0. -/
abbrev cond0 (i : grid0.Coords) : Prop := (Scalar.cmpi .ne (Scalar.extui (Scalar.cmpi .eq (BitVec.ofNat 32 (i 1).val) 0#32)) 0#32) = 1#1
/-- The body writes the accumulators out: the grid's second coordinate is the last. -/
abbrev condL (i : grid0.Coords) : Prop := k0_cond2 i = 1#1
/-- The accumulators are zeroed at every eighth point, -/
theorem hcond0 : ∀ t : Fin cfg0.N, cond0 (grid0.coords t) ↔ t.val % 8 = 0 := by decide +kernel
/-- and written out at the point before the next such one. -/
theorem hcondL : ∀ t : Fin cfg0.N, condL (grid0.coords t) ↔ t.val % 8 = 7 := by decide +kernel

set_option maxHeartbeats 4000000 in
/-- What the body's stores leave, as pieces (last first), at a middle key block: on whole buffers — the inputs' and the two
    accumulators' at their contents — the body runs to the continuation that holds the inputs as they were and every stored buffer with
    its pieces written. -/
def runB (c : Dev nD) (i : grid0.Coords) (w2 : Memref sig .tc .vmem S4096x128 .f32) (u2 : w2.IsWhole) (w3 : Memref sig .tc .vmem S512x128 .f32) (u3 : w3.IsWhole) (w4 : Memref sig .tc .vmem S512x128 .f32) (u4 : w4.IsWhole) (w5 : Memref sig .tc .vmem S4096x128 .f32) (u5 : w5.IsWhole) (w6 : Memref sig .tc .vmem S4096x256 .f32) (u6 : w6.IsWhole) (w7 : Memref sig .tc .vmem S4096x256 .f32) (u7 : w7.IsWhole) (w8 : Memref sig .tc .vmem S2x1x512 .f32) (u8 : w8.IsWhole) (w9 : Memref sig .tc .vmem S4096x128 .bf16) (u9 : w9.IsWhole) (w10 : Memref sig .tc .vmem S512x128 .bf16) (u10 : w10.IsWhole) (w11 : Memref sig .tc .vmem S512x128 .bf16) (u11 : w11.IsWhole) (w12 : Memref sig .tc .vmem S2x1x512 .f32) (u12 : w12.IsWhole) (w13 : Memref sig .tc .vmem S4096x256 .f32) (u13 : w13.IsWhole) (w14 : Memref sig .tc .vmem S4096x128 .f32) (u14 : w14.IsWhole) (w15 : Memref sig .tc .vmem S2x4096x128 .f32) (u15 : w15.IsWhole) (hc0 : ¬cond0 i) (hc1 : ¬condL i)
    (x0 : Vec F S4096x128 .f32) (x1 : Vec F S512x128 .f32) (x2 : Vec F S512x128 .f32) (x3 : Vec F S4096x128 .f32) (x4 : Vec F S4096x256 .f32) (x5 : Vec F S4096x256 .f32) (x6 : Vec F S2x1x512 .f32) (xo7 : Vec F S4096x128 .bf16) (xo11 : Vec F S4096x256 .f32) (xs0 : Vec F S4096x128 .f32) (xs1 : Vec F S2x4096x128 .f32) :
    Σ' (L8 : List (View.Piece (Elt F) S512x128 .bf16)), Σ' (L9 : List (View.Piece (Elt F) S512x128 .bf16)), Σ' (L10 : List (View.Piece (Elt F) S2x1x512 .f32)), Σ' (LS0 : List (View.Piece (Elt F) S4096x128 .f32)), { LS1 : List (View.Piece (Elt F) S2x4096x128 .f32) //
      ∀ (E : Set ℕ) (K : PUnit → sProp 𝕄),
        iprop(owns (c : Thread nD τ) w2 fullShare x0 ∗ owns (c : Thread nD τ) w3 fullShare x1 ∗ owns (c : Thread nD τ) w4 fullShare x2 ∗ owns (c : Thread nD τ) w5 fullShare x3 ∗ owns (c : Thread nD τ) w6 fullShare x4 ∗ owns (c : Thread nD τ) w7 fullShare x5 ∗ owns (c : Thread nD τ) w8 fullShare x6 ∗ owns (c : Thread nD τ) w9 fullShare xo7 ∗ (∃ d, owns (c : Thread nD τ) w10 fullShare d) ∗ (∃ d, owns (c : Thread nD τ) w11 fullShare d) ∗ (∃ d, owns (c : Thread nD τ) w12 fullShare d) ∗ owns (c : Thread nD τ) w13 fullShare xo11 ∗ owns (c : Thread nD τ) w14 fullShare xs0 ∗ owns (c : Thread nD τ) w15 fullShare xs1
            ∗ (iprop(owns (c : Thread nD τ) w2 fullShare x0 ∗ owns (c : Thread nD τ) w3 fullShare x1 ∗ owns (c : Thread nD τ) w4 fullShare x2 ∗ owns (c : Thread nD τ) w5 fullShare x3 ∗ owns (c : Thread nD τ) w6 fullShare x4 ∗ owns (c : Thread nD τ) w7 fullShare x5 ∗ owns (c : Thread nD τ) w8 fullShare x6 ∗ owns (c : Thread nD τ) w9 fullShare xo7 ∗ (∃ f, w10.view.loc (c : Thread nD τ) ↦[w10.view.set]{fullShare} w10.view.writes (Elt F) f L8) ∗ (∃ f, w11.view.loc (c : Thread nD τ) ↦[w11.view.set]{fullShare} w11.view.writes (Elt F) f L9) ∗ (∃ f, w12.view.loc (c : Thread nD τ) ↦[w12.view.set]{fullShare} w12.view.writes (Elt F) f L10) ∗ owns (c : Thread nD τ) w13 fullShare xo11 ∗ (w14.view.loc (c : Thread nD τ) ↦[w14.view.set]{fullShare} w14.view.writes (Elt F) (u14.unread xs0) LS0) ∗ (w15.view.loc (c : Thread nD τ) ↦[w15.view.set]{fullShare} w15.view.writes (Elt F) (u15.unread xs1) LS1)) -∗ K ⟨⟩))
          ⊢ wp frame (wpE (defs₀ (F := F)) Variants.none c none) E (cc0_fox_bwd i _ u2 _ u3 _ u4 _ u5 _ u6 _ u7 _ u8 _ u9 _ u10 _ u11 _ u12 _ u13 _ u14 _ u15) K } := by
  refine ⟨?_, ?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%fs0, %hfs0, HS0⟩, ⟨%fs1, %hfs1, HS1⟩, Hk⟩
    obtain rfl := u2.eq_unread hf0; obtain rfl := u3.eq_unread hf1; obtain rfl := u4.eq_unread hf2; obtain rfl := u5.eq_unread hf3; obtain rfl := u6.eq_unread hf4; obtain rfl := u7.eq_unread hf5; obtain rfl := u8.eq_unread hf6; obtain rfl := u9.eq_unread hf7; obtain rfl := u13.eq_unread hf11; obtain rfl := u14.eq_unread hfs0; obtain rfl := u15.eq_unread hfs1
    sl_exec (disch := first | sl_exact hc0 | sl_exact hc1)
    sl_step
    iapply Hk
    isplitl [H0]
    · iexists _; isplitr; · ipureintro; exact u2.read_unread _
      iexact H0
    isplitl [H1]
    · iexists _; isplitr; · ipureintro; exact u3.read_unread _
      iexact H1
    isplitl [H2]
    · iexists _; isplitr; · ipureintro; exact u4.read_unread _
      iexact H2
    isplitl [H3]
    · iexists _; isplitr; · ipureintro; exact u5.read_unread _
      iexact H3
    isplitl [H4]
    · iexists _; isplitr; · ipureintro; exact u6.read_unread _
      iexact H4
    isplitl [H5]
    · iexists _; isplitr; · ipureintro; exact u7.read_unread _
      iexact H5
    isplitl [H6]
    · iexists _; isplitr; · ipureintro; exact u8.read_unread _
      iexact H6
    isplitl [H7]
    · iexists _; isplitr; · ipureintro; exact u9.read_unread _
      iexact H7
    isplitl [H8]; · iexists _; iexact H8
    isplitl [H9]; · iexists _; iexact H9
    isplitl [H10]; · iexists _; iexact H10
    isplitl [H11]
    · iexists _; isplitr; · ipureintro; exact u13.read_unread _
      iexact H11
    isplitl [HS0]; · iexact HS0
    iexact HS1

end Cert.KernelIdeal.Fox

end
-- ==== Proof.KernelIdeal.RunC.lean ====
module

public import proofs.«01_k».proof.Proof.KernelIdeal.RunB

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), at the last key block: on whole buffers — the inputs' and the two
    accumulators' at their contents — the body runs to the continuation that holds the inputs as they were and every stored buffer with
    its pieces written. -/
def runC (c : Dev nD) (i : grid0.Coords) (w2 : Memref sig .tc .vmem S4096x128 .f32) (u2 : w2.IsWhole) (w3 : Memref sig .tc .vmem S512x128 .f32) (u3 : w3.IsWhole) (w4 : Memref sig .tc .vmem S512x128 .f32) (u4 : w4.IsWhole) (w5 : Memref sig .tc .vmem S4096x128 .f32) (u5 : w5.IsWhole) (w6 : Memref sig .tc .vmem S4096x256 .f32) (u6 : w6.IsWhole) (w7 : Memref sig .tc .vmem S4096x256 .f32) (u7 : w7.IsWhole) (w8 : Memref sig .tc .vmem S2x1x512 .f32) (u8 : w8.IsWhole) (w9 : Memref sig .tc .vmem S4096x128 .bf16) (u9 : w9.IsWhole) (w10 : Memref sig .tc .vmem S512x128 .bf16) (u10 : w10.IsWhole) (w11 : Memref sig .tc .vmem S512x128 .bf16) (u11 : w11.IsWhole) (w12 : Memref sig .tc .vmem S2x1x512 .f32) (u12 : w12.IsWhole) (w13 : Memref sig .tc .vmem S4096x256 .f32) (u13 : w13.IsWhole) (w14 : Memref sig .tc .vmem S4096x128 .f32) (u14 : w14.IsWhole) (w15 : Memref sig .tc .vmem S2x4096x128 .f32) (u15 : w15.IsWhole) (hc0 : ¬cond0 i) (hc1 : condL i)
    (x0 : Vec F S4096x128 .f32) (x1 : Vec F S512x128 .f32) (x2 : Vec F S512x128 .f32) (x3 : Vec F S4096x128 .f32) (x4 : Vec F S4096x256 .f32) (x5 : Vec F S4096x256 .f32) (x6 : Vec F S2x1x512 .f32) (xs0 : Vec F S4096x128 .f32) (xs1 : Vec F S2x4096x128 .f32) :
    Σ' (L8 : List (View.Piece (Elt F) S512x128 .bf16)), Σ' (L9 : List (View.Piece (Elt F) S512x128 .bf16)), Σ' (L10 : List (View.Piece (Elt F) S2x1x512 .f32)), Σ' (L7 : List (View.Piece (Elt F) S4096x128 .bf16)), Σ' (L11 : List (View.Piece (Elt F) S4096x256 .f32)), Σ' (LS0 : List (View.Piece (Elt F) S4096x128 .f32)), { LS1 : List (View.Piece (Elt F) S2x4096x128 .f32) //
      ∀ (E : Set ℕ) (K : PUnit → sProp 𝕄),
        iprop(owns (c : Thread nD τ) w2 fullShare x0 ∗ owns (c : Thread nD τ) w3 fullShare x1 ∗ owns (c : Thread nD τ) w4 fullShare x2 ∗ owns (c : Thread nD τ) w5 fullShare x3 ∗ owns (c : Thread nD τ) w6 fullShare x4 ∗ owns (c : Thread nD τ) w7 fullShare x5 ∗ owns (c : Thread nD τ) w8 fullShare x6 ∗ (∃ d, owns (c : Thread nD τ) w9 fullShare d) ∗ (∃ d, owns (c : Thread nD τ) w10 fullShare d) ∗ (∃ d, owns (c : Thread nD τ) w11 fullShare d) ∗ (∃ d, owns (c : Thread nD τ) w12 fullShare d) ∗ (∃ d, owns (c : Thread nD τ) w13 fullShare d) ∗ owns (c : Thread nD τ) w14 fullShare xs0 ∗ owns (c : Thread nD τ) w15 fullShare xs1
            ∗ (iprop(owns (c : Thread nD τ) w2 fullShare x0 ∗ owns (c : Thread nD τ) w3 fullShare x1 ∗ owns (c : Thread nD τ) w4 fullShare x2 ∗ owns (c : Thread nD τ) w5 fullShare x3 ∗ owns (c : Thread nD τ) w6 fullShare x4 ∗ owns (c : Thread nD τ) w7 fullShare x5 ∗ owns (c : Thread nD τ) w8 fullShare x6 ∗ (∃ f, w9.view.loc (c : Thread nD τ) ↦[w9.view.set]{fullShare} w9.view.writes (Elt F) f L7) ∗ (∃ f, w10.view.loc (c : Thread nD τ) ↦[w10.view.set]{fullShare} w10.view.writes (Elt F) f L8) ∗ (∃ f, w11.view.loc (c : Thread nD τ) ↦[w11.view.set]{fullShare} w11.view.writes (Elt F) f L9) ∗ (∃ f, w12.view.loc (c : Thread nD τ) ↦[w12.view.set]{fullShare} w12.view.writes (Elt F) f L10) ∗ (∃ f, w13.view.loc (c : Thread nD τ) ↦[w13.view.set]{fullShare} w13.view.writes (Elt F) f L11) ∗ (w14.view.loc (c : Thread nD τ) ↦[w14.view.set]{fullShare} w14.view.writes (Elt F) (u14.unread xs0) LS0) ∗ (w15.view.loc (c : Thread nD τ) ↦[w15.view.set]{fullShare} w15.view.writes (Elt F) (u15.unread xs1) LS1)) -∗ K ⟨⟩))
          ⊢ wp frame (wpE (defs₀ (F := F)) Variants.none c none) E (cc0_fox_bwd i _ u2 _ u3 _ u4 _ u5 _ u6 _ u7 _ u8 _ u9 _ u10 _ u11 _ u12 _ u13 _ u14 _ u15) K } := by
  refine ⟨?_, ?_, ?_, ?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := u2.eq_unread hf0; obtain rfl := u3.eq_unread hf1; obtain rfl := u4.eq_unread hf2; obtain rfl := u5.eq_unread hf3; obtain rfl := u6.eq_unread hf4; obtain rfl := u7.eq_unread hf5; obtain rfl := u8.eq_unread hf6; obtain rfl := u14.eq_unread hfs0; obtain rfl := u15.eq_unread hfs1
    sl_exec (disch := first | sl_exact hc0 | sl_exact hc1)
    sl_step
    iapply Hk
    isplitl [H0]
    · iexists _; isplitr; · ipureintro; exact u2.read_unread _
      iexact H0
    isplitl [H1]
    · iexists _; isplitr; · ipureintro; exact u3.read_unread _
      iexact H1
    isplitl [H2]
    · iexists _; isplitr; · ipureintro; exact u4.read_unread _
      iexact H2
    isplitl [H3]
    · iexists _; isplitr; · ipureintro; exact u5.read_unread _
      iexact H3
    isplitl [H4]
    · iexists _; isplitr; · ipureintro; exact u6.read_unread _
      iexact H4
    isplitl [H5]
    · iexists _; isplitr; · ipureintro; exact u7.read_unread _
      iexact H5
    isplitl [H6]
    · iexists _; isplitr; · ipureintro; exact u8.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    iexact HS1

end Cert.KernelIdeal.Fox

end
-- ==== Proof.KernelIdeal.RunA.lean ====
module

public import proofs.«01_k».proof.Proof.KernelIdeal.RunC

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A whole buffer stored over in full holds what was stored. -/
theorem zeroed {w14 : Memref sig .tc .vmem S4096x128 .f32} (u14 : w14.IsWhole) (f) (w : Vec F S4096x128 .f32) :
    w14.view.writes (Elt F) f [⟨Rect.unit (s := S4096x128) ![0, 0] S4096x128.size inb_S4096x128_S4096x128_0_0, w⟩] = u14.unread w :=
  u14.eq_unread (View.read_writes_full _ _ _ _ _)
/-- The same for the accumulator of two planes. -/
theorem zeroed15 {w15 : Memref sig .tc .vmem S2x4096x128 .f32} (u15 : w15.IsWhole) (f) (w : Vec F S2x4096x128 .f32) :
    w15.view.writes (Elt F) f [⟨Rect.unit (s := S2x4096x128) ![0, 0, 0] S2x4096x128.size inb_S2x4096x128_S2x4096x128_0_0_0, w⟩] = u15.unread w :=
  u15.eq_unread (View.read_writes_full _ _ _ _ _)

set_option maxHeartbeats 4000000 in
/-- What the body's stores leave, as pieces (last first), at the first key block: on whole buffers — the inputs' and the two
    accumulators' at their contents — the body runs to the continuation that holds the inputs as they were and every stored buffer with
    its pieces written. -/
def runA (c : Dev nD) (i : grid0.Coords) (w2 : Memref sig .tc .vmem S4096x128 .f32) (u2 : w2.IsWhole) (w3 : Memref sig .tc .vmem S512x128 .f32) (u3 : w3.IsWhole) (w4 : Memref sig .tc .vmem S512x128 .f32) (u4 : w4.IsWhole) (w5 : Memref sig .tc .vmem S4096x128 .f32) (u5 : w5.IsWhole) (w6 : Memref sig .tc .vmem S4096x256 .f32) (u6 : w6.IsWhole) (w7 : Memref sig .tc .vmem S4096x256 .f32) (u7 : w7.IsWhole) (w8 : Memref sig .tc .vmem S2x1x512 .f32) (u8 : w8.IsWhole) (w9 : Memref sig .tc .vmem S4096x128 .bf16) (u9 : w9.IsWhole) (w10 : Memref sig .tc .vmem S512x128 .bf16) (u10 : w10.IsWhole) (w11 : Memref sig .tc .vmem S512x128 .bf16) (u11 : w11.IsWhole) (w12 : Memref sig .tc .vmem S2x1x512 .f32) (u12 : w12.IsWhole) (w13 : Memref sig .tc .vmem S4096x256 .f32) (u13 : w13.IsWhole) (w14 : Memref sig .tc .vmem S4096x128 .f32) (u14 : w14.IsWhole) (w15 : Memref sig .tc .vmem S2x4096x128 .f32) (u15 : w15.IsWhole) (hc0 : cond0 i) (hc1 : ¬condL i)
    (x0 : Vec F S4096x128 .f32) (x1 : Vec F S512x128 .f32) (x2 : Vec F S512x128 .f32) (x3 : Vec F S4096x128 .f32) (x4 : Vec F S4096x256 .f32) (x5 : Vec F S4096x256 .f32) (x6 : Vec F S2x1x512 .f32) (xo7 : Vec F S4096x128 .bf16) (xo11 : Vec F S4096x256 .f32) (xs0 : Vec F S4096x128 .f32) (xs1 : Vec F S2x4096x128 .f32) :
    Σ' (L8 : List (View.Piece (Elt F) S512x128 .bf16)), Σ' (L9 : List (View.Piece (Elt F) S512x128 .bf16)), Σ' (L10 : List (View.Piece (Elt F) S2x1x512 .f32)), Σ' (LS0 : List (View.Piece (Elt F) S4096x128 .f32)), { LS1 : List (View.Piece (Elt F) S2x4096x128 .f32) //
      ∀ (E : Set ℕ) (K : PUnit → sProp 𝕄),
        iprop(owns (c : Thread nD τ) w2 fullShare x0 ∗ owns (c : Thread nD τ) w3 fullShare x1 ∗ owns (c : Thread nD τ) w4 fullShare x2 ∗ owns (c : Thread nD τ) w5 fullShare x3 ∗ owns (c : Thread nD τ) w6 fullShare x4 ∗ owns (c : Thread nD τ) w7 fullShare x5 ∗ owns (c : Thread nD τ) w8 fullShare x6 ∗ owns (c : Thread nD τ) w9 fullShare xo7 ∗ (∃ d, owns (c : Thread nD τ) w10 fullShare d) ∗ (∃ d, owns (c : Thread nD τ) w11 fullShare d) ∗ (∃ d, owns (c : Thread nD τ) w12 fullShare d) ∗ owns (c : Thread nD τ) w13 fullShare xo11 ∗ owns (c : Thread nD τ) w14 fullShare xs0 ∗ owns (c : Thread nD τ) w15 fullShare xs1
            ∗ (iprop(owns (c : Thread nD τ) w2 fullShare x0 ∗ owns (c : Thread nD τ) w3 fullShare x1 ∗ owns (c : Thread nD τ) w4 fullShare x2 ∗ owns (c : Thread nD τ) w5 fullShare x3 ∗ owns (c : Thread nD τ) w6 fullShare x4 ∗ owns (c : Thread nD τ) w7 fullShare x5 ∗ owns (c : Thread nD τ) w8 fullShare x6 ∗ owns (c : Thread nD τ) w9 fullShare xo7 ∗ (∃ f, w10.view.loc (c : Thread nD τ) ↦[w10.view.set]{fullShare} w10.view.writes (Elt F) f L8) ∗ (∃ f, w11.view.loc (c : Thread nD τ) ↦[w11.view.set]{fullShare} w11.view.writes (Elt F) f L9) ∗ (∃ f, w12.view.loc (c : Thread nD τ) ↦[w12.view.set]{fullShare} w12.view.writes (Elt F) f L10) ∗ owns (c : Thread nD τ) w13 fullShare xo11 ∗ (w14.view.loc (c : Thread nD τ) ↦[w14.view.set]{fullShare} w14.view.writes (Elt F) (u14.unread (k0_pay45 (F := F))) LS0) ∗ (w15.view.loc (c : Thread nD τ) ↦[w15.view.set]{fullShare} w15.view.writes (Elt F) (u15.unread (k0_pay46 (F := F))) LS1)) -∗ K ⟨⟩))
          ⊢ wp frame (wpE (defs₀ (F := F)) Variants.none c none) E (cc0_fox_bwd i _ u2 _ u3 _ u4 _ u5 _ u6 _ u7 _ u8 _ u9 _ u10 _ u11 _ u12 _ u13 _ u14 _ u15) K } := by
  refine ⟨?_, ?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%fs0, %hfs0, HS0⟩, ⟨%fs1, %hfs1, HS1⟩, Hk⟩
    obtain rfl := u2.eq_unread hf0; obtain rfl := u3.eq_unread hf1; obtain rfl := u4.eq_unread hf2; obtain rfl := u5.eq_unread hf3; obtain rfl := u6.eq_unread hf4; obtain rfl := u7.eq_unread hf5; obtain rfl := u8.eq_unread hf6; obtain rfl := u9.eq_unread hf7; obtain rfl := u13.eq_unread hf11; obtain rfl := u14.eq_unread hfs0; obtain rfl := u15.eq_unread hfs1
    set_option sl_exec.maxSteps 8 in sl_exec (disch := first | sl_exact hc0 | sl_exact hc1)
    rw [zeroed u14, zeroed15 u15]
    sl_exec (disch := first | sl_exact hc0 | sl_exact hc1)
    sl_step
    iapply Hk
    isplitl [H0]
    · iexists _; isplitr; · ipureintro; exact u2.read_unread _
      iexact H0
    isplitl [H1]
    · iexists _; isplitr; · ipureintro; exact u3.read_unread _
      iexact H1
    isplitl [H2]
    · iexists _; isplitr; · ipureintro; exact u4.read_unread _
      iexact H2
    isplitl [H3]
    · iexists _; isplitr; · ipureintro; exact u5.read_unread _
      iexact H3
    isplitl [H4]
    · iexists _; isplitr; · ipureintro; exact u6.read_unread _
      iexact H4
    isplitl [H5]
    · iexists _; isplitr; · ipureintro; exact u7.read_unread _
      iexact H5
    isplitl [H6]
    · iexists _; isplitr; · ipureintro; exact u8.read_unread _
      iexact H6
    isplitl [H7]
    · iexists _; isplitr; · ipureintro; exact u9.read_unread _
      iexact H7
    isplitl [H8]; · iexists _; iexact H8
    isplitl [H9]; · iexists _; iexact H9
    isplitl [H10]; · iexists _; iexact H10
    isplitl [H11]
    · iexists _; isplitr; · ipureintro; exact u13.read_unread _
      iexact H11
    isplitl [HS0]; · iexact HS0
    iexact HS1

end Cert.KernelIdeal.Fox

end
-- ==== Proof.KernelIdeal.Step.lean ====
module

public import proofs.«01_k».proof.Proof.KernelIdeal.RunA

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Blocks of rows -/

/-- The 512 rows of block `n`. -/
def rows (x : Vec F S4096x128 .f32) (n : Fin 8) : Vec F S512x128 .f32 :=
  VecWindow.window (s := S4096x128) x ![512 * n.val, 0] S512x128.size (fun a => match a with | 0 => (by show 512 * n.val + 512 ≤ 4096; omega) | 1 => (by show 0 + 128 ≤ 128; omega))
/-- The 512 rows of block `n` in lane group `p`. -/
def cols (x : Vec F S4096x256 .f32) (n : Fin 8) (p : Fin 2) : Vec F S512x128 .f32 :=
  VecWindow.window (s := S4096x256) x ![512 * n.val, 128 * p.val] S512x128.size (fun a => match a with | 0 => (by show 512 * n.val + 512 ≤ 4096; omega) | 1 => (by show 128 * p.val + 128 ≤ 256; omega))
/-- The 512 rows of block `n` of plane `p`. -/
def plane (x : Vec F S2x4096x128 .f32) (p : Fin 2) (n : Fin 8) : Vec F S1x512x128 .f32 :=
  VecWindow.window (s := S2x4096x128) x ![p.val, 512 * n.val, 0] S1x512x128.size (fun a => match a with | 0 => (by show p.val + 1 ≤ 2; omega) | 1 => (by show 512 * n.val + 512 ≤ 4096; omega) | 2 => (by show 0 + 128 ≤ 128; omega))
/-- Row `p` of the two rows. -/
def ckRow (x : Vec F S2x1x512 .f32) (p : Fin 2) : Vec F S1x1x512 .f32 :=
  VecWindow.window (s := S2x1x512) x ![p.val, 0, 0] S1x1x512.size (fun a => match a with | 0 => (by show p.val + 1 ≤ 2; omega) | 1 => (by show 0 + 1 ≤ 1; omega) | 2 => (by show 0 + 512 ≤ 512; omega))
/-- Block `n`'s rows replaced. -/
def putRows (x : Vec F S4096x128 .f32) (n : Fin 8) (w : Vec F S512x128 .f32) : Vec F S4096x128 .f32 :=
  VecWindow.put (s := S4096x128) x ![512 * n.val, 0] S512x128.size w
/-- Block `n`'s rows of plane `p` replaced. -/
def putPlane (x : Vec F S2x4096x128 .f32) (p : Fin 2) (n : Fin 8) (w : Vec F S1x512x128 .f32) : Vec F S2x4096x128 .f32 :=
  VecWindow.put (s := S2x4096x128) x ![p.val, 512 * n.val, 0] S1x512x128.size w

/-! ## One head of one block of the score matrix -/

/-- The lanes of one head of a block, the other head's at zero. -/
def half (msk : IVec S512x128 1) (x : FVec F S512x128 .f32) : FVec F S512x128 .bf16 :=
  truncf .bf16 (select msk x (broadcast S512x128 (Scalar.ofBits .f32 0x00000000#32))) bitsLt_bf16_f32
/-- The queries scaled. -/
def scaled (x : Vec F S512x128 .f32) : FVec F S512x128 .f32 := mulf x (broadcast S512x128 (Scalar.ofBits .f32 0x3E000000#32))
/-- A lane-constant block four times side by side. -/
def wide (x : Vec F S512x128 .f32) : FVec F S512x512 .f32 :=
  concatenate S512x512 1 [⟨S512x128, shapeCast S512x128 x shapeCasts_S512x128_S512x128⟩, ⟨S512x128, shapeCast S512x128 x shapeCasts_S512x128_S512x128⟩, ⟨S512x128, shapeCast S512x128 x shapeCasts_S512x128_S512x128⟩, ⟨S512x128, shapeCast S512x128 x shapeCasts_S512x128_S512x128⟩] concatenates_S512x128_S512x128_S512x128_S512x128_S512x512_d1
/-- The logarithms of one head's attention weights in one block. -/
def logit (q : FVec F S512x128 .bf16) (k4 : FVec F S512x128 .bf16) (ck : FVec F S1x512 .f32) (lb : Vec F S512x128 .f32) : FVec F S512x512 .f32 :=
  subf (addf (matmul dot_S512x128_S512x128_S512x512_1_1_0_0_n_n none q k4 (constant S512x512 .f32 0x00000000#32)) (wide lb)) (broadcastTo S512x512 ck broadcasts_S1x512_S512x512)
/-- One head's weights in a block below the diagonal, -/
def wt (q : FVec F S512x128 .bf16) (k4 : FVec F S512x128 .bf16) (ck : FVec F S1x512 .f32) (lb : Vec F S512x128 .f32) : FVec F S512x512 .f32 := exp (logit q k4 ck lb)
/-- and in a block on it, where a query sees the keys up to its own. -/
def wtD (q : FVec F S512x128 .bf16) (k4 : FVec F S512x128 .bf16) (ck : FVec F S1x512 .f32) (lb : Vec F S512x128 .f32) : FVec F S512x512 .f32 :=
  exp (select (cmpi .sle (iota .tc S512x512 32 [1] iota_S512x512_d1_w32) (iota .tc S512x512 32 [0] iota_S512x512_d0_w32)) (logit q k4 ck lb) (broadcast S512x512 (Named.named κ "mask" 0xF149F2CA#32)))
/-- The gradient of one head's logits. -/
def ds (p : FVec F S512x512 .f32) (dO v6 : FVec F S512x128 .bf16) (dl : Vec F S512x128 .f32) : FVec F S512x512 .f32 :=
  mulf p (subf (matmul dot_S512x128_S512x128_S512x512_1_1_0_0_n_n none dO v6 (constant S512x512 .f32 0x00000000#32)) (wide dl))
/-- A weight matrix transposed times a block, added to what was there. -/
def accT (acc : FVec F S512x128 .f32) (p : FVec F S512x512 .f32) (x : FVec F S512x128 .bf16) : FVec F S512x128 .f32 :=
  addf acc (matmul dot_S512x512_S512x128_S512x128_0_0_1_1_n_n none (truncf .bf16 p bitsLt_bf16_f32) x (constant S512x128 .f32 0x00000000#32))
/-- A weight matrix times a block, added to what was there. -/
def accN (acc : Vec F S512x128 .f32) (p : FVec F S512x512 .f32) (x : FVec F S512x128 .bf16) : FVec F S512x128 .f32 :=
  shapeCast S512x128 (addf acc (matmul dot_S512x512_S512x128_S512x128_1_0_0_1_n_n none (truncf .bf16 p bitsLt_bf16_f32) x (constant S512x128 .f32 0x00000000#32))) shapeCasts_S512x128_S512x128
/-- A matrix's column sums, taken off what was there. -/
def accC (acc : FVec F S1x512 .f32) (p : FVec F S512x512 .f32) : FVec F S1x512 .f32 :=
  subf acc (shapeCast S1x512 (multiReduction .add [0] S512 p 0x00000000#32 reduces_S512x512_S512 (.inl rfl) rfl) shapeCasts_S512_S1x512)
/-- A matrix's row sums in every lane, added to what was there. -/
def accR (acc : Vec F S1x512x128 .f32) (p : FVec F S512x512 .f32) : FVec F S1x512x128 .f32 :=
  shapeCast S1x512x128 (addf (shapeCast S512x128 acc shapeCasts_S1x512x128_S512x128)
    (broadcastTo S512x128 (shapeCast S512x1 (multiReduction .add [1] S512 p 0x00000000#32 reduces_S512x512_S512_2 (.inl rfl) rfl) shapeCasts_S512_S512x1) broadcasts_S512x1_S512x128)) shapeCasts_S512x128_S1x512x128

/-! ## One block of the score matrix, both heads -/

/-- What is carried along a key block: the gradients of its keys, values and the two heads' gates; the queries' gradients and
    the two heads' row sums. -/
abbrev St (F : FTy → Type) [FloatOps F] [Named F] : Type := (FVec F S512x128 .f32 × FVec F S512x128 .f32 × FVec F S1x512 .f32 × FVec F S1x512 .f32) × Vec F S4096x128 .f32 × Vec F S2x4096x128 .f32

/-- One block of query rows `n` added, its two heads' weights and logit gradients given. -/
def addBlock (x0 : Vec F S4096x128 .f32) (x1 : Vec F S512x128 .f32) (x3 : Vec F S4096x128 .f32) (n : Fin 8) (p0 d0 p1 d1 : FVec F S512x512 .f32) (s : St F) : St F :=
  ((accT (accT s.1.1 d0 (half k0_pay49 (scaled (rows x0 n)))) d1 (half k0_pay50 (scaled (rows x0 n))),
    accT (accT s.1.2.1 p0 (half k0_pay49 (rows x3 n))) p1 (half k0_pay50 (rows x3 n)),
    accC s.1.2.2.1 d0, accC s.1.2.2.2 d1),
   putRows s.2.1 n (accN (accN (rows s.2.1 n) d0 (half k0_pay49 x1)) d1 (half k0_pay50 x1)),
   putPlane (putPlane s.2.2 0 n (accR (plane s.2.2 0 n) d0)) 1 n (accR (plane s.2.2 1 n) d1))

/-- The weights of lane group `p`'s head in block `n`, below the diagonal -/
def wtB (x0 : Vec F S4096x128 .f32) (x1 x2 : Vec F S512x128 .f32) (x3 : Vec F S4096x128 .f32) (x4 x5 : Vec F S4096x256 .f32) (x6 : Vec F S2x1x512 .f32) (n : Fin 8) (p : Fin 2) (msk : IVec S512x128 1) : FVec F S512x512 .f32 :=
  wt (half msk (scaled (rows x0 n))) (k0_pay47 x1) (k0_pay53 (ckRow x6 p)) (cols x4 n p)
/-- and on it; -/
def wtDB (x0 : Vec F S4096x128 .f32) (x1 x2 : Vec F S512x128 .f32) (x3 : Vec F S4096x128 .f32) (x4 x5 : Vec F S4096x256 .f32) (x6 : Vec F S2x1x512 .f32) (n : Fin 8) (p : Fin 2) (msk : IVec S512x128 1) : FVec F S512x512 .f32 :=
  wtD (half msk (scaled (rows x0 n))) (k0_pay47 x1) (k0_pay53 (ckRow x6 p)) (cols x4 n p)
/-- the gradient of its logits from the weights. -/
def dsB (x0 : Vec F S4096x128 .f32) (x1 x2 : Vec F S512x128 .f32) (x3 : Vec F S4096x128 .f32) (x4 x5 : Vec F S4096x256 .f32) (x6 : Vec F S2x1x512 .f32) (n : Fin 8) (p : Fin 2) (msk : IVec S512x128 1) (w : FVec F S512x512 .f32) : FVec F S512x512 .f32 :=
  ds w (half msk (rows x3 n)) (k0_pay48 x2) (cols x5 n p)

/-- One trip: query block `n` below the diagonal. -/
def tripV (x0 : Vec F S4096x128 .f32) (x1 x2 : Vec F S512x128 .f32) (x3 : Vec F S4096x128 .f32) (x4 x5 : Vec F S4096x256 .f32) (x6 : Vec F S2x1x512 .f32) (n : Fin 8) (s : St F) : St F :=
  addBlock x0 x1 x3 n (wtB x0 x1 x2 x3 x4 x5 x6 n 0 k0_pay49) (dsB x0 x1 x2 x3 x4 x5 x6 n 0 k0_pay49 (wtB x0 x1 x2 x3 x4 x5 x6 n 0 k0_pay49)) (wtB x0 x1 x2 x3 x4 x5 x6 n 1 k0_pay50) (dsB x0 x1 x2 x3 x4 x5 x6 n 1 k0_pay50 (wtB x0 x1 x2 x3 x4 x5 x6 n 1 k0_pay50)) s
/-- The block on the diagonal. -/
def diagV (x0 : Vec F S4096x128 .f32) (x1 x2 : Vec F S512x128 .f32) (x3 : Vec F S4096x128 .f32) (x4 x5 : Vec F S4096x256 .f32) (x6 : Vec F S2x1x512 .f32) (n : Fin 8) (s : St F) : St F :=
  addBlock x0 x1 x3 n (wtDB x0 x1 x2 x3 x4 x5 x6 n 0 k0_pay49) (dsB x0 x1 x2 x3 x4 x5 x6 n 0 k0_pay49 (wtDB x0 x1 x2 x3 x4 x5 x6 n 0 k0_pay49)) (wtDB x0 x1 x2 x3 x4 x5 x6 n 1 k0_pay50) (dsB x0 x1 x2 x3 x4 x5 x6 n 1 k0_pay50 (wtDB x0 x1 x2 x3 x4 x5 x6 n 1 k0_pay50)) s
/-- The first `k` blocks after block `n`. -/
def loopV (x0 : Vec F S4096x128 .f32) (x1 x2 : Vec F S512x128 .f32) (x3 : Vec F S4096x128 .f32) (x4 x5 : Vec F S4096x256 .f32) (x6 : Vec F S2x1x512 .f32) (n : Fin 8) (s : St F) : ℕ → St F
  | 0 => s
  | k + 1 => if h : n.val + 1 + k < 8 then tripV x0 x1 x2 x3 x4 x5 x6 ⟨n.val + 1 + k, h⟩ (loopV x0 x1 x2 x3 x4 x5 x6 n s k) else loopV x0 x1 x2 x3 x4 x5 x6 n s k
/-- What the carried values start at. -/
def init (xs0 : Vec F S4096x128 .f32) (xs1 : Vec F S2x4096x128 .f32) : St F := ((k0_pay55, k0_pay55, k0_pay56, k0_pay56), xs0, xs1)
/-- One point of the grid, key block `n`: the block on the diagonal and those below it. -/
def bodyV (x0 : Vec F S4096x128 .f32) (x1 x2 : Vec F S512x128 .f32) (x3 : Vec F S4096x128 .f32) (x4 x5 : Vec F S4096x256 .f32) (x6 : Vec F S2x1x512 .f32) (n : Fin 8) (xs0 : Vec F S4096x128 .f32) (xs1 : Vec F S2x4096x128 .f32) : St F :=
  loopV x0 x1 x2 x3 x4 x5 x6 n (diagV x0 x1 x2 x3 x4 x5 x6 n (init xs0 xs1)) (7 - n.val)
/-- The two heads' gate gradients as the two rows of a block. -/
def dcV (s : St F) : Vec F S2x1x512 .f32 :=
  VecWindow.put (s := S2x1x512) (VecWindow.put (s := S2x1x512) (fun _ => Scalar.ofBits .f32 0x00000000#32) ![0, 0, 0] S1x1x512.size (k0_pay88 s.1.2.2.1)) ![1, 0, 0] S1x1x512.size (k0_pay1 s.1.2.2.2)
/-- The two planes of row sums as the two lane groups of a block. -/
def drV (s : St F) : Vec F S4096x256 .f32 :=
  VecWindow.put (s := S4096x256) (VecWindow.put (s := S4096x256) (fun _ => Scalar.ofBits .f32 0x00000000#32) ![0, 0] S4096x128.size
    (k0_pay3 (VecWindow.window (s := S2x4096x128) s.2.2 ![0, 0, 0] S1x4096x128.size inb_S2x4096x128_S1x4096x128_0_0_0))) ![0, 128] S4096x128.size
    (k0_pay4 (VecWindow.window (s := S2x4096x128) s.2.2 ![1, 0, 0] S1x4096x128.size inb_S2x4096x128_S1x4096x128_1_0_0))

/-! ## The program's offsets -/

theorem trips_eq : ∀ i : grid0.Coords, (k0_t1_loop i).trips = 7 - (i 1).val := by decide +kernel
theorem off1_eq : ∀ i : grid0.Coords, k0_off1 i = ![512 * (i 1).val, 0] := by decide +kernel
theorem off2_eq : ∀ i : grid0.Coords, k0_off2 i = ![512 * (i 1).val, 128 * (0 : Fin 2).val] := by decide +kernel
theorem off3_eq : ∀ i : grid0.Coords, k0_off3 i = ![(0 : Fin 2).val, 512 * (i 1).val, 0] := by decide +kernel
theorem off4_eq : ∀ i : grid0.Coords, k0_off4 i = ![512 * (i 1).val, 128 * (1 : Fin 2).val] := by decide +kernel
theorem off5_eq : ∀ i : grid0.Coords, k0_off5 i = ![(1 : Fin 2).val, 512 * (i 1).val, 0] := by decide +kernel
theorem off6_eq : ∀ (i : grid0.Coords) (k : Fin (k0_t1_loop i).trips), k0_off6 i k = ![512 * ((i 1).val + 1 + k.val), 0] := by decide +kernel
theorem off7_eq : ∀ (i : grid0.Coords) (k : Fin (k0_t1_loop i).trips), k0_off7 i k = ![512 * ((i 1).val + 1 + k.val), 128 * (0 : Fin 2).val] := by decide +kernel
theorem off8_eq : ∀ (i : grid0.Coords) (k : Fin (k0_t1_loop i).trips), k0_off8 i k = ![(0 : Fin 2).val, 512 * ((i 1).val + 1 + k.val), 0] := by decide +kernel
theorem off9_eq : ∀ (i : grid0.Coords) (k : Fin (k0_t1_loop i).trips), k0_off9 i k = ![512 * ((i 1).val + 1 + k.val), 128 * (1 : Fin 2).val] := by decide +kernel
theorem off10_eq : ∀ (i : grid0.Coords) (k : Fin (k0_t1_loop i).trips), k0_off10 i k = ![(1 : Fin 2).val, 512 * ((i 1).val + 1 + k.val), 0] := by decide +kernel

/-! ## Loads and stores at a block -/

theorem rows_load (v : View sig .tc .vmem S4096x128 .f32) (f : v.ty.Contents (Elt F)) (n : Fin 8) {off : Fin 2 → ℕ} (inb) (h : off = ![512 * n.val, 0]) :
    v.readAt (Elt F) (Rect.unit (s := S4096x128) off S512x128.size inb).toLoadRect f = rows (v.read (Elt F) f) n := View.readAt_unit v f inb h _
theorem cols_load (v : View sig .tc .vmem S4096x256 .f32) (f : v.ty.Contents (Elt F)) (n : Fin 8) (p : Fin 2) {off : Fin 2 → ℕ} (inb) (h : off = ![512 * n.val, 128 * p.val]) :
    v.readAt (Elt F) (Rect.unit (s := S4096x256) off S512x128.size inb).toLoadRect f = cols (v.read (Elt F) f) n p := View.readAt_unit v f inb h _
theorem plane_load (v : View sig .tc .vmem S2x4096x128 .f32) (f : v.ty.Contents (Elt F)) (p : Fin 2) (n : Fin 8) {off : Fin 3 → ℕ} (inb) (h : off = ![p.val, 512 * n.val, 0]) :
    v.readAt (Elt F) (Rect.unit (s := S2x4096x128) off S1x512x128.size inb).toLoadRect f = plane (v.read (Elt F) f) p n := View.readAt_unit v f inb h _
theorem rows_store (v : View sig .tc .vmem S4096x128 .f32) (f : v.ty.Contents (Elt F)) (n : Fin 8) {off : Fin 2 → ℕ} (inb) (w) (L) (h : off = ![512 * n.val, 0]) :
    v.read (Elt F) (v.writes (Elt F) f (⟨Rect.unit (s := S4096x128) off S512x128.size inb, w⟩ :: L)) = putRows (v.read (Elt F) (v.writes (Elt F) f L)) n w := View.read_writes_cons_put v f inb w L h
theorem plane_store (v : View sig .tc .vmem S2x4096x128 .f32) (f : v.ty.Contents (Elt F)) (p : Fin 2) (n : Fin 8) {off : Fin 3 → ℕ} (inb) (w) (L) (h : off = ![p.val, 512 * n.val, 0]) :
    v.read (Elt F) (v.writes (Elt F) f (⟨Rect.unit (s := S2x4096x128) off S1x512x128.size inb, w⟩ :: L)) = putPlane (v.read (Elt F) (v.writes (Elt F) f L)) p n w := View.read_writes_cons_put v f inb w L h
theorem putRows_putRows (x : Vec F S4096x128 .f32) (n : Fin 8) (w w') : putRows (putRows x n w) n w' = putRows x n w' := VecWindow.put_put_same _ _ _ _ _

/-! ## One trip and the loop -/

set_option maxHeartbeats 4000000 in
/-- One trip of the printed loop is one block added. -/
theorem trip_eq (𝒱 : Variants) (c : Dev nD) (bd : Option 𝒱.V) (i : grid0.Coords) (w2 : Memref sig .tc .vmem S4096x128 .f32) (u2 : w2.IsWhole) (w3 : Memref sig .tc .vmem S512x128 .f32) (u3 : w3.IsWhole) (w4 : Memref sig .tc .vmem S512x128 .f32) (u4 : w4.IsWhole) (w5 : Memref sig .tc .vmem S4096x128 .f32) (u5 : w5.IsWhole) (w6 : Memref sig .tc .vmem S4096x256 .f32) (u6 : w6.IsWhole) (w7 : Memref sig .tc .vmem S4096x256 .f32) (u7 : w7.IsWhole) (w8 : Memref sig .tc .vmem S2x1x512 .f32) (u8 : w8.IsWhole) (w9 : Memref sig .tc .vmem S4096x128 .bf16) (u9 : w9.IsWhole) (w10 : Memref sig .tc .vmem S512x128 .bf16) (u10 : w10.IsWhole) (w11 : Memref sig .tc .vmem S512x128 .bf16) (u11 : w11.IsWhole) (w12 : Memref sig .tc .vmem S2x1x512 .f32) (u12 : w12.IsWhole) (w13 : Memref sig .tc .vmem S4096x256 .f32) (u13 : w13.IsWhole) (w14 : Memref sig .tc .vmem S4096x128 .f32) (u14 : w14.IsWhole) (w15 : Memref sig .tc .vmem S2x4096x128 .f32) (u15 : w15.IsWhole) (w1 : BitVec 32) (v25 : BitVec 32) (v67 : FVec F S1x512 .f32) (v109 : FVec F S512x128 .f32) (v116 : FVec F S512x512 .f32) (v117 : FVec F S512x512 .bf16) (v119 : FVec F S512x128 .f32) (v122 : FVec F S1x512 .f32) (v142 : BitVec 32) (x0 : Vec F S4096x128 .f32) (x1 x2 : Vec F S512x128 .f32) (x3 : Vec F S4096x128 .f32) (x4 x5 : Vec F S4096x256 .f32) (x6 : Vec F S2x1x512 .f32)
    (k : Fin (k0_t1_loop i).trips) (n : Fin 8) (hn : n.val = (i 1).val + 1 + k.val) (s : St F)
    (f14 : w14.view.ty.Contents (Elt F)) (f15 : w15.view.ty.Contents (Elt F)) (h14 : w14.view.read (Elt F) f14 = s.2.1) (h15 : w15.view.read (Elt F) f15 = s.2.2) :
    tripR_k0_t1 𝒱 c bd i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) k s.1 f14 f15 = (tripV x0 x1 x2 x3 x4 x5 x6 n s).1
    ∧ w14.view.read (Elt F) (w14.view.writes (Elt F) f14 (tripL_k0_t1 𝒱 c bd i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) k s.1 f14 f15).1) = (tripV x0 x1 x2 x3 x4 x5 x6 n s).2.1
    ∧ w15.view.read (Elt F) (w15.view.writes (Elt F) f15 (tripL_k0_t1 𝒱 c bd i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) k s.1 f14 f15).2) = (tripV x0 x1 x2 x3 x4 x5 x6 n s).2.2 := by
  unfold tripR_k0_t1 tripL_k0_t1 trip_k0_t1
  dsimp only
  sl_unfold_run_names
  have e6 := (off6_eq i k).trans (congrArg (fun m => ![512 * m, 0]) hn.symm)
  have e7 := (off7_eq i k).trans (congrArg (fun m => ![512 * m, 128 * (0 : Fin 2).val]) hn.symm)
  have e8 := (off8_eq i k).trans (congrArg (fun m => ![(0 : Fin 2).val, 512 * m, 0]) hn.symm)
  have e9 := (off9_eq i k).trans (congrArg (fun m => ![512 * m, 128 * (1 : Fin 2).val]) hn.symm)
  have e10 := (off10_eq i k).trans (congrArg (fun m => ![(1 : Fin 2).val, 512 * m, 0]) hn.symm)
  have l2 := fun inb => rows_load w2.view (u2.unread x0) n inb e6
  have l5 := fun inb => rows_load w5.view (u5.unread x3) n inb e6
  have l6 := fun inb => cols_load w6.view (u6.unread x4) n 0 inb e7
  have l7 := fun inb => cols_load w7.view (u7.unread x5) n 0 inb e7
  have l6' := fun inb => cols_load w6.view (u6.unread x4) n 1 inb e9
  have l7' := fun inb => cols_load w7.view (u7.unread x5) n 1 inb e9
  have l14 := fun inb => rows_load w14.view f14 n inb e6
  have l15 := fun inb => plane_load w15.view f15 0 n inb e8
  have l15' := fun inb => plane_load w15.view f15 1 n inb e10
  rw [u2.read_unread] at l2; rw [u5.read_unread] at l5; rw [u6.read_unread] at l6 l6'; rw [u7.read_unread] at l7 l7'; rw [h14] at l14; rw [h15] at l15 l15'
  refine ⟨?_, ?_, ?_⟩
  · rw [l2, l5, l6, l7, l6', l7']
    rfl
  · rw [rows_store (h := e6), rows_store (h := e6), View.writes_nil, h14, putRows_putRows]
    rw [View.readCov_cons_toLoadRect]
    rw [l2, l5, l6, l7, l6', l7', l14]
    rfl
  · rw [plane_store (h := e10), plane_store (h := e8), View.writes_nil, h15]
    rw [l2, l5, l6, l7, l6', l7', l15, l15']
    rfl

end Cert.KernelIdeal.Fox

end
-- ==== Proof.KernelIdeal.Block.lean ====
module

public import proofs.«01_k».proof.Proof.KernelIdeal.Step
public import Idealize.ShloMosaic.Lib.Pointwise
public import Idealize.ShloMosaic.Lib.IdealHost
public import Idealize.ShloMosaic.Lib.WordCmp

@[expose] public section

set_option maxRecDepth 16384

noncomputable section

namespace Cert.KernelIdeal.Fox

open Cert.KernelIdeal.Gen
open Idealize.ShloMosaic

/-! ## The block operations at the extended reals, at an index -/

/-- A choice by a comparison's bit. -/
theorem select_bit {α : Type} (p : Prop) [Decidable p] (a b : α) : Scalar.select (BitVec.ofBool (decide p)) a b = if p then a else b := by
  by_cases h : p <;> simp [Scalar.select, h]
/-- The scale's pattern is an eighth. -/
theorem eighth : Ideal.ofBits .f32 0x3E000000#32 = ((1 / 8 : ℝ) : EReal) := by
  simp [Ideal.ofBits, Ideal.ieee, -EReal.coe_mul]; norm_num
/-- The first head's half of a block, -/
theorem half0_apply (x : FVec Ideal S512x128 .f32) (r : Fin 512) (l : Fin 128) :
    half k0_pay49 x (ix2 r l) = if l.val / 64 = 0 then x (ix2 r l) else 0 := by
  pointwise [half, k0_pay49]
  rw [WordCmp.cmpi_slt_ofNat (w := 32) (b := 64) (by show l.val < 2 ^ 31; omega) (by decide), select_bit]
  exact if_congr (by omega) rfl rfl
/-- and the second's. -/
theorem half1_apply (x : FVec Ideal S512x128 .f32) (r : Fin 512) (l : Fin 128) :
    half k0_pay50 x (ix2 r l) = if l.val / 64 = 1 then x (ix2 r l) else 0 := by
  pointwise [half, k0_pay50]
  rw [WordCmp.cmpi_sge_ofNat (w := 32) (b := 64) (by show l.val < 2 ^ 31; omega) (by decide), select_bit]
  exact if_congr (by omega) rfl rfl
theorem scaled_apply (x : FVec Ideal S512x128 .f32) (r : Fin 512) (l : Fin 128) :
    scaled x (ix2 r l) = x (ix2 r l) * ((1 / 8 : ℝ) : EReal) := by
  pointwise [scaled]
  rw [eighth]
theorem wide_apply (x : FVec Ideal S512x128 .f32) (r s : Fin 512) :
    wide x (ix2 r s) = x (ix2 r ⟨s.val % 128, Nat.mod_lt _ (by decide)⟩) := by
  pointwise [wide]
  split_ifs <;> refine congrArg x (congrArg (ix2 r) (Fin.ext ?_)) <;> dsimp only <;> omega
theorem logit_apply (q k4 : FVec Ideal S512x128 .bf16) (ck : FVec Ideal S1x512 .f32) (lb : FVec Ideal S512x128 .f32) (r s : Fin 512) :
    logit q k4 ck lb (ix2 r s) = (∑ l : Fin 128, q (ix2 r l) * k4 (ix2 s l)) + wide lb (ix2 r s) - ck (ix2 0 s) := by
  pointwise [logit]
theorem wt_apply (q k4 : FVec Ideal S512x128 .bf16) (ck : FVec Ideal S1x512 .f32) (lb : FVec Ideal S512x128 .f32) (r s : Fin 512) :
    wt q k4 ck lb (ix2 r s) = Ideal.exp (logit q k4 ck lb (ix2 r s)) := by
  pointwise [wt]
theorem wtD_apply (q k4 : FVec Ideal S512x128 .bf16) (ck : FVec Ideal S1x512 .f32) (lb : FVec Ideal S512x128 .f32) (r s : Fin 512) :
    wtD q k4 ck lb (ix2 r s) = if s.val ≤ r.val then Ideal.exp (logit q k4 ck lb (ix2 r s)) else 0 := by
  pointwise [wtD]
  rw [WordCmp.cmpi_sle_ofNat (w := 32) (by show s.val < 2 ^ 31; omega) (by show r.val < 2 ^ 31; omega), select_bit]
  split_ifs
  · rfl
  · show Ideal.exp ⊥ = 0
    simp
theorem ds_apply (p : FVec Ideal S512x512 .f32) (dO v6 : FVec Ideal S512x128 .bf16) (dl : FVec Ideal S512x128 .f32) (r s : Fin 512) :
    ds p dO v6 dl (ix2 r s) = p (ix2 r s) * ((∑ l : Fin 128, dO (ix2 r l) * v6 (ix2 s l)) - wide dl (ix2 r s)) := by
  pointwise [ds]
theorem accT_apply (acc : FVec Ideal S512x128 .f32) (p : FVec Ideal S512x512 .f32) (x : FVec Ideal S512x128 .bf16) (s : Fin 512) (l : Fin 128) :
    accT acc p x (ix2 s l) = acc (ix2 s l) + ∑ r : Fin 512, p (ix2 r s) * x (ix2 r l) := by
  pointwise [accT]
theorem accN_apply (acc : FVec Ideal S512x128 .f32) (p : FVec Ideal S512x512 .f32) (x : FVec Ideal S512x128 .bf16) (r : Fin 512) (l : Fin 128) :
    accN acc p x (ix2 r l) = acc (ix2 r l) + ∑ s : Fin 512, p (ix2 r s) * x (ix2 s l) := by
  pointwise [accN]
theorem accC_apply (acc : FVec Ideal S1x512 .f32) (p : FVec Ideal S512x512 .f32) (s : Fin 512) :
    accC acc p (ix2 0 s) = acc (ix2 0 s) - ∑ r : Fin 512, p (ix2 r s) := by
  pointwise [accC]
theorem accR_apply (acc : FVec Ideal S1x512x128 .f32) (p : FVec Ideal S512x512 .f32) (r : Fin 512) (l : Fin 128) :
    accR acc p (ix3 0 r l) = acc (ix3 0 r l) + ∑ s : Fin 512, p (ix2 r s) := by
  pointwise [accR]

theorem rows_apply (x : Vec Ideal S4096x128 .f32) (n : Fin 8) (r : Fin 512) (l : Fin 128) :
    rows (F := Ideal) x n (ix2 r l) = x (ix2 ⟨512 * n.val + r.val, by omega⟩ l) := by
  unfold rows VecWindow.window
  congr 1; funext a; apply Fin.ext
  match a with
  | ⟨0, _⟩ => show 512 * n.val + 1 * r.val = 512 * n.val + r.val; rw [Nat.one_mul]
  | ⟨1, _⟩ => show 0 + 1 * l.val = l.val; rw [Nat.one_mul, Nat.zero_add]
theorem cols_apply (x : Vec Ideal S4096x256 .f32) (n : Fin 8) (p : Fin 2) (r : Fin 512) (l : Fin 128) :
    cols (F := Ideal) x n p (ix2 r l) = x (ix2 ⟨512 * n.val + r.val, by omega⟩ ⟨128 * p.val + l.val, by omega⟩) := by
  unfold cols VecWindow.window
  congr 1; funext a; apply Fin.ext
  match a with
  | ⟨0, _⟩ => show 512 * n.val + 1 * r.val = 512 * n.val + r.val; rw [Nat.one_mul]
  | ⟨1, _⟩ => show 128 * p.val + 1 * l.val = 128 * p.val + l.val; rw [Nat.one_mul]
theorem plane_apply (x : Vec Ideal S2x4096x128 .f32) (p : Fin 2) (n : Fin 8) (r : Fin 512) (l : Fin 128) :
    plane (F := Ideal) x p n (ix3 0 r l) = x (ix3 p ⟨512 * n.val + r.val, by omega⟩ l) := by
  unfold plane VecWindow.window
  congr 1; funext a; apply Fin.ext
  match a with
  | ⟨0, _⟩ => show p.val + 1 * 0 = _; rfl
  | ⟨1, _⟩ => show 512 * n.val + 1 * r.val = 512 * n.val + r.val; rw [Nat.one_mul]
  | ⟨2, _⟩ => show 0 + 1 * l.val = l.val; rw [Nat.one_mul, Nat.zero_add]
theorem ckRow_apply (x : Vec Ideal S2x1x512 .f32) (p : Fin 2) (s : Fin 512) :
    k0_pay53 (ckRow (F := Ideal) x p) (ix2 0 s) = x (ix3 p 0 s) := by
  have h : k0_pay53 (ckRow (F := Ideal) x p) (ix2 0 s) = ckRow (F := Ideal) x p (ix3 0 0 s) := by pointwise [k0_pay53]
  rw [h]
  unfold ckRow VecWindow.window
  congr 1; funext a; apply Fin.ext
  match a with
  | ⟨0, _⟩ => show p.val + 1 * 0 = _; rfl
  | ⟨1, _⟩ => rfl
  | ⟨2, _⟩ => show 0 + 1 * s.val = s.val; rw [Nat.one_mul, Nat.zero_add]
theorem putRows_apply (x : Vec Ideal S4096x128 .f32) (n : Fin 8) (w : Vec Ideal S512x128 .f32) (t : Fin 4096) (l : Fin 128) :
    putRows (F := Ideal) x n w (ix2 t l) = if h : t.val / 512 = n.val then w (ix2 ⟨t.val % 512, Nat.mod_lt _ (by decide)⟩ l) else x (ix2 t l) := by
  unfold putRows VecWindow.put
  by_cases h : t.val / 512 = n.val
  · rw [dif_pos h, dif_pos (fun a => match a with
      | ⟨0, _⟩ => ⟨(by show 512 * n.val ≤ t.val; omega), (by show t.val < 512 * n.val + 512; omega)⟩
      | ⟨1, _⟩ => ⟨(by show 0 ≤ l.val; omega), (by show l.val < 0 + 128; omega)⟩)]
    congr 1; funext a; apply Fin.ext
    match a with
    | ⟨0, _⟩ => show t.val - 512 * n.val = t.val % 512; omega
    | ⟨1, _⟩ => show l.val - 0 = l.val; omega
  · rw [dif_neg h, dif_neg (fun hh => h (by
      have h0 : 512 * n.val ≤ t.val ∧ t.val < 512 * n.val + 512 := hh 0
      omega))]
theorem putPlane_apply (x : Vec Ideal S2x4096x128 .f32) (p : Fin 2) (n : Fin 8) (w : Vec Ideal S1x512x128 .f32) (p' : Fin 2) (t : Fin 4096) (l : Fin 128) :
    putPlane (F := Ideal) x p n w (ix3 p' t l) = if h : p' = p ∧ t.val / 512 = n.val then w (ix3 0 ⟨t.val % 512, Nat.mod_lt _ (by decide)⟩ l) else x (ix3 p' t l) := by
  unfold putPlane VecWindow.put
  by_cases h : p' = p ∧ t.val / 512 = n.val
  · have hh : ∀ a : Fin 3, (![p.val, 512 * n.val, 0] : Fin 3 → ℕ) a ≤ (ix3 p' t l a).val ∧ (ix3 p' t l a).val < (![p.val, 512 * n.val, 0] : Fin 3 → ℕ) a + S1x512x128.size a := by
      obtain ⟨hp, h⟩ := h
      intro a
      match a with
      | ⟨0, _⟩ => exact ⟨(by show p.val ≤ p'.val; rw [hp]), (by show p'.val < p.val + 1; rw [hp]; omega)⟩
      | ⟨1, _⟩ => exact ⟨(by show 512 * n.val ≤ t.val; omega), (by show t.val < 512 * n.val + 512; omega)⟩
      | ⟨2, _⟩ => exact ⟨(by show 0 ≤ l.val; omega), (by show l.val < 0 + 128; omega)⟩
    rw [dif_pos h, dif_pos hh]
    obtain ⟨hp, h⟩ := h
    congr 1; funext a; apply Fin.ext
    match a with
    | ⟨0, _⟩ => show p'.val - p.val = 0; rw [hp]; omega
    | ⟨1, _⟩ => show t.val - 512 * n.val = t.val % 512; omega
    | ⟨2, _⟩ => show l.val - 0 = l.val; omega
  · rw [dif_neg h, dif_neg (fun hh => h (by
      have h0 : p.val ≤ p'.val ∧ p'.val < p.val + 1 := hh 0
      have h1 : 512 * n.val ≤ t.val ∧ t.val < 512 * n.val + 512 := hh 1
      exact ⟨Fin.ext (by omega), by omega⟩))]

end Cert.KernelIdeal.Fox

end
-- ==== Proof.KernelIdeal.Sum.lean ====
module

public import proofs.«01_k».proof.Proof.KernelIdeal.Block
public import proofs.«01_k».proof.Proof.Math

@[expose] public section

set_option maxRecDepth 16384

noncomputable section

namespace Cert.KernelIdeal.Fox

open Cert.KernelIdeal.Gen Cert.Fox
open Idealize.ShloMosaic
open Finset (range)

/-! ## A key block's carried values as real sums -/

variable {q k v g : ℕ → ℕ → ℝ} {lb dl ck : ℕ → ℕ → ℝ}

/-- The blocks a point at key block `n` reads, as reals. -/
structure Reads (q k v g : ℕ → ℕ → ℝ) (lb dl ck : ℕ → ℕ → ℝ) (n : ℕ) (x0 : FVec Ideal S4096x128 .f32) (x1 x2 : FVec Ideal S512x128 .f32) (x3 : FVec Ideal S4096x128 .f32)
    (x4 x5 : FVec Ideal S4096x256 .f32) (x6 : FVec Ideal S2x1x512 .f32) : Prop where
  h0 : ∀ (t : Fin 4096) (l : Fin 128), x0 (ix2 t l) = ((q t.val l.val : ℝ) : EReal)
  h1 : ∀ (s : Fin 512) (l : Fin 128), x1 (ix2 s l) = ((k (512 * n + s.val) l.val : ℝ) : EReal)
  h2 : ∀ (s : Fin 512) (l : Fin 128), x2 (ix2 s l) = ((v (512 * n + s.val) l.val : ℝ) : EReal)
  h3 : ∀ (t : Fin 4096) (l : Fin 128), x3 (ix2 t l) = ((g t.val l.val : ℝ) : EReal)
  h4 : ∀ (t : Fin 4096) (l : Fin 256), x4 (ix2 t l) = ((lb (l.val / 128) t.val : ℝ) : EReal)
  h5 : ∀ (t : Fin 4096) (l : Fin 256), x5 (ix2 t l) = ((dl (l.val / 128) t.val : ℝ) : EReal)
  h6 : ∀ (p : Fin 2) (s : Fin 512), x6 (ix3 p 0 s) = ((ck p.val (512 * n + s.val) : ℝ) : EReal)

/-- A mask keeps head `p`'s lanes. -/
def Keeps (msk : IVec S512x128 1) (p : Fin 2) : Prop :=
  ∀ (x : FVec Ideal S512x128 .f32) (r : Fin 512) (l : Fin 128), half msk x (ix2 r l) = if l.val / 64 = p.val then x (ix2 r l) else 0
theorem keeps0 : Keeps k0_pay49 0 := half0_apply
theorem keeps1 : Keeps k0_pay50 1 := half1_apply

/-- A choice between a real and zero. -/
theorem ite_coe (c : Prop) [Decidable c] (a : ℝ) : (if c then ((a : ℝ) : EReal) else 0) = ((if c then a else 0 : ℝ) : EReal) := by
  split_ifs <;> simp

section Block
variable {n : Fin 8} {x0 : FVec Ideal S4096x128 .f32} {x1 x2 : FVec Ideal S512x128 .f32} {x3 : FVec Ideal S4096x128 .f32}
    {x4 x5 : FVec Ideal S4096x256 .f32} {x6 : FVec Ideal S2x1x512 .f32} (hx : Reads q k v g lb dl ck n.val x0 x1 x2 x3 x4 x5 x6)

include hx
/-- The logits of block `(m, n)` are real. -/
theorem logit_real (m : Fin 8) (p : Fin 2) (msk : IVec S512x128 1) (hm : Keeps msk p) (r s : Fin 512) :
    logit (half msk (scaled (rows (F := Ideal) x0 m))) (k0_pay47 x1) (k0_pay53 (ckRow (F := Ideal) x6 p)) (cols (F := Ideal) x4 m p) (ix2 r s)
      = ((pz q k lb ck p.val (512 * m.val + r.val) (512 * n.val + s.val) : ℝ) : EReal) := by
  rw [logit_apply, ckRow_apply, wide_apply, cols_apply, hx.h4, hx.h6]
  rw [sum_eq_coe _ (fun l => (if l / 64 = p.val then q (512 * m.val + r.val) l * (1 / 8) else 0) * k (512 * n.val + s.val) l) (fun l => by
    rw [hm, scaled_apply, rows_apply, hx.h0, show k0_pay47 (F := Ideal) x1 (ix2 s l) = x1 (ix2 s l) from rfl, hx.h1, ← EReal.coe_mul, ite_coe, ← EReal.coe_mul])]
  rw [← EReal.coe_add, ← EReal.coe_sub]
  unfold pz
  rw [show (128 * p.val + s.val % 128) / 128 = p.val by omega]
/-- The weights below the diagonal, -/
theorem wtB_real (m : Fin 8) (p : Fin 2) (msk : IVec S512x128 1) (hm : Keeps msk p) (hnm : n.val < m.val) (r s : Fin 512) :
    wtB (F := Ideal) x0 x1 x2 x3 x4 x5 x6 m p msk (ix2 r s) = ((pw q k lb ck p.val (512 * m.val + r.val) (512 * n.val + s.val) : ℝ) : EReal) := by
  unfold wtB
  rw [wt_apply, logit_real hx m p msk hm, pw, if_pos (by omega)]
  rfl
/-- those on it, -/
theorem wtDB_real (p : Fin 2) (msk : IVec S512x128 1) (hm : Keeps msk p) (r s : Fin 512) :
    wtDB (F := Ideal) x0 x1 x2 x3 x4 x5 x6 n p msk (ix2 r s) = ((pw q k lb ck p.val (512 * n.val + r.val) (512 * n.val + s.val) : ℝ) : EReal) := by
  unfold wtDB
  rw [wtD_apply, logit_real hx n p msk hm, pw, ← ite_coe]
  exact if_congr (by omega) rfl rfl
/-- and the logits' gradients, the weights given. -/
theorem dsB_real (m : Fin 8) (p : Fin 2) (msk : IVec S512x128 1) (hm : Keeps msk p) (w : FVec Ideal S512x512 .f32)
    (hw : ∀ r s : Fin 512, w (ix2 r s) = ((pw q k lb ck p.val (512 * m.val + r.val) (512 * n.val + s.val) : ℝ) : EReal)) (r s : Fin 512) :
    dsB (F := Ideal) x0 x1 x2 x3 x4 x5 x6 m p msk w (ix2 r s) = ((pd q k v g lb dl ck p.val (512 * m.val + r.val) (512 * n.val + s.val) : ℝ) : EReal) := by
  unfold dsB
  rw [ds_apply, hw, wide_apply, cols_apply, hx.h5]
  rw [sum_eq_coe _ (fun l => (if l / 64 = p.val then g (512 * m.val + r.val) l else 0) * v (512 * n.val + s.val) l) (fun l => by
    rw [hm, rows_apply, hx.h3, show k0_pay48 (F := Ideal) x2 (ix2 s l) = x2 (ix2 s l) from rfl, hx.h2, ite_coe, ← EReal.coe_mul])]
  rw [← EReal.coe_sub, ← EReal.coe_mul]
  unfold pd
  rw [show (128 * p.val + s.val % 128) / 128 = p.val by omega]
end Block

/-- Two masked products added: each lane gets its own head's. -/
theorem pair_sum (X Y0 Y1 : ℕ → ℝ) (l : ℕ) (hl : l < 128) (a : ℝ) (f : ℕ → ℕ → ℝ) :
    a + (∑ r ∈ range 512, f 0 r * (if l / 64 = 0 then X r else 0)) + (∑ r ∈ range 512, f 1 r * (if l / 64 = 1 then X r else 0))
      = a + ∑ r ∈ range 512, f (l / 64) r * X r := by
  rcases (show l / 64 = 0 ∨ l / 64 = 1 by omega) with h | h <;> rw [h] <;> simp

/-- What is carried after the query blocks before `m`, at key block `n`. -/
structure Inv (q k v g : ℕ → ℕ → ℝ) (lb dl ck : ℕ → ℕ → ℝ) (n m : ℕ) (s : St Ideal) : Prop where
  dk : ∀ (i : Fin 512) (l : Fin 128), s.1.1 (ix2 i l) = ((∑ t ∈ range (512 * m), pd q k v g lb dl ck (l.val / 64) t (512 * n + i.val) * (q t l.val * (1 / 8)) : ℝ) : EReal)
  dv : ∀ (i : Fin 512) (l : Fin 128), s.1.2.1 (ix2 i l) = ((∑ t ∈ range (512 * m), pw q k lb ck (l.val / 64) t (512 * n + i.val) * g t l.val : ℝ) : EReal)
  dc0 : ∀ i : Fin 512, s.1.2.2.1 (ix2 0 i) = ((-∑ t ∈ range (512 * m), pd q k v g lb dl ck 0 t (512 * n + i.val) : ℝ) : EReal)
  dc1 : ∀ i : Fin 512, s.1.2.2.2 (ix2 0 i) = ((-∑ t ∈ range (512 * m), pd q k v g lb dl ck 1 t (512 * n + i.val) : ℝ) : EReal)
  dq : ∀ (t : Fin 4096) (l : Fin 128), s.2.1 (ix2 t l) = ((∑ i ∈ range (if t.val < 512 * m then 512 * (n + 1) else 512 * n), pd q k v g lb dl ck (l.val / 64) t.val i * k i l.val : ℝ) : EReal)
  dr : ∀ (p : Fin 2) (t : Fin 4096) (l : Fin 128), s.2.2 (ix3 p t l) = ((∑ i ∈ range (if t.val < 512 * m then 512 * (n + 1) else 512 * n), pd q k v g lb dl ck p.val t.val i : ℝ) : EReal)

section Step
variable {n : Fin 8} {x0 : FVec Ideal S4096x128 .f32} {x1 x2 : FVec Ideal S512x128 .f32} {x3 : FVec Ideal S4096x128 .f32}
    {x4 x5 : FVec Ideal S4096x256 .f32} {x6 : FVec Ideal S2x1x512 .f32} (hx : Reads q k v g lb dl ck n.val x0 x1 x2 x3 x4 x5 x6)
include hx
/-- One query block more. -/
theorem addBlock_inv (m : Fin 8) (p0 d0 p1 d1 : FVec Ideal S512x512 .f32)
    (hp0 : ∀ r i : Fin 512, p0 (ix2 r i) = ((pw q k lb ck 0 (512 * m.val + r.val) (512 * n.val + i.val) : ℝ) : EReal))
    (hd0 : ∀ r i : Fin 512, d0 (ix2 r i) = ((pd q k v g lb dl ck 0 (512 * m.val + r.val) (512 * n.val + i.val) : ℝ) : EReal))
    (hp1 : ∀ r i : Fin 512, p1 (ix2 r i) = ((pw q k lb ck 1 (512 * m.val + r.val) (512 * n.val + i.val) : ℝ) : EReal))
    (hd1 : ∀ r i : Fin 512, d1 (ix2 r i) = ((pd q k v g lb dl ck 1 (512 * m.val + r.val) (512 * n.val + i.val) : ℝ) : EReal))
    (s : St Ideal) (hs : Inv q k v g lb dl ck n.val m.val s) : Inv q k v g lb dl ck n.val (m.val + 1) (addBlock (F := Ideal) x0 x1 x3 m p0 d0 p1 d1 s) where
  dk i l := by
    show accT (accT s.1.1 d0 _) d1 _ (ix2 i l) = _
    rw [accT_apply, accT_apply, hs.dk]
    rw [sum_eq_coe _ (fun r => pd q k v g lb dl ck 0 (512 * m.val + r) (512 * n.val + i.val) * (if l.val / 64 = 0 then q (512 * m.val + r) l.val * (1 / 8) else 0)) (fun r => by
      rw [half0_apply, scaled_apply, rows_apply, hx.h0, hd0, ← EReal.coe_mul, ite_coe, ← EReal.coe_mul])]
    rw [sum_eq_coe _ (fun r => pd q k v g lb dl ck 1 (512 * m.val + r) (512 * n.val + i.val) * (if l.val / 64 = 1 then q (512 * m.val + r) l.val * (1 / 8) else 0)) (fun r => by
      rw [half1_apply, scaled_apply, rows_apply, hx.h0, hd1, ← EReal.coe_mul, ite_coe, ← EReal.coe_mul])]
    rw [← EReal.coe_add, ← EReal.coe_add, sum_block]
    exact congrArg _ (pair_sum (fun r => q (512 * m.val + r) l.val * (1 / 8)) 0 0 l.val l.isLt _ (fun p r => pd q k v g lb dl ck p (512 * m.val + r) (512 * n.val + i.val)))
  dv i l := by
    show accT (accT s.1.2.1 p0 _) p1 _ (ix2 i l) = _
    rw [accT_apply, accT_apply, hs.dv]
    rw [sum_eq_coe _ (fun r => pw q k lb ck 0 (512 * m.val + r) (512 * n.val + i.val) * (if l.val / 64 = 0 then g (512 * m.val + r) l.val else 0)) (fun r => by
      rw [half0_apply, rows_apply, hx.h3, hp0, ite_coe, ← EReal.coe_mul])]
    rw [sum_eq_coe _ (fun r => pw q k lb ck 1 (512 * m.val + r) (512 * n.val + i.val) * (if l.val / 64 = 1 then g (512 * m.val + r) l.val else 0)) (fun r => by
      rw [half1_apply, rows_apply, hx.h3, hp1, ite_coe, ← EReal.coe_mul])]
    rw [← EReal.coe_add, ← EReal.coe_add, sum_block]
    exact congrArg _ (pair_sum (fun r => g (512 * m.val + r) l.val) 0 0 l.val l.isLt _ (fun p r => pw q k lb ck p (512 * m.val + r) (512 * n.val + i.val)))
  dc0 i := by
    show accC s.1.2.2.1 d0 (ix2 0 i) = _
    rw [accC_apply, hs.dc0, sum_eq_coe _ (fun r => pd q k v g lb dl ck 0 (512 * m.val + r) (512 * n.val + i.val)) (fun r => hd0 r i), ← EReal.coe_sub, sum_block]
    exact congrArg _ (by ring)
  dc1 i := by
    show accC s.1.2.2.2 d1 (ix2 0 i) = _
    rw [accC_apply, hs.dc1, sum_eq_coe _ (fun r => pd q k v g lb dl ck 1 (512 * m.val + r) (512 * n.val + i.val)) (fun r => hd1 r i), ← EReal.coe_sub, sum_block]
    exact congrArg _ (by ring)
  dq t l := by
    show putRows (F := Ideal) s.2.1 m (accN (accN (rows (F := Ideal) s.2.1 m) d0 _) d1 _) (ix2 t l) = _
    rw [putRows_apply]
    by_cases h : t.val / 512 = m.val
    · rw [dif_pos h, accN_apply, accN_apply, rows_apply]
      have ht : 512 * m.val + t.val % 512 = t.val := by omega
      rw [hs.dq, if_neg (show ¬ 512 * m.val + t.val % 512 < 512 * m.val by omega), if_pos (show t.val < 512 * (m.val + 1) by omega)]
      rw [sum_eq_coe _ (fun i => pd q k v g lb dl ck 0 t.val (512 * n.val + i) * (if l.val / 64 = 0 then k (512 * n.val + i) l.val else 0)) (fun i => by
        rw [half0_apply, hx.h1, hd0, ite_coe, ← EReal.coe_mul, ht])]
      rw [sum_eq_coe _ (fun i => pd q k v g lb dl ck 1 t.val (512 * n.val + i) * (if l.val / 64 = 1 then k (512 * n.val + i) l.val else 0)) (fun i => by
        rw [half1_apply, hx.h1, hd1, ite_coe, ← EReal.coe_mul, ht])]
      rw [← EReal.coe_add, ← EReal.coe_add, sum_block]
      dsimp only
      rw [ht]
      exact congrArg _ (pair_sum (fun i => k (512 * n.val + i) l.val) 0 0 l.val l.isLt _ (fun p i => pd q k v g lb dl ck p t.val (512 * n.val + i)))
    · rw [dif_neg h, hs.dq]
      by_cases h' : t.val < 512 * m.val
      · rw [if_pos h', if_pos (show t.val < 512 * (m.val + 1) by omega)]
      · rw [if_neg h', if_neg (show ¬ t.val < 512 * (m.val + 1) by omega)]
  dr p t l := by
    show putPlane (F := Ideal) (putPlane (F := Ideal) s.2.2 0 m (accR (plane (F := Ideal) s.2.2 0 m) d0)) 1 m (accR (plane (F := Ideal) s.2.2 1 m) d1) (ix3 p t l) = _
    rw [putPlane_apply, putPlane_apply]
    by_cases h : t.val / 512 = m.val
    · have ht : 512 * m.val + t.val % 512 = t.val := by omega
      rw [if_pos (show t.val < 512 * (m.val + 1) by omega), sum_block]
      match p with
      | ⟨0, _⟩ =>
        rw [dif_neg (fun hh => absurd (congrArg Fin.val hh.1) Nat.zero_ne_one), dif_pos ⟨rfl, h⟩, accR_apply, plane_apply, hs.dr, if_neg (show ¬ 512 * m.val + t.val % 512 < 512 * m.val by omega)]
        rw [sum_eq_coe _ (fun i => pd q k v g lb dl ck 0 t.val (512 * n.val + i)) (fun i => by rw [hd0, ht]), ← EReal.coe_add]
        dsimp only
        rw [ht]
        rfl
      | ⟨1, _⟩ =>
        rw [dif_pos ⟨rfl, h⟩, accR_apply, plane_apply, hs.dr, if_neg (show ¬ 512 * m.val + t.val % 512 < 512 * m.val by omega)]
        rw [sum_eq_coe _ (fun i => pd q k v g lb dl ck 1 t.val (512 * n.val + i)) (fun i => by rw [hd1, ht]), ← EReal.coe_add]
        dsimp only
        rw [ht]
        rfl
    · rw [dif_neg (fun hh => h hh.2), dif_neg (fun hh => h hh.2), hs.dr]
      by_cases h' : t.val < 512 * m.val
      · rw [if_pos h', if_pos (show t.val < 512 * (m.val + 1) by omega)]
      · rw [if_neg h', if_neg (show ¬ t.val < 512 * (m.val + 1) by omega)]
/-- The block on the diagonal. -/
theorem diagV_inv (s : St Ideal) (hs : Inv q k v g lb dl ck n.val n.val s) : Inv q k v g lb dl ck n.val (n.val + 1) (diagV (F := Ideal) x0 x1 x2 x3 x4 x5 x6 n s) :=
  addBlock_inv hx n _ _ _ _ (wtDB_real hx 0 _ keeps0) (dsB_real hx n 0 _ keeps0 _ (wtDB_real hx 0 _ keeps0))
    (wtDB_real hx 1 _ keeps1) (dsB_real hx n 1 _ keeps1 _ (wtDB_real hx 1 _ keeps1)) s hs
/-- One below it. -/
theorem tripV_inv (m : Fin 8) (hnm : n.val < m.val) (s : St Ideal) (hs : Inv q k v g lb dl ck n.val m.val s) : Inv q k v g lb dl ck n.val (m.val + 1) (tripV (F := Ideal) x0 x1 x2 x3 x4 x5 x6 m s) :=
  addBlock_inv hx m _ _ _ _ (wtB_real hx m 0 _ keeps0 hnm) (dsB_real hx m 0 _ keeps0 _ (wtB_real hx m 0 _ keeps0 hnm))
    (wtB_real hx m 1 _ keeps1 hnm) (dsB_real hx m 1 _ keeps1 _ (wtB_real hx m 1 _ keeps1 hnm)) s hs
/-- The first `j` of them. -/
theorem loopV_inv (s : St Ideal) (hs : Inv q k v g lb dl ck n.val (n.val + 1) s) : ∀ (j : ℕ), j ≤ 7 - n.val →
    Inv q k v g lb dl ck n.val (n.val + 1 + j) (loopV (F := Ideal) x0 x1 x2 x3 x4 x5 x6 n s j)
  | 0, _ => hs
  | j + 1, hj => by
    have h : n.val + 1 + j < 8 := by omega
    have e : loopV (F := Ideal) x0 x1 x2 x3 x4 x5 x6 n s (j + 1) = tripV (F := Ideal) x0 x1 x2 x3 x4 x5 x6 ⟨n.val + 1 + j, h⟩ (loopV (F := Ideal) x0 x1 x2 x3 x4 x5 x6 n s j) := by
      conv_lhs => unfold loopV
      exact dif_pos h
    rw [e]
    exact tripV_inv hx ⟨n.val + 1 + j, h⟩ (by show n.val < n.val + 1 + j; omega) _ (loopV_inv s hs j (by omega))
end Step

/-- The two accumulators after the key blocks before `n`. -/
structure Acc (q k v g : ℕ → ℕ → ℝ) (lb dl ck : ℕ → ℕ → ℝ) (n : ℕ) (xs0 : FVec Ideal S4096x128 .f32) (xs1 : FVec Ideal S2x4096x128 .f32) : Prop where
  dq : ∀ (t : Fin 4096) (l : Fin 128), xs0 (ix2 t l) = ((∑ i ∈ range (512 * n), pd q k v g lb dl ck (l.val / 64) t.val i * k i l.val : ℝ) : EReal)
  dr : ∀ (p : Fin 2) (t : Fin 4096) (l : Fin 128), xs1 (ix3 p t l) = ((∑ i ∈ range (512 * n), pd q k v g lb dl ck p.val t.val i : ℝ) : EReal)

/-- A key block's weights vanish above the diagonal, so the sums may start at the block's own rows. -/
theorem range_ext (n t : ℕ) (f : ℕ → ℝ) (hf : ∀ i, t < i → f i = 0) : (∑ i ∈ range (512 * n), f i) = ∑ i ∈ range (if t < 512 * n then 512 * (n + 1) else 512 * n), f i := by
  split_ifs with h
  · rw [sum_block, Finset.sum_eq_zero (s := range 512) (fun r _ => hf _ (by omega)), add_zero]
  · rfl

/-- A point of the grid: every query block. -/
theorem bodyV_inv {n : Fin 8} {x0 : FVec Ideal S4096x128 .f32} {x1 x2 : FVec Ideal S512x128 .f32} {x3 : FVec Ideal S4096x128 .f32}
    {x4 x5 : FVec Ideal S4096x256 .f32} {x6 : FVec Ideal S2x1x512 .f32} (hx : Reads q k v g lb dl ck n.val x0 x1 x2 x3 x4 x5 x6)
    (xs0 : FVec Ideal S4096x128 .f32) (xs1 : FVec Ideal S2x4096x128 .f32) (ha : Acc q k v g lb dl ck n.val xs0 xs1) :
    Inv q k v g lb dl ck n.val 8 (bodyV (F := Ideal) x0 x1 x2 x3 x4 x5 x6 n xs0 xs1) := by
  have h := loopV_inv hx _ (diagV_inv hx (init (F := Ideal) xs0 xs1) {
    dk := fun i l => by
      rw [Finset.sum_eq_zero (fun t ht => by rw [pd_zero _ _ _ _ _ _ _ (by have := Finset.mem_range.1 ht; omega), zero_mul])]
      show k0_pay55 (F := Ideal) (ix2 i l) = _
      pointwise [k0_pay55]
      simp
    dv := fun i l => by
      rw [Finset.sum_eq_zero (fun t ht => by rw [pw_zero _ _ _ _ (by have := Finset.mem_range.1 ht; omega), zero_mul])]
      show k0_pay55 (F := Ideal) (ix2 i l) = _
      pointwise [k0_pay55]
      simp
    dc0 := fun i => by
      rw [Finset.sum_eq_zero (fun t ht => pd_zero _ _ _ _ _ _ _ (by have := Finset.mem_range.1 ht; omega))]
      show k0_pay56 (F := Ideal) (ix2 0 i) = _
      pointwise [k0_pay56]
      simp
    dc1 := fun i => by
      rw [Finset.sum_eq_zero (fun t ht => pd_zero _ _ _ _ _ _ _ (by have := Finset.mem_range.1 ht; omega))]
      show k0_pay56 (F := Ideal) (ix2 0 i) = _
      pointwise [k0_pay56]
      simp
    dq := fun t l => (ha.dq t l).trans (congrArg _ (range_ext n.val t.val _ (fun i hi => by rw [pd_zero _ _ _ _ _ _ _ hi, zero_mul])))
    dr := fun p t l => (ha.dr p t l).trans (congrArg _ (range_ext n.val t.val _ (fun i hi => pd_zero _ _ _ _ _ _ _ hi))) }) (7 - n.val) le_rfl
  rw [show n.val + 1 + (7 - n.val) = 8 by omega] at h
  exact h
/-- The accumulators after it. -/
theorem Inv.acc {n : ℕ} {s : St Ideal} (h : Inv q k v g lb dl ck n 8 s) : Acc q k v g lb dl ck (n + 1) s.2.1 s.2.2 where
  dq t l := by rw [h.dq, if_pos (by omega)]
  dr p t l := by rw [h.dr, if_pos (by omega)]
/-- The accumulators at the first key block. -/
theorem acc_zero : Acc q k v g lb dl ck 0 (k0_pay45 (F := Ideal)) (k0_pay46 (F := Ideal)) where
  dq t l := by
    pointwise [k0_pay45]
    simp
  dr p t l := by
    pointwise [k0_pay46]
    simp

end Cert.KernelIdeal.Fox

end
-- ==== Proof.KernelIdeal.Point.lean ====
module

public import proofs.«01_k».proof.Proof.KernelIdeal.Step

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The key block a point is at. -/
abbrev kb (i : grid0.Coords) : Fin 8 := ⟨(i 1).val, (i 1).isLt⟩
theorem i1_lt (i : grid0.Coords) : (i 1).val < 8 := (i 1).isLt
theorem inbo1 (i : grid0.Coords) : ∀ a, k0_off1 i a + S512x128.size a ≤ S4096x128.size a := by
  have h := i1_lt i
  rw [off1_eq i]
  exact fun a => match a with | 0 => (by show 512 * (i 1).val + 512 ≤ 4096; omega) | 1 => (by show 0 + 128 ≤ 128; omega)
theorem inbo2 (i : grid0.Coords) : ∀ a, k0_off2 i a + S512x128.size a ≤ S4096x256.size a := by
  have h := i1_lt i
  rw [off2_eq i]
  exact fun a => match a with | 0 => (by show 512 * (i 1).val + 512 ≤ 4096; omega) | 1 => (by show 128 * 0 + 128 ≤ 256; omega)
theorem inbo3 (i : grid0.Coords) : ∀ a, k0_off3 i a + S1x512x128.size a ≤ S2x4096x128.size a := by
  have h := i1_lt i
  rw [off3_eq i]
  exact fun a => match a with | 0 => (by show 0 + 1 ≤ 2; omega) | 1 => (by show 512 * (i 1).val + 512 ≤ 4096; omega) | 2 => (by show 0 + 128 ≤ 128; omega)
theorem inbo4 (i : grid0.Coords) : ∀ a, k0_off4 i a + S512x128.size a ≤ S4096x256.size a := by
  have h := i1_lt i
  rw [off4_eq i]
  exact fun a => match a with | 0 => (by show 512 * (i 1).val + 512 ≤ 4096; omega) | 1 => (by show 128 * 1 + 128 ≤ 256; omega)
theorem inbo5 (i : grid0.Coords) : ∀ a, k0_off5 i a + S1x512x128.size a ≤ S2x4096x128.size a := by
  have h := i1_lt i
  rw [off5_eq i]
  exact fun a => match a with | 0 => (by show 1 + 1 ≤ 2; omega) | 1 => (by show 512 * (i 1).val + 512 ≤ 4096; omega) | 2 => (by show 0 + 128 ≤ 128; omega)

/-! ## What a point stores -/

/-- A whole block of keys loaded, -/
abbrev ldA {w : Memref sig .tc .vmem S512x128 .f32} (u : w.IsWhole) (x : Vec F S512x128 .f32) :=
  w.view.readAt (Elt F) (Rect.unit (s := S512x128) ![0, 0] S512x128.size inb_S512x128_S512x128_0_0).toLoadRect (u.unread x)
/-- the point's block of rows, -/
abbrev ldR (i : grid0.Coords) {w : Memref sig .tc .vmem S4096x128 .f32} (u : w.IsWhole) (x : Vec F S4096x128 .f32) :=
  w.view.readAt (Elt F) (Rect.unit (s := S4096x128) (k0_off1 i) S512x128.size (inbo1 i)).toLoadRect (u.unread x)
/-- of them the first lane group, -/
abbrev ldC0 (i : grid0.Coords) {w : Memref sig .tc .vmem S4096x256 .f32} (u : w.IsWhole) (x : Vec F S4096x256 .f32) :=
  w.view.readAt (Elt F) (Rect.unit (s := S4096x256) (k0_off2 i) S512x128.size (inbo2 i)).toLoadRect (u.unread x)
/-- and the second, -/
abbrev ldC1 (i : grid0.Coords) {w : Memref sig .tc .vmem S4096x256 .f32} (u : w.IsWhole) (x : Vec F S4096x256 .f32) :=
  w.view.readAt (Elt F) (Rect.unit (s := S4096x256) (k0_off4 i) S512x128.size (inbo4 i)).toLoadRect (u.unread x)
/-- the first head's decays of the keys, -/
abbrev ldK0 {w : Memref sig .tc .vmem S2x1x512 .f32} (u : w.IsWhole) (x : Vec F S2x1x512 .f32) :=
  w.view.readAt (Elt F) (Rect.unit (s := S2x1x512) ![0, 0, 0] S1x1x512.size inb_S2x1x512_S1x1x512_0_0_0).toLoadRect (u.unread x)
/-- and the second's. -/
abbrev ldK1 {w : Memref sig .tc .vmem S2x1x512 .f32} (u : w.IsWhole) (x : Vec F S2x1x512 .f32) :=
  w.view.readAt (Elt F) (Rect.unit (s := S2x1x512) ![1, 0, 0] S1x1x512.size inb_S2x1x512_S1x1x512_1_0_0).toLoadRect (u.unread x)

section
variable (c : Dev nD) (i : grid0.Coords) (w2 : Memref sig .tc .vmem S4096x128 .f32) (u2 : w2.IsWhole) (w3 : Memref sig .tc .vmem S512x128 .f32) (u3 : w3.IsWhole) (w4 : Memref sig .tc .vmem S512x128 .f32) (u4 : w4.IsWhole) (w5 : Memref sig .tc .vmem S4096x128 .f32) (u5 : w5.IsWhole) (w6 : Memref sig .tc .vmem S4096x256 .f32) (u6 : w6.IsWhole) (w7 : Memref sig .tc .vmem S4096x256 .f32) (u7 : w7.IsWhole) (w8 : Memref sig .tc .vmem S2x1x512 .f32) (u8 : w8.IsWhole) (w9 : Memref sig .tc .vmem S4096x128 .bf16) (u9 : w9.IsWhole) (w10 : Memref sig .tc .vmem S512x128 .bf16) (u10 : w10.IsWhole) (w11 : Memref sig .tc .vmem S512x128 .bf16) (u11 : w11.IsWhole) (w12 : Memref sig .tc .vmem S2x1x512 .f32) (u12 : w12.IsWhole) (w13 : Memref sig .tc .vmem S4096x256 .f32) (u13 : w13.IsWhole) (w14 : Memref sig .tc .vmem S4096x128 .f32) (u14 : w14.IsWhole) (w15 : Memref sig .tc .vmem S2x4096x128 .f32) (u15 : w15.IsWhole) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32)
/-- The diagonal block's two stores to the queries' gradients, -/
def L14 : List (View.Piece (Elt F) S4096x128 .f32) :=
  [⟨Rect.unit (k0_off1 i) S512x128.size (inbo1 i), k0_pay78 (k0_pay52 (ldA u3 x1)) (k0_pay75 (k0_pay47 (ldA u3 x1)) (k0_pay48 (ldA u4 x2)) k0_pay50 (k0_pay54 (ldK1 u8 x6)) (k0_pay57 (ldR i u2 x0)) (ldR i u5 x3) (ldC1 i u6 x4) (ldC1 i u7 x5)) (w14.view.readCov [⟨Rect.unit (s := S4096x128) (k0_off1 i) S512x128.size (inbo1 i), k0_pay67 (k0_pay47 (ldA u3 x1)) (k0_pay48 (ldA u4 x2)) k0_pay49 (k0_pay51 (ldA u3 x1)) (k0_pay53 (ldK0 u8 x6)) (ldR i u5 x3) (k0_pay58 (ldR i u2 x0)) (ldC0 i u6 x4) (ldC0 i u7 x5) (ldR i u14 xs0)⟩] (Rect.unit (s := S4096x128) (k0_off1 i) S512x128.size (inbo1 i)).toLoadRect)⟩,
   ⟨Rect.unit (k0_off1 i) S512x128.size (inbo1 i), k0_pay67 (k0_pay47 (ldA u3 x1)) (k0_pay48 (ldA u4 x2)) k0_pay49 (k0_pay51 (ldA u3 x1)) (k0_pay53 (ldK0 u8 x6)) (ldR i u5 x3) (k0_pay58 (ldR i u2 x0)) (ldC0 i u6 x4) (ldC0 i u7 x5) (ldR i u14 xs0)⟩]
/-- and its two to the row sums. -/
def L15 : List (View.Piece (Elt F) S2x4096x128 .f32) :=
  [⟨Rect.unit (k0_off5 i) S1x512x128.size (inbo5 i), k0_pay79 (k0_pay74 (k0_pay47 (ldA u3 x1)) (k0_pay48 (ldA u4 x2)) k0_pay50 (k0_pay54 (ldK1 u8 x6)) (k0_pay57 (ldR i u2 x0)) (ldR i u5 x3) (ldC1 i u6 x4) (ldC1 i u7 x5)) (w15.view.readAt (Elt F) (Rect.unit (s := S2x4096x128) (k0_off5 i) S1x512x128.size (inbo5 i)).toLoadRect (u15.unread xs1))⟩, ⟨Rect.unit (k0_off3 i) S1x512x128.size (inbo3 i), k0_pay69 (k0_pay63 (k0_pay47 (ldA u3 x1)) (k0_pay48 (ldA u4 x2)) k0_pay49 (k0_pay53 (ldK0 u8 x6)) (ldR i u5 x3) (k0_pay58 (ldR i u2 x0)) (ldC0 i u6 x4) (ldC0 i u7 x5)) (k0_pay68 (w15.view.readAt (Elt F) (Rect.unit (s := S2x4096x128) (k0_off3 i) S1x512x128.size (inbo3 i)).toLoadRect (u15.unread xs1)))⟩]
/-- What the loop's carried values start at. -/
def C0 : FVec F S512x128 .f32 × FVec F S512x128 .f32 × FVec F S1x512 .f32 × FVec F S1x512 .f32 :=
  (k0_pay76 (k0_pay47 (ldA u3 x1)) (k0_pay48 (ldA u4 x2)) k0_pay50 (k0_pay54 (ldK1 u8 x6)) (k0_pay57 (ldR i u2 x0)) (ldR i u5 x3) (k0_pay65 (k0_pay47 (ldA u3 x1)) (k0_pay48 (ldA u4 x2)) k0_pay49 (k0_pay53 (ldK0 u8 x6)) k0_pay55 (ldR i u5 x3) (k0_pay58 (ldR i u2 x0)) (ldC0 i u6 x4) (ldC0 i u7 x5)) (ldC1 i u6 x4) (ldC1 i u7 x5),
   k0_pay73 (k0_pay47 (ldA u3 x1)) k0_pay50 (k0_pay54 (ldK1 u8 x6)) (k0_pay57 (ldR i u2 x0)) (ldR i u5 x3) (k0_pay62 (k0_pay47 (ldA u3 x1)) k0_pay49 (k0_pay53 (ldK0 u8 x6)) k0_pay55 (ldR i u5 x3) (k0_pay58 (ldR i u2 x0)) (ldC0 i u6 x4)) (ldC1 i u6 x4),
   k0_pay66 (k0_pay47 (ldA u3 x1)) (k0_pay48 (ldA u4 x2)) k0_pay49 (k0_pay53 (ldK0 u8 x6)) k0_pay56 (ldR i u5 x3) (k0_pay58 (ldR i u2 x0)) (ldC0 i u6 x4) (ldC0 i u7 x5),
   k0_pay77 (k0_pay47 (ldA u3 x1)) (k0_pay48 (ldA u4 x2)) k0_pay50 (k0_pay54 (ldK1 u8 x6)) k0_pay56 (k0_pay57 (ldR i u2 x0)) (ldR i u5 x3) (ldC1 i u6 x4) (ldC1 i u7 x5))
/-- The printed loop's state after `k` trips. -/
def stK (k : ℕ) :=
  st_k0_t1 (F := F) Variants.none c none i _ u2 _ u3 _ u4 _ u5 _ u6 _ u7 _ u8 _ u9 _ u10 _ u11 _ u12 _ u13 _ u14 _ u15 (BitVec.ofNat 32 (i 1).val) (k0_pay47 (ldA u3 x1)) (k0_pay48 (ldA u4 x2)) k0_pay49 k0_pay50 (k0_pay51 (ldA u3 x1)) (k0_pay52 (ldA u3 x1)) (k0_pay53 (ldK0 u8 x6)) (k0_pay54 (ldK1 u8 x6)) (Scalar.muli (BitVec.ofNat 32 (i 1).val) 512#32) (k0_pay66 (k0_pay47 (ldA u3 x1)) (k0_pay48 (ldA u4 x2)) k0_pay49 (k0_pay53 (ldK0 u8 x6)) k0_pay56 (ldR i u5 x3) (k0_pay58 (ldR i u2 x0)) (ldC0 i u6 x4) (ldC0 i u7 x5)) (k0_pay73 (k0_pay47 (ldA u3 x1)) k0_pay50 (k0_pay54 (ldK1 u8 x6)) (k0_pay57 (ldR i u2 x0)) (ldR i u5 x3) (k0_pay62 (k0_pay47 (ldA u3 x1)) k0_pay49 (k0_pay53 (ldK0 u8 x6)) k0_pay55 (ldR i u5 x3) (k0_pay58 (ldR i u2 x0)) (ldC0 i u6 x4)) (ldC1 i u6 x4)) (k0_pay74 (k0_pay47 (ldA u3 x1)) (k0_pay48 (ldA u4 x2)) k0_pay50 (k0_pay54 (ldK1 u8 x6)) (k0_pay57 (ldR i u2 x0)) (ldR i u5 x3) (ldC1 i u6 x4) (ldC1 i u7 x5)) (k0_pay75 (k0_pay47 (ldA u3 x1)) (k0_pay48 (ldA u4 x2)) k0_pay50 (k0_pay54 (ldK1 u8 x6)) (k0_pay57 (ldR i u2 x0)) (ldR i u5 x3) (ldC1 i u6 x4) (ldC1 i u7 x5)) (k0_pay76 (k0_pay47 (ldA u3 x1)) (k0_pay48 (ldA u4 x2)) k0_pay50 (k0_pay54 (ldK1 u8 x6)) (k0_pay57 (ldR i u2 x0)) (ldR i u5 x3) (k0_pay65 (k0_pay47 (ldA u3 x1)) (k0_pay48 (ldA u4 x2)) k0_pay49 (k0_pay53 (ldK0 u8 x6)) k0_pay55 (ldR i u5 x3) (k0_pay58 (ldR i u2 x0)) (ldC0 i u6 x4) (ldC0 i u7 x5)) (ldC1 i u6 x4) (ldC1 i u7 x5)) (k0_pay77 (k0_pay47 (ldA u3 x1)) (k0_pay48 (ldA u4 x2)) k0_pay50 (k0_pay54 (ldK1 u8 x6)) k0_pay56 (k0_pay57 (ldR i u2 x0)) (ldR i u5 x3) (ldC1 i u6 x4) (ldC1 i u7 x5)) (Scalar.addi (BitVec.ofNat 32 (i 1).val) 1#32) (u2.unread x0) (u5.unread x3) (u6.unread x4) (u7.unread x5)
    (w14.view.writes (Elt F) (u14.unread xs0) (L14 i _ u2 _ u3 _ u4 _ u5 _ u6 _ u7 _ u8 _ u14 x0 x1 x2 x3 x4 x5 x6 xs0)) (w15.view.writes (Elt F) (u15.unread xs1) (L15 i _ u2 _ u3 _ u4 _ u5 _ u6 _ u7 _ u8 _ u15 x0 x1 x2 x3 x4 x5 x6 xs1)) (C0 i _ u2 _ u3 _ u4 _ u5 _ u6 _ u7 _ u8 x0 x1 x2 x3 x4 x5 x6) k
end

theorem ck_load {w8 : Memref sig .tc .vmem S2x1x512 .f32} (u8 : w8.IsWhole) (x6 : Vec F S2x1x512 .f32) (p : Fin 2) {off : Fin 3 → ℕ} (inb) (h : off = ![p.val, 0, 0]) :
    w8.view.readAt (Elt F) (Rect.unit (s := S2x1x512) off S1x1x512.size inb).toLoadRect (u8.unread x6) = ckRow x6 p := by
  rw [show ckRow x6 p = ckRow (w8.view.read (Elt F) (u8.unread x6)) p from by rw [u8.read_unread]]
  exact View.readAt_unit w8.view _ inb h _
theorem all_load {a : Memref sig .tc .vmem S512x128 .f32} (ha : a.IsWhole) (x : Vec F S512x128 .f32) (inb) :
    a.view.readAt (Elt F) (Rect.unit (s := S512x128) ![0, 0] S512x128.size inb).toLoadRect (ha.unread x) = x := by
  rw [View.readAt_full, ha.read_unread]

variable (c : Dev nD) (i : grid0.Coords) (w2 : Memref sig .tc .vmem S4096x128 .f32) (u2 : w2.IsWhole) (w3 : Memref sig .tc .vmem S512x128 .f32) (u3 : w3.IsWhole) (w4 : Memref sig .tc .vmem S512x128 .f32) (u4 : w4.IsWhole) (w5 : Memref sig .tc .vmem S4096x128 .f32) (u5 : w5.IsWhole) (w6 : Memref sig .tc .vmem S4096x256 .f32) (u6 : w6.IsWhole) (w7 : Memref sig .tc .vmem S4096x256 .f32) (u7 : w7.IsWhole) (w8 : Memref sig .tc .vmem S2x1x512 .f32) (u8 : w8.IsWhole) (w9 : Memref sig .tc .vmem S4096x128 .bf16) (u9 : w9.IsWhole) (w10 : Memref sig .tc .vmem S512x128 .bf16) (u10 : w10.IsWhole) (w11 : Memref sig .tc .vmem S512x128 .bf16) (u11 : w11.IsWhole) (w12 : Memref sig .tc .vmem S2x1x512 .f32) (u12 : w12.IsWhole) (w13 : Memref sig .tc .vmem S4096x256 .f32) (u13 : w13.IsWhole) (w14 : Memref sig .tc .vmem S4096x128 .f32) (u14 : w14.IsWhole) (w15 : Memref sig .tc .vmem S2x4096x128 .f32) (u15 : w15.IsWhole) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32)

theorem C0_eq : C0 i _ u2 _ u3 _ u4 _ u5 _ u6 _ u7 _ u8 x0 x1 x2 x3 x4 x5 x6 = (diagV x0 x1 x2 x3 x4 x5 x6 (kb i) (init xs0 xs1)).1 := by
  have l2 := rows_load w2.view (u2.unread x0) (kb i) (inbo1 i) (off1_eq i)
  have l5 := rows_load w5.view (u5.unread x3) (kb i) (inbo1 i) (off1_eq i)
  have l6 := cols_load w6.view (u6.unread x4) (kb i) 0 (inbo2 i) (off2_eq i)
  have l7 := cols_load w7.view (u7.unread x5) (kb i) 0 (inbo2 i) (off2_eq i)
  have l6' := cols_load w6.view (u6.unread x4) (kb i) 1 (inbo4 i) (off4_eq i)
  have l7' := cols_load w7.view (u7.unread x5) (kb i) 1 (inbo4 i) (off4_eq i)
  rw [u2.read_unread] at l2; rw [u5.read_unread] at l5; rw [u6.read_unread] at l6 l6'; rw [u7.read_unread] at l7 l7'
  have l3 := all_load u3 x1 inb_S512x128_S512x128_0_0
  have l4 := all_load u4 x2 inb_S512x128_S512x128_0_0
  have l8 := ck_load u8 x6 0 inb_S2x1x512_S1x1x512_0_0_0 rfl
  have l8' := ck_load u8 x6 1 inb_S2x1x512_S1x1x512_1_0_0 rfl
  unfold C0 ldA ldR ldC0 ldC1 ldK0 ldK1
  rw [l2, l3, l4, l5, l6, l7, l6', l7', l8, l8']
  rfl
set_option maxHeartbeats 1000000 in
theorem L14_eq : w14.view.read (Elt F) (w14.view.writes (Elt F) (u14.unread xs0) (L14 i _ u2 _ u3 _ u4 _ u5 _ u6 _ u7 _ u8 _ u14 x0 x1 x2 x3 x4 x5 x6 xs0)) = (diagV x0 x1 x2 x3 x4 x5 x6 (kb i) (init xs0 xs1)).2.1 := by
  have l2 := rows_load w2.view (u2.unread x0) (kb i) (inbo1 i) (off1_eq i)
  have l5 := rows_load w5.view (u5.unread x3) (kb i) (inbo1 i) (off1_eq i)
  have l6 := cols_load w6.view (u6.unread x4) (kb i) 0 (inbo2 i) (off2_eq i)
  have l7 := cols_load w7.view (u7.unread x5) (kb i) 0 (inbo2 i) (off2_eq i)
  have l6' := cols_load w6.view (u6.unread x4) (kb i) 1 (inbo4 i) (off4_eq i)
  have l7' := cols_load w7.view (u7.unread x5) (kb i) 1 (inbo4 i) (off4_eq i)
  have l14 := rows_load w14.view (u14.unread xs0) (kb i) (inbo1 i) (off1_eq i)
  rw [u2.read_unread] at l2; rw [u5.read_unread] at l5; rw [u6.read_unread] at l6 l6'; rw [u7.read_unread] at l7 l7'; rw [u14.read_unread] at l14
  have l3 := all_load u3 x1 inb_S512x128_S512x128_0_0
  have l4 := all_load u4 x2 inb_S512x128_S512x128_0_0
  have l8 := ck_load u8 x6 0 inb_S2x1x512_S1x1x512_0_0_0 rfl
  have l8' := ck_load u8 x6 1 inb_S2x1x512_S1x1x512_1_0_0 rfl
  unfold L14 ldA ldR ldC0 ldC1 ldK0 ldK1
  rw [rows_store (h := off1_eq i) (n := kb i), rows_store (h := off1_eq i) (n := kb i), View.writes_nil, u14.read_unread, putRows_putRows, View.readCov_cons_toLoadRect]
  rw [l2, l3, l4, l5, l6, l7, l6', l7', l8, l8', l14]
  rfl
theorem L15_eq : w15.view.read (Elt F) (w15.view.writes (Elt F) (u15.unread xs1) (L15 i _ u2 _ u3 _ u4 _ u5 _ u6 _ u7 _ u8 _ u15 x0 x1 x2 x3 x4 x5 x6 xs1)) = (diagV x0 x1 x2 x3 x4 x5 x6 (kb i) (init xs0 xs1)).2.2 := by
  have l2 := rows_load w2.view (u2.unread x0) (kb i) (inbo1 i) (off1_eq i)
  have l5 := rows_load w5.view (u5.unread x3) (kb i) (inbo1 i) (off1_eq i)
  have l6 := cols_load w6.view (u6.unread x4) (kb i) 0 (inbo2 i) (off2_eq i)
  have l7 := cols_load w7.view (u7.unread x5) (kb i) 0 (inbo2 i) (off2_eq i)
  have l6' := cols_load w6.view (u6.unread x4) (kb i) 1 (inbo4 i) (off4_eq i)
  have l7' := cols_load w7.view (u7.unread x5) (kb i) 1 (inbo4 i) (off4_eq i)
  have l15 := plane_load w15.view (u15.unread xs1) 0 (kb i) (inbo3 i) (off3_eq i)
  have l15' := plane_load w15.view (u15.unread xs1) 1 (kb i) (inbo5 i) (off5_eq i)
  rw [u2.read_unread] at l2; rw [u5.read_unread] at l5; rw [u6.read_unread] at l6 l6'; rw [u7.read_unread] at l7 l7'; rw [u15.read_unread] at l15 l15'
  have l3 := all_load u3 x1 inb_S512x128_S512x128_0_0
  have l4 := all_load u4 x2 inb_S512x128_S512x128_0_0
  have l8 := ck_load u8 x6 0 inb_S2x1x512_S1x1x512_0_0_0 rfl
  have l8' := ck_load u8 x6 1 inb_S2x1x512_S1x1x512_1_0_0 rfl
  unfold L15 ldA ldR ldC0 ldC1 ldK0 ldK1
  rw [plane_store (h := off5_eq i) (n := kb i), plane_store (h := off3_eq i) (n := kb i), View.writes_nil, u15.read_unread]
  rw [l2, l3, l4, l5, l6, l7, l6', l7', l8, l8', l15, l15']
  rfl

/-- The printed loop's state before trip `k`, from any start. -/
theorem loop_eq (c : Dev nD) (i : grid0.Coords) (w2 : Memref sig .tc .vmem S4096x128 .f32) (u2 : w2.IsWhole) (w3 : Memref sig .tc .vmem S512x128 .f32) (u3 : w3.IsWhole) (w4 : Memref sig .tc .vmem S512x128 .f32) (u4 : w4.IsWhole) (w5 : Memref sig .tc .vmem S4096x128 .f32) (u5 : w5.IsWhole) (w6 : Memref sig .tc .vmem S4096x256 .f32) (u6 : w6.IsWhole) (w7 : Memref sig .tc .vmem S4096x256 .f32) (u7 : w7.IsWhole) (w8 : Memref sig .tc .vmem S2x1x512 .f32) (u8 : w8.IsWhole) (w9 : Memref sig .tc .vmem S4096x128 .bf16) (u9 : w9.IsWhole) (w10 : Memref sig .tc .vmem S512x128 .bf16) (u10 : w10.IsWhole) (w11 : Memref sig .tc .vmem S512x128 .bf16) (u11 : w11.IsWhole) (w12 : Memref sig .tc .vmem S2x1x512 .f32) (u12 : w12.IsWhole) (w13 : Memref sig .tc .vmem S4096x256 .f32) (u13 : w13.IsWhole) (w14 : Memref sig .tc .vmem S4096x128 .f32) (u14 : w14.IsWhole) (w15 : Memref sig .tc .vmem S2x4096x128 .f32) (u15 : w15.IsWhole) (w1 : BitVec 32) (v25 : BitVec 32) (v67 : FVec F S1x512 .f32) (v109 : FVec F S512x128 .f32) (v116 : FVec F S512x512 .f32) (v117 : FVec F S512x512 .bf16) (v119 : FVec F S512x128 .f32) (v122 : FVec F S1x512 .f32) (v142 : BitVec 32) (x0 : Vec F S4096x128 .f32) (x1 x2 : Vec F S512x128 .f32) (x3 : Vec F S4096x128 .f32) (x4 x5 : Vec F S4096x256 .f32) (x6 : Vec F S2x1x512 .f32) (s : St F)
    (G14 : w14.view.ty.Contents (Elt F)) (G15 : w15.view.ty.Contents (Elt F)) (h14 : w14.view.read (Elt F) G14 = s.2.1) (h15 : w15.view.read (Elt F) G15 = s.2.2)
    (k : ℕ) (hk : k ≤ (k0_t1_loop i).trips) :
    (st_k0_t1 Variants.none c none i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) G14 G15 s.1 k).1 = (loopV x0 x1 x2 x3 x4 x5 x6 (kb i) s k).1
    ∧ w14.view.read (Elt F) (w14.view.writes (Elt F) G14 (st_k0_t1 Variants.none c none i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) G14 G15 s.1 k).2.1) = (loopV x0 x1 x2 x3 x4 x5 x6 (kb i) s k).2.1
    ∧ w15.view.read (Elt F) (w15.view.writes (Elt F) G15 (st_k0_t1 Variants.none c none i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) G14 G15 s.1 k).2.2) = (loopV x0 x1 x2 x3 x4 x5 x6 (kb i) s k).2.2 := by
  induction k with
  | zero => exact ⟨rfl, by rw [show (st_k0_t1 Variants.none c none i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) G14 G15 s.1 0).2.1 = [] from rfl]; exact h14,
      by rw [show (st_k0_t1 Variants.none c none i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) G14 G15 s.1 0).2.2 = [] from rfl]; exact h15⟩
  | succ k ih =>
    obtain ⟨e1, e2, e3⟩ := ih (by omega)
    have ht := trips_eq i
    have hn : (i 1).val + 1 + k < 8 := by omega
    have hs := st_k0_t1_succ (F := F) Variants.none c none i _ u2 _ u3 _ u4 _ u5 _ u6 _ u7 _ u8 _ u9 _ u10 _ u11 _ u12 _ u13 _ u14 _ u15 w1 (k0_pay47 x1) (k0_pay48 x2) k0_pay49 k0_pay50 (k0_pay51 x1) (k0_pay52 x1) (k0_pay53 (ckRow x6 0)) (k0_pay54 (ckRow x6 1)) v25 v67 v109 v116 v117 v119 v122 v142 (u2.unread x0) (u5.unread x3) (u6.unread x4) (u7.unread x5) G14 G15 s.1 ⟨k, hk⟩
    have h := trip_eq Variants.none c none i _ u2 _ u3 _ u4 _ u5 _ u6 _ u7 _ u8 _ u9 _ u10 _ u11 _ u12 _ u13 _ u14 _ u15 w1 v25 v67 v109 v116 v117 v119 v122 v142 x0 x1 x2 x3 x4 x5 x6 ⟨k, hk⟩ ⟨(i 1).val + 1 + k, hn⟩ rfl (loopV x0 x1 x2 x3 x4 x5 x6 (kb i) s k) _ _ e2 e3
    rw [← e1] at h
    rw [show loopV x0 x1 x2 x3 x4 x5 x6 (kb i) s (k + 1) = tripV x0 x1 x2 x3 x4 x5 x6 ⟨(i 1).val + 1 + k, hn⟩ (loopV x0 x1 x2 x3 x4 x5 x6 (kb i) s k) from dif_pos hn]
    dsimp only at hs
    rw [hs]
    dsimp only
    rw [View.writes_append, View.writes_append]
    exact h

/-- The point's end: the carried values, -/
theorem st_end :
    (stK c i _ u2 _ u3 _ u4 _ u5 _ u6 _ u7 _ u8 _ u9 _ u10 _ u11 _ u12 _ u13 _ u14 _ u15 x0 x1 x2 x3 x4 x5 x6 xs0 xs1 (k0_t1_loop i).trips).1 = (bodyV x0 x1 x2 x3 x4 x5 x6 (kb i) xs0 xs1).1
    ∧ w14.view.read (Elt F) (w14.view.writes (Elt F) (u14.unread xs0) ((stK c i _ u2 _ u3 _ u4 _ u5 _ u6 _ u7 _ u8 _ u9 _ u10 _ u11 _ u12 _ u13 _ u14 _ u15 x0 x1 x2 x3 x4 x5 x6 xs0 xs1 (k0_t1_loop i).trips).2.1 ++ L14 i _ u2 _ u3 _ u4 _ u5 _ u6 _ u7 _ u8 _ u14 x0 x1 x2 x3 x4 x5 x6 xs0)) = (bodyV x0 x1 x2 x3 x4 x5 x6 (kb i) xs0 xs1).2.1
    ∧ w15.view.read (Elt F) (w15.view.writes (Elt F) (u15.unread xs1) ((stK c i _ u2 _ u3 _ u4 _ u5 _ u6 _ u7 _ u8 _ u9 _ u10 _ u11 _ u12 _ u13 _ u14 _ u15 x0 x1 x2 x3 x4 x5 x6 xs0 xs1 (k0_t1_loop i).trips).2.2 ++ L15 i _ u2 _ u3 _ u4 _ u5 _ u6 _ u7 _ u8 _ u15 x0 x1 x2 x3 x4 x5 x6 xs1)) = (bodyV x0 x1 x2 x3 x4 x5 x6 (kb i) xs0 xs1).2.2 := by
  rw [View.writes_append, View.writes_append]
  unfold stK ldA ldK0 ldK1
  rw [C0_eq, all_load u3 x1 inb_S512x128_S512x128_0_0, all_load u4 x2 inb_S512x128_S512x128_0_0, ck_load u8 x6 0 inb_S2x1x512_S1x1x512_0_0_0 rfl, ck_load u8 x6 1 inb_S2x1x512_S1x1x512_1_0_0 rfl]
  have h := fun v67 v109 v116 v117 v119 v122 => loop_eq c i _ u2 _ u3 _ u4 _ u5 _ u6 _ u7 _ u8 _ u9 _ u10 _ u11 _ u12 _ u13 _ u14 _ u15 (BitVec.ofNat 32 (i 1).val) (Scalar.muli (BitVec.ofNat 32 (i 1).val) 512#32) v67 v109 v116 v117 v119 v122 (Scalar.addi (BitVec.ofNat 32 (i 1).val) 1#32) x0 x1 x2 x3 x4 x5 x6 (diagV x0 x1 x2 x3 x4 x5 x6 (kb i) (init xs0 xs1)) _ _ (L14_eq i _ u2 _ u3 _ u4 _ u5 _ u6 _ u7 _ u8 _ u14 x0 x1 x2 x3 x4 x5 x6 xs0 xs1) (L15_eq i _ u2 _ u3 _ u4 _ u5 _ u6 _ u7 _ u8 _ u15 x0 x1 x2 x3 x4 x5 x6 xs0 xs1) _ le_rfl
  refine ⟨(h _ _ _ _ _ _).1.trans ?_, (h _ _ _ _ _ _).2.1.trans ?_, (h _ _ _ _ _ _).2.2.trans ?_⟩ <;> rw [trips_eq] <;> rfl

end Cert.KernelIdeal.Fox

end
-- ==== Proof.KernelIdeal.Left.lean ====
module

public import proofs.«01_k».proof.Proof.KernelIdeal.Point

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What a run's pieces leave -/

theorem row_store (v : View sig .tc .vmem S2x1x512 .f32) (f : v.ty.Contents (Elt F)) (off : Fin 3 → ℕ) (inb) (w) (L) :
    v.read (Elt F) (v.writes (Elt F) f (⟨Rect.unit (s := S2x1x512) off S1x1x512.size inb, w⟩ :: L)) = VecWindow.put (s := S2x1x512) (v.read (Elt F) (v.writes (Elt F) f L)) off S1x1x512.size w := View.read_writes_cons_put v f inb w L rfl
theorem group_store (v : View sig .tc .vmem S4096x256 .f32) (f : v.ty.Contents (Elt F)) (off : Fin 2 → ℕ) (inb) (w) (L) :
    v.read (Elt F) (v.writes (Elt F) f (⟨Rect.unit (s := S4096x256) off S4096x128.size inb, w⟩ :: L)) = VecWindow.put (s := S4096x256) (v.read (Elt F) (v.writes (Elt F) f L)) off S4096x128.size w := View.read_writes_cons_put v f inb w L rfl
/-- Two rows stored over anything are the two rows. -/
theorem dcV_put (s : St F) (x : Vec F S2x1x512 .f32) :
    VecWindow.put (s := S2x1x512) (VecWindow.put (s := S2x1x512) x ![0, 0, 0] S1x1x512.size (k0_pay88 s.1.2.2.1)) ![1, 0, 0] S1x1x512.size (k0_pay1 s.1.2.2.2) = dcV s := by
  funext y
  unfold dcV VecWindow.put
  split_ifs with h1 h0
  · rfl
  · rfl
  · exfalso
    have b0 : (y 0).val < 2 := (y 0).isLt
    have b1 : (y 1).val < 1 := (y 1).isLt
    have b2 : (y 2).val < 512 := (y 2).isLt
    by_cases h : (y 0).val = 0
    · exact h0 fun a => match a with | 0 => ⟨Nat.zero_le _, (by show (y 0).val < 0 + 1; omega)⟩ | 1 => ⟨Nat.zero_le _, (by show (y 1).val < 0 + 1; omega)⟩ | 2 => ⟨Nat.zero_le _, (by show (y 2).val < 0 + 512; omega)⟩
    · exact h1 fun a => match a with | 0 => ⟨(by show 1 ≤ (y 0).val; omega), (by show (y 0).val < 1 + 1; omega)⟩ | 1 => ⟨Nat.zero_le _, (by show (y 1).val < 0 + 1; omega)⟩ | 2 => ⟨Nat.zero_le _, (by show (y 2).val < 0 + 512; omega)⟩
/-- Two lane groups stored over anything are the two lane groups. -/
theorem drV_put (s : St F) (x : Vec F S4096x256 .f32) :
    VecWindow.put (s := S4096x256) (VecWindow.put (s := S4096x256) x ![0, 0] S4096x128.size
    (k0_pay3 (VecWindow.window (s := S2x4096x128) s.2.2 ![0, 0, 0] S1x4096x128.size inb_S2x4096x128_S1x4096x128_0_0_0))) ![0, 128] S4096x128.size
    (k0_pay4 (VecWindow.window (s := S2x4096x128) s.2.2 ![1, 0, 0] S1x4096x128.size inb_S2x4096x128_S1x4096x128_1_0_0)) = drV s := by
  funext y
  unfold drV VecWindow.put
  split_ifs with h1 h0
  · rfl
  · rfl
  · exfalso
    have b0 : (y 0).val < 4096 := (y 0).isLt
    have b1 : (y 1).val < 256 := (y 1).isLt
    by_cases h : (y 1).val < 128
    · exact h0 fun a => match a with | 0 => ⟨Nat.zero_le _, (by show (y 0).val < 0 + 4096; omega)⟩ | 1 => ⟨Nat.zero_le _, (by show (y 1).val < 0 + 128; omega)⟩
    · exact h1 fun a => match a with | 0 => ⟨Nat.zero_le _, (by show (y 0).val < 0 + 4096; omega)⟩ | 1 => ⟨(by show 128 ≤ (y 1).val; omega), (by show (y 1).val < 128 + 128; omega)⟩

variable (c : Dev nD) (i : grid0.Coords) (w2 : Memref sig .tc .vmem S4096x128 .f32) (u2 : w2.IsWhole) (w3 : Memref sig .tc .vmem S512x128 .f32) (u3 : w3.IsWhole) (w4 : Memref sig .tc .vmem S512x128 .f32) (u4 : w4.IsWhole) (w5 : Memref sig .tc .vmem S4096x128 .f32) (u5 : w5.IsWhole) (w6 : Memref sig .tc .vmem S4096x256 .f32) (u6 : w6.IsWhole) (w7 : Memref sig .tc .vmem S4096x256 .f32) (u7 : w7.IsWhole) (w8 : Memref sig .tc .vmem S2x1x512 .f32) (u8 : w8.IsWhole) (w9 : Memref sig .tc .vmem S4096x128 .bf16) (u9 : w9.IsWhole) (w10 : Memref sig .tc .vmem S512x128 .bf16) (u10 : w10.IsWhole) (w11 : Memref sig .tc .vmem S512x128 .bf16) (u11 : w11.IsWhole) (w12 : Memref sig .tc .vmem S2x1x512 .f32) (u12 : w12.IsWhole) (w13 : Memref sig .tc .vmem S4096x256 .f32) (u13 : w13.IsWhole) (w14 : Memref sig .tc .vmem S4096x128 .f32) (u14 : w14.IsWhole) (w15 : Memref sig .tc .vmem S2x4096x128 .f32) (u15 : w15.IsWhole)

/-- What the pieces leave at a middle key block. -/
theorem runB_8 (hc0 : ¬cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) (f : w10.view.ty.Contents (Elt F)) :
    w10.view.read (Elt F) (w10.view.writes (Elt F) f (runB c i _ u2 _ u3 _ u4 _ u5 _ u6 _ u7 _ u8 _ u9 _ u10 _ u11 _ u12 _ u13 _ u14 _ u15 hc0 hc1 x0 x1 x2 x3 x4 x5 x6 xo7 xo11 xs0 xs1).1) = k0_pay86 (bodyV x0 x1 x2 x3 x4 x5 x6 (kb i) xs0 xs1).1.1 := by
  exact (View.read_writes_full ..).trans (congrArg (fun s => k0_pay86 s.1) (st_end c i _ u2 _ u3 _ u4 _ u5 _ u6 _ u7 _ u8 _ u9 _ u10 _ u11 _ u12 _ u13 _ u14 _ u15 x0 x1 x2 x3 x4 x5 x6 xs0 xs1).1)
set_option maxHeartbeats 2000000 in
theorem runB_9 (hc0 : ¬cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) (f : w11.view.ty.Contents (Elt F)) :
    w11.view.read (Elt F) (w11.view.writes (Elt F) f (runB c i _ u2 _ u3 _ u4 _ u5 _ u6 _ u7 _ u8 _ u9 _ u10 _ u11 _ u12 _ u13 _ u14 _ u15 hc0 hc1 x0 x1 x2 x3 x4 x5 x6 xo7 xo11 xs0 xs1).2.1) = k0_pay87 (bodyV x0 x1 x2 x3 x4 x5 x6 (kb i) xs0 xs1).1.2.1 := by
  exact (View.read_writes_full ..).trans (congrArg (fun s => k0_pay87 s.2.1) (st_end c i _ u2 _ u3 _ u4 _ u5 _ u6 _ u7 _ u8 _ u9 _ u10 _ u11 _ u12 _ u13 _ u14 _ u15 x0 x1 x2 x3 x4 x5 x6 xs0 xs1).1)
set_option maxHeartbeats 2000000 in
theorem runB_10 (hc0 : ¬cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) (f : w12.view.ty.Contents (Elt F)) :
    w12.view.read (Elt F) (w12.view.writes (Elt F) f (runB c i _ u2 _ u3 _ u4 _ u5 _ u6 _ u7 _ u8 _ u9 _ u10 _ u11 _ u12 _ u13 _ u14 _ u15 hc0 hc1 x0 x1 x2 x3 x4 x5 x6 xo7 xo11 xs0 xs1).2.2.1) = dcV (bodyV x0 x1 x2 x3 x4 x5 x6 (kb i) xs0 xs1) := by
  rw [show (runB c i _ u2 _ u3 _ u4 _ u5 _ u6 _ u7 _ u8 _ u9 _ u10 _ u11 _ u12 _ u13 _ u14 _ u15 hc0 hc1 x0 x1 x2 x3 x4 x5 x6 xo7 xo11 xs0 xs1).2.2.1 = [⟨Rect.unit ![1, 0, 0] S1x1x512.size inb_S2x1x512_S1x1x512_1_0_0, k0_pay1 (stK c i _ u2 _ u3 _ u4 _ u5 _ u6 _ u7 _ u8 _ u9 _ u10 _ u11 _ u12 _ u13 _ u14 _ u15 x0 x1 x2 x3 x4 x5 x6 xs0 xs1 (k0_t1_loop i).trips).1.2.2.2⟩, ⟨Rect.unit ![0, 0, 0] S1x1x512.size inb_S2x1x512_S1x1x512_0_0_0, k0_pay88 (stK c i _ u2 _ u3 _ u4 _ u5 _ u6 _ u7 _ u8 _ u9 _ u10 _ u11 _ u12 _ u13 _ u14 _ u15 x0 x1 x2 x3 x4 x5 x6 xs0 xs1 (k0_t1_loop i).trips).1.2.2.1⟩] from rfl]
  rw [(st_end ..).1]
  rw [row_store _ _ ![1, 0, 0], row_store _ _ ![0, 0, 0]]
  exact dcV_put _ _
set_option maxHeartbeats 2000000 in
theorem runB_s0 (hc0 : ¬cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) :
    w14.view.read (Elt F) (w14.view.writes (Elt F) (u14.unread xs0) (runB c i _ u2 _ u3 _ u4 _ u5 _ u6 _ u7 _ u8 _ u9 _ u10 _ u11 _ u12 _ u13 _ u14 _ u15 hc0 hc1 x0 x1 x2 x3 x4 x5 x6 xo7 xo11 xs0 xs1).2.2.2.1) = (bodyV x0 x1 x2 x3 x4 x5 x6 (kb i) xs0 xs1).2.1 := by
  exact (st_end c i _ u2 _ u3 _ u4 _ u5 _ u6 _ u7 _ u8 _ u9 _ u10 _ u11 _ u12 _ u13 _ u14 _ u15 x0 x1 x2 x3 x4 x5 x6 xs0 xs1).2.1
set_option maxHeartbeats 2000000 in
theorem runB_s1 (hc0 : ¬cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) :
    w15.view.read (Elt F) (w15.view.writes (Elt F) (u15.unread xs1) (runB c i _ u2 _ u3 _ u4 _ u5 _ u6 _ u7 _ u8 _ u9 _ u10 _ u11 _ u12 _ u13 _ u14 _ u15 hc0 hc1 x0 x1 x2 x3 x4 x5 x6 xo7 xo11 xs0 xs1).2.2.2.2.1) = (bodyV x0 x1 x2 x3 x4 x5 x6 (kb i) xs0 xs1).2.2 := by
  exact (st_end c i _ u2 _ u3 _ u4 _ u5 _ u6 _ u7 _ u8 _ u9 _ u10 _ u11 _ u12 _ u13 _ u14 _ u15 x0 x1 x2 x3 x4 x5 x6 xs0 xs1).2.2
/-- What the pieces leave at the last key block. -/
theorem runC_8 (hc0 : ¬cond0 i) (hc1 : condL i) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32) (f : w10.view.ty.Contents (Elt F)) :
    w10.view.read (Elt F) (w10.view.writes (Elt F) f (runC c i _ u2 _ u3 _ u4 _ u5 _ u6 _ u7 _ u8 _ u9 _ u10 _ u11 _ u12 _ u13 _ u14 _ u15 hc0 hc1 x0 x1 x2 x3 x4 x5 x6 xs0 xs1).1) = k0_pay86 (bodyV x0 x1 x2 x3 x4 x5 x6 (kb i) xs0 xs1).1.1 := by
  exact (View.read_writes_full ..).trans (congrArg (fun s => k0_pay86 s.1) (st_end c i _ u2 _ u3 _ u4 _ u5 _ u6 _ u7 _ u8 _ u9 _ u10 _ u11 _ u12 _ u13 _ u14 _ u15 x0 x1 x2 x3 x4 x5 x6 xs0 xs1).1)
set_option maxHeartbeats 2000000 in
theorem runC_9 (hc0 : ¬cond0 i) (hc1 : condL i) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32) (f : w11.view.ty.Contents (Elt F)) :
    w11.view.read (Elt F) (w11.view.writes (Elt F) f (runC c i _ u2 _ u3 _ u4 _ u5 _ u6 _ u7 _ u8 _ u9 _ u10 _ u11 _ u12 _ u13 _ u14 _ u15 hc0 hc1 x0 x1 x2 x3 x4 x5 x6 xs0 xs1).2.1) = k0_pay87 (bodyV x0 x1 x2 x3 x4 x5 x6 (kb i) xs0 xs1).1.2.1 := by
  exact (View.read_writes_full ..).trans (congrArg (fun s => k0_pay87 s.2.1) (st_end c i _ u2 _ u3 _ u4 _ u5 _ u6 _ u7 _ u8 _ u9 _ u10 _ u11 _ u12 _ u13 _ u14 _ u15 x0 x1 x2 x3 x4 x5 x6 xs0 xs1).1)
set_option maxHeartbeats 2000000 in
theorem runC_10 (hc0 : ¬cond0 i) (hc1 : condL i) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32) (f : w12.view.ty.Contents (Elt F)) :
    w12.view.read (Elt F) (w12.view.writes (Elt F) f (runC c i _ u2 _ u3 _ u4 _ u5 _ u6 _ u7 _ u8 _ u9 _ u10 _ u11 _ u12 _ u13 _ u14 _ u15 hc0 hc1 x0 x1 x2 x3 x4 x5 x6 xs0 xs1).2.2.1) = dcV (bodyV x0 x1 x2 x3 x4 x5 x6 (kb i) xs0 xs1) := by
  rw [show (runC c i _ u2 _ u3 _ u4 _ u5 _ u6 _ u7 _ u8 _ u9 _ u10 _ u11 _ u12 _ u13 _ u14 _ u15 hc0 hc1 x0 x1 x2 x3 x4 x5 x6 xs0 xs1).2.2.1 = [⟨Rect.unit ![1, 0, 0] S1x1x512.size inb_S2x1x512_S1x1x512_1_0_0, k0_pay1 (stK c i _ u2 _ u3 _ u4 _ u5 _ u6 _ u7 _ u8 _ u9 _ u10 _ u11 _ u12 _ u13 _ u14 _ u15 x0 x1 x2 x3 x4 x5 x6 xs0 xs1 (k0_t1_loop i).trips).1.2.2.2⟩, ⟨Rect.unit ![0, 0, 0] S1x1x512.size inb_S2x1x512_S1x1x512_0_0_0, k0_pay88 (stK c i _ u2 _ u3 _ u4 _ u5 _ u6 _ u7 _ u8 _ u9 _ u10 _ u11 _ u12 _ u13 _ u14 _ u15 x0 x1 x2 x3 x4 x5 x6 xs0 xs1 (k0_t1_loop i).trips).1.2.2.1⟩] from rfl]
  rw [(st_end ..).1]
  rw [row_store _ _ ![1, 0, 0], row_store _ _ ![0, 0, 0]]
  exact dcV_put _ _
set_option maxHeartbeats 2000000 in
theorem runC_s0 (hc0 : ¬cond0 i) (hc1 : condL i) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32) :
    w14.view.read (Elt F) (w14.view.writes (Elt F) (u14.unread xs0) (runC c i _ u2 _ u3 _ u4 _ u5 _ u6 _ u7 _ u8 _ u9 _ u10 _ u11 _ u12 _ u13 _ u14 _ u15 hc0 hc1 x0 x1 x2 x3 x4 x5 x6 xs0 xs1).2.2.2.2.2.1) = (bodyV x0 x1 x2 x3 x4 x5 x6 (kb i) xs0 xs1).2.1 := by
  exact (st_end c i _ u2 _ u3 _ u4 _ u5 _ u6 _ u7 _ u8 _ u9 _ u10 _ u11 _ u12 _ u13 _ u14 _ u15 x0 x1 x2 x3 x4 x5 x6 xs0 xs1).2.1
set_option maxHeartbeats 2000000 in
theorem runC_s1 (hc0 : ¬cond0 i) (hc1 : condL i) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32) :
    w15.view.read (Elt F) (w15.view.writes (Elt F) (u15.unread xs1) (runC c i _ u2 _ u3 _ u4 _ u5 _ u6 _ u7 _ u8 _ u9 _ u10 _ u11 _ u12 _ u13 _ u14 _ u15 hc0 hc1 x0 x1 x2 x3 x4 x5 x6 xs0 xs1).2.2.2.2.2.2.1) = (bodyV x0 x1 x2 x3 x4 x5 x6 (kb i) xs0 xs1).2.2 := by
  exact (st_end c i _ u2 _ u3 _ u4 _ u5 _ u6 _ u7 _ u8 _ u9 _ u10 _ u11 _ u12 _ u13 _ u14 _ u15 x0 x1 x2 x3 x4 x5 x6 xs0 xs1).2.2
set_option maxHeartbeats 2000000 in
theorem runC_7 (hc0 : ¬cond0 i) (hc1 : condL i) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32) (f : w9.view.ty.Contents (Elt F)) :
    w9.view.read (Elt F) (w9.view.writes (Elt F) f (runC c i _ u2 _ u3 _ u4 _ u5 _ u6 _ u7 _ u8 _ u9 _ u10 _ u11 _ u12 _ u13 _ u14 _ u15 hc0 hc1 x0 x1 x2 x3 x4 x5 x6 xs0 xs1).2.2.2.1) = k0_pay2 (bodyV x0 x1 x2 x3 x4 x5 x6 (kb i) xs0 xs1).2.1 := by
  rw [show (runC c i _ u2 _ u3 _ u4 _ u5 _ u6 _ u7 _ u8 _ u9 _ u10 _ u11 _ u12 _ u13 _ u14 _ u15 hc0 hc1 x0 x1 x2 x3 x4 x5 x6 xs0 xs1).2.2.2.1 = [⟨Rect.unit ![0, 0] S4096x128.size inb_S4096x128_S4096x128_0_0, k0_pay2 (w14.view.readAt (Elt F) (Rect.unit (s := S4096x128) ![0, 0] S4096x128.size inb_S4096x128_S4096x128_0_0).toLoadRect (w14.view.writes (Elt F) (u14.unread xs0) ((stK c i _ u2 _ u3 _ u4 _ u5 _ u6 _ u7 _ u8 _ u9 _ u10 _ u11 _ u12 _ u13 _ u14 _ u15 x0 x1 x2 x3 x4 x5 x6 xs0 xs1 (k0_t1_loop i).trips).2.1 ++ L14 i _ u2 _ u3 _ u4 _ u5 _ u6 _ u7 _ u8 _ u14 x0 x1 x2 x3 x4 x5 x6 xs0)))⟩] from rfl]
  rw [View.readAt_full, (st_end ..).2.1]
  exact View.read_writes_full _ _ _ _ _
set_option maxHeartbeats 2000000 in
theorem runC_11 (hc0 : ¬cond0 i) (hc1 : condL i) (x0 : Vec F S4096x128 .f32) (x1 x2 : Vec F S512x128 .f32) (x3 : Vec F S4096x128 .f32) (x4 x5 : Vec F S4096x256 .f32) (x6 : Vec F S2x1x512 .f32) (xs0 : Vec F S4096x128 .f32) (xs1 : Vec F S2x4096x128 .f32) (f : w13.view.ty.Contents (Elt F)) :
    w13.view.read (Elt F) (w13.view.writes (Elt F) f (runC c i _ u2 _ u3 _ u4 _ u5 _ u6 _ u7 _ u8 _ u9 _ u10 _ u11 _ u12 _ u13 _ u14 _ u15 hc0 hc1 x0 x1 x2 x3 x4 x5 x6 xs0 xs1).2.2.2.2.1) = drV (bodyV x0 x1 x2 x3 x4 x5 x6 (kb i) xs0 xs1) := by
  rw [show (runC c i _ u2 _ u3 _ u4 _ u5 _ u6 _ u7 _ u8 _ u9 _ u10 _ u11 _ u12 _ u13 _ u14 _ u15 hc0 hc1 x0 x1 x2 x3 x4 x5 x6 xs0 xs1).2.2.2.2.1 = [⟨Rect.unit ![0, 128] S4096x128.size inb_S4096x256_S4096x128_0_128, k0_pay4 (w15.view.readAt (Elt F) (Rect.unit (s := S2x4096x128) ![1, 0, 0] S1x4096x128.size inb_S2x4096x128_S1x4096x128_1_0_0).toLoadRect (w15.view.writes (Elt F) (u15.unread xs1) ((stK c i _ u2 _ u3 _ u4 _ u5 _ u6 _ u7 _ u8 _ u9 _ u10 _ u11 _ u12 _ u13 _ u14 _ u15 x0 x1 x2 x3 x4 x5 x6 xs0 xs1 (k0_t1_loop i).trips).2.2 ++ L15 i _ u2 _ u3 _ u4 _ u5 _ u6 _ u7 _ u8 _ u15 x0 x1 x2 x3 x4 x5 x6 xs1)))⟩,
      ⟨Rect.unit ![0, 0] S4096x128.size inb_S4096x256_S4096x128_0_0, k0_pay3 (w15.view.readAt (Elt F) (Rect.unit (s := S2x4096x128) ![0, 0, 0] S1x4096x128.size inb_S2x4096x128_S1x4096x128_0_0_0).toLoadRect (w15.view.writes (Elt F) (u15.unread xs1) ((stK c i _ u2 _ u3 _ u4 _ u5 _ u6 _ u7 _ u8 _ u9 _ u10 _ u11 _ u12 _ u13 _ u14 _ u15 x0 x1 x2 x3 x4 x5 x6 xs0 xs1 (k0_t1_loop i).trips).2.2 ++ L15 i _ u2 _ u3 _ u4 _ u5 _ u6 _ u7 _ u8 _ u15 x0 x1 x2 x3 x4 x5 x6 xs1)))⟩] from rfl]
  have q0 : ∀ X, w15.view.readAt (Elt F) (Rect.unit (s := S2x4096x128) ![0, 0, 0] S1x4096x128.size inb_S2x4096x128_S1x4096x128_0_0_0).toLoadRect X
      = VecWindow.window (s := S2x4096x128) (w15.view.read (Elt F) X) ![0, 0, 0] S1x4096x128.size inb_S2x4096x128_S1x4096x128_0_0_0 := fun X => View.readAt_unit w15.view X _ rfl _
  have q1 : ∀ X, w15.view.readAt (Elt F) (Rect.unit (s := S2x4096x128) ![1, 0, 0] S1x4096x128.size inb_S2x4096x128_S1x4096x128_1_0_0).toLoadRect X
      = VecWindow.window (s := S2x4096x128) (w15.view.read (Elt F) X) ![1, 0, 0] S1x4096x128.size inb_S2x4096x128_S1x4096x128_1_0_0 := fun X => View.readAt_unit w15.view X _ rfl _
  rw [q0, q1, (st_end ..).2.2]
  rw [group_store _ _ ![0, 128], group_store _ _ ![0, 0]]
  exact drV_put _ _
/-- What the pieces leave at the first key block. -/
theorem runA_8 (hc0 : cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) (f : w10.view.ty.Contents (Elt F)) :
    w10.view.read (Elt F) (w10.view.writes (Elt F) f (runA c i _ u2 _ u3 _ u4 _ u5 _ u6 _ u7 _ u8 _ u9 _ u10 _ u11 _ u12 _ u13 _ u14 _ u15 hc0 hc1 x0 x1 x2 x3 x4 x5 x6 xo7 xo11 xs0 xs1).1) = k0_pay86 (bodyV x0 x1 x2 x3 x4 x5 x6 (kb i) (k0_pay45 (F := F)) (k0_pay46 (F := F))).1.1 := by
  rw [show (runA c i _ u2 _ u3 _ u4 _ u5 _ u6 _ u7 _ u8 _ u9 _ u10 _ u11 _ u12 _ u13 _ u14 _ u15 hc0 hc1 x0 x1 x2 x3 x4 x5 x6 xo7 xo11 xs0 xs1).1 = [⟨Rect.unit ![0, 0] S512x128.size inb_S512x128_S512x128_0_0, k0_pay86 (stK c i _ u2 _ u3 _ u4 _ u5 _ u6 _ u7 _ u8 _ u9 _ u10 _ u11 _ u12 _ u13 _ u14 _ u15 x0 x1 x2 x3 x4 x5 x6 (k0_pay45 (F := F)) (k0_pay46 (F := F)) (k0_t1_loop i).trips).1.1⟩] from rfl]
  rw [(st_end c i _ u2 _ u3 _ u4 _ u5 _ u6 _ u7 _ u8 _ u9 _ u10 _ u11 _ u12 _ u13 _ u14 _ u15 x0 x1 x2 x3 x4 x5 x6 (k0_pay45 (F := F)) (k0_pay46 (F := F))).1]
  exact View.read_writes_full _ _ _ _ _
set_option maxHeartbeats 2000000 in
theorem runA_9 (hc0 : cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) (f : w11.view.ty.Contents (Elt F)) :
    w11.view.read (Elt F) (w11.view.writes (Elt F) f (runA c i _ u2 _ u3 _ u4 _ u5 _ u6 _ u7 _ u8 _ u9 _ u10 _ u11 _ u12 _ u13 _ u14 _ u15 hc0 hc1 x0 x1 x2 x3 x4 x5 x6 xo7 xo11 xs0 xs1).2.1) = k0_pay87 (bodyV x0 x1 x2 x3 x4 x5 x6 (kb i) (k0_pay45 (F := F)) (k0_pay46 (F := F))).1.2.1 := by
  rw [show (runA c i _ u2 _ u3 _ u4 _ u5 _ u6 _ u7 _ u8 _ u9 _ u10 _ u11 _ u12 _ u13 _ u14 _ u15 hc0 hc1 x0 x1 x2 x3 x4 x5 x6 xo7 xo11 xs0 xs1).2.1 = [⟨Rect.unit ![0, 0] S512x128.size inb_S512x128_S512x128_0_0, k0_pay87 (stK c i _ u2 _ u3 _ u4 _ u5 _ u6 _ u7 _ u8 _ u9 _ u10 _ u11 _ u12 _ u13 _ u14 _ u15 x0 x1 x2 x3 x4 x5 x6 (k0_pay45 (F := F)) (k0_pay46 (F := F)) (k0_t1_loop i).trips).1.2.1⟩] from rfl]
  rw [(st_end c i _ u2 _ u3 _ u4 _ u5 _ u6 _ u7 _ u8 _ u9 _ u10 _ u11 _ u12 _ u13 _ u14 _ u15 x0 x1 x2 x3 x4 x5 x6 (k0_pay45 (F := F)) (k0_pay46 (F := F))).1]
  exact View.read_writes_full _ _ _ _ _
set_option maxHeartbeats 2000000 in
theorem runA_10 (hc0 : cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) (f : w12.view.ty.Contents (Elt F)) :
    w12.view.read (Elt F) (w12.view.writes (Elt F) f (runA c i _ u2 _ u3 _ u4 _ u5 _ u6 _ u7 _ u8 _ u9 _ u10 _ u11 _ u12 _ u13 _ u14 _ u15 hc0 hc1 x0 x1 x2 x3 x4 x5 x6 xo7 xo11 xs0 xs1).2.2.1) = dcV (bodyV x0 x1 x2 x3 x4 x5 x6 (kb i) (k0_pay45 (F := F)) (k0_pay46 (F := F))) := by
  rw [show (runA c i _ u2 _ u3 _ u4 _ u5 _ u6 _ u7 _ u8 _ u9 _ u10 _ u11 _ u12 _ u13 _ u14 _ u15 hc0 hc1 x0 x1 x2 x3 x4 x5 x6 xo7 xo11 xs0 xs1).2.2.1 = [⟨Rect.unit ![1, 0, 0] S1x1x512.size inb_S2x1x512_S1x1x512_1_0_0, k0_pay1 (stK c i _ u2 _ u3 _ u4 _ u5 _ u6 _ u7 _ u8 _ u9 _ u10 _ u11 _ u12 _ u13 _ u14 _ u15 x0 x1 x2 x3 x4 x5 x6 (k0_pay45 (F := F)) (k0_pay46 (F := F)) (k0_t1_loop i).trips).1.2.2.2⟩, ⟨Rect.unit ![0, 0, 0] S1x1x512.size inb_S2x1x512_S1x1x512_0_0_0, k0_pay88 (stK c i _ u2 _ u3 _ u4 _ u5 _ u6 _ u7 _ u8 _ u9 _ u10 _ u11 _ u12 _ u13 _ u14 _ u15 x0 x1 x2 x3 x4 x5 x6 (k0_pay45 (F := F)) (k0_pay46 (F := F)) (k0_t1_loop i).trips).1.2.2.1⟩] from rfl]
  rw [(st_end c i _ u2 _ u3 _ u4 _ u5 _ u6 _ u7 _ u8 _ u9 _ u10 _ u11 _ u12 _ u13 _ u14 _ u15 x0 x1 x2 x3 x4 x5 x6 (k0_pay45 (F := F)) (k0_pay46 (F := F))).1]
  rw [row_store _ _ ![1, 0, 0], row_store _ _ ![0, 0, 0]]
  exact dcV_put _ _
set_option maxHeartbeats 2000000 in
theorem runA_s0 (hc0 : cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) :
    w14.view.read (Elt F) (w14.view.writes (Elt F) (u14.unread (k0_pay45 (F := F))) (runA c i _ u2 _ u3 _ u4 _ u5 _ u6 _ u7 _ u8 _ u9 _ u10 _ u11 _ u12 _ u13 _ u14 _ u15 hc0 hc1 x0 x1 x2 x3 x4 x5 x6 xo7 xo11 xs0 xs1).2.2.2.1) = (bodyV x0 x1 x2 x3 x4 x5 x6 (kb i) (k0_pay45 (F := F)) (k0_pay46 (F := F))).2.1 := by
  rw [show (runA c i _ u2 _ u3 _ u4 _ u5 _ u6 _ u7 _ u8 _ u9 _ u10 _ u11 _ u12 _ u13 _ u14 _ u15 hc0 hc1 x0 x1 x2 x3 x4 x5 x6 xo7 xo11 xs0 xs1).2.2.2.1 = (stK c i _ u2 _ u3 _ u4 _ u5 _ u6 _ u7 _ u8 _ u9 _ u10 _ u11 _ u12 _ u13 _ u14 _ u15 x0 x1 x2 x3 x4 x5 x6 (k0_pay45 (F := F)) (k0_pay46 (F := F)) (k0_t1_loop i).trips).2.1 ++ L14 i _ u2 _ u3 _ u4 _ u5 _ u6 _ u7 _ u8 _ u14 x0 x1 x2 x3 x4 x5 x6 (k0_pay45 (F := F)) from rfl]
  exact (st_end c i _ u2 _ u3 _ u4 _ u5 _ u6 _ u7 _ u8 _ u9 _ u10 _ u11 _ u12 _ u13 _ u14 _ u15 x0 x1 x2 x3 x4 x5 x6 (k0_pay45 (F := F)) (k0_pay46 (F := F))).2.1
set_option maxHeartbeats 2000000 in
theorem runA_s1 (hc0 : cond0 i) (hc1 : ¬condL i) (x0 : Vec F S4096x128 .f32) (x1 x2 : Vec F S512x128 .f32) (x3 : Vec F S4096x128 .f32) (x4 x5 : Vec F S4096x256 .f32) (x6 : Vec F S2x1x512 .f32) (xo7 : Vec F S4096x128 .bf16) (xo11 : Vec F S4096x256 .f32) (xs0 : Vec F S4096x128 .f32) (xs1 : Vec F S2x4096x128 .f32) :
    w15.view.read (Elt F) (w15.view.writes (Elt F) (u15.unread (k0_pay46 (F := F))) (runA c i _ u2 _ u3 _ u4 _ u5 _ u6 _ u7 _ u8 _ u9 _ u10 _ u11 _ u12 _ u13 _ u14 _ u15 hc0 hc1 x0 x1 x2 x3 x4 x5 x6 xo7 xo11 xs0 xs1).2.2.2.2.1) = (bodyV x0 x1 x2 x3 x4 x5 x6 (kb i) (k0_pay45 (F := F)) (k0_pay46 (F := F))).2.2 := by
  rw [show (runA c i _ u2 _ u3 _ u4 _ u5 _ u6 _ u7 _ u8 _ u9 _ u10 _ u11 _ u12 _ u13 _ u14 _ u15 hc0 hc1 x0 x1 x2 x3 x4 x5 x6 xo7 xo11 xs0 xs1).2.2.2.2.1 = (stK c i _ u2 _ u3 _ u4 _ u5 _ u6 _ u7 _ u8 _ u9 _ u10 _ u11 _ u12 _ u13 _ u14 _ u15 x0 x1 x2 x3 x4 x5 x6 (k0_pay45 (F := F)) (k0_pay46 (F := F)) (k0_t1_loop i).trips).2.2 ++ L15 i _ u2 _ u3 _ u4 _ u5 _ u6 _ u7 _ u8 _ u15 x0 x1 x2 x3 x4 x5 x6 (k0_pay46 (F := F)) from rfl]
  exact (st_end c i _ u2 _ u3 _ u4 _ u5 _ u6 _ u7 _ u8 _ u9 _ u10 _ u11 _ u12 _ u13 _ u14 _ u15 x0 x1 x2 x3 x4 x5 x6 (k0_pay45 (F := F)) (k0_pay46 (F := F))).2.2

end Cert.KernelIdeal.Fox

end
-- ==== Proof.KernelIdeal.Frame.lean ====
module

public import proofs.«01_k».proof.Proof.KernelIdeal.Left
public import Idealize.ShloMosaic.Lib.Claim

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers a point is handed -/

abbrev ms0_0 (t : Fin cfg0.N) := win0_0.stage (cfg0.slots t 0)
abbrev hs0_0 (t : Fin cfg0.N) := hstage0_0 ((cfg0.slots t 0).cast nbuf0_0)
abbrev ms0_1 (t : Fin cfg0.N) := win0_1.stage (cfg0.slots t 1)
abbrev hs0_1 (t : Fin cfg0.N) := hstage0_1 ((cfg0.slots t 1).cast nbuf0_1)
abbrev ms0_2 (t : Fin cfg0.N) := win0_2.stage (cfg0.slots t 2)
abbrev hs0_2 (t : Fin cfg0.N) := hstage0_2 ((cfg0.slots t 2).cast nbuf0_2)
abbrev ms0_3 (t : Fin cfg0.N) := win0_3.stage (cfg0.slots t 3)
abbrev hs0_3 (t : Fin cfg0.N) := hstage0_3 ((cfg0.slots t 3).cast nbuf0_3)
abbrev ms0_4 (t : Fin cfg0.N) := win0_4.stage (cfg0.slots t 4)
abbrev hs0_4 (t : Fin cfg0.N) := hstage0_4 ((cfg0.slots t 4).cast nbuf0_4)
abbrev ms0_5 (t : Fin cfg0.N) := win0_5.stage (cfg0.slots t 5)
abbrev hs0_5 (t : Fin cfg0.N) := hstage0_5 ((cfg0.slots t 5).cast nbuf0_5)
abbrev ms0_6 (t : Fin cfg0.N) := win0_6.stage (cfg0.slots t 6)
abbrev hs0_6 (t : Fin cfg0.N) := hstage0_6 ((cfg0.slots t 6).cast nbuf0_6)
abbrev ms0_7 (t : Fin cfg0.N) := win0_7.stage (cfg0.slots t 7)
abbrev hs0_7 (t : Fin cfg0.N) := hstage0_7 ((cfg0.slots t 7).cast nbuf0_7)
abbrev ms0_8 (t : Fin cfg0.N) := win0_8.stage (cfg0.slots t 8)
abbrev hs0_8 (t : Fin cfg0.N) := hstage0_8 ((cfg0.slots t 8).cast nbuf0_8)
abbrev ms0_9 (t : Fin cfg0.N) := win0_9.stage (cfg0.slots t 9)
abbrev hs0_9 (t : Fin cfg0.N) := hstage0_9 ((cfg0.slots t 9).cast nbuf0_9)
abbrev ms0_10 (t : Fin cfg0.N) := win0_10.stage (cfg0.slots t 10)
abbrev hs0_10 (t : Fin cfg0.N) := hstage0_10 ((cfg0.slots t 10).cast nbuf0_10)
abbrev ms0_11 (t : Fin cfg0.N) := win0_11.stage (cfg0.slots t 11)
abbrev hs0_11 (t : Fin cfg0.N) := hstage0_11 ((cfg0.slots t 11).cast nbuf0_11)
/-- The two accumulators. -/
abbrev scM0_0 := Memref.whole cc0_scratch0
abbrev scM0_1 := Memref.whole cc0_scratch1

/-- The region's invariant at its entry: the two accumulators and the generator at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What a point leaves -/

/-- The blocks of point `t` run from the accumulators `a` and `b`. -/
def bodyAt (c : Dev nD) (t : Fin cfg0.N) (a : Vec F S4096x128 .f32) (b : Vec F S2x4096x128 .f32) : St F :=
  bodyV (iblk m c 0 t) (iblk m c 1 t) (iblk m c 2 t) (iblk m c 3 t) (iblk m c 4 t) (iblk m c 5 t) (iblk m c 6 t) (kb (grid0.coords t)) a b
/-- What point `n` leaves: from zero where a head pair's first key block is, else from what the point before left. -/
def ptV (c : Dev nD) : (n : ℕ) → n < cfg0.N → St F
  | 0, hn => bodyAt m c ⟨0, hn⟩ k0_pay45 k0_pay46
  | n + 1, hn => if (n + 1) % 8 = 0 then bodyAt m c ⟨n + 1, hn⟩ k0_pay45 k0_pay46
      else bodyAt m c ⟨n + 1, hn⟩ (ptV c n (Nat.lt_of_succ_lt hn)).2.1 (ptV c n (Nat.lt_of_succ_lt hn)).2.2
theorem ptV_first (c : Dev nD) (t : Fin cfg0.N) (h : t.val % 8 = 0) : ptV m c t.val t.isLt = bodyAt m c t k0_pay45 k0_pay46 := by
  obtain ⟨n, hn⟩ := t
  cases n with
  | zero => rfl
  | succ n => exact if_pos h
theorem ptV_next (c : Dev nD) (t : Fin cfg0.N) (h : ¬t.val % 8 = 0) :
    ptV m c t.val t.isLt = bodyAt m c t (ptV m c (t.val - 1) (Nat.lt_of_le_of_lt (Nat.sub_le _ _) t.isLt)).2.1 (ptV m c (t.val - 1) (Nat.lt_of_le_of_lt (Nat.sub_le _ _) t.isLt)).2.2 := by
  obtain ⟨n, hn⟩ := t
  cases n with
  | zero => exact absurd (Nat.zero_mod _) h
  | succ n => exact if_neg h

/-- The invariant: after a point the accumulators hold what it left. -/
def PhiS (c : Dev nD) : (n : ℕ) → n ≤ cfg0.N → sProp 𝕄
  | 0, _ => Pipeline.ΦA spec0 c
  | n + 1, hn => iprop(iprop(owns (c : Thread nD τ) scM0_0 fullShare (ptV m c n hn).2.1 ∗ owns (c : Thread nD τ) scM0_1 fullShare (ptV m c n hn).2.2) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (ptV m c n hn).2.1 ∗ owns (c : Thread nD τ) scM0_1 fullShare (ptV m c n hn).2.2) ∗ (∃ r, prngReg c r)) := rfl
theorem PhiS_pos (c : Dev nD) (n : ℕ) (h : n ≤ cfg0.N) (hz : n ≠ 0) :
    PhiS m c n h = iprop(iprop(owns (c : Thread nD τ) scM0_0 fullShare (ptV m c (n - 1) (by omega)).2.1 ∗ owns (c : Thread nD τ) scM0_1 fullShare (ptV m c (n - 1) (by omega)).2.2) ∗ (∃ r, prngReg c r)) := by
  cases n with
  | zero => exact absurd rfl hz
  | succ n => rfl
/-- The invariant gives the accumulators at something, before any point. -/
theorem PhiS_any (c : Dev nD) (n : ℕ) (h : n ≤ cfg0.N) : PhiS m c n h ⊢
    iprop(iprop((∃ d, owns (c : Thread nD τ) scM0_0 fullShare d) ∗ (∃ d, owns (c : Thread nD τ) scM0_1 fullShare d)) ∗ (∃ r, prngReg c r)) := by
  by_cases hz : n = 0
  · rw [PhiS_zero m c n h hz, PhiA0_eq]
  · rw [PhiS_pos m c n h hz]
    iintro ⟨⟨H0, H1⟩, Hg⟩
    isplitl [H0 H1]
    · isplitl [H0]
      · iexists _; iexact H0
      iexists _; iexact H1
    iexact Hg

/-! ## The proof data -/

/-- The arrays as the region finds them; after a point its inputs' blocks where they were and its outputs at what it left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (ptV m c t.val t.isLt).2.1
    | ⟨8, _⟩ => k0_pay86 (ptV m c t.val t.isLt).1.1
    | ⟨9, _⟩ => k0_pay87 (ptV m c t.val t.isLt).1.2.1
    | ⟨10, _⟩ => dcV (ptV m c t.val t.isLt)
    | ⟨11, _⟩ => drV (ptV m c t.val t.isLt)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay2 (ptV m c t.val t.isLt).2.1 := by dsimp only [dats]
theorem after0_8 (c : Dev nD) (t : Fin cfg0.N) : (dats m 0 c).after 8 t = k0_pay86 (ptV m c t.val t.isLt).1.1 := by dsimp only [dats]
theorem after0_9 (c : Dev nD) (t : Fin cfg0.N) : (dats m 0 c).after 9 t = k0_pay87 (ptV m c t.val t.isLt).1.2.1 := by dsimp only [dats]
theorem after0_10 (c : Dev nD) (t : Fin cfg0.N) : (dats m 0 c).after 10 t = dcV (ptV m c t.val t.isLt) := by dsimp only [dats]
theorem after0_11 (c : Dev nD) (t : Fin cfg0.N) : (dats m 0 c).after 11 t = drV (ptV m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Two outputs are stored at a head pair's last key block alone, -/
theorem idle0_7 : ∀ t : Fin cfg0.N, ¬t.val % 8 = 7 → cfg0.idle 7 (grid0.coords t) = true := by decide +kernel
theorem live0_7C : ∀ t : Fin cfg0.N, t.val % 8 = 7 → cfg0.idle 7 (grid0.coords t) = false := by decide +kernel
theorem idle0_11 : ∀ t : Fin cfg0.N, ¬t.val % 8 = 7 → cfg0.idle 11 (grid0.coords t) = true := by decide +kernel
theorem live0_11C : ∀ t : Fin cfg0.N, t.val % 8 = 7 → cfg0.idle 11 (grid0.coords t) = false := by decide +kernel
/-- every other window at every point. -/
theorem leaves0_0 (c : Dev nD) (t : Fin cfg0.N) : (dats m 0 c).leavesExact 0 t = owns (c : Thread nD τ) (ms0_0 t) fullShare (iblk m c 0 t) := by
  rw [← after0_0]
theorem leaves0_1 (c : Dev nD) (t : Fin cfg0.N) : (dats m 0 c).leavesExact 1 t = owns (c : Thread nD τ) (ms0_1 t) fullShare (iblk m c 1 t) := by
  rw [← after0_1]
theorem leaves0_2 (c : Dev nD) (t : Fin cfg0.N) : (dats m 0 c).leavesExact 2 t = owns (c : Thread nD τ) (ms0_2 t) fullShare (iblk m c 2 t) := by
  rw [← after0_2]
theorem leaves0_3 (c : Dev nD) (t : Fin cfg0.N) : (dats m 0 c).leavesExact 3 t = owns (c : Thread nD τ) (ms0_3 t) fullShare (iblk m c 3 t) := by
  rw [← after0_3]
theorem leaves0_4 (c : Dev nD) (t : Fin cfg0.N) : (dats m 0 c).leavesExact 4 t = owns (c : Thread nD τ) (ms0_4 t) fullShare (iblk m c 4 t) := by
  rw [← after0_4]
theorem leaves0_5 (c : Dev nD) (t : Fin cfg0.N) : (dats m 0 c).leavesExact 5 t = owns (c : Thread nD τ) (ms0_5 t) fullShare (iblk m c 5 t) := by
  rw [← after0_5]
theorem leaves0_6 (c : Dev nD) (t : Fin cfg0.N) : (dats m 0 c).leavesExact 6 t = owns (c : Thread nD τ) (ms0_6 t) fullShare (iblk m c 6 t) := by
  rw [← after0_6]
theorem leaves0_8 (c : Dev nD) (t : Fin cfg0.N) : (dats m 0 c).leavesExact 8 t = owns (c : Thread nD τ) (ms0_8 t) fullShare (k0_pay86 (ptV m c t.val t.isLt).1.1) := by
  rw [← after0_8]
theorem leaves0_9 (c : Dev nD) (t : Fin cfg0.N) : (dats m 0 c).leavesExact 9 t = owns (c : Thread nD τ) (ms0_9 t) fullShare (k0_pay87 (ptV m c t.val t.isLt).1.2.1) := by
  rw [← after0_9]
theorem leaves0_10 (c : Dev nD) (t : Fin cfg0.N) : (dats m 0 c).leavesExact 10 t = owns (c : Thread nD τ) (ms0_10 t) fullShare (dcV (ptV m c t.val t.isLt)) := by
  rw [← after0_10]
theorem leaves0_7 (c : Dev nD) (t : Fin cfg0.N) (h : ¬t.val % 8 = 7) : (dats m 0 c).leavesExact 7 t = iprop(∃ d, owns (c : Thread nD τ) (ms0_7 t) fullShare ((dats m 0 c).before 7 t d)) :=
  (dats m 0 c).leavesExact_idle 7 t (idle0_7 t h) (Bool.eq_false_iff.mpr fun hf => h ((flush0_7 t).mp hf))
theorem leaves0_7C (c : Dev nD) (t : Fin cfg0.N) (h : t.val % 8 = 7) : (dats m 0 c).leavesExact 7 t = owns (c : Thread nD τ) (ms0_7 t) fullShare (k0_pay2 (ptV m c t.val t.isLt).2.1) := by
  unfold Dat.leavesExact; rw [live0_7C t h, after0_7]
theorem leaves0_11 (c : Dev nD) (t : Fin cfg0.N) (h : ¬t.val % 8 = 7) : (dats m 0 c).leavesExact 11 t = iprop(∃ d, owns (c : Thread nD τ) (ms0_11 t) fullShare ((dats m 0 c).before 11 t d)) :=
  (dats m 0 c).leavesExact_idle 11 t (idle0_11 t h) (Bool.eq_false_iff.mpr fun hf => h ((flush0_11 t).mp hf))
theorem leaves0_11C (c : Dev nD) (t : Fin cfg0.N) (h : t.val % 8 = 7) : (dats m 0 c).leavesExact 11 t = owns (c : Thread nD τ) (ms0_11 t) fullShare (drV (ptV m c t.val t.isLt)) := by
  unfold Dat.leavesExact; rw [live0_11C t h, after0_11]

/-! ## The body obligation -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 3200000 in
/-- The body at any point, by whether its key block is a head pair's first, last or neither. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [leaves0_0, leaves0_1, leaves0_2, leaves0_3, leaves0_4, leaves0_5, leaves0_6, leaves0_8, leaves0_9, leaves0_10]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 32 := lt_of_lt_of_eq t.isLt (show cfg0.N = 32 from N_0)
  by_cases h0 : t.val % 8 = 0
  · have h7 : ¬t.val % 8 = 7 := by omega
    rw [leaves0_7 m c t h7, leaves0_11 m c t h7, ptV_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    icases (PhiS_any m c _ _) $$ HΦ with ⟨⟨⟨%d12, HS0⟩, ⟨%d13, HS1⟩⟩, Hg⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0 t).mpr h0) (fun h => h7 ((hcondL t).mp h)) (iblk m c 0 t) (iblk m c 1 t) (iblk m c 2 t) (iblk m c 3 t) (iblk m c 4 t) (iblk m c 5 t) (iblk m c 6 t) ((dats m 0 c).before 7 t d7) ((dats m 0 c).before 11 t d11) d12 d13).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    isplitl [HS0]; · iexact HS0
    isplitl [HS1]; · iexact HS1
    iintro ⟨H0, H1, H2, H3, H4, H5, H6, H7, ⟨%e8, H8⟩, ⟨%e9, H9⟩, ⟨%e10, H10⟩, H11, HS0, HS1⟩
    isplitl [HS0 HS1 Hg]
    · isplitl [HS0 HS1]
      · isplitl [HS0]
        · unfold owns; iexists _; isplitr
          swap; · iexact HS0
          ipureintro; exact runA_s0 ..
        unfold owns; iexists _; isplitr
        swap; · iexact HS1
        ipureintro; exact runA_s1 ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]
    · unfold owns; iexists _; isplitr
      swap; · iexact H8
      ipureintro; exact runA_8 ..
    isplitl [H9]
    · unfold owns; iexists _; isplitr
      swap; · iexact H9
      ipureintro; exact runA_9 ..
    isplitl [H10]
    · unfold owns; iexists _; isplitr
      swap; · iexact H10
      ipureintro; exact runA_10 ..
    iexists _; iexact H11
  · by_cases h7 : t.val % 8 = 7
    · have hz : t.val ≠ 0 := fun h => h0 (by rw [h])
      rw [PhiS_pos m c _ _ hz, leaves0_7C m c t h7, leaves0_11C m c t h7, ptV_next m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0 t).mp h)) ((hcondL t).mpr h7) (iblk m c 0 t) (iblk m c 1 t) (iblk m c 2 t) (iblk m c 3 t) (iblk m c 4 t) (iblk m c 5 t) (iblk m c 6 t) (ptV m c (t.val - 1) (Nat.lt_of_le_of_lt (Nat.sub_le _ _) t.isLt)).2.1 (ptV m c (t.val - 1) (Nat.lt_of_le_of_lt (Nat.sub_le _ _) t.isLt)).2.2).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, ⟨%e7, H7⟩, ⟨%e8, H8⟩, ⟨%e9, H9⟩, ⟨%e10, H10⟩, ⟨%e11, H11⟩, HS0, HS1⟩
      isplitl [HS0 HS1 Hg]
      · isplitl [HS0 HS1]
        · isplitl [HS0]
          · unfold owns; iexists _; isplitr
            swap; · iexact HS0
            ipureintro; exact runC_s0 ..
          unfold owns; iexists _; isplitr
          swap; · iexact HS1
          ipureintro; exact runC_s1 ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact runC_7 ..
      isplitl [H8]
      · unfold owns; iexists _; isplitr
        swap; · iexact H8
        ipureintro; exact runC_8 ..
      isplitl [H9]
      · unfold owns; iexists _; isplitr
        swap; · iexact H9
        ipureintro; exact runC_9 ..
      isplitl [H10]
      · unfold owns; iexists _; isplitr
        swap; · iexact H10
        ipureintro; exact runC_10 ..
      unfold owns; iexists _; isplitr
      swap; · iexact H11
      ipureintro; exact runC_11 ..
    · have hz : t.val ≠ 0 := fun h => h0 (by rw [h])
      rw [PhiS_pos m c _ _ hz, leaves0_7 m c t h7, leaves0_11 m c t h7, ptV_next m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0 t).mp h)) (fun h => h7 ((hcondL t).mp h)) (iblk m c 0 t) (iblk m c 1 t) (iblk m c 2 t) (iblk m c 3 t) (iblk m c 4 t) (iblk m c 5 t) (iblk m c 6 t) ((dats m 0 c).before 7 t d7) ((dats m 0 c).before 11 t d11) (ptV m c (t.val - 1) (Nat.lt_of_le_of_lt (Nat.sub_le _ _) t.isLt)).2.1 (ptV m c (t.val - 1) (Nat.lt_of_le_of_lt (Nat.sub_le _ _) t.isLt)).2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [HS0]; · iexact HS0
      isplitl [HS1]; · iexact HS1
      iintro ⟨H0, H1, H2, H3, H4, H5, H6, H7, ⟨%e8, H8⟩, ⟨%e9, H9⟩, ⟨%e10, H10⟩, H11, HS0, HS1⟩
      isplitl [HS0 HS1 Hg]
      · isplitl [HS0 HS1]
        · isplitl [HS0]
          · unfold owns; iexists _; isplitr
            swap; · iexact HS0
            ipureintro; exact runB_s0 ..
          unfold owns; iexists _; isplitr
          swap; · iexact HS1
          ipureintro; exact runB_s1 ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]
      · unfold owns; iexists _; isplitr
        swap; · iexact H8
        ipureintro; exact runB_8 ..
      isplitl [H9]
      · unfold owns; iexists _; isplitr
        swap; · iexact H9
        ipureintro; exact runB_9 ..
      isplitl [H10]
      · unfold owns; iexists _; isplitr
        swap; · iexact H10
        ipureintro; exact runB_10 ..
      iexists _; iexact H11

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The launch: every array of the pipeline ends at what the proof data says, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_quiet m ρ)
/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.KernelIdeal.Fox

end
-- ==== Proof.KernelIdeal.Array.lean ====
module

public import proofs.«01_k».proof.Proof.KernelIdeal.Sum
public import proofs.«01_k».proof.Proof.KernelIdeal.Frame
public import Idealize.ShloMosaic.Lib.Pipeline.ValueKit

@[expose] public section

set_option maxRecDepth 16384

noncomputable section

namespace Cert.KernelIdeal.Fox

open Cert.KernelIdeal.Gen Cert.Fox
open Idealize.ShloMosaic Idealize.ShloMosaic.TcCoe
open Idealize.SL.Sem
open Finset (range)

/-! ## The blocks' places -/

theorem ix0 : ∀ t : Fin cfg0.N, win0_0.index t = ![0, 8 + t.val / 8] := (by decide +kernel : ∀ t : Fin grid0.N, _)
theorem ix1 : ∀ t : Fin cfg0.N, win0_1.index t = ![t.val % 8, 12 + t.val / 8] := (by decide +kernel : ∀ t : Fin grid0.N, _)
theorem ix_2 : ∀ t : Fin cfg0.N, win0_2.index t = ![t.val % 8, 16 + t.val / 8] := (by decide +kernel : ∀ t : Fin grid0.N, _)
theorem ix_3 : ∀ t : Fin cfg0.N, win0_3.index t = ![0, 4 + t.val / 8] := (by decide +kernel : ∀ t : Fin grid0.N, _)
theorem ix_4 : ∀ t : Fin cfg0.N, win0_4.index t = ![0, t.val / 8] := (by decide +kernel : ∀ t : Fin grid0.N, _)
theorem ix_5 : ∀ t : Fin cfg0.N, win0_5.index t = ![0, t.val / 8] := (by decide +kernel : ∀ t : Fin grid0.N, _)
theorem ix_6 : ∀ t : Fin cfg0.N, win0_6.index t = ![t.val / 8, 0, t.val % 8] := (by decide +kernel : ∀ t : Fin grid0.N, _)
theorem ix_7 : ∀ t : Fin cfg0.N, win0_7.index t = ![0, t.val / 8] := (by decide +kernel : ∀ t : Fin grid0.N, _)
theorem ix_8 : ∀ t : Fin cfg0.N, win0_8.index t = ![t.val % 8, t.val / 8] := (by decide +kernel : ∀ t : Fin grid0.N, _)
theorem ix_9 : ∀ t : Fin cfg0.N, win0_9.index t = ![t.val % 8, t.val / 8] := (by decide +kernel : ∀ t : Fin grid0.N, _)
theorem ix_10 : ∀ t : Fin cfg0.N, win0_10.index t = ![t.val / 8, 0, t.val % 8] := (by decide +kernel : ∀ t : Fin grid0.N, _)
theorem ix_11 : ∀ t : Fin cfg0.N, win0_11.index t = ![0, t.val / 8] := (by decide +kernel : ∀ t : Fin grid0.N, _)
theorem kb_val : ∀ t : Fin cfg0.N, (kb (grid0.coords t)).val = t.val % 8 := (by decide +kernel : ∀ t : Fin grid0.N, (grid0.coords t 1).val = t.val % 8)
theorem N_lt (t : Fin cfg0.N) : t.val < 32 := lt_of_lt_of_eq t.isLt (show cfg0.N = 32 from N_0)

/-! Where a block's index lies in its array. -/

theorem emb0 (t : Fin cfg0.N) (r : Fin 4096) (l : Fin 128) : (win0_0.blk t).view.emb (ix2 r l) = ix2 r (⟨1024 + 128 * (t.val / 8) + l.val, by have := N_lt t; omega⟩ : Fin 2688) := by
  have ht := N_lt t
  blk_ext [ix0]
theorem emb1 (t : Fin cfg0.N) (r : Fin 512) (l : Fin 128) : (win0_1.blk t).view.emb (ix2 r l) = ix2 (⟨512 * (t.val % 8) + r.val, by have := N_lt t; omega⟩ : Fin 4096) (⟨1536 + 128 * (t.val / 8) + l.val, by have := N_lt t; omega⟩ : Fin 2688) := by
  have ht := N_lt t
  blk_ext [ix1]
theorem emb2 (t : Fin cfg0.N) (r : Fin 512) (l : Fin 128) : (win0_2.blk t).view.emb (ix2 r l) = ix2 (⟨512 * (t.val % 8) + r.val, by have := N_lt t; omega⟩ : Fin 4096) (⟨2048 + 128 * (t.val / 8) + l.val, by have := N_lt t; omega⟩ : Fin 2688) := by
  have ht := N_lt t
  blk_ext [ix_2]
theorem emb3 (t : Fin cfg0.N) (r : Fin 4096) (l : Fin 128) : (win0_3.blk t).view.emb (ix2 r l) = ix2 r (⟨512 + 128 * (t.val / 8) + l.val, by have := N_lt t; omega⟩ : Fin 1024) := by
  have ht := N_lt t
  blk_ext [ix_3]
theorem emb4 (t : Fin cfg0.N) (r : Fin 4096) (l : Fin 256) : (win0_4.blk t).view.emb (ix2 r l) = ix2 r (⟨256 * (t.val / 8) + l.val, by have := N_lt t; omega⟩ : Fin 1024) := by
  have ht := N_lt t
  blk_ext [ix_4]
theorem emb5 (t : Fin cfg0.N) (r : Fin 4096) (l : Fin 256) : (win0_5.blk t).view.emb (ix2 r l) = ix2 r (⟨256 * (t.val / 8) + l.val, by have := N_lt t; omega⟩ : Fin 1024) := by
  have ht := N_lt t
  blk_ext [ix_5]
theorem emb6 (t : Fin cfg0.N) (p : Fin 2) (s : Fin 512) : (win0_6.blk t).view.emb (ix3 p 0 s) = ix3 (⟨2 * (t.val / 8) + p.val, by have := N_lt t; omega⟩ : Fin 8) (0 : Fin 1) (⟨512 * (t.val % 8) + s.val, by have := N_lt t; omega⟩ : Fin 4096) := by
  have ht := N_lt t
  blk_ext [ix_6]
theorem emb7 (t : Fin cfg0.N) (r : Fin 4096) (l : Fin 128) : (win0_7.blk t).view.emb (ix2 r l) = ix2 r (⟨128 * (t.val / 8) + l.val, by have := N_lt t; omega⟩ : Fin 512) := by
  have ht := N_lt t
  blk_ext [ix_7]
theorem emb8 (t : Fin cfg0.N) (r : Fin 512) (l : Fin 128) : (win0_8.blk t).view.emb (ix2 r l) = ix2 (⟨512 * (t.val % 8) + r.val, by have := N_lt t; omega⟩ : Fin 4096) (⟨128 * (t.val / 8) + l.val, by have := N_lt t; omega⟩ : Fin 512) := by
  have ht := N_lt t
  blk_ext [ix_8]
theorem emb9 (t : Fin cfg0.N) (r : Fin 512) (l : Fin 128) : (win0_9.blk t).view.emb (ix2 r l) = ix2 (⟨512 * (t.val % 8) + r.val, by have := N_lt t; omega⟩ : Fin 4096) (⟨128 * (t.val / 8) + l.val, by have := N_lt t; omega⟩ : Fin 512) := by
  have ht := N_lt t
  blk_ext [ix_9]
theorem emb10 (t : Fin cfg0.N) (p : Fin 2) (s : Fin 512) : (win0_10.blk t).view.emb (ix3 p 0 s) = ix3 (⟨2 * (t.val / 8) + p.val, by have := N_lt t; omega⟩ : Fin 8) (0 : Fin 1) (⟨512 * (t.val % 8) + s.val, by have := N_lt t; omega⟩ : Fin 4096) := by
  have ht := N_lt t
  blk_ext [ix_10]
theorem emb11 (t : Fin cfg0.N) (r : Fin 4096) (l : Fin 256) : (win0_11.blk t).view.emb (ix2 r l) = ix2 r (⟨256 * (t.val / 8) + l.val, by have := N_lt t; omega⟩ : Fin 1024) := by
  have ht := N_lt t
  blk_ext [ix_11]

variable (m : (ℓ : Loc nD τ sig) → Buf (Elt Ideal) ℓ)

/-! The blocks read at an index. -/

theorem iblk0_apply (c : Dev nD) (t : Fin cfg0.N) (r : Fin 4096) (l : Fin 128) : iblk m c 0 t (ix2 r l) = V m c main_arg0 (ix2 r (⟨1024 + 128 * (t.val / 8) + l.val, by have := N_lt t; omega⟩ : Fin 2688)) := congrArg (V m c main_arg0) (emb0 t r l)
theorem iblk1_apply (c : Dev nD) (t : Fin cfg0.N) (r : Fin 512) (l : Fin 128) : iblk m c 1 t (ix2 r l) = V m c main_arg0 (ix2 (⟨512 * (t.val % 8) + r.val, by have := N_lt t; omega⟩ : Fin 4096) (⟨1536 + 128 * (t.val / 8) + l.val, by have := N_lt t; omega⟩ : Fin 2688)) := congrArg (V m c main_arg0) (emb1 t r l)
theorem iblk2_apply (c : Dev nD) (t : Fin cfg0.N) (r : Fin 512) (l : Fin 128) : iblk m c 2 t (ix2 r l) = V m c main_arg0 (ix2 (⟨512 * (t.val % 8) + r.val, by have := N_lt t; omega⟩ : Fin 4096) (⟨2048 + 128 * (t.val / 8) + l.val, by have := N_lt t; omega⟩ : Fin 2688)) := congrArg (V m c main_arg0) (emb2 t r l)
theorem iblk3_apply (c : Dev nD) (t : Fin cfg0.N) (r : Fin 4096) (l : Fin 128) : iblk m c 3 t (ix2 r l) = V m c main_arg1 (ix2 r (⟨512 + 128 * (t.val / 8) + l.val, by have := N_lt t; omega⟩ : Fin 1024)) := congrArg (V m c main_arg1) (emb3 t r l)
theorem iblk4_apply (c : Dev nD) (t : Fin cfg0.N) (r : Fin 4096) (l : Fin 256) : iblk m c 4 t (ix2 r l) = V m c main_v44 (ix2 r (⟨256 * (t.val / 8) + l.val, by have := N_lt t; omega⟩ : Fin 1024)) := congrArg (V m c main_v44) (emb4 t r l)
theorem iblk5_apply (c : Dev nD) (t : Fin cfg0.N) (r : Fin 4096) (l : Fin 256) : iblk m c 5 t (ix2 r l) = V m c main_v49 (ix2 r (⟨256 * (t.val / 8) + l.val, by have := N_lt t; omega⟩ : Fin 1024)) := congrArg (V m c main_v49) (emb5 t r l)
theorem iblk6_apply (c : Dev nD) (t : Fin cfg0.N) (p : Fin 2) (s : Fin 512) : iblk m c 6 t (ix3 p 0 s) = V m c main_v51 (ix3 (⟨2 * (t.val / 8) + p.val, by have := N_lt t; omega⟩ : Fin 8) (0 : Fin 1) (⟨512 * (t.val % 8) + s.val, by have := N_lt t; omega⟩ : Fin 4096)) := congrArg (V m c main_v51) (emb6 t p s)

/-- What the arrays hold where the grid begins, as reals. -/
structure Entry (P G : ℕ → ℕ → ℝ) (lb dl ck : ℕ → ℕ → ℝ) (c : Dev nD) : Prop where
  h0 : ∀ (t : Fin 4096) (a : Fin 2688), 1024 ≤ a.val → a.val < 2560 → V m c main_arg0 (ix2 t a) = ((P t.val a.val : ℝ) : EReal)
  h1 : ∀ (t : Fin 4096) (a : Fin 1024), 512 ≤ a.val → V m c main_arg1 (ix2 t a) = ((G t.val a.val : ℝ) : EReal)
  h4 : ∀ (t : Fin 4096) (a : Fin 1024), V m c main_v44 (ix2 t a) = ((lb (a.val / 128) t.val : ℝ) : EReal)
  h5 : ∀ (t : Fin 4096) (a : Fin 1024), V m c main_v49 (ix2 t a) = ((dl (a.val / 128) t.val : ℝ) : EReal)
  h6 : ∀ (h : Fin 8) (s : Fin 4096), V m c main_v51 (ix3 h 0 s) = ((ck h.val s.val : ℝ) : EReal)

section
variable {P G lb dl ck : ℕ → ℕ → ℝ} {c : Dev nD} (he : Entry m P G lb dl ck c)
include he
/-- The blocks a point reads. -/
theorem reads (t : Fin cfg0.N) : Reads (fun r l => P r (1024 + 128 * (t.val / 8) + l)) (fun r l => P r (1536 + 128 * (t.val / 8) + l)) (fun r l => P r (2048 + 128 * (t.val / 8) + l))
    (fun r l => G r (512 + 128 * (t.val / 8) + l)) (fun p => lb (2 * (t.val / 8) + p)) (fun p => dl (2 * (t.val / 8) + p)) (fun p => ck (2 * (t.val / 8) + p)) (kb (grid0.coords t)).val
    (iblk m c 0 t) (iblk m c 1 t) (iblk m c 2 t) (iblk m c 3 t) (iblk m c 4 t) (iblk m c 5 t) (iblk m c 6 t) where
  h0 r l := (iblk0_apply m c t r l).trans (he.h0 _ _ (by show 1024 ≤ 1024 + 128 * (t.val / 8) + l.val; omega) (by have ht := N_lt t; show 1024 + 128 * (t.val / 8) + l.val < 2560; omega))
  h1 r l := (iblk1_apply m c t r l).trans ((he.h0 _ _ (by show 1024 ≤ 1536 + 128 * (t.val / 8) + l.val; omega) (by have ht := N_lt t; show 1536 + 128 * (t.val / 8) + l.val < 2560; omega)).trans (by rw [kb_val]))
  h2 r l := (iblk2_apply m c t r l).trans ((he.h0 _ _ (by show 1024 ≤ 2048 + 128 * (t.val / 8) + l.val; omega) (by have ht := N_lt t; show 2048 + 128 * (t.val / 8) + l.val < 2560; omega)).trans (by rw [kb_val]))
  h3 r l := (iblk3_apply m c t r l).trans (he.h1 _ _ (by show 512 ≤ 512 + 128 * (t.val / 8) + l.val; omega))
  h4 r l := (iblk4_apply m c t r l).trans ((he.h4 _ _).trans (by dsimp only; rw [show (256 * (t.val / 8) + l.val) / 128 = 2 * (t.val / 8) + l.val / 128 by omega]))
  h5 r l := (iblk5_apply m c t r l).trans ((he.h5 _ _).trans (by dsimp only; rw [show (256 * (t.val / 8) + l.val) / 128 = 2 * (t.val / 8) + l.val / 128 by omega]))
  h6 p s := (iblk6_apply m c t p s).trans ((he.h6 _ _).trans (by rw [kb_val]))
/-- What a point leaves: its key block's sums over every query, and the accumulators' sums over the key blocks so far. -/
theorem ptV_inv : ∀ (n : ℕ) (hn : n < cfg0.N), Inv (fun r l => P r (1024 + 128 * (n / 8) + l)) (fun r l => P r (1536 + 128 * (n / 8) + l)) (fun r l => P r (2048 + 128 * (n / 8) + l))
    (fun r l => G r (512 + 128 * (n / 8) + l)) (fun p => lb (2 * (n / 8) + p)) (fun p => dl (2 * (n / 8) + p)) (fun p => ck (2 * (n / 8) + p)) (n % 8) 8 (ptV m c n hn) := by
  intro n
  induction n with
  | zero =>
    intro hn
    have h := bodyV_inv (reads m he ⟨0, hn⟩) _ _ (by rw [kb_val]; exact acc_zero)
    rw [kb_val] at h
    exact h
  | succ n ih =>
    intro hn
    by_cases h0 : (n + 1) % 8 = 0
    · have h := bodyV_inv (reads m he ⟨n + 1, hn⟩) (k0_pay45 (F := Ideal)) (k0_pay46 (F := Ideal)) (by rw [kb_val]; show Acc _ _ _ _ _ _ _ ((n + 1) % 8) _ _; rw [h0]; exact acc_zero)
      rw [kb_val] at h
      rw [ptV_first m c ⟨n + 1, hn⟩ h0]
      exact h
    · have hp := (ih (Nat.lt_of_succ_lt hn)).acc
      have h := bodyV_inv (reads m he ⟨n + 1, hn⟩) (ptV m c n (Nat.lt_of_succ_lt hn)).2.1 (ptV m c n (Nat.lt_of_succ_lt hn)).2.2 (by
        rw [kb_val]
        show Acc _ _ _ _ _ _ _ ((n + 1) % 8) _ _
        rw [show (n + 1) % 8 = n % 8 + 1 by omega]
        dsimp only
        rw [show (n + 1) / 8 = n / 8 by omega]
        exact hp)
      rw [kb_val] at h
      rw [ptV_next m c ⟨n + 1, hn⟩ h0]
      exact h
end

end Cert.KernelIdeal.Fox

end
-- ==== Proof.KernelIdeal.Final.lean ====
module

public import proofs.«01_k».proof.Proof.KernelIdeal.Array

@[expose] public section

set_option maxRecDepth 16384

noncomputable section

namespace Cert.KernelIdeal.Fox

open Cert.KernelIdeal.Gen Cert.Fox
open Idealize.ShloMosaic Idealize.ShloMosaic.TcCoe
open Idealize.SL.Sem
open Finset (range)

/-! ## The result arrays as real sums -/

/-- The two heads' gate gradients, row by row. -/
theorem dcV_apply (s : St Ideal) (p : Fin 2) (i : Fin 512) : dcV (F := Ideal) s (ix3 p 0 i) = if p.val = 0 then s.1.2.2.1 (ix2 0 i) else s.1.2.2.2 (ix2 0 i) := by
  unfold dcV VecWindow.put
  match p with
  | ⟨0, _⟩ =>
    rw [dif_neg (fun hh => absurd (hh 0).1 (by show ¬ (1 ≤ 0); decide)), dif_pos (fun a => match a with
      | ⟨0, _⟩ => ⟨(by show 0 ≤ 0; omega), (by show 0 < 0 + 1; omega)⟩
      | ⟨1, _⟩ => ⟨(by show 0 ≤ 0; omega), (by show 0 < 0 + 1; omega)⟩
      | ⟨2, _⟩ => ⟨(by show 0 ≤ i.val; omega), (by show i.val < 0 + 512; omega)⟩)]
    rw [if_pos rfl]
    refine (congrArg (k0_pay88 (F := Ideal) s.1.2.2.1) (show _ = ix3 (0 : Fin 1) (0 : Fin 1) i from ?_)).trans ?_
    · funext a; apply Fin.ext
      match a with
      | ⟨0, _⟩ => rfl
      | ⟨1, _⟩ => rfl
      | ⟨2, _⟩ => show i.val - 0 = i.val; omega
    · pointwise [k0_pay88]
  | ⟨1, _⟩ =>
    rw [dif_pos (fun a => match a with
      | ⟨0, _⟩ => ⟨(by show 1 ≤ 1; omega), (by show 1 < 1 + 1; omega)⟩
      | ⟨1, _⟩ => ⟨(by show 0 ≤ 0; omega), (by show 0 < 0 + 1; omega)⟩
      | ⟨2, _⟩ => ⟨(by show 0 ≤ i.val; omega), (by show i.val < 0 + 512; omega)⟩)]
    rw [if_neg (show ¬ (1 : ℕ) = 0 by decide)]
    refine (congrArg (k0_pay1 (F := Ideal) s.1.2.2.2) (show _ = ix3 (0 : Fin 1) (0 : Fin 1) i from ?_)).trans ?_
    · funext a; apply Fin.ext
      match a with
      | ⟨0, _⟩ => rfl
      | ⟨1, _⟩ => rfl
      | ⟨2, _⟩ => show i.val - 0 = i.val; omega
    · pointwise [k0_pay1]
/-- The row sums' two lane groups. -/
theorem drV_apply (s : St Ideal) (t : Fin 4096) (l : Fin 256) : drV (F := Ideal) s (ix2 t l) = s.2.2 (ix3 (⟨l.val / 128, by omega⟩ : Fin 2) t (⟨l.val % 128, by omega⟩ : Fin 128)) := by
  unfold drV VecWindow.put
  by_cases h : l.val < 128
  · rw [dif_neg (fun hh => absurd (hh 1).1 (by show ¬ (128 ≤ l.val); omega)), dif_pos (fun a => match a with
      | ⟨0, _⟩ => ⟨(by show 0 ≤ t.val; omega), (by show t.val < 0 + 4096; omega)⟩
      | ⟨1, _⟩ => ⟨(by show 0 ≤ l.val; omega), (by show l.val < 0 + 128; omega)⟩)]
    refine (congrArg (k0_pay3 (F := Ideal) _) (show _ = ix2 t (⟨l.val % 128, by omega⟩ : Fin 128) from ?_)).trans ?_
    · funext a; apply Fin.ext
      match a with
      | ⟨0, _⟩ => show t.val - 0 = t.val; omega
      | ⟨1, _⟩ => show l.val - 0 = l.val % 128; omega
    · pointwise [k0_pay3]
      unfold VecWindow.window
      refine congrArg s.2.2 ?_
      funext a; apply Fin.ext
      match a with
      | ⟨0, _⟩ => show 0 + 1 * 0 = l.val / 128; omega
      | ⟨1, _⟩ => show 0 + 1 * t.val = t.val; omega
      | ⟨2, _⟩ => show 0 + 1 * (l.val % 128) = l.val % 128; omega
  · rw [dif_pos (fun a => match a with
      | ⟨0, _⟩ => ⟨(by show 0 ≤ t.val; omega), (by show t.val < 0 + 4096; omega)⟩
      | ⟨1, _⟩ => ⟨(by show 128 ≤ l.val; omega), (by show l.val < 128 + 128; omega)⟩)]
    refine (congrArg (k0_pay4 (F := Ideal) _) (show _ = ix2 t (⟨l.val % 128, by omega⟩ : Fin 128) from ?_)).trans ?_
    · funext a; apply Fin.ext
      match a with
      | ⟨0, _⟩ => show t.val - 0 = t.val; omega
      | ⟨1, _⟩ => show l.val - 128 = l.val % 128; omega
    · pointwise [k0_pay4]
      unfold VecWindow.window
      refine congrArg s.2.2 ?_
      funext a; apply Fin.ext
      match a with
      | ⟨0, _⟩ => show 1 + 1 * 0 = l.val / 128; omega
      | ⟨1, _⟩ => show 0 + 1 * t.val = t.val; omega
      | ⟨2, _⟩ => show 0 + 1 * (l.val % 128) = l.val % 128; omega

variable (m : (ℓ : Loc nD τ sig) → Buf (Elt Ideal) ℓ)
variable {P G lb dl ck : ℕ → ℕ → ℝ} {c : Dev nD}

/-- The weights of pair `j`, -/
def pwj (P lb ck : ℕ → ℕ → ℝ) (j p t s : ℕ) : ℝ :=
  pw (fun r l => P r (1024 + 128 * j + l)) (fun r l => P r (1536 + 128 * j + l)) (fun p => lb (2 * j + p)) (fun p => ck (2 * j + p)) p t s
/-- the gradients of its logits. -/
def pdj (P G lb dl ck : ℕ → ℕ → ℝ) (j p t s : ℕ) : ℝ :=
  pd (fun r l => P r (1024 + 128 * j + l)) (fun r l => P r (1536 + 128 * j + l)) (fun r l => P r (2048 + 128 * j + l)) (fun r l => G r (512 + 128 * j + l))
    (fun p => lb (2 * j + p)) (fun p => dl (2 * j + p)) (fun p => ck (2 * j + p)) p t s

section
variable (he : Entry m P G lb dl ck c)
include he

/-- The queries' gradient. -/
theorem final7 : (dats m 0 c).arrAt 7 cfg0.N = fun i : S4096x512.Idx => (((∑ s ∈ range 4096, pdj P G lb dl ck ((i 1).val / 128) ((i 1).val % 128 / 64) (i 0).val s * P s (1536 + 128 * ((i 1).val / 128) + (i 1).val % 128)) * (1 / 8) : ℝ) : EReal) := by
  refine (dats m 0 c).arrAt_eq_of_covers 7 _ (by decide +kernel) fun t hf y => ?_
  have h7 : t.val % 8 = 7 := (flush0_7 t).mp hf
  have hN := N_lt t
  obtain ⟨r, l, rfl⟩ : ∃ (r : Fin 4096) (l : Fin 128), y = ix2 r l := ⟨y 0, y 1, eq_ix2 y⟩
  have h := ptV_inv m he t.val t.isLt
  rw [h7] at h
  have e : (dats m 0 c).after 7 t (ix2 r l) = (((∑ s ∈ range 4096, pdj P G lb dl ck (t.val / 8) (l.val / 64) r.val s * P s (1536 + 128 * (t.val / 8) + l.val)) * (1 / 8) : ℝ) : EReal) := by
    rw [after0_7]
    pointwise [k0_pay2]
    rw [eighth, h.acc.dq, ← EReal.coe_mul]
    rfl
  refine Eq.trans (show _ = (dats m 0 c).after 7 t (ix2 r l) from rfl) (e.trans ?_)
  refine Eq.trans ?_ (congrArg (fun i : S4096x512.Idx => (((∑ s ∈ range 4096, pdj P G lb dl ck ((i 1).val / 128) ((i 1).val % 128 / 64) (i 0).val s * P s (1536 + 128 * ((i 1).val / 128) + (i 1).val % 128)) * (1 / 8) : ℝ) : EReal)) (emb7 t r l)).symm
  dsimp only [ix2_0, ix2_1]
  rw [show (128 * (t.val / 8) + l.val) / 128 = t.val / 8 by omega, show (128 * (t.val / 8) + l.val) % 128 = l.val by omega]

/-- The keys' gradient. -/
theorem final8 : (dats m 0 c).arrAt 8 cfg0.N = fun i : S4096x512.Idx => ((∑ t ∈ range 4096, pdj P G lb dl ck ((i 1).val / 128) ((i 1).val % 128 / 64) t (i 0).val * (P t (1024 + 128 * ((i 1).val / 128) + (i 1).val % 128) * (1 / 8)) : ℝ) : EReal) := by
  refine (dats m 0 c).arrAt_eq_of_covers 8 _ (by decide +kernel) fun t hf y => ?_
  have hN := N_lt t
  obtain ⟨r, l, rfl⟩ : ∃ (r : Fin 512) (l : Fin 128), y = ix2 r l := ⟨y 0, y 1, eq_ix2 y⟩
  have h := ptV_inv m he t.val t.isLt

  have e : (dats m 0 c).after 8 t (ix2 r l) = ((∑ r' ∈ range 4096, pdj P G lb dl ck (t.val / 8) (l.val / 64) r' (512 * (t.val % 8) + r.val) * (P r' (1024 + 128 * (t.val / 8) + l.val) * (1 / 8)) : ℝ) : EReal) := by
    rw [after0_8]
    pointwise [k0_pay86]
    exact h.dk r l
  refine Eq.trans (show _ = (dats m 0 c).after 8 t (ix2 r l) from rfl) (e.trans ?_)
  refine Eq.trans ?_ (congrArg (fun i : S4096x512.Idx => ((∑ t ∈ range 4096, pdj P G lb dl ck ((i 1).val / 128) ((i 1).val % 128 / 64) t (i 0).val * (P t (1024 + 128 * ((i 1).val / 128) + (i 1).val % 128) * (1 / 8)) : ℝ) : EReal)) (emb8 t r l)).symm
  dsimp only [ix2_0, ix2_1]
  rw [show (128 * (t.val / 8) + l.val) / 128 = t.val / 8 by omega, show (128 * (t.val / 8) + l.val) % 128 = l.val by omega]

/-- The values' gradient. -/
theorem final9 : (dats m 0 c).arrAt 9 cfg0.N = fun i : S4096x512.Idx => ((∑ t ∈ range 4096, pwj P lb ck ((i 1).val / 128) ((i 1).val % 128 / 64) t (i 0).val * G t (512 + 128 * ((i 1).val / 128) + (i 1).val % 128) : ℝ) : EReal) := by
  refine (dats m 0 c).arrAt_eq_of_covers 9 _ (by decide +kernel) fun t hf y => ?_
  have hN := N_lt t
  obtain ⟨r, l, rfl⟩ : ∃ (r : Fin 512) (l : Fin 128), y = ix2 r l := ⟨y 0, y 1, eq_ix2 y⟩
  have h := ptV_inv m he t.val t.isLt

  have e : (dats m 0 c).after 9 t (ix2 r l) = ((∑ r' ∈ range 4096, pwj P lb ck (t.val / 8) (l.val / 64) r' (512 * (t.val % 8) + r.val) * G r' (512 + 128 * (t.val / 8) + l.val) : ℝ) : EReal) := by
    rw [after0_9]
    pointwise [k0_pay87]
    exact h.dv r l
  refine Eq.trans (show _ = (dats m 0 c).after 9 t (ix2 r l) from rfl) (e.trans ?_)
  refine Eq.trans ?_ (congrArg (fun i : S4096x512.Idx => ((∑ t ∈ range 4096, pwj P lb ck ((i 1).val / 128) ((i 1).val % 128 / 64) t (i 0).val * G t (512 + 128 * ((i 1).val / 128) + (i 1).val % 128) : ℝ) : EReal)) (emb9 t r l)).symm
  dsimp only [ix2_0, ix2_1]
  rw [show (128 * (t.val / 8) + l.val) / 128 = t.val / 8 by omega, show (128 * (t.val / 8) + l.val) % 128 = l.val by omega]

/-- The gates' gradient through the keys. -/
theorem final10 : (dats m 0 c).arrAt 10 cfg0.N = fun i : S8x1x4096.Idx => ((-∑ t ∈ range 4096, pdj P G lb dl ck ((i 0).val / 2) ((i 0).val % 2) t (i 2).val : ℝ) : EReal) := by
  refine (dats m 0 c).arrAt_eq_of_covers 10 _ (by decide +kernel) fun t hf y => ?_
  have hN := N_lt t
  obtain ⟨p, i, rfl⟩ : ∃ (p : Fin 2) (i : Fin 512), y = ix3 p 0 i := ⟨y 0, y 2, (eq_ix3 y).trans (congrArg (fun z => ix3 (y 0) z (y 2)) (Subsingleton.elim (α := Fin 1) _ _))⟩
  have h := ptV_inv m he t.val t.isLt

  have e : (dats m 0 c).after 10 t (ix3 p 0 i) = ((-∑ r' ∈ range 4096, pdj P G lb dl ck (t.val / 8) p.val r' (512 * (t.val % 8) + i.val) : ℝ) : EReal) := by
    rw [after0_10]
    rw [dcV_apply]
    match p with
    | ⟨0, _⟩ => exact h.dc0 i
    | ⟨1, _⟩ => exact h.dc1 i
  refine Eq.trans (show _ = (dats m 0 c).after 10 t (ix3 p 0 i) from rfl) (e.trans ?_)
  refine Eq.trans ?_ (congrArg (fun i : S8x1x4096.Idx => ((-∑ t ∈ range 4096, pdj P G lb dl ck ((i 0).val / 2) ((i 0).val % 2) t (i 2).val : ℝ) : EReal)) (emb10 t p i)).symm
  dsimp only [ix3_0, ix3_1, ix3_2]
  rw [show (2 * (t.val / 8) + p.val) / 2 = t.val / 8 by omega, show (2 * (t.val / 8) + p.val) % 2 = p.val by omega]

/-- The gates' gradient through the queries. -/
theorem final11 : (dats m 0 c).arrAt 11 cfg0.N = fun i : S4096x1024.Idx => ((∑ s ∈ range 4096, pdj P G lb dl ck ((i 1).val / 256) ((i 1).val % 256 / 128) (i 0).val s : ℝ) : EReal) := by
  refine (dats m 0 c).arrAt_eq_of_covers 11 _ (by decide +kernel) fun t hf y => ?_
  have h7 : t.val % 8 = 7 := (flush0_11 t).mp hf
  have hN := N_lt t
  obtain ⟨r, l, rfl⟩ : ∃ (r : Fin 4096) (l : Fin 256), y = ix2 r l := ⟨y 0, y 1, eq_ix2 y⟩
  have h := ptV_inv m he t.val t.isLt
  rw [h7] at h
  have e : (dats m 0 c).after 11 t (ix2 r l) = ((∑ s ∈ range 4096, pdj P G lb dl ck (t.val / 8) (l.val / 128) r.val s : ℝ) : EReal) := by
    rw [after0_11]
    rw [drV_apply]
    exact h.acc.dr _ _ _
  refine Eq.trans (show _ = (dats m 0 c).after 11 t (ix2 r l) from rfl) (e.trans ?_)
  refine Eq.trans ?_ (congrArg (fun i : S4096x1024.Idx => ((∑ s ∈ range 4096, pdj P G lb dl ck ((i 1).val / 256) ((i 1).val % 256 / 128) (i 0).val s : ℝ) : EReal)) (emb11 t r l)).symm
  dsimp only [ix2_0, ix2_1]
  rw [show (256 * (t.val / 8) + l.val) / 256 = t.val / 8 by omega, show (256 * (t.val / 8) + l.val) % 256 = l.val by omega]
end

end Cert.KernelIdeal.Fox

end
-- ==== Proof.KernelIdeal.Host.lean ====
module

public import proofs.«01_k».proof.Proof.KernelIdeal.Final
public import proofs.«01_k».proof.Proof.Rows

@[expose] public section

set_option maxRecDepth 16384

noncomputable section

namespace Cert.KernelIdeal.Fox

open Cert.KernelIdeal.Gen Cert.Fox
open Idealize.ShloMosaic Idealize.ShloMosaic.TcCoe
open Idealize.SL.Sem
open Finset (range)

/-! ## The lines before the kernel, on whole arrays -/

section Terms
variable (x0 : FVec Ideal S4096x2688 .f32) (x1 : FVec Ideal S4096x1024 .f32) (x2 : FVec Ideal S4096x8 .f32)

/-- The queries' heads, -/
def hQ : FVec Ideal S4096x8x64 .f32 := shapeCast S4096x8x64 (extractStridedSlice S4096x512 ![0, 1024] x0 slices_S4096x2688_S4096x512_0_1024) shapeCasts_S4096x512_S4096x8x64
/-- the keys', -/
def hK : FVec Ideal S4096x8x64 .f32 := shapeCast S4096x8x64 (extractStridedSlice S4096x512 ![0, 1536] x0 slices_S4096x2688_S4096x512_0_1536) shapeCasts_S4096x512_S4096x8x64
/-- the values', -/
def hVv : FVec Ideal S4096x8x64 .f32 := shapeCast S4096x8x64 (extractStridedSlice S4096x512 ![0, 2048] x0 slices_S4096x2688_S4096x512_0_2048) shapeCasts_S4096x512_S4096x8x64
/-- the output's gradient's. -/
def hG : FVec Ideal S4096x8x64 .f32 := shapeCast S4096x8x64 (extractStridedSlice S4096x512 ![0, 512] x1 slices_S4096x1024_S4096x512_0_512) shapeCasts_S4096x512_S4096x8x64
/-- The causal mask. -/
def hMask : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))
/-- The logits before the mask, -/
def hZ : FVec Ideal S8x4096x4096 .f32 :=
  subf (addf (mulf (Host.dotGeneral dot_S4096x8x64_S4096x8x64_S8x4096x4096_2_2_0_0_1_1 none (hQ x0) (hK x0)) (broadcastInDim S8x4096x4096 ![] bcast_S_S8x4096x4096 (constant S_ .f32 0x3E000000#32)))
    (broadcastInDim S8x4096x4096 ![0, 1, 2] bcast_S8x4096x1_S8x4096x4096_0_1_2 (broadcastInDim S8x4096x1 ![0, 1] bcast_S8x4096_S8x4096x1_0_1 (transpose S8x4096 [1, 0] x2 transposes_S4096x8_S8x4096_1_0))))
    (broadcastInDim S8x4096x4096 ![0, 1, 2] bcast_S8x1x4096_S8x4096x4096_0_1_2 (broadcastInDim S8x1x4096 ![0, 2] bcast_S8x4096_S8x1x4096_0_2 (transpose S8x4096 [1, 0] x2 transposes_S4096x8_S8x4096_1_0)))
/-- and after it; -/
def hA : FVec Ideal S8x4096x4096 .f32 :=
  select (broadcastInDim S8x4096x4096 ![1, 2] bcast_S4096x4096_S8x4096x4096_1_2 hMask) (hZ x0 x2) (broadcastInDim S8x4096x4096 ![] bcast_S_S8x4096x4096 (constant S_ .f32 0xFF800000#32))
/-- each row's maximum; -/
def hM : FVec Ideal S8x4096 .f32 := Host.reduce FloatOps.maximumf (hA x0 x2) (constant S_ .f32 0xFF800000#32) reducesTo_S8x4096x4096_S8x4096_d2 h_S_
/-- the exponentials; -/
def hE : FVec Ideal S8x4096x4096 .f32 :=
  Host.exp (subf (hA x0 x2) (broadcastInDim S8x4096x4096 ![0, 1, 2] bcast_S8x4096x1_S8x4096x4096_0_1_2 (broadcastInDim S8x4096x1 ![0, 1] bcast_S8x4096_S8x4096x1_0_1 (hM x0 x2))))
/-- their sum along a row. -/
def hL : FVec Ideal S8x4096 .f32 := Host.reduceAdd (hE x0 x2) (constant S_ .f32 0x00000000#32) reducesTo_S8x4096x4096_S8x4096_d2 h_S_
/-- The output. -/
def hO : FVec Ideal S4096x8x64 .f32 :=
  transpose S4096x8x64 [2, 0, 1] (Host.dotGeneral dot_S4096x8x64_S8x4096x4096_S8x64x4096_0_2_2_1_1_0 none (hVv x0)
    (Host.divf (hE x0 x2) (broadcastInDim S8x4096x4096 ![0, 1, 2] bcast_S8x4096x1_S8x4096x4096_0_1_2 (broadcastInDim S8x4096x1 ![0, 1] bcast_S8x4096_S8x4096x1_0_1 (hL x0 x2))))) transposes_S8x64x4096_S4096x8x64_2_0_1
/-- A number a row and head in 128 lanes, -/
def hWide (y : FVec Ideal S4096x8 .f32) : FVec Ideal S4096x1024 .f32 :=
  shapeCast S4096x1024 (broadcastInDim S4096x8x128 ![0, 1, 2] bcast_S4096x8x1_S4096x8x128_0_1_2 (broadcastInDim S4096x8x1 ![0, 1] bcast_S4096x8_S4096x8x1_0_1 y)) shapeCasts_S4096x8x128_S4096x1024
/-- the inner products along the lanes of a head. -/
def hDot (y z : FVec Ideal S4096x8x64 .f32) : FVec Ideal S4096x8 .f32 := Host.reduceAdd (mulf y z) (constant S_ .f32 0x00000000#32) reducesTo_S4096x8x64_S4096x8_d2 h_S_
/-- The logarithm of a row's weight before it is shared out, -/
def hLse (M' L' : FVec Ideal S8x4096 .f32) : FVec Ideal S8x4096x1 .f32 :=
  addf (broadcastInDim S8x4096x1 ![0, 1] bcast_S8x4096_S8x4096x1_0_1 M') (Host.log (broadcastInDim S8x4096x1 ![0, 1] bcast_S8x4096_S8x4096x1_0_1 L'))
/-- taken from the gates. -/
def hSub (y : FVec Ideal S8x4096x1 .f32) : FVec Ideal S4096x8 .f32 :=
  subf x2 (transpose S4096x8 [1, 0] (shapeCast S8x4096 y shapeCasts_S8x4096x1_S8x4096) transposes_S8x4096_S4096x8_1_0)
/-- The gates less the rows' logarithms, in 128 lanes a head. -/
def hLb : FVec Ideal S4096x1024 .f32 := hWide (hSub x2 (hLse (hM x0 x2) (hL x0 x2)))
/-- The output against its gradient, likewise. -/
def hDl : FVec Ideal S4096x1024 .f32 := hWide (hDot (hG x1) (hO x0 x2))
/-- The gates, a row a head. -/
def hCk : FVec Ideal S8x1x4096 .f32 := shapeCast S8x1x4096 (transpose S8x4096 [1, 0] x2 transposes_S4096x8_S8x4096_1_0) shapeCasts_S8x4096_S8x1x4096
end Terms

variable (m : (ℓ : Loc nD τ sig) → Buf (Elt Ideal) ℓ) (c : Dev nD)

set_option maxHeartbeats 4000000 in
/-- The region finds the gates less the rows' logarithms. -/
theorem V_lb : V m c main_v44 = hLb (m ((c : Thread nD τ).loc main_arg0)) (m ((c : Thread nD τ).loc main_arg2)) := by
  show StableHlo.after _ _ _ = _
  simp only [hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
set_option maxHeartbeats 4000000 in
/-- The region finds the output against its gradient. -/
theorem V_dl : V m c main_v49 = hDl (m ((c : Thread nD τ).loc main_arg0)) (m ((c : Thread nD τ).loc main_arg1)) (m ((c : Thread nD τ).loc main_arg2)) := by
  show StableHlo.after _ _ _ = _
  simp only [hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
set_option maxHeartbeats 4000000 in
/-- The region finds the gates. -/
theorem V_ck : V m c main_v51 = hCk (m ((c : Thread nD τ).loc main_arg2)) := by
  show StableHlo.after _ _ _ = _
  simp only [hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl

section Values
variable {x0 : FVec Ideal S4096x2688 .f32} {x1 : FVec Ideal S4096x1024 .f32} {x2 : FVec Ideal S4096x8 .f32} {P G C : ℕ → ℕ → ℝ}
variable (h0 : ∀ (t : Fin 4096) (a : Fin 2688), 1024 ≤ a.val → a.val < 2560 → x0 (ix2 t a) = ((P t.val a.val : ℝ) : EReal))
variable (h1 : ∀ (t : Fin 4096) (a : Fin 1024), 512 ≤ a.val → x1 (ix2 t a) = ((G t.val a.val : ℝ) : EReal))
variable (h2 : ∀ (t : Fin 4096) (h : Fin 8), x2 (ix2 t h) = ((C t.val h.val : ℝ) : EReal))

theorem hMask_apply (t s : Fin 4096) : hMask (ix2 t s) = BitVec.ofBool (decide (s.val ≤ t.val)) := by
  pointwise [hMask]
  exact WordCmp.cmpi_sle_ofNat (w := 32) (by omega) (by omega)
theorem hWide_apply (y : FVec Ideal S4096x8 .f32) (t : Fin 4096) (a : Fin 1024) : hWide y (ix2 t a) = y (ix2 t ⟨a.val / 128, by omega⟩) := by
  pointwise [hWide]
theorem hDot_apply (y z : FVec Ideal S4096x8x64 .f32) (t : Fin 4096) (h : Fin 8) : hDot y z (ix2 t h) = ∑ d : Fin 64, y (ix3 t h d) * z (ix3 t h d) := by
  pointwise [hDot]
theorem hLse_apply (M' L' : FVec Ideal S8x4096 .f32) (h : Fin 8) (t : Fin 4096) : hLse M' L' (ix3 h t 0) = M' (ix2 h t) + Ideal.log (L' (ix2 h t)) := by
  pointwise [hLse]
theorem hSub_apply (y : FVec Ideal S8x4096x1 .f32) (t : Fin 4096) (h : Fin 8) : hSub x2 y (ix2 t h) = x2 (ix2 t h) - y (ix3 h t 0) := by
  pointwise [hSub]
include h1 in
theorem hG_apply (t : Fin 4096) (h : Fin 8) (d : Fin 64) : hG x1 (ix3 t h d) = ((G t.val (512 + 64 * h.val + d.val) : ℝ) : EReal) := by
  pointwise [hG]
  rw [h1 _ _ (by dsimp only; omega)]
  dsimp only
  rw [show 512 + (h.val * 64 + d.val) = 512 + 64 * h.val + d.val by ring]
include h0
theorem hQ_apply (t : Fin 4096) (h : Fin 8) (d : Fin 64) : hQ x0 (ix3 t h d) = ((P t.val (1024 + 64 * h.val + d.val) : ℝ) : EReal) := by
  pointwise [hQ]
  rw [h0 _ _ (by dsimp only; omega) (by dsimp only; omega)]
  dsimp only
  rw [show 1024 + (h.val * 64 + d.val) = 1024 + 64 * h.val + d.val by ring]
theorem hK_apply (t : Fin 4096) (h : Fin 8) (d : Fin 64) : hK x0 (ix3 t h d) = ((P t.val (1536 + 64 * h.val + d.val) : ℝ) : EReal) := by
  pointwise [hK]
  rw [h0 _ _ (by dsimp only; omega) (by dsimp only; omega)]
  dsimp only
  rw [show 1536 + (h.val * 64 + d.val) = 1536 + 64 * h.val + d.val by ring]
theorem hVv_apply (t : Fin 4096) (h : Fin 8) (d : Fin 64) : hVv x0 (ix3 t h d) = ((P t.val (2048 + 64 * h.val + d.val) : ℝ) : EReal) := by
  pointwise [hVv]
  rw [h0 _ _ (by dsimp only; omega) (by dsimp only; omega)]
  dsimp only
  rw [show 2048 + (h.val * 64 + d.val) = 2048 + 64 * h.val + d.val by ring]
include h2
theorem hZ_apply (h : Fin 8) (t s : Fin 4096) : hZ x0 x2 (ix3 h t s) = ((Z P C h.val t.val s.val : ℝ) : EReal) := by
  pointwise [hZ]
  rw [sum_eq_coe _ (fun d => P t.val (1024 + 64 * h.val + d) * P s.val (1536 + 64 * h.val + d)) (fun d => by rw [hQ_apply h0, hK_apply h0, ← EReal.coe_mul]), h2, h2, eighth, ← EReal.coe_mul, ← EReal.coe_add, ← EReal.coe_sub]
  rfl
theorem hA_apply (h : Fin 8) (t s : Fin 4096) : hA x0 x2 (ix3 h t s) = if s.val ≤ t.val then ((Z P C h.val t.val s.val : ℝ) : EReal) else ⊥ := by
  pointwise [hA]
  rw [hMask_apply, select_ite, neg_inf, hZ_apply h0 h2]
theorem hM_apply (h : Fin 8) (t : Fin 4096) : hM x0 x2 (ix2 h t) = ((mx P C h.val t.val : ℝ) : EReal) := by
  pointwise [hM]
  rw [neg_inf]
  exact fold_top _ _ _ t.isLt (fun s => hA_apply h0 h2 h t s)
theorem hE_apply (h : Fin 8) (t s : Fin 4096) : hE x0 x2 (ix3 h t s) = ((E P C (mx P C) h.val t.val s.val : ℝ) : EReal) := by
  pointwise [hE]
  rw [hM_apply h0 h2]
  exact exp_row _ _ _ _ _ (hA_apply h0 h2 h t s)
theorem hL_apply (h : Fin 8) (t : Fin 4096) : hL x0 x2 (ix2 h t) = ((L P C (mx P C) h.val t.val : ℝ) : EReal) := by
  pointwise [hL]
  exact sum_eq_coe _ _ (fun s => hE_apply h0 h2 h t s)
theorem hO_apply (t : Fin 4096) (h : Fin 8) (d : Fin 64) : hO x0 x2 (ix3 t h d) = ((O P C (mx P C) h.val t.val d.val : ℝ) : EReal) := by
  pointwise [hO]
  refine sum_eq_coe _ (fun s => Y P C (mx P C) h.val t.val s * P s (2048 + 64 * h.val + d.val)) (fun s => ?_)
  rw [hVv_apply h0, hE_apply h0 h2, hL_apply h0 h2, div_coe _ _ (L_pos P C (mx P C) h.val t.val t.isLt).ne', ← EReal.coe_mul, mul_comm]
  rfl
theorem hLb_apply (t : Fin 4096) (a : Fin 1024) : hLb x0 x2 (ix2 t a) = ((C t.val (a.val / 128) - (mx P C (a.val / 128) t.val + Real.log (L P C (mx P C) (a.val / 128) t.val)) : ℝ) : EReal) := by
  unfold hLb
  rw [hWide_apply, hSub_apply, hLse_apply, h2, hM_apply h0 h2, hL_apply h0 h2, log_coe _ (L_pos P C (mx P C) _ t.val t.isLt), ← EReal.coe_add, ← EReal.coe_sub]
include h1
theorem hDl_apply (t : Fin 4096) (a : Fin 1024) : hDl x0 x1 x2 (ix2 t a) = ((Dl P G C (mx P C) (a.val / 128) t.val : ℝ) : EReal) := by
  unfold hDl
  rw [hWide_apply, hDot_apply]
  exact sum_eq_coe _ (fun d => G t.val (512 + 64 * (a.val / 128) + d) * O P C (mx P C) (a.val / 128) t.val d) (fun d => by rw [hG_apply h1, hO_apply h0 h2, ← EReal.coe_mul])
omit h0 h1
theorem hCk_apply (h : Fin 8) (s : Fin 4096) : hCk x2 (ix3 h 0 s) = ((C s.val h.val : ℝ) : EReal) := by
  pointwise [hCk]
  exact h2 s h
end Values

end Cert.KernelIdeal.Fox

end
-- ==== Proof.Pre.lean ====
module

public import proofs.«01_k».proof.Pre_finite
public import proofs.«01_k».proof.Proof.Rows
public import Idealize.ShloMosaic.Lib.Pointwise
public import Idealize.ShloMosaic.Lib.WordCmp
public import Idealize.ShloMosaic.Lib.IdealHost

@[expose] public section

noncomputable section

namespace Cert.Pre_finite

open Idealize.ShloMosaic

/-- The bits of infinity. -/
theorem pos_inf : Ideal.ofBits .f32 0x7F800000#32 = ⊤ := by
  simp [Ideal.ofBits, Ideal.ieee]

/-- A number whose magnitude is below infinity is a real. -/
theorem real_of {x : EReal} (h : BitVec.ofBool (decide (max x (-x) < Ideal.ofBits .f32 0x7F800000#32)) = 1#1) : x = ((x.toReal : ℝ) : EReal) := by
  rw [pos_inf] at h
  have h' : max x (-x) < (⊤ : EReal) := by
    by_contra hn
    rw [decide_eq_false hn] at h
    exact absurd h (by decide)
  refine (EReal.coe_toReal ?_ ?_).symm
  · rintro rfl
    exact absurd h' (by simp)
  · rintro rfl
    exact absurd h' (by simp)
variable [Facts] {x0 : FVec Ideal S4096x2688 .f32} {x1 : FVec Ideal S4096x1024 .f32} {x2 : FVec Ideal S4096x8 .f32} (h : fn (F := Ideal) x0 x1 x2 = fun _ => 1#1)
include h
/-- One element of the precondition. -/
theorem read (t : Fin 4096) (l : Fin 2056) :
    BitVec.ofBool (decide (FloatOps.absf (F := Ideal) (φ := .f32) (if h : l.val < 1536 then x0 (ix2 t ⟨1024 + l.val, by omega⟩)
      else if h : l.val - 1536 < 512 then x1 (ix2 t ⟨512 + (l.val - 1536), by omega⟩) else x2 (ix2 t ⟨l.val - 1536 - 512, by omega⟩)) < Ideal.ofBits .f32 0x7F800000#32)) = 1#1 := by
  have e := congrFun h (ix2 t l)
  revert e
  pointwise [fn]
  exact id
/-- The used columns of the first array are reals, -/
theorem real0 (t : Fin 4096) (a : Fin 2688) (ha : 1024 ≤ a.val) (hb : a.val < 2560) : x0 (ix2 t a) = (((x0 (ix2 t a)).toReal : ℝ) : EReal) := by
  have e := read h t ⟨a.val - 1024, by omega⟩
  rw [dif_pos (show a.val - 1024 < 1536 by omega)] at e
  have ea : (⟨1024 + (a.val - 1024), by omega⟩ : Fin 2688) = a := Fin.ext (by show 1024 + (a.val - 1024) = a.val; omega)
  dsimp only at e
  rw [ea] at e
  exact real_of e
/-- of the second, -/
theorem real1 (t : Fin 4096) (a : Fin 1024) (ha : 512 ≤ a.val) : x1 (ix2 t a) = (((x1 (ix2 t a)).toReal : ℝ) : EReal) := by
  have e := read h t ⟨a.val + 1024, by omega⟩
  rw [dif_neg (show ¬ a.val + 1024 < 1536 by omega), dif_pos (show a.val + 1024 - 1536 < 512 by omega)] at e
  have ea : (⟨512 + (a.val + 1024 - 1536), by omega⟩ : Fin 1024) = a := Fin.ext (by show 512 + (a.val + 1024 - 1536) = a.val; omega)
  dsimp only at e
  rw [ea] at e
  exact real_of e
/-- and the gates. -/
theorem real2 (t : Fin 4096) (a : Fin 8) : x2 (ix2 t a) = (((x2 (ix2 t a)).toReal : ℝ) : EReal) := by
  have e := read h t ⟨a.val + 2048, by omega⟩
  rw [dif_neg (show ¬ a.val + 2048 < 1536 by omega), dif_neg (show ¬ a.val + 2048 - 1536 < 512 by omega)] at e
  have ea : (⟨a.val + 2048 - 1536 - 512, by omega⟩ : Fin 8) = a := Fin.ext (by show a.val + 2048 - 1536 - 512 = a.val; omega)
  dsimp only at e
  rw [ea] at e
  exact real_of e

end Cert.Pre_finite

end
-- ==== Proof.Attention.lean ====
/- The attention: the blocked outputs and row logarithms are those of the whole softmax. -/
module

public import proofs.«01_k».proof.Defs
public import proofs.«01_k».proof.Proof.Attention.Heads
public import proofs.«01_k».proof.Proof.KernelIdeal.Host
public import proofs.«01_k».proof.Proof.Pre
public import proofs.«01_k».proof.Proof.Gen.AttentionReferenceIdeal
public import proofs.«01_k».proof.Proof.Gen.AttentionReferenceIdeal.Run
public import proofs.«01_k».proof.Proof.Gen.AttentionReferenceIdeal.Read
public import proofs.«01_k».proof.Proof.Gen.Pre_finite_attention
public import Idealize.ShloMosaic.Lib.Pipeline.ValueKit
public import Idealize.ShloMosaic.Lib.IdealHost

@[expose] public section

set_option maxRecDepth 16384

noncomputable section

namespace Cert.Pre_finite_attention

open Idealize.ShloMosaic

variable [Facts] {x0 : FVec Ideal S4096x2688 .f32} {x1 : FVec Ideal S4096x8 .f32} (h : fn (F := Ideal) x0 x1 = fun _ => 1#1)
include h
/-- One element of the precondition. -/
theorem read (t : Fin 4096) (l : Fin 1544) :
    BitVec.ofBool (decide (FloatOps.absf (F := Ideal) (φ := .f32) (if h : l.val < 1536 then x0 (ix2 t ⟨1024 + l.val, by omega⟩) else x1 (ix2 t ⟨l.val - 1536, by omega⟩)) < Ideal.ofBits .f32 0x7F800000#32)) = 1#1 := by
  have e := congrFun h (ix2 t l)
  revert e
  pointwise [fn]
  exact id
/-- The used columns of the first array are reals, -/
theorem real0 (t : Fin 4096) (a : Fin 2688) (ha : 1024 ≤ a.val) (hb : a.val < 2560) : x0 (ix2 t a) = ((Cert.Fox.reals x0 t.val a.val : ℝ) : EReal) := by
  have e := read h t ⟨a.val - 1024, by omega⟩
  rw [dif_pos (show a.val - 1024 < 1536 by omega)] at e
  have ea : (⟨1024 + (a.val - 1024), by omega⟩ : Fin 2688) = a := Fin.ext (by show 1024 + (a.val - 1024) = a.val; omega)
  dsimp only at e
  rw [ea] at e
  rw [Cert.Fox.reals_at]
  exact Cert.Pre_finite.real_of e
/-- and the gates. -/
theorem real1 (t : Fin 4096) (a : Fin 8) : x1 (ix2 t a) = ((Cert.Fox.reals x1 t.val a.val : ℝ) : EReal) := by
  have e := read h t ⟨a.val + 1536, by omega⟩
  rw [dif_neg (show ¬ a.val + 1536 < 1536 by omega)] at e
  have ea : (⟨a.val + 1536 - 1536, by omega⟩ : Fin 8) = a := Fin.ext (by show a.val + 1536 - 1536 = a.val; omega)
  dsimp only at e
  rw [ea] at e
  rw [Cert.Fox.reals_at]
  exact Cert.Pre_finite.real_of e

end Cert.Pre_finite_attention

namespace Cert.AttentionIdeal.Fox

open Cert.AttentionIdeal Cert.AttentionIdeal.Gen Cert.Fox
open Idealize.ShloMosaic Idealize.ShloMosaic.TcCoe
open Idealize.SL.Sem
open Finset (range)

/-! ## Where a point's blocks lie -/

theorem N_lt (t : Fin cfg0.N) : t.val < 32 := lt_of_lt_of_eq t.isLt (show cfg0.N = 32 from N_0)
theorem coords1 : ∀ t : Fin cfg0.N, ((grid0.coords t) 1).val = t.val % 8 := (by decide +kernel : ∀ t : Fin grid0.N, _)
theorem place0 : ∀ t : Fin cfg0.N, win0_0.index t = ![t.val % 8, 8 + t.val / 8] := (by decide +kernel : ∀ t : Fin grid0.N, _)
theorem place1 : ∀ t : Fin cfg0.N, win0_1.index t = ![0, 12 + t.val / 8] := (by decide +kernel : ∀ t : Fin grid0.N, _)
theorem place2 : ∀ t : Fin cfg0.N, win0_2.index t = ![0, 16 + t.val / 8] := (by decide +kernel : ∀ t : Fin grid0.N, _)
theorem place3 : ∀ t : Fin cfg0.N, win0_3.index t = ![t.val % 8, t.val / 8] := (by decide +kernel : ∀ t : Fin grid0.N, _)
theorem place4 : ∀ t : Fin cfg0.N, win0_4.index t = ![t.val / 8, 0, 0] := (by decide +kernel : ∀ t : Fin grid0.N, _)
theorem place5 : ∀ t : Fin cfg0.N, win0_5.index t = ![t.val % 8, t.val / 8] := (by decide +kernel : ∀ t : Fin grid0.N, _)
theorem place6 : ∀ t : Fin cfg0.N, win0_6.index t = ![t.val % 8, t.val / 8] := (by decide +kernel : ∀ t : Fin grid0.N, _)
theorem emb0 (t : Fin cfg0.N) (r : Fin 512) (l : Fin 128) : (win0_0.blk t).view.emb (ix2 r l) = ix2 (⟨512 * (t.val % 8) + r.val, by omega⟩ : Fin 4096) (⟨1024 + 128 * (t.val / 8) + l.val, by have := N_lt t; omega⟩ : Fin 2688) := by
  have ht := N_lt t
  blk_ext [place0]
theorem emb1 (t : Fin cfg0.N) (s : Fin 4096) (l : Fin 128) : (win0_1.blk t).view.emb (ix2 s l) = ix2 s (⟨1536 + 128 * (t.val / 8) + l.val, by have := N_lt t; omega⟩ : Fin 2688) := by
  have ht := N_lt t
  blk_ext [place1]
theorem emb2 (t : Fin cfg0.N) (s : Fin 4096) (l : Fin 128) : (win0_2.blk t).view.emb (ix2 s l) = ix2 s (⟨2048 + 128 * (t.val / 8) + l.val, by have := N_lt t; omega⟩ : Fin 2688) := by
  have ht := N_lt t
  blk_ext [place2]
theorem emb3 (t : Fin cfg0.N) (r : Fin 512) (l : Fin 256) : (win0_3.blk t).view.emb (ix2 r l) = ix2 (⟨512 * (t.val % 8) + r.val, by omega⟩ : Fin 4096) (⟨256 * (t.val / 8) + l.val, by have := N_lt t; omega⟩ : Fin 1024) := by
  have ht := N_lt t
  blk_ext [place3]
theorem emb4 (t : Fin cfg0.N) (p : Fin 2) (s : Fin 4096) : (win0_4.blk t).view.emb (ix3 p (0 : Fin 1) s) = ix3 (⟨2 * (t.val / 8) + p.val, by have := N_lt t; omega⟩ : Fin 8) (0 : Fin 1) s := by
  have ht := N_lt t
  blk_ext [place4]
theorem emb5 (t : Fin cfg0.N) (r : Fin 512) (l : Fin 128) : (win0_5.blk t).view.emb (ix2 r l) = ix2 (⟨512 * (t.val % 8) + r.val, by omega⟩ : Fin 4096) (⟨128 * (t.val / 8) + l.val, by have := N_lt t; omega⟩ : Fin 512) := by
  have ht := N_lt t
  blk_ext [place5]
theorem emb6 (t : Fin cfg0.N) (r : Fin 512) (l : Fin 256) : (win0_6.blk t).view.emb (ix2 r l) = ix2 (⟨512 * (t.val % 8) + r.val, by omega⟩ : Fin 4096) (⟨256 * (t.val / 8) + l.val, by have := N_lt t; omega⟩ : Fin 1024) := by
  have ht := N_lt t
  blk_ext [place6]

variable (m : (ℓ : Loc nD τ sig) → Buf (Elt Ideal) ℓ) (c : Dev nD)

/-- The region finds the gates in 128 lanes a head -/
theorem V_cq : V m c main_v2 = Cert.KernelIdeal.Fox.hWide (m ((c : Thread nD τ).loc main_arg1)) := by
  show StableHlo.after _ _ _ = _
  simp only [hostOps0, List.flatten_cons, List.flatten_nil, List.append_nil, List.cons_append, List.nil_append]
  after_results_simp
  rfl
/-- and a row a head. -/
theorem V_ck : V m c main_v4 = Cert.KernelIdeal.Fox.hCk (m ((c : Thread nD τ).loc main_arg1)) := by
  show StableHlo.after _ _ _ = _
  simp only [hostOps0, List.flatten_cons, List.flatten_nil, List.append_nil, List.cons_append, List.nil_append]
  after_results_simp
  rfl

/-! ## The results over the reals -/

/-- The attention's outputs, a head every 64 columns, -/
def outs (x0 : FVec Ideal S4096x2688 .f32) (x1 : FVec Ideal S4096x8 .f32) : FVec Ideal S4096x512 .bf16 :=
  fun i => ((O (reals x0) (reals x1) (mx (reals x0) (reals x1)) ((i 1).val / 64) (i 0).val ((i 1).val % 64) : ℝ) : EReal)
/-- and the gates less the rows' logarithms, a head every 128. -/
def logs (x0 : FVec Ideal S4096x2688 .f32) (x1 : FVec Ideal S4096x8 .f32) : FVec Ideal S4096x1024 .f32 :=
  fun i => ((reals x1 (i 0).val ((i 1).val / 128) - (mx (reals x0) (reals x1) ((i 1).val / 128) (i 0).val + Real.log (L (reals x0) (reals x1) (mx (reals x0) (reals x1)) ((i 1).val / 128) (i 0).val)) : ℝ) : EReal)

section Kernel
variable (hp : Cert.Pre_finite_attention.fn (F := Ideal) (m ((c : Thread nD τ).loc main_arg0)) (m ((c : Thread nD τ).loc main_arg1)) = fun _ => 1#1)
include hp
/-- What a point's blocks hold. -/
theorem holds (t : Fin cfg0.N) : Holds (iblk m c 0 t) (iblk m c 1 t) (iblk m c 2 t) (iblk m c 3 t) (iblk m c 4 t)
    (fun s l => reals (n := 4096) (k := 2688) (m ((c : Thread nD τ).loc main_arg0)) s (1024 + 128 * (t.val / 8) + l))
    (fun s l => reals (n := 4096) (k := 2688) (m ((c : Thread nD τ).loc main_arg0)) s (1536 + 128 * (t.val / 8) + l))
    (fun s l => reals (n := 4096) (k := 2688) (m ((c : Thread nD τ).loc main_arg0)) s (2048 + 128 * (t.val / 8) + l))
    (fun p s => reals (n := 4096) (k := 8) (m ((c : Thread nD τ).loc main_arg1)) s (2 * (t.val / 8) + p))
    (fun p s => reals (n := 4096) (k := 8) (m ((c : Thread nD τ).loc main_arg1)) s (2 * (t.val / 8) + p)) ((grid0.coords t) 1) := by
  have ht := N_lt t
  refine ⟨fun r l => ?_, fun s l => ?_, fun s l => ?_, fun p r l => ?_, fun p s => ?_⟩
  · rw [coords1]
    exact (congrArg (V m c main_arg0) (emb0 t r l)).trans ((congrFun (V_main_arg0 m c) _).trans (Cert.Pre_finite_attention.real0 hp _ _ (by dsimp only; omega) (by dsimp only; omega)))
  · exact (congrArg (V m c main_arg0) (emb1 t s l)).trans ((congrFun (V_main_arg0 m c) _).trans (Cert.Pre_finite_attention.real0 hp _ _ (by dsimp only; omega) (by dsimp only; omega)))
  · exact (congrArg (V m c main_arg0) (emb2 t s l)).trans ((congrFun (V_main_arg0 m c) _).trans (Cert.Pre_finite_attention.real0 hp _ _ (by dsimp only; omega) (by dsimp only; omega)))
  · rw [coords1]
    refine (congrArg (V m c main_v2) (emb3 t r ⟨128 * p.val + l.val, by omega⟩)).trans ((congrFun (V_cq m c) _).trans ((Cert.KernelIdeal.Fox.hWide_apply _ _ _).trans ((Cert.Pre_finite_attention.real1 hp _ _).trans ?_)))
    dsimp only
    rw [show (256 * (t.val / 8) + (128 * p.val + l.val)) / 128 = 2 * (t.val / 8) + p.val by omega]
  · exact (congrArg (V m c main_v4) (emb4 t p s)).trans ((congrFun (V_ck m c) _).trans (Cert.KernelIdeal.Fox.hCk_apply (Cert.Pre_finite_attention.real1 hp) _ _))

/-- The kernel's first result is the outputs. -/
theorem final : (dats m 0 c).arrAt 5 cfg0.N = outs (m ((c : Thread nD τ).loc main_arg0)) (m ((c : Thread nD τ).loc main_arg1)) := by
  refine (dats m 0 c).arrAt_eq_of_covers 5 _ (by decide +kernel) fun t hf y => ?_
  obtain ⟨r, l, rfl⟩ : ∃ (r : Fin 512) (l : Fin 128), y = ix2 r l := ⟨y 0, y 1, eq_ix2 y⟩
  have ht := N_lt t
  have e : (dats m 0 c).after 5 t = outO (bodyV (F := Ideal) (iblk m c 0 t) (iblk m c 1 t) (iblk m c 2 t) (iblk m c 3 t) (iblk m c 4 t) ((grid0.coords t) 1)) := by
    rw [after0_5]; exact out5_eq (F := Ideal) c (grid0.coords t) _ _ _ _ _ _ _ _ _ _ _ _ _ _ _ _ _ _ _
  refine Eq.trans (show _ = (dats m 0 c).after 5 t (ix2 r l) from rfl) ((congrFun e _).trans ((outO_apply (holds m c hp t) r l).trans ?_))
  refine Eq.trans ?_ (congrArg (outs (m ((c : Thread nD τ).loc main_arg0)) (m ((c : Thread nD τ).loc main_arg1))) (emb5 t r l)).symm
  have q := O_quot (reals (n := 4096) (k := 2688) (m ((c : Thread nD τ).loc main_arg0))) (reals (n := 4096) (k := 8) (m ((c : Thread nD τ).loc main_arg1))) (mx (reals (n := 4096) (k := 2688) (m ((c : Thread nD τ).loc main_arg0))) (reals (n := 4096) (k := 8) (m ((c : Thread nD τ).loc main_arg1)))) (t.val / 8) (l.val / 64) (512 * (t.val % 8) + r.val) (l.val % 64) (by omega)
  rw [coords1]
  dsimp only [outs]
  show _ = ((O _ _ _ ((128 * (t.val / 8) + l.val) / 64) (512 * (t.val % 8) + r.val) ((128 * (t.val / 8) + l.val) % 64) : ℝ) : EReal)
  rw [show (128 * (t.val / 8) + l.val) / 64 = 2 * (t.val / 8) + l.val / 64 by omega, show (128 * (t.val / 8) + l.val) % 64 = l.val % 64 by omega, ← q, show 64 * (l.val / 64) + l.val % 64 = l.val by omega]

/-- The second is the gates less the logarithms. -/
theorem final_logs : (dats m 0 c).arrAt 6 cfg0.N = logs (m ((c : Thread nD τ).loc main_arg0)) (m ((c : Thread nD τ).loc main_arg1)) := by
  refine (dats m 0 c).arrAt_eq_of_covers 6 _ (by decide +kernel) fun t hf y => ?_
  obtain ⟨r, l, rfl⟩ : ∃ (r : Fin 512) (l : Fin 256), y = ix2 r l := ⟨y 0, y 1, eq_ix2 y⟩
  have ht := N_lt t
  have e : (dats m 0 c).after 6 t = putB (F := Ideal) (iblk m c 3 t) (bodyV (F := Ideal) (iblk m c 0 t) (iblk m c 1 t) (iblk m c 2 t) (iblk m c 3 t) (iblk m c 4 t) ((grid0.coords t) 1)) := by
    rw [after0_6]; exact out6_eq (F := Ideal) c (grid0.coords t) _ _ _ _ _ _ _ _ _ _ _ _ _ _ _ _ _ _ _
  refine Eq.trans (show _ = (dats m 0 c).after 6 t (ix2 r l) from rfl) ((congrFun e _).trans ((putB_apply (holds m c hp t) r l).trans ?_))
  refine Eq.trans ?_ (congrArg (logs (m ((c : Thread nD τ).loc main_arg0)) (m ((c : Thread nD τ).loc main_arg1))) (emb6 t r l)).symm
  have q := log_sum (reals (n := 4096) (k := 2688) (m ((c : Thread nD τ).loc main_arg0))) (reals (n := 4096) (k := 8) (m ((c : Thread nD τ).loc main_arg1))) (mx (reals (n := 4096) (k := 2688) (m ((c : Thread nD τ).loc main_arg0))) (reals (n := 4096) (k := 8) (m ((c : Thread nD τ).loc main_arg1)))) (t.val / 8) (l.val / 128) (512 * (t.val % 8) + r.val) (by omega) (by omega)
  rw [coords1]
  dsimp only [logs]
  show _ = ((reals _ (512 * (t.val % 8) + r.val) ((256 * (t.val / 8) + l.val) / 128) - (mx _ _ ((256 * (t.val / 8) + l.val) / 128) (512 * (t.val % 8) + r.val) + Real.log (L _ _ _ ((256 * (t.val / 8) + l.val) / 128) (512 * (t.val % 8) + r.val))) : ℝ) : EReal)
  rw [show (256 * (t.val / 8) + l.val) / 128 = 2 * (t.val / 8) + l.val / 128 by omega, ← q]
end Kernel

end Cert.AttentionIdeal.Fox

namespace Cert.AttentionReferenceIdeal.Fox

open Cert.AttentionReferenceIdeal Cert.AttentionReferenceIdeal.Read
open Idealize.ShloMosaic Idealize.ShloMosaic.TcCoe
open Idealize.SL.Sem

section Values
variable (x0 : FVec Ideal S4096x2688 .f32) (x1 : FVec Ideal S4096x8 .f32) (hp : Cert.Pre_finite_attention.fn (F := Ideal) x0 x1 = fun _ => 1#1)
include hp
/-- The reference's first result is the outputs, -/
theorem final : val_main_v39 (F := Ideal) x0 x1 = Cert.AttentionIdeal.Fox.outs x0 x1 := by
  funext i
  obtain ⟨t, a, rfl⟩ : ∃ (t : Fin 4096) (a : Fin 512), i = ix2 t a := ⟨i 0, i 1, eq_ix2 i⟩
  have e : val_main_v39 (F := Ideal) x0 x1 (ix2 t a) = val_main_v37 (F := Ideal) x0 x1 (ix3 t (⟨a.val / 64, by omega⟩ : Fin 8) (⟨a.val % 64, by omega⟩ : Fin 64)) := by
    pointwise [val_main_v39, val_main_v38]
  rw [e]
  exact Cert.KernelIdeal.Fox.hO_apply (Cert.Pre_finite_attention.real0 hp) (Cert.Pre_finite_attention.real1 hp) t ⟨a.val / 64, by omega⟩ ⟨a.val % 64, by omega⟩
/-- the second the gates less the logarithms. -/
theorem final_logs : val_main_v44 (F := Ideal) x0 x1 = Cert.AttentionIdeal.Fox.logs x0 x1 := by
  funext i
  obtain ⟨t, a, rfl⟩ : ∃ (t : Fin 4096) (a : Fin 1024), i = ix2 t a := ⟨i 0, i 1, eq_ix2 i⟩
  exact Cert.KernelIdeal.Fox.hLb_apply (Cert.Pre_finite_attention.real0 hp) (Cert.Pre_finite_attention.real1 hp) t a
end Values

/-- The reference runs, leaves its arguments unchanged and its counters at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := Ideal)) _ _).mono
    (fun r h => ⟨fun c => (h c).2.2, sem_eq_zero_of_no_sems rfl r.2⟩) (Value.run (F := Ideal) m g)

end Cert.AttentionReferenceIdeal.Fox

namespace Cert.AttentionIdeal.Fox

open Idealize.ShloMosaic Idealize.ShloMosaic.TcCoe
open Idealize.SL.Sem

/-- The blocked outputs and logarithms are the reference's. -/
theorem algebraic : Cert.algebraic_AttentionIdeal_AttentionReferenceIdeal_pre_finite_attention := by
  intro m g m' g' hp hm
  refine ⟨fun c => outs (m ((c.tc : Thread nD τ).loc main_arg0)) (m ((c.tc : Thread nD τ).loc main_arg1)), fun c => logs (m ((c.tc : Thread nD τ).loc main_arg0)) (m ((c.tc : Thread nD τ).loc main_arg1)),
    (θ_run (defs (F := Ideal)) _ _).mono (fun r h c => ⟨(h.1.out_eq c 5).trans (final m c (hp c)), (h.1.out_eq c 6).trans (final_logs m c (hp c)), h.2.1 c⟩) (θ_run_and (Gen.run_main m g) (Gen.frame m g)),
    (θ_run (Cert.AttentionReferenceIdeal.defs (F := Ideal)) _ _).mono (fun r h c => ?_) (Cert.AttentionReferenceIdeal.Value.run (F := Ideal) m' g')⟩
  obtain ⟨e0, e1, ea⟩ := h c
  obtain ⟨m0, m1⟩ := hm c
  rw [Cert.AttentionReferenceIdeal.Read.val_main_v39_eq, m0, m1, Cert.AttentionReferenceIdeal.Fox.final _ _ (hp c)] at e0
  rw [Cert.AttentionReferenceIdeal.Read.val_main_v44_eq, m0, m1, Cert.AttentionReferenceIdeal.Fox.final_logs _ _ (hp c)] at e1
  exact ⟨e0, e1, ea⟩

end Cert.AttentionIdeal.Fox

end
-- ==== Proof.NormZero.lean ====
/- The first mixer's normalised rows: the blocked normalisation is the row-wise one. -/
module

public import proofs.«01_k».proof.Defs
public import proofs.«01_k».proof.Proof.Gen.NormZeroIdeal
public import proofs.«01_k».proof.Proof.Gen.NormZeroReferenceIdeal
public import proofs.«01_k».proof.Proof.Gen.NormZeroIdeal.Frame
public import proofs.«01_k».proof.Proof.Gen.NormZeroReferenceIdeal.Run
public import proofs.«01_k».proof.Proof.Gen.NormZeroReferenceIdeal.Read
public import proofs.«01_k».proof.Proof.Norm
public import Idealize.ShloMosaic.Lib.Pipeline.ValueKit
public import Idealize.ShloMosaic.Lib.Pointwise
public import Idealize.ShloMosaic.Lib.IdealHost

@[expose] public section

set_option maxRecDepth 16384

noncomputable section

namespace Cert.NormZeroIdeal.Product

open Cert.NormZeroIdeal Cert.NormZeroIdeal.Gen
open Idealize.ShloMosaic Idealize.ShloMosaic.TcCoe
open Idealize.SL.Sem

theorem N_lt (t : Fin cfg0.N) : t.val < 8 := lt_of_lt_of_eq t.isLt (show cfg0.N = 8 from N_0)
theorem rows : ∀ t : Fin cfg0.N, win0_0.index t = ![t.val, 0] := (by decide +kernel : ∀ t : Fin grid0.N, _)
theorem scale : ∀ t : Fin cfg0.N, win0_1.index t = ![0, 0] := (by decide +kernel : ∀ t : Fin grid0.N, _)
theorem emb_rows (t : Fin cfg0.N) (r : Fin 512) (l : Fin 1024) : (win0_0.blk t).view.emb (ix2 r l) = ix2 (⟨512 * t.val + r.val, by have := N_lt t; omega⟩ : Fin 4096) l := by
  have ht := N_lt t
  blk_ext [rows]
theorem emb_scale (t : Fin cfg0.N) (z : Fin 1) (l : Fin 1024) : (win0_1.blk t).view.emb (ix2 z l) = ix2 z l := by
  have ht := N_lt t
  blk_ext [scale]

variable (m : (ℓ : Loc nD τ sig) → Buf (Elt Ideal) ℓ) (c : Dev nD)

/-- The normalised rows, element by element. -/
def normed (x0 : FVec Ideal S4096x1024 .f32) (x1 : FVec Ideal S1x1024 .f32) : FVec Ideal S4096x1024 .bf16 :=
  fun i => Cert.Norm.scaled (fun j => x0 (ix2 (i 0) j)) (x1 (ix2 0 (i 1))) (i 1)

/-- One block's normalised rows. -/
theorem pay1_apply (h : Vec Ideal S512x1024 .f32) (g : Vec Ideal S1x1024 .f32) (r : Fin 512) (l : Fin 1024) :
    k0_pay1 h g (ix2 r l) = Cert.Norm.scaled (fun j => h (ix2 r j)) (g (ix2 0 l)) l := by
  pointwise [k0_pay1]
  rfl

/-- The result is the normalised rows. -/
theorem final : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  obtain ⟨r, l, rfl⟩ : ∃ (r : Fin 512) (l : Fin 1024), y = ix2 r l := ⟨y 0, y 1, eq_ix2 y⟩
  have e : (dats m 0 c).after 2 t (ix2 r l) = k0_pay1 (F := Ideal) (iblk m c 0 t) (iblk m c 1 t) (ix2 r l) := by
    rw [after0_2]; frame_out
  refine Eq.trans (show _ = (dats m 0 c).after 2 t (ix2 r l) from rfl) (e.trans ((pay1_apply _ _ r l).trans ?_))
  refine Eq.trans ?_ (congrArg (normed (m ((c : Thread nD τ).loc main_arg0)) (m ((c : Thread nD τ).loc main_arg1))) (emb_rows t r l)).symm
  have e0 (j : Fin 1024) : iblk m c 0 t (ix2 r j) = m ((c : Thread nD τ).loc main_arg0) _ := congrArg (V m c main_arg0) (emb_rows t r j)
  have e1 : iblk m c 1 t (ix2 (0 : Fin 1) l) = m ((c : Thread nD τ).loc main_arg1) _ := congrArg (V m c main_arg1) (emb_scale t 0 l)
  rw [e1]
  simp only [e0]
  rfl

end Cert.NormZeroIdeal.Product

namespace Cert.NormZeroReferenceIdeal.Product

open Cert.NormZeroReferenceIdeal Cert.NormZeroReferenceIdeal.Read
open Idealize.ShloMosaic Idealize.ShloMosaic.TcCoe
open Idealize.SL.Sem

/-- The reference's result is the normalised rows. -/
theorem final (x0 : FVec Ideal S4096x1024 .f32) (x1 : FVec Ideal S1x1024 .f32) : val_main_v12 (F := Ideal) x0 x1 = Cert.NormZeroIdeal.Product.normed x0 x1 := by
  funext i
  obtain ⟨r, l, rfl⟩ : ∃ (r : Fin 4096) (l : Fin 1024), i = ix2 r l := ⟨i 0, i 1, eq_ix2 i⟩
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.NormZeroReferenceIdeal.Product

namespace Cert.NormZeroIdeal.Product

open Idealize.ShloMosaic Idealize.ShloMosaic.TcCoe
open Idealize.SL.Sem

/-- The blocked normalisation is the reference's. -/
theorem algebraic : Cert.algebraic_NormZeroIdeal_NormZeroReferenceIdeal := by
  intro m g m' g' _ hm
  refine ⟨fun c => normed (m ((c.tc : Thread nD τ).loc main_arg0)) (m ((c.tc : Thread nD τ).loc main_arg1)),
    (θ_run (defs (F := Ideal)) _ _).mono (fun r h c => ⟨(h.1.out_eq c 2).trans (final m c), h.2.1 c⟩) (θ_run_and (Gen.run_main m g) (Gen.frame m g)),
    (θ_run (Cert.NormZeroReferenceIdeal.defs (F := Ideal)) _ _).mono (fun r h c => ?_) (Cert.NormZeroReferenceIdeal.Value.run (F := Ideal) m' g')⟩
  obtain ⟨e0, ea⟩ := h c
  obtain ⟨m0, m1⟩ := hm c
  rw [Cert.NormZeroReferenceIdeal.Read.val_main_v12_eq] at e0
  simp only [m0, m1] at e0
  rw [Cert.NormZeroReferenceIdeal.Product.final] at e0
  exact ⟨e0, ea⟩

end Cert.NormZeroIdeal.Product

end
-- ==== Proof.Act.lean ====
/- The feed-forward blocks' activation: the blocked causal convolution and gated unit are those of the whole rows. -/
module

public import proofs.«01_k».proof.Defs
public import proofs.«01_k».proof.Proof.Gen.ActIdeal
public import proofs.«01_k».proof.Proof.Gen.ActReferenceIdeal
public import proofs.«01_k».proof.Proof.Gen.ActIdeal.Frame
public import proofs.«01_k».proof.Proof.Gen.ActReferenceIdeal.Run
public import proofs.«01_k».proof.Proof.Gen.ActReferenceIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.ActIdeal.Product

open Cert.ActIdeal Cert.ActIdeal.Gen
open Idealize.ShloMosaic Idealize.ShloMosaic.TcCoe
open Idealize.SL.Sem

/-- A column of the up projection, by row number. -/
def col (x : FVec Ideal S4096x5632 .bf16) (l : Fin 5632) (k : Nat) : EReal := if h : k < 4096 then x (ix2 ⟨k, h⟩ l) else 0

theorem col_eq (x : FVec Ideal S4096x5632 .bf16) (l : Fin 5632) (k : Fin 4096) : x (ix2 k l) = col x l k.val := by
  unfold col
  rw [dif_pos k.isLt]

/-- The column `n` rows earlier, zero before the first row. -/
def back (n : Nat) (X : Nat → EReal) (k : Nat) : EReal := if n ≤ k then X (k - n) else 0

/-- The causal convolution over three rows, from a column, its three weights and its bias. -/
def conv (X : Nat → EReal) (b w0 w1 w2 : EReal) (k : Nat) : EReal := w0 * back 2 X k + w1 * back 1 X k + w2 * X k + b

/-- The convolution of the whole array at a row and a column. -/
def convAt (x : FVec Ideal S4096x5632 .bf16) (w : FVec Ideal S3x5632 .f32) (b : FVec Ideal S1x5632 .f32) (k : Nat) (l : Fin 5632) : EReal :=
  conv (col x l) (b (ix2 0 l)) (w (ix2 0 l)) (w (ix2 1 l)) (w (ix2 2 l)) k

/-- The gated unit. -/
def gated (g v : EReal) : EReal := g * Ideal.logistic g * v

theorem half : Ideal.ofBits .f32 0x3F000000#32 = ((1 / 2 : ℝ) : EReal) := by
  simp [Ideal.ofBits, Ideal.ieee, -EReal.coe_mul]; norm_num
theorem one : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h, EReal.coe_one]

/-- The sigmoid through the hyperbolic tangent. -/
theorem sigmoid (x : EReal) : Ideal.ofBits .f32 0x3F000000#32 * Ideal.tanh (Ideal.ofBits .f32 0x3F000000#32 * x) + Ideal.ofBits .f32 0x3F000000#32 = Ideal.logistic x := by
  rw [half]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add, ← EReal.coe_zero]; norm_num
  | top =>
    rw [EReal.coe_mul_top_of_pos (by norm_num), Ideal.tanh_top, Ideal.logistic_top]
    rw [← EReal.coe_one, ← EReal.coe_mul, ← EReal.coe_add]; norm_num
  | coe x =>
    rw [← EReal.coe_mul, Ideal.tanh_coe, Ideal.logistic_coe, ← EReal.coe_mul, ← EReal.coe_add, EReal.coe_eq_coe_iff, Real.tanh_eq_sinh_div_cosh, Real.sinh_eq, Real.cosh_eq,
      show -x = -(1 / 2 * x) + -(1 / 2 * x) by ring, Real.exp_add, Real.exp_neg]
    have h := Real.exp_pos (1 / 2 * x)
    field_simp
    ring

/-- The activation, element by element. -/
def act (x : FVec Ideal S4096x5632 .bf16) (w : FVec Ideal S3x5632 .f32) (b : FVec Ideal S1x5632 .f32) : FVec Ideal S4096x2816 .bf16 :=
  fun i => gated (convAt x w b (i 0).val ⟨(i 1).val, by have : (i 1).val < 2816 := (i 1).isLt; omega⟩) (convAt x w b (i 0).val ⟨2816 + (i 1).val, by have : (i 1).val < 2816 := (i 1).isLt; omega⟩)

/-- Where the blocks lie: a point's columns are its number over eight, its rows the remainder. -/
theorem coord : ∀ t : Fin cfg0.N, (grid0.coords t 1).val = t.val % 8 := (by decide +kernel : ∀ t : Fin grid0.N, (grid0.coords t 1).val = t.val % 8)
theorem N_lt (t : Fin cfg0.N) : t.val < 88 := lt_of_lt_of_eq t.isLt (show cfg0.N = 88 from N_0)
theorem win0 : ∀ t : Fin cfg0.N, win0_0.index t = ![t.val % 8, t.val / 8] := (by decide +kernel : ∀ t : Fin grid0.N, _)
theorem win1 : ∀ t : Fin cfg0.N, win0_1.index t = ![32 * (t.val % 8) - 1, t.val / 8] := (by decide +kernel : ∀ t : Fin grid0.N, _)
theorem win2 : ∀ t : Fin cfg0.N, win0_2.index t = ![0, t.val / 8] := (by decide +kernel : ∀ t : Fin grid0.N, _)
theorem win3 : ∀ t : Fin cfg0.N, win0_3.index t = ![0, t.val / 8] := (by decide +kernel : ∀ t : Fin grid0.N, _)
theorem win4 : ∀ t : Fin cfg0.N, win0_4.index t = ![t.val % 8, 11 + t.val / 8] := (by decide +kernel : ∀ t : Fin grid0.N, _)
theorem win5 : ∀ t : Fin cfg0.N, win0_5.index t = ![32 * (t.val % 8) - 1, 11 + t.val / 8] := (by decide +kernel : ∀ t : Fin grid0.N, _)
theorem win6 : ∀ t : Fin cfg0.N, win0_6.index t = ![0, 11 + t.val / 8] := (by decide +kernel : ∀ t : Fin grid0.N, _)
theorem win7 : ∀ t : Fin cfg0.N, win0_7.index t = ![0, 11 + t.val / 8] := (by decide +kernel : ∀ t : Fin grid0.N, _)
theorem win8 : ∀ t : Fin cfg0.N, win0_8.index t = ![t.val % 8, t.val / 8] := (by decide +kernel : ∀ t : Fin grid0.N, _)
theorem emb0 (t : Fin cfg0.N) (r : Fin 512) (l : Fin 256) : (win0_0.blk t).view.emb (ix2 r l) = ix2 (⟨512 * (t.val % 8) + r.val, by omega⟩ : Fin 4096) (⟨256 * (t.val / 8) + l.val, by have := N_lt t; omega⟩ : Fin 5632) := by
  have ht := N_lt t
  blk_ext [win0]
theorem emb1 (t : Fin cfg0.N) (r : Fin 16) (l : Fin 256) : (win0_1.blk t).view.emb (ix2 r l) = ix2 (⟨16 * (32 * (t.val % 8) - 1) + r.val, by omega⟩ : Fin 4096) (⟨256 * (t.val / 8) + l.val, by have := N_lt t; omega⟩ : Fin 5632) := by
  have ht := N_lt t
  blk_ext [win1]
theorem emb2 (t : Fin cfg0.N) (k : Fin 3) (l : Fin 256) : (win0_2.blk t).view.emb (ix2 k l) = ix2 k (⟨256 * (t.val / 8) + l.val, by have := N_lt t; omega⟩ : Fin 5632) := by
  have ht := N_lt t
  blk_ext [win2]
theorem emb3 (t : Fin cfg0.N) (z : Fin 1) (l : Fin 256) : (win0_3.blk t).view.emb (ix2 z l) = ix2 z (⟨256 * (t.val / 8) + l.val, by have := N_lt t; omega⟩ : Fin 5632) := by
  have ht := N_lt t
  blk_ext [win3]
theorem emb4 (t : Fin cfg0.N) (r : Fin 512) (l : Fin 256) : (win0_4.blk t).view.emb (ix2 r l) = ix2 (⟨512 * (t.val % 8) + r.val, by omega⟩ : Fin 4096) (⟨2816 + (256 * (t.val / 8) + l.val), by have := N_lt t; omega⟩ : Fin 5632) := by
  have ht := N_lt t
  blk_ext [win4]
theorem emb5 (t : Fin cfg0.N) (r : Fin 16) (l : Fin 256) : (win0_5.blk t).view.emb (ix2 r l) = ix2 (⟨16 * (32 * (t.val % 8) - 1) + r.val, by omega⟩ : Fin 4096) (⟨2816 + (256 * (t.val / 8) + l.val), by have := N_lt t; omega⟩ : Fin 5632) := by
  have ht := N_lt t
  blk_ext [win5]
theorem emb6 (t : Fin cfg0.N) (k : Fin 3) (l : Fin 256) : (win0_6.blk t).view.emb (ix2 k l) = ix2 k (⟨2816 + (256 * (t.val / 8) + l.val), by have := N_lt t; omega⟩ : Fin 5632) := by
  have ht := N_lt t
  blk_ext [win6]
theorem emb7 (t : Fin cfg0.N) (z : Fin 1) (l : Fin 256) : (win0_7.blk t).view.emb (ix2 z l) = ix2 z (⟨2816 + (256 * (t.val / 8) + l.val), by have := N_lt t; omega⟩ : Fin 5632) := by
  have ht := N_lt t
  blk_ext [win7]
theorem emb8 (t : Fin cfg0.N) (r : Fin 512) (l : Fin 256) : (win0_8.blk t).view.emb (ix2 r l) = ix2 (⟨512 * (t.val % 8) + r.val, by omega⟩ : Fin 4096) (⟨256 * (t.val / 8) + l.val, by have := N_lt t; omega⟩ : Fin 2816) := by
  have ht := N_lt t
  blk_ext [win8]

/-- Whether a block is not the first, as a number. -/
theorem first (q : Nat) (hq : q < 8) : ((((Scalar.extui (Scalar.cmpi .sgt (BitVec.ofNat 32 q) 0#32) : BitVec 32).toInt : ℝ) : EReal)) = if q = 0 then 0 else 1 := by
  have e : (Scalar.extui (Scalar.cmpi .sgt (BitVec.ofNat 32 q) 0#32) : BitVec 32).toInt = if q = 0 then 0 else 1 := by
    interval_cases q <;> rfl
  rw [e]
  split_ifs <;> simp

/-- A shifted block's element, with the rows before the block from the one above it, is the shifted column's. -/
theorem shift (n : Nat) (hn : n = 1 ∨ n = 2) (X : Nat → EReal) (x : Fin 512 → EReal) (h : Fin 16 → EReal) (q : Nat) (hq : q < 8) (hx : ∀ r, x r = X (512 * q + r.val))
    (hh : ∀ k, h k = X (16 * (32 * q - 1) + k.val)) (r : Fin 512) (p1 : 8 + (r.val + 8 - n) % 8 < 16) (p2 : (r.val + 512 - n) % 512 < 512) (p3 : ¬ r.val < 8 → (8 + (r.val - 8) + 512 - n) % 512 < 512) :
    (if d : r.val < 8 then
        Scalar.select (IntOp.cmpi .slt (BitVec.ofNat 32 r.val) (BitVec.ofNat 32 n))
          (h ⟨8 + (r.val + 8 - n) % 8, p1⟩ * ((((Scalar.extui (Scalar.cmpi .sgt (BitVec.ofNat 32 q) 0#32) : BitVec 32).toInt : ℝ) : EReal)))
          (x ⟨(r.val + 512 - n) % 512, p2⟩)
      else x ⟨(8 + (r.val - 8) + 512 - n) % 512, p3 d⟩)
    = back n X (512 * q + r.val) := by
  have hr := r.isLt
  have hc : IntOp.cmpi .slt (BitVec.ofNat 32 r.val) (BitVec.ofNat 32 n) = if r.val < n then 1#1 else 0#1 := by
    clear p1 p2 p3
    revert r
    rcases hn with rfl | rfl <;> decide +kernel
  have hn' : 1 ≤ n ∧ n ≤ 2 := by omega
  unfold back
  rw [first q hq, hc]
  by_cases d : r.val < 8
  · rw [dif_pos d]
    by_cases f : r.val < n
    · rw [if_pos f, ValueIdx.select_one, hh]
      by_cases z : q = 0
      · rw [if_pos z, mul_zero, if_neg (by omega)]
      · rw [if_neg z, mul_one, if_pos (by omega)]
        congr 1; show 16 * (32 * q - 1) + (8 + (r.val + 8 - n) % 8) = _; omega
    · rw [if_neg f, ValueIdx.select_zero, hx, if_pos (by omega)]
      congr 1; show 512 * q + (r.val + 512 - n) % 512 = _; omega
  · rw [dif_neg d, hx, if_pos (by omega)]
    congr 1; show 512 * q + (8 + (r.val - 8) + 512 - n) % 512 = _; omega

variable (X : Nat → EReal) (x : Vec Ideal S512x256 .bf16) (h : Vec Ideal S16x256 .bf16) (b w0 w1 w2 : Vec Ideal S1x256 .f32) (i : grid0.Coords) (r : Fin 512) (l : Fin 256)

/-- A block's convolution at an element: the gate's and the value's. -/
theorem gate_apply (hx : ∀ r, x (ix2 r l) = X (512 * (i 1).val + r.val)) (hh : ∀ k, h (ix2 k l) = X (16 * (32 * (i 1).val - 1) + k.val)) :
    k0_pay5 (k0_pay3 x) (k0_pay4 i x h b w0 w1) w2 (ix2 r l) = conv X (b (ix2 0 l)) (w0 (ix2 0 l)) (w1 (ix2 0 l)) (w2 (ix2 0 l)) (512 * (i 1).val + r.val) := by
  pointwise [k0_pay5, k0_pay4, k0_pay3, k0_pay2]
  rw [conv, add_comm _ (b _), ← add_assoc, ← add_assoc, ← shift 2 (.inr rfl) X (fun r => x (ix2 r l)) (fun k => h (ix2 k l)) (i 1).val (i 1).isLt hx hh r (by omega) (by omega) (by omega),
    ← shift 1 (.inl rfl) X (fun r => x (ix2 r l)) (fun k => h (ix2 k l)) (i 1).val (i 1).isLt hx hh r (by omega) (by omega) (by omega), ← hx]
theorem value_apply (hx : ∀ r, x (ix2 r l) = X (512 * (i 1).val + r.val)) (hh : ∀ k, h (ix2 k l) = X (16 * (32 * (i 1).val - 1) + k.val)) :
    k0_pay6 (k0_pay2 i) x h b w0 w1 w2 (ix2 r l) = conv X (b (ix2 0 l)) (w0 (ix2 0 l)) (w1 (ix2 0 l)) (w2 (ix2 0 l)) (512 * (i 1).val + r.val) := by
  pointwise [k0_pay6, k0_pay2]
  rw [conv, add_comm _ (b _), ← add_assoc, ← add_assoc, ← shift 2 (.inr rfl) X (fun r => x (ix2 r l)) (fun k => h (ix2 k l)) (i 1).val (i 1).isLt hx hh r (by omega) (by omega) (by omega),
    ← shift 1 (.inl rfl) X (fun r => x (ix2 r l)) (fun k => h (ix2 k l)) (i 1).val (i 1).isLt hx hh r (by omega) (by omega) (by omega), ← hx]

/-- A block's result from the two convolutions. -/
theorem unit_apply (g v : FVec Ideal S512x256 .f32) : k0_pay1 g v (ix2 r l) = gated (g (ix2 r l)) (v (ix2 r l)) := by
  pointwise [k0_pay1]
  rw [sigmoid]
  rfl

/-- The rows of a block's weights. -/
theorem rows (W : Vec Ideal S3x256 .f32) (l : Fin 256) : View.ld W r0_3 (ix2 (0 : Fin 1) l) = W (ix2 0 l) ∧ View.ld W r0_4 (ix2 (0 : Fin 1) l) = W (ix2 1 l) ∧ View.ld W r0_5 (ix2 (0 : Fin 1) l) = W (ix2 2 l) := by
  have h : 0 + 1 * l.val = l.val := by omega
  refine ⟨congrArg W (funext fun a => Fin.ext ?_), congrArg W (funext fun a => Fin.ext ?_), congrArg W (funext fun a => Fin.ext ?_)⟩ <;>
    exact match a with
      | ⟨0, _⟩ => rfl
      | ⟨1, _⟩ => h

variable (m : (ℓ : Loc nD τ sig) → Buf (Elt Ideal) ℓ) (c : Dev nD)

/-- The result is the activation. -/
theorem final : (dats m 0 c).arrAt 8 cfg0.N = act (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨r, l, rfl⟩ : ∃ (r : Fin 512) (l : Fin 256), y = ix2 r l := ⟨y 0, y 1, eq_ix2 y⟩
  have ht := N_lt t
  have e : (dats m 0 c).after 8 t (ix2 r l) = k0_pay1 (F := Ideal)
      (k0_pay5 (k0_pay3 (iblk m c 0 t)) (k0_pay4 (grid0.coords t) (iblk m c 0 t) (iblk m c 1 t) (iblk m c 3 t) (View.ld (iblk m c 2 t) r0_3) (View.ld (iblk m c 2 t) r0_4)) (View.ld (iblk m c 2 t) r0_5))
      (k0_pay6 (k0_pay2 (grid0.coords t)) (iblk m c 4 t) (iblk m c 5 t) (iblk m c 7 t) (View.ld (iblk m c 6 t) r0_3) (View.ld (iblk m c 6 t) r0_4) (View.ld (iblk m c 6 t) r0_5)) (ix2 r l) := by
    rw [after0_8]; frame_out; rfl
  have e0 (r : Fin 512) : iblk m c 0 t (ix2 r l) = m ((c : Thread nD τ).loc main_arg0) _ := congrArg (V m c main_arg0) (emb0 t r l)
  have e1 (k : Fin 16) : iblk m c 1 t (ix2 k l) = m ((c : Thread nD τ).loc main_arg0) _ := congrArg (V m c main_arg0) (emb1 t k l)
  have e2 (k : Fin 3) : iblk m c 2 t (ix2 k l) = m ((c : Thread nD τ).loc main_arg1) _ := congrArg (V m c main_arg1) (emb2 t k l)
  have e3 : iblk m c 3 t (ix2 (0 : Fin 1) l) = m ((c : Thread nD τ).loc main_arg2) _ := congrArg (V m c main_arg2) (emb3 t 0 l)
  have e4 (r : Fin 512) : iblk m c 4 t (ix2 r l) = m ((c : Thread nD τ).loc main_arg0) _ := congrArg (V m c main_arg0) (emb4 t r l)
  have e5 (k : Fin 16) : iblk m c 5 t (ix2 k l) = m ((c : Thread nD τ).loc main_arg0) _ := congrArg (V m c main_arg0) (emb5 t k l)
  have e6 (k : Fin 3) : iblk m c 6 t (ix2 k l) = m ((c : Thread nD τ).loc main_arg1) _ := congrArg (V m c main_arg1) (emb6 t k l)
  have e7 : iblk m c 7 t (ix2 (0 : Fin 1) l) = m ((c : Thread nD τ).loc main_arg2) _ := congrArg (V m c main_arg2) (emb7 t 0 l)
  refine Eq.trans (show _ = (dats m 0 c).after 8 t (ix2 r l) from rfl) (e.trans ((unit_apply r l _ _).trans ?_))
  refine Eq.trans ?_ (congrArg (act (m ((c : Thread nD τ).loc main_arg0)) (m ((c : Thread nD τ).loc main_arg1)) (m ((c : Thread nD τ).loc main_arg2))) (emb8 t r l)).symm
  refine congrArg₂ gated ((gate_apply (col (m ((c : Thread nD τ).loc main_arg0)) ⟨256 * (t.val / 8) + l.val, by omega⟩) _ _ _ _ _ _ (grid0.coords t) r l (fun r => ?_) fun k => ?_).trans ?_)
    ((value_apply (col (m ((c : Thread nD τ).loc main_arg0)) ⟨2816 + (256 * (t.val / 8) + l.val), by omega⟩) _ _ _ _ _ _ (grid0.coords t) r l (fun r => ?_) fun k => ?_).trans ?_)
  · exact (e0 r).trans ((col_eq _ _ _).trans (by rw [coord]))
  · exact (e1 k).trans ((col_eq _ _ _).trans (by rw [coord]))
  · rw [(rows _ l).1, (rows _ l).2.1, (rows _ l).2.2, e2, e2, e2, e3, coord]; rfl
  · exact (e4 r).trans ((col_eq _ _ _).trans (by rw [coord]))
  · exact (e5 k).trans ((col_eq _ _ _).trans (by rw [coord]))
  · rw [(rows _ l).1, (rows _ l).2.1, (rows _ l).2.2, e6, e6, e6, e7, coord]; rfl

end Cert.ActIdeal.Product

namespace Cert.ActReferenceIdeal.Product

open Cert.ActReferenceIdeal Cert.ActReferenceIdeal.Read
open Cert.ActIdeal.Product (col back conv convAt act)
open Idealize.ShloMosaic Idealize.ShloMosaic.TcCoe
open Idealize.SL.Sem

/-- The reference's convolution. -/
theorem conv_eq (x0 : FVec Ideal S4096x5632 .bf16) (x1 : FVec Ideal S3x5632 .f32) (x2 : FVec Ideal S1x5632 .f32) (r : Fin 4096) (l : Fin 5632) :
    val_main_v17 (F := Ideal) x0 x1 x2 (ix2 r l) = convAt x0 x1 x2 r.val l := by
  have hr := r.isLt
  have e (n : Nat) (p : n ≤ r.val ∧ r.val - n < 4096 → r.val - n < 4096) : (if d : n ≤ r.val ∧ r.val - n < 4096 then x0 (ix2 ⟨r.val - n, p d⟩ l) else (FloatOps.sitofp (F := Ideal) .f32 0#32 : EReal)) = back n (col x0 l) r.val := by
    unfold back col
    by_cases h : n ≤ r.val
    · rw [dif_pos ⟨h, by omega⟩, if_pos h, dif_pos (by omega)]
    · rw [dif_neg (by omega), if_neg h]
      exact (by simp : (((0 : Int) : ℝ) : EReal) = 0)
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call1_v0, val_main_c, val_main_c_0]
  rw [e 2, e 1, Cert.ActIdeal.Product.col_eq x0 l r]
  rfl

/-- The reference's result is the activation. -/
theorem final (x0 : FVec Ideal S4096x5632 .bf16) (x1 : FVec Ideal S3x5632 .f32) (x2 : FVec Ideal S1x5632 .f32) : val_main_v22 (F := Ideal) x0 x1 x2 = act x0 x1 x2 := by
  funext i
  obtain ⟨r, l, rfl⟩ : ∃ (r : Fin 4096) (l : Fin 2816), i = ix2 r l := ⟨i 0, i 1, eq_ix2 i⟩
  pointwise [val_main_v22, val_main_v21, val_main_v20, val_main_v19, val_main_v18, val_main_call2_v5, val_main_call2_v4, val_main_call2_v3, val_main_call2_v2, val_main_call2_v1, val_main_call2_v0, val_main_call2_cst, val_main_call2_cst_0]
  rw [conv_eq, conv_eq]
  rfl

end Cert.ActReferenceIdeal.Product

namespace Cert.ActIdeal.Product

open Idealize.ShloMosaic Idealize.ShloMosaic.TcCoe
open Idealize.SL.Sem

/-- The blocked activation is the reference's. -/
theorem algebraic : Cert.algebraic_ActIdeal_ActReferenceIdeal := by
  intro m g m' g' _ hm
  refine ⟨fun c => act (m ((c.tc : Thread nD τ).loc main_arg0)) (m ((c.tc : Thread nD τ).loc main_arg1)) (m ((c.tc : Thread nD τ).loc main_arg2)),
    (θ_run (defs (F := Ideal)) _ _).mono (fun r h c => ⟨(h.1.out_eq c 8).trans (final m c), h.2.1 c⟩) (θ_run_and (Gen.run_main m g) (Gen.frame m g)),
    (θ_run (Cert.ActReferenceIdeal.defs (F := Ideal)) _ _).mono (fun r h c => ?_) (Cert.ActReferenceIdeal.Value.run (F := Ideal) m' g')⟩
  obtain ⟨e0, ea⟩ := h c
  obtain ⟨m0, m1, m2⟩ := hm c
  rw [Cert.ActReferenceIdeal.Read.val_main_v22_eq, m0, m1, m2, Cert.ActReferenceIdeal.Product.final] at e0
  exact ⟨e0, ea⟩

end Cert.ActIdeal.Product

end
-- ==== Proof.Adamw.lean ====
/- One step of AdamW at one weight. -/
module

public import Idealize.ShloMosaic.Lib.IdealHost
public import Idealize.ShloMosaic.Lib.Pointwise

@[expose] public section

noncomputable section

namespace Cert.Adamw

open Idealize.ShloMosaic

/-- The running mean of the gradient after the gradient `g`. -/
def mean (g m : EReal) : EReal := Ideal.ofBits .f32 0x3F666666#32 * m + Ideal.ofBits .f32 0x3DCCCCCD#32 * g

/-- The running mean of the gradient's square. -/
def square (g v : EReal) : EReal := Ideal.ofBits .f32 0x3F7FBE77#32 * v + Ideal.ofBits .f32 0x3A83126F#32 * (g * g)

/-- The change of the weight `w`. -/
def delta (w g m v : EReal) : EReal :=
  Ideal.ofBits .f32 0xBA83126F#32 * (Ideal.div (Ideal.div (mean g m) (Ideal.ofBits .f32 0x3F26BD02#32)) (Ideal.sqrt (Ideal.div (square g v) (Ideal.ofBits .f32 0x3C231ACC#32)) + Ideal.ofBits .f32 0x322BCC77#32) + Ideal.ofBits .f32 0x3C23D70A#32 * w)

/-- The gradient's entry in the half `h` of the rows: the device `c` of the pair has its own sum in the half `c`, the other's in the other half. -/
def pick (c h : BitVec 32) (a b : EReal) : EReal := Scalar.select (IntOp.cmpi .eq c h) a b

theorem pick_eq (c h : BitVec 32) (a b : EReal) : pick c h a b = Scalar.select (Scalar.cmpi .eq h c) a b := by
  simp only [pick, Scalar.cmpi, IntOp.cmpi, Bool.beq_comm (a := c) (b := h)]

/-- The gradient: its upper half of rows from one device of the pair, its lower half from the other. -/
def grad {R H W : Nat} [NeZero H] (x1 x2 : FVec Ideal ⟨2, ![H, W]⟩ .f32) (x5 : IVec ⟨1, ![1]⟩ 32) : FVec Ideal ⟨3, ![1, R, W]⟩ .f32 := fun i =>
  pick (x5 (ix1 0)) (BitVec.ofNat 32 ((i 1).val / H)) (x1 (ix2 (⟨(i 1).val % H, Nat.mod_lt _ (Nat.pos_of_neZero H)⟩ : Fin H) (i 2 : Fin W))) (x2 (ix2 (⟨(i 1).val % H, Nat.mod_lt _ (Nat.pos_of_neZero H)⟩ : Fin H) (i 2 : Fin W)))

/-- A result, from the weight, the gradient and the two running means at its place. -/
def step {R H W : Nat} [NeZero H] (f : EReal → EReal → EReal → EReal → EReal) (x0 : FVec Ideal ⟨3, ![1, R, W]⟩ .f32) (x1 x2 : FVec Ideal ⟨2, ![H, W]⟩ .f32) (x3 x4 : FVec Ideal ⟨3, ![1, R, W]⟩ .f32) (x5 : IVec ⟨1, ![1]⟩ 32) : FVec Ideal ⟨3, ![1, R, W]⟩ .f32 :=
  fun i => f (x0 i) (grad x1 x2 x5 i) (x3 i) (x4 i)

/-- The gradient of a pair of layers, the layers' own sums given one by one. -/
def gradPair {R H W : Nat} [NeZero H] (x1 x2 x3 x4 : FVec Ideal ⟨2, ![H, W]⟩ .f32) (x7 : IVec ⟨1, ![1]⟩ 32) : FVec Ideal ⟨3, ![2, R, W]⟩ .f32 := fun i =>
  Scalar.select (Scalar.cmpi .eq (BitVec.ofNat 32 (i 0).val) 1#32) (grad (R := R) x2 x4 x7 (ix3 (0 : Fin 1) (i 1 : Fin R) (i 2 : Fin W))) (grad (R := R) x1 x3 x7 (ix3 (0 : Fin 1) (i 1 : Fin R) (i 2 : Fin W)))

/-- A result for a pair of layers. -/
def stepPair {R H W : Nat} [NeZero H] (f : EReal → EReal → EReal → EReal → EReal) (x0 : FVec Ideal ⟨3, ![2, R, W]⟩ .f32) (x1 x2 x3 x4 : FVec Ideal ⟨2, ![H, W]⟩ .f32) (x5 x6 : FVec Ideal ⟨3, ![2, R, W]⟩ .f32) (x7 : IVec ⟨1, ![1]⟩ 32) : FVec Ideal ⟨3, ![2, R, W]⟩ .f32 :=
  fun i => f (x0 i) (gradPair x1 x2 x3 x4 x7 i) (x5 i) (x6 i)

end Cert.Adamw

end
-- ==== Proof.AdamwOut.lean ====
/- The optimiser's step on the mixers' output weights: the blocked step is the step. -/
module

public import proofs.«01_k».proof.Defs
public import proofs.«01_k».proof.Proof.Gen.AdamwOutIdeal
public import proofs.«01_k».proof.Proof.Gen.AdamwOutReferenceIdeal
public import proofs.«01_k».proof.Proof.Gen.AdamwOutIdeal.Frame
public import proofs.«01_k».proof.Proof.Gen.AdamwOutReferenceIdeal.Run
public import proofs.«01_k».proof.Proof.Gen.AdamwOutReferenceIdeal.Read
public import proofs.«01_k».proof.Proof.Adamw
public import Idealize.ShloMosaic.Lib.Pipeline.ValueKit
public import Idealize.ShloMosaic.Lib.Pointwise
public import Idealize.ShloMosaic.Lib.IdealHost

@[expose] public section

set_option maxRecDepth 16384

noncomputable section

namespace Cert.AdamwOutIdeal.Product

open Cert.AdamwOutIdeal Cert.AdamwOutIdeal.Gen
open Idealize.ShloMosaic Idealize.ShloMosaic.TcCoe
open Idealize.SL.Sem

variable (m : (ℓ : Loc nD τ sig) → Buf (Elt Ideal) ℓ) (c : Dev nD)

theorem N_lt (t : Fin grid0.N) : t.val < 2 := lt_of_lt_of_eq t.isLt (by decide +kernel)
theorem coord (t : Fin grid0.N) : (grid0.coords t 1).val = t.val / 1 := (by decide +kernel : ∀ t : Fin grid0.N, (grid0.coords t 1).val = t.val / 1) t
theorem whole (t : Fin grid0.N) : cc0_transform_0 (grid0.coords t) = ![0, t.val, 0] := (by decide +kernel : ∀ t : Fin grid0.N, cc0_transform_0 (grid0.coords t) = ![0, t.val, 0]) t
theorem half (t : Fin grid0.N) : cc0_transform_1 (grid0.coords t) = ![t.val % 1, 0] := (by decide +kernel : ∀ t : Fin grid0.N, cc0_transform_1 (grid0.coords t) = ![t.val % 1, 0]) t

theorem ok : Ok m := trivial

/-- A result, from the memory's arguments. -/
def out (f : EReal → EReal → EReal → EReal → EReal) : FVec Ideal S1x256x1024 .f32 :=
  Cert.Adamw.step f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem emb_whole (t : Fin (cfgM m (ok m)).N) (r : Fin 128) (l : Fin 1024) :
    (((cfgM m (ok m)).win 0).blk t).view.emb (ix3 (0 : Fin 1) r l) = ix3 (0 : Fin 1) (⟨128 * t.val + r.val, by have := N_lt t; omega⟩ : Fin 256) l := by
  have ht := N_lt t
  blk_ext
  · exact congrArg (· + 0) (congrFun (whole t) 0)
  · exact (congrArg (· * 128 + r.val) (congrFun (whole t) 1)).trans (by show t.val * 128 + r.val = _; omega)
  · exact (congrArg (· * 1024 + l.val) (congrFun (whole t) 2)).trans (by show 0 * 1024 + l.val = _; omega)
theorem emb_half (t : Fin (cfgM m (ok m)).N) (r : Fin 128) (l : Fin 1024) :
    (((cfgM m (ok m)).win 1).blk t).view.emb (ix2 r l) = ix2 (⟨128 * (t.val % 1) + r.val, by have := N_lt t; omega⟩ : Fin 128) l := by
  have ht := N_lt t
  blk_ext
  · exact (congrArg (· * 128 + r.val) (congrFun (half t) 0)).trans (by show t.val % 1 * 128 + r.val = _; omega)
  · exact (congrArg (· * 1024 + l.val) (congrFun (half t) 1)).trans (by show 0 * 1024 + l.val = _; omega)

/-- The word read is the core's index. -/
theorem word (T : IVec S1 32) (h) : View.readAt (Elt Ideal) (View.whole main_arg5) (Rect.unit ![0] ![1] inb_S1_S1_0).toLoadRect T (Shape.Idx.first h) = T (ix1 0) :=
  congrArg T (funext fun (k : Fin 1) => by
    obtain rfl : k = 0 := Subsingleton.elim _ _
    exact @Subsingleton.elim (Fin 1) _ _ _)

/-- The results at a block's element, from the blocks read. -/
theorem cell (f : EReal → EReal → EReal → EReal → EReal) (t : Fin (cfgM m (ok m)).N) (r : Fin 128) (l : Fin 1024) (w : BitVec 32) (hw : w = tbl m 0 (ix1 0)) :
    f (iblk m (ok m) c 0 t (ix3 (0 : Fin 1) r l))
      (Scalar.select (Scalar.cmpi .eq (BitVec.ofNat 32 (grid0.coords t 1).val) w) (iblk m (ok m) c 1 t (ix2 r l)) (iblk m (ok m) c 2 t (ix2 r l)))
      (iblk m (ok m) c 3 t (ix3 (0 : Fin 1) r l)) (iblk m (ok m) c 4 t (ix3 (0 : Fin 1) r l))
    = out m c f ((((cfgM m (ok m)).win 0).blk t).view.emb (ix3 (0 : Fin 1) r l)) := by
  have ht := N_lt t
  have e0 : iblk m (ok m) c 0 t (ix3 (0 : Fin 1) r l) = m ((c : Thread nD τ).loc main_arg0) _ := congrArg (V m c main_arg0) (emb_whole m t r l)
  have e1 : iblk m (ok m) c 1 t (ix2 r l) = m ((c : Thread nD τ).loc main_arg1) _ := congrArg (V m c main_arg1) (emb_half m t r l)
  have e2 : iblk m (ok m) c 2 t (ix2 r l) = m ((c : Thread nD τ).loc main_arg2) _ := congrArg (V m c main_arg2) (emb_half m t r l)
  have e3 : iblk m (ok m) c 3 t (ix3 (0 : Fin 1) r l) = m ((c : Thread nD τ).loc main_arg3) _ := congrArg (V m c main_arg3) (emb_whole m t r l)
  have e4 : iblk m (ok m) c 4 t (ix3 (0 : Fin 1) r l) = m ((c : Thread nD τ).loc main_arg4) _ := congrArg (V m c main_arg4) (emb_whole m t r l)
  rw [e0, e1, e2, e3, e4, hw, show tbl m 0 = m ((c : Thread nD τ).loc main_arg5) from (V_pre m c 0).symm, emb_whole, coord]
  have h1 : (128 * t.val + r.val) / 128 = t.val / 1 := by omega
  have h2 : (128 * t.val + r.val) % 128 = 128 * (t.val % 1) + r.val := by omega
  refine congrArg (f _ · _ _) (Eq.trans ?_ (Cert.Adamw.pick_eq _ _ _ _).symm)
  simp only [ix3_1, ix3_2, h1, h2]

/-- The results' blocks cover their arrays. -/
theorem cover : ((cfgM m (ok m)).win 5).Covers :=
  (by decide +kernel : ((cfg0 (F := Ideal) ⟨fun | ⟨0, _⟩ => fun _ => (0#32 : BitVec 32), trivial⟩).win 5).Covers)

/-- The blocks' results are the step's. -/
theorem outs (t : Fin (cfgM m (ok m)).N) (r : Fin 128) (l : Fin 1024) :
    (outsAt0 m (ok m) c t).1 (ix3 (0 : Fin 1) r l) = out m c (fun _ g _ _ => g) ((((cfgM m (ok m)).win 0).blk t).view.emb (ix3 (0 : Fin 1) r l))
    ∧ (outsAt0 m (ok m) c t).2.1 (ix3 (0 : Fin 1) r l) = out m c Cert.Adamw.delta ((((cfgM m (ok m)).win 0).blk t).view.emb (ix3 (0 : Fin 1) r l))
    ∧ (outsAt0 m (ok m) c t).2.2.1 (ix3 (0 : Fin 1) r l) = out m c (fun _ g m _ => Cert.Adamw.mean g m) ((((cfgM m (ok m)).win 0).blk t).view.emb (ix3 (0 : Fin 1) r l))
    ∧ (outsAt0 m (ok m) c t).2.2.2 (ix3 (0 : Fin 1) r l) = out m c (fun _ g _ v => Cert.Adamw.square g v) ((((cfgM m (ok m)).win 0).blk t).view.emb (ix3 (0 : Fin 1) r l)) := by
  refine ⟨Eq.trans ?_ (cell m c _ t r l _ (word (tbl m 0) (by decide))), Eq.trans ?_ (cell m c _ t r l _ (word (tbl m 0) (by decide))), Eq.trans ?_ (cell m c _ t r l _ (word (tbl m 0) (by decide))), Eq.trans ?_ (cell m c _ t r l _ (word (tbl m 0) (by decide)))⟩ <;> rw [outsAt0]
  all_goals
    obtain ⟨x0, h0⟩ : ∃ x : Vec Ideal S1x128x1024 .f32, iblk m (ok m) c 0 t = x := ⟨_, rfl⟩
    obtain ⟨x1, h1⟩ : ∃ x : Vec Ideal S128x1024 .f32, iblk m (ok m) c 1 t = x := ⟨_, rfl⟩
    obtain ⟨x2, h2⟩ : ∃ x : Vec Ideal S128x1024 .f32, iblk m (ok m) c 2 t = x := ⟨_, rfl⟩
    obtain ⟨x3, h3⟩ : ∃ x : Vec Ideal S1x128x1024 .f32, iblk m (ok m) c 3 t = x := ⟨_, rfl⟩
    obtain ⟨x4, h4⟩ : ∃ x : Vec Ideal S1x128x1024 .f32, iblk m (ok m) c 4 t = x := ⟨_, rfl⟩
    rw [h0, h1, h2, h3, h4]
    dsimp only
    frame_out
    pointwise [k0_pay1, k0_pay2, k0_pay3, k0_pay4, k0_pay5, k0_pay6, k0_pay7, k0_pay8] <;> rfl

/-- The kernel's results are the step's. -/
theorem finals : (dats m (ok m) 0 c).arrAt 5 (cfgM m (ok m)).N = out m c (fun _ g _ _ => g)
    ∧ (dats m (ok m) 0 c).arrAt 6 (cfgM m (ok m)).N = out m c Cert.Adamw.delta
    ∧ (dats m (ok m) 0 c).arrAt 7 (cfgM m (ok m)).N = out m c (fun _ g m _ => Cert.Adamw.mean g m)
    ∧ (dats m (ok m) 0 c).arrAt 8 (cfgM m (ok m)).N = out m c (fun _ g _ v => Cert.Adamw.square g v) := by
  have hy (y : S1x128x1024.Idx) : y = ix3 (0 : Fin 1) (y 1 : Fin 128) (y 2 : Fin 1024) :=
    (eq_ix3 y).trans (congrArg (ix3 · _ _) (@Subsingleton.elim (Fin 1) _ (y 0) 0))
  refine ⟨(dats m (ok m) 0 c).arrAt_eq_of_covers 5 _ (cover m) fun t hf (y : S1x128x1024.Idx) => ?_, (dats m (ok m) 0 c).arrAt_eq_of_covers 6 _ (cover m) fun t hf (y : S1x128x1024.Idx) => ?_,
    (dats m (ok m) 0 c).arrAt_eq_of_covers 7 _ (cover m) fun t hf (y : S1x128x1024.Idx) => ?_, (dats m (ok m) 0 c).arrAt_eq_of_covers 8 _ (cover m) fun t hf (y : S1x128x1024.Idx) => ?_⟩ <;>
    rw [hy y]
  · exact (congrFun (after0_5 m (ok m) c t) _).trans (outs m c t _ _).1
  · exact (congrFun (after0_6 m (ok m) c t) _).trans (outs m c t _ _).2.1
  · exact (congrFun (after0_7 m (ok m) c t) _).trans (outs m c t _ _).2.2.1
  · exact (congrFun (after0_8 m (ok m) c t) _).trans (outs m c t _ _).2.2.2

end Cert.AdamwOutIdeal.Product

namespace Cert.AdamwOutReferenceIdeal.Product

open Cert.AdamwOutReferenceIdeal Cert.AdamwOutReferenceIdeal.Read
open Idealize.ShloMosaic Idealize.ShloMosaic.TcCoe
open Idealize.SL.Sem

/-- The reference's first result is the gradient. -/
theorem grad (x1 x2 : FVec Ideal S128x1024 .f32) (x5 : IVec S1 32) : val_main_v7 (F := Ideal) x1 x2 x5 = Cert.Adamw.grad x1 x2 x5 := by
  funext i
  obtain ⟨z, r, l, rfl⟩ : ∃ (z : Fin 1) (r : Fin 256) (l : Fin 1024), i = ix3 z r l := ⟨i 0, i 1, i 2, eq_ix3 i⟩
  pointwise [val_main_v7, val_main_v6, val_main_v5, val_main_v4, val_main_v3, val_main_v2, val_main_v1, val_main_v0, val_main_c, val_main_c_0]
  unfold Cert.Adamw.grad Cert.Adamw.pick
  simp only [ix3_1, ix3_2]
  split_ifs with h
  · simp only [show r.val / 128 = 0 by omega, show r.val % 128 = r.val by omega]
  · simp only [show r.val / 128 = 1 by omega, show r.val % 128 = r.val - 128 by omega]
  · exact absurd rfl ‹_›

/-- The reference's results are the step's. -/
theorem finals (x0 : FVec Ideal S1x256x1024 .f32) (x1 x2 : FVec Ideal S128x1024 .f32) (x3 x4 : FVec Ideal S1x256x1024 .f32) (x5 : IVec S1 32) :
    val_main_v31 (F := Ideal) x0 x1 x2 x3 x4 x5 = Cert.Adamw.step Cert.Adamw.delta x0 x1 x2 x3 x4 x5
    ∧ val_main_v12 (F := Ideal) x1 x2 x3 x5 = Cert.Adamw.step (fun _ g m _ => Cert.Adamw.mean g m) x0 x1 x2 x3 x4 x5
    ∧ val_main_v18 (F := Ideal) x1 x2 x4 x5 = Cert.Adamw.step (fun _ g _ v => Cert.Adamw.square g v) x0 x1 x2 x3 x4 x5 := by
  refine ⟨funext fun i => ?_, funext fun i => ?_, funext fun i => ?_⟩ <;>
    pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_1, val_main_cst_2, val_main_cst_3, val_main_cst_4, val_main_cst_5, val_main_cst_6, val_main_cst_7, val_main_cst_8, grad] <;>
    rfl

end Cert.AdamwOutReferenceIdeal.Product

namespace Cert.AdamwOutIdeal.Product

open Idealize.ShloMosaic Idealize.ShloMosaic.TcCoe
open Idealize.SL.Sem

/-- The blocked step is the step. -/
theorem algebraic : Cert.algebraic_AdamwOutIdeal_AdamwOutReferenceIdeal := by
  intro m g m' g' _ hm
  refine ⟨fun c => out m c fun _ g _ _ => g, fun c => out m c Cert.Adamw.delta, fun c => out m c fun _ g m _ => Cert.Adamw.mean g m, fun c => out m c fun _ g _ v => Cert.Adamw.square g v,
    (θ_run (defs (F := Ideal)) _ _).mono (fun r h c => ⟨(h.1.out_eq c 5).trans (finals m c).1, (h.1.out_eq c 6).trans (finals m c).2.1, (h.1.out_eq c 7).trans (finals m c).2.2.1, (h.1.out_eq c 8).trans (finals m c).2.2.2, h.2.1 c⟩)
      (θ_run_and (Gen.run_main m g (ok m)) (Gen.frame m g (ok m))),
    (θ_run (Cert.AdamwOutReferenceIdeal.defs (F := Ideal)) _ _).mono (fun r h c => ?_) (Cert.AdamwOutReferenceIdeal.Value.run (F := Ideal) m' g')⟩
  obtain ⟨e0, e1, e2, e3, ea⟩ := h c
  obtain ⟨m0, m1, m2, m3, m4, m5⟩ := hm c
  rw [Cert.AdamwOutReferenceIdeal.Read.val_main_v7_eq] at e0
  rw [Cert.AdamwOutReferenceIdeal.Read.val_main_v31_eq] at e1
  rw [Cert.AdamwOutReferenceIdeal.Read.val_main_v12_eq] at e2
  rw [Cert.AdamwOutReferenceIdeal.Read.val_main_v18_eq] at e3
  rw [m0, m1, m2, m3, m4, m5] at e1
  rw [m1, m2, m3, m5] at e2
  rw [m1, m2, m4, m5] at e3
  rw [m1, m2, m5, Cert.AdamwOutReferenceIdeal.Product.grad] at e0
  obtain ⟨f1, f2, f3⟩ := Cert.AdamwOutReferenceIdeal.Product.finals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
  exact ⟨e0, e1.trans f1, e2.trans f2, e3.trans f3, ea⟩

end Cert.AdamwOutIdeal.Product

end
-- ==== Proof.AdamwInZero.lean ====
/- The optimiser's step on the first mixer's input weights: the blocked step is the step. -/
module

public import proofs.«01_k».proof.Defs
public import proofs.«01_k».proof.Proof.Gen.AdamwInZeroIdeal
public import proofs.«01_k».proof.Proof.Gen.AdamwInZeroReferenceIdeal
public import proofs.«01_k».proof.Proof.Gen.AdamwInZeroIdeal.Frame
public import proofs.«01_k».proof.Proof.Gen.AdamwInZeroReferenceIdeal.Run
public import proofs.«01_k».proof.Proof.Gen.AdamwInZeroReferenceIdeal.Read
public import proofs.«01_k».proof.Proof.Adamw
public import Idealize.ShloMosaic.Lib.Pipeline.ValueKit
public import Idealize.ShloMosaic.Lib.Pointwise
public import Idealize.ShloMosaic.Lib.IdealHost

@[expose] public section

set_option maxRecDepth 16384

noncomputable section

namespace Cert.AdamwInZeroIdeal.Product

open Cert.AdamwInZeroIdeal Cert.AdamwInZeroIdeal.Gen
open Idealize.ShloMosaic Idealize.ShloMosaic.TcCoe
open Idealize.SL.Sem

variable (m : (ℓ : Loc nD τ sig) → Buf (Elt Ideal) ℓ) (c : Dev nD)

theorem N_lt (t : Fin grid0.N) : t.val < 4 := lt_of_lt_of_eq t.isLt (by decide +kernel)
theorem coord (t : Fin grid0.N) : (grid0.coords t 1).val = t.val / 2 := (by decide +kernel : ∀ t : Fin grid0.N, (grid0.coords t 1).val = t.val / 2) t
theorem whole (t : Fin grid0.N) : cc0_transform_0 (grid0.coords t) = ![0, t.val, 0] := (by decide +kernel : ∀ t : Fin grid0.N, cc0_transform_0 (grid0.coords t) = ![0, t.val, 0]) t
theorem half (t : Fin grid0.N) : cc0_transform_1 (grid0.coords t) = ![t.val % 2, 0] := (by decide +kernel : ∀ t : Fin grid0.N, cc0_transform_1 (grid0.coords t) = ![t.val % 2, 0]) t

theorem ok : Ok m := trivial

/-- A result, from the memory's arguments. -/
def out (f : EReal → EReal → EReal → EReal → EReal) : FVec Ideal S1x1024x640 .f32 :=
  Cert.Adamw.step f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem emb_whole (t : Fin (cfgM m (ok m)).N) (r : Fin 256) (l : Fin 640) :
    (((cfgM m (ok m)).win 0).blk t).view.emb (ix3 (0 : Fin 1) r l) = ix3 (0 : Fin 1) (⟨256 * t.val + r.val, by have := N_lt t; omega⟩ : Fin 1024) l := by
  have ht := N_lt t
  blk_ext
  · exact congrArg (· + 0) (congrFun (whole t) 0)
  · exact (congrArg (· * 256 + r.val) (congrFun (whole t) 1)).trans (by show t.val * 256 + r.val = _; omega)
  · exact (congrArg (· * 640 + l.val) (congrFun (whole t) 2)).trans (by show 0 * 640 + l.val = _; omega)
theorem emb_half (t : Fin (cfgM m (ok m)).N) (r : Fin 256) (l : Fin 640) :
    (((cfgM m (ok m)).win 1).blk t).view.emb (ix2 r l) = ix2 (⟨256 * (t.val % 2) + r.val, by have := N_lt t; omega⟩ : Fin 512) l := by
  have ht := N_lt t
  blk_ext
  · exact (congrArg (· * 256 + r.val) (congrFun (half t) 0)).trans (by show t.val % 2 * 256 + r.val = _; omega)
  · exact (congrArg (· * 640 + l.val) (congrFun (half t) 1)).trans (by show 0 * 640 + l.val = _; omega)

/-- The word read is the core's index. -/
theorem word (T : IVec S1 32) (h) : View.readAt (Elt Ideal) (View.whole main_arg5) (Rect.unit ![0] ![1] inb_S1_S1_0).toLoadRect T (Shape.Idx.first h) = T (ix1 0) :=
  congrArg T (funext fun (k : Fin 1) => by
    obtain rfl : k = 0 := Subsingleton.elim _ _
    exact @Subsingleton.elim (Fin 1) _ _ _)

/-- The results at a block's element, from the blocks read. -/
theorem cell (f : EReal → EReal → EReal → EReal → EReal) (t : Fin (cfgM m (ok m)).N) (r : Fin 256) (l : Fin 640) (w : BitVec 32) (hw : w = tbl m 0 (ix1 0)) :
    f (iblk m (ok m) c 0 t (ix3 (0 : Fin 1) r l))
      (Scalar.select (Scalar.cmpi .eq (BitVec.ofNat 32 (grid0.coords t 1).val) w) (iblk m (ok m) c 1 t (ix2 r l)) (iblk m (ok m) c 2 t (ix2 r l)))
      (iblk m (ok m) c 3 t (ix3 (0 : Fin 1) r l)) (iblk m (ok m) c 4 t (ix3 (0 : Fin 1) r l))
    = out m c f ((((cfgM m (ok m)).win 0).blk t).view.emb (ix3 (0 : Fin 1) r l)) := by
  have ht := N_lt t
  have e0 : iblk m (ok m) c 0 t (ix3 (0 : Fin 1) r l) = m ((c : Thread nD τ).loc main_arg0) _ := congrArg (V m c main_arg0) (emb_whole m t r l)
  have e1 : iblk m (ok m) c 1 t (ix2 r l) = m ((c : Thread nD τ).loc main_arg1) _ := congrArg (V m c main_arg1) (emb_half m t r l)
  have e2 : iblk m (ok m) c 2 t (ix2 r l) = m ((c : Thread nD τ).loc main_arg2) _ := congrArg (V m c main_arg2) (emb_half m t r l)
  have e3 : iblk m (ok m) c 3 t (ix3 (0 : Fin 1) r l) = m ((c : Thread nD τ).loc main_arg3) _ := congrArg (V m c main_arg3) (emb_whole m t r l)
  have e4 : iblk m (ok m) c 4 t (ix3 (0 : Fin 1) r l) = m ((c : Thread nD τ).loc main_arg4) _ := congrArg (V m c main_arg4) (emb_whole m t r l)
  rw [e0, e1, e2, e3, e4, hw, show tbl m 0 = m ((c : Thread nD τ).loc main_arg5) from (V_pre m c 0).symm, emb_whole, coord]
  have h1 : (256 * t.val + r.val) / 512 = t.val / 2 := by omega
  have h2 : (256 * t.val + r.val) % 512 = 256 * (t.val % 2) + r.val := by omega
  refine congrArg (f _ · _ _) (Eq.trans ?_ (Cert.Adamw.pick_eq _ _ _ _).symm)
  simp only [ix3_1, ix3_2, h1, h2]

/-- The results' blocks cover their arrays. -/
theorem cover : ((cfgM m (ok m)).win 5).Covers :=
  (by decide +kernel : ((cfg0 (F := Ideal) ⟨fun | ⟨0, _⟩ => fun _ => (0#32 : BitVec 32), trivial⟩).win 5).Covers)

/-- The blocks' results are the step's. -/
theorem outs (t : Fin (cfgM m (ok m)).N) (r : Fin 256) (l : Fin 640) :
    (outsAt0 m (ok m) c t).1 (ix3 (0 : Fin 1) r l) = out m c (fun _ g _ _ => g) ((((cfgM m (ok m)).win 0).blk t).view.emb (ix3 (0 : Fin 1) r l))
    ∧ (outsAt0 m (ok m) c t).2.1 (ix3 (0 : Fin 1) r l) = out m c Cert.Adamw.delta ((((cfgM m (ok m)).win 0).blk t).view.emb (ix3 (0 : Fin 1) r l))
    ∧ (outsAt0 m (ok m) c t).2.2.1 (ix3 (0 : Fin 1) r l) = out m c (fun _ g m _ => Cert.Adamw.mean g m) ((((cfgM m (ok m)).win 0).blk t).view.emb (ix3 (0 : Fin 1) r l))
    ∧ (outsAt0 m (ok m) c t).2.2.2 (ix3 (0 : Fin 1) r l) = out m c (fun _ g _ v => Cert.Adamw.square g v) ((((cfgM m (ok m)).win 0).blk t).view.emb (ix3 (0 : Fin 1) r l)) := by
  refine ⟨Eq.trans ?_ (cell m c _ t r l _ (word (tbl m 0) (by decide))), Eq.trans ?_ (cell m c _ t r l _ (word (tbl m 0) (by decide))), Eq.trans ?_ (cell m c _ t r l _ (word (tbl m 0) (by decide))), Eq.trans ?_ (cell m c _ t r l _ (word (tbl m 0) (by decide)))⟩ <;> rw [outsAt0]
  all_goals
    obtain ⟨x0, h0⟩ : ∃ x : Vec Ideal S1x256x640 .f32, iblk m (ok m) c 0 t = x := ⟨_, rfl⟩
    obtain ⟨x1, h1⟩ : ∃ x : Vec Ideal S256x640 .f32, iblk m (ok m) c 1 t = x := ⟨_, rfl⟩
    obtain ⟨x2, h2⟩ : ∃ x : Vec Ideal S256x640 .f32, iblk m (ok m) c 2 t = x := ⟨_, rfl⟩
    obtain ⟨x3, h3⟩ : ∃ x : Vec Ideal S1x256x640 .f32, iblk m (ok m) c 3 t = x := ⟨_, rfl⟩
    obtain ⟨x4, h4⟩ : ∃ x : Vec Ideal S1x256x640 .f32, iblk m (ok m) c 4 t = x := ⟨_, rfl⟩
    rw [h0, h1, h2, h3, h4]
    dsimp only
    frame_out
    pointwise [k0_pay1, k0_pay2, k0_pay3, k0_pay4, k0_pay5, k0_pay6, k0_pay7, k0_pay8] <;> rfl

/-- The kernel's results are the step's. -/
theorem finals : (dats m (ok m) 0 c).arrAt 5 (cfgM m (ok m)).N = out m c (fun _ g _ _ => g)
    ∧ (dats m (ok m) 0 c).arrAt 6 (cfgM m (ok m)).N = out m c Cert.Adamw.delta
    ∧ (dats m (ok m) 0 c).arrAt 7 (cfgM m (ok m)).N = out m c (fun _ g m _ => Cert.Adamw.mean g m)
    ∧ (dats m (ok m) 0 c).arrAt 8 (cfgM m (ok m)).N = out m c (fun _ g _ v => Cert.Adamw.square g v) := by
  have hy (y : S1x256x640.Idx) : y = ix3 (0 : Fin 1) (y 1 : Fin 256) (y 2 : Fin 640) :=
    (eq_ix3 y).trans (congrArg (ix3 · _ _) (@Subsingleton.elim (Fin 1) _ (y 0) 0))
  refine ⟨(dats m (ok m) 0 c).arrAt_eq_of_covers 5 _ (cover m) fun t hf (y : S1x256x640.Idx) => ?_, (dats m (ok m) 0 c).arrAt_eq_of_covers 6 _ (cover m) fun t hf (y : S1x256x640.Idx) => ?_,
    (dats m (ok m) 0 c).arrAt_eq_of_covers 7 _ (cover m) fun t hf (y : S1x256x640.Idx) => ?_, (dats m (ok m) 0 c).arrAt_eq_of_covers 8 _ (cover m) fun t hf (y : S1x256x640.Idx) => ?_⟩ <;>
    rw [hy y]
  · exact (congrFun (after0_5 m (ok m) c t) _).trans (outs m c t _ _).1
  · exact (congrFun (after0_6 m (ok m) c t) _).trans (outs m c t _ _).2.1
  · exact (congrFun (after0_7 m (ok m) c t) _).trans (outs m c t _ _).2.2.1
  · exact (congrFun (after0_8 m (ok m) c t) _).trans (outs m c t _ _).2.2.2

end Cert.AdamwInZeroIdeal.Product

namespace Cert.AdamwInZeroReferenceIdeal.Product

open Cert.AdamwInZeroReferenceIdeal Cert.AdamwInZeroReferenceIdeal.Read
open Idealize.ShloMosaic Idealize.ShloMosaic.TcCoe
open Idealize.SL.Sem

/-- The reference's first result is the gradient. -/
theorem grad (x1 x2 : FVec Ideal S512x640 .f32) (x5 : IVec S1 32) : val_main_v7 (F := Ideal) x1 x2 x5 = Cert.Adamw.grad x1 x2 x5 := by
  funext i
  obtain ⟨z, r, l, rfl⟩ : ∃ (z : Fin 1) (r : Fin 1024) (l : Fin 640), i = ix3 z r l := ⟨i 0, i 1, i 2, eq_ix3 i⟩
  pointwise [val_main_v7, val_main_v6, val_main_v5, val_main_v4, val_main_v3, val_main_v2, val_main_v1, val_main_v0, val_main_c, val_main_c_0]
  unfold Cert.Adamw.grad Cert.Adamw.pick
  simp only [ix3_1, ix3_2]
  split_ifs with h
  · simp only [show r.val / 512 = 0 by omega, show r.val % 512 = r.val by omega]
  · simp only [show r.val / 512 = 1 by omega, show r.val % 512 = r.val - 512 by omega]
  · exact absurd rfl ‹_›

/-- The reference's results are the step's. -/
theorem finals (x0 : FVec Ideal S1x1024x640 .f32) (x1 x2 : FVec Ideal S512x640 .f32) (x3 x4 : FVec Ideal S1x1024x640 .f32) (x5 : IVec S1 32) :
    val_main_v31 (F := Ideal) x0 x1 x2 x3 x4 x5 = Cert.Adamw.step Cert.Adamw.delta x0 x1 x2 x3 x4 x5
    ∧ val_main_v12 (F := Ideal) x1 x2 x3 x5 = Cert.Adamw.step (fun _ g m _ => Cert.Adamw.mean g m) x0 x1 x2 x3 x4 x5
    ∧ val_main_v18 (F := Ideal) x1 x2 x4 x5 = Cert.Adamw.step (fun _ g _ v => Cert.Adamw.square g v) x0 x1 x2 x3 x4 x5 := by
  refine ⟨funext fun i => ?_, funext fun i => ?_, funext fun i => ?_⟩ <;>
    pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_1, val_main_cst_2, val_main_cst_3, val_main_cst_4, val_main_cst_5, val_main_cst_6, val_main_cst_7, val_main_cst_8, grad] <;>
    rfl

end Cert.AdamwInZeroReferenceIdeal.Product

namespace Cert.AdamwInZeroIdeal.Product

open Idealize.ShloMosaic Idealize.ShloMosaic.TcCoe
open Idealize.SL.Sem

/-- The blocked step is the step. -/
theorem algebraic : Cert.algebraic_AdamwInZeroIdeal_AdamwInZeroReferenceIdeal := by
  intro m g m' g' _ hm
  refine ⟨fun c => out m c fun _ g _ _ => g, fun c => out m c Cert.Adamw.delta, fun c => out m c fun _ g m _ => Cert.Adamw.mean g m, fun c => out m c fun _ g _ v => Cert.Adamw.square g v,
    (θ_run (defs (F := Ideal)) _ _).mono (fun r h c => ⟨(h.1.out_eq c 5).trans (finals m c).1, (h.1.out_eq c 6).trans (finals m c).2.1, (h.1.out_eq c 7).trans (finals m c).2.2.1, (h.1.out_eq c 8).trans (finals m c).2.2.2, h.2.1 c⟩)
      (θ_run_and (Gen.run_main m g (ok m)) (Gen.frame m g (ok m))),
    (θ_run (Cert.AdamwInZeroReferenceIdeal.defs (F := Ideal)) _ _).mono (fun r h c => ?_) (Cert.AdamwInZeroReferenceIdeal.Value.run (F := Ideal) m' g')⟩
  obtain ⟨e0, e1, e2, e3, ea⟩ := h c
  obtain ⟨m0, m1, m2, m3, m4, m5⟩ := hm c
  rw [Cert.AdamwInZeroReferenceIdeal.Read.val_main_v7_eq] at e0
  rw [Cert.AdamwInZeroReferenceIdeal.Read.val_main_v31_eq] at e1
  rw [Cert.AdamwInZeroReferenceIdeal.Read.val_main_v12_eq] at e2
  rw [Cert.AdamwInZeroReferenceIdeal.Read.val_main_v18_eq] at e3
  rw [m0, m1, m2, m3, m4, m5] at e1
  rw [m1, m2, m3, m5] at e2
  rw [m1, m2, m4, m5] at e3
  rw [m1, m2, m5, Cert.AdamwInZeroReferenceIdeal.Product.grad] at e0
  obtain ⟨f1, f2, f3⟩ := Cert.AdamwInZeroReferenceIdeal.Product.finals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
  exact ⟨e0, e1.trans f1, e2.trans f2, e3.trans f3, ea⟩

end Cert.AdamwInZeroIdeal.Product

end
-- ==== Proof.AdamwInOne.lean ====
/- The optimiser's step on the second mixer's input weights: the blocked step is the step. -/
module

public import proofs.«01_k».proof.Defs
public import proofs.«01_k».proof.Proof.Gen.AdamwInOneIdeal
public import proofs.«01_k».proof.Proof.Gen.AdamwInOneReferenceIdeal
public import proofs.«01_k».proof.Proof.Gen.AdamwInOneIdeal.Frame
public import proofs.«01_k».proof.Proof.Gen.AdamwInOneReferenceIdeal.Run
public import proofs.«01_k».proof.Proof.Gen.AdamwInOneReferenceIdeal.Read
public import proofs.«01_k».proof.Proof.Adamw
public import Idealize.ShloMosaic.Lib.Pipeline.ValueKit
public import Idealize.ShloMosaic.Lib.Pointwise
public import Idealize.ShloMosaic.Lib.IdealHost

@[expose] public section

set_option maxRecDepth 16384

noncomputable section

namespace Cert.AdamwInOneIdeal.Product

open Cert.AdamwInOneIdeal Cert.AdamwInOneIdeal.Gen
open Idealize.ShloMosaic Idealize.ShloMosaic.TcCoe
open Idealize.SL.Sem

variable (m : (ℓ : Loc nD τ sig) → Buf (Elt Ideal) ℓ) (c : Dev nD)

theorem N_lt (t : Fin grid0.N) : t.val < 4 := lt_of_lt_of_eq t.isLt (by decide +kernel)
theorem coord (t : Fin grid0.N) : (grid0.coords t 1).val = t.val / 2 := (by decide +kernel : ∀ t : Fin grid0.N, (grid0.coords t 1).val = t.val / 2) t
theorem whole (t : Fin grid0.N) : cc0_transform_0 (grid0.coords t) = ![0, t.val, 0] := (by decide +kernel : ∀ t : Fin grid0.N, cc0_transform_0 (grid0.coords t) = ![0, t.val, 0]) t
theorem half (t : Fin grid0.N) : cc0_transform_1 (grid0.coords t) = ![t.val % 2, 0] := (by decide +kernel : ∀ t : Fin grid0.N, cc0_transform_1 (grid0.coords t) = ![t.val % 2, 0]) t

theorem ok : Ok m := trivial

/-- A result, from the memory's arguments. -/
def out (f : EReal → EReal → EReal → EReal → EReal) : FVec Ideal S1x1024x642 .f32 :=
  Cert.Adamw.step f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem emb_whole (t : Fin (cfgM m (ok m)).N) (r : Fin 256) (l : Fin 642) :
    (((cfgM m (ok m)).win 0).blk t).view.emb (ix3 (0 : Fin 1) r l) = ix3 (0 : Fin 1) (⟨256 * t.val + r.val, by have := N_lt t; omega⟩ : Fin 1024) l := by
  have ht := N_lt t
  blk_ext
  · exact congrArg (· + 0) (congrFun (whole t) 0)
  · exact (congrArg (· * 256 + r.val) (congrFun (whole t) 1)).trans (by show t.val * 256 + r.val = _; omega)
  · exact (congrArg (· * 642 + l.val) (congrFun (whole t) 2)).trans (by show 0 * 642 + l.val = _; omega)
theorem emb_half (t : Fin (cfgM m (ok m)).N) (r : Fin 256) (l : Fin 642) :
    (((cfgM m (ok m)).win 1).blk t).view.emb (ix2 r l) = ix2 (⟨256 * (t.val % 2) + r.val, by have := N_lt t; omega⟩ : Fin 512) l := by
  have ht := N_lt t
  blk_ext
  · exact (congrArg (· * 256 + r.val) (congrFun (half t) 0)).trans (by show t.val % 2 * 256 + r.val = _; omega)
  · exact (congrArg (· * 642 + l.val) (congrFun (half t) 1)).trans (by show 0 * 642 + l.val = _; omega)

/-- The word read is the core's index. -/
theorem word (T : IVec S1 32) (h) : View.readAt (Elt Ideal) (View.whole main_arg5) (Rect.unit ![0] ![1] inb_S1_S1_0).toLoadRect T (Shape.Idx.first h) = T (ix1 0) :=
  congrArg T (funext fun (k : Fin 1) => by
    obtain rfl : k = 0 := Subsingleton.elim _ _
    exact @Subsingleton.elim (Fin 1) _ _ _)

/-- The results at a block's element, from the blocks read. -/
theorem cell (f : EReal → EReal → EReal → EReal → EReal) (t : Fin (cfgM m (ok m)).N) (r : Fin 256) (l : Fin 642) (w : BitVec 32) (hw : w = tbl m 0 (ix1 0)) :
    f (iblk m (ok m) c 0 t (ix3 (0 : Fin 1) r l))
      (Scalar.select (Scalar.cmpi .eq (BitVec.ofNat 32 (grid0.coords t 1).val) w) (iblk m (ok m) c 1 t (ix2 r l)) (iblk m (ok m) c 2 t (ix2 r l)))
      (iblk m (ok m) c 3 t (ix3 (0 : Fin 1) r l)) (iblk m (ok m) c 4 t (ix3 (0 : Fin 1) r l))
    = out m c f ((((cfgM m (ok m)).win 0).blk t).view.emb (ix3 (0 : Fin 1) r l)) := by
  have ht := N_lt t
  have e0 : iblk m (ok m) c 0 t (ix3 (0 : Fin 1) r l) = m ((c : Thread nD τ).loc main_arg0) _ := congrArg (V m c main_arg0) (emb_whole m t r l)
  have e1 : iblk m (ok m) c 1 t (ix2 r l) = m ((c : Thread nD τ).loc main_arg1) _ := congrArg (V m c main_arg1) (emb_half m t r l)
  have e2 : iblk m (ok m) c 2 t (ix2 r l) = m ((c : Thread nD τ).loc main_arg2) _ := congrArg (V m c main_arg2) (emb_half m t r l)
  have e3 : iblk m (ok m) c 3 t (ix3 (0 : Fin 1) r l) = m ((c : Thread nD τ).loc main_arg3) _ := congrArg (V m c main_arg3) (emb_whole m t r l)
  have e4 : iblk m (ok m) c 4 t (ix3 (0 : Fin 1) r l) = m ((c : Thread nD τ).loc main_arg4) _ := congrArg (V m c main_arg4) (emb_whole m t r l)
  rw [e0, e1, e2, e3, e4, hw, show tbl m 0 = m ((c : Thread nD τ).loc main_arg5) from (V_pre m c 0).symm, emb_whole, coord]
  have h1 : (256 * t.val + r.val) / 512 = t.val / 2 := by omega
  have h2 : (256 * t.val + r.val) % 512 = 256 * (t.val % 2) + r.val := by omega
  refine congrArg (f _ · _ _) (Eq.trans ?_ (Cert.Adamw.pick_eq _ _ _ _).symm)
  simp only [ix3_1, ix3_2, h1, h2]

/-- The results' blocks cover their arrays. -/
theorem cover : ((cfgM m (ok m)).win 5).Covers :=
  (by decide +kernel : ((cfg0 (F := Ideal) ⟨fun | ⟨0, _⟩ => fun _ => (0#32 : BitVec 32), trivial⟩).win 5).Covers)

/-- The blocks' results are the step's. -/
theorem outs (t : Fin (cfgM m (ok m)).N) (r : Fin 256) (l : Fin 642) :
    (outsAt0 m (ok m) c t).1 (ix3 (0 : Fin 1) r l) = out m c (fun _ g _ _ => g) ((((cfgM m (ok m)).win 0).blk t).view.emb (ix3 (0 : Fin 1) r l))
    ∧ (outsAt0 m (ok m) c t).2.1 (ix3 (0 : Fin 1) r l) = out m c Cert.Adamw.delta ((((cfgM m (ok m)).win 0).blk t).view.emb (ix3 (0 : Fin 1) r l))
    ∧ (outsAt0 m (ok m) c t).2.2.1 (ix3 (0 : Fin 1) r l) = out m c (fun _ g m _ => Cert.Adamw.mean g m) ((((cfgM m (ok m)).win 0).blk t).view.emb (ix3 (0 : Fin 1) r l))
    ∧ (outsAt0 m (ok m) c t).2.2.2 (ix3 (0 : Fin 1) r l) = out m c (fun _ g _ v => Cert.Adamw.square g v) ((((cfgM m (ok m)).win 0).blk t).view.emb (ix3 (0 : Fin 1) r l)) := by
  refine ⟨Eq.trans ?_ (cell m c _ t r l _ (word (tbl m 0) (by decide))), Eq.trans ?_ (cell m c _ t r l _ (word (tbl m 0) (by decide))), Eq.trans ?_ (cell m c _ t r l _ (word (tbl m 0) (by decide))), Eq.trans ?_ (cell m c _ t r l _ (word (tbl m 0) (by decide)))⟩ <;> rw [outsAt0]
  all_goals
    obtain ⟨x0, h0⟩ : ∃ x : Vec Ideal S1x256x642 .f32, iblk m (ok m) c 0 t = x := ⟨_, rfl⟩
    obtain ⟨x1, h1⟩ : ∃ x : Vec Ideal S256x642 .f32, iblk m (ok m) c 1 t = x := ⟨_, rfl⟩
    obtain ⟨x2, h2⟩ : ∃ x : Vec Ideal S256x642 .f32, iblk m (ok m) c 2 t = x := ⟨_, rfl⟩
    obtain ⟨x3, h3⟩ : ∃ x : Vec Ideal S1x256x642 .f32, iblk m (ok m) c 3 t = x := ⟨_, rfl⟩
    obtain ⟨x4, h4⟩ : ∃ x : Vec Ideal S1x256x642 .f32, iblk m (ok m) c 4 t = x := ⟨_, rfl⟩
    rw [h0, h1, h2, h3, h4]
    dsimp only
    frame_out
    pointwise [k0_pay1, k0_pay2, k0_pay3, k0_pay4, k0_pay5, k0_pay6, k0_pay7, k0_pay8] <;> rfl

/-- The kernel's results are the step's. -/
theorem finals : (dats m (ok m) 0 c).arrAt 5 (cfgM m (ok m)).N = out m c (fun _ g _ _ => g)
    ∧ (dats m (ok m) 0 c).arrAt 6 (cfgM m (ok m)).N = out m c Cert.Adamw.delta
    ∧ (dats m (ok m) 0 c).arrAt 7 (cfgM m (ok m)).N = out m c (fun _ g m _ => Cert.Adamw.mean g m)
    ∧ (dats m (ok m) 0 c).arrAt 8 (cfgM m (ok m)).N = out m c (fun _ g _ v => Cert.Adamw.square g v) := by
  have hy (y : S1x256x642.Idx) : y = ix3 (0 : Fin 1) (y 1 : Fin 256) (y 2 : Fin 642) :=
    (eq_ix3 y).trans (congrArg (ix3 · _ _) (@Subsingleton.elim (Fin 1) _ (y 0) 0))
  refine ⟨(dats m (ok m) 0 c).arrAt_eq_of_covers 5 _ (cover m) fun t hf (y : S1x256x642.Idx) => ?_, (dats m (ok m) 0 c).arrAt_eq_of_covers 6 _ (cover m) fun t hf (y : S1x256x642.Idx) => ?_,
    (dats m (ok m) 0 c).arrAt_eq_of_covers 7 _ (cover m) fun t hf (y : S1x256x642.Idx) => ?_, (dats m (ok m) 0 c).arrAt_eq_of_covers 8 _ (cover m) fun t hf (y : S1x256x642.Idx) => ?_⟩ <;>
    rw [hy y]
  · exact (congrFun (after0_5 m (ok m) c t) _).trans (outs m c t _ _).1
  · exact (congrFun (after0_6 m (ok m) c t) _).trans (outs m c t _ _).2.1
  · exact (congrFun (after0_7 m (ok m) c t) _).trans (outs m c t _ _).2.2.1
  · exact (congrFun (after0_8 m (ok m) c t) _).trans (outs m c t _ _).2.2.2

end Cert.AdamwInOneIdeal.Product

namespace Cert.AdamwInOneReferenceIdeal.Product

open Cert.AdamwInOneReferenceIdeal Cert.AdamwInOneReferenceIdeal.Read
open Idealize.ShloMosaic Idealize.ShloMosaic.TcCoe
open Idealize.SL.Sem

/-- The reference's first result is the gradient. -/
theorem grad (x1 x2 : FVec Ideal S512x642 .f32) (x5 : IVec S1 32) : val_main_v7 (F := Ideal) x1 x2 x5 = Cert.Adamw.grad x1 x2 x5 := by
  funext i
  obtain ⟨z, r, l, rfl⟩ : ∃ (z : Fin 1) (r : Fin 1024) (l : Fin 642), i = ix3 z r l := ⟨i 0, i 1, i 2, eq_ix3 i⟩
  pointwise [val_main_v7, val_main_v6, val_main_v5, val_main_v4, val_main_v3, val_main_v2, val_main_v1, val_main_v0, val_main_c, val_main_c_0]
  unfold Cert.Adamw.grad Cert.Adamw.pick
  simp only [ix3_1, ix3_2]
  split_ifs with h
  · simp only [show r.val / 512 = 0 by omega, show r.val % 512 = r.val by omega]
  · simp only [show r.val / 512 = 1 by omega, show r.val % 512 = r.val - 512 by omega]
  · exact absurd rfl ‹_›

/-- The reference's results are the step's. -/
theorem finals (x0 : FVec Ideal S1x1024x642 .f32) (x1 x2 : FVec Ideal S512x642 .f32) (x3 x4 : FVec Ideal S1x1024x642 .f32) (x5 : IVec S1 32) :
    val_main_v31 (F := Ideal) x0 x1 x2 x3 x4 x5 = Cert.Adamw.step Cert.Adamw.delta x0 x1 x2 x3 x4 x5
    ∧ val_main_v12 (F := Ideal) x1 x2 x3 x5 = Cert.Adamw.step (fun _ g m _ => Cert.Adamw.mean g m) x0 x1 x2 x3 x4 x5
    ∧ val_main_v18 (F := Ideal) x1 x2 x4 x5 = Cert.Adamw.step (fun _ g _ v => Cert.Adamw.square g v) x0 x1 x2 x3 x4 x5 := by
  refine ⟨funext fun i => ?_, funext fun i => ?_, funext fun i => ?_⟩ <;>
    pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_1, val_main_cst_2, val_main_cst_3, val_main_cst_4, val_main_cst_5, val_main_cst_6, val_main_cst_7, val_main_cst_8, grad] <;>
    rfl

end Cert.AdamwInOneReferenceIdeal.Product

namespace Cert.AdamwInOneIdeal.Product

open Idealize.ShloMosaic Idealize.ShloMosaic.TcCoe
open Idealize.SL.Sem

/-- The blocked step is the step. -/
theorem algebraic : Cert.algebraic_AdamwInOneIdeal_AdamwInOneReferenceIdeal := by
  intro m g m' g' _ hm
  refine ⟨fun c => out m c fun _ g _ _ => g, fun c => out m c Cert.Adamw.delta, fun c => out m c fun _ g m _ => Cert.Adamw.mean g m, fun c => out m c fun _ g _ v => Cert.Adamw.square g v,
    (θ_run (defs (F := Ideal)) _ _).mono (fun r h c => ⟨(h.1.out_eq c 5).trans (finals m c).1, (h.1.out_eq c 6).trans (finals m c).2.1, (h.1.out_eq c 7).trans (finals m c).2.2.1, (h.1.out_eq c 8).trans (finals m c).2.2.2, h.2.1 c⟩)
      (θ_run_and (Gen.run_main m g (ok m)) (Gen.frame m g (ok m))),
    (θ_run (Cert.AdamwInOneReferenceIdeal.defs (F := Ideal)) _ _).mono (fun r h c => ?_) (Cert.AdamwInOneReferenceIdeal.Value.run (F := Ideal) m' g')⟩
  obtain ⟨e0, e1, e2, e3, ea⟩ := h c
  obtain ⟨m0, m1, m2, m3, m4, m5⟩ := hm c
  rw [Cert.AdamwInOneReferenceIdeal.Read.val_main_v7_eq] at e0
  rw [Cert.AdamwInOneReferenceIdeal.Read.val_main_v31_eq] at e1
  rw [Cert.AdamwInOneReferenceIdeal.Read.val_main_v12_eq] at e2
  rw [Cert.AdamwInOneReferenceIdeal.Read.val_main_v18_eq] at e3
  rw [m0, m1, m2, m3, m4, m5] at e1
  rw [m1, m2, m3, m5] at e2
  rw [m1, m2, m4, m5] at e3
  rw [m1, m2, m5, Cert.AdamwInOneReferenceIdeal.Product.grad] at e0
  obtain ⟨f1, f2, f3⟩ := Cert.AdamwInOneReferenceIdeal.Product.finals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
  exact ⟨e0, e1.trans f1, e2.trans f2, e3.trans f3, ea⟩

end Cert.AdamwInOneIdeal.Product

end
-- ==== Proof.AdamwUp.lean ====
/- The optimiser's step on the feed-forward blocks' first weights, a pair of layers: the blocked step is the step. -/
module

public import proofs.«01_k».proof.Defs
public import proofs.«01_k».proof.Proof.Gen.AdamwUpIdeal
public import proofs.«01_k».proof.Proof.Gen.AdamwUpReferenceIdeal
public import proofs.«01_k».proof.Proof.Gen.AdamwUpIdeal.Frame
public import proofs.«01_k».proof.Proof.Gen.AdamwUpReferenceIdeal.Run
public import proofs.«01_k».proof.Proof.Gen.AdamwUpReferenceIdeal.Read
public import proofs.«01_k».proof.Proof.Adamw
public import Idealize.ShloMosaic.Lib.Pipeline.ValueKit
public import Idealize.ShloMosaic.Lib.Pointwise
public import Idealize.ShloMosaic.Lib.IdealHost

@[expose] public section

set_option maxRecDepth 16384

noncomputable section

namespace Cert.AdamwUpIdeal.Product

open Cert.AdamwUpIdeal Cert.AdamwUpIdeal.Gen
open Idealize.ShloMosaic Idealize.ShloMosaic.TcCoe
open Idealize.SL.Sem

variable (m : (ℓ : Loc nD τ sig) → Buf (Elt Ideal) ℓ) (c : Dev nD)

theorem N_lt (t : Fin grid0.N) : t.val < 8 := lt_of_lt_of_eq t.isLt (by decide +kernel)
theorem coord (t : Fin grid0.N) : (grid0.coords t 0).val = t.val / 4 ∧ (grid0.coords t 1).val = t.val / 2 % 2 := (by decide +kernel : ∀ t : Fin grid0.N, (grid0.coords t 0).val = t.val / 4 ∧ (grid0.coords t 1).val = t.val / 2 % 2) t
theorem whole (t : Fin grid0.N) : cc0_transform_0 (grid0.coords t) = ![t.val / 4, t.val % 4, 0] := (by decide +kernel : ∀ t : Fin grid0.N, cc0_transform_0 (grid0.coords t) = ![t.val / 4, t.val % 4, 0]) t
theorem half (t : Fin grid0.N) : cc0_transform_1 (grid0.coords t) = ![t.val % 2, 0] := (by decide +kernel : ∀ t : Fin grid0.N, cc0_transform_1 (grid0.coords t) = ![t.val % 2, 0]) t

theorem ok : Ok m := trivial

/-- A result, from the memory's arguments. -/
def out (f : EReal → EReal → EReal → EReal → EReal) : FVec Ideal S2x1024x1408 .f32 :=
  Cert.Adamw.stepPair f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem emb_whole (t : Fin (cfgM m (ok m)).N) (r : Fin 256) (l : Fin 1408) :
    (((cfgM m (ok m)).win 0).blk t).view.emb (ix3 (0 : Fin 1) r l) = ix3 (⟨t.val / 4, by have := N_lt t; omega⟩ : Fin 2) (⟨256 * (t.val % 4) + r.val, by omega⟩ : Fin 1024) l := by
  have ht := N_lt t
  blk_ext
  · exact congrArg (· + 0) (congrFun (whole t) 0)
  · exact (congrArg (· * 256 + r.val) (congrFun (whole t) 1)).trans (by show t.val % 4 * 256 + r.val = _; omega)
  · exact (congrArg (· * 1408 + l.val) (congrFun (whole t) 2)).trans (by show 0 * 1408 + l.val = _; omega)
theorem emb_half (t : Fin (cfgM m (ok m)).N) (r : Fin 256) (l : Fin 1408) :
    (((cfgM m (ok m)).win 1).blk t).view.emb (ix2 r l) = ix2 (⟨256 * (t.val % 2) + r.val, by omega⟩ : Fin 512) l := by
  have ht := N_lt t
  blk_ext
  · exact (congrArg (· * 256 + r.val) (congrFun (half t) 0)).trans (by show t.val % 2 * 256 + r.val = _; omega)
  · exact (congrArg (· * 1408 + l.val) (congrFun (half t) 1)).trans (by show 0 * 1408 + l.val = _; omega)

/-- The word read is the core's index. -/
theorem word (T : IVec S1 32) (h) : View.readAt (Elt Ideal) (View.whole main_arg7) (Rect.unit ![0] ![1] inb_S1_S1_0).toLoadRect T (Shape.Idx.first h) = T (ix1 0) :=
  congrArg T (funext fun (k : Fin 1) => by
    obtain rfl : k = 0 := Subsingleton.elim _ _
    exact @Subsingleton.elim (Fin 1) _ _ _)

/-- The results at a block's element, from the blocks read. -/
theorem cell (f : EReal → EReal → EReal → EReal → EReal) (t : Fin (cfgM m (ok m)).N) (r : Fin 256) (l : Fin 1408) (w : BitVec 32) (hw : w = tbl m 0 (ix1 0)) :
    f (iblk m (ok m) c 0 t (ix3 (0 : Fin 1) r l))
      (Scalar.select (Scalar.cmpi .eq (BitVec.ofNat 32 (grid0.coords t 0).val) 1#32)
        (Scalar.select (Scalar.cmpi .eq (BitVec.ofNat 32 (grid0.coords t 1).val) w) (iblk m (ok m) c 2 t (ix2 r l)) (iblk m (ok m) c 4 t (ix2 r l)))
        (Scalar.select (Scalar.cmpi .eq (BitVec.ofNat 32 (grid0.coords t 1).val) w) (iblk m (ok m) c 1 t (ix2 r l)) (iblk m (ok m) c 3 t (ix2 r l))))
      (iblk m (ok m) c 5 t (ix3 (0 : Fin 1) r l)) (iblk m (ok m) c 6 t (ix3 (0 : Fin 1) r l))
    = out m c f ((((cfgM m (ok m)).win 0).blk t).view.emb (ix3 (0 : Fin 1) r l)) := by
  have ht := N_lt t
  have e0 : iblk m (ok m) c 0 t (ix3 (0 : Fin 1) r l) = m ((c : Thread nD τ).loc main_arg0) _ := congrArg (V m c main_arg0) (emb_whole m t r l)
  have e1 : iblk m (ok m) c 1 t (ix2 r l) = m ((c : Thread nD τ).loc main_arg1) _ := congrArg (V m c main_arg1) (emb_half m t r l)
  have e2 : iblk m (ok m) c 2 t (ix2 r l) = m ((c : Thread nD τ).loc main_arg2) _ := congrArg (V m c main_arg2) (emb_half m t r l)
  have e3 : iblk m (ok m) c 3 t (ix2 r l) = m ((c : Thread nD τ).loc main_arg3) _ := congrArg (V m c main_arg3) (emb_half m t r l)
  have e4 : iblk m (ok m) c 4 t (ix2 r l) = m ((c : Thread nD τ).loc main_arg4) _ := congrArg (V m c main_arg4) (emb_half m t r l)
  have e5 : iblk m (ok m) c 5 t (ix3 (0 : Fin 1) r l) = m ((c : Thread nD τ).loc main_arg5) _ := congrArg (V m c main_arg5) (emb_whole m t r l)
  have e6 : iblk m (ok m) c 6 t (ix3 (0 : Fin 1) r l) = m ((c : Thread nD τ).loc main_arg6) _ := congrArg (V m c main_arg6) (emb_whole m t r l)
  have h1 : (256 * (t.val % 4) + r.val) / 512 = t.val / 2 % 2 := by omega
  have h2 : (256 * (t.val % 4) + r.val) % 512 = 256 * (t.val % 2) + r.val := by omega
  rw [e0, e1, e2, e3, e4, e5, e6, hw, show tbl m 0 = m ((c : Thread nD τ).loc main_arg7) from (V_pre m c 0).symm, emb_whole, (coord t).1, (coord t).2]
  simp only [out, Cert.Adamw.stepPair, Cert.Adamw.gradPair, Cert.Adamw.grad, Cert.Adamw.pick_eq, ix3_0, ix3_1, ix3_2, h1, h2]

/-- The results' blocks cover their arrays. -/
theorem cover : ((cfgM m (ok m)).win 7).Covers :=
  (by decide +kernel : ((cfg0 (F := Ideal) ⟨fun | ⟨0, _⟩ => fun _ => (0#32 : BitVec 32), trivial⟩).win 7).Covers)

/-- The blocks' results are the step's. -/
theorem outs (t : Fin (cfgM m (ok m)).N) (r : Fin 256) (l : Fin 1408) :
    (outsAt0 m (ok m) c t).1 (ix3 (0 : Fin 1) r l) = out m c (fun _ g _ _ => g) ((((cfgM m (ok m)).win 0).blk t).view.emb (ix3 (0 : Fin 1) r l))
    ∧ (outsAt0 m (ok m) c t).2.1 (ix3 (0 : Fin 1) r l) = out m c Cert.Adamw.delta ((((cfgM m (ok m)).win 0).blk t).view.emb (ix3 (0 : Fin 1) r l))
    ∧ (outsAt0 m (ok m) c t).2.2.1 (ix3 (0 : Fin 1) r l) = out m c (fun _ g m _ => Cert.Adamw.mean g m) ((((cfgM m (ok m)).win 0).blk t).view.emb (ix3 (0 : Fin 1) r l))
    ∧ (outsAt0 m (ok m) c t).2.2.2 (ix3 (0 : Fin 1) r l) = out m c (fun _ g _ v => Cert.Adamw.square g v) ((((cfgM m (ok m)).win 0).blk t).view.emb (ix3 (0 : Fin 1) r l)) := by
  refine ⟨Eq.trans ?_ (cell m c _ t r l _ (word (tbl m 0) (by decide))), Eq.trans ?_ (cell m c _ t r l _ (word (tbl m 0) (by decide))), Eq.trans ?_ (cell m c _ t r l _ (word (tbl m 0) (by decide))), Eq.trans ?_ (cell m c _ t r l _ (word (tbl m 0) (by decide)))⟩ <;> rw [outsAt0]
  all_goals
    obtain ⟨x0, h0⟩ : ∃ x : Vec Ideal S1x256x1408 .f32, iblk m (ok m) c 0 t = x := ⟨_, rfl⟩
    obtain ⟨x1, h1⟩ : ∃ x : Vec Ideal S256x1408 .f32, iblk m (ok m) c 1 t = x := ⟨_, rfl⟩
    obtain ⟨x2, h2⟩ : ∃ x : Vec Ideal S256x1408 .f32, iblk m (ok m) c 2 t = x := ⟨_, rfl⟩
    obtain ⟨x3, h3⟩ : ∃ x : Vec Ideal S256x1408 .f32, iblk m (ok m) c 3 t = x := ⟨_, rfl⟩
    obtain ⟨x4, h4⟩ : ∃ x : Vec Ideal S256x1408 .f32, iblk m (ok m) c 4 t = x := ⟨_, rfl⟩
    obtain ⟨x5, h5⟩ : ∃ x : Vec Ideal S1x256x1408 .f32, iblk m (ok m) c 5 t = x := ⟨_, rfl⟩
    obtain ⟨x6, h6⟩ : ∃ x : Vec Ideal S1x256x1408 .f32, iblk m (ok m) c 6 t = x := ⟨_, rfl⟩
    rw [h0, h1, h2, h3, h4, h5, h6]
    dsimp only
    frame_out
    pointwise [k0_pay1, k0_pay2, k0_pay3, k0_pay4, k0_pay5, k0_pay6, k0_pay7, k0_pay8, k0_pay9] <;> rfl

/-- The kernel's results are the step's. -/
theorem finals : (dats m (ok m) 0 c).arrAt 7 (cfgM m (ok m)).N = out m c (fun _ g _ _ => g)
    ∧ (dats m (ok m) 0 c).arrAt 8 (cfgM m (ok m)).N = out m c Cert.Adamw.delta
    ∧ (dats m (ok m) 0 c).arrAt 9 (cfgM m (ok m)).N = out m c (fun _ g m _ => Cert.Adamw.mean g m)
    ∧ (dats m (ok m) 0 c).arrAt 10 (cfgM m (ok m)).N = out m c (fun _ g _ v => Cert.Adamw.square g v) := by
  have hy (y : S1x256x1408.Idx) : y = ix3 (0 : Fin 1) (y 1 : Fin 256) (y 2 : Fin 1408) :=
    (eq_ix3 y).trans (congrArg (ix3 · _ _) (@Subsingleton.elim (Fin 1) _ (y 0) 0))
  refine ⟨(dats m (ok m) 0 c).arrAt_eq_of_covers 7 _ (cover m) fun t hf (y : S1x256x1408.Idx) => ?_, (dats m (ok m) 0 c).arrAt_eq_of_covers 8 _ (cover m) fun t hf (y : S1x256x1408.Idx) => ?_,
    (dats m (ok m) 0 c).arrAt_eq_of_covers 9 _ (cover m) fun t hf (y : S1x256x1408.Idx) => ?_, (dats m (ok m) 0 c).arrAt_eq_of_covers 10 _ (cover m) fun t hf (y : S1x256x1408.Idx) => ?_⟩ <;>
    rw [hy y]
  · exact (congrFun (after0_7 m (ok m) c t) _).trans (outs m c t _ _).1
  · exact (congrFun (after0_8 m (ok m) c t) _).trans (outs m c t _ _).2.1
  · exact (congrFun (after0_9 m (ok m) c t) _).trans (outs m c t _ _).2.2.1
  · exact (congrFun (after0_10 m (ok m) c t) _).trans (outs m c t _ _).2.2.2

end Cert.AdamwUpIdeal.Product

namespace Cert.AdamwUpReferenceIdeal.Product

open Cert.AdamwUpReferenceIdeal Cert.AdamwUpReferenceIdeal.Read
open Idealize.ShloMosaic Idealize.ShloMosaic.TcCoe
open Idealize.SL.Sem

/-- The reference's gradients, layer by layer and together. -/
theorem grad0 (x1 x3 : FVec Ideal S512x1408 .f32) (x7 : IVec S1 32) : val_main_v14 (F := Ideal) x1 x3 x7 = Cert.Adamw.grad x1 x3 x7 := by
  funext i
  obtain ⟨z, r, l, rfl⟩ : ∃ (z : Fin 1) (r : Fin 1024) (l : Fin 1408), i = ix3 z r l := ⟨i 0, i 1, i 2, eq_ix3 i⟩
  pointwise [val_main_v14, val_main_v6, val_main_v5, val_main_v4, val_main_v3, val_main_v2, val_main_v1, val_main_v0, val_main_c, val_main_c_0]
  unfold Cert.Adamw.grad Cert.Adamw.pick
  simp only [ix3_1, ix3_2]
  split_ifs with h
  · simp only [show r.val / 512 = 0 by omega, show r.val % 512 = r.val by omega]
  · simp only [show r.val / 512 = 1 by omega, show r.val % 512 = r.val - 512 by omega]
  · exact absurd rfl ‹_›
theorem grad1 (x2 x4 : FVec Ideal S512x1408 .f32) (x7 : IVec S1 32) : val_main_v15 (F := Ideal) x2 x4 x7 = Cert.Adamw.grad x2 x4 x7 := by
  funext i
  obtain ⟨z, r, l, rfl⟩ : ∃ (z : Fin 1) (r : Fin 1024) (l : Fin 1408), i = ix3 z r l := ⟨i 0, i 1, i 2, eq_ix3 i⟩
  pointwise [val_main_v15, val_main_v13, val_main_v12, val_main_v11, val_main_v10, val_main_v9, val_main_v8, val_main_v7, val_main_c_1, val_main_c_2]
  unfold Cert.Adamw.grad Cert.Adamw.pick
  simp only [ix3_1, ix3_2]
  split_ifs with h
  · simp only [show r.val / 512 = 0 by omega, show r.val % 512 = r.val by omega]
  · simp only [show r.val / 512 = 1 by omega, show r.val % 512 = r.val - 512 by omega]
  · exact absurd rfl ‹_›
theorem grad (x1 x2 x3 x4 : FVec Ideal S512x1408 .f32) (x7 : IVec S1 32) : val_main_v16 (F := Ideal) x1 x2 x3 x4 x7 = Cert.Adamw.gradPair x1 x2 x3 x4 x7 := by
  funext i
  obtain ⟨z, r, l, rfl⟩ : ∃ (z : Fin 2) (r : Fin 1024) (l : Fin 1408), i = ix3 z r l := ⟨i 0, i 1, i 2, eq_ix3 i⟩
  obtain rfl | rfl : z = 0 ∨ z = 1 := by omega
  all_goals
    pointwise [val_main_v16, grad0, grad1]
    rfl

/-- The reference's results are the step's. -/
theorem finals (x0 : FVec Ideal S2x1024x1408 .f32) (x1 x2 x3 x4 : FVec Ideal S512x1408 .f32) (x5 x6 : FVec Ideal S2x1024x1408 .f32) (x7 : IVec S1 32) :
    val_main_v40 (F := Ideal) x0 x1 x2 x3 x4 x5 x6 x7 = Cert.Adamw.stepPair Cert.Adamw.delta x0 x1 x2 x3 x4 x5 x6 x7
    ∧ val_main_v21 (F := Ideal) x1 x2 x3 x4 x5 x7 = Cert.Adamw.stepPair (fun _ g m _ => Cert.Adamw.mean g m) x0 x1 x2 x3 x4 x5 x6 x7
    ∧ val_main_v27 (F := Ideal) x1 x2 x3 x4 x6 x7 = Cert.Adamw.stepPair (fun _ g _ v => Cert.Adamw.square g v) x0 x1 x2 x3 x4 x5 x6 x7 := by
  refine ⟨funext fun i => ?_, funext fun i => ?_, funext fun i => ?_⟩ <;>
    pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst, val_main_cst_3, val_main_cst_4, val_main_cst_5, val_main_cst_6, val_main_cst_7, val_main_cst_8, val_main_cst_9, val_main_cst_10, grad] <;>
    rfl

end Cert.AdamwUpReferenceIdeal.Product

namespace Cert.AdamwUpIdeal.Product

open Idealize.ShloMosaic Idealize.ShloMosaic.TcCoe
open Idealize.SL.Sem

/-- The blocked step is the step. -/
theorem algebraic : Cert.algebraic_AdamwUpIdeal_AdamwUpReferenceIdeal := by
  intro m g m' g' _ hm
  refine ⟨fun c => out m c fun _ g _ _ => g, fun c => out m c Cert.Adamw.delta, fun c => out m c fun _ g m _ => Cert.Adamw.mean g m, fun c => out m c fun _ g _ v => Cert.Adamw.square g v,
    (θ_run (defs (F := Ideal)) _ _).mono (fun r h c => ⟨(h.1.out_eq c 7).trans (finals m c).1, (h.1.out_eq c 8).trans (finals m c).2.1, (h.1.out_eq c 9).trans (finals m c).2.2.1, (h.1.out_eq c 10).trans (finals m c).2.2.2, h.2.1 c⟩)
      (θ_run_and (Gen.run_main m g (ok m)) (Gen.frame m g (ok m))),
    (θ_run (Cert.AdamwUpReferenceIdeal.defs (F := Ideal)) _ _).mono (fun r h c => ?_) (Cert.AdamwUpReferenceIdeal.Value.run (F := Ideal) m' g')⟩
  obtain ⟨e0, e1, e2, e3, ea⟩ := h c
  obtain ⟨m0, m1, m2, m3, m4, m5, m6, m7⟩ := hm c
  rw [Cert.AdamwUpReferenceIdeal.Read.val_main_v16_eq] at e0
  rw [Cert.AdamwUpReferenceIdeal.Read.val_main_v40_eq] at e1
  rw [Cert.AdamwUpReferenceIdeal.Read.val_main_v21_eq] at e2
  rw [Cert.AdamwUpReferenceIdeal.Read.val_main_v27_eq] at e3
  rw [m0, m1, m2, m3, m4, m5, m6, m7] at e1
  rw [m1, m2, m3, m4, m5, m7] at e2
  rw [m1, m2, m3, m4, m6, m7] at e3
  rw [m1, m2, m3, m4, m7, Cert.AdamwUpReferenceIdeal.Product.grad] at e0
  obtain ⟨f1, f2, f3⟩ := Cert.AdamwUpReferenceIdeal.Product.finals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
  exact ⟨e0, e1.trans f1, e2.trans f2, e3.trans f3, ea⟩

end Cert.AdamwUpIdeal.Product

end
-- ==== Proof.AdamwDown.lean ====
/- The optimiser's step on the feed-forward blocks' second weights, a pair of layers: the blocked step is the step. -/
module

public import proofs.«01_k».proof.Defs
public import proofs.«01_k».proof.Proof.Gen.AdamwDownIdeal
public import proofs.«01_k».proof.Proof.Gen.AdamwDownReferenceIdeal
public import proofs.«01_k».proof.Proof.Gen.AdamwDownIdeal.Frame
public import proofs.«01_k».proof.Proof.Gen.AdamwDownReferenceIdeal.Run
public import proofs.«01_k».proof.Proof.Gen.AdamwDownReferenceIdeal.Read
public import proofs.«01_k».proof.Proof.Adamw
public import Idealize.ShloMosaic.Lib.Pipeline.ValueKit
public import Idealize.ShloMosaic.Lib.Pointwise
public import Idealize.ShloMosaic.Lib.IdealHost

@[expose] public section

set_option maxRecDepth 16384

noncomputable section

namespace Cert.AdamwDownIdeal.Product

open Cert.AdamwDownIdeal Cert.AdamwDownIdeal.Gen
open Idealize.ShloMosaic Idealize.ShloMosaic.TcCoe
open Idealize.SL.Sem

variable (m : (ℓ : Loc nD τ sig) → Buf (Elt Ideal) ℓ) (c : Dev nD)

theorem N_lt (t : Fin grid0.N) : t.val < 8 := lt_of_lt_of_eq t.isLt (by decide +kernel)
theorem coord (t : Fin grid0.N) : (grid0.coords t 0).val = t.val / 4 ∧ (grid0.coords t 1).val = t.val / 2 % 2 := (by decide +kernel : ∀ t : Fin grid0.N, (grid0.coords t 0).val = t.val / 4 ∧ (grid0.coords t 1).val = t.val / 2 % 2) t
theorem whole (t : Fin grid0.N) : cc0_transform_0 (grid0.coords t) = ![t.val / 4, t.val % 4, 0] := (by decide +kernel : ∀ t : Fin grid0.N, cc0_transform_0 (grid0.coords t) = ![t.val / 4, t.val % 4, 0]) t
theorem half (t : Fin grid0.N) : cc0_transform_1 (grid0.coords t) = ![t.val % 2, 0] := (by decide +kernel : ∀ t : Fin grid0.N, cc0_transform_1 (grid0.coords t) = ![t.val % 2, 0]) t

theorem ok : Ok m := trivial

/-- A result, from the memory's arguments. -/
def out (f : EReal → EReal → EReal → EReal → EReal) : FVec Ideal S2x704x1024 .f32 :=
  Cert.Adamw.stepPair f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem emb_whole (t : Fin (cfgM m (ok m)).N) (r : Fin 176) (l : Fin 1024) :
    (((cfgM m (ok m)).win 0).blk t).view.emb (ix3 (0 : Fin 1) r l) = ix3 (⟨t.val / 4, by have := N_lt t; omega⟩ : Fin 2) (⟨176 * (t.val % 4) + r.val, by omega⟩ : Fin 704) l := by
  have ht := N_lt t
  blk_ext
  · exact congrArg (· + 0) (congrFun (whole t) 0)
  · exact (congrArg (· * 176 + r.val) (congrFun (whole t) 1)).trans (by show t.val % 4 * 176 + r.val = _; omega)
  · exact (congrArg (· * 1024 + l.val) (congrFun (whole t) 2)).trans (by show 0 * 1024 + l.val = _; omega)
theorem emb_half (t : Fin (cfgM m (ok m)).N) (r : Fin 176) (l : Fin 1024) :
    (((cfgM m (ok m)).win 1).blk t).view.emb (ix2 r l) = ix2 (⟨176 * (t.val % 2) + r.val, by omega⟩ : Fin 352) l := by
  have ht := N_lt t
  blk_ext
  · exact (congrArg (· * 176 + r.val) (congrFun (half t) 0)).trans (by show t.val % 2 * 176 + r.val = _; omega)
  · exact (congrArg (· * 1024 + l.val) (congrFun (half t) 1)).trans (by show 0 * 1024 + l.val = _; omega)

/-- The word read is the core's index. -/
theorem word (T : IVec S1 32) (h) : View.readAt (Elt Ideal) (View.whole main_arg7) (Rect.unit ![0] ![1] inb_S1_S1_0).toLoadRect T (Shape.Idx.first h) = T (ix1 0) :=
  congrArg T (funext fun (k : Fin 1) => by
    obtain rfl : k = 0 := Subsingleton.elim _ _
    exact @Subsingleton.elim (Fin 1) _ _ _)

/-- The results at a block's element, from the blocks read. -/
theorem cell (f : EReal → EReal → EReal → EReal → EReal) (t : Fin (cfgM m (ok m)).N) (r : Fin 176) (l : Fin 1024) (w : BitVec 32) (hw : w = tbl m 0 (ix1 0)) :
    f (iblk m (ok m) c 0 t (ix3 (0 : Fin 1) r l))
      (Scalar.select (Scalar.cmpi .eq (BitVec.ofNat 32 (grid0.coords t 0).val) 1#32)
        (Scalar.select (Scalar.cmpi .eq (BitVec.ofNat 32 (grid0.coords t 1).val) w) (iblk m (ok m) c 2 t (ix2 r l)) (iblk m (ok m) c 4 t (ix2 r l)))
        (Scalar.select (Scalar.cmpi .eq (BitVec.ofNat 32 (grid0.coords t 1).val) w) (iblk m (ok m) c 1 t (ix2 r l)) (iblk m (ok m) c 3 t (ix2 r l))))
      (iblk m (ok m) c 5 t (ix3 (0 : Fin 1) r l)) (iblk m (ok m) c 6 t (ix3 (0 : Fin 1) r l))
    = out m c f ((((cfgM m (ok m)).win 0).blk t).view.emb (ix3 (0 : Fin 1) r l)) := by
  have ht := N_lt t
  have e0 : iblk m (ok m) c 0 t (ix3 (0 : Fin 1) r l) = m ((c : Thread nD τ).loc main_arg0) _ := congrArg (V m c main_arg0) (emb_whole m t r l)
  have e1 : iblk m (ok m) c 1 t (ix2 r l) = m ((c : Thread nD τ).loc main_arg1) _ := congrArg (V m c main_arg1) (emb_half m t r l)
  have e2 : iblk m (ok m) c 2 t (ix2 r l) = m ((c : Thread nD τ).loc main_arg2) _ := congrArg (V m c main_arg2) (emb_half m t r l)
  have e3 : iblk m (ok m) c 3 t (ix2 r l) = m ((c : Thread nD τ).loc main_arg3) _ := congrArg (V m c main_arg3) (emb_half m t r l)
  have e4 : iblk m (ok m) c 4 t (ix2 r l) = m ((c : Thread nD τ).loc main_arg4) _ := congrArg (V m c main_arg4) (emb_half m t r l)
  have e5 : iblk m (ok m) c 5 t (ix3 (0 : Fin 1) r l) = m ((c : Thread nD τ).loc main_arg5) _ := congrArg (V m c main_arg5) (emb_whole m t r l)
  have e6 : iblk m (ok m) c 6 t (ix3 (0 : Fin 1) r l) = m ((c : Thread nD τ).loc main_arg6) _ := congrArg (V m c main_arg6) (emb_whole m t r l)
  have h1 : (176 * (t.val % 4) + r.val) / 352 = t.val / 2 % 2 := by omega
  have h2 : (176 * (t.val % 4) + r.val) % 352 = 176 * (t.val % 2) + r.val := by omega
  rw [e0, e1, e2, e3, e4, e5, e6, hw, show tbl m 0 = m ((c : Thread nD τ).loc main_arg7) from (V_pre m c 0).symm, emb_whole, (coord t).1, (coord t).2]
  simp only [out, Cert.Adamw.stepPair, Cert.Adamw.gradPair, Cert.Adamw.grad, Cert.Adamw.pick_eq, ix3_0, ix3_1, ix3_2, h1, h2]

/-- The results' blocks cover their arrays. -/
theorem cover : ((cfgM m (ok m)).win 7).Covers :=
  (by decide +kernel : ((cfg0 (F := Ideal) ⟨fun | ⟨0, _⟩ => fun _ => (0#32 : BitVec 32), trivial⟩).win 7).Covers)

/-- The blocks' results are the step's. -/
theorem outs (t : Fin (cfgM m (ok m)).N) (r : Fin 176) (l : Fin 1024) :
    (outsAt0 m (ok m) c t).1 (ix3 (0 : Fin 1) r l) = out m c (fun _ g _ _ => g) ((((cfgM m (ok m)).win 0).blk t).view.emb (ix3 (0 : Fin 1) r l))
    ∧ (outsAt0 m (ok m) c t).2.1 (ix3 (0 : Fin 1) r l) = out m c Cert.Adamw.delta ((((cfgM m (ok m)).win 0).blk t).view.emb (ix3 (0 : Fin 1) r l))
    ∧ (outsAt0 m (ok m) c t).2.2.1 (ix3 (0 : Fin 1) r l) = out m c (fun _ g m _ => Cert.Adamw.mean g m) ((((cfgM m (ok m)).win 0).blk t).view.emb (ix3 (0 : Fin 1) r l))
    ∧ (outsAt0 m (ok m) c t).2.2.2 (ix3 (0 : Fin 1) r l) = out m c (fun _ g _ v => Cert.Adamw.square g v) ((((cfgM m (ok m)).win 0).blk t).view.emb (ix3 (0 : Fin 1) r l)) := by
  refine ⟨Eq.trans ?_ (cell m c _ t r l _ (word (tbl m 0) (by decide))), Eq.trans ?_ (cell m c _ t r l _ (word (tbl m 0) (by decide))), Eq.trans ?_ (cell m c _ t r l _ (word (tbl m 0) (by decide))), Eq.trans ?_ (cell m c _ t r l _ (word (tbl m 0) (by decide)))⟩ <;> rw [outsAt0]
  all_goals
    obtain ⟨x0, h0⟩ : ∃ x : Vec Ideal S1x176x1024 .f32, iblk m (ok m) c 0 t = x := ⟨_, rfl⟩
    obtain ⟨x1, h1⟩ : ∃ x : Vec Ideal S176x1024 .f32, iblk m (ok m) c 1 t = x := ⟨_, rfl⟩
    obtain ⟨x2, h2⟩ : ∃ x : Vec Ideal S176x1024 .f32, iblk m (ok m) c 2 t = x := ⟨_, rfl⟩
    obtain ⟨x3, h3⟩ : ∃ x : Vec Ideal S176x1024 .f32, iblk m (ok m) c 3 t = x := ⟨_, rfl⟩
    obtain ⟨x4, h4⟩ : ∃ x : Vec Ideal S176x1024 .f32, iblk m (ok m) c 4 t = x := ⟨_, rfl⟩
    obtain ⟨x5, h5⟩ : ∃ x : Vec Ideal S1x176x1024 .f32, iblk m (ok m) c 5 t = x := ⟨_, rfl⟩
    obtain ⟨x6, h6⟩ : ∃ x : Vec Ideal S1x176x1024 .f32, iblk m (ok m) c 6 t = x := ⟨_, rfl⟩
    rw [h0, h1, h2, h3, h4, h5, h6]
    dsimp only
    frame_out
    pointwise [k0_pay1, k0_pay2, k0_pay3, k0_pay4, k0_pay5, k0_pay6, k0_pay7, k0_pay8, k0_pay9] <;> rfl

/-- The kernel's results are the step's. -/
theorem finals : (dats m (ok m) 0 c).arrAt 7 (cfgM m (ok m)).N = out m c (fun _ g _ _ => g)
    ∧ (dats m (ok m) 0 c).arrAt 8 (cfgM m (ok m)).N = out m c Cert.Adamw.delta
    ∧ (dats m (ok m) 0 c).arrAt 9 (cfgM m (ok m)).N = out m c (fun _ g m _ => Cert.Adamw.mean g m)
    ∧ (dats m (ok m) 0 c).arrAt 10 (cfgM m (ok m)).N = out m c (fun _ g _ v => Cert.Adamw.square g v) := by
  have hy (y : S1x176x1024.Idx) : y = ix3 (0 : Fin 1) (y 1 : Fin 176) (y 2 : Fin 1024) :=
    (eq_ix3 y).trans (congrArg (ix3 · _ _) (@Subsingleton.elim (Fin 1) _ (y 0) 0))
  refine ⟨(dats m (ok m) 0 c).arrAt_eq_of_covers 7 _ (cover m) fun t hf (y : S1x176x1024.Idx) => ?_, (dats m (ok m) 0 c).arrAt_eq_of_covers 8 _ (cover m) fun t hf (y : S1x176x1024.Idx) => ?_,
    (dats m (ok m) 0 c).arrAt_eq_of_covers 9 _ (cover m) fun t hf (y : S1x176x1024.Idx) => ?_, (dats m (ok m) 0 c).arrAt_eq_of_covers 10 _ (cover m) fun t hf (y : S1x176x1024.Idx) => ?_⟩ <;>
    rw [hy y]
  · exact (congrFun (after0_7 m (ok m) c t) _).trans (outs m c t _ _).1
  · exact (congrFun (after0_8 m (ok m) c t) _).trans (outs m c t _ _).2.1
  · exact (congrFun (after0_9 m (ok m) c t) _).trans (outs m c t _ _).2.2.1
  · exact (congrFun (after0_10 m (ok m) c t) _).trans (outs m c t _ _).2.2.2

end Cert.AdamwDownIdeal.Product

namespace Cert.AdamwDownReferenceIdeal.Product

open Cert.AdamwDownReferenceIdeal Cert.AdamwDownReferenceIdeal.Read
open Idealize.ShloMosaic Idealize.ShloMosaic.TcCoe
open Idealize.SL.Sem

/-- The reference's gradients, layer by layer and together. -/
theorem grad0 (x1 x3 : FVec Ideal S352x1024 .f32) (x7 : IVec S1 32) : val_main_v14 (F := Ideal) x1 x3 x7 = Cert.Adamw.grad x1 x3 x7 := by
  funext i
  obtain ⟨z, r, l, rfl⟩ : ∃ (z : Fin 1) (r : Fin 704) (l : Fin 1024), i = ix3 z r l := ⟨i 0, i 1, i 2, eq_ix3 i⟩
  pointwise [val_main_v14, val_main_v6, val_main_v5, val_main_v4, val_main_v3, val_main_v2, val_main_v1, val_main_v0, val_main_c, val_main_c_0]
  unfold Cert.Adamw.grad Cert.Adamw.pick
  simp only [ix3_1, ix3_2]
  split_ifs with h
  · simp only [show r.val / 352 = 0 by omega, show r.val % 352 = r.val by omega]
  · simp only [show r.val / 352 = 1 by omega, show r.val % 352 = r.val - 352 by omega]
  · exact absurd rfl ‹_›
theorem grad1 (x2 x4 : FVec Ideal S352x1024 .f32) (x7 : IVec S1 32) : val_main_v15 (F := Ideal) x2 x4 x7 = Cert.Adamw.grad x2 x4 x7 := by
  funext i
  obtain ⟨z, r, l, rfl⟩ : ∃ (z : Fin 1) (r : Fin 704) (l : Fin 1024), i = ix3 z r l := ⟨i 0, i 1, i 2, eq_ix3 i⟩
  pointwise [val_main_v15, val_main_v13, val_main_v12, val_main_v11, val_main_v10, val_main_v9, val_main_v8, val_main_v7, val_main_c_1, val_main_c_2]
  unfold Cert.Adamw.grad Cert.Adamw.pick
  simp only [ix3_1, ix3_2]
  split_ifs with h
  · simp only [show r.val / 352 = 0 by omega, show r.val % 352 = r.val by omega]
  · simp only [show r.val / 352 = 1 by omega, show r.val % 352 = r.val - 352 by omega]
  · exact absurd rfl ‹_›
theorem grad (x1 x2 x3 x4 : FVec Ideal S352x1024 .f32) (x7 : IVec S1 32) : val_main_v16 (F := Ideal) x1 x2 x3 x4 x7 = Cert.Adamw.gradPair x1 x2 x3 x4 x7 := by
  funext i
  obtain ⟨z, r, l, rfl⟩ : ∃ (z : Fin 2) (r : Fin 704) (l : Fin 1024), i = ix3 z r l := ⟨i 0, i 1, i 2, eq_ix3 i⟩
  obtain rfl | rfl : z = 0 ∨ z = 1 := by omega
  all_goals
    pointwise [val_main_v16, grad0, grad1]
    rfl

/-- The reference's results are the step's. -/
theorem finals (x0 : FVec Ideal S2x704x1024 .f32) (x1 x2 x3 x4 : FVec Ideal S352x1024 .f32) (x5 x6 : FVec Ideal S2x704x1024 .f32) (x7 : IVec S1 32) :
    val_main_v40 (F := Ideal) x0 x1 x2 x3 x4 x5 x6 x7 = Cert.Adamw.stepPair Cert.Adamw.delta x0 x1 x2 x3 x4 x5 x6 x7
    ∧ val_main_v21 (F := Ideal) x1 x2 x3 x4 x5 x7 = Cert.Adamw.stepPair (fun _ g m _ => Cert.Adamw.mean g m) x0 x1 x2 x3 x4 x5 x6 x7
    ∧ val_main_v27 (F := Ideal) x1 x2 x3 x4 x6 x7 = Cert.Adamw.stepPair (fun _ g _ v => Cert.Adamw.square g v) x0 x1 x2 x3 x4 x5 x6 x7 := by
  refine ⟨funext fun i => ?_, funext fun i => ?_, funext fun i => ?_⟩ <;>
    pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst, val_main_cst_3, val_main_cst_4, val_main_cst_5, val_main_cst_6, val_main_cst_7, val_main_cst_8, val_main_cst_9, val_main_cst_10, grad] <;>
    rfl

end Cert.AdamwDownReferenceIdeal.Product

namespace Cert.AdamwDownIdeal.Product

open Idealize.ShloMosaic Idealize.ShloMosaic.TcCoe
open Idealize.SL.Sem

/-- The blocked step is the step. -/
theorem algebraic : Cert.algebraic_AdamwDownIdeal_AdamwDownReferenceIdeal := by
  intro m g m' g' _ hm
  refine ⟨fun c => out m c fun _ g _ _ => g, fun c => out m c Cert.Adamw.delta, fun c => out m c fun _ g m _ => Cert.Adamw.mean g m, fun c => out m c fun _ g _ v => Cert.Adamw.square g v,
    (θ_run (defs (F := Ideal)) _ _).mono (fun r h c => ⟨(h.1.out_eq c 7).trans (finals m c).1, (h.1.out_eq c 8).trans (finals m c).2.1, (h.1.out_eq c 9).trans (finals m c).2.2.1, (h.1.out_eq c 10).trans (finals m c).2.2.2, h.2.1 c⟩)
      (θ_run_and (Gen.run_main m g (ok m)) (Gen.frame m g (ok m))),
    (θ_run (Cert.AdamwDownReferenceIdeal.defs (F := Ideal)) _ _).mono (fun r h c => ?_) (Cert.AdamwDownReferenceIdeal.Value.run (F := Ideal) m' g')⟩
  obtain ⟨e0, e1, e2, e3, ea⟩ := h c
  obtain ⟨m0, m1, m2, m3, m4, m5, m6, m7⟩ := hm c
  rw [Cert.AdamwDownReferenceIdeal.Read.val_main_v16_eq] at e0
  rw [Cert.AdamwDownReferenceIdeal.Read.val_main_v40_eq] at e1
  rw [Cert.AdamwDownReferenceIdeal.Read.val_main_v21_eq] at e2
  rw [Cert.AdamwDownReferenceIdeal.Read.val_main_v27_eq] at e3
  rw [m0, m1, m2, m3, m4, m5, m6, m7] at e1
  rw [m1, m2, m3, m4, m5, m7] at e2
  rw [m1, m2, m3, m4, m6, m7] at e3
  rw [m1, m2, m3, m4, m7, Cert.AdamwDownReferenceIdeal.Product.grad] at e0
  obtain ⟨f1, f2, f3⟩ := Cert.AdamwDownReferenceIdeal.Product.finals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
  exact ⟨e0, e1.trans f1, e2.trans f2, e3.trans f3, ea⟩

end Cert.AdamwDownIdeal.Product

end
-- ==== Proof.KernelIdeal.Value.lean ====
module

public import proofs.«01_k».proof.Proof.KernelIdeal.Host

@[expose] public section

set_option maxRecDepth 16384

noncomputable section

namespace Cert.KernelIdeal.Fox

open Cert.KernelIdeal.Gen Cert.Fox
open Idealize.ShloMosaic Idealize.ShloMosaic.TcCoe
open Idealize.SL.Sem
open Finset (range)

/-! ## The results as the attention's gradient -/

section Real
variable (P G C : ℕ → ℕ → ℝ)
/-- A gate less the logarithm of its row's weight. -/
def rLb (h t : ℕ) : ℝ := C t h - (mx P C h t + Real.log (L P C (mx P C) h t))
/-- The pairs' weights and gradients are the heads'. -/
theorem pwj_eq (j p t s : ℕ) (hp : p < 2) (ht : t < 4096) : pwj P (rLb P C) (fun h s => C s h) j p t s = Y P C (mx P C) (2 * j + p) t s :=
  pw_eq P C (mx P C) j p t s hp ht
theorem pdj_eq (j p t s : ℕ) (hp : p < 2) (ht : t < 4096) : pdj P G (rLb P C) (Dl P G C (mx P C)) (fun h s => C s h) j p t s = D P G C (mx P C) (2 * j + p) t s :=
  pd_eq P G C (mx P C) j p t s hp ht
end Real

section
variable {m : (ℓ : Loc nD τ sig) → Buf (Elt Ideal) ℓ} {c : Dev nD} {P G C : ℕ → ℕ → ℝ}
variable (h0 : ∀ (t : Fin 4096) (a : Fin 2688), 1024 ≤ a.val → a.val < 2560 → m ((c : Thread nD τ).loc main_arg0) (ix2 t a) = ((P t.val a.val : ℝ) : EReal))
variable (h1 : ∀ (t : Fin 4096) (a : Fin 1024), 512 ≤ a.val → m ((c : Thread nD τ).loc main_arg1) (ix2 t a) = ((G t.val a.val : ℝ) : EReal))
variable (h2 : ∀ (t : Fin 4096) (h : Fin 8), m ((c : Thread nD τ).loc main_arg2) (ix2 t h) = ((C t.val h.val : ℝ) : EReal))
include h0 h1 h2

/-- What the region finds. -/
theorem entry : Entry m P G (rLb P C) (Dl P G C (mx P C)) (fun h s => C s h) c where
  h0 := fun t a ha hb => (congrFun (V_main_arg0 m c) _).trans (h0 t a ha hb)
  h1 := fun t a ha => (congrFun (V_main_arg1 m c) _).trans (h1 t a ha)
  h4 := fun t a => (congrFun (V_lb m c) _).trans (hLb_apply h0 h2 t a)
  h5 := fun t a => (congrFun (V_dl m c) _).trans (hDl_apply h0 h1 h2 t a)
  h6 := fun h s => (congrFun (V_ck m c) _).trans (hCk_apply h2 h s)

/-- The queries' gradient, -/
theorem out0 (t : Fin 4096) (a : Fin 512) : (dats m 0 c).arrAt 7 cfg0.N (ix2 t a) = (((∑ s ∈ range 4096, D P G C (mx P C) (a.val / 64) t.val s * P s (1536 + 64 * (a.val / 64) + a.val % 64)) * (1 / 8) : ℝ) : EReal) := by
  refine (congrFun (final7 m (entry h0 h1 h2)) (ix2 t a)).trans ?_
  dsimp only [ix2_0, ix2_1]
  congr 2
  refine Finset.sum_congr rfl fun s _ => ?_
  rw [pdj_eq P G C _ _ _ _ (by omega) t.isLt, show 2 * (a.val / 128) + a.val % 128 / 64 = a.val / 64 by omega,
    show 1536 + 128 * (a.val / 128) + a.val % 128 = 1536 + 64 * (a.val / 64) + a.val % 64 by omega]
/-- the keys', -/
theorem out1 (t : Fin 4096) (a : Fin 512) : (dats m 0 c).arrAt 8 cfg0.N (ix2 t a) = ((∑ r ∈ range 4096, D P G C (mx P C) (a.val / 64) r t.val * (P r (1024 + 64 * (a.val / 64) + a.val % 64) * (1 / 8)) : ℝ) : EReal) := by
  refine (congrFun (final8 m (entry h0 h1 h2)) (ix2 t a)).trans ?_
  dsimp only [ix2_0, ix2_1]
  congr 1
  refine Finset.sum_congr rfl fun r hr => ?_
  rw [pdj_eq P G C _ _ _ _ (by omega) (Finset.mem_range.1 hr), show 2 * (a.val / 128) + a.val % 128 / 64 = a.val / 64 by omega,
    show 1024 + 128 * (a.val / 128) + a.val % 128 = 1024 + 64 * (a.val / 64) + a.val % 64 by omega]
/-- the values', -/
theorem out2 (t : Fin 4096) (a : Fin 512) : (dats m 0 c).arrAt 9 cfg0.N (ix2 t a) = ((∑ r ∈ range 4096, Y P C (mx P C) (a.val / 64) r t.val * G r (512 + 64 * (a.val / 64) + a.val % 64) : ℝ) : EReal) := by
  refine (congrFun (final9 m (entry h0 h1 h2)) (ix2 t a)).trans ?_
  dsimp only [ix2_0, ix2_1]
  congr 1
  refine Finset.sum_congr rfl fun r hr => ?_
  rw [pwj_eq P C _ _ _ _ (by omega) (Finset.mem_range.1 hr), show 2 * (a.val / 128) + a.val % 128 / 64 = a.val / 64 by omega,
    show 512 + 128 * (a.val / 128) + a.val % 128 = 512 + 64 * (a.val / 64) + a.val % 64 by omega]
/-- the gates' through the keys, -/
theorem out3 (h : Fin 8) (s : Fin 4096) : (dats m 0 c).arrAt 10 cfg0.N (ix3 h 0 s) = ((-∑ t ∈ range 4096, D P G C (mx P C) h.val t s.val : ℝ) : EReal) := by
  refine (congrFun (final10 m (entry h0 h1 h2)) (ix3 h 0 s)).trans ?_
  dsimp only [ix3_0, ix3_1, ix3_2]
  congr 2
  refine Finset.sum_congr rfl fun t ht => ?_
  rw [pdj_eq P G C _ _ _ _ (by omega) (Finset.mem_range.1 ht), show 2 * (h.val / 2) + h.val % 2 = h.val by omega]
/-- and through the queries. -/
theorem out4 (t : Fin 4096) (a : Fin 1024) : (dats m 0 c).arrAt 11 cfg0.N (ix2 t a) = ((∑ s ∈ range 4096, D P G C (mx P C) (a.val / 128) t.val s : ℝ) : EReal) := by
  refine (congrFun (final11 m (entry h0 h1 h2)) (ix2 t a)).trans ?_
  dsimp only [ix2_0, ix2_1]
  congr 1
  refine Finset.sum_congr rfl fun s _ => ?_
  rw [pdj_eq P G C _ _ _ _ (by omega) t.isLt, show 2 * (a.val / 256) + a.val % 256 / 128 = a.val / 128 by omega]
end

end Cert.KernelIdeal.Fox

end
-- ==== Proof.Reference.Value.lean ====
module

public import proofs.«01_k».proof.Proof.Rows
public import proofs.«01_k».proof.Proof.Gen.ReferenceIdeal.Read

@[expose] public section

set_option maxRecDepth 16384

noncomputable section

namespace Cert.ReferenceIdeal.Fox

open Cert.ReferenceIdeal Cert.ReferenceIdeal.Gen Cert.ReferenceIdeal.Read Cert.Fox
open Idealize.ShloMosaic Idealize.ShloMosaic.TcCoe
open Finset (range)

/-! ## The reference's stages over the reals -/

variable {x0 : FVec Ideal S4096x2688 .f32} {x1 : FVec Ideal S4096x1024 .f32} {x2 : FVec Ideal S4096x8 .f32} {P G C : ℕ → ℕ → ℝ}
variable (h0 : ∀ (t : Fin 4096) (a : Fin 2688), 1024 ≤ a.val → a.val < 2560 → x0 (ix2 t a) = ((P t.val a.val : ℝ) : EReal))
variable (h1 : ∀ (t : Fin 4096) (a : Fin 1024), 512 ≤ a.val → x1 (ix2 t a) = ((G t.val a.val : ℝ) : EReal))
variable (h2 : ∀ (t : Fin 4096) (h : Fin 8), x2 (ix2 t h) = ((C t.val h.val : ℝ) : EReal))
include h0 in
theorem rQ (h : Fin 8) (t : Fin 4096) (d : Fin 64) : val_main_v4 (F := Ideal) x0 (ix3 h t d) = ((P t.val (1024 + 64 * h.val + d.val) : ℝ) : EReal) := by
  pointwise [val_main_v4, val_main_v3, val_main_v0]
  rw [h0 _ _ (by dsimp only; omega) (by dsimp only; omega)]
  dsimp only
  rw [show 1024 + (h.val * 64 + d.val) = 1024 + 64 * h.val + d.val by ring]
include h0 in
theorem rK (h : Fin 8) (t : Fin 4096) (d : Fin 64) : val_main_v6 (F := Ideal) x0 (ix3 h t d) = ((P t.val (1536 + 64 * h.val + d.val) : ℝ) : EReal) := by
  pointwise [val_main_v6, val_main_v5, val_main_v1]
  rw [h0 _ _ (by dsimp only; omega) (by dsimp only; omega)]
  dsimp only
  rw [show 1536 + (h.val * 64 + d.val) = 1536 + 64 * h.val + d.val by ring]
include h0 in
theorem rV (h : Fin 8) (t : Fin 4096) (d : Fin 64) : val_main_v8 (F := Ideal) x0 (ix3 h t d) = ((P t.val (2048 + 64 * h.val + d.val) : ℝ) : EReal) := by
  pointwise [val_main_v8, val_main_v7, val_main_v2]
  rw [h0 _ _ (by dsimp only; omega) (by dsimp only; omega)]
  dsimp only
  rw [show 2048 + (h.val * 64 + d.val) = 2048 + 64 * h.val + d.val by ring]
include h1 in
theorem rG (h : Fin 8) (t : Fin 4096) (d : Fin 64) : val_main_v60 (F := Ideal) x1 (ix3 h t d) = ((G t.val (512 + 64 * h.val + d.val) : ℝ) : EReal) := by
  pointwise [val_main_v60, val_main_v59, val_main_v58]
  rw [h1 _ _ (by dsimp only; omega)]
  dsimp only
  rw [show 512 + (h.val * 64 + d.val) = 512 + 64 * h.val + d.val by ring]
include h0 h2 in
theorem rZ (h : Fin 8) (t s : Fin 4096) : val_main_v20 (F := Ideal) x0 x2 (ix3 h t s) = ((Z P C h.val t.val s.val : ℝ) : EReal) := by
  pointwise [val_main_v20, val_main_v16, val_main_v12, val_main_v10, val_main_v11, val_main_cst, val_main_v15, val_main_v14, val_main_v13, val_main_v19, val_main_v18, val_main_v17]
  rw [sum_eq_coe _ (fun d => P t.val (1024 + 64 * h.val + d) * P s.val (1536 + 64 * h.val + d)) (fun d => by rw [rQ h0, rK h0, ← EReal.coe_mul]), h2, h2, eighth, ← EReal.coe_mul, ← EReal.coe_add, ← EReal.coe_sub]
  rfl
theorem rMask (h : Fin 8) (t s : Fin 4096) : val_main_v26_1 (F := Ideal) (ix3 h t s) = BitVec.ofBool (decide (s.val ≤ t.val)) := by
  pointwise [val_main_v26_1, val_main_v25, val_main_v23, val_main_v21, val_main_v24, val_main_v22, val_main_v9]
  exact WordCmp.cmpi_sle_ofNat (w := 32) (by omega) (by omega)
include h0 h2 in
theorem rA (h : Fin 8) (t s : Fin 4096) : val_main_v26_0 (F := Ideal) x0 x2 (ix3 h t s) = if s.val ≤ t.val then ((Z P C h.val t.val s.val : ℝ) : EReal) else ⊥ := by
  pointwise [val_main_v26_0, val_main_call0_v2, val_main_call0_v0, val_main_cst_0]
  rw [rMask, select_ite, rZ h0 h2]
  split_ifs
  · rfl
  · exact neg_inf
include h0 h2 in
theorem rM (h : Fin 8) (t : Fin 4096) : val_main_v27 (F := Ideal) x0 x2 (ix2 h t) = ((mx P C h.val t.val : ℝ) : EReal) := by
  pointwise [val_main_v27, val_main_cst_1]
  rw [neg_inf]
  exact fold_top _ _ _ t.isLt (fun s => rA h0 h2 h t s)
include h0 h2 in
theorem rM' (h : Fin 8) (t : Fin 4096) : val_main_v34 (F := Ideal) x0 x2 (ix2 h t) = ((mx P C h.val t.val : ℝ) : EReal) := by
  rw [val_main_v34_apply, rM h0 h2, val_main_v33_apply, val_main_cst_3_apply, Ideal.maximumf_def, Ideal.ofBits_def, neg_inf]
  exact max_eq_right bot_le
include h0 h2 in
theorem rE (h : Fin 8) (t s : Fin 4096) : val_main_v47 (F := Ideal) x0 x2 (ix3 h t s) = ((E P C (mx P C) h.val t.val s.val : ℝ) : EReal) := by
  pointwise [val_main_v47, val_main_v46, val_main_v45, val_main_v44]
  rw [rM' h0 h2]
  exact exp_row _ _ _ _ _ (rA h0 h2 h t s)
include h0 h2 in
theorem rL (h : Fin 8) (t : Fin 4096) : val_main_v49 (F := Ideal) x0 x2 (ix3 h t 0) = ((L P C (mx P C) h.val t.val : ℝ) : EReal) := by
  pointwise [val_main_v49, val_main_v48, val_main_cst_9]
  exact sum_eq_coe _ _ (fun s => rE h0 h2 h t s)
include h0 h2 in
theorem rY (h : Fin 8) (t s : Fin 4096) : val_main_v51 (F := Ideal) x0 x2 (ix3 h t s) = ((Y P C (mx P C) h.val t.val s.val : ℝ) : EReal) := by
  pointwise [val_main_v51, val_main_v50]
  rw [rE h0 h2, rL h0 h2, div_coe _ _ (L_pos P C (mx P C) h.val t.val t.isLt).ne']
  rfl
include h0 h2 in
theorem rInv (h : Fin 8) (t : Fin 4096) : val_main_v54 (F := Ideal) x0 x2 (ix3 h t 0) = ((1 / (L P C (mx P C) h.val t.val * L P C (mx P C) h.val t.val) : ℝ) : EReal) := by
  pointwise [val_main_v54, val_main_v53, val_main_cst_10, val_main_v52]
  rw [rL h0 h2, ← EReal.coe_one, ← EReal.coe_mul, div_coe _ _ (mul_pos (L_pos P C (mx P C) h.val t.val t.isLt) (L_pos P C (mx P C) h.val t.val t.isLt)).ne']
include h0 h1 h2 in
theorem rDv (h : Fin 8) (s : Fin 4096) (d : Fin 64) : val_main_v62 (F := Ideal) x0 x1 x2 (ix3 h s d) = ((∑ t ∈ range 4096, Y P C (mx P C) h.val t s.val * G t (512 + 64 * h.val + d.val) : ℝ) : EReal) := by
  pointwise [val_main_v62, val_main_v61]
  exact sum_eq_coe _ (fun t => Y P C (mx P C) h.val t s.val * G t (512 + 64 * h.val + d.val)) (fun t => by rw [rG h1, rY h0 h2, ← EReal.coe_mul, mul_comm])
include h0 h1 in
theorem rDP (h : Fin 8) (t s : Fin 4096) : val_main_v63 (F := Ideal) x0 x1 (ix3 h t s) = ((DP P G h.val t.val s.val : ℝ) : EReal) := by
  pointwise [val_main_v63]
  exact sum_eq_coe _ (fun d => G t.val (512 + 64 * h.val + d) * P s.val (2048 + 64 * h.val + d)) (fun d => by rw [rG h1, rV h0, ← EReal.coe_mul])
include h0 h1 h2 in
theorem rSum (h : Fin 8) (t : Fin 4096) : val_main_v67 (F := Ideal) x0 x1 x2 (ix2 h t) = ((∑ s ∈ range 4096, DP P G h.val t.val s * (1 / (L P C (mx P C) h.val t.val * L P C (mx P C) h.val t.val)) * E P C (mx P C) h.val t.val s : ℝ) : EReal) := by
  pointwise [val_main_v67, val_main_v66, val_main_v65, val_main_v64, val_main_cst_11]
  exact sum_eq_coe _ (fun s => DP P G h.val t.val s * (1 / (L P C (mx P C) h.val t.val * L P C (mx P C) h.val t.val)) * E P C (mx P C) h.val t.val s) (fun s => by rw [rDP h0 h1, rInv h0 h2, rE h0 h2, ← EReal.coe_mul, ← EReal.coe_mul])
include h0 h1 h2 in
theorem rNeg (h : Fin 8) (t : Fin 4096) : val_main_v72 (F := Ideal) x0 x1 x2 (ix2 h t) = ((-(∑ s ∈ range 4096, DP P G h.val t.val s * (1 / (L P C (mx P C) h.val t.val * L P C (mx P C) h.val t.val)) * E P C (mx P C) h.val t.val s) : ℝ) : EReal) := by
  pointwise [val_main_v72, val_main_v69, val_main_v68, val_main_cst_12]
  rw [Fin.sum_univ_one, rSum h0 h1 h2, ← EReal.coe_neg]
include h0 h1 h2 in
theorem rD' (h : Fin 8) (t s : Fin 4096) : val_main_v75 (F := Ideal) x0 x1 x2 (ix3 h t s) = ((D P G C (mx P C) h.val t.val s.val : ℝ) : EReal) := by
  pointwise [val_main_v75, val_main_v74, val_main_v71, val_main_v70, val_main_v73]
  rw [rDP h0 h1, rL h0 h2, rNeg h0 h1 h2, rE h0 h2, div_coe _ _ (L_pos P C (mx P C) h.val t.val t.isLt).ne', ← EReal.coe_add, ← EReal.coe_mul, D_quot]
include h0 h1 h2 in
theorem rD (h : Fin 8) (t s : Fin 4096) : val_main_v76 (F := Ideal) x0 x1 x2 (ix3 h t s) = ((D P G C (mx P C) h.val t.val s.val : ℝ) : EReal) := by
  pointwise [val_main_v76, val_main_call1_v0, val_main_call1_cst]
  rw [rMask, select_ite, rD' h0 h1 h2]
  split_ifs with hs
  · rfl
  · rw [D_zero P G C (mx P C) (by omega)]
    simp [Ideal.ofBits, Ideal.ieee]
include h0 h1 h2 in
theorem rCk (h : Fin 8) (s : Fin 4096) : val_main_v80 (F := Ideal) x0 x1 x2 (ix2 h s) = ((-∑ t ∈ range 4096, D P G C (mx P C) h.val t s.val : ℝ) : EReal) := by
  pointwise [val_main_v80, val_main_v79, val_main_v78, val_main_v77, val_main_cst_13, val_main_cst_14]
  rw [Fin.sum_univ_one, ← Finset.sum_neg_distrib]
  exact sum_eq_coe _ (fun t => -D P G C (mx P C) h.val t s.val) (fun t => by rw [rD h0 h1 h2, ← EReal.coe_neg])
include h0 h1 h2 in
theorem rCq (h : Fin 8) (t : Fin 4096) : val_main_v84 (F := Ideal) x0 x1 x2 (ix2 h t) = ((∑ s ∈ range 4096, D P G C (mx P C) h.val t.val s : ℝ) : EReal) := by
  pointwise [val_main_v84, val_main_v83, val_main_v82, val_main_cst_15, val_main_cst_16]
  rw [Fin.sum_univ_one]
  exact sum_eq_coe _ _ (fun s => rD h0 h1 h2 h t s)
include h0 h1 h2 in
theorem rD8 (h : Fin 8) (t s : Fin 4096) : val_main_v87 (F := Ideal) x0 x1 x2 (ix3 h t s) = ((D P G C (mx P C) h.val t.val s.val * (1 / 8) : ℝ) : EReal) := by
  pointwise [val_main_v87, val_main_v86, val_main_cst_17]
  rw [rD h0 h1 h2, eighth, ← EReal.coe_mul]
include h0 h1 h2 in
theorem rDk (h : Fin 8) (s : Fin 4096) (d : Fin 64) : val_main_v88 (F := Ideal) x0 x1 x2 (ix3 h s d) = ((∑ t ∈ range 4096, D P G C (mx P C) h.val t s.val * (P t (1024 + 64 * h.val + d.val) * (1 / 8)) : ℝ) : EReal) := by
  pointwise [val_main_v88]
  exact sum_eq_coe _ (fun t => D P G C (mx P C) h.val t s.val * (P t (1024 + 64 * h.val + d.val) * (1 / 8))) (fun t => by rw [rD8 h0 h1 h2, rQ h0, ← EReal.coe_mul]; congr 1; ring)
include h0 h1 h2 in
theorem rDq (h : Fin 8) (t : Fin 4096) (d : Fin 64) : val_main_v89 (F := Ideal) x0 x1 x2 (ix3 h t d) = (((∑ s ∈ range 4096, D P G C (mx P C) h.val t.val s * P s (1536 + 64 * h.val + d.val)) * (1 / 8) : ℝ) : EReal) := by
  pointwise [val_main_v89]
  rw [Finset.sum_mul]
  exact sum_eq_coe _ (fun s => D P G C (mx P C) h.val t.val s * P s (1536 + 64 * h.val + d.val) * (1 / 8)) (fun s => by rw [rD8 h0 h1 h2, rK h0, ← EReal.coe_mul]; congr 1; ring)
include h0 h1 h2 in
theorem ref0 (t : Fin 4096) (a : Fin 512) : val_main_v96 (F := Ideal) x0 x1 x2 (ix2 t a) = (((∑ s ∈ range 4096, D P G C (mx P C) (a.val / 64) t.val s * P s (1536 + 64 * (a.val / 64) + a.val % 64)) * (1 / 8) : ℝ) : EReal) := by
  pointwise [val_main_v96, val_main_v95, val_main_v94]
  exact rDq h0 h1 h2 ⟨a.val / 64, by omega⟩ t ⟨a.val % 64, by omega⟩
include h0 h1 h2 in
theorem ref1 (t : Fin 4096) (a : Fin 512) : val_main_v97 (F := Ideal) x0 x1 x2 (ix2 t a) = ((∑ r ∈ range 4096, D P G C (mx P C) (a.val / 64) r t.val * (P r (1024 + 64 * (a.val / 64) + a.val % 64) * (1 / 8)) : ℝ) : EReal) := by
  pointwise [val_main_v97, val_main_v93, val_main_v92]
  exact rDk h0 h1 h2 ⟨a.val / 64, by omega⟩ t ⟨a.val % 64, by omega⟩
include h0 h1 h2 in
theorem ref2 (t : Fin 4096) (a : Fin 512) : val_main_v98 (F := Ideal) x0 x1 x2 (ix2 t a) = ((∑ r ∈ range 4096, Y P C (mx P C) (a.val / 64) r t.val * G r (512 + 64 * (a.val / 64) + a.val % 64) : ℝ) : EReal) := by
  pointwise [val_main_v98, val_main_v91, val_main_v90]
  exact rDv h0 h1 h2 ⟨a.val / 64, by omega⟩ t ⟨a.val % 64, by omega⟩
include h0 h1 h2 in
theorem ref3 (h : Fin 8) (s : Fin 4096) : val_main_v100 (F := Ideal) x0 x1 x2 (ix3 h 0 s) = ((-∑ t ∈ range 4096, D P G C (mx P C) h.val t s.val : ℝ) : EReal) := by
  pointwise [val_main_v100, val_main_v99, val_main_v81]
  exact rCk h0 h1 h2 h s
include h0 h1 h2 in
theorem ref4 (t : Fin 4096) (a : Fin 1024) : val_main_v103 (F := Ideal) x0 x1 x2 (ix2 t a) = ((∑ s ∈ range 4096, D P G C (mx P C) (a.val / 128) t.val s : ℝ) : EReal) := by
  pointwise [val_main_v103, val_main_v102, val_main_v101, val_main_v85]
  exact rCq h0 h1 h2 ⟨a.val / 128, by omega⟩ t

end Cert.ReferenceIdeal.Fox

end
-- ==== Proof.lean ====
module

public import proofs.«01_k».proof.Proof.Gen.NormZero.Frame
public import proofs.«01_k».proof.Proof.Gen.AdamwOut.Frame
public import proofs.«01_k».proof.Proof.Gen.AdamwInZero.Frame
public import proofs.«01_k».proof.Proof.Gen.AdamwInOne.Frame
public import proofs.«01_k».proof.Proof.Gen.AdamwUp.Frame
public import proofs.«01_k».proof.Proof.Gen.AdamwDown.Frame
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_attention
public import proofs.«01_k».proof.Proof.Gen.Up.Frame
public import proofs.«01_k».proof.Proof.Up
public import proofs.«01_k».proof.Proof.Gen.ActGrad.Frame
public import proofs.«01_k».proof.Proof.ActGrad
public import proofs.«01_k».proof.Proof.Gen.DownGrad.Frame
public import proofs.«01_k».proof.Proof.DownGrad
public import proofs.«01_k».proof.Proof.Gen.UpGrad.Frame
public import proofs.«01_k».proof.Proof.UpGrad
public import proofs.«01_k».proof.Proof.NormGrad
public import proofs.«01_k».proof.Proof.OutGrad
public import proofs.«01_k».proof.Proof.OutWeightGrad
public import proofs.«01_k».proof.Proof.InWeightGrad1
public import proofs.«01_k».proof.Proof.InWeightGrad0
public import proofs.«01_k».proof.Proof.InNormGrad1
public import proofs.«01_k».proof.Proof.InNormGrad0
public import proofs.«01_k».proof.Proof.InZero
public import proofs.«01_k».proof.Proof.InOne
public import proofs.«01_k».proof.Proof.DownOne
public import proofs.«01_k».proof.Proof.DownZero
public import proofs.«01_k».proof.Proof.Out
public import proofs.«01_k».proof.Proof.Attention
public import proofs.«01_k».proof.Proof.NormZero
public import proofs.«01_k».proof.Proof.Act
public import proofs.«01_k».proof.Proof.Gen.Act
public import proofs.«01_k».proof.Proof.Gen.Act.Frame
public import proofs.«01_k».proof.Proof.AdamwOut
public import proofs.«01_k».proof.Proof.AdamwInZero
public import proofs.«01_k».proof.Proof.AdamwInOne
public import proofs.«01_k».proof.Proof.AdamwUp
public import proofs.«01_k».proof.Proof.AdamwDown
public import proofs.«01_k».proof.Proof.Gen.Attention.Frame
public import proofs.«01_k».proof.Proof.Gen.NormGrad.Frame
public import proofs.«01_k».proof.Proof.Gen.OutGrad.Frame
public import proofs.«01_k».proof.Proof.Gen.OutWeightGrad.Frame
public import proofs.«01_k».proof.Proof.Gen.InWeightGrad1.Frame
public import proofs.«01_k».proof.Proof.Gen.InWeightGrad0.Frame
public import proofs.«01_k».proof.Proof.Gen.InNormGrad1.Frame
public import proofs.«01_k».proof.Proof.Gen.InNormGrad0.Frame
public import proofs.«01_k».proof.Proof.Gen.InZero.Frame
public import proofs.«01_k».proof.Proof.Gen.InOne.Frame
public import proofs.«01_k».proof.Proof.Gen.DownOne.Frame
public import proofs.«01_k».proof.Proof.Gen.DownZero.Frame
public import proofs.«01_k».proof.Proof.Gen.Out.Frame
public import proofs.«01_k».proof.Proof.Kernel.Frame
public import proofs.«01_k».proof.Proof.KernelIdeal.Frame
public import proofs.«01_k».proof.Proof.KernelIdeal.Value
public import proofs.«01_k».proof.Proof.Reference.Value
public import proofs.«01_k».proof.Proof.Pre
public import Idealize.ShloMosaic.Adequacy
public import Idealize.ShloMosaic.Init
public import Idealize.ShloMosaic.Lib.Quiescent

@[expose] public section

namespace Cert.Proof

open Idealize.ShloMosaic Idealize.SL.Sem
open Cert.Fox (reals reals_at)

/-- The reference terminates with its arguments unchanged; it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono
    (fun r h => ⟨fun c => (h c).2.2.2.2.2, sem_eq_zero_of_no_sems rfl r.2⟩) (Cert.ReferenceIdeal.Value.run (F := Ideal) m g)

section Equal
variable (m : (ℓ : Loc Cert.KernelIdeal.nD Cert.KernelIdeal.τ Cert.KernelIdeal.sig) → Buf (Elt Ideal) ℓ) (c : Dev Cert.KernelIdeal.nD)
variable (hp : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1)
include hp
/-- The first array's used entries are reals. -/
theorem used0 : ∀ (t : Fin 4096) (a : Fin 2688), 1024 ≤ a.val → a.val < 2560 → m ((c.tc : Thread Cert.KernelIdeal.nD Cert.KernelIdeal.τ).loc Cert.KernelIdeal.main_arg0) (ix2 t a) = ((reals (n := 4096) (k := 2688) (m ((c.tc : Thread Cert.KernelIdeal.nD Cert.KernelIdeal.τ).loc Cert.KernelIdeal.main_arg0)) t.val a.val : ℝ) : EReal) :=
  fun t a ha hb => by rw [reals_at]; exact Cert.Pre_finite.real0 hp t a ha hb
/-- The second array's used entries are reals. -/
theorem used1 : ∀ (t : Fin 4096) (a : Fin 1024), 512 ≤ a.val → m ((c.tc : Thread Cert.KernelIdeal.nD Cert.KernelIdeal.τ).loc Cert.KernelIdeal.main_arg1) (ix2 t a) = ((reals (n := 4096) (k := 1024) (m ((c.tc : Thread Cert.KernelIdeal.nD Cert.KernelIdeal.τ).loc Cert.KernelIdeal.main_arg1)) t.val a.val : ℝ) : EReal) :=
  fun t a ha => by rw [reals_at]; exact Cert.Pre_finite.real1 hp t a ha
/-- The third array's used entries are reals. -/
theorem used2 : ∀ (t : Fin 4096) (a : Fin 8), m ((c.tc : Thread Cert.KernelIdeal.nD Cert.KernelIdeal.τ).loc Cert.KernelIdeal.main_arg2) (ix2 t a) = ((reals (n := 4096) (k := 8) (m ((c.tc : Thread Cert.KernelIdeal.nD Cert.KernelIdeal.τ).loc Cert.KernelIdeal.main_arg2)) t.val a.val : ℝ) : EReal) :=
  fun t a => by rw [reals_at]; exact Cert.Pre_finite.real2 hp t a
/-- Of the queries' gradient: the kernel's array is the reference's. -/
theorem equal0 : Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (Cert.KernelIdeal.Fox.dats m 0 c).arrAt 7 Cert.KernelIdeal.cfg0.N := by
  funext i
  rw [eq_ix2 (n0 := 4096) (n1 := 512) i]
  exact (Cert.ReferenceIdeal.Fox.ref0 (used0 m c hp) (used1 m c hp) (used2 m c hp) (i 0) (i 1)).trans (Cert.KernelIdeal.Fox.out0 (used0 m c hp) (used1 m c hp) (used2 m c hp) (i 0) (i 1)).symm
/-- Of the keys' gradient: the kernel's array is the reference's. -/
theorem equal1 : Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (Cert.KernelIdeal.Fox.dats m 0 c).arrAt 8 Cert.KernelIdeal.cfg0.N := by
  funext i
  rw [eq_ix2 (n0 := 4096) (n1 := 512) i]
  exact (Cert.ReferenceIdeal.Fox.ref1 (used0 m c hp) (used1 m c hp) (used2 m c hp) (i 0) (i 1)).trans (Cert.KernelIdeal.Fox.out1 (used0 m c hp) (used1 m c hp) (used2 m c hp) (i 0) (i 1)).symm
/-- Of the values' gradient: the kernel's array is the reference's. -/
theorem equal2 : Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (Cert.KernelIdeal.Fox.dats m 0 c).arrAt 9 Cert.KernelIdeal.cfg0.N := by
  funext i
  rw [eq_ix2 (n0 := 4096) (n1 := 512) i]
  exact (Cert.ReferenceIdeal.Fox.ref2 (used0 m c hp) (used1 m c hp) (used2 m c hp) (i 0) (i 1)).trans (Cert.KernelIdeal.Fox.out2 (used0 m c hp) (used1 m c hp) (used2 m c hp) (i 0) (i 1)).symm
/-- Of the gates', through the keys, gradient: the kernel's array is the reference's. -/
theorem equal3 : Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (Cert.KernelIdeal.Fox.dats m 0 c).arrAt 10 Cert.KernelIdeal.cfg0.N := by
  funext i
  rw [eq_ix3 (n0 := 8) (n1 := 1) (n2 := 4096) i, show i 1 = (0 : Fin 1) from Subsingleton.elim (α := Fin 1) _ _]
  exact (Cert.ReferenceIdeal.Fox.ref3 (used0 m c hp) (used1 m c hp) (used2 m c hp) (i 0) (i 2)).trans (Cert.KernelIdeal.Fox.out3 (used0 m c hp) (used1 m c hp) (used2 m c hp) (i 0) (i 2)).symm
/-- Of and the gates', through the queries, gradient: the kernel's array is the reference's. -/
theorem equal4 : Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (Cert.KernelIdeal.Fox.dats m 0 c).arrAt 11 Cert.KernelIdeal.cfg0.N := by
  funext i
  rw [eq_ix2 (n0 := 4096) (n1 := 1024) i]
  exact (Cert.ReferenceIdeal.Fox.ref4 (used0 m c hp) (used1 m c hp) (used2 m c hp) (i 0) (i 1)).trans (Cert.KernelIdeal.Fox.out4 (used0 m c hp) (used1 m c hp) (used2 m c hp) (i 0) (i 1)).symm
end Equal

/-- The kernel runs and leaves what the region's data say, with its arguments unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v52_0) = (Cert.KernelIdeal.Fox.dats m 0 c).arrAt 7 Cert.KernelIdeal.cfg0.N
      ∧ r.2.mem ((c.tc : Thread Cert.KernelIdeal.nD Cert.KernelIdeal.τ).loc Cert.KernelIdeal.main_v52_1) = (Cert.KernelIdeal.Fox.dats m 0 c).arrAt 8 Cert.KernelIdeal.cfg0.N
      ∧ r.2.mem ((c.tc : Thread Cert.KernelIdeal.nD Cert.KernelIdeal.τ).loc Cert.KernelIdeal.main_v52_2) = (Cert.KernelIdeal.Fox.dats m 0 c).arrAt 9 Cert.KernelIdeal.cfg0.N
      ∧ r.2.mem ((c.tc : Thread Cert.KernelIdeal.nD Cert.KernelIdeal.τ).loc Cert.KernelIdeal.main_v52_3) = (Cert.KernelIdeal.Fox.dats m 0 c).arrAt 10 Cert.KernelIdeal.cfg0.N
      ∧ r.2.mem ((c.tc : Thread Cert.KernelIdeal.nD Cert.KernelIdeal.τ).loc Cert.KernelIdeal.main_v52_4) = (Cert.KernelIdeal.Fox.dats m 0 c).arrAt 11 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono
    (fun r h c => ⟨h.1.out_eq c 7, h.1.out_eq c 8, h.1.out_eq c 9, h.1.out_eq c 10, h.1.out_eq c 11, h.2.1 c⟩)
    (θ_run_and (Cert.KernelIdeal.Fox.run_main m g) (Cert.KernelIdeal.Fox.frame m g))

/-- On reals, the kernel's results are the reference's. -/
theorem algebraic : Cert.algebraic_KernelIdeal_ReferenceIdeal_pre_finite := by
  intro m g m' g' hp hm
  refine ⟨fun c => (Cert.KernelIdeal.Fox.dats m 0 c).arrAt 7 Cert.KernelIdeal.cfg0.N, fun c => (Cert.KernelIdeal.Fox.dats m 0 c).arrAt 8 Cert.KernelIdeal.cfg0.N, fun c => (Cert.KernelIdeal.Fox.dats m 0 c).arrAt 9 Cert.KernelIdeal.cfg0.N, fun c => (Cert.KernelIdeal.Fox.dats m 0 c).arrAt 10 Cert.KernelIdeal.cfg0.N, fun c => (Cert.KernelIdeal.Fox.dats m 0 c).arrAt 11 Cert.KernelIdeal.cfg0.N, kernel_run m g,
    (θ_run (Cert.ReferenceIdeal.defs (F := Ideal)) _ _).mono (fun r h c => ?_) (Cert.ReferenceIdeal.Value.run (F := Ideal) m' g')⟩
  obtain ⟨e0, e1, e2, e3, e4, ea⟩ := h c
  obtain ⟨m0, m1, m2⟩ := hm c
  rw [Cert.ReferenceIdeal.Read.val_main_v96_eq, m0, m1, m2, equal0 m c (hp c)] at e0
  rw [Cert.ReferenceIdeal.Read.val_main_v97_eq, m0, m1, m2, equal1 m c (hp c)] at e1
  rw [Cert.ReferenceIdeal.Read.val_main_v98_eq, m0, m1, m2, equal2 m c (hp c)] at e2
  rw [Cert.ReferenceIdeal.Read.val_main_v100_eq, m0, m1, m2, equal3 m c (hp c)] at e3
  rw [Cert.ReferenceIdeal.Read.val_main_v103_eq, m0, m1, m2, equal4 m c (hp c)] at e4
  exact ⟨e0, e1, e2, e3, e4, ea⟩

theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    Cert.ActGrad.Gen.facts, Cert.ActGradIdeal.Gen.facts, Cert.ActGradReferenceIdeal.Gen.facts,
    Cert.DownGrad.Gen.facts, Cert.DownGradIdeal.Gen.facts, Cert.DownGradReferenceIdeal.Gen.facts,
    Cert.UpGrad.Gen.facts, Cert.UpGradIdeal.Gen.facts, Cert.UpGradReferenceIdeal.Gen.facts,
    Cert.NormGrad.Gen.facts, Cert.NormGradIdeal.Gen.facts, Cert.NormGradReferenceIdeal.Gen.facts,
    Cert.OutGrad.Gen.facts, Cert.OutGradIdeal.Gen.facts, Cert.OutGradReferenceIdeal.Gen.facts,
    Cert.OutWeightGrad.Gen.facts, Cert.OutWeightGradIdeal.Gen.facts, Cert.OutWeightGradReferenceIdeal.Gen.facts,
    Cert.InWeightGrad1.Gen.facts, Cert.InWeightGrad1Ideal.Gen.facts, Cert.InWeightGrad1ReferenceIdeal.Gen.facts,
    Cert.InWeightGrad0.Gen.facts, Cert.InWeightGrad0Ideal.Gen.facts, Cert.InWeightGrad0ReferenceIdeal.Gen.facts,
    Cert.InNormGrad1.Gen.facts, Cert.InNormGrad1Ideal.Gen.facts, Cert.InNormGrad1ReferenceIdeal.Gen.facts,
    Cert.InNormGrad0.Gen.facts, Cert.InNormGrad0Ideal.Gen.facts, Cert.InNormGrad0ReferenceIdeal.Gen.facts,
    Cert.InZero.Gen.facts, Cert.InZeroIdeal.Gen.facts, Cert.InZeroReferenceIdeal.Gen.facts,
    Cert.InOne.Gen.facts, Cert.InOneIdeal.Gen.facts, Cert.InOneReferenceIdeal.Gen.facts,
    Cert.DownOne.Gen.facts, Cert.DownOneIdeal.Gen.facts, Cert.DownOneReferenceIdeal.Gen.facts,
    Cert.DownZero.Gen.facts, Cert.DownZeroIdeal.Gen.facts, Cert.DownZeroReferenceIdeal.Gen.facts,
    Cert.Out.Gen.facts, Cert.OutIdeal.Gen.facts, Cert.OutReferenceIdeal.Gen.facts,
    Cert.Attention.Gen.facts, Cert.AttentionIdeal.Gen.facts, Cert.AttentionReferenceIdeal.Gen.facts,
    Cert.NormZero.Gen.facts, Cert.NormZeroIdeal.Gen.facts, Cert.NormZeroReferenceIdeal.Gen.facts,
    Cert.AdamwOut.Gen.facts, Cert.AdamwOutIdeal.Gen.facts, Cert.AdamwOutReferenceIdeal.Gen.facts,
    Cert.AdamwInZero.Gen.facts, Cert.AdamwInZeroIdeal.Gen.facts, Cert.AdamwInZeroReferenceIdeal.Gen.facts,
    Cert.AdamwInOne.Gen.facts, Cert.AdamwInOneIdeal.Gen.facts, Cert.AdamwInOneReferenceIdeal.Gen.facts,
    Cert.AdamwUp.Gen.facts, Cert.AdamwUpIdeal.Gen.facts, Cert.AdamwUpReferenceIdeal.Gen.facts,
    Cert.AdamwDown.Gen.facts, Cert.AdamwDownIdeal.Gen.facts, Cert.AdamwDownReferenceIdeal.Gen.facts,
    Cert.Act.Gen.facts, Cert.ActIdeal.Gen.facts, Cert.ActReferenceIdeal.Gen.facts,
    Cert.Pre_finite.Gen.facts, Cert.Pre_finite_attention.Gen.facts,
    fun m ρ _ => Cert.Kernel.Fox.frame m ρ,
    fun m ρ _ => Cert.KernelIdeal.Fox.frame m ρ,
    fun m ρ _ => Cert.KernelIdeal.Fox.frame m ρ,
    fun m ρ _ => reference_frame m ρ,
    fun m ρ _ => reference_frame m ρ,
    fun m ρ _ => Cert.Up.Gen.frame m ρ, fun m ρ _ => Cert.UpIdeal.Gen.frame m ρ, fun m ρ _ => Cert.UpReferenceIdeal.Product.frame m ρ,
    fun m ρ _ => Cert.ActGrad.Gen.frame m ρ, fun m ρ _ => Cert.ActGradIdeal.Gen.frame m ρ, fun m ρ _ => Cert.ActGradReferenceIdeal.Product.frame m ρ,
    fun m ρ _ => Cert.DownGrad.Gen.frame m ρ, fun m ρ _ => Cert.DownGradIdeal.Gen.frame m ρ, fun m ρ _ => Cert.DownGradReferenceIdeal.Product.frame m ρ,
    fun m ρ _ => Cert.UpGrad.Gen.frame m ρ, fun m ρ _ => Cert.UpGradIdeal.Gen.frame m ρ, fun m ρ _ => Cert.UpGradReferenceIdeal.Product.frame m ρ,
    fun m ρ _ => Cert.NormGrad.Gen.frame m ρ, fun m ρ _ => Cert.NormGradIdeal.Gen.frame m ρ, fun m ρ _ => (θ_run (Cert.NormGradReferenceIdeal.defs (F := Ideal)) _ _).mono (fun r h => ⟨fun c => (h c).2.2, sem_eq_zero_of_no_sems rfl r.2⟩) (Cert.NormGradReferenceIdeal.Value.run (F := Ideal) m ρ),
    fun m ρ _ => Cert.OutGrad.Gen.frame m ρ, fun m ρ _ => Cert.OutGradIdeal.Gen.frame m ρ, fun m ρ _ => (θ_run (Cert.OutGradReferenceIdeal.defs (F := Ideal)) _ _).mono (fun r h => ⟨fun c => (h c).2, sem_eq_zero_of_no_sems rfl r.2⟩) (Cert.OutGradReferenceIdeal.Value.run (F := Ideal) m ρ),
    fun m ρ _ => Cert.OutWeightGrad.Gen.frame m ρ, fun m ρ _ => Cert.OutWeightGradIdeal.Gen.frame m ρ, fun m ρ _ => (θ_run (Cert.OutWeightGradReferenceIdeal.defs (F := Ideal)) _ _).mono (fun r h => ⟨fun c => (h c).2, sem_eq_zero_of_no_sems rfl r.2⟩) (Cert.OutWeightGradReferenceIdeal.Value.run (F := Ideal) m ρ),
    fun m ρ _ => Cert.InWeightGrad1.Gen.frame m ρ, fun m ρ _ => Cert.InWeightGrad1Ideal.Gen.frame m ρ, fun m ρ _ => (θ_run (Cert.InWeightGrad1ReferenceIdeal.defs (F := Ideal)) _ _).mono (fun r h => ⟨fun c => (h c).2, sem_eq_zero_of_no_sems rfl r.2⟩) (Cert.InWeightGrad1ReferenceIdeal.Value.run (F := Ideal) m ρ),
    fun m ρ _ => Cert.InWeightGrad0.Gen.frame m ρ, fun m ρ _ => Cert.InWeightGrad0Ideal.Gen.frame m ρ, fun m ρ _ => (θ_run (Cert.InWeightGrad0ReferenceIdeal.defs (F := Ideal)) _ _).mono (fun r h => ⟨fun c => (h c).2, sem_eq_zero_of_no_sems rfl r.2⟩) (Cert.InWeightGrad0ReferenceIdeal.Value.run (F := Ideal) m ρ),
    fun m ρ _ => Cert.InNormGrad1.Gen.frame m ρ, fun m ρ _ => Cert.InNormGrad1Ideal.Gen.frame m ρ, fun m ρ _ => (θ_run (Cert.InNormGrad1ReferenceIdeal.defs (F := Ideal)) _ _).mono (fun r h => ⟨fun c => (h c).2.2, sem_eq_zero_of_no_sems rfl r.2⟩) (Cert.InNormGrad1ReferenceIdeal.Value.run (F := Ideal) m ρ),
    fun m ρ _ => Cert.InNormGrad0.Gen.frame m ρ, fun m ρ _ => Cert.InNormGrad0Ideal.Gen.frame m ρ, fun m ρ _ => (θ_run (Cert.InNormGrad0ReferenceIdeal.defs (F := Ideal)) _ _).mono (fun r h => ⟨fun c => (h c).2.2, sem_eq_zero_of_no_sems rfl r.2⟩) (Cert.InNormGrad0ReferenceIdeal.Value.run (F := Ideal) m ρ),
    fun m ρ _ => Cert.InZero.Gen.frame m ρ, fun m ρ _ => Cert.InZeroIdeal.Gen.frame m ρ, fun m ρ _ => (θ_run (Cert.InZeroReferenceIdeal.defs (F := Ideal)) _ _).mono (fun r h => ⟨fun c => (h c).2, sem_eq_zero_of_no_sems rfl r.2⟩) (Cert.InZeroReferenceIdeal.Value.run (F := Ideal) m ρ),
    fun m ρ _ => Cert.InOne.Gen.frame m ρ, fun m ρ _ => Cert.InOneIdeal.Gen.frame m ρ, fun m ρ _ => (θ_run (Cert.InOneReferenceIdeal.defs (F := Ideal)) _ _).mono (fun r h => ⟨fun c => (h c).2, sem_eq_zero_of_no_sems rfl r.2⟩) (Cert.InOneReferenceIdeal.Value.run (F := Ideal) m ρ),
    fun m ρ _ => Cert.DownOne.Gen.frame m ρ, fun m ρ _ => Cert.DownOneIdeal.Gen.frame m ρ, fun m ρ _ => (θ_run (Cert.DownOneReferenceIdeal.defs (F := Ideal)) _ _).mono (fun r h => ⟨fun c => (h c).2, sem_eq_zero_of_no_sems rfl r.2⟩) (Cert.DownOneReferenceIdeal.Value.run (F := Ideal) m ρ),
    fun m ρ _ => Cert.DownZero.Gen.frame m ρ, fun m ρ _ => Cert.DownZeroIdeal.Gen.frame m ρ, fun m ρ _ => (θ_run (Cert.DownZeroReferenceIdeal.defs (F := Ideal)) _ _).mono (fun r h => ⟨fun c => (h c).2.2, sem_eq_zero_of_no_sems rfl r.2⟩) (Cert.DownZeroReferenceIdeal.Value.run (F := Ideal) m ρ),
    fun m ρ _ => Cert.Out.Gen.frame m ρ, fun m ρ _ => Cert.OutIdeal.Gen.frame m ρ, fun m ρ _ => (θ_run (Cert.OutReferenceIdeal.defs (F := Ideal)) _ _).mono (fun r h => ⟨fun c => (h c).2.2, sem_eq_zero_of_no_sems rfl r.2⟩) (Cert.OutReferenceIdeal.Value.run (F := Ideal) m ρ),
    fun m ρ _ => Cert.Attention.Gen.frame m ρ, fun m ρ _ => Cert.AttentionIdeal.Gen.frame m ρ, fun m ρ _ => Cert.AttentionIdeal.Gen.frame m ρ,
    fun m ρ _ => Cert.AttentionReferenceIdeal.Fox.frame m ρ, fun m ρ _ => Cert.AttentionReferenceIdeal.Fox.frame m ρ,
    fun m ρ _ => Cert.NormZero.Gen.frame m ρ, fun m ρ _ => Cert.NormZeroIdeal.Gen.frame m ρ, fun m ρ _ => (θ_run (Cert.NormZeroReferenceIdeal.defs (F := Ideal)) _ _).mono (fun r h => ⟨fun c => (h c).2, sem_eq_zero_of_no_sems rfl r.2⟩) (Cert.NormZeroReferenceIdeal.Value.run (F := Ideal) m ρ),
    fun m ρ _ => Cert.AdamwOut.Gen.frame m ρ trivial, fun m ρ _ => Cert.AdamwOutIdeal.Gen.frame m ρ trivial, fun m ρ _ => (θ_run (Cert.AdamwOutReferenceIdeal.defs (F := Ideal)) _ _).mono (fun r h => ⟨fun c => (h c).2.2.2.2, sem_eq_zero_of_no_sems rfl r.2⟩) (Cert.AdamwOutReferenceIdeal.Value.run (F := Ideal) m ρ),
    fun m ρ _ => Cert.AdamwInZero.Gen.frame m ρ trivial, fun m ρ _ => Cert.AdamwInZeroIdeal.Gen.frame m ρ trivial, fun m ρ _ => (θ_run (Cert.AdamwInZeroReferenceIdeal.defs (F := Ideal)) _ _).mono (fun r h => ⟨fun c => (h c).2.2.2.2, sem_eq_zero_of_no_sems rfl r.2⟩) (Cert.AdamwInZeroReferenceIdeal.Value.run (F := Ideal) m ρ),
    fun m ρ _ => Cert.AdamwInOne.Gen.frame m ρ trivial, fun m ρ _ => Cert.AdamwInOneIdeal.Gen.frame m ρ trivial, fun m ρ _ => (θ_run (Cert.AdamwInOneReferenceIdeal.defs (F := Ideal)) _ _).mono (fun r h => ⟨fun c => (h c).2.2.2.2, sem_eq_zero_of_no_sems rfl r.2⟩) (Cert.AdamwInOneReferenceIdeal.Value.run (F := Ideal) m ρ),
    fun m ρ _ => Cert.AdamwUp.Gen.frame m ρ trivial, fun m ρ _ => Cert.AdamwUpIdeal.Gen.frame m ρ trivial, fun m ρ _ => (θ_run (Cert.AdamwUpReferenceIdeal.defs (F := Ideal)) _ _).mono (fun r h => ⟨fun c => (h c).2.2.2.2, sem_eq_zero_of_no_sems rfl r.2⟩) (Cert.AdamwUpReferenceIdeal.Value.run (F := Ideal) m ρ),
    fun m ρ _ => Cert.AdamwDown.Gen.frame m ρ trivial, fun m ρ _ => Cert.AdamwDownIdeal.Gen.frame m ρ trivial, fun m ρ _ => (θ_run (Cert.AdamwDownReferenceIdeal.defs (F := Ideal)) _ _).mono (fun r h => ⟨fun c => (h c).2.2.2.2, sem_eq_zero_of_no_sems rfl r.2⟩) (Cert.AdamwDownReferenceIdeal.Value.run (F := Ideal) m ρ),
    fun m ρ _ => Cert.Act.Gen.frame m ρ, fun m ρ _ => Cert.ActIdeal.Gen.frame m ρ, fun m ρ _ => (θ_run (Cert.ActReferenceIdeal.defs (F := Ideal)) _ _).mono (fun r h => ⟨fun c => (h c).2, sem_eq_zero_of_no_sems rfl r.2⟩) (Cert.ActReferenceIdeal.Value.run (F := Ideal) m ρ),
    IdealRules.named_const.statement Cert.KernelIdeal.κ "mask" .f32 0xF149F2CA#32 ⊥ rfl, algebraic,
    trivial, Cert.UpIdeal.Product.algebraic,
    trivial, Cert.ActGradIdeal.Product.algebraic,
    trivial, Cert.DownGradIdeal.Product.algebraic,
    trivial, Cert.UpGradIdeal.Product.algebraic,
    trivial, Cert.NormGradIdeal.Product.algebraic,
    trivial, Cert.OutGradIdeal.Product.algebraic,
    trivial, Cert.OutWeightGradIdeal.Product.algebraic,
    trivial, Cert.InWeightGrad1Ideal.Product.algebraic,
    trivial, Cert.InWeightGrad0Ideal.Product.algebraic,
    trivial, Cert.InNormGrad1Ideal.Product.algebraic,
    trivial, Cert.InNormGrad0Ideal.Product.algebraic,
    trivial, Cert.InZeroIdeal.Product.algebraic,
    trivial, Cert.InOneIdeal.Product.algebraic,
    trivial, Cert.DownOneIdeal.Product.algebraic,
    trivial, Cert.DownZeroIdeal.Product.algebraic,
    trivial, Cert.OutIdeal.Product.algebraic,
    IdealRules.named_const.statement Cert.AttentionIdeal.κ "mask" .f32 0xF149F2CA#32 ⊥ rfl, Cert.AttentionIdeal.Fox.algebraic,
    trivial, Cert.NormZeroIdeal.Product.algebraic,
    trivial, Cert.AdamwOutIdeal.Product.algebraic,
    trivial, Cert.AdamwInZeroIdeal.Product.algebraic,
    trivial, Cert.AdamwInOneIdeal.Product.algebraic,
    trivial, Cert.AdamwUpIdeal.Product.algebraic,
    trivial, Cert.AdamwDownIdeal.Product.algebraic,
    trivial, Cert.ActIdeal.Product.algebraic⟩

end Cert.Proof

end
